-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1))).2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1))).2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v100_0)) (v1 : (c : Dev Cert.KernelIdeal.nD) → Buf (Elt Ideal) ((c.tc : Thread Cert.KernelIdeal.nD Cert.KernelIdeal.τ).loc Cert.KernelIdeal.main_v100_1)) (v2 : (c : Dev Cert.KernelIdeal.nD) → Buf (Elt Ideal) ((c.tc : Thread Cert.KernelIdeal.nD Cert.KernelIdeal.τ).loc Cert.KernelIdeal.main_v100_2)) (v3 : (c : Dev Cert.KernelIdeal.nD) → Buf (Elt Ideal) ((c.tc : Thread Cert.KernelIdeal.nD Cert.KernelIdeal.τ).loc Cert.KernelIdeal.main_v100_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100_0) = v0 c
          ∧ r.2.mem ((c.tc : Thread Cert.KernelIdeal.nD Cert.KernelIdeal.τ).loc Cert.KernelIdeal.main_v100_1) = v1 c
          ∧ r.2.mem ((c.tc : Thread Cert.KernelIdeal.nD Cert.KernelIdeal.τ).loc Cert.KernelIdeal.main_v100_2) = v2 c
          ∧ r.2.mem ((c.tc : Thread Cert.KernelIdeal.nD Cert.KernelIdeal.τ).loc Cert.KernelIdeal.main_v100_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_v192) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v10) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v7)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v8_0)) (v1 : (c : Dev Cert.Kernel15Ideal.nD) → Buf (Elt Ideal) ((c.tc : Thread Cert.Kernel15Ideal.nD Cert.Kernel15Ideal.τ).loc Cert.Kernel15Ideal.main_v8_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8_0) = v0 c
          ∧ r.2.mem ((c.tc : Thread Cert.Kernel15Ideal.nD Cert.Kernel15Ideal.τ).loc Cert.Kernel15Ideal.main_v8_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v88) = v0 c
          ∧ r.2.mem ((c.tc : Thread Cert.Reference15Ideal.nD Cert.Reference15Ideal.τ).loc Cert.Reference15Ideal.main_v87) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)) (v3 : (c : Dev Cert.Kernel16Ideal.nD) → Buf (Elt Ideal) ((c.tc : Thread Cert.Kernel16Ideal.nD Cert.Kernel16Ideal.τ).loc Cert.Kernel16Ideal.main_v1_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_v1_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v36) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v38) = v2 c
          ∧ r.2.mem ((c.tc : Thread Cert.Reference16Ideal.nD Cert.Reference16Ideal.τ).loc Cert.Reference16Ideal.main_v40) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v50) = v0 c
          ∧ r.2.mem ((c.tc : Thread Cert.Reference18Ideal.nD Cert.Reference18Ideal.τ).loc Cert.Reference18Ideal.main_v51) = v1 c
          ∧ r.2.mem ((c.tc : Thread Cert.Reference18Ideal.nD Cert.Reference18Ideal.τ).loc Cert.Reference18Ideal.main_v52) = v2 c
          ∧ r.2.mem ((c.tc : Thread Cert.Reference18Ideal.nD Cert.Reference18Ideal.τ).loc Cert.Reference18Ideal.main_v53) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S2048x2560 : Shape := ⟨2, ![2048, 2560]⟩
abbrev S32 : Shape := ⟨1, ![32]⟩
abbrev S2048x2048 : Shape := ⟨2, ![2048, 2048]⟩
abbrev S_ : Shape := ⟨0, ![]⟩

class Facts : Prop where
  bcast_S_S2048x2560 : S_.BroadcastsInDim S2048x2560 (![] : Fin 0 → Fin S2048x2560.rank)
  bcast_S_S32 : S_.BroadcastsInDim S32 (![] : Fin 0 → Fin S32.rank)
  bcast_S_S2048x2048 : S_.BroadcastsInDim S2048x2048 (![] : Fin 0 → Fin S2048x2048.rank)

variable [Facts]

def fn {F : FTy → Type} [FloatOps F] (main_arg0 : FVec F S2048x2560 .f32) (main_arg1 : FVec F S32 .f32) (main_arg2 : FVec F S2048x2048 .f32) : IVec S2048x2560 1 × IVec S32 1 × IVec S2048x2048 1 :=
  let main_v0 : FVec F S2048x2560 .f32 := Host.absf main_arg0
  let main_cst : FVec F S_ .f32 := constant S_ .f32 0x7F800000#32
  let main_v1 : FVec F S2048x2560 .f32 := broadcastInDim S2048x2560 ![] bcast_S_S2048x2560 main_cst
  let main_v2 : IVec S2048x2560 1 := cmpf .olt main_v0 main_v1
  let main_v3 : FVec F S32 .f32 := Host.absf main_arg1
  let main_cst_0 : FVec F S_ .f32 := constant S_ .f32 0x7F800000#32
  let main_v4 : FVec F S32 .f32 := broadcastInDim S32 ![] bcast_S_S32 main_cst_0
  let main_v5 : IVec S32 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  (main_v2, main_v5, main_v8)
-- ==== Pre_finite15.lean ====
abbrev S2048x2560 : Shape := ⟨2, ![2048, 2560]⟩
abbrev S32 : Shape := ⟨1, ![32]⟩
abbrev S2048x2304 : Shape := ⟨2, ![2048, 2304]⟩
abbrev S_ : Shape := ⟨0, ![]⟩

class Facts : Prop where
  slices_S2048x2560_S2048x2304_0_0 : S2048x2560.Slices ![0, 0] S2048x2304
  bcast_S_S2048x2304 : S_.BroadcastsInDim S2048x2304 (![] : Fin 0 → Fin S2048x2304.rank)
  bcast_S_S32 : S_.BroadcastsInDim S32 (![] : Fin 0 → Fin S32.rank)

variable [Facts]

def fn {F : FTy → Type} [FloatOps F] (main_arg0 : FVec F S2048x2560 .f32) (main_arg1 : FVec F S32 .f32) : IVec S2048x2304 1 × IVec S32 1 :=
  let main_v0 : FVec F S2048x2304 .f32 := (extractStridedSlice S2048x2304 ![0, 0] · slices_S2048x2560_S2048x2304_0_0) main_arg0
  let main_v1 : FVec F S2048x2304 .f32 := Host.absf main_v0
  let main_cst : FVec F S_ .f32 := constant S_ .f32 0x7F800000#32
  let main_v2 : FVec F S2048x2304 .f32 := broadcastInDim S2048x2304 ![] bcast_S_S2048x2304 main_cst
  let main_v3 : IVec S2048x2304 1 := cmpf .olt main_v1 main_v2
  let main_cst_0 : FVec F S_ .f32 := constant S_ .f32 0x7F800000#32
  let main_v4 : FVec F S32 .f32 := broadcastInDim S32 ![] bcast_S_S32 main_cst_0
  let main_v5 : IVec S32 1 := cmpf .olt main_arg1 main_v4
  (main_v3, main_v5)
-- ==== Kernel.lean ====
abbrev S2048x2560 : Shape := ⟨2, ![2048, 2560]⟩
abbrev S32 : Shape := ⟨1, ![32]⟩
abbrev S2048x2048 : Shape := ⟨2, ![2048, 2048]⟩
abbrev S2048x1x40x64 : Shape := ⟨4, ![2048, 1, 40, 64]⟩
abbrev S40x1x2048x64 : Shape := ⟨4, ![40, 1, 2048, 64]⟩
abbrev S40x2048x64 : Shape := ⟨3, ![40, 2048, 64]⟩
abbrev S4x8 : Shape := ⟨2, ![4, 8]⟩
abbrev S4x8x128 : Shape := ⟨3, ![4, 8, 128]⟩
abbrev S4x1024 : Shape := ⟨2, ![4, 1024]⟩
abbrev S4x1024x1 : Shape := ⟨3, ![4, 1024, 1]⟩
abbrev S1x2048x2560 : Shape := ⟨3, ![1, 2048, 2560]⟩
abbrev S1x2048x2048 : Shape := ⟨3, ![1, 2048, 2048]⟩
abbrev S1x2048x256 : Shape := ⟨3, ![1, 2048, 256]⟩
abbrev S1x2048x32x64 : Shape := ⟨4, ![1, 2048, 32, 64]⟩
abbrev S1x32x2048x64 : Shape := ⟨4, ![1, 32, 2048, 64]⟩
abbrev S1x2048x4x64 : Shape := ⟨4, ![1, 2048, 4, 64]⟩
abbrev S1x4x2048x64 : Shape := ⟨4, ![1, 4, 2048, 64]⟩
abbrev S1x4x8x2048x64 : Shape := ⟨5, ![1, 4, 8, 2048, 64]⟩
abbrev S_ : Shape := ⟨0, ![]⟩
abbrev S1x4x8x0x64 : Shape := ⟨5, ![1, 4, 8, 0, 64]⟩
abbrev S1x4x8x16x128x64 : Shape := ⟨6, ![1, 4, 8, 16, 128, 64]⟩
abbrev S1x4x128x64 : Shape := ⟨4, ![1, 4, 128, 64]⟩
abbrev S1x4x2176x64 : Shape := ⟨4, ![1, 4, 2176, 64]⟩
abbrev S1x4x17x128x64 : Shape := ⟨5, ![1, 4, 17, 128, 64]⟩
abbrev S1x4x16x128x64 : Shape := ⟨5, ![1, 4, 16, 128, 64]⟩
abbrev S1x4x16x256x64 : Shape := ⟨5, ![1, 4, 16, 256, 64]⟩
abbrev S1x4x16x256x8x128 : Shape := ⟨6, ![1, 4, 16, 256, 8, 128]⟩
abbrev S1x4x8x16x128x256 : Shape := ⟨6, ![1, 4, 8, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x4x8x16x128 : Shape := ⟨5, ![1, 4, 8, 16, 128]⟩
abbrev S4x8x1x1 : Shape := ⟨4, ![4, 8, 1, 1]⟩
abbrev S1x4x8x1x1 : Shape := ⟨5, ![1, 4, 8, 1, 1]⟩
abbrev S1x4x8x16x128x1 : Shape := ⟨6, ![1, 4, 8, 16, 128, 1]⟩
abbrev S1x4x16x64x8x128 : Shape := ⟨6, ![1, 4, 16, 64, 8, 128]⟩
abbrev S1x4x8x2048 : Shape := ⟨4, ![1, 4, 8, 2048]⟩
abbrev S1x4x8x2048x1 : Shape := ⟨5, ![1, 4, 8, 2048, 1]⟩
abbrev S32x2048x1 : Shape := ⟨3, ![32, 2048, 1]⟩
abbrev S32x2048x64 : Shape := ⟨3, ![32, 2048, 64]⟩
abbrev S2048x1x32x64 : Shape := ⟨4, ![2048, 1, 32, 64]⟩
abbrev S32x1x2048x64 : Shape := ⟨4, ![32, 1, 2048, 64]⟩
abbrev S4x2048x64 : Shape := ⟨3, ![4, 2048, 64]⟩
abbrev S4x8x1 : Shape := ⟨3, ![4, 8, 1]⟩
abbrev S8x256x64 : Shape := ⟨3, ![8, 256, 64]⟩
abbrev S1x2048x64 : Shape := ⟨3, ![1, 2048, 64]⟩
abbrev S8x256x1 : Shape := ⟨3, ![8, 256, 1]⟩
abbrev S1x1024x1 : Shape := ⟨3, ![1, 1024, 1]⟩
abbrev S1x8x1 : Shape := ⟨3, ![1, 8, 1]⟩
abbrev S1024x1 : Shape := ⟨2, ![1024, 1]⟩
abbrev S2048x64 : Shape := ⟨2, ![2048, 64]⟩
abbrev S8x128x64 : Shape := ⟨3, ![8, 128, 64]⟩
abbrev S1024x64 : Shape := ⟨2, ![1024, 64]⟩
abbrev S8x128x1 : Shape := ⟨3, ![8, 128, 1]⟩
abbrev S1024 : Shape := ⟨1, ![1024]⟩
abbrev S1x128x64 : Shape := ⟨3, ![1, 128, 64]⟩
abbrev S128x64 : Shape := ⟨2, ![128, 64]⟩
abbrev S256x64 : Shape := ⟨2, ![256, 64]⟩
abbrev S1024x256 : Shape := ⟨2, ![1024, 256]⟩
abbrev S1 : Shape := ⟨1, ![1]⟩
abbrev S1x1 : Shape := ⟨2, ![1, 1]⟩
abbrev S1x1x1 : Shape := ⟨3, ![1, 1, 1]⟩

abbrev nBuf : Space → Nat
  | .hbm => 123
  | .vmem => 23
  | .smem => 0
  | _ => 0

abbrev bufTy : (tb : Table) → Fin (tcTables nBuf tb) → BufTy
  | .hbm, ⟨0, _⟩ => ⟨S2048x2560, .f32⟩
  | .hbm, ⟨1, _⟩ => ⟨S32, .f32⟩
  | .hbm, ⟨2, _⟩ => ⟨S2048x2048, .f32⟩
  | .hbm, ⟨3, _⟩ => ⟨S2048x2560, .bf16⟩
  | .hbm, ⟨4, _⟩ => ⟨S2048x1x40x64, .bf16⟩
  | .hbm, ⟨5, _⟩ => ⟨S40x1x2048x64, .bf16⟩
  | .hbm, ⟨6, _⟩ => ⟨S40x2048x64, .bf16⟩
  | .hbm, ⟨7, _⟩ => ⟨S4x8, .f32⟩
  | .hbm, ⟨8, _⟩ => ⟨S4x8x128, .f32⟩
  | .hbm, ⟨9, _⟩ => ⟨S4x1024, .f32⟩
  | .hbm, ⟨10, _⟩ => ⟨S4x1024x1, .f32⟩
  | .hbm, ⟨11, _⟩ => ⟨S1x2048x2560, .f32⟩
  | .hbm, ⟨12, _⟩ => ⟨S1x2048x2048, .f32⟩
  | .hbm, ⟨13, _⟩ => ⟨S1x2048x256, .f32⟩
  | .hbm, ⟨14, _⟩ => ⟨S1x2048x256, .f32⟩
  | .hbm, ⟨15, _⟩ => ⟨S1x2048x32x64, .f32⟩
  | .hbm, ⟨16, _⟩ => ⟨S1x32x2048x64, .f32⟩
  | .hbm, ⟨17, _⟩ => ⟨S1x2048x4x64, .f32⟩
  | .hbm, ⟨18, _⟩ => ⟨S1x4x2048x64, .f32⟩
  | .hbm, ⟨19, _⟩ => ⟨S1x2048x4x64, .f32⟩
  | .hbm, ⟨20, _⟩ => ⟨S1x4x2048x64, .f32⟩
  | .hbm, ⟨21, _⟩ => ⟨S1x4x8x2048x64, .f32⟩
  | .hbm, ⟨22, _⟩ => ⟨S4x8, .f32⟩
  | .hbm, ⟨23, _⟩ => ⟨S_, .f32⟩
  | .hbm, ⟨24, _⟩ => ⟨S1x4x8x0x64, .f32⟩
  | .hbm, ⟨25, _⟩ => ⟨S1x4x8x16x128x64, .f32⟩
  | .hbm, ⟨26, _⟩ => ⟨S_, .f32⟩
  | .hbm, ⟨27, _⟩ => ⟨S1x4x128x64, .f32⟩
  | .hbm, ⟨28, _⟩ => ⟨S1x4x2176x64, .f32⟩
  | .hbm, ⟨29, _⟩ => ⟨S1x4x17x128x64, .f32⟩
  | .hbm, ⟨30, _⟩ => ⟨S_, .f32⟩
  | .hbm, ⟨31, _⟩ => ⟨S1x4x128x64, .f32⟩
  | .hbm, ⟨32, _⟩ => ⟨S1x4x2176x64, .f32⟩
  | .hbm, ⟨33, _⟩ => ⟨S1x4x17x128x64, .f32⟩
  | .hbm, ⟨34, _⟩ => ⟨S1x4x16x128x64, .f32⟩
  | .hbm, ⟨35, _⟩ => ⟨S1x4x16x128x64, .f32⟩
  | .hbm, ⟨36, _⟩ => ⟨S1x4x16x256x64, .f32⟩
  | .hbm, ⟨37, _⟩ => ⟨S1x4x16x128x64, .f32⟩
  | .hbm, ⟨38, _⟩ => ⟨S1x4x16x128x64, .f32⟩
  | .hbm, ⟨39, _⟩ => ⟨S1x4x16x256x64, .f32⟩
  | .hbm, ⟨40, _⟩ => ⟨S1x4x16x256x8x128, .f32⟩
  | .hbm, ⟨41, _⟩ => ⟨S1x4x8x16x128x256, .f32⟩
  | .hbm, ⟨42, _⟩ => ⟨S_, .f32⟩
  | .hbm, ⟨43, _⟩ => ⟨S1x4x8x16x128x256, .f32⟩
  | .hbm, ⟨44, _⟩ => ⟨S1x4x8x16x128x256, .f32⟩
  | .hbm, ⟨45, _⟩ => ⟨S128, .i32⟩
  | .hbm, ⟨46, _⟩ => ⟨S128x1, .i32⟩
  | .hbm, ⟨47, _⟩ => ⟨S256, .i32⟩
  | .hbm, ⟨48, _⟩ => ⟨S1x256, .i32⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S128x256, .i32⟩
  | .hbm, ⟨53, _⟩ => ⟨S128x256, .i32⟩
  | .hbm, ⟨54, _⟩ => ⟨S128x256, .i32⟩
  | .hbm, ⟨55, _⟩ => ⟨S16, .i32⟩
  | .hbm, ⟨56, _⟩ => ⟨S16x1x1, .i32⟩
  | .hbm, ⟨57, _⟩ => ⟨S_, .i32⟩
  | .hbm, ⟨58, _⟩ => ⟨S16x1x1, .i32⟩
  | .hbm, ⟨59, _⟩ => ⟨S16x1x1, .i32⟩
  | .hbm, ⟨60, _⟩ => ⟨S_, .i32⟩
  | .hbm, ⟨61, _⟩ => ⟨S16x1x1, .i32⟩
  | .hbm, ⟨62, _⟩ => ⟨S16x1x1, .i32⟩
  | .hbm, ⟨63, _⟩ => ⟨S1x1x256, .i32⟩
  | .hbm, ⟨64, _⟩ => ⟨S16x1x256, .i32⟩
  | .hbm, ⟨65, _⟩ => ⟨S16x1x256, .i32⟩
  | .hbm, ⟨66, _⟩ => ⟨S16x1x256, .i32⟩
  | .hbm, ⟨67, _⟩ => ⟨S_, .i32⟩
  | .hbm, ⟨68, _⟩ => ⟨S128x256, .i32⟩
  | .hbm, ⟨69, _⟩ => ⟨S128x256, .i1⟩
  | .hbm, ⟨70, _⟩ => ⟨S_, .i32⟩
  | .hbm, ⟨71, _⟩ => ⟨S128x256, .i32⟩
  | .hbm, ⟨72, _⟩ => ⟨S128x256, .i1⟩
  | .hbm, ⟨73, _⟩ => ⟨S128x256, .i1⟩
  | .hbm, ⟨74, _⟩ => ⟨S_, .i32⟩
  | .hbm, ⟨75, _⟩ => ⟨S16x1x256, .i32⟩
  | .hbm, ⟨76, _⟩ => ⟨S16x1x256, .i1⟩
  | .hbm, ⟨77, _⟩ => ⟨S1x128x256, .i1⟩
  | .hbm, ⟨78, _⟩ => ⟨S16x128x256, .i1⟩
  | .hbm, ⟨79, _⟩ => ⟨S16x128x256, .i1⟩
  | .hbm, ⟨80, _⟩ => ⟨S16x128x256, .i1⟩
  | .hbm, ⟨81, _⟩ => ⟨S_, .f32⟩
  | .hbm, ⟨82, _⟩ => ⟨S_, .f32⟩
  | .hbm, ⟨83, _⟩ => ⟨S1x4x8x16x128x256, .i1⟩
  | .hbm, ⟨84, _⟩ => ⟨S1x4x8x16x128x256, .f32⟩
  | .hbm, ⟨85, _⟩ => ⟨S1x4x8x16x128x256, .f32⟩
  | .hbm, ⟨86, _⟩ => ⟨S_, .f32⟩
  | .hbm, ⟨87, _⟩ => ⟨S1x4x8x16x128, .f32⟩
  | .hbm, ⟨88, _⟩ => ⟨S4x8x1x1, .f32⟩
  | .hbm, ⟨89, _⟩ => ⟨S1x4x8x1x1, .f32⟩
  | .hbm, ⟨90, _⟩ => ⟨S1x4x8x16x128, .f32⟩
  | .hbm, ⟨91, _⟩ => ⟨S1x4x8x16x128, .f32⟩
  | .hbm, ⟨92, _⟩ => ⟨S1x4x8x16x128x1, .f32⟩
  | .hbm, ⟨93, _⟩ => ⟨S1x4x8x16x128x256, .f32⟩
  | .hbm, ⟨94, _⟩ => ⟨S1x4x8x16x128x256, .f32⟩
  | .hbm, ⟨95, _⟩ => ⟨S1x4x8x16x128x256, .f32⟩
  | .hbm, ⟨96, _⟩ => ⟨S_, .f32⟩
  | .hbm, ⟨97, _⟩ => ⟨S1x4x8x16x128, .f32⟩
  | .hbm, ⟨98, _⟩ => ⟨S1x4x8x1x1, .f32⟩
  | .hbm, ⟨99, _⟩ => ⟨S1x4x8x16x128, .f32⟩
  | .hbm, ⟨100, _⟩ => ⟨S1x4x8x16x128, .f32⟩
  | .hbm, ⟨101, _⟩ => ⟨S1x4x8x16x128, .f32⟩
  | .hbm, ⟨102, _⟩ => ⟨S1x4x8x16x128, .f32⟩
  | .hbm, ⟨103, _⟩ => ⟨S1x4x16x64x8x128, .f32⟩
  | .hbm, ⟨104, _⟩ => ⟨S1x4x8x16x128x64, .f32⟩
  | .hbm, ⟨105, _⟩ => ⟨S1x4x8x2048x64, .f32⟩
  | .hbm, ⟨106, _⟩ => ⟨S1x4x8x2048, .f32⟩
  | .hbm, ⟨107, _⟩ => ⟨S1x4x8x2048, .f32⟩
  | .hbm, ⟨108, _⟩ => ⟨S1x4x8x2048x1, .f32⟩
  | .hbm, ⟨109, _⟩ => ⟨S1x4x8x2048x64, .f32⟩
  | .hbm, ⟨110, _⟩ => ⟨S1x4x8x2048x64, .f32⟩
  | .hbm, ⟨111, _⟩ => ⟨S1x32x2048x64, .f32⟩
  | .hbm, ⟨112, _⟩ => ⟨S1x4x8x2048, .f32⟩
  | .hbm, ⟨113, _⟩ => ⟨S1x4x8x2048, .f32⟩
  | .hbm, ⟨114, _⟩ => ⟨S32x2048x1, .f32⟩
  | .hbm, ⟨115, _⟩ => ⟨S32x2048x64, .f32⟩
  | .hbm, ⟨116, _⟩ => ⟨S2048x1x32x64, .f32⟩
  | .hbm, ⟨117, _⟩ => ⟨S32x1x2048x64, .f32⟩
  | .hbm, ⟨118, _⟩ => ⟨S32x2048x64, .f32⟩
  | .hbm, ⟨119, _⟩ => ⟨S32x2048x64, .f32⟩
  | .hbm, ⟨120, _⟩ => ⟨S4x2048x64, .f32⟩
  | .hbm, ⟨121, _⟩ => ⟨S4x2048x64, .f32⟩
  | .hbm, ⟨122, _⟩ => ⟨S4x8x1, .f32⟩
  | .local _ .vmem, ⟨0, _⟩ => ⟨S8x256x64, .bf16⟩
  | .local _ .vmem, ⟨1, _⟩ => ⟨S8x256x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S8x256x64, .f32⟩
  | .local _ .vmem, ⟨7, _⟩ => ⟨S8x256x64, .f32⟩
  | .local _ .vmem, ⟨8, _⟩ => ⟨S8x256x1, .f32⟩
  | .local _ .vmem, ⟨9, _⟩ => ⟨S8x256x1, .f32⟩
  | .local _ .vmem, ⟨10, _⟩ => ⟨S8x256x64, .f32⟩
  | .local _ .vmem, ⟨11, _⟩ => ⟨S8x256x64, .f32⟩
  | .local _ .vmem, ⟨12, _⟩ => ⟨S1x1024x1, .f32⟩
  | .local _ .vmem, ⟨13, _⟩ => ⟨S1x1024x1, .f32⟩
  | .local _ .vmem, ⟨14, _⟩ => ⟨S8x256x64, .f32⟩
  | .local _ .vmem, ⟨15, _⟩ => ⟨S8x256x64, .f32⟩
  | .local _ .vmem, ⟨16, _⟩ => ⟨S1x2048x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x8x1, .f32⟩
  | .local _ .vmem, ⟨21, _⟩ => ⟨S1x8x1, .f32⟩
  | .local _ .vmem, ⟨22, _⟩ => ⟨S1024x1, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_c_3 : Ref sig .tc := ⟨.hbm, 57, rfl⟩
abbrev main_v49 : Ref sig .tc := ⟨.hbm, 58, rfl⟩
abbrev main_v50 : Ref sig .tc := ⟨.hbm, 59, rfl⟩
abbrev main_c_4 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_c_5 : Ref sig .tc := ⟨.hbm, 67, rfl⟩
abbrev main_v57 : Ref sig .tc := ⟨.hbm, 68, rfl⟩
abbrev main_v58 : Ref sig .tc := ⟨.hbm, 69, rfl⟩
abbrev main_c_6 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_c_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_10 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100_0 : Ref sig .tc := ⟨.hbm, 119, rfl⟩
abbrev main_v100_1 : Ref sig .tc := ⟨.hbm, 120, rfl⟩
abbrev main_v100_2 : Ref sig .tc := ⟨.hbm, 121, rfl⟩
abbrev main_v100_3 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c2_i32 : BitVec 32 := 2#32
  let v5 : BitVec 32 := Scalar.muli arg1 c2_i32
  let c0_i32_3 : BitVec 32 := 0#32
  let v6 : BitVec 32 := Scalar.addi v5 c0_i32_3
  let c128_i32 : BitVec 32 := 128#32
  let v7 : BitVec 32 := Scalar.muli v6 c128_i32
  v7
def k0_mult2 (i : grid0.Coords) : BitVec 32 :=
  let arg1 : BitVec 32 := BitVec.ofNat 32 (i 1).val
  let c2_i32 : BitVec 32 := 2#32
  let v5 : BitVec 32 := Scalar.muli arg1 c2_i32
  let c0_i32_3 : BitVec 32 := 0#32
  let v6 : BitVec 32 := Scalar.addi v5 c0_i32_3
  let c1_i32 : BitVec 32 := 1#32
  let v9 : BitVec 32 := Scalar.subi v6 c1_i32
  let c0_i32_4 : BitVec 32 := 0#32
  let v10 : BitVec 32 := Scalar.maxsi v9 c0_i32_4
  let c128_i32_5 : BitVec 32 := 128#32
  let v11 : BitVec 32 := Scalar.muli v10 c128_i32_5
  v11
def k0_off1 (i : grid0.Coords) (c0_i32_3 : BitVec 32) : Fin 3 → Nat :=
  let c0_18 : Index := 0#32
  let arg1 : BitVec 32 := BitVec.ofNat 32 (i 1).val
  let c2_i32 : BitVec 32 := 2#32
  let v5 : BitVec 32 := Scalar.muli arg1 c2_i32
  let v6 : BitVec 32 := Scalar.addi v5 c0_i32_3
  let c1_i32 : BitVec 32 := 1#32
  let v9 : BitVec 32 := Scalar.subi v6 c1_i32
  let c0_i32_4 : BitVec 32 := 0#32
  let v10 : BitVec 32 := Scalar.maxsi v9 c0_i32_4
  let c128_i32_5 : BitVec 32 := 128#32
  let v11 : BitVec 32 := Scalar.muli v10 c128_i32_5
  let v12 : BitVec 32 := v11
  let v29 : Index := Scalar.indexCast v12
  let c0_19 : Index := 0#32
  ![0, v29.toNat, 0]
def k0_off2 (i : grid0.Coords) (c0_i32_3 : BitVec 32) : Fin 3 → Nat :=
  let c0_20 : Index := 0#32
  let arg1 : BitVec 32 := BitVec.ofNat 32 (i 1).val
  let c2_i32 : BitVec 32 := 2#32
  let v5 : BitVec 32 := Scalar.muli arg1 c2_i32
  let v6 : BitVec 32 := Scalar.addi v5 c0_i32_3
  let c128_i32 : BitVec 32 := 128#32
  let v7 : BitVec 32 := Scalar.muli v6 c128_i32
  let v8 : BitVec 32 := v7
  let v32 : Index := Scalar.indexCast v8
  let c0_21 : Index := 0#32
  ![0, v32.toNat, 0]
def k0_mult3 (i : grid0.Coords) : BitVec 32 :=
  let arg1 : BitVec 32 := BitVec.ofNat 32 (i 1).val
  let c2_i32_73 : BitVec 32 := 2#32
  let v152 : BitVec 32 := Scalar.muli arg1 c2_i32_73
  let c1_i32_74 : BitVec 32 := 1#32
  let v153 : BitVec 32 := Scalar.addi v152 c1_i32_74
  let c128_i32_75 : BitVec 32 := 128#32
  let v154 : BitVec 32 := Scalar.muli v153 c128_i32_75
  v154
def k0_mult4 (i : grid0.Coords) : BitVec 32 :=
  let arg1 : BitVec 32 := BitVec.ofNat 32 (i 1).val
  let c2_i32_73 : BitVec 32 := 2#32
  let v152 : BitVec 32 := Scalar.muli arg1 c2_i32_73
  let c1_i32_74 : BitVec 32 := 1#32
  let v153 : BitVec 32 := Scalar.addi v152 c1_i32_74
  let c1_i32_76 : BitVec 32 := 1#32
  let v156 : BitVec 32 := Scalar.subi v153 c1_i32_76
  let c0_i32_77 : BitVec 32 := 0#32
  let v157 : BitVec 32 := Scalar.maxsi v156 c0_i32_77
  let c128_i32_78 : BitVec 32 := 128#32
  let v158 : BitVec 32 := Scalar.muli v157 c128_i32_78
  v158
def k0_cond2 (i : grid0.Coords) : BitVec 1 :=
  let arg1 : BitVec 32 := BitVec.ofNat 32 (i 1).val
  let c7_i32 : BitVec 32 := 7#32
  let v299 : BitVec 1 := Scalar.cmpi .eq arg1 c7_i32
  let v300 : BitVec 32 := Scalar.extui v299
  let c0_i32_148 : BitVec 32 := 0#32
  let v301 : BitVec 1 := Scalar.cmpi .ne v300 c0_i32_148
  v301

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S2048x2560 : Shape := ⟨2, ![2048, 2560]⟩
abbrev S32 : Shape := ⟨1, ![32]⟩
abbrev S2048x2048 : Shape := ⟨2, ![2048, 2048]⟩
abbrev S1x2048x2560 : Shape := ⟨3, ![1, 2048, 2560]⟩
abbrev S1x2048x2048 : Shape := ⟨3, ![1, 2048, 2048]⟩
abbrev S1x2048x256 : Shape := ⟨3, ![1, 2048, 256]⟩
abbrev S1x2048x32x64 : Shape := ⟨4, ![1, 2048, 32, 64]⟩
abbrev S1x32x2048x64 : Shape := ⟨4, ![1, 32, 2048, 64]⟩
abbrev S1x2048x4x64 : Shape := ⟨4, ![1, 2048, 4, 64]⟩
abbrev S1x4x2048x64 : Shape := ⟨4, ![1, 4, 2048, 64]⟩
abbrev S1x4x8x2048x64 : Shape := ⟨5, ![1, 4, 8, 2048, 64]⟩
abbrev S4x8 : Shape := ⟨2, ![4, 8]⟩
abbrev S_ : Shape := ⟨0, ![]⟩
abbrev S1x4x8x0x64 : Shape := ⟨5, ![1, 4, 8, 0, 64]⟩
abbrev S1x4x8x16x128x64 : Shape := ⟨6, ![1, 4, 8, 16, 128, 64]⟩
abbrev S1x4x128x64 : Shape := ⟨4, ![1, 4, 128, 64]⟩
abbrev S1x4x2176x64 : Shape := ⟨4, ![1, 4, 2176, 64]⟩
abbrev S1x4x17x128x64 : Shape := ⟨5, ![1, 4, 17, 128, 64]⟩
abbrev S1x4x16x128x64 : Shape := ⟨5, ![1, 4, 16, 128, 64]⟩
abbrev S1x4x16x256x64 : Shape := ⟨5, ![1, 4, 16, 256, 64]⟩
abbrev S1x4x16x256x8x128 : Shape := ⟨6, ![1, 4, 16, 256, 8, 128]⟩
abbrev S1x4x8x16x128x256 : Shape := ⟨6, ![1, 4, 8, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x4x8x16x128 : Shape := ⟨5, ![1, 4, 8, 16, 128]⟩
abbrev S1x4x8x16x128x1 : Shape := ⟨6, ![1, 4, 8, 16, 128, 1]⟩
abbrev S4x8x1x1 : Shape := ⟨4, ![4, 8, 1, 1]⟩
abbrev S1x4x8x1x1 : Shape := ⟨5, ![1, 4, 8, 1, 1]⟩
abbrev S1x4x16x64x8x128 : Shape := ⟨6, ![1, 4, 16, 64, 8, 128]⟩
abbrev S1x4x8x2048 : Shape := ⟨4, ![1, 4, 8, 2048]⟩
abbrev S1x4x8x2048x1 : Shape := ⟨5, ![1, 4, 8, 2048, 1]⟩
abbrev S4x8x2048 : Shape := ⟨3, ![4, 8, 2048]⟩
abbrev S1x4x16x8x128x256 : Shape := ⟨6, ![1, 4, 16, 8, 128, 256]⟩
abbrev S1x4x16x64x256 : Shape := ⟨5, ![1, 4, 16, 64, 256]⟩
abbrev S1x4x8 : Shape := ⟨3, ![1, 4, 8]⟩
abbrev S4x8x16x128 : Shape := ⟨4, ![4, 8, 16, 128]⟩
abbrev S1x4x16x8x128x64 : Shape := ⟨6, ![1, 4, 16, 8, 128, 64]⟩
abbrev S32x2048x64 : Shape := ⟨3, ![32, 2048, 64]⟩
abbrev S4x2048x64 : Shape := ⟨3, ![4, 2048, 64]⟩
abbrev S4x8x1 : Shape := ⟨3, ![4, 8, 1]⟩

abbrev nBuf : Space → Nat
  | .hbm => 240
  | .vmem => 0
  | .smem => 0
  | _ => 0

abbrev hbmTy0_0 (i : Nat) : BufTy := match i % 128 with
  | 0 => ⟨S2048x2560, .f32⟩
  | 1 => ⟨S32, .f32⟩
  | 2 => ⟨S2048x2048, .f32⟩
  | 3 => ⟨S1x2048x2560, .f32⟩
  | 4 => ⟨S1x2048x2048, .f32⟩
  | 5 => ⟨S1x2048x256, .f32⟩
  | 6 => ⟨S1x2048x256, .f32⟩
  | 7 => ⟨S1x2048x32x64, .f32⟩
  | 8 => ⟨S1x32x2048x64, .f32⟩
  | 9 => ⟨S1x2048x4x64, .f32⟩
  | 10 => ⟨S1x4x2048x64, .f32⟩
  | 11 => ⟨S1x2048x4x64, .f32⟩
  | 12 => ⟨S1x4x2048x64, .f32⟩
  | 13 => ⟨S1x4x8x2048x64, .f32⟩
  | 14 => ⟨S4x8, .f32⟩
  | 15 => ⟨S_, .f32⟩
  | 16 => ⟨S1x4x8x0x64, .f32⟩
  | 17 => ⟨S1x4x8x16x128x64, .f32⟩
  | 18 => ⟨S_, .f32⟩
  | 19 => ⟨S1x4x128x64, .f32⟩
  | 20 => ⟨S1x4x2176x64, .f32⟩
  | 21 => ⟨S_, .f32⟩
  | 22 => ⟨S1x4x128x64, .f32⟩
  | 23 => ⟨S1x4x17x128x64, .f32⟩
  | 24 => ⟨S_, .f32⟩
  | 25 => ⟨S1x4x128x64, .f32⟩
  | 26 => ⟨S1x4x2176x64, .f32⟩
  | 27 => ⟨S_, .f32⟩
  | 28 => ⟨S1x4x128x64, .f32⟩
  | 29 => ⟨S1x4x17x128x64, .f32⟩
  | 30 => ⟨S1x4x16x128x64, .f32⟩
  | 31 => ⟨S1x4x16x128x64, .f32⟩
  | 32 => ⟨S1x4x16x256x64, .f32⟩
  | 33 => ⟨S1x4x16x128x64, .f32⟩
  | 34 => ⟨S1x4x16x128x64, .f32⟩
  | 35 => ⟨S1x4x16x256x64, .f32⟩
  | 36 => ⟨S1x4x16x256x8x128, .f32⟩
  | 37 => ⟨S1x4x8x16x128x256, .f32⟩
  | 38 => ⟨S_, .f32⟩
  | 39 => ⟨S1x4x8x16x128x256, .f32⟩
  | 40 => ⟨S1x4x8x16x128x256, .f32⟩
  | 41 => ⟨S128, .i32⟩
  | 42 => ⟨S128x1, .i32⟩
  | 43 => ⟨S256, .i32⟩
  | 44 => ⟨S1x256, .i32⟩
  | 45 => ⟨S_, .i32⟩
  | 46 => ⟨S128x1, .i32⟩
  | 47 => ⟨S128x1, .i32⟩
  | 48 => ⟨S128x256, .i32⟩
  | 49 => ⟨S128x256, .i32⟩
  | 50 => ⟨S128x256, .i32⟩
  | 51 => ⟨S16, .i32⟩
  | 52 => ⟨S16x1x1, .i32⟩
  | 53 => ⟨S_, .i32⟩
  | 54 => ⟨S16x1x1, .i32⟩
  | 55 => ⟨S16x1x1, .i32⟩
  | 56 => ⟨S_, .i32⟩
  | 57 => ⟨S16x1x1, .i32⟩
  | 58 => ⟨S16x1x1, .i32⟩
  | 59 => ⟨S1x1x256, .i32⟩
  | 60 => ⟨S16x1x256, .i32⟩
  | 61 => ⟨S16x1x256, .i32⟩
  | 62 => ⟨S16x1x256, .i32⟩
  | 63 => ⟨S_, .i32⟩
  | 64 => ⟨S128x256, .i32⟩
  | 65 => ⟨S128x256, .i1⟩
  | 66 => ⟨S_, .i32⟩
  | 67 => ⟨S128x256, .i32⟩
  | 68 => ⟨S128x256, .i1⟩
  | 69 => ⟨S128x256, .i1⟩
  | 70 => ⟨S_, .i32⟩
  | 71 => ⟨S16x1x256, .i32⟩
  | 72 => ⟨S16x1x256, .i1⟩
  | 73 => ⟨S1x128x256, .i1⟩
  | 74 => ⟨S16x128x256, .i1⟩
  | 75 => ⟨S16x128x256, .i1⟩
  | 76 => ⟨S16x128x256, .i1⟩
  | 77 => ⟨S_, .f32⟩
  | 78 => ⟨S_, .f32⟩
  | 79 => ⟨S1x4x8x16x128x256, .i1⟩
  | 80 => ⟨S1x4x8x16x128x256, .f32⟩
  | 81 => ⟨S1x4x8x16x128x256, .f32⟩
  | 82 => ⟨S_, .f32⟩
  | 83 => ⟨S1x4x8x16x128x256, .f32⟩
  | 84 => ⟨S_, .f32⟩
  | 85 => ⟨S1x4x8x16x128, .f32⟩
  | 86 => ⟨S1x4x8x16x128x1, .f32⟩
  | 87 => ⟨S1x4x8x16x128x256, .f32⟩
  | 88 => ⟨S1x4x8x16x128x256, .i1⟩
  | 89 => ⟨S1x4x8x16x128x256, .f32⟩
  | 90 => ⟨S_, .f32⟩
  | 91 => ⟨S1x4x8x16x128, .f32⟩
  | 92 => ⟨S4x8x1x1, .f32⟩
  | 93 => ⟨S1x4x8x1x1, .f32⟩
  | 94 => ⟨S1x4x8x16x128, .f32⟩
  | 95 => ⟨S1x4x8x16x128, .f32⟩
  | 96 => ⟨S1x4x8x16x128, .f32⟩
  | 97 => ⟨S1x4x8x16x128, .i1⟩
  | 98 => ⟨S1x4x8x16x128, .f32⟩
  | 99 => ⟨S1x4x8x16x128, .i1⟩
  | 100 => ⟨S_, .f32⟩
  | 101 => ⟨S1x4x8x16x128, .f32⟩
  | 102 => ⟨S_, .f32⟩
  | 103 => ⟨S1x4x8x16x128, .f32⟩
  | 104 => ⟨S_, .f32⟩
  | 105 => ⟨S1x4x8x16x128, .f32⟩
  | 106 => ⟨S1x4x8x16x128, .f32⟩
  | 107 => ⟨S1x4x8x16x128, .f32⟩
  | 108 => ⟨S1x4x8x16x128, .f32⟩
  | 109 => ⟨S1x4x8x16x128, .i1⟩
  | 110 => ⟨S1x4x8x16x128, .f32⟩
  | 111 => ⟨S1x4x8x16x128, .i1⟩
  | 112 => ⟨S_, .f32⟩
  | 113 => ⟨S1x4x8x16x128, .f32⟩
  | 114 => ⟨S_, .f32⟩
  | 115 => ⟨S1x4x8x16x128, .f32⟩
  | 116 => ⟨S_, .f32⟩
  | 117 => ⟨S1x4x8x16x128, .f32⟩
  | 118 => ⟨S1x4x8x16x128, .f32⟩
  | 119 => ⟨S1x4x8x16x128, .f32⟩
  | 120 => ⟨S1x4x8x16x128x1, .f32⟩
  | 121 => ⟨S1x4x8x16x128x256, .f32⟩
  | 122 => ⟨S1x4x8x16x128x256, .f32⟩
  | 123 => ⟨S1x4x8x16x128x256, .f32⟩
  | 124 => ⟨S_, .f32⟩
  | 125 => ⟨S1x4x8x16x128, .f32⟩
  | 126 => ⟨S1x4x8x1x1, .f32⟩
  | 127 => ⟨S1x4x8x16x128, .f32⟩
  | _ => ⟨S2048x2560, .f32⟩

abbrev hbmTy0_1 (i : Nat) : BufTy := match i % 128 with
  | 0 => ⟨S1x4x8x16x128, .f32⟩
  | 1 => ⟨S1x4x8x16x128, .f32⟩
  | 2 => ⟨S1x4x8x16x128, .f32⟩
  | 3 => ⟨S1x4x16x64x8x128, .f32⟩
  | 4 => ⟨S1x4x8x16x128x64, .f32⟩
  | 5 => ⟨S1x4x8x2048x64, .f32⟩
  | 6 => ⟨S1x4x8x2048, .f32⟩
  | 7 => ⟨S1x4x8x2048, .f32⟩
  | 8 => ⟨S1x4x8x2048x1, .f32⟩
  | 9 => ⟨S1x4x8x2048x64, .f32⟩
  | 10 => ⟨S1x4x8x2048x64, .f32⟩
  | 11 => ⟨S1x4x8x2048x1, .f32⟩
  | 12 => ⟨S_, .f32⟩
  | 13 => ⟨S1x4x8x2048x1, .f32⟩
  | 14 => ⟨S1x4x8x2048x1, .f32⟩
  | 15 => ⟨S1x32x2048x64, .f32⟩
  | 16 => ⟨S1x2048x32x64, .f32⟩
  | 17 => ⟨S1x2048x2048, .f32⟩
  | 18 => ⟨S1x2048x2048, .f32⟩
  | 19 => ⟨S1x2048x32x64, .f32⟩
  | 20 => ⟨S1x32x2048x64, .f32⟩
  | 21 => ⟨S1x4x8x2048x64, .f32⟩
  | 22 => ⟨S1x4x8x2048x64, .f32⟩
  | 23 => ⟨S1x4x8x2048x64, .f32⟩
  | 24 => ⟨S1x4x8x2048x64, .f32⟩
  | 25 => ⟨S_, .f32⟩
  | 26 => ⟨S1x4x8x2048, .f32⟩
  | 27 => ⟨S1x4x8x2048x1, .f32⟩
  | 28 => ⟨S1x4x8x2048x1, .f32⟩
  | 29 => ⟨S1x4x8x2048x64, .f32⟩
  | 30 => ⟨S1x4x8x2048x64, .f32⟩
  | 31 => ⟨S_, .f32⟩
  | 32 => ⟨S4x8x2048, .f32⟩
  | 33 => ⟨S1x4x8x2048, .f32⟩
  | 34 => ⟨S1x4x8x16x128, .f32⟩
  | 35 => ⟨S1x4x8x16x128x64, .f32⟩
  | 36 => ⟨S1x4x16x64x8x128, .f32⟩
  | 37 => ⟨S1x4x16x8x128x256, .f32⟩
  | 38 => ⟨S1x4x8x16x128x256, .f32⟩
  | 39 => ⟨S1x4x16x64x256, .f32⟩
  | 40 => ⟨S1x4x16x256x64, .f32⟩
  | 41 => ⟨S1x4x8x16x128, .f32⟩
  | 42 => ⟨S_, .f32⟩
  | 43 => ⟨S1x4x8, .f32⟩
  | 44 => ⟨S1x4x8x1x1, .f32⟩
  | 45 => ⟨S1x4x8x16x128, .f32⟩
  | 46 => ⟨S_, .f32⟩
  | 47 => ⟨S4x8, .f32⟩
  | 48 => ⟨S4x8x1x1, .f32⟩
  | 49 => ⟨S1x4x8x16x128x256, .f32⟩
  | 50 => ⟨S1x4x8x16x128x256, .f32⟩
  | 51 => ⟨S1x4x8x16x128x256, .f32⟩
  | 52 => ⟨S1x4x8x16x128x256, .f32⟩
  | 53 => ⟨S_, .f32⟩
  | 54 => ⟨S1x4x8x16x128, .f32⟩
  | 55 => ⟨S1x4x8x16x128x1, .f32⟩
  | 56 => ⟨S_, .f32⟩
  | 57 => ⟨S4x8x16x128, .f32⟩
  | 58 => ⟨S1x4x8x16x128, .f32⟩
  | 59 => ⟨S1x4x8x16x128, .f32⟩
  | 60 => ⟨S1x4x8x16x128, .f32⟩
  | 61 => ⟨S_, .f32⟩
  | 62 => ⟨S1x4x8, .f32⟩
  | 63 => ⟨S1x4x8x1x1, .f32⟩
  | 64 => ⟨S1x4x8x16x128, .f32⟩
  | 65 => ⟨S_, .f32⟩
  | 66 => ⟨S4x8, .f32⟩
  | 67 => ⟨S4x8x1x1, .f32⟩
  | 68 => ⟨S4x8x1x1, .f32⟩
  | 69 => ⟨S_, .f32⟩
  | 70 => ⟨S4x8, .f32⟩
  | 71 => ⟨S1x4x8x16x128, .f32⟩
  | 72 => ⟨S1x4x8x16x128x256, .f32⟩
  | 73 => ⟨S1x4x8x16x128x256, .f32⟩
  | 74 => ⟨S1x4x8x16x128x256, .f32⟩
  | 75 => ⟨S_, .f32⟩
  | 76 => ⟨S1x4x8x16x128x256, .f32⟩
  | 77 => ⟨S1x4x8x16x128x256, .f32⟩
  | 78 => ⟨S_, .f32⟩
  | 79 => ⟨S1x4x8x16x128x256, .f32⟩
  | 80 => ⟨S1x4x8x16x128x256, .f32⟩
  | 81 => ⟨S1x4x16x256x8x128, .f32⟩
  | 82 => ⟨S1x4x16x8x128x64, .f32⟩
  | 83 => ⟨S1x4x8x16x128x64, .f32⟩
  | 84 => ⟨S1x4x16x256x64, .f32⟩
  | 85 => ⟨S1x4x16x128x64, .f32⟩
  | 86 => ⟨S1x4x16x128x64, .f32⟩
  | 87 => ⟨S_, .f32⟩
  | 88 => ⟨S1x4x17x128x64, .f32⟩
  | 89 => ⟨S_, .f32⟩
  | 90 => ⟨S1x4x17x128x64, .f32⟩
  | 91 => ⟨S1x4x17x128x64, .f32⟩
  | 92 => ⟨S1x4x16x128x64, .f32⟩
  | 93 => ⟨S1x4x16x128x64, .f32⟩
  | 94 => ⟨S_, .f32⟩
  | 95 => ⟨S1x4x17x128x64, .f32⟩
  | 96 => ⟨S_, .f32⟩
  | 97 => ⟨S1x4x17x128x64, .f32⟩
  | 98 => ⟨S1x4x17x128x64, .f32⟩
  | 99 => ⟨S1x4x2176x64, .f32⟩
  | 100 => ⟨S1x4x128x64, .f32⟩
  | 101 => ⟨S1x4x2048x64, .f32⟩
  | 102 => ⟨S1x4x2176x64, .f32⟩
  | 103 => ⟨S1x4x128x64, .f32⟩
  | 104 => ⟨S1x4x2048x64, .f32⟩
  | 105 => ⟨S1x4x8x2048x64, .f32⟩
  | 106 => ⟨S32, .f32⟩
  | 107 => ⟨S1x32x2048x64, .f32⟩
  | 108 => ⟨S32x2048x64, .f32⟩
  | 109 => ⟨S4x2048x64, .f32⟩
  | 110 => ⟨S4x2048x64, .f32⟩
  | 111 => ⟨S4x8x1, .f32⟩
  | _ => ⟨S2048x2560, .f32⟩

abbrev hbmTy (i : Nat) : BufTy := match i / 128 with
  | 0 => hbmTy0_0 i
  | 1 => hbmTy0_1 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_5 : Ref sig .tc := ⟨.hbm, 53, rfl⟩
abbrev main_v43 : Ref sig .tc := ⟨.hbm, 54, rfl⟩
abbrev main_v44 : Ref sig .tc := ⟨.hbm, 55, rfl⟩
abbrev main_c_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_7 : Ref sig .tc := ⟨.hbm, 63, rfl⟩
abbrev main_v51 : Ref sig .tc := ⟨.hbm, 64, rfl⟩
abbrev main_v52 : Ref sig .tc := ⟨.hbm, 65, rfl⟩
abbrev main_c_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_10 : Ref sig .tc := ⟨.hbm, 77, rfl⟩
abbrev main_call0_v0 : Ref sig .tc := ⟨.hbm, 78, rfl⟩
abbrev main_v62_1 : Ref sig .tc := ⟨.hbm, 79, rfl⟩
abbrev main_call0_v2 : Ref sig .tc := ⟨.hbm, 80, rfl⟩
abbrev main_v62_0 : Ref sig .tc := ⟨.hbm, 81, rfl⟩
abbrev main_call0_cst : Ref sig .tc := ⟨.hbm, 82, rfl⟩
abbrev main_v62_2 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_cst_14 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_16 : Ref sig .tc := ⟨.hbm, 112, rfl⟩
abbrev main_v86 : Ref sig .tc := ⟨.hbm, 113, rfl⟩
abbrev main_cst_17 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_19 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_20 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_21 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_22 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_23 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_24 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_25 : Ref sig .tc := ⟨.hbm, 181, rfl⟩
abbrev main_v146 : Ref sig .tc := ⟨.hbm, 182, rfl⟩
abbrev main_v147 : Ref sig .tc := ⟨.hbm, 183, rfl⟩
abbrev main_cst_26 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_27 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_cst_28 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_29 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_call1_cst : Ref sig .tc := ⟨.hbm, 203, rfl⟩
abbrev main_call1_v0 : Ref sig .tc := ⟨.hbm, 204, rfl⟩
abbrev main_v163 : Ref sig .tc := ⟨.hbm, 205, rfl⟩
abbrev main_cst_30 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_31 : Ref sig .tc := ⟨.hbm, 215, rfl⟩
abbrev main_v172 : Ref sig .tc := ⟨.hbm, 216, rfl⟩
abbrev main_cst_32 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_33 : Ref sig .tc := ⟨.hbm, 222, rfl⟩
abbrev main_v177 : Ref sig .tc := ⟨.hbm, 223, rfl⟩
abbrev main_cst_34 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩

abbrev nD : Nat := 1
abbrev τ : Topo := Topo.v7x

variable {F : FTy → Type} [FloatOps F]
-- ==== Kernel2.lean ====
abbrev S2048x2048 : Shape := ⟨2, ![2048, 2048]⟩
abbrev S2048x8192 : Shape := ⟨2, ![2048, 8192]⟩
abbrev S8192x2048 : Shape := ⟨2, ![8192, 2048]⟩
abbrev S2048x8x1x1024 : Shape := ⟨4, ![2048, 8, 1, 1024]⟩
abbrev S8x1x2048x1024 : Shape := ⟨4, ![8, 1, 2048, 1024]⟩
abbrev S8x1x1024x2048 : Shape := ⟨4, ![8, 1, 1024, 2048]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩
abbrev S1x1x1024x2048 : Shape := ⟨4, ![1, 1, 1024, 2048]⟩
abbrev S1x1024x2048 : Shape := ⟨3, ![1, 1024, 2048]⟩
abbrev S8x2048x1024 : Shape := ⟨3, ![8, 2048, 1024]⟩
abbrev S1x1024x1024 : Shape := ⟨3, ![1, 1024, 1024]⟩

abbrev nBuf : Space → Nat
  | .hbm => 16
  | .vmem => 28
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8192x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x8x1x1024, .f32⟩
  | .hbm, ⟨7, _⟩ => ⟨S8x1x2048x1024, .f32⟩
  | .hbm, ⟨8, _⟩ => ⟨S8x1x2048x1024, .bf16⟩
  | .hbm, ⟨9, _⟩ => ⟨S8x1x1024x2048, .f32⟩
  | .hbm, ⟨10, _⟩ => ⟨S8x1x1024x2048, .bf16⟩
  | .hbm, ⟨11, _⟩ => ⟨S2048x8192, .f32⟩
  | .hbm, ⟨12, _⟩ => ⟨S2048x8192, .bf16⟩
  | .hbm, ⟨13, _⟩ => ⟨S8192x2048, .bf16⟩
  | .hbm, ⟨14, _⟩ => ⟨S2048x8192, .bf16⟩
  | .hbm, ⟨15, _⟩ => ⟨S8x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x2048, .bf16⟩
  | .local _ .vmem, ⟨15, _⟩ => ⟨S1024x2048, .bf16⟩
  | .local _ .vmem, ⟨16, _⟩ => ⟨S1x1x1024x2048, .bf16⟩
  | .local _ .vmem, ⟨17, _⟩ => ⟨S1x1x1024x2048, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S1x1024x1024, .bf16⟩
  | .local _ .vmem, ⟨27, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩
abbrev S2048x8x1024 : Shape := ⟨3, ![2048, 8, 1024]⟩
abbrev S8x2048x1024 : Shape := ⟨3, ![8, 2048, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8192x2048, .f32⟩
  | .hbm, ⟨3, _⟩ => ⟨S2048x2048, .f32⟩
  | .hbm, ⟨4, _⟩ => ⟨S2048x8192, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .i1⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S2048x2048, .f32⟩
  | .hbm, ⟨18, _⟩ => ⟨S2048x8192, .f32⟩
  | .hbm, ⟨19, _⟩ => ⟨S8192x2048, .f32⟩
  | .hbm, ⟨20, _⟩ => ⟨S2048x8192, .f32⟩
  | .hbm, ⟨21, _⟩ => ⟨S2048x8192, .f32⟩
  | .hbm, ⟨22, _⟩ => ⟨S_, .f32⟩
  | .hbm, ⟨23, _⟩ => ⟨S2048x8192, .f32⟩
  | .hbm, ⟨24, _⟩ => ⟨S2048x8192, .f32⟩
  | .hbm, ⟨25, _⟩ => ⟨S8192x2048, .f32⟩
  | .hbm, ⟨26, _⟩ => ⟨S2048x8192, .f32⟩
  | .hbm, ⟨27, _⟩ => ⟨S2048x2048, .f32⟩
  | .hbm, ⟨28, _⟩ => ⟨S8192x2048, .bf16⟩
  | .hbm, ⟨29, _⟩ => ⟨S2048x8x1024, .f32⟩
  | .hbm, ⟨30, _⟩ => ⟨S8x2048x1024, .f32⟩
  | .hbm, ⟨31, _⟩ => ⟨S8x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel3.lean ====
abbrev S2048x2048 : Shape := ⟨2, ![2048, 2048]⟩
abbrev S2048x8192 : Shape := ⟨2, ![2048, 8192]⟩
abbrev S2048x8x1x1024 : Shape := ⟨4, ![2048, 8, 1, 1024]⟩
abbrev S8x1x2048x1024 : Shape := ⟨4, ![8, 1, 2048, 1024]⟩
abbrev S1024x1024 : Shape := ⟨2, ![1024, 1024]⟩
abbrev S1x1x1024x1024 : Shape := ⟨4, ![1, 1, 1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .bf16⟩
  | .hbm, ⟨4, _⟩ => ⟨S2048x8x1x1024, .f32⟩
  | .hbm, ⟨5, _⟩ => ⟨S8x1x2048x1024, .f32⟩
  | .hbm, ⟨6, _⟩ => ⟨S8x1x2048x1024, .bf16⟩
  | .hbm, ⟨7, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8192, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S2048x2048 : Shape := ⟨2, ![2048, 2048]⟩
abbrev S2048x8192 : Shape := ⟨2, ![2048, 8192]⟩
abbrev S8192x2048 : Shape := ⟨2, ![8192, 2048]⟩
abbrev S8x1x1024x2048 : Shape := ⟨4, ![8, 1, 1024, 2048]⟩
abbrev S1024x2048 : Shape := ⟨2, ![1024, 2048]⟩
abbrev S2x1x1024x1024 : Shape := ⟨4, ![2, 1, 1024, 1024]⟩
abbrev S1024x1024 : Shape := ⟨2, ![1024, 1024]⟩
abbrev S2x1024x1024 : Shape := ⟨3, ![2, 1024, 1024]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8192x2048, .f32⟩
  | .hbm, ⟨3, _⟩ => ⟨S2048x8192, .bf16⟩
  | .hbm, ⟨4, _⟩ => ⟨S8x1x1024x2048, .f32⟩
  | .hbm, ⟨5, _⟩ => ⟨S8x1x1024x2048, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1x1024x1024, .bf16⟩
  | .local _ .vmem, ⟨3, _⟩ => ⟨S2x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S8192x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S2048x2048 : Shape := ⟨2, ![2048, 2048]⟩
abbrev S2048x7168 : Shape := ⟨2, ![2048, 7168]⟩
abbrev S2048x8x1x896 : Shape := ⟨4, ![2048, 8, 1, 896]⟩
abbrev S8x1x2048x896 : Shape := ⟨4, ![8, 1, 2048, 896]⟩
abbrev S1024x896 : Shape := ⟨2, ![1024, 896]⟩
abbrev S1x1x1024x896 : Shape := ⟨4, ![1, 1, 1024, 896]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S2048x7168, .f32⟩
  | .hbm, ⟨3, _⟩ => ⟨S2048x7168, .bf16⟩
  | .hbm, ⟨4, _⟩ => ⟨S2048x8x1x896, .f32⟩
  | .hbm, ⟨5, _⟩ => ⟨S8x1x2048x896, .f32⟩
  | .hbm, ⟨6, _⟩ => ⟨S8x1x2048x896, .bf16⟩
  | .hbm, ⟨7, _⟩ => ⟨S2048x2048, .f32⟩
  | .local _ .vmem, ⟨0, _⟩ => ⟨S1024x896, .bf16⟩
  | .local _ .vmem, ⟨1, _⟩ => ⟨S1024x896, .bf16⟩
  | .local _ .vmem, ⟨2, _⟩ => ⟨S1x1x1024x896, .bf16⟩
  | .local _ .vmem, ⟨3, _⟩ => ⟨S1x1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2048 : Shape := ⟨2, ![2048, 2048]⟩
abbrev S2048x7168 : Shape := ⟨2, ![2048, 7168]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S2048x7168, .f32⟩
  | .hbm, ⟨3, _⟩ => ⟨S2048x7168, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel6.lean ====
abbrev S2048x2048 : Shape := ⟨2, ![2048, 2048]⟩
abbrev S2048x7168 : Shape := ⟨2, ![2048, 7168]⟩
abbrev S8x2048x896 : Shape := ⟨3, ![8, 2048, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S2048x7168, .f32⟩
  | .hbm, ⟨3, _⟩ => ⟨S2048x2048, .bf16⟩
  | .hbm, ⟨4, _⟩ => ⟨S2048x7168, .bf16⟩
  | .hbm, ⟨5, _⟩ => ⟨S8x2048x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2048 : Shape := ⟨2, ![2048, 2048]⟩
abbrev S2048x7168 : Shape := ⟨2, ![2048, 7168]⟩
abbrev S7168x2048 : Shape := ⟨2, ![7168, 2048]⟩
abbrev S2048x8x896 : Shape := ⟨3, ![2048, 8, 896]⟩
abbrev S8x2048x896 : Shape := ⟨3, ![8, 2048, 896]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S2048x7168, .f32⟩
  | .hbm, ⟨3, _⟩ => ⟨S2048x7168, .f32⟩
  | .hbm, ⟨4, _⟩ => ⟨S7168x2048, .f32⟩
  | .hbm, ⟨5, _⟩ => ⟨S2048x7168, .f32⟩
  | .hbm, ⟨6, _⟩ => ⟨S2048x8x896, .f32⟩
  | .hbm, ⟨7, _⟩ => ⟨S8x2048x896, .f32⟩
  | .hbm, ⟨8, _⟩ => ⟨S8x2048x896, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x2048 : Shape := ⟨2, ![2048, 2048]⟩
abbrev S2048x7168 : Shape := ⟨2, ![2048, 7168]⟩
abbrev S2048x8x1x896 : Shape := ⟨4, ![2048, 8, 1, 896]⟩
abbrev S8x1x2048x896 : Shape := ⟨4, ![8, 1, 2048, 896]⟩
abbrev S1024x2048 : Shape := ⟨2, ![1024, 2048]⟩
abbrev S1x1x2048x896 : Shape := ⟨4, ![1, 1, 2048, 896]⟩
abbrev S1024x896 : Shape := ⟨2, ![1024, 896]⟩
abbrev S2048x896 : Shape := ⟨2, ![2048, 896]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S2048x2048, .bf16⟩
  | .hbm, ⟨3, _⟩ => ⟨S2048x8x1x896, .f32⟩
  | .hbm, ⟨4, _⟩ => ⟨S8x1x2048x896, .f32⟩
  | .hbm, ⟨5, _⟩ => ⟨S8x1x2048x896, .bf16⟩
  | .hbm, ⟨6, _⟩ => ⟨S2048x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x896, .bf16⟩
  | .local _ .vmem, ⟨3, _⟩ => ⟨S1x1x2048x896, .bf16⟩
  | .local _ .vmem, ⟨4, _⟩ => ⟨S1024x896, .f32⟩
  | .local _ .vmem, ⟨5, _⟩ => ⟨S1024x896, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x2048 : Shape := ⟨2, ![2048, 2048]⟩
abbrev S2048x7168 : Shape := ⟨2, ![2048, 7168]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x7168, .f32⟩
  | .hbm, ⟨2, _⟩ => ⟨S2048x7168, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2048x2048 : Shape := ⟨2, ![2048, 2048]⟩
abbrev S8x1x256x2048 : Shape := ⟨4, ![8, 1, 256, 2048]⟩
abbrev S1024x2048 : Shape := ⟨2, ![1024, 2048]⟩
abbrev S4x1x256x2048 : Shape := ⟨4, ![4, 1, 256, 2048]⟩
abbrev S1024x1024 : Shape := ⟨2, ![1024, 1024]⟩
abbrev S4x256x2048 : Shape := ⟨3, ![4, 256, 2048]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S8x1x256x2048, .f32⟩
  | .hbm, ⟨5, _⟩ => ⟨S8x1x256x2048, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x1x256x2048, .bf16⟩
  | .local _ .vmem, ⟨3, _⟩ => ⟨S4x1x256x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S2048x2048 : Shape := ⟨2, ![2048, 2048]⟩
abbrev S8x1x256x2048 : Shape := ⟨4, ![8, 1, 256, 2048]⟩
abbrev S1024x2048 : Shape := ⟨2, ![1024, 2048]⟩
abbrev S8x1x256x1024 : Shape := ⟨4, ![8, 1, 256, 1024]⟩
abbrev S1024x1024 : Shape := ⟨2, ![1024, 1024]⟩
abbrev S8x256x1024 : Shape := ⟨3, ![8, 256, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S8x1x256x2048, .f32⟩
  | .hbm, ⟨5, _⟩ => ⟨S8x1x256x2048, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x1x256x1024, .bf16⟩
  | .local _ .vmem, ⟨3, _⟩ => ⟨S8x1x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S2048x2048 : Shape := ⟨2, ![2048, 2048]⟩
abbrev S2048 : Shape := ⟨1, ![2048]⟩
abbrev S8x1x256x2048 : Shape := ⟨4, ![8, 1, 256, 2048]⟩
abbrev S1x2048 : Shape := ⟨2, ![1, 2048]⟩
abbrev S1024x2048 : Shape := ⟨2, ![1024, 2048]⟩
abbrev S8x1x256x1024 : Shape := ⟨4, ![8, 1, 256, 1024]⟩
abbrev S1x1024 : Shape := ⟨2, ![1, 1024]⟩
abbrev S1024x1024 : Shape := ⟨2, ![1024, 1024]⟩
abbrev S8x256x1024 : Shape := ⟨3, ![8, 256, 1024]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S8x1x256x2048, .f32⟩
  | .hbm, ⟨6, _⟩ => ⟨S8x1x256x2048, .bf16⟩
  | .hbm, ⟨7, _⟩ => ⟨S1x2048, .f32⟩
  | .hbm, ⟨8, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x1x256x1024, .bf16⟩
  | .local _ .vmem, ⟨3, _⟩ => ⟨S8x1x256x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference11Ideal.lean ====
abbrev S2048x2048 : Shape := ⟨2, ![2048, 2048]⟩
abbrev S2048 : Shape := ⟨1, ![2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S2048x2048 : Shape := ⟨2, ![2048, 2048]⟩
abbrev S2048x2560 : Shape := ⟨2, ![2048, 2560]⟩
abbrev S2560 : Shape := ⟨1, ![2560]⟩
abbrev S2048x8x1x320 : Shape := ⟨4, ![2048, 8, 1, 320]⟩
abbrev S8x1x2048x320 : Shape := ⟨4, ![8, 1, 2048, 320]⟩
abbrev S8x2048x320 : Shape := ⟨3, ![8, 2048, 320]⟩
abbrev S2048x8x320 : Shape := ⟨3, ![2048, 8, 320]⟩
abbrev S1x2560 : Shape := ⟨2, ![1, 2560]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 12
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2560, .f32⟩
  | .hbm, ⟨3, _⟩ => ⟨S2048x2048, .bf16⟩
  | .hbm, ⟨4, _⟩ => ⟨S2048x8x1x320, .f32⟩
  | .hbm, ⟨5, _⟩ => ⟨S8x1x2048x320, .f32⟩
  | .hbm, ⟨6, _⟩ => ⟨S8x1x2048x320, .bf16⟩
  | .hbm, ⟨7, _⟩ => ⟨S8x2048x320, .bf16⟩
  | .hbm, ⟨8, _⟩ => ⟨S2048x8x320, .bf16⟩
  | .hbm, ⟨9, _⟩ => ⟨S2048x2560, .bf16⟩
  | .hbm, ⟨10, _⟩ => ⟨S1x2560, .f32⟩
  | .hbm, ⟨11, _⟩ => ⟨S2048x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x2048 : Shape := ⟨2, ![2048, 2048]⟩
abbrev S2048x2560 : Shape := ⟨2, ![2048, 2560]⟩
abbrev S2560 : Shape := ⟨1, ![2560]⟩
abbrev S1x2560 : Shape := ⟨2, ![1, 2560]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2560, .f32⟩
  | .hbm, ⟨3, _⟩ => ⟨S2048x2560, .f32⟩
  | .hbm, ⟨4, _⟩ => ⟨S1x2560, .f32⟩
  | .hbm, ⟨5, _⟩ => ⟨S2048x2560, .f32⟩
  | .hbm, ⟨6, _⟩ => ⟨S2048x2560, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x2048 : Shape := ⟨2, ![2048, 2048]⟩
abbrev S2048x2560 : Shape := ⟨2, ![2048, 2560]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2048x2560, .f32⟩
  | .hbm, ⟨3, _⟩ => ⟨S2048x2048, .bf16⟩
  | .hbm, ⟨4, _⟩ => ⟨S2048x2560, .bf16⟩
  | .hbm, ⟨5, _⟩ => ⟨S2048x2560, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S2048x2560 : Shape := ⟨2, ![2048, 2560]⟩
abbrev S2560x2048 : Shape := ⟨2, ![2560, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S2560x2048, .f32⟩
  | .hbm, ⟨5, _⟩ => ⟨S2048x2560, .f32⟩
  | .hbm, ⟨6, _⟩ => ⟨S2048x2560, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x2048 : Shape := ⟨2, ![2048, 2048]⟩
abbrev S2048x2560 : Shape := ⟨2, ![2048, 2560]⟩
abbrev S2048x8x1x320 : Shape := ⟨4, ![2048, 8, 1, 320]⟩
abbrev S8x1x2048x320 : Shape := ⟨4, ![8, 1, 2048, 320]⟩
abbrev S8x2048x320 : Shape := ⟨3, ![8, 2048, 320]⟩
abbrev S2048x8x320 : Shape := ⟨3, ![2048, 8, 320]⟩
abbrev S1024x2560 : Shape := ⟨2, ![1024, 2560]⟩
abbrev S1024x1024 : Shape := ⟨2, ![1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2048x2560, .f32⟩
  | .hbm, ⟨3, _⟩ => ⟨S2048x2560, .bf16⟩
  | .hbm, ⟨4, _⟩ => ⟨S2048x8x1x320, .f32⟩
  | .hbm, ⟨5, _⟩ => ⟨S8x1x2048x320, .f32⟩
  | .hbm, ⟨6, _⟩ => ⟨S8x1x2048x320, .bf16⟩
  | .hbm, ⟨7, _⟩ => ⟨S8x2048x320, .bf16⟩
  | .hbm, ⟨8, _⟩ => ⟨S2048x8x320, .bf16⟩
  | .hbm, ⟨9, _⟩ => ⟨S2048x2560, .bf16⟩
  | .hbm, ⟨10, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S2048x2560 : Shape := ⟨2, ![2048, 2560]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel15.lean ====
abbrev S2048x2560 : Shape := ⟨2, ![2048, 2560]⟩
abbrev S32 : Shape := ⟨1, ![32]⟩
abbrev S2048x1x40x64 : Shape := ⟨4, ![2048, 1, 40, 64]⟩
abbrev S40x1x2048x64 : Shape := ⟨4, ![40, 1, 2048, 64]⟩
abbrev S40x2048x64 : Shape := ⟨3, ![40, 2048, 64]⟩
abbrev S4x8 : Shape := ⟨2, ![4, 8]⟩
abbrev S4x8x128 : Shape := ⟨3, ![4, 8, 128]⟩
abbrev S4x1024 : Shape := ⟨2, ![4, 1024]⟩
abbrev S4x1024x1 : Shape := ⟨3, ![4, 1024, 1]⟩
abbrev S32x2048x64 : Shape := ⟨3, ![32, 2048, 64]⟩
abbrev S32x2048x1 : Shape := ⟨3, ![32, 2048, 1]⟩
abbrev S8x256x64 : Shape := ⟨3, ![8, 256, 64]⟩
abbrev S1x2048x64 : Shape := ⟨3, ![1, 2048, 64]⟩
abbrev S1x1024x1 : Shape := ⟨3, ![1, 1024, 1]⟩
abbrev S8x256x1 : Shape := ⟨3, ![8, 256, 1]⟩
abbrev S1024x1 : Shape := ⟨2, ![1024, 1]⟩
abbrev S8x128x64 : Shape := ⟨3, ![8, 128, 64]⟩
abbrev S1024x64 : Shape := ⟨2, ![1024, 64]⟩
abbrev S1x128x64 : Shape := ⟨3, ![1, 128, 64]⟩
abbrev S128x64 : Shape := ⟨2, ![128, 64]⟩
abbrev S256x64 : Shape := ⟨2, ![256, 64]⟩
abbrev S1024x256 : Shape := ⟨2, ![1024, 256]⟩
abbrev S1024 : Shape := ⟨1, ![1024]⟩
abbrev S8x128x1 : Shape := ⟨3, ![8, 128, 1]⟩

abbrev nBuf : Space → Nat
  | .hbm => 12
  | .vmem => 12
  | .smem => 0
  | _ => 0

abbrev bufTy : (tb : Table) → Fin (tcTables nBuf tb) → BufTy
  | .hbm, ⟨0, _⟩ => ⟨S2048x2560, .f32⟩
  | .hbm, ⟨1, _⟩ => ⟨S32, .f32⟩
  | .hbm, ⟨2, _⟩ => ⟨S2048x2560, .bf16⟩
  | .hbm, ⟨3, _⟩ => ⟨S2048x1x40x64, .bf16⟩
  | .hbm, ⟨4, _⟩ => ⟨S40x1x2048x64, .bf16⟩
  | .hbm, ⟨5, _⟩ => ⟨S40x2048x64, .bf16⟩
  | .hbm, ⟨6, _⟩ => ⟨S4x8, .f32⟩
  | .hbm, ⟨7, _⟩ => ⟨S4x8x128, .f32⟩
  | .hbm, ⟨8, _⟩ => ⟨S4x1024, .f32⟩
  | .hbm, ⟨9, _⟩ => ⟨S4x1024x1, .f32⟩
  | .hbm, ⟨10, _⟩ => ⟨S32x2048x64, .f32⟩
  | .hbm, ⟨11, _⟩ => ⟨S32x2048x1, .f32⟩
  | .local _ .vmem, ⟨0, _⟩ => ⟨S8x256x64, .bf16⟩
  | .local _ .vmem, ⟨1, _⟩ => ⟨S8x256x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x1024x1, .f32⟩
  | .local _ .vmem, ⟨7, _⟩ => ⟨S1x1024x1, .f32⟩
  | .local _ .vmem, ⟨8, _⟩ => ⟨S8x256x64, .f32⟩
  | .local _ .vmem, ⟨9, _⟩ => ⟨S8x256x64, .f32⟩
  | .local _ .vmem, ⟨10, _⟩ => ⟨S8x256x1, .f32⟩
  | .local _ .vmem, ⟨11, _⟩ => ⟨S8x256x1, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c2_i32 : BitVec 32 := 2#32
  let v2 : BitVec 32 := Scalar.muli arg1 c2_i32
  let c0_i32 : BitVec 32 := 0#32
  let v3 : BitVec 32 := Scalar.addi v2 c0_i32
  let c128_i32 : BitVec 32 := 128#32
  let v4 : BitVec 32 := Scalar.muli v3 c128_i32
  v4
def k0_mult2 (i : grid0.Coords) : BitVec 32 :=
  let arg1 : BitVec 32 := BitVec.ofNat 32 (i 1).val
  let c2_i32 : BitVec 32 := 2#32
  let v2 : BitVec 32 := Scalar.muli arg1 c2_i32
  let c0_i32 : BitVec 32 := 0#32
  let v3 : BitVec 32 := Scalar.addi v2 c0_i32
  let c1_i32 : BitVec 32 := 1#32
  let v6 : BitVec 32 := Scalar.subi v3 c1_i32
  let c0_i32_2 : BitVec 32 := 0#32
  let v7 : BitVec 32 := Scalar.maxsi v6 c0_i32_2
  let c128_i32_3 : BitVec 32 := 128#32
  let v8 : BitVec 32 := Scalar.muli v7 c128_i32_3
  v8
def k0_off1 (i : grid0.Coords) (c0_i32 : BitVec 32) : Fin 3 → Nat :=
  let c0_7 : Index := 0#32
  let arg1 : BitVec 32 := BitVec.ofNat 32 (i 1).val
  let c2_i32 : BitVec 32 := 2#32
  let v2 : BitVec 32 := Scalar.muli arg1 c2_i32
  let v3 : BitVec 32 := Scalar.addi v2 c0_i32
  let c1_i32 : BitVec 32 := 1#32
  let v6 : BitVec 32 := Scalar.subi v3 c1_i32
  let c0_i32_2 : BitVec 32 := 0#32
  let v7 : BitVec 32 := Scalar.maxsi v6 c0_i32_2
  let c128_i32_3 : BitVec 32 := 128#32
  let v8 : BitVec 32 := Scalar.muli v7 c128_i32_3
  let v9 : BitVec 32 := v8
  let v13 : Index := Scalar.indexCast v9
  let c0_8 : Index := 0#32
  ![0, v13.toNat, 0]
def k0_off2 (i : grid0.Coords) (c0_i32 : BitVec 32) : Fin 3 → Nat :=
  let c0_9 : Index := 0#32
  let arg1 : BitVec 32 := BitVec.ofNat 32 (i 1).val
  let c2_i32 : BitVec 32 := 2#32
  let v2 : BitVec 32 := Scalar.muli arg1 c2_i32
  let v3 : BitVec 32 := Scalar.addi v2 c0_i32
  let c128_i32 : BitVec 32 := 128#32
  let v4 : BitVec 32 := Scalar.muli v3 c128_i32
  let v5 : BitVec 32 := v4
  let v16 : Index := Scalar.indexCast v5
  let c0_10 : Index := 0#32
  ![0, v16.toNat, 0]
def k0_mult3 (i : grid0.Coords) : BitVec 32 :=
  let arg1 : BitVec 32 := BitVec.ofNat 32 (i 1).val
  let c2_i32_42 : BitVec 32 := 2#32
  let v97 : BitVec 32 := Scalar.muli arg1 c2_i32_42
  let c1_i32_43 : BitVec 32 := 1#32
  let v98 : BitVec 32 := Scalar.addi v97 c1_i32_43
  let c128_i32_44 : BitVec 32 := 128#32
  let v99 : BitVec 32 := Scalar.muli v98 c128_i32_44
  v99
def k0_mult4 (i : grid0.Coords) : BitVec 32 :=
  let arg1 : BitVec 32 := BitVec.ofNat 32 (i 1).val
  let c2_i32_42 : BitVec 32 := 2#32
  let v97 : BitVec 32 := Scalar.muli arg1 c2_i32_42
  let c1_i32_43 : BitVec 32 := 1#32
  let v98 : BitVec 32 := Scalar.addi v97 c1_i32_43
  let c1_i32_45 : BitVec 32 := 1#32
  let v101 : BitVec 32 := Scalar.subi v98 c1_i32_45
  let c0_i32_46 : BitVec 32 := 0#32
  let v102 : BitVec 32 := Scalar.maxsi v101 c0_i32_46
  let c128_i32_47 : BitVec 32 := 128#32
  let v103 : BitVec 32 := Scalar.muli v102 c128_i32_47
  v103
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S2048x2560 : Shape := ⟨2, ![2048, 2560]⟩
abbrev S32 : Shape := ⟨1, ![32]⟩
abbrev S1x2048x2560 : Shape := ⟨3, ![1, 2048, 2560]⟩
abbrev S1x2048x2048 : Shape := ⟨3, ![1, 2048, 2048]⟩
abbrev S1x2048x256 : Shape := ⟨3, ![1, 2048, 256]⟩
abbrev S1x2048x32x64 : Shape := ⟨4, ![1, 2048, 32, 64]⟩
abbrev S1x32x2048x64 : Shape := ⟨4, ![1, 32, 2048, 64]⟩
abbrev S1x2048x4x64 : Shape := ⟨4, ![1, 2048, 4, 64]⟩
abbrev S1x4x2048x64 : Shape := ⟨4, ![1, 4, 2048, 64]⟩
abbrev S1x4x8x2048x64 : Shape := ⟨5, ![1, 4, 8, 2048, 64]⟩
abbrev S4x8 : Shape := ⟨2, ![4, 8]⟩
abbrev S_ : Shape := ⟨0, ![]⟩
abbrev S1x4x8x0x64 : Shape := ⟨5, ![1, 4, 8, 0, 64]⟩
abbrev S1x4x8x16x128x64 : Shape := ⟨6, ![1, 4, 8, 16, 128, 64]⟩
abbrev S1x4x128x64 : Shape := ⟨4, ![1, 4, 128, 64]⟩
abbrev S1x4x2176x64 : Shape := ⟨4, ![1, 4, 2176, 64]⟩
abbrev S1x4x17x128x64 : Shape := ⟨5, ![1, 4, 17, 128, 64]⟩
abbrev S1x4x16x128x64 : Shape := ⟨5, ![1, 4, 16, 128, 64]⟩
abbrev S1x4x16x256x64 : Shape := ⟨5, ![1, 4, 16, 256, 64]⟩
abbrev S1x4x16x256x8x128 : Shape := ⟨6, ![1, 4, 16, 256, 8, 128]⟩
abbrev S1x4x8x16x128x256 : Shape := ⟨6, ![1, 4, 8, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x4x8x16x128 : Shape := ⟨5, ![1, 4, 8, 16, 128]⟩
abbrev S4x8x1x1 : Shape := ⟨4, ![4, 8, 1, 1]⟩
abbrev S1x4x8x1x1 : Shape := ⟨5, ![1, 4, 8, 1, 1]⟩
abbrev S1x4x8x16x128x1 : Shape := ⟨6, ![1, 4, 8, 16, 128, 1]⟩
abbrev S1x4x16x64x8x128 : Shape := ⟨6, ![1, 4, 16, 64, 8, 128]⟩
abbrev S1x4x8x2048 : Shape := ⟨4, ![1, 4, 8, 2048]⟩
abbrev S1x4x8x2048x1 : Shape := ⟨5, ![1, 4, 8, 2048, 1]⟩
abbrev S32x2048x1 : Shape := ⟨3, ![32, 2048, 1]⟩
abbrev S32x2048x64 : Shape := ⟨3, ![32, 2048, 64]⟩

abbrev nBuf : Space → Nat
  | .hbm => 107
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S32, .f32⟩
  | .hbm, ⟨2, _⟩ => ⟨S1x2048x2560, .f32⟩
  | .hbm, ⟨3, _⟩ => ⟨S1x2048x2048, .f32⟩
  | .hbm, ⟨4, _⟩ => ⟨S1x2048x256, .f32⟩
  | .hbm, ⟨5, _⟩ => ⟨S1x2048x256, .f32⟩
  | .hbm, ⟨6, _⟩ => ⟨S1x2048x32x64, .f32⟩
  | .hbm, ⟨7, _⟩ => ⟨S1x32x2048x64, .f32⟩
  | .hbm, ⟨8, _⟩ => ⟨S1x2048x4x64, .f32⟩
  | .hbm, ⟨9, _⟩ => ⟨S1x4x2048x64, .f32⟩
  | .hbm, ⟨10, _⟩ => ⟨S1x2048x4x64, .f32⟩
  | .hbm, ⟨11, _⟩ => ⟨S1x4x2048x64, .f32⟩
  | .hbm, ⟨12, _⟩ => ⟨S1x4x8x2048x64, .f32⟩
  | .hbm, ⟨13, _⟩ => ⟨S4x8, .f32⟩
  | .hbm, ⟨14, _⟩ => ⟨S_, .f32⟩
  | .hbm, ⟨15, _⟩ => ⟨S1x4x8x0x64, .f32⟩
  | .hbm, ⟨16, _⟩ => ⟨S1x4x8x16x128x64, .f32⟩
  | .hbm, ⟨17, _⟩ => ⟨S_, .f32⟩
  | .hbm, ⟨18, _⟩ => ⟨S1x4x128x64, .f32⟩
  | .hbm, ⟨19, _⟩ => ⟨S1x4x2176x64, .f32⟩
  | .hbm, ⟨20, _⟩ => ⟨S1x4x17x128x64, .f32⟩
  | .hbm, ⟨21, _⟩ => ⟨S_, .f32⟩
  | .hbm, ⟨22, _⟩ => ⟨S1x4x128x64, .f32⟩
  | .hbm, ⟨23, _⟩ => ⟨S1x4x2176x64, .f32⟩
  | .hbm, ⟨24, _⟩ => ⟨S1x4x17x128x64, .f32⟩
  | .hbm, ⟨25, _⟩ => ⟨S1x4x16x128x64, .f32⟩
  | .hbm, ⟨26, _⟩ => ⟨S1x4x16x128x64, .f32⟩
  | .hbm, ⟨27, _⟩ => ⟨S1x4x16x256x64, .f32⟩
  | .hbm, ⟨28, _⟩ => ⟨S1x4x16x128x64, .f32⟩
  | .hbm, ⟨29, _⟩ => ⟨S1x4x16x128x64, .f32⟩
  | .hbm, ⟨30, _⟩ => ⟨S1x4x16x256x64, .f32⟩
  | .hbm, ⟨31, _⟩ => ⟨S1x4x16x256x8x128, .f32⟩
  | .hbm, ⟨32, _⟩ => ⟨S1x4x8x16x128x256, .f32⟩
  | .hbm, ⟨33, _⟩ => ⟨S_, .f32⟩
  | .hbm, ⟨34, _⟩ => ⟨S1x4x8x16x128x256, .f32⟩
  | .hbm, ⟨35, _⟩ => ⟨S1x4x8x16x128x256, .f32⟩
  | .hbm, ⟨36, _⟩ => ⟨S128, .i32⟩
  | .hbm, ⟨37, _⟩ => ⟨S128x1, .i32⟩
  | .hbm, ⟨38, _⟩ => ⟨S256, .i32⟩
  | .hbm, ⟨39, _⟩ => ⟨S1x256, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S16, .i32⟩
  | .hbm, ⟨47, _⟩ => ⟨S16x1x1, .i32⟩
  | .hbm, ⟨48, _⟩ => ⟨S_, .i32⟩
  | .hbm, ⟨49, _⟩ => ⟨S16x1x1, .i32⟩
  | .hbm, ⟨50, _⟩ => ⟨S16x1x1, .i32⟩
  | .hbm, ⟨51, _⟩ => ⟨S_, .i32⟩
  | .hbm, ⟨52, _⟩ => ⟨S16x1x1, .i32⟩
  | .hbm, ⟨53, _⟩ => ⟨S16x1x1, .i32⟩
  | .hbm, ⟨54, _⟩ => ⟨S1x1x256, .i32⟩
  | .hbm, ⟨55, _⟩ => ⟨S16x1x256, .i32⟩
  | .hbm, ⟨56, _⟩ => ⟨S16x1x256, .i32⟩
  | .hbm, ⟨57, _⟩ => ⟨S16x1x256, .i32⟩
  | .hbm, ⟨58, _⟩ => ⟨S_, .i32⟩
  | .hbm, ⟨59, _⟩ => ⟨S128x256, .i32⟩
  | .hbm, ⟨60, _⟩ => ⟨S128x256, .i1⟩
  | .hbm, ⟨61, _⟩ => ⟨S_, .i32⟩
  | .hbm, ⟨62, _⟩ => ⟨S128x256, .i32⟩
  | .hbm, ⟨63, _⟩ => ⟨S128x256, .i1⟩
  | .hbm, ⟨64, _⟩ => ⟨S128x256, .i1⟩
  | .hbm, ⟨65, _⟩ => ⟨S_, .i32⟩
  | .hbm, ⟨66, _⟩ => ⟨S16x1x256, .i32⟩
  | .hbm, ⟨67, _⟩ => ⟨S16x1x256, .i1⟩
  | .hbm, ⟨68, _⟩ => ⟨S1x128x256, .i1⟩
  | .hbm, ⟨69, _⟩ => ⟨S16x128x256, .i1⟩
  | .hbm, ⟨70, _⟩ => ⟨S16x128x256, .i1⟩
  | .hbm, ⟨71, _⟩ => ⟨S16x128x256, .i1⟩
  | .hbm, ⟨72, _⟩ => ⟨S_, .f32⟩
  | .hbm, ⟨73, _⟩ => ⟨S_, .f32⟩
  | .hbm, ⟨74, _⟩ => ⟨S1x4x8x16x128x256, .i1⟩
  | .hbm, ⟨75, _⟩ => ⟨S1x4x8x16x128x256, .f32⟩
  | .hbm, ⟨76, _⟩ => ⟨S1x4x8x16x128x256, .f32⟩
  | .hbm, ⟨77, _⟩ => ⟨S_, .f32⟩
  | .hbm, ⟨78, _⟩ => ⟨S1x4x8x16x128, .f32⟩
  | .hbm, ⟨79, _⟩ => ⟨S4x8x1x1, .f32⟩
  | .hbm, ⟨80, _⟩ => ⟨S1x4x8x1x1, .f32⟩
  | .hbm, ⟨81, _⟩ => ⟨S1x4x8x16x128, .f32⟩
  | .hbm, ⟨82, _⟩ => ⟨S1x4x8x16x128, .f32⟩
  | .hbm, ⟨83, _⟩ => ⟨S1x4x8x16x128x1, .f32⟩
  | .hbm, ⟨84, _⟩ => ⟨S1x4x8x16x128x256, .f32⟩
  | .hbm, ⟨85, _⟩ => ⟨S1x4x8x16x128x256, .f32⟩
  | .hbm, ⟨86, _⟩ => ⟨S1x4x8x16x128x256, .f32⟩
  | .hbm, ⟨87, _⟩ => ⟨S_, .f32⟩
  | .hbm, ⟨88, _⟩ => ⟨S1x4x8x16x128, .f32⟩
  | .hbm, ⟨89, _⟩ => ⟨S1x4x8x1x1, .f32⟩
  | .hbm, ⟨90, _⟩ => ⟨S1x4x8x16x128, .f32⟩
  | .hbm, ⟨91, _⟩ => ⟨S1x4x8x16x128, .f32⟩
  | .hbm, ⟨92, _⟩ => ⟨S1x4x8x16x128, .f32⟩
  | .hbm, ⟨93, _⟩ => ⟨S1x4x8x16x128, .f32⟩
  | .hbm, ⟨94, _⟩ => ⟨S1x4x16x64x8x128, .f32⟩
  | .hbm, ⟨95, _⟩ => ⟨S1x4x8x16x128x64, .f32⟩
  | .hbm, ⟨96, _⟩ => ⟨S1x4x8x2048x64, .f32⟩
  | .hbm, ⟨97, _⟩ => ⟨S1x4x8x2048, .f32⟩
  | .hbm, ⟨98, _⟩ => ⟨S1x4x8x2048, .f32⟩
  | .hbm, ⟨99, _⟩ => ⟨S1x4x8x2048x1, .f32⟩
  | .hbm, ⟨100, _⟩ => ⟨S1x4x8x2048x64, .f32⟩
  | .hbm, ⟨101, _⟩ => ⟨S1x4x8x2048x64, .f32⟩
  | .hbm, ⟨102, _⟩ => ⟨S1x32x2048x64, .f32⟩
  | .hbm, ⟨103, _⟩ => ⟨S1x4x8x2048, .f32⟩
  | .hbm, ⟨104, _⟩ => ⟨S1x4x8x2048, .f32⟩
  | .hbm, ⟨105, _⟩ => ⟨S32x2048x1, .f32⟩
  | .hbm, ⟨106, _⟩ => ⟨S32x2048x64, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_3 : Ref sig .tc := ⟨.hbm, 48, rfl⟩
abbrev main_v41 : Ref sig .tc := ⟨.hbm, 49, rfl⟩
abbrev main_v42 : Ref sig .tc := ⟨.hbm, 50, rfl⟩
abbrev main_c_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c_5 : Ref sig .tc := ⟨.hbm, 58, rfl⟩
abbrev main_v49 : Ref sig .tc := ⟨.hbm, 59, rfl⟩
abbrev main_v50 : Ref sig .tc := ⟨.hbm, 60, rfl⟩
abbrev main_c_6 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c_7 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_8 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩

abbrev nD : Nat := 1
abbrev τ : Topo := Topo.v7x

variable {F : FTy → Type} [FloatOps F]
-- ==== Kernel16.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference16Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .bf16⟩
  | .hbm, ⟨52, _⟩ => ⟨S1x2048, .f32⟩
  | .hbm, ⟨53, _⟩ => ⟨S_, .f32⟩
  | .hbm, ⟨54, _⟩ => ⟨S2048, .f32⟩
  | .hbm, ⟨55, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel17.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel18.lean ====
abbrev S2048x2048 : Shape := ⟨2, ![2048, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x2048, .f32⟩
  | .hbm, ⟨62, _⟩ => ⟨S2048x2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .bf16⟩
  | .hbm, ⟨73, _⟩ => ⟨S1x2048, .f32⟩
  | .hbm, ⟨74, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_cst_9 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_cst_11 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel19.lean ====
abbrev S8x2048x128 : Shape := ⟨3, ![8, 2048, 128]⟩
abbrev S8x2048x1 : Shape := ⟨3, ![8, 2048, 1]⟩
abbrev S1x2048x128 : Shape := ⟨3, ![1, 2048, 128]⟩
abbrev S1x2048x1 : Shape := ⟨3, ![1, 2048, 1]⟩
abbrev S2048x128 : Shape := ⟨2, ![2048, 128]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x1, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x1, .f32⟩
  | .local _ .vmem, ⟨5, _⟩ => ⟨S1x2048x1, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 6
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S_, .f32⟩
  | .hbm, ⟨4, _⟩ => ⟨S8x2048, .f32⟩
  | .hbm, ⟨5, _⟩ => ⟨S8x2048x1, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S176x128 : Shape := ⟨2, ![176, 128]⟩

abbrev nBuf : Space → Nat
  | .hbm => 7
  | .vmem => 7
  | .smem => 0
  | _ => 0

abbrev bufTy : (tb : Table) → Fin (tcTables nBuf tb) → BufTy
  | .hbm, ⟨0, _⟩ => ⟨S176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S176x128, .f32⟩
  | .hbm, ⟨5, _⟩ => ⟨S176x128, .f32⟩
  | .hbm, ⟨6, _⟩ => ⟨S176x128, .f32⟩
  | .local _ .vmem, ⟨0, _⟩ => ⟨S176x128, .f32⟩
  | .local _ .vmem, ⟨1, _⟩ => ⟨S176x128, .f32⟩
  | .local _ .vmem, ⟨2, _⟩ => ⟨S176x128, .f32⟩
  | .local _ .vmem, ⟨3, _⟩ => ⟨S176x128, .f32⟩
  | .local _ .vmem, ⟨4, _⟩ => ⟨S176x128, .f32⟩
  | .local _ .vmem, ⟨5, _⟩ => ⟨S176x128, .f32⟩
  | .local _ .vmem, ⟨6, _⟩ => ⟨S176x128, .f32⟩
  | _, _ => ⟨S176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference20Ideal.lean ====
abbrev S176x128 : Shape := ⟨2, ![176, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S176x128, .f32⟩
  | .hbm, ⟨1, _⟩ => ⟨S176x128, .f32⟩
  | .hbm, ⟨2, _⟩ => ⟨S176x128, .f32⟩
  | .hbm, ⟨3, _⟩ => ⟨S176x128, .f32⟩
  | .hbm, ⟨4, _⟩ => ⟨S_, .f32⟩
  | .hbm, ⟨5, _⟩ => ⟨S176x128, .f32⟩
  | .hbm, ⟨6, _⟩ => ⟨S176x128, .f32⟩
  | .hbm, ⟨7, _⟩ => ⟨S_, .f32⟩
  | .hbm, ⟨8, _⟩ => ⟨S176x128, .f32⟩
  | .hbm, ⟨9, _⟩ => ⟨S176x128, .f32⟩
  | .hbm, ⟨10, _⟩ => ⟨S176x128, .f32⟩
  | .hbm, ⟨11, _⟩ => ⟨S_, .f32⟩
  | .hbm, ⟨12, _⟩ => ⟨S176x128, .f32⟩
  | .hbm, ⟨13, _⟩ => ⟨S176x128, .f32⟩
  | .hbm, ⟨14, _⟩ => ⟨S176x128, .f32⟩
  | .hbm, ⟨15, _⟩ => ⟨S_, .f32⟩
  | .hbm, ⟨16, _⟩ => ⟨S176x128, .f32⟩
  | .hbm, ⟨17, _⟩ => ⟨S176x128, .f32⟩
  | .hbm, ⟨18, _⟩ => ⟨S176x128, .f32⟩
  | .hbm, ⟨19, _⟩ => ⟨S_, .f32⟩
  | .hbm, ⟨20, _⟩ => ⟨S176x128, .f32⟩
  | .hbm, ⟨21, _⟩ => ⟨S176x128, .f32⟩
  | .hbm, ⟨22, _⟩ => ⟨S_, .f32⟩
  | .hbm, ⟨23, _⟩ => ⟨S176x128, .f32⟩
  | .hbm, ⟨24, _⟩ => ⟨S176x128, .f32⟩
  | .hbm, ⟨25, _⟩ => ⟨S176x128, .f32⟩
  | .hbm, ⟨26, _⟩ => ⟨S_, .f32⟩
  | .hbm, ⟨27, _⟩ => ⟨S176x128, .f32⟩
  | .hbm, ⟨28, _⟩ => ⟨S176x128, .f32⟩
  | .hbm, ⟨29, _⟩ => ⟨S176x128, .f32⟩
  | .hbm, ⟨30, _⟩ => ⟨S_, .f32⟩
  | .hbm, ⟨31, _⟩ => ⟨S176x128, .f32⟩
  | .hbm, ⟨32, _⟩ => ⟨S176x128, .f32⟩
  | .hbm, ⟨33, _⟩ => ⟨S176x128, .f32⟩
  | .hbm, ⟨34, _⟩ => ⟨S_, .f32⟩
  | .hbm, ⟨35, _⟩ => ⟨S176x128, .f32⟩
  | .hbm, ⟨36, _⟩ => ⟨S176x128, .f32⟩
  | _, _ => ⟨S176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8x2048x128 : Shape := ⟨3, ![8, 2048, 128]⟩
abbrev S8x2048x1 : Shape := ⟨3, ![8, 2048, 1]⟩
abbrev S1x2048x128 : Shape := ⟨3, ![1, 2048, 128]⟩
abbrev S1x2048x1 : Shape := ⟨3, ![1, 2048, 1]⟩
abbrev S2048x1 : Shape := ⟨2, ![2048, 1]⟩
abbrev S2048x128 : Shape := ⟨2, ![2048, 128]⟩

abbrev nBuf : Space → Nat
  | .hbm => 11
  | .vmem => 22
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x1, .f32⟩
  | .hbm, ⟨4, _⟩ => ⟨S8x2048x1, .f32⟩
  | .hbm, ⟨5, _⟩ => ⟨S8x2048x1, .f32⟩
  | .hbm, ⟨6, _⟩ => ⟨S8x2048x1, .f32⟩
  | .hbm, ⟨7, _⟩ => ⟨S8x2048x1, .f32⟩
  | .hbm, ⟨8, _⟩ => ⟨S8x2048x1, .f32⟩
  | .hbm, ⟨9, _⟩ => ⟨S8x2048x128, .f32⟩
  | .hbm, ⟨10, _⟩ => ⟨S8x2048x1, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x1, .f32⟩
  | .local _ .vmem, ⟨7, _⟩ => ⟨S1x2048x1, .f32⟩
  | .local _ .vmem, ⟨8, _⟩ => ⟨S1x2048x1, .f32⟩
  | .local _ .vmem, ⟨9, _⟩ => ⟨S1x2048x1, .f32⟩
  | .local _ .vmem, ⟨10, _⟩ => ⟨S1x2048x1, .f32⟩
  | .local _ .vmem, ⟨11, _⟩ => ⟨S1x2048x1, .f32⟩
  | .local _ .vmem, ⟨12, _⟩ => ⟨S1x2048x1, .f32⟩
  | .local _ .vmem, ⟨13, _⟩ => ⟨S1x2048x1, .f32⟩
  | .local _ .vmem, ⟨14, _⟩ => ⟨S1x2048x1, .f32⟩
  | .local _ .vmem, ⟨15, _⟩ => ⟨S1x2048x1, .f32⟩
  | .local _ .vmem, ⟨16, _⟩ => ⟨S1x2048x1, .f32⟩
  | .local _ .vmem, ⟨17, _⟩ => ⟨S1x2048x1, .f32⟩
  | .local _ .vmem, ⟨18, _⟩ => ⟨S1x2048x128, .f32⟩
  | .local _ .vmem, ⟨19, _⟩ => ⟨S1x2048x128, .f32⟩
  | .local _ .vmem, ⟨20, _⟩ => ⟨S1x2048x1, .f32⟩
  | .local _ .vmem, ⟨21, _⟩ => ⟨S1x2048x1, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference21Ideal.lean ====
abbrev S8x2048x128 : Shape := ⟨3, ![8, 2048, 128]⟩
abbrev S8x2048x1 : Shape := ⟨3, ![8, 2048, 1]⟩
abbrev S1x8x2048x1 : Shape := ⟨4, ![1, 8, 2048, 1]⟩
abbrev S3x8x2048x1 : Shape := ⟨4, ![3, 8, 2048, 1]⟩
abbrev S_ : Shape := ⟨0, ![]⟩
abbrev S1x8x2048x128 : Shape := ⟨4, ![1, 8, 2048, 128]⟩
abbrev S3x8x2048x128 : Shape := ⟨4, ![3, 8, 2048, 128]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x1, .f32⟩
  | .hbm, ⟨4, _⟩ => ⟨S8x2048x1, .f32⟩
  | .hbm, ⟨5, _⟩ => ⟨S8x2048x1, .f32⟩
  | .hbm, ⟨6, _⟩ => ⟨S8x2048x1, .f32⟩
  | .hbm, ⟨7, _⟩ => ⟨S8x2048x1, .f32⟩
  | .hbm, ⟨8, _⟩ => ⟨S8x2048x1, .f32⟩
  | .hbm, ⟨9, _⟩ => ⟨S1x8x2048x1, .f32⟩
  | .hbm, ⟨10, _⟩ => ⟨S1x8x2048x1, .f32⟩
  | .hbm, ⟨11, _⟩ => ⟨S1x8x2048x1, .f32⟩
  | .hbm, ⟨12, _⟩ => ⟨S3x8x2048x1, .f32⟩
  | .hbm, ⟨13, _⟩ => ⟨S_, .f32⟩
  | .hbm, ⟨14, _⟩ => ⟨S8x2048x1, .f32⟩
  | .hbm, ⟨15, _⟩ => ⟨S1x8x2048x1, .f32⟩
  | .hbm, ⟨16, _⟩ => ⟨S3x8x2048x1, .f32⟩
  | .hbm, ⟨17, _⟩ => ⟨S3x8x2048x1, .f32⟩
  | .hbm, ⟨18, _⟩ => ⟨S3x8x2048x1, .f32⟩
  | .hbm, ⟨19, _⟩ => ⟨S1x8x2048x128, .f32⟩
  | .hbm, ⟨20, _⟩ => ⟨S1x8x2048x128, .f32⟩
  | .hbm, ⟨21, _⟩ => ⟨S1x8x2048x128, .f32⟩
  | .hbm, ⟨22, _⟩ => ⟨S3x8x2048x128, .f32⟩
  | .hbm, ⟨23, _⟩ => ⟨S3x8x2048x128, .f32⟩
  | .hbm, ⟨24, _⟩ => ⟨S3x8x2048x128, .f32⟩
  | .hbm, ⟨25, _⟩ => ⟨S_, .f32⟩
  | .hbm, ⟨26, _⟩ => ⟨S8x2048x128, .f32⟩
  | .hbm, ⟨27, _⟩ => ⟨S1x8x2048x1, .f32⟩
  | .hbm, ⟨28, _⟩ => ⟨S1x8x2048x1, .f32⟩
  | .hbm, ⟨29, _⟩ => ⟨S1x8x2048x1, .f32⟩
  | .hbm, ⟨30, _⟩ => ⟨S3x8x2048x1, .f32⟩
  | .hbm, ⟨31, _⟩ => ⟨S3x8x2048x1, .f32⟩
  | .hbm, ⟨32, _⟩ => ⟨S_, .f32⟩
  | .hbm, ⟨33, _⟩ => ⟨S8x2048x1, .f32⟩
  | .hbm, ⟨34, _⟩ => ⟨S8x2048x128, .f32⟩
  | .hbm, ⟨35, _⟩ => ⟨S8x2048x128, .f32⟩
  | .hbm, ⟨36, _⟩ => ⟨S8x2048x1, .f32⟩
  | .hbm, ⟨37, _⟩ => ⟨S8x2048x1, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Swa.RunA.lean ====
module

public import proofs.«01_k».proof.Proof.Gen.KernelIdeal.Frame
public import proofs.«01_k».proof.Proof.Gen.KernelIdeal.Skeleton
public import proofs.«01_k».proof.Proof.Gen.KernelIdeal.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first step of a head's walk over the blocks: the accumulators are cleared. -/
abbrev atStart (i : grid0.Coords) : Prop := (Scalar.cmpi .ne (Scalar.extui (Scalar.cmpi .eq (BitVec.ofNat 32 (i 1).val) 0#32)) 0#32) = 1#1
/-- The last step of a head's walk over the blocks: the sink's gradient is written. -/
abbrev atEnd (i : grid0.Coords) : Prop := k0_cond2 i = 1#1

set_option maxHeartbeats 4000000 in
/-- The body at the first step: what its stores leave in each buffer, as pieces (the newest first). -/
noncomputable def runA (c : Dev nD) (i : grid0.Coords) (arg2 : Memref sig .tc .vmem S8x256x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S8x256x64 .f32) (harg5 : arg5.IsWhole) (arg6 : Memref sig .tc .vmem S8x256x1 .f32) (harg6 : arg6.IsWhole) (arg7 : Memref sig .tc .vmem S8x256x64 .f32) (harg7 : arg7.IsWhole) (arg8 : Memref sig .tc .vmem S1x1024x1 .f32) (harg8 : arg8.IsWhole) (arg9 : Memref sig .tc .vmem S8x256x64 .f32) (harg9 : arg9.IsWhole) (arg10 : Memref sig .tc .vmem S1x2048x64 .f32) (harg10 : arg10.IsWhole) (arg11 : Memref sig .tc .vmem S1x2048x64 .f32) (harg11 : arg11.IsWhole) (arg12 : Memref sig .tc .vmem S1x8x1 .f32) (harg12 : arg12.IsWhole) (arg13 : Memref sig .tc .vmem S1024x1 .f32) (harg13 : arg13.IsWhole)
    (hc0 : atStart i) (hc1 : ¬atEnd i) (ho10 : k0_off1 i 0#32 = ![0, 0, 0]) (ho20 : k0_off2 i 0#32 = ![0, 0, 0]) (ho11 : k0_off1 i 1#32 = ![0, 0, 0]) (ho21 : k0_off2 i 1#32 = ![0, 128, 0])
    (x2 : Vec F S8x256x64 .bf16) (x3 : Vec F S1x2048x64 .bf16) (x4 : Vec F S1x2048x64 .bf16) (x5 : Vec F S8x256x64 .f32) (x6 : Vec F S8x256x1 .f32) (x7 : Vec F S8x256x64 .f32) (x8 : Vec F S1x1024x1 .f32) :
    Σ' (L9 : List (View.Piece (Elt F) S8x256x64 .f32)), Σ' (L10 : List (View.Piece (Elt F) S1x2048x64 .f32)), Σ' (L11 : List (View.Piece (Elt F) S1x2048x64 .f32)), { L13 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg13.view.loc (c : Thread nD τ) ↦[arg13.view.set]{fullShare} arg13.view.writes (Elt F) f L13)) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    letI : ClosedOff (k0_off1 i 0#32) := ⟨![0, 0, 0], ho10⟩
    letI : ClosedOff (k0_off2 i 0#32) := ⟨![0, 0, 0], ho20⟩
    letI : ClosedOff (k0_off1 i 1#32) := ⟨![0, 0, 0], ho11⟩
    letI : ClosedOff (k0_off2 i 1#32) := ⟨![0, 128, 0], ho21⟩
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H13

end Cert.KernelIdeal.Gen

end
-- ==== Proof.Swa.RunB.lean ====
module

public import proofs.«01_k».proof.Proof.Swa.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle step. -/
noncomputable def runB (c : Dev nD) (i : grid0.Coords) (arg2 : Memref sig .tc .vmem S8x256x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S8x256x64 .f32) (harg5 : arg5.IsWhole) (arg6 : Memref sig .tc .vmem S8x256x1 .f32) (harg6 : arg6.IsWhole) (arg7 : Memref sig .tc .vmem S8x256x64 .f32) (harg7 : arg7.IsWhole) (arg8 : Memref sig .tc .vmem S1x1024x1 .f32) (harg8 : arg8.IsWhole) (arg9 : Memref sig .tc .vmem S8x256x64 .f32) (harg9 : arg9.IsWhole) (arg10 : Memref sig .tc .vmem S1x2048x64 .f32) (harg10 : arg10.IsWhole) (arg11 : Memref sig .tc .vmem S1x2048x64 .f32) (harg11 : arg11.IsWhole) (arg12 : Memref sig .tc .vmem S1x8x1 .f32) (harg12 : arg12.IsWhole) (arg13 : Memref sig .tc .vmem S1024x1 .f32) (harg13 : arg13.IsWhole)
    (hc0 : ¬atStart i) (hc1 : ¬atEnd i) (u : ℕ) (ho10 : k0_off1 i 0#32 = ![0, 256 * u + 128, 0]) (ho20 : k0_off2 i 0#32 = ![0, 256 * u + 256, 0]) (ho11 : k0_off1 i 1#32 = ![0, 256 * u + 256, 0]) (ho21 : k0_off2 i 1#32 = ![0, 256 * u + 384, 0])
    (x2 : Vec F S8x256x64 .bf16) (x3 : Vec F S1x2048x64 .bf16) (x4 : Vec F S1x2048x64 .bf16) (x5 : Vec F S8x256x64 .f32) (x6 : Vec F S8x256x1 .f32) (x7 : Vec F S8x256x64 .f32) (x8 : Vec F S1x1024x1 .f32) (x10 : Vec F S1x2048x64 .f32) (x11 : Vec F S1x2048x64 .f32) (x13 : Vec F S1024x1 .f32) :
    Σ' (L9 : List (View.Piece (Elt F) S8x256x64 .f32)), Σ' (L10 : List (View.Piece (Elt F) S1x2048x64 .f32)), Σ' (L11 : List (View.Piece (Elt F) S1x2048x64 .f32)), { L13 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (∃ f, arg13.view.loc (c : Thread nD τ) ↦[arg13.view.set]{fullShare} arg13.view.writes (Elt F) f L13)) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg13.eq_unread hf13
    letI : ClosedOff (k0_off1 i 0#32) := ⟨![0, 256 * u + 128, 0], ho10⟩
    letI : ClosedOff (k0_off2 i 0#32) := ⟨![0, 256 * u + 256, 0], ho20⟩
    letI : ClosedOff (k0_off1 i 1#32) := ⟨![0, 256 * u + 256, 0], ho11⟩
    letI : ClosedOff (k0_off2 i 1#32) := ⟨![0, 256 * u + 384, 0], ho21⟩
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexact H10
    isplitl [H11]; · iexact H11
    iexists _; iexact H13

end Cert.KernelIdeal.Gen

end
-- ==== Proof.Swa.RunC.lean ====
module

public import proofs.«01_k».proof.Proof.Swa.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last step, where the sink's gradient is also written. -/
noncomputable def runC (c : Dev nD) (i : grid0.Coords) (arg2 : Memref sig .tc .vmem S8x256x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S8x256x64 .f32) (harg5 : arg5.IsWhole) (arg6 : Memref sig .tc .vmem S8x256x1 .f32) (harg6 : arg6.IsWhole) (arg7 : Memref sig .tc .vmem S8x256x64 .f32) (harg7 : arg7.IsWhole) (arg8 : Memref sig .tc .vmem S1x1024x1 .f32) (harg8 : arg8.IsWhole) (arg9 : Memref sig .tc .vmem S8x256x64 .f32) (harg9 : arg9.IsWhole) (arg10 : Memref sig .tc .vmem S1x2048x64 .f32) (harg10 : arg10.IsWhole) (arg11 : Memref sig .tc .vmem S1x2048x64 .f32) (harg11 : arg11.IsWhole) (arg12 : Memref sig .tc .vmem S1x8x1 .f32) (harg12 : arg12.IsWhole) (arg13 : Memref sig .tc .vmem S1024x1 .f32) (harg13 : arg13.IsWhole)
    (hc0 : ¬atStart i) (hc1 : atEnd i) (u : ℕ) (ho10 : k0_off1 i 0#32 = ![0, 256 * u + 128, 0]) (ho20 : k0_off2 i 0#32 = ![0, 256 * u + 256, 0]) (ho11 : k0_off1 i 1#32 = ![0, 256 * u + 256, 0]) (ho21 : k0_off2 i 1#32 = ![0, 256 * u + 384, 0])
    (x2 : Vec F S8x256x64 .bf16) (x3 : Vec F S1x2048x64 .bf16) (x4 : Vec F S1x2048x64 .bf16) (x5 : Vec F S8x256x64 .f32) (x6 : Vec F S8x256x1 .f32) (x7 : Vec F S8x256x64 .f32) (x8 : Vec F S1x1024x1 .f32) (x10 : Vec F S1x2048x64 .f32) (x11 : Vec F S1x2048x64 .f32) (x13 : Vec F S1024x1 .f32) :
    Σ' (L9 : List (View.Piece (Elt F) S8x256x64 .f32)), Σ' (L10 : List (View.Piece (Elt F) S1x2048x64 .f32)), Σ' (L11 : List (View.Piece (Elt F) S1x2048x64 .f32)), Σ' (L12 : List (View.Piece (Elt F) S1x8x1 .f32)), { L13 : List (View.Piece (Elt F) S1024x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ (∃ d, owns (c : Thread nD τ) arg12 fullShare d) ∗ owns (c : Thread nD τ) arg13 fullShare x13
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg13.eq_unread hf13
    letI : ClosedOff (k0_off1 i 0#32) := ⟨![0, 256 * u + 128, 0], ho10⟩
    letI : ClosedOff (k0_off2 i 0#32) := ⟨![0, 256 * u + 256, 0], ho20⟩
    letI : ClosedOff (k0_off1 i 1#32) := ⟨![0, 256 * u + 256, 0], ho11⟩
    letI : ClosedOff (k0_off2 i 1#32) := ⟨![0, 256 * u + 384, 0], ho21⟩
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexact H10
    isplitl [H11]; · iexact H11
    isplitl [H12]; · iexists _; iexact H12
    iexists _; iexact H13

end Cert.KernelIdeal.Gen

end
-- ==== Proof.Swa.Body.lean ====
module

public import proofs.«01_k».proof.Proof.Swa.RunC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points: which step, and where its four key rows sit -/

theorem atStart_iff : ∀ t : Fin cfg0.N, atStart (grid0.coords t) ↔ t.val % 8 = 0 :=
  (by decide +kernel : ∀ t : Fin grid0.N, atStart (grid0.coords t) ↔ t.val % 8 = 0)
theorem atEnd_iff : ∀ t : Fin cfg0.N, atEnd (grid0.coords t) ↔ t.val % 8 = 7 :=
  (by decide +kernel : ∀ t : Fin grid0.N, atEnd (grid0.coords t) ↔ t.val % 8 = 7)
theorem off1_0 : ∀ t : Fin cfg0.N, k0_off1 (grid0.coords t) 0#32 = ![0, 256 * (t.val % 8) - 128, 0] :=
  (by decide +kernel : ∀ t : Fin grid0.N, k0_off1 (grid0.coords t) 0#32 = ![0, 256 * (t.val % 8) - 128, 0])
theorem off1_1 : ∀ t : Fin cfg0.N, k0_off1 (grid0.coords t) 1#32 = ![0, 256 * (t.val % 8), 0] :=
  (by decide +kernel : ∀ t : Fin grid0.N, k0_off1 (grid0.coords t) 1#32 = ![0, 256 * (t.val % 8), 0])
theorem off2_0 : ∀ t : Fin cfg0.N, k0_off2 (grid0.coords t) 0#32 = ![0, 256 * (t.val % 8), 0] :=
  (by decide +kernel : ∀ t : Fin grid0.N, k0_off2 (grid0.coords t) 0#32 = ![0, 256 * (t.val % 8), 0])
theorem off2_1 : ∀ t : Fin cfg0.N, k0_off2 (grid0.coords t) 1#32 = ![0, 256 * (t.val % 8) + 128, 0] :=
  (by decide +kernel : ∀ t : Fin grid0.N, k0_off2 (grid0.coords t) 1#32 = ![0, 256 * (t.val % 8) + 128, 0])
abbrev ms_0 (t : Fin cfg0.N) : Memref sig .tc .vmem S8x256x64 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x2048x64 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x2048x64 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S8x256x64 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S8x256x1 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S8x256x64 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x1024x1 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S8x256x64 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x2048x64 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x2048x64 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x8x1 .f32 := win0_10.stage (cfg0.slots t 10)
abbrev hs_10 (t : Fin cfg0.N) : (ms_10 t).IsWhole := hstage0_10 ((cfg0.slots t 10).cast nbuf0_10)
/-- The sink rows' accumulator, carried between the steps. -/
abbrev scM : Memref sig .tc .vmem S1024x1 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The three runs at a point -/

abbrev runA_at (c : Dev nD) (t : Fin cfg0.N) (h0 : t.val % 8 = 0) :=
  runA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM (Memref.isWhole_whole _)
    ((atStart_iff t).mpr h0) (fun h => absurd ((atEnd_iff t).mp h) (by omega))
    ((off1_0 t).trans (by rw [h0])) ((off2_0 t).trans (by rw [h0])) ((off1_1 t).trans (by rw [h0])) ((off2_1 t).trans (by rw [h0]))
    (iblk m c 0 t) (iblk m c 1 t) (iblk m c 2 t) (iblk m c 3 t) (iblk m c 4 t) (iblk m c 5 t) (iblk m c 6 t)

theorem shift10 {n : ℕ} (h : n ≠ 0) : (![0, 256 * n - 128, 0] : Fin 3 → ℕ) = ![0, 256 * (n - 1) + 128, 0] := by
  rw [show 256 * n - 128 = 256 * (n - 1) + 128 by omega]
theorem shift20 {n : ℕ} (h : n ≠ 0) : (![0, 256 * n, 0] : Fin 3 → ℕ) = ![0, 256 * (n - 1) + 256, 0] := by
  rw [show 256 * n = 256 * (n - 1) + 256 by omega]
theorem shift21 {n : ℕ} (h : n ≠ 0) : (![0, 256 * n + 128, 0] : Fin 3 → ℕ) = ![0, 256 * (n - 1) + 384, 0] := by
  rw [show 256 * n + 128 = 256 * (n - 1) + 384 by omega]

abbrev runB_at (c : Dev nD) (t : Fin cfg0.N) (h0 : t.val % 8 ≠ 0) (h7 : t.val % 8 ≠ 7) (x10 x11 : Vec F S1x2048x64 .f32) (x13 : Vec F S1024x1 .f32) :=
  runB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM (Memref.isWhole_whole _)
    (fun h => h0 ((atStart_iff t).mp h)) (fun h => h7 ((atEnd_iff t).mp h)) (t.val % 8 - 1)
    ((off1_0 t).trans (shift10 h0)) ((off2_0 t).trans (shift20 h0)) ((off1_1 t).trans (shift20 h0)) ((off2_1 t).trans (shift21 h0))
    (iblk m c 0 t) (iblk m c 1 t) (iblk m c 2 t) (iblk m c 3 t) (iblk m c 4 t) (iblk m c 5 t) (iblk m c 6 t) x10 x11 x13

abbrev runC_at (c : Dev nD) (t : Fin cfg0.N) (h0 : t.val % 8 ≠ 0) (h7 : t.val % 8 = 7) (x10 x11 : Vec F S1x2048x64 .f32) (x13 : Vec F S1024x1 .f32) :=
  runC c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM (Memref.isWhole_whole _)
    (fun h => h0 ((atStart_iff t).mp h)) ((atEnd_iff t).mpr h7) (t.val % 8 - 1)
    ((off1_0 t).trans (shift10 h0)) ((off2_0 t).trans (shift20 h0)) ((off1_1 t).trans (shift20 h0)) ((off2_1 t).trans (shift21 h0))
    (iblk m c 0 t) (iblk m c 1 t) (iblk m c 2 t) (iblk m c 3 t) (iblk m c 4 t) (iblk m c 5 t) (iblk m c 6 t) x10 x11 x13

/-- What the outputs' buffers and the carried accumulator hold after a point. -/
structure Left (F : FTy → Type) where
  dq : Vec F S8x256x64 .f32
  dk : Vec F S1x2048x64 .f32
  dv : Vec F S1x2048x64 .f32
  ds : Vec F S1x8x1 .f32
  sc : Vec F S1024x1 .f32

/-- A whole buffer's contents from the pieces stored into it. -/
abbrev filled {s : Shape} {e : EltTy} (M : Memref sig .tc .vmem s e) (L : List (View.Piece (Elt F) s e)) : Vec F s e :=
  M.view.read (Elt F) (M.view.writes (Elt F) M.view.junk L)

def leftA (c : Dev nD) (t : Fin cfg0.N) (h0 : t.val % 8 = 0) : Left F where
  dq := filled (ms_7 t) (runA_at m c t h0).1
  dk := filled (ms_8 t) (runA_at m c t h0).2.1
  dv := filled (ms_9 t) (runA_at m c t h0).2.2.1
  ds := (ms_10 t).view.read (Elt F) (ms_10 t).view.junk
  sc := filled scM (runA_at m c t h0).2.2.2.1

def leftB (c : Dev nD) (t : Fin cfg0.N) (h0 : t.val % 8 ≠ 0) (h7 : t.val % 8 ≠ 7) (p : Left F) : Left F where
  dq := filled (ms_7 t) (runB_at m c t h0 h7 p.dk p.dv p.sc).1
  dk := (ms_8 t).view.read (Elt F) ((ms_8 t).view.writes (Elt F) ((hs_8 t).unread p.dk) (runB_at m c t h0 h7 p.dk p.dv p.sc).2.1)
  dv := (ms_9 t).view.read (Elt F) ((ms_9 t).view.writes (Elt F) ((hs_9 t).unread p.dv) (runB_at m c t h0 h7 p.dk p.dv p.sc).2.2.1)
  ds := (ms_10 t).view.read (Elt F) (ms_10 t).view.junk
  sc := filled scM (runB_at m c t h0 h7 p.dk p.dv p.sc).2.2.2.1

def leftC (c : Dev nD) (t : Fin cfg0.N) (h0 : t.val % 8 ≠ 0) (h7 : t.val % 8 = 7) (p : Left F) : Left F where
  dq := filled (ms_7 t) (runC_at m c t h0 h7 p.dk p.dv p.sc).1
  dk := (ms_8 t).view.read (Elt F) ((ms_8 t).view.writes (Elt F) ((hs_8 t).unread p.dk) (runC_at m c t h0 h7 p.dk p.dv p.sc).2.1)
  dv := (ms_9 t).view.read (Elt F) ((ms_9 t).view.writes (Elt F) ((hs_9 t).unread p.dv) (runC_at m c t h0 h7 p.dk p.dv p.sc).2.2.1)
  ds := filled (ms_10 t) (runC_at m c t h0 h7 p.dk p.dv p.sc).2.2.2.1
  sc := filled scM (runC_at m c t h0 h7 p.dk p.dv p.sc).2.2.2.2.1

/-- After point `n`: the first step from nothing, a later one from what the point before left. -/
def leftAt (c : Dev nD) : (n : ℕ) → n < cfg0.N → Left F
  | 0, hn => leftA m c ⟨0, hn⟩ (Nat.zero_mod _)
  | n + 1, hn =>
    if h0 : (n + 1) % 8 = 0 then leftA m c ⟨n + 1, hn⟩ h0
    else if h7 : (n + 1) % 8 = 7 then leftC m c ⟨n + 1, hn⟩ h0 h7 (leftAt c n (Nat.lt_of_succ_lt hn))
    else leftB m c ⟨n + 1, hn⟩ h0 h7 (leftAt c n (Nat.lt_of_succ_lt hn))

theorem pred_lt (t : Fin cfg0.N) : t.val - 1 < cfg0.N := Nat.lt_of_le_of_lt (Nat.sub_le _ _) t.isLt

theorem leftAt_A (c : Dev nD) (t : Fin cfg0.N) (h0 : t.val % 8 = 0) : leftAt m c t.val t.isLt = leftA m c t h0 := by
  obtain ⟨n, hn⟩ := t
  cases n with
  | zero => rfl
  | succ n => exact dif_pos h0
theorem leftAt_B (c : Dev nD) (t : Fin cfg0.N) (h0 : t.val % 8 ≠ 0) (h7 : t.val % 8 ≠ 7) :
    leftAt m c t.val t.isLt = leftB m c t h0 h7 (leftAt m c (t.val - 1) (pred_lt t)) := by
  obtain ⟨n, hn⟩ := t
  cases n with
  | zero => exact absurd (Nat.zero_mod _) h0
  | succ n => exact (dif_neg h0).trans (dif_neg h7)
theorem leftAt_C (c : Dev nD) (t : Fin cfg0.N) (h0 : t.val % 8 ≠ 0) (h7 : t.val % 8 = 7) :
    leftAt m c t.val t.isLt = leftC m c t h0 h7 (leftAt m c (t.val - 1) (pred_lt t)) := by
  obtain ⟨n, hn⟩ := t
  cases n with
  | zero => exact absurd (Nat.zero_mod _) h0
  | succ n => exact (dif_neg h0).trans (dif_pos h7)

/-! ## The pieces that cover their buffers -/

theorem whole2 (y : S1024x1.Idx) : y ∈ (Rect.unit (s := S1024x1) ![0, 0] S1024x1.size inb_S1024x1_S1024x1_0_0).set := by
  rw [Rect.mem_set_unit]; intro a; have := (y a).isLt; match a with
  | ⟨0, _⟩ => exact ⟨Nat.zero_le _, by simpa using this⟩
  | ⟨1, _⟩ => exact ⟨Nat.zero_le _, by simpa using this⟩
theorem whole3 (y : S1x2048x64.Idx) : y ∈ (Rect.unit (s := S1x2048x64) ![0, 0, 0] S1x2048x64.size inb_S1x2048x64_S1x2048x64_0_0_0).set := by
  rw [Rect.mem_set_unit]; intro a; have := (y a).isLt; match a with
  | ⟨0, _⟩ => exact ⟨Nat.zero_le _, by simpa using this⟩
  | ⟨1, _⟩ => exact ⟨Nat.zero_le _, by simpa using this⟩
  | ⟨2, _⟩ => exact ⟨Nat.zero_le _, by simpa using this⟩

theorem coverA_dq (c : Dev nD) (t : Fin cfg0.N) (h0 : t.val % 8 = 0) (y : S8x256x64.Idx) :
    ∃ pc ∈ (runA_at m c t h0).1, y ∈ pc.1.set :=
  View.cover_of_tiledL (runA_at m c t h0).1 S8x128x64.size (by sl_kernel_rfl) y
theorem coverA_sc (c : Dev nD) (t : Fin cfg0.N) (h0 : t.val % 8 = 0) (y : S1024x1.Idx) :
    ∃ pc ∈ (runA_at m c t h0).2.2.2.1, y ∈ pc.1.set :=
  ⟨_, List.mem_cons_self .., whole2 y⟩
theorem coverA_dk (c : Dev nD) (t : Fin cfg0.N) (h0 : t.val % 8 = 0) (y : S1x2048x64.Idx) :
    ∃ pc ∈ (runA_at m c t h0).2.1, y ∈ pc.1.set :=
  ⟨_, .tail _ (.tail _ (.tail _ (.tail _ (.head _)))), whole3 y⟩
theorem coverA_dv (c : Dev nD) (t : Fin cfg0.N) (h0 : t.val % 8 = 0) (y : S1x2048x64.Idx) :
    ∃ pc ∈ (runA_at m c t h0).2.2.1, y ∈ pc.1.set :=
  ⟨_, .tail _ (.tail _ (.tail _ (.tail _ (.head _)))), whole3 y⟩
theorem coverB_dq (c : Dev nD) (t : Fin cfg0.N) (h0 : t.val % 8 ≠ 0) (h7 : t.val % 8 ≠ 7) (x10 x11 : Vec F S1x2048x64 .f32) (x13 : Vec F S1024x1 .f32) (y : S8x256x64.Idx) :
    ∃ pc ∈ (runB_at m c t h0 h7 x10 x11 x13).1, y ∈ pc.1.set :=
  View.cover_of_tiledL (runB_at m c t h0 h7 x10 x11 x13).1 S8x128x64.size (by sl_kernel_rfl) y
theorem coverB_sc (c : Dev nD) (t : Fin cfg0.N) (h0 : t.val % 8 ≠ 0) (h7 : t.val % 8 ≠ 7) (x10 x11 : Vec F S1x2048x64 .f32) (x13 : Vec F S1024x1 .f32) (y : S1024x1.Idx) :
    ∃ pc ∈ (runB_at m c t h0 h7 x10 x11 x13).2.2.2.1, y ∈ pc.1.set :=
  ⟨_, List.mem_cons_self .., whole2 y⟩
theorem coverC_dq (c : Dev nD) (t : Fin cfg0.N) (h0 : t.val % 8 ≠ 0) (h7 : t.val % 8 = 7) (x10 x11 : Vec F S1x2048x64 .f32) (x13 : Vec F S1024x1 .f32) (y : S8x256x64.Idx) :
    ∃ pc ∈ (runC_at m c t h0 h7 x10 x11 x13).1, y ∈ pc.1.set :=
  View.cover_of_tiledL (runC_at m c t h0 h7 x10 x11 x13).1 S8x128x64.size (by sl_kernel_rfl) y
theorem coverC_sc (c : Dev nD) (t : Fin cfg0.N) (h0 : t.val % 8 ≠ 0) (h7 : t.val % 8 = 7) (x10 x11 : Vec F S1x2048x64 .f32) (x13 : Vec F S1024x1 .f32) (y : S1024x1.Idx) :
    ∃ pc ∈ (runC_at m c t h0 h7 x10 x11 x13).2.2.2.2.1, y ∈ pc.1.set :=
  ⟨_, List.mem_cons_self .., whole2 y⟩
theorem coverC_ds (c : Dev nD) (t : Fin cfg0.N) (h0 : t.val % 8 ≠ 0) (h7 : t.val % 8 = 7) (x10 x11 : Vec F S1x2048x64 .f32) (x13 : Vec F S1024x1 .f32) (y : S1x8x1.Idx) :
    ∃ pc ∈ (runC_at m c t h0 h7 x10 x11 x13).2.2.2.1, y ∈ pc.1.set :=
  View.cover_of_tiledL (runC_at m c t h0 h7 x10 x11 x13).2.2.2.1 S1x1x1.size (by sl_kernel_rfl) y

/-! ## The invariant and the pipeline's data -/

/-- Before position `n`: the carried accumulator at what the point before left (at anything at first). -/
def PhiS (c : Dev nD) : (n : ℕ) → n ≤ cfg0.N → sProp 𝕄
  | 0, _ => Pipeline.ΦA spec0 c
  | n + 1, hn => iprop(iprop(owns (c : Thread nD τ) scM fullShare (leftAt m c n hn).sc) ∗ (∃ r, prngReg c r))

theorem PhiS_succ (c : Dev nD) (n : ℕ) (hn : n < cfg0.N) :
    PhiS m c (n + 1) hn = iprop(iprop(owns (c : Thread nD τ) scM fullShare (leftAt m c n hn).sc) ∗ (∃ r, prngReg c r)) := rfl
theorem PhiS_pos (c : Dev nD) (n : ℕ) (h : n ≤ cfg0.N) (hz : n ≠ 0) :
    PhiS m c n h = iprop(iprop(owns (c : Thread nD τ) scM fullShare (leftAt m c (n - 1) (by omega)).sc) ∗ (∃ r, prngReg c r)) := by
  cases n with
  | zero => exact absurd rfl hz
  | succ n => rfl
/-- At any position the accumulator is held at something. -/
theorem PhiS_any (c : Dev nD) (n : ℕ) (h : n ≤ cfg0.N) : PhiS m c n h ⊢ (Pipeline.ΦA spec0 c : sProp 𝕄) := by
  cases n with
  | zero => exact .rfl
  | succ n =>
    rw [PhiS_succ, PhiA_eq]
    iintro ⟨H, Hg⟩
    isplitl [H]; · iexists _; iexact H
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (leftAt m c t.val t.isLt).dq
    | ⟨8, _⟩ => (leftAt m c t.val t.isLt).dk
    | ⟨9, _⟩ => (leftAt m c t.val t.isLt).dv
    | ⟨10, _⟩ => (leftAt m c t.val t.isLt).ds
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (leftAt m c t.val t.isLt).dq := by dsimp only [dats]
theorem after_8 (c : Dev nD) (t : Fin cfg0.N) : (dats m 0 c).after 8 t = (leftAt m c t.val t.isLt).dk := by dsimp only [dats]
theorem after_9 (c : Dev nD) (t : Fin cfg0.N) : (dats m 0 c).after 9 t = (leftAt m c t.val t.isLt).dv := by dsimp only [dats]
theorem after_10 (c : Dev nD) (t : Fin cfg0.N) : (dats m 0 c).after 10 t = (leftAt m c t.val t.isLt).ds := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_8 (c : Dev nD) (t : Fin cfg0.N) (h0 : t.val % 8 ≠ 0) (d) :
    (dats m 0 c).before 8 t d = (leftAt m c (t.val - 1) (pred_lt t)).dk := by
  rw [(dats m 0 c).before_out_kept 8 rfl t (fun h => h0 (by rw [h])) (Bool.eq_false_iff.mpr fun h => by
    have := (flush0_8 ⟨t.val - 1, _⟩).mp h; dsimp only at this; omega) (fun _ => rfl) (fun _ _ => rfl) d, after_8]
theorem before_9 (c : Dev nD) (t : Fin cfg0.N) (h0 : t.val % 8 ≠ 0) (d) :
    (dats m 0 c).before 9 t d = (leftAt m c (t.val - 1) (pred_lt t)).dv := by
  rw [(dats m 0 c).before_out_kept 9 rfl t (fun h => h0 (by rw [h])) (Bool.eq_false_iff.mpr fun h => by
    have := (flush0_9 ⟨t.val - 1, _⟩).mp h; dsimp only at this; omega) (fun _ => rfl) (fun _ _ => rfl) d, after_9]

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin cfg0.N) : (dats m 0 c).leavesExact 0 t = owns (c : Thread nD τ) (ms_0 t) fullShare ((dats m 0 c).after 0 t) := by
  unfold Dat.leavesExact; rw [show cfg0.idle 0 (cfg0.grid.coords t) = false from rfl]
theorem leaves_1 (c : Dev nD) (t : Fin cfg0.N) : (dats m 0 c).leavesExact 1 t = owns (c : Thread nD τ) (ms_1 t) fullShare ((dats m 0 c).after 1 t) := by
  unfold Dat.leavesExact; rw [show cfg0.idle 1 (cfg0.grid.coords t) = false from rfl]
theorem leaves_2 (c : Dev nD) (t : Fin cfg0.N) : (dats m 0 c).leavesExact 2 t = owns (c : Thread nD τ) (ms_2 t) fullShare ((dats m 0 c).after 2 t) := by
  unfold Dat.leavesExact; rw [show cfg0.idle 2 (cfg0.grid.coords t) = false from rfl]
theorem leaves_3 (c : Dev nD) (t : Fin cfg0.N) : (dats m 0 c).leavesExact 3 t = owns (c : Thread nD τ) (ms_3 t) fullShare ((dats m 0 c).after 3 t) := by
  unfold Dat.leavesExact; rw [show cfg0.idle 3 (cfg0.grid.coords t) = false from rfl]
theorem leaves_4 (c : Dev nD) (t : Fin cfg0.N) : (dats m 0 c).leavesExact 4 t = owns (c : Thread nD τ) (ms_4 t) fullShare ((dats m 0 c).after 4 t) := by
  unfold Dat.leavesExact; rw [show cfg0.idle 4 (cfg0.grid.coords t) = false from rfl]
theorem leaves_5 (c : Dev nD) (t : Fin cfg0.N) : (dats m 0 c).leavesExact 5 t = owns (c : Thread nD τ) (ms_5 t) fullShare ((dats m 0 c).after 5 t) := by
  unfold Dat.leavesExact; rw [show cfg0.idle 5 (cfg0.grid.coords t) = false from rfl]
theorem leaves_6 (c : Dev nD) (t : Fin cfg0.N) : (dats m 0 c).leavesExact 6 t = owns (c : Thread nD τ) (ms_6 t) fullShare ((dats m 0 c).after 6 t) := by
  unfold Dat.leavesExact; rw [show cfg0.idle 6 (cfg0.grid.coords t) = false from rfl]
theorem leaves_7 (c : Dev nD) (t : Fin cfg0.N) : (dats m 0 c).leavesExact 7 t = owns (c : Thread nD τ) (ms_7 t) fullShare ((dats m 0 c).after 7 t) := by
  unfold Dat.leavesExact; rw [show cfg0.idle 7 (cfg0.grid.coords t) = false from rfl]
theorem leaves_8 (c : Dev nD) (t : Fin cfg0.N) : (dats m 0 c).leavesExact 8 t = owns (c : Thread nD τ) (ms_8 t) fullShare ((dats m 0 c).after 8 t) := by
  unfold Dat.leavesExact; rw [show cfg0.idle 8 (cfg0.grid.coords t) = false from rfl]
theorem leaves_9 (c : Dev nD) (t : Fin cfg0.N) : (dats m 0 c).leavesExact 9 t = owns (c : Thread nD τ) (ms_9 t) fullShare ((dats m 0 c).after 9 t) := by
  unfold Dat.leavesExact; rw [show cfg0.idle 9 (cfg0.grid.coords t) = false from rfl]
theorem leaves_10_idle (c : Dev nD) (t : Fin cfg0.N) (h7 : t.val % 8 ≠ 7) :
    (dats m 0 c).leavesExact 10 t = iprop(∃ d, owns (c : Thread nD τ) (ms_10 t) fullShare ((dats m 0 c).before 10 t d)) :=
  (dats m 0 c).leavesExact_idle 10 t (by
    have := mt (atEnd_iff t).mp h7
    show (!(k0_cond2 (grid0.coords t) == 1#1)) = true
    simpa using this) (Bool.eq_false_iff.mpr fun h => h7 ((flush0_10 t).mp h))
theorem leaves_10_live (c : Dev nD) (t : Fin cfg0.N) (h7 : t.val % 8 = 7) :
    (dats m 0 c).leavesExact 10 t = owns (c : Thread nD τ) (ms_10 t) fullShare ((dats m 0 c).after 10 t) := by
  have h : cfg0.idle 10 (cfg0.grid.coords t) = false := by
    have := (atEnd_iff t).mpr h7
    show (!(k0_cond2 (grid0.coords t) == 1#1)) = false
    simpa using this
  unfold Dat.leavesExact; rw [h]

set_option maxHeartbeats 4800000 in
theorem sound_A (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_0, leaves_1, leaves_2, leaves_3, leaves_4, leaves_5, leaves_6, leaves_7, leaves_8, leaves_9, leaves_10_idle m c t (by omega)]
  rw [after_0, after_1, after_2, after_3, after_4, after_5, after_6, after_7, after_8, after_9]
  rw [leftAt_A m c t h0]
  refine (sep_mono_l (PhiS_any m c t.val _)).trans ?_
  rw [PhiA_eq]
  show (iprop(_ ∗ _) : sProp 𝕄) ⊢ _
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA_at m c t h0).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS]; · iexact HS
  iintro ⟨H0, H1, H2, H3, H4, H5, H6, ⟨%e7, H7⟩, ⟨%e8, H8⟩, ⟨%e9, H9⟩, ⟨%es, HS⟩⟩
  isplitl [HS Hg]
  · isplitl [HS]
    · unfold owns; iexists _; isplitr
      swap; · iexact HS
      ipureintro; exact View.read_writes_of_cover scM.view es scM.view scM.view.junk _ (coverA_sc m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverA_dq m c t h0)
  isplitl [H8]
  · unfold owns; iexists _; isplitr
    swap; · iexact H8
    ipureintro; exact View.read_writes_of_cover _ _ _ _ _ (coverA_dk m c t h0)
  isplitl [H9]
  · unfold owns; iexists _; isplitr
    swap; · iexact H9
    ipureintro; exact View.read_writes_of_cover _ _ _ _ _ (coverA_dv m c t h0)
  iexists _; iexact H10

set_option maxHeartbeats 4800000 in
theorem sound_B (c : Dev nD) (t : Fin cfg0.N) (h0 : t.val % 8 ≠ 0) (h7 : t.val % 8 ≠ 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  simp only [before_8 m c t h0, before_9 m c t h0]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_0, leaves_1, leaves_2, leaves_3, leaves_4, leaves_5, leaves_6, leaves_7, leaves_8, leaves_9, leaves_10_idle m c t h7]
  rw [after_0, after_1, after_2, after_3, after_4, after_5, after_6, after_7, after_8, after_9]
  rw [leftAt_B m c t h0 h7]
  rw [PhiS_pos m c _ _ (fun h => h0 (by rw [h]))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB_at m c t h0 h7 (leftAt m c (t.val - 1) (pred_lt t)).dk (leftAt m c (t.val - 1) (pred_lt t)).dv (leftAt m c (t.val - 1) (pred_lt t)).sc).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS]; · iexact HS
  iintro ⟨H0, H1, H2, H3, H4, H5, H6, ⟨%e7, H7⟩, H8, H9, ⟨%es, HS⟩⟩
  isplitl [HS Hg]
  · isplitl [HS]
    · unfold owns; iexists _; isplitr
      swap; · iexact HS
      ipureintro; exact View.read_writes_of_cover scM.view es scM.view scM.view.junk _ (coverB_sc m c t h0 h7 (leftAt m c (t.val - 1) (pred_lt t)).dk (leftAt m c (t.val - 1) (pred_lt t)).dv (leftAt m c (t.val - 1) (pred_lt t)).sc)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverB_dq m c t h0 h7 _ _ _)
  isplitl [H8]
  · unfold owns; iexists _; isplitr
    swap; · iexact H8
    ipureintro; rfl
  isplitl [H9]
  · unfold owns; iexists _; isplitr
    swap; · iexact H9
    ipureintro; rfl
  iexists _; iexact H10

set_option maxHeartbeats 4800000 in
theorem sound_C (c : Dev nD) (t : Fin cfg0.N) (h0 : t.val % 8 ≠ 0) (h7 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  simp only [before_8 m c t h0, before_9 m c t h0]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves_0, leaves_1, leaves_2, leaves_3, leaves_4, leaves_5, leaves_6, leaves_7, leaves_8, leaves_9, leaves_10_live m c t h7]
  rw [after_0, after_1, after_2, after_3, after_4, after_5, after_6, after_7, after_8, after_9, after_10]
  rw [leftAt_C m c t h0 h7]
  rw [PhiS_pos m c _ _ (fun h => h0 (by rw [h]))]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC_at m c t h0 h7 (leftAt m c (t.val - 1) (pred_lt t)).dk (leftAt m c (t.val - 1) (pred_lt t)).dv (leftAt m c (t.val - 1) (pred_lt t)).sc).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexists _; iexact H10
  isplitl [HS]; · iexact HS
  iintro ⟨H0, H1, H2, H3, H4, H5, H6, ⟨%e7, H7⟩, H8, H9, ⟨%e10, H10⟩, ⟨%es, HS⟩⟩
  isplitl [HS Hg]
  · isplitl [HS]
    · unfold owns; iexists _; isplitr
      swap; · iexact HS
      ipureintro; exact View.read_writes_of_cover scM.view es scM.view scM.view.junk _ (coverC_sc m c t h0 h7 (leftAt m c (t.val - 1) (pred_lt t)).dk (leftAt m c (t.val - 1) (pred_lt t)).dv (leftAt m c (t.val - 1) (pred_lt t)).sc)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (coverC_dq m c t h0 h7 _ _ _)
  isplitl [H8]
  · unfold owns; iexists _; isplitr
    swap; · iexact H8
    ipureintro; rfl
  isplitl [H9]
  · unfold owns; iexists _; isplitr
    swap; · iexact H9
    ipureintro; rfl
  unfold owns; iexists _; isplitr
  swap; · iexact H10
  ipureintro; exact View.read_writes_of_cover _ _ _ _ _ (coverC_ds m c t h0 h7 _ _ _)

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_A m c t h0
  · by_cases h7 : t.val % 8 = 7
    · exact sound_C m c t h0 h7
    · exact sound_B m c t h0 h7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every weakly fair execution ends, with every array of the pipeline at what the data above compute, every other
    buffer as the region found it, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl) (hout := fun c => PhiS_any m c cfg0.N le_rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem swa_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Mlp.Run.lean ====
/- The whole MLP run over any floats, with every unscoped buffer named at its end: `W5`, the chain of valuations the
   four regions leave one after another. -/
module

public import proofs.«01_k».proof.Proof.Gen.Kernel2Ideal.Frame

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the end of the run the two result arrays hold what `W5` says, and the arguments are as launched. -/
theorem run_values : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v8 (by decide)),
       h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Kernel2Ideal.Gen

end
-- ==== Proof.Mm.lean ====
/- The three matrix products of a dense layer and its gradients, over the extended reals, and a weight held as eight
   shards. -/
module

public import Idealize.ShloMosaic.Lib.Pointwise

@[expose] public section

noncomputable section

namespace Cert.Mm

open Idealize.ShloMosaic

/-- A matrix of extended reals. -/
abbrev Mat (M N : ℕ) : Type := (⟨2, ![M, N]⟩ : Shape).Idx → EReal

/-- `a · b`. -/
def nn {M K N : ℕ} (a : Mat M K) (b : Mat K N) : Mat M N := fun i => ∑ k : Fin K, a (ix2 (i 0) k) * b (ix2 k (i 1))

/-- `a · bᵀ`. -/
def nt {M K N : ℕ} (a : Mat M K) (b : Mat N K) : Mat M N := fun i => ∑ k : Fin K, a (ix2 (i 0) k) * b (ix2 (i 1) k)

/-- `aᵀ · b`. -/
def tn {M K N : ℕ} (a : Mat K M) (b : Mat K N) : Mat M N := fun i => ∑ k : Fin K, a (ix2 k (i 0)) * b (ix2 k (i 1))

/-- A weight held as column shards, put together: shard `s` holds the columns from `n·s`. -/
def ofCols {S K n N : ℕ} (h : N = S * n) (w : (⟨4, ![S, 1, K, n]⟩ : Shape).Idx → EReal) : Mat K N := fun i =>
  have hi : (i 1).val < S * n := lt_of_lt_of_eq (i 1).isLt h
  w (ix4 ⟨(i 1).val / n, Nat.div_lt_of_lt_mul (by rwa [Nat.mul_comm] at hi)⟩ (0 : Fin 1) (i 0)
    ⟨(i 1).val % n, Nat.mod_lt _ (Nat.pos_of_lt_mul_left hi)⟩)

/-- A weight held as row shards, put together: shard `s` holds the rows from `n·s`. -/
def ofRows {S n K N : ℕ} (h : N = S * n) (w : (⟨4, ![S, 1, n, K]⟩ : Shape).Idx → EReal) : Mat N K := fun i =>
  have hi : (i 0).val < S * n := lt_of_lt_of_eq (i 0).isLt h
  w (ix4 ⟨(i 0).val / n, Nat.div_lt_of_lt_mul (by rwa [Nat.mul_comm] at hi)⟩ (0 : Fin 1)
    ⟨(i 0).val % n, Nat.mod_lt _ (Nat.pos_of_lt_mul_left hi)⟩ (i 1))

/-- A matrix cut into column shards. -/
def toCols {S K n N : ℕ} (h : N = S * n) (w : Mat K N) : (⟨3, ![S, K, n]⟩ : Shape).Idx → EReal := fun i =>
  w (ix2 (i 1) ⟨(i 0).val * n + (i 2).val, by
    have h0 : (i 0).val < S := (i 0).isLt
    have h2 : (i 2).val < n := (i 2).isLt
    rw [h]; calc (i 0).val * n + (i 2).val < ((i 0).val + 1) * n := by rw [Nat.succ_mul]; omega
      _ ≤ S * n := Nat.mul_le_mul_right n h0⟩)

/-- The square of the positive part. -/
def relu2 (x : EReal) : EReal := max x 0 * max x 0

/-- Twice the positive part: the derivative of its square. The two is the program's own constant. -/
def twoPos (x : EReal) : EReal := Ideal.ofBits .f32 0x40000000#32 * max x 0

/-- A sum over `S·n` terms, taken in `S` blocks of `n`. -/
theorem sum_blocks (S n : ℕ) (f : ℕ → EReal) :
    ∑ s ∈ Finset.range S, ∑ k : Fin n, f (s * n + k.val) = ∑ k : Fin (S * n), f k.val := by
  rw [← Finset.sum_range (fun k => f k)]
  induction S with
  | zero => simp
  | succ S ih =>
    rw [Finset.sum_range_succ, ih, Nat.succ_mul, Finset.sum_range_add, ← Finset.sum_range (fun k => f (S * n + k))]

end Cert.Mm

end
-- ==== Proof.Mlp.Regions.lean ====
/- What each region of the MLP program leaves in its output arrays, at the extended reals, whatever the arrays held
   when the region began. -/
module

public import proofs.«01_k».proof.Proof.Gen.Kernel2Ideal.Frame
public import Idealize.ShloMosaic.Lib.Pipeline.Value
public import Idealize.ShloMosaic.Lib.Pointwise
public import proofs.«01_k».proof.Proof.Mm
public import Idealize.ShloMosaic.Lib.ValueIdx

@[expose] public section

set_option maxRecDepth 16384

noncomputable section

namespace Cert.Kernel2Ideal.Gen

open Idealize.ShloMosaic Idealize.ShloMosaic.TcCoe Idealize.SL.Sem

variable (V : (c : Dev nD) → (b : Ref sig .tc) → Buf (Elt Ideal) ((c : Thread nD τ).loc b))

/-! ## Region 1: the gradient of the second weight -/

/-- Region 1's tile product at an entry. -/
theorem tile1_apply (a b : Vec Ideal S2048x1024 .bf16) (j : S1024x1024.Idx) :
    out1_2 a b j = ∑ k : Fin 2048, a (ix2 k (j 0)) * b (ix2 k (j 1)) := by
  unfold out1_2
  rw [View.canon_unit_zero (by funext a; fin_cases a <;> rfl)]
  rw [View.ld_unit_zero (by funext a; fin_cases a <;> rfl), View.ld_unit_zero (by funext a; fin_cases a <;> rfl)]
  pointwise [k1_pay1]

/-- Where region 1's windows stand at a point. -/
theorem at1 : ∀ t : Fin cfg1.N, win1_0.index t (0 : Fin 2) = 0 ∧ win1_1.index t (0 : Fin 2) = 0
    ∧ win1_0.index t (1 : Fin 2) = win1_2.index t (0 : Fin 2) ∧ win1_1.index t (1 : Fin 2) = win1_2.index t (1 : Fin 2)
    ∧ win1_2.index t (0 : Fin 2) = t.val / 2 ∧ win1_2.index t (1 : Fin 2) = t.val % 2 :=
  (by decide +kernel : ∀ t : Fin grid1.N, _)

/-- What region 1 leaves in its output array: the transposed product of its two input arrays. -/
theorem arr1 (c : Dev nD) : (dat1 V c).arrAt 2 cfg1.N = Mm.tn (V c main_v7_1) (V c main_v1) := by
  refine (dat1 V c).arrAt_eq_of_cover 2 _ (fun t _ => ?_) (fun i => ?_)
  · show (cfg1.win 2).cut (grid1.coords t) ((dat1 V c).after 2 t) = _
    rw [after1_2]
    obtain ⟨e1, e2, e3, e4, e5, e6⟩ := at1 t
    funext y
    show _ = Mm.tn (V c main_v7_1) (V c main_v1) (((cfg1.win 2).blk t).view.emb y)
    unfold Mm.tn
    refine (tile1_apply _ _ y).trans (Finset.sum_congr rfl fun k _ => ?_)
    refine congrArg₂ (· * ·) (congrArg (V c main_v7_1) ?_) (congrArg (V c main_v1) ?_)
    · funext a; apply Fin.ext
      match a with
      | ⟨0, _⟩ => show win1_0.index t (0 : Fin 2) * 2048 + 1 * k.val = k.val; omega
      | ⟨1, _⟩ => show win1_0.index t (1 : Fin 2) * 1024 + 1 * (y 0).val = win1_2.index t (0 : Fin 2) * 1024 + 1 * (y 0).val; omega
    · funext a; apply Fin.ext
      match a with
      | ⟨0, _⟩ => show win1_1.index t (0 : Fin 2) * 2048 + 1 * k.val = k.val; omega
      | ⟨1, _⟩ => show win1_1.index t (1 : Fin 2) * 1024 + 1 * (y 1).val = win1_2.index t (1 : Fin 2) * 1024 + 1 * (y 1).val; omega
  · have hi0 : (i 0).val < 8192 := (i 0).isLt
    have hi1 : (i 1).val < 2048 := (i 1).isLt
    let t : Fin cfg1.N := ⟨2 * ((i 0).val / 1024) + (i 1).val / 1024, lt_of_lt_of_eq (by omega) (show 16 = cfg1.N from N_1.symm)⟩
    obtain ⟨e1, e2, e3, e4, e5, e6⟩ := at1 t
    have ht : t.val = 2 * ((i 0).val / 1024) + (i 1).val / 1024 := rfl
    refine ⟨t, flush1_2 t, ?_⟩
    show i ∈ ((View.whole main_v8).slice (win1_2.rect t)).set
    rw [View.set_slice_whole, Rect.mem_set_unit]
    intro a
    match a with
    | ⟨0, _⟩ => show win1_2.index t (0 : Fin 2) * 1024 ≤ (i 0).val ∧ (i 0).val < win1_2.index t (0 : Fin 2) * 1024 + 1024; omega
    | ⟨1, _⟩ => show win1_2.index t (1 : Fin 2) * 1024 ≤ (i 1).val ∧ (i 1).val < win1_2.index t (1 : Fin 2) * 1024 + 1024; omega

/-! ## Region 0: the first product and the squared positive part -/

/-- Region 0's tile product at an entry. -/
theorem tile0_apply (a : Vec Ideal S1024x2048 .bf16) (b : Vec Ideal S1x1x2048x1024 .bf16) (j : S1024x1024.Idx) :
    out0_2 a b j = ∑ k : Fin 2048, a (ix2 (j 0) k) * b (ix4 (0 : Fin 1) (0 : Fin 1) k (j 1)) := by
  unfold out0_2
  rw [View.canon_unit_zero (by funext a; fin_cases a <;> rfl)]
  rw [View.ld_unit_zero (by funext a; fin_cases a <;> rfl), View.ld_unit_zero (by funext a; fin_cases a <;> rfl)]
  pointwise [k0_pay1]

/-- Region 0's second tile at an entry: the first one's squared positive part. -/
theorem tile0_3_apply (a : Vec Ideal S1024x2048 .bf16) (b : Vec Ideal S1x1x2048x1024 .bf16) (j : S1024x1024.Idx) :
    out0_3 a b j = Mm.relu2 (∑ k : Fin 2048, a (ix2 (j 0) k) * b (ix4 (0 : Fin 1) (0 : Fin 1) k (j 1))) := by
  unfold out0_3
  rw [View.canon_unit_zero (by funext a; fin_cases a <;> rfl)]
  rw [View.ld_unit_zero (by funext a; fin_cases a <;> rfl), View.ld_unit_zero (by funext a; fin_cases a <;> rfl)]
  unfold Mm.relu2
  pointwise [k0_pay2, k0_pay1]

/-- Where region 0's windows stand at a point. -/
theorem at0 : ∀ t : Fin cfg0.N, win0_0.index t (0 : Fin 2) = win0_2.index t (0 : Fin 2)
    ∧ win0_0.index t (1 : Fin 2) = 0
    ∧ win0_1.index t (0 : Fin 4) = win0_2.index t (1 : Fin 2)
    ∧ win0_1.index t (1 : Fin 4) = 0
    ∧ win0_1.index t (2 : Fin 4) = 0
    ∧ win0_1.index t (3 : Fin 4) = 0
    ∧ win0_2.index t (0 : Fin 2) = t.val / 8
    ∧ win0_2.index t (1 : Fin 2) = t.val % 8
    ∧ win0_3.index t (0 : Fin 2) = t.val / 8
    ∧ win0_3.index t (1 : Fin 2) = t.val % 8 :=
  (by decide +kernel : ∀ t : Fin grid0.N, _)

/-- What region 0 leaves in its output array 2. -/
theorem arr0_2 (c : Dev nD) : (dat0 V c).arrAt 2 cfg0.N = Mm.nn (V c main_v0) (Mm.ofCols (rfl : 8192 = 8 * 1024) (V c main_v4)) := by
  refine (dat0 V c).arrAt_eq_of_cover 2 _ (fun t _ => ?_) (fun i => ?_)
  · show (cfg0.win 2).cut (grid0.coords t) ((dat0 V c).after 2 t) = _
    rw [after0_2]
    obtain ⟨e0, e1, e2, e3, e4, e5, e6, e7, e8, e9⟩ := at0 t
    funext y
    show _ = Mm.nn (V c main_v0) (Mm.ofCols (rfl : 8192 = 8 * 1024) (V c main_v4)) (((cfg0.win 2).blk t).view.emb y)
    unfold Mm.nn Mm.ofCols
    refine (tile0_apply _ _ y).trans (Finset.sum_congr rfl fun k _ => ?_)
    have hy : (y 1).val < 1024 := (y 1).isLt
    refine congrArg₂ (· * ·) (congrArg (V c main_v0) ?_) (congrArg (V c main_v4) ?_)
    · funext a; apply Fin.ext
      match a with
      | ⟨0, _⟩ => show win0_0.index t (0 : Fin 2) * 1024 + 1 * (y 0).val = (win0_2.index t (0 : Fin 2) * 1024 + 1 * (y 0).val); omega
      | ⟨1, _⟩ => show win0_0.index t (1 : Fin 2) * 2048 + 1 * k.val = k.val; omega
    · funext a; apply Fin.ext
      match a with
      | ⟨0, _⟩ => show win0_1.index t (0 : Fin 4) * 1 + 1 * 0 = (win0_2.index t (1 : Fin 2) * 1024 + 1 * (y 1).val) / 1024; omega
      | ⟨1, _⟩ => show win0_1.index t (1 : Fin 4) * 1 + 1 * 0 = 0; omega
      | ⟨2, _⟩ => show win0_1.index t (2 : Fin 4) * 2048 + 1 * k.val = k.val; omega
      | ⟨3, _⟩ => show win0_1.index t (3 : Fin 4) * 1024 + 1 * (y 1).val = (win0_2.index t (1 : Fin 2) * 1024 + 1 * (y 1).val) % 1024; omega
  · have hi0 : (i 0).val < 2048 := (i 0).isLt
    have hi1 : (i 1).val < 8192 := (i 1).isLt
    let t : Fin cfg0.N := ⟨8 * ((i 0).val / 1024) + (i 1).val / 1024, lt_of_lt_of_eq (by omega) (show 16 = cfg0.N from N_0.symm)⟩
    obtain ⟨e0, e1, e2, e3, e4, e5, e6, e7, e8, e9⟩ := at0 t
    have ht : t.val = 8 * ((i 0).val / 1024) + (i 1).val / 1024 := rfl
    refine ⟨t, flush0_2 t, ?_⟩
    show i ∈ ((View.whole main_v7_0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-- What region 0 leaves in its output array 3. -/
theorem arr0_3 (c : Dev nD) : (dat0 V c).arrAt 3 cfg0.N = fun i => Mm.relu2 (Mm.nn (V c main_v0) (Mm.ofCols (rfl : 8192 = 8 * 1024) (V c main_v4)) i) := by
  refine (dat0 V c).arrAt_eq_of_cover 3 _ (fun t _ => ?_) (fun i => ?_)
  · show (cfg0.win 3).cut (grid0.coords t) ((dat0 V c).after 3 t) = _
    rw [after0_3]
    obtain ⟨e0, e1, e2, e3, e4, e5, e6, e7, e8, e9⟩ := at0 t
    funext y
    show _ = Mm.relu2 (Mm.nn (V c main_v0) (Mm.ofCols (rfl : 8192 = 8 * 1024) (V c main_v4)) (((cfg0.win 3).blk t).view.emb y))
    unfold Mm.nn Mm.ofCols
    refine (tile0_3_apply _ _ y).trans (congrArg Mm.relu2 (Finset.sum_congr rfl fun k _ => ?_))
    have hy : (y 1).val < 1024 := (y 1).isLt
    refine congrArg₂ (· * ·) (congrArg (V c main_v0) ?_) (congrArg (V c main_v4) ?_)
    · funext a; apply Fin.ext
      match a with
      | ⟨0, _⟩ => show win0_0.index t (0 : Fin 2) * 1024 + 1 * (y 0).val = (win0_3.index t (0 : Fin 2) * 1024 + 1 * (y 0).val); omega
      | ⟨1, _⟩ => show win0_0.index t (1 : Fin 2) * 2048 + 1 * k.val = k.val; omega
    · funext a; apply Fin.ext
      match a with
      | ⟨0, _⟩ => show win0_1.index t (0 : Fin 4) * 1 + 1 * 0 = (win0_3.index t (1 : Fin 2) * 1024 + 1 * (y 1).val) / 1024; omega
      | ⟨1, _⟩ => show win0_1.index t (1 : Fin 4) * 1 + 1 * 0 = 0; omega
      | ⟨2, _⟩ => show win0_1.index t (2 : Fin 4) * 2048 + 1 * k.val = k.val; omega
      | ⟨3, _⟩ => show win0_1.index t (3 : Fin 4) * 1024 + 1 * (y 1).val = (win0_3.index t (1 : Fin 2) * 1024 + 1 * (y 1).val) % 1024; omega
  · have hi0 : (i 0).val < 2048 := (i 0).isLt
    have hi1 : (i 1).val < 8192 := (i 1).isLt
    let t : Fin cfg0.N := ⟨8 * ((i 0).val / 1024) + (i 1).val / 1024, lt_of_lt_of_eq (by omega) (show 16 = cfg0.N from N_0.symm)⟩
    obtain ⟨e0, e1, e2, e3, e4, e5, e6, e7, e8, e9⟩ := at0 t
    have ht : t.val = 8 * ((i 0).val / 1024) + (i 1).val / 1024 := rfl
    refine ⟨t, flush0_3 t, ?_⟩
    show i ∈ ((View.whole main_v7_1).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

/-! ## Region 2: the gradient reaching the first product -/

/-- Region 2's tile at an entry. -/
theorem tile2_apply (a : Vec Ideal S1024x2048 .bf16) (b : Vec Ideal S1x1x1024x2048 .bf16) (u : Vec Ideal S1024x1024 .f32)
    (j : S1024x1024.Idx) :
    out2_3 a b u j = (∑ k : Fin 2048, a (ix2 (j 0) k) * b (ix4 (0 : Fin 1) (0 : Fin 1) (j 1) k))
      * Mm.twoPos (u j) := by
  unfold out2_3 Mm.twoPos
  rw [View.canon_unit_zero (by funext a; fin_cases a <;> rfl)]
  rw [View.ld_unit_zero (by funext a; fin_cases a <;> rfl), View.ld_unit_zero (by funext a; fin_cases a <;> rfl),
    View.ld_unit_zero (by funext a; fin_cases a <;> rfl)]
  pointwise [k2_pay1]

/-- Where region 2's windows stand at a point. -/
theorem at2 : ∀ t : Fin cfg2.N, win2_0.index t (0 : Fin 2) = win2_3.index t (0 : Fin 2)
    ∧ win2_0.index t (1 : Fin 2) = 0
    ∧ win2_1.index t (0 : Fin 4) = win2_3.index t (1 : Fin 2)
    ∧ win2_1.index t (1 : Fin 4) = 0
    ∧ win2_1.index t (2 : Fin 4) = 0
    ∧ win2_1.index t (3 : Fin 4) = 0
    ∧ win2_2.index t (0 : Fin 2) = win2_3.index t (0 : Fin 2)
    ∧ win2_2.index t (1 : Fin 2) = win2_3.index t (1 : Fin 2)
    ∧ win2_3.index t (0 : Fin 2) = t.val / 8
    ∧ win2_3.index t (1 : Fin 2) = t.val % 8 :=
  (by decide +kernel : ∀ t : Fin grid2.N, _)

/-- What region 2 leaves in its output array. -/
theorem arr2 (c : Dev nD) : (dat2 V c).arrAt 3 cfg2.N = fun i => Mm.nt (V c main_v1) (Mm.ofRows (rfl : 8192 = 8 * 1024) (V c main_v6)) i
      * Mm.twoPos (V c main_v7_0 i) := by
  refine (dat2 V c).arrAt_eq_of_cover 3 _ (fun t _ => ?_) (fun i => ?_)
  · show (cfg2.win 3).cut (grid2.coords t) ((dat2 V c).after 3 t) = _
    rw [after2_3]
    obtain ⟨e0, e1, e2, e3, e4, e5, e6, e7, e8, e9⟩ := at2 t
    funext y
    show _ = Mm.nt (V c main_v1) (Mm.ofRows (rfl : 8192 = 8 * 1024) (V c main_v6)) (((cfg2.win 3).blk t).view.emb y)
      * Mm.twoPos (V c main_v7_0 (((cfg2.win 3).blk t).view.emb y))
    unfold Mm.nt Mm.ofRows
    have hy : (y 1).val < 1024 := (y 1).isLt
    refine (tile2_apply _ _ _ y).trans (congrArg₂ (· * ·) (Finset.sum_congr rfl fun k _ =>
      congrArg₂ (· * ·) (congrArg (V c main_v1) ?_) (congrArg (V c main_v6) ?_))
      (congrArg Mm.twoPos (congrArg (V c main_v7_0) ?_)))
    · funext a; apply Fin.ext
      match a with
      | ⟨0, _⟩ => show win2_0.index t (0 : Fin 2) * 1024 + 1 * (y 0).val = (win2_3.index t (0 : Fin 2) * 1024 + 1 * (y 0).val); omega
      | ⟨1, _⟩ => show win2_0.index t (1 : Fin 2) * 2048 + 1 * k.val = k.val; omega
    · funext a; apply Fin.ext
      match a with
      | ⟨0, _⟩ => show win2_1.index t (0 : Fin 4) * 1 + 1 * 0 = (win2_3.index t (1 : Fin 2) * 1024 + 1 * (y 1).val) / 1024; omega
      | ⟨1, _⟩ => show win2_1.index t (1 : Fin 4) * 1 + 1 * 0 = 0; omega
      | ⟨2, _⟩ => show win2_1.index t (2 : Fin 4) * 1024 + 1 * (y 1).val = (win2_3.index t (1 : Fin 2) * 1024 + 1 * (y 1).val) % 1024; omega
      | ⟨3, _⟩ => show win2_1.index t (3 : Fin 4) * 2048 + 1 * k.val = k.val; omega
    · funext a; apply Fin.ext
      match a with
      | ⟨0, _⟩ => show win2_2.index t (0 : Fin 2) * 1024 + 1 * (y 0).val = (win2_3.index t (0 : Fin 2) * 1024 + 1 * (y 0).val); omega
      | ⟨1, _⟩ => show win2_2.index t (1 : Fin 2) * 1024 + 1 * (y 1).val = (win2_3.index t (1 : Fin 2) * 1024 + 1 * (y 1).val); omega
  · have hi0 : (i 0).val < 2048 := (i 0).isLt
    have hi1 : (i 1).val < 8192 := (i 1).isLt
    let t : Fin cfg2.N := ⟨8 * ((i 0).val / 1024) + (i 1).val / 1024, lt_of_lt_of_eq (by omega) (show 16 = cfg2.N from N_2.symm)⟩
    obtain ⟨e0, e1, e2, e3, e4, e5, e6, e7, e8, e9⟩ := at2 t
    have ht : t.val = 8 * ((i 0).val / 1024) + (i 1).val / 1024 := rfl
    refine ⟨t, flush2_3 t, ?_⟩
    show i ∈ ((View.whole main_v9).slice (win2_3.rect t)).set
    rw [View.set_slice_whole, Rect.mem_set_unit]
    intro a
    match a with
    | ⟨0, _⟩ => show win2_3.index t (0 : Fin 2) * 1024 ≤ (i 0).val ∧ (i 0).val < win2_3.index t (0 : Fin 2) * 1024 + 1024; omega
    | ⟨1, _⟩ => show win2_3.index t (1 : Fin 2) * 1024 ≤ (i 1).val ∧ (i 1).val < win2_3.index t (1 : Fin 2) * 1024 + 1024; omega

/-! ## Region 3: the gradient of the first weight, in column shards -/

/-- Region 3's tile product at an entry. -/
theorem tile3_apply (a b : Vec Ideal S2048x1024 .bf16) (j : S1x1024x1024.Idx) :
    out3_2 a b j = ∑ k : Fin 2048, a (ix2 k (j 1)) * b (ix2 k (j 2)) := by
  unfold out3_2
  rw [View.canon_unit_zero (by funext a; fin_cases a <;> rfl)]
  rw [View.ld_unit_zero (by funext a; fin_cases a <;> rfl), View.ld_unit_zero (by funext a; fin_cases a <;> rfl)]
  pointwise [k3_pay1]

/-- Where region 3's windows stand at a point. -/
theorem at3 : ∀ t : Fin cfg3.N, win3_0.index t (0 : Fin 2) = 0
    ∧ win3_0.index t (1 : Fin 2) = win3_2.index t (1 : Fin 3)
    ∧ win3_1.index t (0 : Fin 2) = 0
    ∧ win3_1.index t (1 : Fin 2) = win3_2.index t (0 : Fin 3)
    ∧ win3_2.index t (0 : Fin 3) = t.val % 8
    ∧ win3_2.index t (1 : Fin 3) = t.val / 8
    ∧ win3_2.index t (2 : Fin 3) = 0 :=
  (by decide +kernel : ∀ t : Fin grid3.N, _)

/-- What region 3 leaves in its output array. -/
theorem arr3 (c : Dev nD) : (dat3 V c).arrAt 2 cfg3.N = Mm.toCols (rfl : 8192 = 8 * 1024) (Mm.tn (V c main_v0) (V c main_v9)) := by
  refine (dat3 V c).arrAt_eq_of_cover 2 _ (fun t _ => ?_) (fun i => ?_)
  · show (cfg3.win 2).cut (grid3.coords t) ((dat3 V c).after 2 t) = _
    rw [after3_2]
    obtain ⟨e0, e1, e2, e3, e4, e5, e6⟩ := at3 t
    funext y
    show _ = Mm.toCols (rfl : 8192 = 8 * 1024) (Mm.tn (V c main_v0) (V c main_v9)) (((cfg3.win 2).blk t).view.emb y)
    unfold Mm.toCols Mm.tn
    have hy : (y 0).val < 1 := (y 0).isLt
    refine (tile3_apply _ _ y).trans (Finset.sum_congr rfl fun k _ => ?_)
    refine congrArg₂ (· * ·) (congrArg (V c main_v0) ?_) (congrArg (V c main_v9) ?_)
    · funext a; apply Fin.ext
      match a with
      | ⟨0, _⟩ => show win3_0.index t (0 : Fin 2) * 2048 + 1 * k.val = k.val; omega
      | ⟨1, _⟩ => show win3_0.index t (1 : Fin 2) * 1024 + 1 * (y 1).val = (win3_2.index t (1 : Fin 3) * 1024 + 1 * (y 1).val); omega
    · funext a; apply Fin.ext
      match a with
      | ⟨0, _⟩ => show win3_1.index t (0 : Fin 2) * 2048 + 1 * k.val = k.val; omega
      | ⟨1, _⟩ => show win3_1.index t (1 : Fin 2) * 1024 + 1 * (y 2).val = (win3_2.index t (0 : Fin 3) * 1 + 1 * (y 0).val) * 1024 + (win3_2.index t (2 : Fin 3) * 1024 + 1 * (y 2).val); omega
  · have hi0 : (i 0).val < 8 := (i 0).isLt
    have hi1 : (i 1).val < 2048 := (i 1).isLt
    have hi2 : (i 2).val < 1024 := (i 2).isLt
    let t : Fin cfg3.N := ⟨8 * ((i 1).val / 1024) + (i 0).val, lt_of_lt_of_eq (by omega) (show 16 = cfg3.N from N_3.symm)⟩
    obtain ⟨e0, e1, e2, e3, e4, e5, e6⟩ := at3 t
    have ht : t.val = 8 * ((i 1).val / 1024) + (i 0).val := rfl
    refine ⟨t, flush3_2 t, ?_⟩
    show i ∈ ((View.whole main_v10).slice (win3_2.rect t)).set
    rw [View.set_slice_whole, Rect.mem_set_unit]
    intro a
    match a with
    | ⟨0, _⟩ => show win3_2.index t (0 : Fin 3) * 1 ≤ (i 0).val ∧ (i 0).val < win3_2.index t (0 : Fin 3) * 1 + 1; omega
    | ⟨1, _⟩ => show win3_2.index t (1 : Fin 3) * 1024 ≤ (i 1).val ∧ (i 1).val < win3_2.index t (1 : Fin 3) * 1024 + 1024; omega
    | ⟨2, _⟩ => show win3_2.index t (2 : Fin 3) * 1024 ≤ (i 2).val ∧ (i 2).val < win3_2.index t (2 : Fin 3) * 1024 + 1024; omega

end Cert.Kernel2Ideal.Gen

end
-- ==== Proof.Mlp.Value.lean ====
/- The MLP program's two results in closed form: the chain of contents through its host lines and four regions. -/
module

public import proofs.«01_k».proof.Proof.Mlp.Run
public import proofs.«01_k».proof.Proof.Mlp.Regions

@[expose] public section

set_option maxRecDepth 16384

noncomputable section

namespace Cert.Kernel2Ideal.Gen

open Idealize.ShloMosaic Idealize.ShloMosaic.TcCoe Idealize.SL.Sem Idealize.ShloMosaic.StableHlo

/-- The host's lines that cut a weight into column shards. -/
def colShards (x : FVec Ideal S2048x8192 .f32) : Vec Ideal S8x1x2048x1024 .bf16 :=
  truncf (F := Ideal) .bf16 (transpose S8x1x2048x1024 [1, 2, 0, 3]
    (shapeCast S2048x8x1x1024 x shapeCasts_S2048x8192_S2048x8x1x1024)
    transposes_S2048x8x1x1024_S8x1x2048x1024_1_2_0_3) bitsLt_bf16_f32

/-- The host's lines that cut a weight into row shards. -/
def rowShards (x : FVec Ideal S8192x2048 .f32) : Vec Ideal S8x1x1024x2048 .bf16 :=
  truncf (F := Ideal) .bf16 (shapeCast S8x1x1024x2048 x shapeCasts_S8192x2048_S8x1x1024x2048) bitsLt_bf16_f32

/-- The host's column shards of a weight, put together again, are the weight. -/
theorem ofCols_shards (x : FVec Ideal S2048x8192 .f32) :
    Mm.ofCols (rfl : 8192 = 8 * 1024) (colShards x) = x := by
  funext i
  have h1 : (i 1).val < 8192 := (i 1).isLt
  unfold Mm.ofCols
  pointwise [colShards]

/-- The host's row shards of a weight, put together again, are the weight. -/
theorem ofRows_shards (x : FVec Ideal S8192x2048 .f32) :
    Mm.ofRows (rfl : 8192 = 8 * 1024) (rowShards x) = x := by
  funext i
  have h0 : (i 0).val < 8192 := (i 0).isLt
  unfold Mm.ofRows
  pointwise [rowShards]

variable (m : (ℓ : Loc nD τ sig) → Buf (Elt Ideal) ℓ) (ρ : Dev nD → PrngReg)

/-! ## What the host lines leave -/

theorem host_v0 (c : Dev nD) : W1 m ρ c (Proc.devRef .tc main_v0) = m ((c : Thread nD τ).loc main_arg0) := by
  show StableHlo.after hostOps0 _ _ = _
  after_results
  rfl

theorem host_v1 (c : Dev nD) : W1 m ρ c (Proc.devRef .tc main_v1) = m ((c : Thread nD τ).loc main_arg3) := by
  show StableHlo.after hostOps0 _ _ = _
  after_results
  rfl

theorem host_v4 (c : Dev nD) : Mm.ofCols (rfl : 8192 = 8 * 1024) (W1 m ρ c (Proc.devRef .tc main_v4))
    = m ((c : Thread nD τ).loc main_arg1) := by
  refine Eq.trans (congrArg (Mm.ofCols (rfl : 8192 = 8 * 1024)) ?_) (ofCols_shards (m ((c : Thread nD τ).loc main_arg1)))
  show StableHlo.after hostOps0 _ _ = _
  after_results
  rfl

theorem host_v6 (c : Dev nD) : Mm.ofRows (rfl : 8192 = 8 * 1024) (W1 m ρ c (Proc.devRef .tc main_v6))
    = m ((c : Thread nD τ).loc main_arg2) := by
  refine Eq.trans (congrArg (Mm.ofRows (rfl : 8192 = 8 * 1024)) ?_) (ofRows_shards (m ((c : Thread nD τ).loc main_arg2)))
  show StableHlo.after hostOps0 _ _ = _
  after_results
  rfl

/-! ## The MLP's products over the reals -/

/-- The first product. -/
def up (h : Mm.Mat 2048 2048) (w1 : Mm.Mat 2048 8192) : Mm.Mat 2048 8192 := Mm.nn h w1
/-- The squared positive part of it. -/
def act (h : Mm.Mat 2048 2048) (w1 : Mm.Mat 2048 8192) : Mm.Mat 2048 8192 := fun i => Mm.relu2 (up h w1 i)
/-- The gradient reaching the first product. -/
def dup (h : Mm.Mat 2048 2048) (w1 : Mm.Mat 2048 8192) (w2 : Mm.Mat 8192 2048) (dy : Mm.Mat 2048 2048) : Mm.Mat 2048 8192 :=
  fun i => Mm.nt dy w2 i * Mm.twoPos (up h w1 i)
/-- The gradient of the second weight. -/
def dw2 (h : Mm.Mat 2048 2048) (w1 : Mm.Mat 2048 8192) (dy : Mm.Mat 2048 2048) : Mm.Mat 8192 2048 := Mm.tn (act h w1) dy
/-- The gradient of the first weight. -/
def dw1 (h : Mm.Mat 2048 2048) (w1 : Mm.Mat 2048 8192) (w2 : Mm.Mat 8192 2048) (dy : Mm.Mat 2048 2048) : Mm.Mat 2048 8192 :=
  Mm.tn h (dup h w1 w2 dy)

/-! ## The chain -/

theorem W2_v7_0 (c : Dev nD) : W2 m ρ c (Proc.devRef .tc main_v7_0) = up (m ((c : Thread nD τ).loc main_arg0)) (m ((c : Thread nD τ).loc main_arg1)) :=
  (W2_arr m ρ c 2).trans ((arr0_2 (V1 m ρ) c).trans (congrArg₂ Mm.nn (host_v0 m ρ c) (host_v4 m ρ c)))

theorem W2_v7_1 (c : Dev nD) : W2 m ρ c (Proc.devRef .tc main_v7_1) = act (m ((c : Thread nD τ).loc main_arg0)) (m ((c : Thread nD τ).loc main_arg1)) :=
  (W2_arr m ρ c 3).trans ((arr0_3 (V1 m ρ) c).trans
    (congrArg (fun (f : Mm.Mat 2048 8192) i => Mm.relu2 (f i)) (congrArg₂ Mm.nn (host_v0 m ρ c) (host_v4 m ρ c))))

theorem W2_v1 (c : Dev nD) : W2 m ρ c (Proc.devRef .tc main_v1) = m ((c : Thread nD τ).loc main_arg3) :=
  (W2_of m ρ c main_v1 (by decide)).trans (host_v1 m ρ c)

theorem W3_v8 (c : Dev nD) : W3 m ρ c (Proc.devRef .tc main_v8) = dw2 (m ((c : Thread nD τ).loc main_arg0)) (m ((c : Thread nD τ).loc main_arg1)) (m ((c : Thread nD τ).loc main_arg3)) :=
  (W3_arr m ρ c 2).trans ((arr1 (V2 m ρ) c).trans (congrArg₂ Mm.tn (W2_v7_1 m ρ c) (W2_v1 m ρ c)))

theorem W3_v1 (c : Dev nD) : W3 m ρ c (Proc.devRef .tc main_v1) = m ((c : Thread nD τ).loc main_arg3) :=
  (W3_of m ρ c main_v1 (by decide)).trans (W2_v1 m ρ c)

theorem W3_v6 (c : Dev nD) : Mm.ofRows (rfl : 8192 = 8 * 1024) (W3 m ρ c (Proc.devRef .tc main_v6)) = m ((c : Thread nD τ).loc main_arg2) :=
  (congrArg (Mm.ofRows (rfl : 8192 = 8 * 1024))
    ((W3_of m ρ c main_v6 (by decide)).trans (W2_of m ρ c main_v6 (by decide)))).trans (host_v6 m ρ c)

theorem W3_v7_0 (c : Dev nD) : W3 m ρ c (Proc.devRef .tc main_v7_0) = up (m ((c : Thread nD τ).loc main_arg0)) (m ((c : Thread nD τ).loc main_arg1)) :=
  (W3_of m ρ c main_v7_0 (by decide)).trans (W2_v7_0 m ρ c)

theorem W4_v9 (c : Dev nD) : W4 m ρ c (Proc.devRef .tc main_v9) = dup (m ((c : Thread nD τ).loc main_arg0)) (m ((c : Thread nD τ).loc main_arg1)) (m ((c : Thread nD τ).loc main_arg2)) (m ((c : Thread nD τ).loc main_arg3)) :=
  (W4_arr m ρ c 3).trans ((arr2 (V3 m ρ) c).trans (congrArg₂ (fun (f g : Mm.Mat 2048 8192) i => f i * Mm.twoPos (g i))
    (congrArg₂ Mm.nt (W3_v1 m ρ c) (W3_v6 m ρ c)) (W3_v7_0 m ρ c)))

theorem W4_v0 (c : Dev nD) : W4 m ρ c (Proc.devRef .tc main_v0) = m ((c : Thread nD τ).loc main_arg0) :=
  (W4_of m ρ c main_v0 (by decide)).trans ((W3_of m ρ c main_v0 (by decide)).trans
    ((W2_of m ρ c main_v0 (by decide)).trans (host_v0 m ρ c)))

/-- The second weight's gradient at the end of the run. -/
theorem W5_v8 (c : Dev nD) : W5 m ρ c (Proc.devRef .tc main_v8) = dw2 (m ((c : Thread nD τ).loc main_arg0)) (m ((c : Thread nD τ).loc main_arg1)) (m ((c : Thread nD τ).loc main_arg3)) :=
  (W5_of m ρ c main_v8 (by decide)).trans ((W4_of m ρ c main_v8 (by decide)).trans (W3_v8 m ρ c))

/-- The first weight's gradient, in column shards, at the end of the run. -/
theorem W5_v10 (c : Dev nD) : W5 m ρ c (Proc.devRef .tc main_v10)
    = Mm.toCols (rfl : 8192 = 8 * 1024) (dw1 (m ((c : Thread nD τ).loc main_arg0)) (m ((c : Thread nD τ).loc main_arg1)) (m ((c : Thread nD τ).loc main_arg2)) (m ((c : Thread nD τ).loc main_arg3))) :=
  (W5_arr m ρ c 2).trans ((arr3 (V4 m ρ) c).trans
    (congrArg (Mm.toCols (rfl : 8192 = 8 * 1024)) (congrArg₂ Mm.tn (W4_v0 m ρ c) (W4_v9 m ρ c))))

end Cert.Kernel2Ideal.Gen

end
-- ==== Proof.Mlp.Ref.lean ====
/- The MLP reference's two results in the same closed form. -/
module

public import proofs.«01_k».proof.Proof.Mlp.Value
public import proofs.«01_k».proof.Proof.Gen.Reference2Ideal.Read

@[expose] public section

set_option maxRecDepth 16384

noncomputable section

namespace Cert.Reference2Ideal.Read

open Idealize.ShloMosaic Idealize.ShloMosaic.TcCoe Idealize.SL.Sem
open Cert.Kernel2Ideal.Gen (up act dup dw1 dw2)

variable (h : Mm.Mat 2048 2048) (w1 : Mm.Mat 2048 8192) (w2 : Mm.Mat 8192 2048) (dy : Mm.Mat 2048 2048)

/-- The reference's first product. -/
theorem v0_eq : val_main_v0 (F := Ideal) h w1 = up h w1 := by
  funext i
  rw [val_main_v0_apply]
  unfold up Mm.nn
  refine Finset.sum_congr rfl fun k _ => congrArg₂ (· * ·) (congrArg h ?_) (congrArg w1 ?_) <;>
    · funext a; match a with | ⟨0, _⟩ => rfl | ⟨1, _⟩ => rfl

/-- The reference's positive part. -/
theorem v1_eq (i : S2048x8192.Idx) : val_main_v1 (F := Ideal) h w1 i = max (up h w1 i) 0 := by
  rw [val_main_v1_apply, v0_eq]
  refine congrArg (max (up h w1 i)) ?_
  pointwise [val_main_call0_v0, val_main_call0_cst]

/-- The reference's activation. -/
theorem v5_eq (i : S2048x8192.Idx) : val_main_v5 (F := Ideal) h w1 i = act h w1 i := by
  rw [val_main_v5_apply, v1_eq]; rfl

/-- The reference's second result's first stage: the second weight's gradient. -/
theorem v18_eq : val_main_v18 (F := Ideal) h w1 dy = dw2 h w1 dy := by
  funext i
  rw [val_main_v18_apply]
  show val_main_v10 (F := Ideal) h w1 dy i = _
  rw [val_main_v10_apply, val_main_v9_apply]
  unfold dw2 Mm.tn
  refine Finset.sum_congr rfl fun k _ => ?_
  rw [v5_eq, mul_comm]
  refine congrArg₂ (· * ·) (congrArg (act h w1) ?_) (congrArg dy ?_) <;>
    · funext a; match a with | ⟨0, _⟩ => rfl | ⟨1, _⟩ => rfl

/-- The gradient reaching the reference's first product. -/
theorem v14_eq (i : S2048x8192.Idx) : val_main_v14 (F := Ideal) h w1 w2 dy i = dup h w1 w2 dy i := by
  rw [val_main_v14_apply, val_main_v3_apply, val_main_v12_apply, val_main_v7_apply, v1_eq, v0_eq, val_main_v11_apply]
  have e2 : val_main_v2 (F := Ideal) i = 0 := by pointwise [val_main_v2, val_main_cst]
  have e13 : val_main_v13 (F := Ideal) i = 0 := by pointwise [val_main_v13, val_main_cst_2]
  have e6 : val_main_v6 (F := Ideal) i = Ideal.ofBits .f32 0x40000000#32 := by pointwise [val_main_v6, val_main_cst_1]
  have es : (∑ k : Fin 2048, dy (lidx_main_v11 i k) * w2 (ridx_main_v11 i k)) = Mm.nt dy w2 i := by
    unfold Mm.nt
    refine Finset.sum_congr rfl fun k _ => congrArg₂ (· * ·) (congrArg dy ?_) (congrArg w2 ?_) <;>
      · funext a; match a with | ⟨0, _⟩ => rfl | ⟨1, _⟩ => rfl
  rw [e2, e13, e6, es]
  unfold dup Mm.twoPos
  by_cases hu : 0 < up h w1 i
  · have : FloatOps.cmpf (F := Ideal) (φ := .f32) .ogt (up h w1 i) 0 = 1#1 := by
      simp [FloatOps.cmpf, Ideal.cmp, hu]
    rw [this]; rfl
  · have : FloatOps.cmpf (F := Ideal) (φ := .f32) .ogt (up h w1 i) 0 = 0#1 := by
      simp [FloatOps.cmpf, Ideal.cmp, hu]
    rw [this, max_eq_right (not_lt.mp hu), mul_zero, mul_zero]; rfl

/-- The reference's second result: the first weight's gradient, in column shards. -/
theorem v21_eq : val_main_v21 (F := Ideal) h w1 w2 dy = Mm.toCols (rfl : 8192 = 8 * 1024) (dw1 h w1 w2 dy) := by
  funext i
  rw [val_main_v21_apply]
  show val_main_v20 (F := Ideal) h w1 w2 dy i = _
  rw [val_main_v20_apply, val_main_v19_apply, val_main_v16_apply, val_main_v15_apply]
  unfold Mm.toCols dw1 Mm.tn
  have h0 : (i 0).val < 8 := (i 0).isLt
  have h1 : (i 1).val < 2048 := (i 1).isLt
  have h2 : (i 2).val < 1024 := (i 2).isLt
  refine Finset.sum_congr rfl fun k _ => ?_
  rw [v14_eq, mul_comm]
  refine congrArg₂ (· * ·) (congrArg h ?_) (congrArg (dup h w1 w2 dy) ?_)
  · funext a; apply Fin.ext
    match a with
    | ⟨0, _⟩ => rfl
    | ⟨1, _⟩ => show (((i 1).val * 8 + (i 0).val) * 1024 + (i 2).val) / 8192 = (i 1).val; omega
  · funext a; apply Fin.ext
    match a with
    | ⟨0, _⟩ => rfl
    | ⟨1, _⟩ => show (((i 1).val * 8 + (i 0).val) * 1024 + (i 2).val) % 8192 = (i 0).val * 1024 + (i 2).val; omega

end Cert.Reference2Ideal.Read

end
-- ==== Proof.Mlp.Down.lean ====
/- What the product with an accumulator carried over 4 steps leaves (the forward pass's second product), at the
   extended reals: each block of the result is the sum of its 4 partial products. -/
module

public import proofs.«01_k».proof.Proof.Gen.Kernel4Ideal.Value
public import Idealize.ShloMosaic.Lib.Pointwise
public import proofs.«01_k».proof.Proof.Mm

@[expose] public section

set_option maxRecDepth 16384

noncomputable section

namespace Cert.Kernel4Ideal.Gen

open Idealize.ShloMosaic Idealize.ShloMosaic.TcCoe Idealize.SL.Sem Idealize.ShloMosaic.StableHlo
open Cert.Kernel4Ideal.Value

/-! ## What each case leaves -/

section Cases

variable (c : Dev nD) (i : grid0.Coords) (arg3 : Memref sig .tc .vmem S1024x2048 .bf16) (harg3 : arg3.IsWhole) (arg4 : Memref sig .tc .vmem S2x1x1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)

/-- The accumulator after a first step. -/
theorem sout0_A_0_eq (hc0 : cond0_0 i) (hc1 : ¬cond0_1 i) (hc2 : ¬cond0_2 i) (x0 : Vec Ideal S1024x2048 .bf16) (x1 : Vec Ideal S2x1x1024x1024 .bf16) (x2 : Vec Ideal S1024x1024 .f32) :
    sout0_A_0 (F := Ideal) c i arg3 harg3 arg4 harg4 arg5 harg5 arg6 harg6 arg7 harg7 hc0 hc1 hc2 x0 x1 x2 = k0_pay1 x1 x0 := by
  unfold sout0_A_0
  rw [View.read_writes_junk_eq_canon]
  unfold kernelRun0_A
  dsimp only
  rw [View.canon_unit_zero (by funext a; fin_cases a <;> rfl)]
  simp only [View.readAt_eq_ld, harg4.read_unread, harg3.read_unread]
  repeat rw [View.ld_unit_zero (by funext a; fin_cases a <;> rfl)]

/-- The accumulator after a further step. -/
theorem sout0_B_0_eq (hc0 : ¬cond0_0 i) (hc1 : cond0_1 i) (hc2 : ¬cond0_2 i) (x0 : Vec Ideal S1024x2048 .bf16) (x1 : Vec Ideal S2x1x1024x1024 .bf16) (x2 : Vec Ideal S1024x1024 .f32) (xs0 : Vec Ideal S1024x1024 .f32) :
    sout0_B_0 (F := Ideal) c i arg3 harg3 arg4 harg4 arg5 harg5 arg6 harg6 arg7 harg7 hc0 hc1 hc2 x0 x1 x2 xs0 = k0_pay2 xs0 x1 x0 := by
  unfold sout0_B_0
  rw [View.read_writes_junk_eq_canon]
  unfold kernelRun0_B
  dsimp only
  rw [View.canon_unit_zero (by funext a; fin_cases a <;> rfl)]
  simp only [View.readAt_eq_ld, harg7.read_unread, harg4.read_unread, harg3.read_unread]
  repeat rw [View.ld_unit_zero (by funext a; fin_cases a <;> rfl)]

/-- The output block after a last step. -/
theorem out0_C_3_eq (hc0 : ¬cond0_0 i) (hc1 : cond0_1 i) (hc2 : cond0_2 i) (x0 : Vec Ideal S1024x2048 .bf16) (x1 : Vec Ideal S2x1x1024x1024 .bf16) (x2 : Vec Ideal S1024x1024 .f32) (xs0 : Vec Ideal S1024x1024 .f32) :
    out0_C_3 (F := Ideal) c i arg3 harg3 arg4 harg4 arg5 harg5 arg6 harg6 arg7 harg7 hc0 hc1 hc2 x0 x1 x2 xs0 = k0_pay3 (k0_pay2 xs0 x1 x0) x2 := by
  unfold out0_C_3
  rw [View.read_writes_junk_eq_canon]
  unfold kernelRun0_C
  dsimp only
  rw [View.canon_unit_zero (by funext a; fin_cases a <;> rfl)]
  unfold kernelRun0_C.sl.v9 kernelRun0_C.sl.HS0_1
  rw [View.readCov_cons_toLoadRect]
  simp only [View.readAt_eq_ld, harg5.read_unread, harg7.read_unread, harg4.read_unread, harg3.read_unread]
  repeat rw [View.ld_unit_zero (by funext a; fin_cases a <;> rfl)]

end Cases

/-! ## The partial products -/

/-- One step's partial product at an entry of the block. -/
def part (a : Vec Ideal S1024x2048 .bf16) (b : Vec Ideal S2x1x1024x1024 .bf16) (y : S1024x1024.Idx) : EReal :=
  ∑ k : Fin 2048, a (ix2 (y 0) k) * b (ix4 ⟨k.val / 1024, by have := k.isLt; omega⟩ (0 : Fin 1) (⟨k.val % 1024, Nat.mod_lt _ (by decide)⟩ : Fin 1024) (y 1))

theorem pay1_apply (a : Vec Ideal S1024x2048 .bf16) (b : Vec Ideal S2x1x1024x1024 .bf16) (y : S1024x1024.Idx) :
    k0_pay1 b a y = part a b y := by
  unfold part
  pointwise [k0_pay1]

theorem pay2_apply (s : Vec Ideal S1024x1024 .f32) (a : Vec Ideal S1024x2048 .bf16) (b : Vec Ideal S2x1x1024x1024 .bf16)
    (y : S1024x1024.Idx) : k0_pay2 s b a y = s y + part a b y := by
  unfold part
  pointwise [k0_pay2]

variable (m : (ℓ : Loc nD τ sig) → Buf (Elt Ideal) ℓ) (ρ : Dev nD → PrngReg)

/-- Point `n`'s partial product. -/
def partAt (c : Dev nD) (n : ℕ) (y : S1024x1024.Idx) : EReal :=
  if h : n < cfg0.N then part (iblk m c 0 ⟨n, h⟩) (iblk m c 1 ⟨n, h⟩) y else 0

/-- The accumulator after point `t`, before a block's last step: the partial products so far. -/
theorem acc_apply (c : Dev nD) (t : Fin cfg0.N) (ht : t.val % 4 < 3) (y : S1024x1024.Idx) :
    (outsAt0 m c t.val t.isLt).2 y = ∑ s ∈ Finset.range (t.val % 4 + 1), partAt m c (4 * (t.val / 4) + s) y := by
  rw [soutsAt0_0_eq]
  refine (Pipeline.accAt_add_apply (β := EReal) _ _ (fun _ => 0) (partAt m c) (4 * (t.val / 4)) 2
    (fun h i => ?_) (fun n h acc i hb he => ?_) (t.val % 4) (by omega) _ y).trans (zero_add _)
  · unfold scAt0_0 partAt
    rw [dif_pos (by omega), dif_neg (by omega), dif_neg (by omega), dif_pos h, sout0_A_0_eq, pay1_apply]
    exact (zero_add _).symm
  · unfold scAt0_0 partAt
    rw [dif_neg (by omega), dif_pos (by omega), dif_neg (by omega), dif_pos h, sout0_B_0_eq, pay2_apply]

/-- Where the windows stand at a point. -/
theorem at0 : ∀ t : Fin cfg0.N, win0_0.index t (0 : Fin 2) = t.val / 8
    ∧ win0_0.index t (1 : Fin 2) = t.val % 4
    ∧ win0_1.index t (0 : Fin 4) = t.val % 4
    ∧ win0_1.index t (1 : Fin 4) = 0
    ∧ win0_1.index t (2 : Fin 4) = 0
    ∧ win0_1.index t (3 : Fin 4) = t.val / 4 % 2
    ∧ win0_2.index t (0 : Fin 2) = t.val / 8
    ∧ win0_2.index t (1 : Fin 2) = t.val / 4 % 2
    ∧ win0_3.index t (0 : Fin 2) = t.val / 8
    ∧ win0_3.index t (1 : Fin 2) = t.val / 4 % 2 :=
  (by decide +kernel : ∀ t : Fin grid0.N, _)

/-- The 4 partial products of the block flushed at `t` add up to the whole product's entries. -/
theorem parts_sum (c : Dev nD) (t : Fin cfg0.N) (y : S1024x1024.Idx) :
    ∑ s ∈ Finset.range 4, partAt m c (4 * (t.val / 4) + s) y
      = Mm.nn (V m c main_v0) (Mm.ofRows (rfl : 8192 = 8 * 1024) (V m c main_v2)) (((cfg0.win 3).blk t).view.emb y) := by
  have hN : cfg0.N = 16 := N_0
  let i : S2048x2048.Idx := ((cfg0.win 3).blk t).view.emb y
  let A : Mm.Mat 2048 8192 := V m c main_v0
  let f : ℕ → EReal := fun K => if h : K < 8192 then A (ix2 (i 0) ⟨K, h⟩)
    * Mm.ofRows (rfl : 8192 = 8 * 1024) (V m c main_v2) (ix2 (⟨K, h⟩ : Fin 8192) (i 1)) else 0
  have hf : Mm.nn (V m c main_v0) (Mm.ofRows (rfl : 8192 = 8 * 1024) (V m c main_v2)) i = ∑ K : Fin (4 * 2048), f K.val := by
    unfold Mm.nn
    refine Finset.sum_congr rfl fun K _ => ?_
    have hK : K.val < 8192 := K.isLt
    exact (show f K.val = _ from dif_pos hK).symm
  show _ = Mm.nn (V m c main_v0) (Mm.ofRows (rfl : 8192 = 8 * 1024) (V m c main_v2)) i
  rw [hf, ← Mm.sum_blocks 4 2048 f]
  refine Finset.sum_congr rfl fun s hs => ?_
  have hs' : s < 4 := Finset.mem_range.mp hs
  have htN := t.isLt
  have hn : 4 * (t.val / 4) + s < cfg0.N := by omega
  unfold partAt
  rw [dif_pos hn]
  unfold part
  obtain ⟨e0, e1, e2, e3, e4, e5, e6, e7, e8, e9⟩ := at0 ⟨4 * (t.val / 4) + s, hn⟩
  obtain ⟨g0, g1, g2, g3, g4, g5, g6, g7, g8, g9⟩ := at0 t
  dsimp only at e0 e1 e2 e3 e4 e5 e6 e7 e8 e9
  refine Finset.sum_congr rfl fun k _ => ?_
  have hk : k.val < 2048 := k.isLt
  have hK : s * 2048 + k.val < 8192 := by omega
  have hy0 : (y 0).val < 1024 := (y 0).isLt
  have hy1 : (y 1).val < 1024 := (y 1).isLt
  refine Eq.trans ?_ (dif_pos (c := s * 2048 + k.val < 8192) hK).symm
  unfold Mm.ofRows
  refine congrArg₂ (· * ·) (congrArg (V m c main_v0) ?_) (congrArg (V m c main_v2) ?_)
  · funext a; apply Fin.ext
    match a with
    | ⟨0, _⟩ => show win0_0.index ⟨4 * (t.val / 4) + s, hn⟩ (0 : Fin 2) * 1024 + 1 * (y 0).val = (win0_3.index t (0 : Fin 2) * 1024 + 1 * (y 0).val); omega
    | ⟨1, _⟩ => show win0_0.index ⟨4 * (t.val / 4) + s, hn⟩ (1 : Fin 2) * 2048 + 1 * k.val = (s * 2048 + k.val); omega
  · funext a; apply Fin.ext
    match a with
    | ⟨0, _⟩ => show win0_1.index ⟨4 * (t.val / 4) + s, hn⟩ (0 : Fin 4) * 2 + 1 * (k.val / 1024) = (s * 2048 + k.val) / 1024; omega
    | ⟨1, _⟩ => show win0_1.index ⟨4 * (t.val / 4) + s, hn⟩ (1 : Fin 4) * 1 + 1 * 0 = 0; omega
    | ⟨2, _⟩ => show win0_1.index ⟨4 * (t.val / 4) + s, hn⟩ (2 : Fin 4) * 1024 + 1 * (k.val % 1024) = (s * 2048 + k.val) % 1024; omega
    | ⟨3, _⟩ => show win0_1.index ⟨4 * (t.val / 4) + s, hn⟩ (3 : Fin 4) * 1024 + 1 * (y 1).val = (win0_3.index t (1 : Fin 2) * 1024 + 1 * (y 1).val); omega

/-- What the program leaves in its result array. -/
theorem arr (c : Dev nD) : (dats m 0 c).arrAt 3 cfg0.N = fun i => Mm.nn (V m c main_v0) (Mm.ofRows (rfl : 8192 = 8 * 1024) (V m c main_v2)) i + V m c main_arg0 i := by
  have hN : cfg0.N = 16 := N_0
  refine (dats m 0 c).arrAt_eq_of_cover 3 _ (fun t hf => ?_) (fun i => ?_)
  · have htm : t.val % 4 = 3 := (flush0_3 t).mp hf
    have htN := t.isLt
    rw [flushed3_C m c t (by omega) (by omega) (by omega), out0_C_3_eq]
    funext y
    obtain ⟨e0, e1, e2, e3, e4, e5, e6, e7, e8, e9⟩ := at0 t
    have hacc := acc_apply m c (⟨t.val - 1, Nat.lt_of_le_of_lt (Nat.sub_le _ _) t.isLt⟩ : Fin cfg0.N)
      (show (t.val - 1) % 4 < 3 by omega) y
    have hq : (t.val - 1) / 4 = t.val / 4 := by omega
    have hr : (t.val - 1) % 4 = 2 := by omega
    have hsum : (outsAt0 m c (t.val - 1) (Nat.lt_of_le_of_lt (Nat.sub_le _ _) t.isLt)).2 y
        + part (iblk m c 0 t) (iblk m c 1 t) y
        = Mm.nn (V m c main_v0) (Mm.ofRows (rfl : 8192 = 8 * 1024) (V m c main_v2)) (((cfg0.win 3).blk t).view.emb y) := by
      refine Eq.trans ?_ (parts_sum m c t y)
      rw [Finset.sum_range_succ]
      refine congrArg₂ (· + ·) (hacc.trans ?_) ?_
      · show ∑ s ∈ Finset.range ((t.val - 1) % 4 + 1), partAt m c (4 * ((t.val - 1) / 4) + s) y = _
        rw [hq, hr]
      · unfold partAt
        have e : 4 * (t.val / 4) + 3 = t.val := by omega
        rw [dif_pos (lt_of_eq_of_lt e t.isLt)]
        exact congrArg (fun t' : Fin cfg0.N => part (iblk m c 0 t') (iblk m c 1 t') y) (Fin.ext e.symm)
    show k0_pay3 (k0_pay2 _ (iblk m c 1 t) (iblk m c 0 t)) (iblk m c 2 t) y = Mm.nn (V m c main_v0) (Mm.ofRows (rfl : 8192 = 8 * 1024) (V m c main_v2)) (((cfg0.win 3).blk t).view.emb y) + V m c main_arg0 (((cfg0.win 3).blk t).view.emb y)
    have h3 : ∀ (a b : Vec Ideal S1024x1024 .f32), k0_pay3 a b y = a y + b y := fun a b => by pointwise [k0_pay3]
    rw [h3, pay2_apply]
    refine congrArg₂ (· + ·) hsum (congrArg (V m c main_arg0) ?_)
    funext a; apply Fin.ext
    match a with
    | ⟨0, _⟩ => show win0_2.index t (0 : Fin 2) * 1024 + 1 * (y 0).val = (win0_3.index t (0 : Fin 2) * 1024 + 1 * (y 0).val); omega
    | ⟨1, _⟩ => show win0_2.index t (1 : Fin 2) * 1024 + 1 * (y 1).val = (win0_3.index t (1 : Fin 2) * 1024 + 1 * (y 1).val); omega
  · have hi0 : (i 0).val < 2048 := (i 0).isLt
    have hi1 : (i 1).val < 2048 := (i 1).isLt
    let t : Fin cfg0.N := ⟨4 * (2 * ((i 0).val / 1024) + (i 1).val / 1024) + 3, lt_of_lt_of_eq (by omega) (show 16 = cfg0.N from N_0.symm)⟩
    obtain ⟨e0, e1, e2, e3, e4, e5, e6, e7, e8, e9⟩ := at0 t
    have ht : t.val = 4 * (2 * ((i 0).val / 1024) + (i 1).val / 1024) + 3 := rfl
    refine ⟨t, (flush0_3 t).mpr (by omega), ?_⟩
    show i ∈ ((View.whole main_v3).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

/-! ## The host lines -/

/-- The host's lines that cut a weight into row shards. -/
def rowShards (x : FVec Ideal S8192x2048 .f32) : Vec Ideal S8x1x1024x2048 .bf16 :=
  truncf (F := Ideal) .bf16 (shapeCast S8x1x1024x2048 x shapeCasts_S8192x2048_S8x1x1024x2048) bitsLt_bf16_f32

theorem ofRows_shards (x : FVec Ideal S8192x2048 .f32) : Mm.ofRows (rfl : 8192 = 8 * 1024) (rowShards x) = x := by
  funext i
  have h0 : (i 0).val < 8192 := (i 0).isLt
  unfold Mm.ofRows
  pointwise [rowShards]

theorem host_v0 (c : Dev nD) : V m c main_v0 = m ((c : Thread nD τ).loc main_arg1) := by
  show StableHlo.after hostOps0 _ _ = _
  after_results
  rfl

theorem host_w (c : Dev nD) : Mm.ofRows (rfl : 8192 = 8 * 1024) (V m c main_v2) = m ((c : Thread nD τ).loc main_arg2) := by
  refine Eq.trans (congrArg (Mm.ofRows (rfl : 8192 = 8 * 1024)) ?_) (ofRows_shards (m ((c : Thread nD τ).loc main_arg2)))
  show StableHlo.after hostOps0 _ _ = _
  after_results
  rfl

/-- The result at the end of the run: the product plus the residual. -/
theorem result (c : Dev nD) : (dats m 0 c).arrAt 3 cfg0.N
    = fun i => Mm.nn (m ((c : Thread nD τ).loc main_arg1)) (m ((c : Thread nD τ).loc main_arg2)) i
      + (m ((c : Thread nD τ).loc main_arg0) i : EReal) := by
  rw [arr]
  have e := congrArg₂ Mm.nn (host_v0 m c) (host_w m c)
  funext i
  exact congrArg₂ (fun (a b : EReal) => a + b) (congrFun e i) (congrFun (V_main_arg0 m c) i)

end Cert.Kernel4Ideal.Gen

end
-- ==== Proof.Mlp.UpDx.lean ====
/- What the product with an accumulator carried over 8 steps leaves (the gradient reaching the MLP's input), at the
   extended reals: each block of the result is the sum of its 8 partial products. -/
module

public import proofs.«01_k».proof.Proof.Gen.Kernel3Ideal.Value
public import Idealize.ShloMosaic.Lib.Pointwise
public import proofs.«01_k».proof.Proof.Mm

@[expose] public section

set_option maxRecDepth 16384

noncomputable section

namespace Cert.Kernel3Ideal.Gen

open Idealize.ShloMosaic Idealize.ShloMosaic.TcCoe Idealize.SL.Sem Idealize.ShloMosaic.StableHlo
open Cert.Kernel3Ideal.Value

/-! ## What each case leaves -/

section Cases

variable (c : Dev nD) (i : grid0.Coords) (arg3 : Memref sig .tc .vmem S1024x1024 .bf16) (harg3 : arg3.IsWhole) (arg4 : Memref sig .tc .vmem S1x1x1024x1024 .bf16) (harg4 : arg4.IsWhole) (arg5 : Memref sig .tc .vmem S1024x1024 .f32) (harg5 : arg5.IsWhole) (arg6 : Memref sig .tc .vmem S1024x1024 .f32) (harg6 : arg6.IsWhole)

/-- The accumulator after a first step. -/
theorem sout0_A_0_eq (hc0 : cond0_0 i) (hc1 : ¬cond0_1 i) (hc2 : ¬cond0_2 i) (x0 : Vec Ideal S1024x1024 .bf16) (x1 : Vec Ideal S1x1x1024x1024 .bf16) :
    sout0_A_0 (F := Ideal) c i arg3 harg3 arg4 harg4 arg5 harg5 arg6 harg6 hc0 hc1 hc2 x0 x1 = k0_pay1 x1 x0 := by
  unfold sout0_A_0
  rw [View.read_writes_junk_eq_canon]
  unfold kernelRun0_A
  dsimp only
  rw [View.canon_unit_zero (by funext a; fin_cases a <;> rfl)]
  simp only [View.readAt_eq_ld, harg4.read_unread, harg3.read_unread]
  repeat rw [View.ld_unit_zero (by funext a; fin_cases a <;> rfl)]

/-- The accumulator after a further step. -/
theorem sout0_B_0_eq (hc0 : ¬cond0_0 i) (hc1 : cond0_1 i) (hc2 : ¬cond0_2 i) (x0 : Vec Ideal S1024x1024 .bf16) (x1 : Vec Ideal S1x1x1024x1024 .bf16) (xs0 : Vec Ideal S1024x1024 .f32) :
    sout0_B_0 (F := Ideal) c i arg3 harg3 arg4 harg4 arg5 harg5 arg6 harg6 hc0 hc1 hc2 x0 x1 xs0 = k0_pay2 xs0 x1 x0 := by
  unfold sout0_B_0
  rw [View.read_writes_junk_eq_canon]
  unfold kernelRun0_B
  dsimp only
  rw [View.canon_unit_zero (by funext a; fin_cases a <;> rfl)]
  simp only [View.readAt_eq_ld, harg6.read_unread, harg4.read_unread, harg3.read_unread]
  repeat rw [View.ld_unit_zero (by funext a; fin_cases a <;> rfl)]

/-- The output block after a last step. -/
theorem out0_C_2_eq (hc0 : ¬cond0_0 i) (hc1 : cond0_1 i) (hc2 : cond0_2 i) (x0 : Vec Ideal S1024x1024 .bf16) (x1 : Vec Ideal S1x1x1024x1024 .bf16) (xs0 : Vec Ideal S1024x1024 .f32) :
    out0_C_2 (F := Ideal) c i arg3 harg3 arg4 harg4 arg5 harg5 arg6 harg6 hc0 hc1 hc2 x0 x1 xs0 = k0_pay2 xs0 x1 x0 := by
  unfold out0_C_2
  rw [View.read_writes_junk_eq_canon]
  unfold kernelRun0_C
  dsimp only
  rw [View.canon_unit_zero (by funext a; fin_cases a <;> rfl)]
  unfold kernelRun0_C.sl.v9 kernelRun0_C.sl.HS0_1
  rw [View.readCov_cons_toLoadRect]
  simp only [View.readAt_eq_ld, harg6.read_unread, harg4.read_unread, harg3.read_unread]
  repeat rw [View.ld_unit_zero (by funext a; fin_cases a <;> rfl)]

end Cases

/-! ## The partial products -/

/-- One step's partial product at an entry of the block. -/
def part (a : Vec Ideal S1024x1024 .bf16) (b : Vec Ideal S1x1x1024x1024 .bf16) (y : S1024x1024.Idx) : EReal :=
  ∑ k : Fin 1024, a (ix2 (y 0) k) * b (ix4 (0 : Fin 1) (0 : Fin 1) (y 1) k)

theorem pay1_apply (a : Vec Ideal S1024x1024 .bf16) (b : Vec Ideal S1x1x1024x1024 .bf16) (y : S1024x1024.Idx) :
    k0_pay1 b a y = part a b y := by
  unfold part
  pointwise [k0_pay1]

theorem pay2_apply (s : Vec Ideal S1024x1024 .f32) (a : Vec Ideal S1024x1024 .bf16) (b : Vec Ideal S1x1x1024x1024 .bf16)
    (y : S1024x1024.Idx) : k0_pay2 s b a y = s y + part a b y := by
  unfold part
  pointwise [k0_pay2]

variable (m : (ℓ : Loc nD τ sig) → Buf (Elt Ideal) ℓ) (ρ : Dev nD → PrngReg)

/-- Point `n`'s partial product. -/
def partAt (c : Dev nD) (n : ℕ) (y : S1024x1024.Idx) : EReal :=
  if h : n < cfg0.N then part (iblk m c 0 ⟨n, h⟩) (iblk m c 1 ⟨n, h⟩) y else 0

/-- The accumulator after point `t`, before a block's last step: the partial products so far. -/
theorem acc_apply (c : Dev nD) (t : Fin cfg0.N) (ht : t.val % 8 < 7) (y : S1024x1024.Idx) :
    (outsAt0 m c t.val t.isLt).2 y = ∑ s ∈ Finset.range (t.val % 8 + 1), partAt m c (8 * (t.val / 8) + s) y := by
  rw [soutsAt0_0_eq]
  refine (Pipeline.accAt_add_apply (β := EReal) _ _ (fun _ => 0) (partAt m c) (8 * (t.val / 8)) 6
    (fun h i => ?_) (fun n h acc i hb he => ?_) (t.val % 8) (by omega) _ y).trans (zero_add _)
  · unfold scAt0_0 partAt
    rw [dif_pos (by omega), dif_neg (by omega), dif_neg (by omega), dif_pos h, sout0_A_0_eq, pay1_apply]
    exact (zero_add _).symm
  · unfold scAt0_0 partAt
    rw [dif_neg (by omega), dif_pos (by omega), dif_neg (by omega), dif_pos h, sout0_B_0_eq, pay2_apply]

/-- Where the windows stand at a point. -/
theorem at0 : ∀ t : Fin cfg0.N, win0_0.index t (0 : Fin 2) = t.val / 16
    ∧ win0_0.index t (1 : Fin 2) = t.val % 8
    ∧ win0_1.index t (0 : Fin 4) = t.val % 8
    ∧ win0_1.index t (1 : Fin 4) = 0
    ∧ win0_1.index t (2 : Fin 4) = t.val / 8 % 2
    ∧ win0_1.index t (3 : Fin 4) = 0
    ∧ win0_2.index t (0 : Fin 2) = t.val / 16
    ∧ win0_2.index t (1 : Fin 2) = t.val / 8 % 2 :=
  (by decide +kernel : ∀ t : Fin grid0.N, _)

/-- The 8 partial products of the block flushed at `t` add up to the whole product's entries. -/
theorem parts_sum (c : Dev nD) (t : Fin cfg0.N) (y : S1024x1024.Idx) :
    ∑ s ∈ Finset.range 8, partAt m c (8 * (t.val / 8) + s) y
      = Mm.nt (V m c main_v0) (Mm.ofCols (rfl : 8192 = 8 * 1024) (V m c main_v3)) (((cfg0.win 2).blk t).view.emb y) := by
  have hN : cfg0.N = 32 := N_0
  let i : S2048x2048.Idx := ((cfg0.win 2).blk t).view.emb y
  let A : Mm.Mat 2048 8192 := V m c main_v0
  let f : ℕ → EReal := fun K => if h : K < 8192 then A (ix2 (i 0) ⟨K, h⟩)
    * Mm.ofCols (rfl : 8192 = 8 * 1024) (V m c main_v3) (ix2 (i 1) (⟨K, h⟩ : Fin 8192)) else 0
  have hf : Mm.nt (V m c main_v0) (Mm.ofCols (rfl : 8192 = 8 * 1024) (V m c main_v3)) i = ∑ K : Fin (8 * 1024), f K.val := by
    unfold Mm.nt
    refine Finset.sum_congr rfl fun K _ => ?_
    have hK : K.val < 8192 := K.isLt
    exact (show f K.val = _ from dif_pos hK).symm
  show _ = Mm.nt (V m c main_v0) (Mm.ofCols (rfl : 8192 = 8 * 1024) (V m c main_v3)) i
  rw [hf, ← Mm.sum_blocks 8 1024 f]
  refine Finset.sum_congr rfl fun s hs => ?_
  have hs' : s < 8 := Finset.mem_range.mp hs
  have htN := t.isLt
  have hn : 8 * (t.val / 8) + s < cfg0.N := by omega
  unfold partAt
  rw [dif_pos hn]
  unfold part
  obtain ⟨e0, e1, e2, e3, e4, e5, e6, e7⟩ := at0 ⟨8 * (t.val / 8) + s, hn⟩
  obtain ⟨g0, g1, g2, g3, g4, g5, g6, g7⟩ := at0 t
  dsimp only at e0 e1 e2 e3 e4 e5 e6 e7
  refine Finset.sum_congr rfl fun k _ => ?_
  have hk : k.val < 1024 := k.isLt
  have hK : s * 1024 + k.val < 8192 := by omega
  have hy0 : (y 0).val < 1024 := (y 0).isLt
  have hy1 : (y 1).val < 1024 := (y 1).isLt
  refine Eq.trans ?_ (dif_pos (c := s * 1024 + k.val < 8192) hK).symm
  unfold Mm.ofCols
  refine congrArg₂ (· * ·) (congrArg (V m c main_v0) ?_) (congrArg (V m c main_v3) ?_)
  · funext a; apply Fin.ext
    match a with
    | ⟨0, _⟩ => show win0_0.index ⟨8 * (t.val / 8) + s, hn⟩ (0 : Fin 2) * 1024 + 1 * (y 0).val = (win0_2.index t (0 : Fin 2) * 1024 + 1 * (y 0).val); omega
    | ⟨1, _⟩ => show win0_0.index ⟨8 * (t.val / 8) + s, hn⟩ (1 : Fin 2) * 1024 + 1 * k.val = (s * 1024 + k.val); omega
  · funext a; apply Fin.ext
    match a with
    | ⟨0, _⟩ => show win0_1.index ⟨8 * (t.val / 8) + s, hn⟩ (0 : Fin 4) * 1 + 1 * 0 = (s * 1024 + k.val) / 1024; omega
    | ⟨1, _⟩ => show win0_1.index ⟨8 * (t.val / 8) + s, hn⟩ (1 : Fin 4) * 1 + 1 * 0 = 0; omega
    | ⟨2, _⟩ => show win0_1.index ⟨8 * (t.val / 8) + s, hn⟩ (2 : Fin 4) * 1024 + 1 * (y 1).val = (win0_2.index t (1 : Fin 2) * 1024 + 1 * (y 1).val); omega
    | ⟨3, _⟩ => show win0_1.index ⟨8 * (t.val / 8) + s, hn⟩ (3 : Fin 4) * 1024 + 1 * k.val = (s * 1024 + k.val) % 1024; omega

/-- What the program leaves in its result array. -/
theorem arr (c : Dev nD) : (dats m 0 c).arrAt 2 cfg0.N = Mm.nt (V m c main_v0) (Mm.ofCols (rfl : 8192 = 8 * 1024) (V m c main_v3)) := by
  have hN : cfg0.N = 32 := N_0
  refine (dats m 0 c).arrAt_eq_of_cover 2 _ (fun t hf => ?_) (fun i => ?_)
  · have htm : t.val % 8 = 7 := (flush0_2 t).mp hf
    have htN := t.isLt
    rw [flushed2_C m c t (by omega) (by omega) (by omega), out0_C_2_eq]
    funext y
    obtain ⟨e0, e1, e2, e3, e4, e5, e6, e7⟩ := at0 t
    have hacc := acc_apply m c (⟨t.val - 1, Nat.lt_of_le_of_lt (Nat.sub_le _ _) t.isLt⟩ : Fin cfg0.N)
      (show (t.val - 1) % 8 < 7 by omega) y
    have hq : (t.val - 1) / 8 = t.val / 8 := by omega
    have hr : (t.val - 1) % 8 = 6 := by omega
    have hsum : (outsAt0 m c (t.val - 1) (Nat.lt_of_le_of_lt (Nat.sub_le _ _) t.isLt)).2 y
        + part (iblk m c 0 t) (iblk m c 1 t) y
        = Mm.nt (V m c main_v0) (Mm.ofCols (rfl : 8192 = 8 * 1024) (V m c main_v3)) (((cfg0.win 2).blk t).view.emb y) := by
      refine Eq.trans ?_ (parts_sum m c t y)
      rw [Finset.sum_range_succ]
      refine congrArg₂ (· + ·) (hacc.trans ?_) ?_
      · show ∑ s ∈ Finset.range ((t.val - 1) % 8 + 1), partAt m c (8 * ((t.val - 1) / 8) + s) y = _
        rw [hq, hr]
      · unfold partAt
        have e : 8 * (t.val / 8) + 7 = t.val := by omega
        rw [dif_pos (lt_of_eq_of_lt e t.isLt)]
        exact congrArg (fun t' : Fin cfg0.N => part (iblk m c 0 t') (iblk m c 1 t') y) (Fin.ext e.symm)
    show k0_pay2 _ (iblk m c 1 t) (iblk m c 0 t) y = Mm.nt (V m c main_v0) (Mm.ofCols (rfl : 8192 = 8 * 1024) (V m c main_v3)) (((cfg0.win 2).blk t).view.emb y)
    rw [pay2_apply]
    exact hsum
  · have hi0 : (i 0).val < 2048 := (i 0).isLt
    have hi1 : (i 1).val < 2048 := (i 1).isLt
    let t : Fin cfg0.N := ⟨8 * (2 * ((i 0).val / 1024) + (i 1).val / 1024) + 7, lt_of_lt_of_eq (by omega) (show 32 = cfg0.N from N_0.symm)⟩
    obtain ⟨e0, e1, e2, e3, e4, e5, e6, e7⟩ := at0 t
    have ht : t.val = 8 * (2 * ((i 0).val / 1024) + (i 1).val / 1024) + 7 := rfl
    refine ⟨t, (flush0_2 t).mpr (by omega), ?_⟩
    show i ∈ ((View.whole main_v4).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The host lines -/

/-- The host's lines that cut a weight into column shards. -/
def colShards (x : FVec Ideal S2048x8192 .f32) : Vec Ideal S8x1x2048x1024 .bf16 :=
  truncf (F := Ideal) .bf16 (transpose S8x1x2048x1024 [1, 2, 0, 3]
    (shapeCast S2048x8x1x1024 x shapeCasts_S2048x8192_S2048x8x1x1024)
    transposes_S2048x8x1x1024_S8x1x2048x1024_1_2_0_3) bitsLt_bf16_f32

theorem ofCols_shards (x : FVec Ideal S2048x8192 .f32) : Mm.ofCols (rfl : 8192 = 8 * 1024) (colShards x) = x := by
  funext i
  have h1 : (i 1).val < 8192 := (i 1).isLt
  unfold Mm.ofCols
  pointwise [colShards]

theorem host_v0 (c : Dev nD) : V m c main_v0 = m ((c : Thread nD τ).loc main_arg2) := by
  show StableHlo.after hostOps0 _ _ = _
  after_results
  rfl

theorem host_w (c : Dev nD) : Mm.ofCols (rfl : 8192 = 8 * 1024) (V m c main_v3) = m ((c : Thread nD τ).loc main_arg1) := by
  refine Eq.trans (congrArg (Mm.ofCols (rfl : 8192 = 8 * 1024)) ?_) (ofCols_shards (m ((c : Thread nD τ).loc main_arg1)))
  show StableHlo.after hostOps0 _ _ = _
  after_results
  rfl

/-- The result at the end of the run: the product with the transposed weight. -/
theorem result (c : Dev nD) : (dats m 0 c).arrAt 2 cfg0.N
    = Mm.nt (m ((c : Thread nD τ).loc main_arg2)) (m ((c : Thread nD τ).loc main_arg1)) := by
  rw [arr]
  exact congrArg₂ Mm.nt (host_v0 m c) (host_w m c)

end Cert.Kernel3Ideal.Gen

end
-- ==== Proof.Mlp.Claims.lean ====
/- The claims about the MLP's programs: the frames of the references, and the results equal to the references'. -/
module

public import proofs.«01_k».proof.Defs
public import proofs.«01_k».proof.Proof.Mlp.Ref
public import proofs.«01_k».proof.Proof.Mlp.Down
public import proofs.«01_k».proof.Proof.Mlp.UpDx
public import proofs.«01_k».proof.Proof.Gen.Kernel2Ideal
public import proofs.«01_k».proof.Proof.Gen.Kernel3Ideal
public import proofs.«01_k».proof.Proof.Gen.Kernel4Ideal
public import proofs.«01_k».proof.Proof.Gen.Reference2Ideal
public import proofs.«01_k».proof.Proof.Gen.Reference3Ideal
public import proofs.«01_k».proof.Proof.Gen.Reference4Ideal
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference3Ideal.Read
public import proofs.«01_k».proof.Proof.Gen.Reference4Ideal.Read

@[expose] public section

set_option maxRecDepth 16384

noncomputable section

namespace Cert.Proof

open Idealize.ShloMosaic Idealize.ShloMosaic.TcCoe Idealize.SL.Sem

/-! ## The MLP's four products in one program -/

theorem frame_r2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

theorem algebraic2 : Cert.algebraic_Kernel2Ideal_Reference2Ideal := by
  intro m ρ m' ρ' _ harg
  refine ⟨fun c => Cert.Kernel2Ideal.Gen.W5 m ρ c (Proc.devRef .tc Cert.Kernel2Ideal.main_v8),
    fun c => Cert.Kernel2Ideal.Gen.W5 m ρ c (Proc.devRef .tc Cert.Kernel2Ideal.main_v10),
    Cert.Kernel2Ideal.Gen.run_values (F := Ideal) m ρ,
    (θ_run Cert.Reference2Ideal.defs _ _).mono (fun r h c => ?_) (Cert.Reference2Ideal.Value.run (F := Ideal) m' ρ')⟩
  obtain ⟨e0, e1, e2, e3⟩ := harg c
  obtain ⟨h0, h1, h2⟩ := h c
  refine ⟨h0.trans ?_, h1.trans ?_, h2⟩
  · refine Eq.trans ?_ (Cert.Kernel2Ideal.Gen.W5_v8 m ρ c).symm
    rw [Cert.Reference2Ideal.Read.val_main_v18_eq, e0, e1, e3]
    exact Cert.Reference2Ideal.Read.v18_eq _ _ _
  · refine Eq.trans ?_ (Cert.Kernel2Ideal.Gen.W5_v10 m ρ c).symm
    rw [Cert.Reference2Ideal.Read.val_main_v21_eq, e0, e1, e2, e3]
    exact Cert.Reference2Ideal.Read.v21_eq _ _ _ _

/-! ## The gradient reaching the MLP's input -/

theorem frame_r3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem ref3_eq (w du : Mm.Mat 2048 8192) : Cert.Reference3Ideal.Read.val_main_v1 (F := Ideal) w du = Mm.nt du w := by
  funext i
  rw [Cert.Reference3Ideal.Read.val_main_v1_apply]
  unfold Mm.nt
  refine Finset.sum_congr rfl fun k _ => congrArg₂ (· * ·) (congrArg du ?_) (congrArg w ?_) <;>
    · funext a; match a with | ⟨0, _⟩ => rfl | ⟨1, _⟩ => rfl

theorem algebraic3 : Cert.algebraic_Kernel3Ideal_Reference3Ideal := by
  intro m ρ m' ρ' _ harg
  refine ⟨fun c => (Cert.Kernel3Ideal.Gen.dats m 0 c).arrAt 2 Cert.Kernel3Ideal.cfg0.N,
    Cert.Kernel3Ideal.Value.run_blocks (F := Ideal) m ρ,
    (θ_run Cert.Reference3Ideal.defs _ _).mono (fun r h c => ?_) (Cert.Reference3Ideal.Value.run (F := Ideal) m' ρ')⟩
  obtain ⟨e0, e1, e2⟩ := harg c
  obtain ⟨h0, h1⟩ := h c
  refine ⟨(h0.trans ?_).trans (Cert.Kernel3Ideal.Gen.result m c).symm, h1⟩
  rw [Cert.Reference3Ideal.Read.val_main_v1_eq, e1, e2]
  exact ref3_eq _ _

/-! ## The forward pass's second product -/

theorem frame_r4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem ref4_eq (x : Mm.Mat 2048 2048) (a : Mm.Mat 2048 8192) (w : Mm.Mat 8192 2048) :
    Cert.Reference4Ideal.Read.val_main_v1 (F := Ideal) x a w = fun i => Mm.nn a w i + x i := by
  funext i
  rw [Cert.Reference4Ideal.Read.val_main_v1_apply, Cert.Reference4Ideal.Read.val_main_v0_apply]
  refine (add_comm _ _).trans (congrArg (· + x i) ?_)
  unfold Mm.nn
  refine Finset.sum_congr rfl fun k _ => congrArg₂ (· * ·) (congrArg a ?_) (congrArg w ?_) <;>
    · funext a; match a with | ⟨0, _⟩ => rfl | ⟨1, _⟩ => rfl

theorem algebraic4 : Cert.algebraic_Kernel4Ideal_Reference4Ideal := by
  intro m ρ m' ρ' _ harg
  refine ⟨fun c => (Cert.Kernel4Ideal.Gen.dats m 0 c).arrAt 3 Cert.Kernel4Ideal.cfg0.N,
    Cert.Kernel4Ideal.Value.run_blocks (F := Ideal) m ρ,
    (θ_run Cert.Reference4Ideal.defs _ _).mono (fun r h c => ?_) (Cert.Reference4Ideal.Value.run (F := Ideal) m' ρ')⟩
  obtain ⟨e0, e1, e2⟩ := harg c
  obtain ⟨h0, h1⟩ := h c
  refine ⟨(h0.trans ?_).trans (Cert.Kernel4Ideal.Gen.result m c).symm, h1⟩
  rw [Cert.Reference4Ideal.Read.val_main_v1_eq, e0, e1, e2]
  exact ref4_eq _ _ _

end Cert.Proof

end
-- ==== Proof.Swa.Same.lean ====
/- The attention's backward program is one text over bit patterns and over the reals: its frame over bit patterns is the run over any floats. -/
module
public import proofs.«01_k».proof.Defs
public import proofs.«01_k».proof.Proof.Swa.Body
public import proofs.«01_k».proof.Proof.Gen.Kernel
@[expose] public section
noncomputable section
namespace Cert.Proof
open Idealize.ShloMosaic Idealize.SL.Sem

set_option maxHeartbeats 4000000
theorem e_defs0 : @Cert.Kernel.defs₀ Bits _ Cert.Kernel.Gen.facts = @Cert.KernelIdeal.defs₀ Bits _ Cert.KernelIdeal.Gen.facts := by
  unfold Cert.Kernel.defs₀ Cert.KernelIdeal.defs₀
  refine congrArg (Defs.onTc (Val := Elt Bits) (Λ := Cert.KernelIdeal.Λ₀)) (funext fun ℓ => funext fun a => ?_)
  match ℓ, a with
  | 0, (t, s) => rfl

theorem e_defs : @Cert.Kernel.defs Bits _ Cert.Kernel.Gen.facts = @Cert.KernelIdeal.defs Bits _ Cert.KernelIdeal.Gen.facts := by
  unfold Cert.Kernel.defs Cert.KernelIdeal.defs
  exact congrArg (Pipeline.defs (Cert.KernelIdeal.pcfgs (F := Bits))) e_defs0

theorem e_main : @Cert.Kernel.main Bits _ Cert.Kernel.Gen.facts = @Cert.KernelIdeal.main Bits _ Cert.KernelIdeal.Gen.facts := by rfl

/-- The attention's backward kernel over bit patterns: the same run as over the reals. -/
theorem frame_kernel : Cert.quiescent_Kernel := by
  intro m ρ _
  rw [e_main, e_defs]
  exact Cert.KernelIdeal.Gen.swa_frame (F := Bits) m ρ
end Cert.Proof
end
-- ==== Proof.Swa.Mask.lean ====
/- The attention's mask, as the program computes it from row and column numbers. -/
module

public import proofs.«01_k».proof.Proof.Gen.KernelIdeal.Skeleton

@[expose] public section

set_option maxRecDepth 16384

noncomputable section

namespace Cert.KernelIdeal.Gen

open Idealize.ShloMosaic Idealize.ShloMosaic.TcCoe

/-! ## The mask -/

/-- A row's place in its head, as the program finds it. -/
theorem row_in_head : ∀ a : Fin 1024, Scalar.select (IntOp.andi (IntOp.xori (IntOp.cmpi CmpIPredicate.slt (IntOp.remsi ArithUnit.vector (BitVec.ofNat 32 a.val) (Scalar.select (Scalar.cmpi CmpIPredicate.eq 128#32 0#32) 1#32 128#32)) 0#32)
      (Scalar.cmpi CmpIPredicate.slt (Scalar.select (Scalar.cmpi CmpIPredicate.eq 128#32 0#32) 1#32 128#32) 0#32))
      (IntOp.cmpi CmpIPredicate.ne (IntOp.remsi ArithUnit.vector (BitVec.ofNat 32 a.val) (Scalar.select (Scalar.cmpi CmpIPredicate.eq 128#32 0#32) 1#32 128#32)) 0#32))
    (IntOp.addi (IntOp.remsi ArithUnit.vector (BitVec.ofNat 32 a.val) (Scalar.select (Scalar.cmpi CmpIPredicate.eq 128#32 0#32) 1#32 128#32)) 128#32)
    (IntOp.remsi ArithUnit.vector (BitVec.ofNat 32 a.val) (Scalar.select (Scalar.cmpi CmpIPredicate.eq 128#32 0#32) 1#32 128#32))
    = BitVec.ofNat 32 (a.val % 128) := by decide +kernel

/-- The mask's bit, from the row's place and the column. -/
theorem mask_bit : ∀ (f : Bool) (r : Fin 128) (j : Fin 256),
    (IntOp.andi (IntOp.andi (IntOp.cmpi CmpIPredicate.sge (IntOp.subi (IntOp.addi (BitVec.ofNat 32 r.val) 128#32) (BitVec.ofNat 32 j.val)) 0#32)
        (IntOp.cmpi CmpIPredicate.sle (IntOp.subi (IntOp.addi (BitVec.ofNat 32 r.val) 128#32) (BitVec.ofNat 32 j.val)) 127#32))
      (IntOp.ori (IntOp.cmpi CmpIPredicate.sge (BitVec.ofNat 32 j.val) 128#32) (BitVec.ofBool f)))
    = BitVec.ofBool (decide (r.val < j.val ∧ j.val ≤ r.val + 128 ∧ (128 ≤ j.val ∨ f = true))) := by decide +kernel

end Cert.KernelIdeal.Gen

end
-- ==== Proof.Swa.Block.lean ====
/- The attention's backward body over one block of 128 queries of the eight heads of a group, over the extended reals. -/
module

public import proofs.«01_k».proof.Proof.Mm
public import proofs.«01_k».proof.Proof.Swa.Mask

@[expose] public section

set_option maxRecDepth 16384

noncomputable section

namespace Cert.Swa

open Idealize.ShloMosaic Cert.Mm

/-- The scores' factor, an eighth, as the program writes it. -/
def scale : EReal := Ideal.ofBits .f32 0x3E000000#32

/-- Row `r` of query block `b` sees column `j` of its window: the 128 keys up to its own; the block before the first
    has none. -/
def seen (b r j : ℕ) : Prop := r < j ∧ j ≤ r + 128 ∧ (128 ≤ j ∨ b ≠ 0)

instance (b r j : ℕ) : Decidable (seen b r j) := by unfold seen; infer_instance

/-- The attention's weights of a block, from the rows' log-sums. -/
def prob (b : ℕ) (q : Mat 1024 64) (kk : Mat 256 64) (lse : Mat 1024 1) : Mat 1024 256 := fun i =>
  Ideal.exp ((if seen b ((i 0).val % 128) (i 1).val then nt q kk i * scale else ⊥) - lse (ix2 (i 0) (0 : Fin 1)))

/-- The scores' gradient of a block. -/
def dscore (b : ℕ) (q : Mat 1024 64) (kk vv : Mat 256 64) (lse del : Mat 1024 1) (dy : Mat 1024 64) : Mat 1024 256 := fun i =>
  prob b q kk lse i * (nt dy vv i - del (ix2 (i 0) (0 : Fin 1))) * scale

/-- Each row's product of output and cotangent. -/
def rowdot (o dy : Mat 1024 64) : Mat 1024 1 := fun i => ∑ k : Fin 64, o (ix2 (i 0) k) * dy (ix2 (i 0) k)

/-- Each row's part of the sink's gradient. -/
def dsinkRow (sk lse del : Mat 1024 1) : Mat 1024 1 := fun i => (0 - Ideal.exp (sk i - lse i)) * del i

end Cert.Swa

namespace Cert.KernelIdeal.Gen

open Idealize.ShloMosaic Idealize.ShloMosaic.TcCoe Cert.Swa

/-! ## The body's stages -/

theorem pay25_eq (b : ℕ) (lse : Mm.Mat 1024 1) (q : Mm.Mat 1024 64) (v30 v33 : Vec Ideal S1x128x64 .bf16) :
    k0_pay25 (F := Ideal) lse (k0_pay21 (F := Ideal) q v30 v33) (BitVec.ofBool (decide (b ≠ 0))) 128#32 k0_pay22 k0_pay23 k0_pay24
      = prob b q (k0_pay19 (F := Ideal) v30 v33) lse := by
  funext i
  have h22 : k0_pay22 i = IntOp.remsi ArithUnit.vector (BitVec.ofNat 32 (i 0).val) (Scalar.select (Scalar.cmpi CmpIPredicate.eq 128#32 0#32) 1#32 128#32) := by
    pointwise [k0_pay22]
  have hr := row_in_head (i 0)
  rw [← h22] at hr
  have hm := mask_bit (decide (b ≠ 0)) ⟨(i 0).val % 128, Nat.mod_lt _ (by norm_num)⟩ (i 1)
  have hb : Ideal.ofBits FTy.f32 4286578688#32 = ⊥ := by simp [Ideal.ofBits, Ideal.ieee]
  have h45 : k0_pay21 (F := Ideal) q v30 v33 i = Mm.nt q (k0_pay19 (F := Ideal) v30 v33) i * scale := by
    unfold Mm.nt scale
    pointwise [k0_pay21]
  unfold prob
  pointwise [k0_pay25, k0_pay23, k0_pay24]
  rw [hr, hm, hb, h45]
  refine congrArg Ideal.exp (congrArg (· - lse (ix2 (i 0) (0 : Fin 1))) ?_)
  by_cases hs : seen b ((i 0).val % 128) (i 1).val
  · rw [if_pos hs]
    have : decide ((i 0).val % 128 < (i 1).val ∧ (i 1).val ≤ (i 0).val % 128 + 128 ∧ (128 ≤ (i 1).val ∨ decide (b ≠ 0) = true)) = true := by
      rw [decide_eq_true_iff, decide_eq_true_iff]; exact hs
    rw [this]; rfl
  · rw [if_neg hs]
    have : decide ((i 0).val % 128 < (i 1).val ∧ (i 1).val ≤ (i 0).val % 128 + 128 ∧ (128 ≤ (i 1).val ∨ decide (b ≠ 0) = true)) = false := by
      rw [decide_eq_false_iff_not, decide_eq_true_iff]; exact hs
    rw [this]; rfl

/-- The first query block's weights: the stage's bits as the program passes them. -/
abbrev bit (b : ℕ) : BitVec 1 := BitVec.ofBool (decide (b ≠ 0))

theorem pay26_eq (b : ℕ) (lse del : Mm.Mat 1024 1) (q dy : Mm.Mat 1024 64) (vv : Mm.Mat 256 64) (v30 v33 : Vec Ideal S1x128x64 .bf16) :
    k0_pay26 (F := Ideal) lse del dy vv (k0_pay21 (F := Ideal) q v30 v33) (bit b) 128#32 k0_pay22 k0_pay23 k0_pay24
      = dscore b q (k0_pay19 (F := Ideal) v30 v33) vv lse del dy := by
  funext i
  unfold dscore Mm.nt scale
  rw [← pay25_eq]
  pointwise [k0_pay26]

theorem pay27_apply (b : ℕ) (lse del : Mm.Mat 1024 1) (q dy : Mm.Mat 1024 64) (vv : Mm.Mat 256 64) (v30 v33 : Vec Ideal S1x128x64 .bf16) (y : S8x128x64.Idx) :
    k0_pay27 (F := Ideal) lse del dy (k0_pay19 (F := Ideal) v30 v33) vv (k0_pay21 (F := Ideal) q v30 v33) (bit b) 128#32 k0_pay22 k0_pay23 k0_pay24 y
      = Mm.nn (dscore b q (k0_pay19 (F := Ideal) v30 v33) vv lse del dy) (k0_pay19 (F := Ideal) v30 v33)
          (ix2 ⟨(y 0).val * 128 + (y 1).val, by have := (y 0).isLt; have := (y 1).isLt; simp only [Matrix.cons_val_zero, Matrix.cons_val_one] at *; omega⟩ (y 2)) := by
  unfold Mm.nn
  rw [← pay26_eq]
  pointwise [k0_pay27]

theorem pay28_eq (b : ℕ) (lse del : Mm.Mat 1024 1) (q dy : Mm.Mat 1024 64) (vv : Mm.Mat 256 64) (v30 v33 : Vec Ideal S1x128x64 .bf16) :
    k0_pay28 (F := Ideal) q lse del dy vv (k0_pay21 (F := Ideal) q v30 v33) (bit b) 128#32 k0_pay22 k0_pay23 k0_pay24
      = Mm.tn (dscore b q (k0_pay19 (F := Ideal) v30 v33) vv lse del dy) q := by
  funext i
  unfold Mm.tn
  rw [← pay26_eq]
  pointwise [k0_pay28]

theorem pay29_eq (b : ℕ) (lse : Mm.Mat 1024 1) (q dy : Mm.Mat 1024 64) (v30 v33 : Vec Ideal S1x128x64 .bf16) :
    k0_pay29 (F := Ideal) lse dy (k0_pay21 (F := Ideal) q v30 v33) (bit b) 128#32 k0_pay22 k0_pay23 k0_pay24
      = Mm.tn (prob b q (k0_pay19 (F := Ideal) v30 v33) lse) dy := by
  funext i
  unfold Mm.tn
  rw [← pay25_eq]
  pointwise [k0_pay29]

/-! ## What is added to the accumulators -/

/-- Rows `0…127` of a block's 256 key rows, as a piece of the accumulator. -/
def lower (D : Mm.Mat 256 64) : Vec Ideal S1x128x64 .f32 := fun x => D (ix2 ⟨(x 1).val, by have h : (x 1).val < 128 := (x 1).isLt; omega⟩ (x 2))
/-- Rows `128…255`. -/
def upper (D : Mm.Mat 256 64) : Vec Ideal S1x128x64 .f32 := fun x => D (ix2 ⟨128 + (x 1).val, by have h : (x 1).val < 128 := (x 1).isLt; omega⟩ (x 2))

theorem pay30_apply (a1 a2 a3 a4 a5 a6 a7 a8 a9 a10 a11 v) (x : S1x128x64.Idx) :
    k0_pay31 (k0_pay30 (F := Ideal) a1 a2 a3 a4 a5 a6 a7 a8 a9 a10 a11 v) x = (v x : EReal) + lower (k0_pay28 (F := Ideal) a1 a2 a3 a4 a5 a6 a7 a8 a9 a10 a11) x := by
  unfold lower
  pointwise [k0_pay31, k0_pay30]
theorem pay32_apply (D : Mm.Mat 256 64) (v) (x : S1x128x64.Idx) : k0_pay32 (F := Ideal) D v x = (v x : EReal) + upper D x := by
  unfold upper
  pointwise [k0_pay32]
theorem pay33_apply (D : Mm.Mat 256 64) (v) (x : S1x128x64.Idx) : k0_pay33 (F := Ideal) D v x = (v x : EReal) + lower D x := by
  unfold lower
  pointwise [k0_pay33]
theorem pay34_apply (D : Mm.Mat 256 64) (v) (x : S1x128x64.Idx) : k0_pay34 (F := Ideal) D v x = (v x : EReal) + upper D x := by
  unfold upper
  pointwise [k0_pay34]
theorem pay35_apply (sk lse del : Mm.Mat 1024 1) (v) (x : S1024x1.Idx) : k0_pay36 (k0_pay35 (F := Ideal) sk lse del v) x = (v x : EReal) + dsinkRow sk lse del x := by
  unfold dsinkRow
  pointwise [k0_pay36, k0_pay35]
theorem pay57_apply (sk lse del : Mm.Mat 1024 1) (v) (x : S1024x1.Idx) : k0_pay57 (F := Ideal) sk lse del v x = (v x : EReal) + dsinkRow sk lse del x := by
  unfold dsinkRow
  pointwise [k0_pay57]

/-! ## The second block of a step is computed as the first -/

section second
variable (sk lse del : Mm.Mat 1024 1) (q dy : Mm.Mat 1024 64) (kk vv : Mm.Mat 256 64) (s : Mm.Mat 1024 256) (f : BitVec 1) (v : Vec Ideal S1x128x64 .f32)

/-- The column numbers, as the program passes them. -/
abbrev cols : IVec S1024x256 32 := iota Kind.tc S1024x256 32 [1] iota_S1024x256_d1_w32

theorem pay49_eq : k0_pay49 (F := Ideal) lse del dy kk vv s f cols k0_pay45 k0_pay46 = k0_pay27 (F := Ideal) lse del dy kk vv s f 128#32 k0_pay22 k0_pay23 k0_pay24 := rfl
theorem pay51_eq : k0_pay51 (F := Ideal) lse dy s f cols k0_pay45 k0_pay46 = k0_pay29 (F := Ideal) lse dy s f 128#32 k0_pay22 k0_pay23 k0_pay24 := rfl
theorem pay52_eq : k0_pay52 (F := Ideal) q lse del dy vv s f cols k0_pay45 k0_pay46 v = k0_pay31 (k0_pay30 (F := Ideal) q lse del dy vv s f 128#32 k0_pay22 k0_pay23 k0_pay24 v) := rfl
theorem pay53_eq : k0_pay54 (k0_pay53 (F := Ideal) q lse del dy vv s f cols k0_pay45 k0_pay46 v) = k0_pay32 (F := Ideal) (k0_pay28 (F := Ideal) q lse del dy vv s f 128#32 k0_pay22 k0_pay23 k0_pay24) v := rfl
end second

/-! ## The loaded blocks -/

theorem pay44_eq (q : Mm.Mat 1024 64) (a b : Vec Ideal S1x128x64 .bf16) : k0_pay44 (F := Ideal) q (k0_pay42 (F := Ideal) a b) = k0_pay21 (F := Ideal) q a b := rfl

end Cert.KernelIdeal.Gen

end
-- ==== Proof.Swa.Load.lean ====
/- The blocks the attention's backward body loads, as rows of the arrays. -/
module

public import proofs.«01_k».proof.Proof.Swa.Block
public import proofs.«01_k».proof.Proof.Swa.Body

@[expose] public section

set_option maxRecDepth 16384

noncomputable section

namespace Cert.Swa

open Idealize.ShloMosaic Cert.Mm

/-- The eight heads' rows of query block `b` of key head `h`, head after head. -/
def rows {n d : ℕ} (hn : 32 ≤ n) (A : (⟨3, ![n, 2048, d]⟩ : Shape).Idx → EReal) (h : Fin 4) (b : ℕ) : Mat 1024 d := fun i =>
  A (ix3 ⟨8 * h.val + (i 0).val / 128, by have h0 : (i 0).val < 1024 := (i 0).isLt; omega⟩
    ⟨(128 * b + (i 0).val % 128) % 2048, by omega⟩ (i 1))

/-- The keys (or values) that query block `b` of key head `h` sees: the block before it and its own. -/
def keys (o : ℕ) (ho : o + 4 ≤ 40) (A : (⟨3, ![40, 2048, 64]⟩ : Shape).Idx → EReal) (h : Fin 4) (b : ℕ) : Mat 256 64 := fun i =>
  if (i 0).val < 128 then A (ix3 ⟨o + h.val, by omega⟩ ⟨((128 * b - 128) + (i 0).val) % 2048, by omega⟩ (i 1))
  else A (ix3 ⟨o + h.val, by omega⟩ ⟨(128 * b + ((i 0).val - 128)) % 2048, by omega⟩ (i 1))

/-- The sinks of a key head's rows. -/
def sinkRows (A : (⟨3, ![4, 1024, 1]⟩ : Shape).Idx → EReal) (h : Fin 4) : Mat 1024 1 := fun i => A (ix3 h (i 0) (i 1))

end Cert.Swa

namespace Cert.KernelIdeal.Gen

open Idealize.ShloMosaic Idealize.ShloMosaic.TcCoe Cert.Swa

variable (m : (ℓ : Loc nD τ sig) → Buf (Elt Ideal) ℓ) (c : Dev nD)

theorem tlt (t : Fin cfg0.N) : t.val < 32 := lt_of_lt_of_eq t.isLt (show cfg0.N = 32 from N_0)

/-- The key head of a point, and its first query block. -/
def hd (t : Fin cfg0.N) : Fin 4 := ⟨t.val / 8, by have := tlt t; omega⟩

/-! ## Where the windows stand at a point -/

theorem at_0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem at_1 : ∀ t : Fin cfg0.N, win0_1.index t (0 : Fin 3) = 32 + t.val / 8 ∧ win0_1.index t (1 : Fin 3) = 0 ∧ win0_1.index t (2 : Fin 3) = 0 :=
  (by decide +kernel : ∀ t : Fin grid0.N, _)
theorem at_2 : ∀ t : Fin cfg0.N, win0_2.index t (0 : Fin 3) = 36 + t.val / 8 ∧ win0_2.index t (1 : Fin 3) = 0 ∧ win0_2.index t (2 : Fin 3) = 0 :=
  (by decide +kernel : ∀ t : Fin grid0.N, _)
theorem at_3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)
theorem at_4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
theorem at_5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)
theorem at_6 : ∀ t : Fin cfg0.N, win0_6.index t (0 : Fin 3) = t.val / 8 ∧ win0_6.index t (1 : Fin 3) = 0 ∧ win0_6.index t (2 : Fin 3) = 0 :=
  (by decide +kernel : ∀ t : Fin grid0.N, _)
theorem at_7 : ∀ t : Fin cfg0.N, win0_7.index t (0 : Fin 3) = t.val / 8 ∧ win0_7.index t (1 : Fin 3) = t.val % 8 ∧ win0_7.index t (2 : Fin 3) = 0 :=
  (by decide +kernel : ∀ t : Fin grid0.N, _)
theorem at_8 : ∀ t : Fin cfg0.N, win0_8.index t (0 : Fin 3) = t.val / 8 ∧ win0_8.index t (1 : Fin 3) = 0 ∧ win0_8.index t (2 : Fin 3) = 0 :=
  (by decide +kernel : ∀ t : Fin grid0.N, _)
theorem at_9 : ∀ t : Fin cfg0.N, win0_9.index t (0 : Fin 3) = t.val / 8 ∧ win0_9.index t (1 : Fin 3) = 0 ∧ win0_9.index t (2 : Fin 3) = 0 :=
  (by decide +kernel : ∀ t : Fin grid0.N, _)
theorem at_10 : ∀ t : Fin cfg0.N, win0_10.index t (0 : Fin 3) = t.val / 8 ∧ win0_10.index t (1 : Fin 3) = 0 ∧ win0_10.index t (2 : Fin 3) = 0 :=
  (by decide +kernel : ∀ t : Fin grid0.N, _)

/-! ## The arrays the kernel is called with -/

def qkvA : S40x2048x64.Idx → EReal := V m c main_v3
def dyA : S32x2048x64.Idx → EReal := V m c main_v99
def lseA : S32x2048x1.Idx → EReal := V m c main_v95
def oA : S32x2048x64.Idx → EReal := V m c main_v96
def sinkA : S4x1024x1.Idx → EReal := V m c main_v7

/-! ## A window's block, at an index -/

theorem blkW_0 (W : (b : Ref sig .tc) → Buf (Elt Ideal) ((c : Thread nD τ).loc b)) (t : Fin cfg0.N) (x : S8x256x64.Idx) :
    ((cfg0.win 0).blk t).view.read (Elt Ideal) (W (Pipeline.arrRef spec0 0)) x = W main_v3 (ix3 ⟨8 * (t.val / 8) + (x 0).val, by have := tlt t; have : (x 0).val < 8 := (x 0).isLt; omega⟩ ⟨256 * (t.val % 8) + (x 1).val, by have := tlt t; have : (x 1).val < 256 := (x 1).isLt; omega⟩ (x 2)) := by
  obtain ⟨e0, e1, e2⟩ := at_0 t
  have hx : (x 0).val < 8 := (x 0).isLt
  refine congrArg (W main_v3) ?_
  funext a; apply Fin.ext
  match a with
  | ⟨0, _⟩ => show win0_0.index t (0 : Fin 3) * 8 + 1 * (x 0).val = 8 * (t.val / 8) + (x 0).val; omega
  | ⟨1, _⟩ => show win0_0.index t (1 : Fin 3) * 256 + 1 * (x 1).val = 256 * (t.val % 8) + (x 1).val; omega
  | ⟨2, _⟩ => show win0_0.index t (2 : Fin 3) * 64 + 1 * (x 2).val = (x 2).val; omega
theorem blk_0 (t : Fin cfg0.N) (x : S8x256x64.Idx) : iblk m c 0 t x = qkvA m c (ix3 ⟨8 * (t.val / 8) + (x 0).val, by have := tlt t; have : (x 0).val < 8 := (x 0).isLt; omega⟩ ⟨256 * (t.val % 8) + (x 1).val, by have := tlt t; have : (x 1).val < 256 := (x 1).isLt; omega⟩ (x 2)) :=
  blkW_0 c (V m c) t x
theorem blkW_1 (W : (b : Ref sig .tc) → Buf (Elt Ideal) ((c : Thread nD τ).loc b)) (t : Fin cfg0.N) (x : S1x2048x64.Idx) :
    ((cfg0.win 1).blk t).view.read (Elt Ideal) (W (Pipeline.arrRef spec0 1)) x = W main_v3 (ix3 ⟨32 + t.val / 8, by have := tlt t; have : (x 0).val < 1 := (x 0).isLt; omega⟩ (x 1) (x 2)) := by
  obtain ⟨e0, e1, e2⟩ := at_1 t
  have hx : (x 0).val < 1 := (x 0).isLt
  refine congrArg (W main_v3) ?_
  funext a; apply Fin.ext
  match a with
  | ⟨0, _⟩ => show win0_1.index t (0 : Fin 3) * 1 + 1 * (x 0).val = 32 + t.val / 8; omega
  | ⟨1, _⟩ => show win0_1.index t (1 : Fin 3) * 2048 + 1 * (x 1).val = (x 1).val; omega
  | ⟨2, _⟩ => show win0_1.index t (2 : Fin 3) * 64 + 1 * (x 2).val = (x 2).val; omega
theorem blk_1 (t : Fin cfg0.N) (x : S1x2048x64.Idx) : iblk m c 1 t x = qkvA m c (ix3 ⟨32 + t.val / 8, by have := tlt t; have : (x 0).val < 1 := (x 0).isLt; omega⟩ (x 1) (x 2)) :=
  blkW_1 c (V m c) t x
theorem blkW_2 (W : (b : Ref sig .tc) → Buf (Elt Ideal) ((c : Thread nD τ).loc b)) (t : Fin cfg0.N) (x : S1x2048x64.Idx) :
    ((cfg0.win 2).blk t).view.read (Elt Ideal) (W (Pipeline.arrRef spec0 2)) x = W main_v3 (ix3 ⟨36 + t.val / 8, by have := tlt t; have : (x 0).val < 1 := (x 0).isLt; omega⟩ (x 1) (x 2)) := by
  obtain ⟨e0, e1, e2⟩ := at_2 t
  have hx : (x 0).val < 1 := (x 0).isLt
  refine congrArg (W main_v3) ?_
  funext a; apply Fin.ext
  match a with
  | ⟨0, _⟩ => show win0_2.index t (0 : Fin 3) * 1 + 1 * (x 0).val = 36 + t.val / 8; omega
  | ⟨1, _⟩ => show win0_2.index t (1 : Fin 3) * 2048 + 1 * (x 1).val = (x 1).val; omega
  | ⟨2, _⟩ => show win0_2.index t (2 : Fin 3) * 64 + 1 * (x 2).val = (x 2).val; omega
theorem blk_2 (t : Fin cfg0.N) (x : S1x2048x64.Idx) : iblk m c 2 t x = qkvA m c (ix3 ⟨36 + t.val / 8, by have := tlt t; have : (x 0).val < 1 := (x 0).isLt; omega⟩ (x 1) (x 2)) :=
  blkW_2 c (V m c) t x
theorem blkW_3 (W : (b : Ref sig .tc) → Buf (Elt Ideal) ((c : Thread nD τ).loc b)) (t : Fin cfg0.N) (x : S8x256x64.Idx) :
    ((cfg0.win 3).blk t).view.read (Elt Ideal) (W (Pipeline.arrRef spec0 3)) x = W main_v99 (ix3 ⟨8 * (t.val / 8) + (x 0).val, by have := tlt t; have : (x 0).val < 8 := (x 0).isLt; omega⟩ ⟨256 * (t.val % 8) + (x 1).val, by have := tlt t; have : (x 1).val < 256 := (x 1).isLt; omega⟩ (x 2)) := by
  obtain ⟨e0, e1, e2⟩ := at_3 t
  have hx : (x 0).val < 8 := (x 0).isLt
  refine congrArg (W main_v99) ?_
  funext a; apply Fin.ext
  match a with
  | ⟨0, _⟩ => show win0_3.index t (0 : Fin 3) * 8 + 1 * (x 0).val = 8 * (t.val / 8) + (x 0).val; omega
  | ⟨1, _⟩ => show win0_3.index t (1 : Fin 3) * 256 + 1 * (x 1).val = 256 * (t.val % 8) + (x 1).val; omega
  | ⟨2, _⟩ => show win0_3.index t (2 : Fin 3) * 64 + 1 * (x 2).val = (x 2).val; omega
theorem blk_3 (t : Fin cfg0.N) (x : S8x256x64.Idx) : iblk m c 3 t x = dyA m c (ix3 ⟨8 * (t.val / 8) + (x 0).val, by have := tlt t; have : (x 0).val < 8 := (x 0).isLt; omega⟩ ⟨256 * (t.val % 8) + (x 1).val, by have := tlt t; have : (x 1).val < 256 := (x 1).isLt; omega⟩ (x 2)) :=
  blkW_3 c (V m c) t x
theorem blkW_4 (W : (b : Ref sig .tc) → Buf (Elt Ideal) ((c : Thread nD τ).loc b)) (t : Fin cfg0.N) (x : S8x256x1.Idx) :
    ((cfg0.win 4).blk t).view.read (Elt Ideal) (W (Pipeline.arrRef spec0 4)) x = W main_v95 (ix3 ⟨8 * (t.val / 8) + (x 0).val, by have := tlt t; have : (x 0).val < 8 := (x 0).isLt; omega⟩ ⟨256 * (t.val % 8) + (x 1).val, by have := tlt t; have : (x 1).val < 256 := (x 1).isLt; omega⟩ (x 2)) := by
  obtain ⟨e0, e1, e2⟩ := at_4 t
  have hx : (x 0).val < 8 := (x 0).isLt
  refine congrArg (W main_v95) ?_
  funext a; apply Fin.ext
  match a with
  | ⟨0, _⟩ => show win0_4.index t (0 : Fin 3) * 8 + 1 * (x 0).val = 8 * (t.val / 8) + (x 0).val; omega
  | ⟨1, _⟩ => show win0_4.index t (1 : Fin 3) * 256 + 1 * (x 1).val = 256 * (t.val % 8) + (x 1).val; omega
  | ⟨2, _⟩ => show win0_4.index t (2 : Fin 3) * 1 + 1 * (x 2).val = (x 2).val; omega
theorem blk_4 (t : Fin cfg0.N) (x : S8x256x1.Idx) : iblk m c 4 t x = lseA m c (ix3 ⟨8 * (t.val / 8) + (x 0).val, by have := tlt t; have : (x 0).val < 8 := (x 0).isLt; omega⟩ ⟨256 * (t.val % 8) + (x 1).val, by have := tlt t; have : (x 1).val < 256 := (x 1).isLt; omega⟩ (x 2)) :=
  blkW_4 c (V m c) t x
theorem blkW_5 (W : (b : Ref sig .tc) → Buf (Elt Ideal) ((c : Thread nD τ).loc b)) (t : Fin cfg0.N) (x : S8x256x64.Idx) :
    ((cfg0.win 5).blk t).view.read (Elt Ideal) (W (Pipeline.arrRef spec0 5)) x = W main_v96 (ix3 ⟨8 * (t.val / 8) + (x 0).val, by have := tlt t; have : (x 0).val < 8 := (x 0).isLt; omega⟩ ⟨256 * (t.val % 8) + (x 1).val, by have := tlt t; have : (x 1).val < 256 := (x 1).isLt; omega⟩ (x 2)) := by
  obtain ⟨e0, e1, e2⟩ := at_5 t
  have hx : (x 0).val < 8 := (x 0).isLt
  refine congrArg (W main_v96) ?_
  funext a; apply Fin.ext
  match a with
  | ⟨0, _⟩ => show win0_5.index t (0 : Fin 3) * 8 + 1 * (x 0).val = 8 * (t.val / 8) + (x 0).val; omega
  | ⟨1, _⟩ => show win0_5.index t (1 : Fin 3) * 256 + 1 * (x 1).val = 256 * (t.val % 8) + (x 1).val; omega
  | ⟨2, _⟩ => show win0_5.index t (2 : Fin 3) * 64 + 1 * (x 2).val = (x 2).val; omega
theorem blk_5 (t : Fin cfg0.N) (x : S8x256x64.Idx) : iblk m c 5 t x = oA m c (ix3 ⟨8 * (t.val / 8) + (x 0).val, by have := tlt t; have : (x 0).val < 8 := (x 0).isLt; omega⟩ ⟨256 * (t.val % 8) + (x 1).val, by have := tlt t; have : (x 1).val < 256 := (x 1).isLt; omega⟩ (x 2)) :=
  blkW_5 c (V m c) t x
theorem blkW_6 (W : (b : Ref sig .tc) → Buf (Elt Ideal) ((c : Thread nD τ).loc b)) (t : Fin cfg0.N) (x : S1x1024x1.Idx) :
    ((cfg0.win 6).blk t).view.read (Elt Ideal) (W (Pipeline.arrRef spec0 6)) x = W main_v7 (ix3 ⟨t.val / 8, by have := tlt t; have : (x 0).val < 1 := (x 0).isLt; omega⟩ (x 1) (x 2)) := by
  obtain ⟨e0, e1, e2⟩ := at_6 t
  have hx : (x 0).val < 1 := (x 0).isLt
  refine congrArg (W main_v7) ?_
  funext a; apply Fin.ext
  match a with
  | ⟨0, _⟩ => show win0_6.index t (0 : Fin 3) * 1 + 1 * (x 0).val = t.val / 8; omega
  | ⟨1, _⟩ => show win0_6.index t (1 : Fin 3) * 1024 + 1 * (x 1).val = (x 1).val; omega
  | ⟨2, _⟩ => show win0_6.index t (2 : Fin 3) * 1 + 1 * (x 2).val = (x 2).val; omega
theorem blk_6 (t : Fin cfg0.N) (x : S1x1024x1.Idx) : iblk m c 6 t x = sinkA m c (ix3 ⟨t.val / 8, by have := tlt t; have : (x 0).val < 1 := (x 0).isLt; omega⟩ (x 1) (x 2)) :=
  blkW_6 c (V m c) t x

/-! ## What the body makes of a block it loads -/

theorem ld_q0 (M : Memref sig .tc .vmem S8x256x64 .bf16) (hM : M.IsWhole) (x : Vec Ideal S8x256x64 .bf16) (inb) (i) :
    k0_pay14 (F := Ideal) (View.readAt (Elt Ideal) M.view (Rect.unit (s := S8x256x64) ![0, 0, 0] S8x128x64.size inb).toLoadRect (hM.unread x)) i
      = x (ix3 ⟨(i 0).val / 128, by have : (i 0).val < 1024 := (i 0).isLt; omega⟩ ⟨0 + (i 0).val % 128, by omega⟩ (i 1)) := by
  have hi : (i 0).val < 1024 := (i 0).isLt
  rw [View.readAt_eq_ld, Memref.IsWhole.read_unread]
  pointwise [k0_pay14]
theorem ld_q1 (M : Memref sig .tc .vmem S8x256x64 .bf16) (hM : M.IsWhole) (x : Vec Ideal S8x256x64 .bf16) (inb) (i) :
    k0_pay14 (F := Ideal) (View.readAt (Elt Ideal) M.view (Rect.unit (s := S8x256x64) ![0, 128, 0] S8x128x64.size inb).toLoadRect (hM.unread x)) i
      = x (ix3 ⟨(i 0).val / 128, by have : (i 0).val < 1024 := (i 0).isLt; omega⟩ ⟨128 + (i 0).val % 128, by omega⟩ (i 1)) := by
  have hi : (i 0).val < 1024 := (i 0).isLt
  rw [View.readAt_eq_ld, Memref.IsWhole.read_unread]
  pointwise [k0_pay14]
theorem ld_dy0 (M : Memref sig .tc .vmem S8x256x64 .f32) (hM : M.IsWhole) (x : Vec Ideal S8x256x64 .f32) (inb) (i) :
    k0_pay18 (F := Ideal) (View.readAt (Elt Ideal) M.view (Rect.unit (s := S8x256x64) ![0, 0, 0] S8x128x64.size inb).toLoadRect (hM.unread x)) i
      = x (ix3 ⟨(i 0).val / 128, by have : (i 0).val < 1024 := (i 0).isLt; omega⟩ ⟨0 + (i 0).val % 128, by omega⟩ (i 1)) := by
  have hi : (i 0).val < 1024 := (i 0).isLt
  rw [View.readAt_eq_ld, Memref.IsWhole.read_unread]
  pointwise [k0_pay18, k0_pay15]
theorem ld_dy1 (M : Memref sig .tc .vmem S8x256x64 .f32) (hM : M.IsWhole) (x : Vec Ideal S8x256x64 .f32) (inb) (i) :
    k0_pay18 (F := Ideal) (View.readAt (Elt Ideal) M.view (Rect.unit (s := S8x256x64) ![0, 128, 0] S8x128x64.size inb).toLoadRect (hM.unread x)) i
      = x (ix3 ⟨(i 0).val / 128, by have : (i 0).val < 1024 := (i 0).isLt; omega⟩ ⟨128 + (i 0).val % 128, by omega⟩ (i 1)) := by
  have hi : (i 0).val < 1024 := (i 0).isLt
  rw [View.readAt_eq_ld, Memref.IsWhole.read_unread]
  pointwise [k0_pay18, k0_pay15]
theorem ld_o0 (M : Memref sig .tc .vmem S8x256x64 .f32) (hM : M.IsWhole) (x : Vec Ideal S8x256x64 .f32) (inb) (i) :
    k0_pay15 (F := Ideal) (View.readAt (Elt Ideal) M.view (Rect.unit (s := S8x256x64) ![0, 0, 0] S8x128x64.size inb).toLoadRect (hM.unread x)) i
      = x (ix3 ⟨(i 0).val / 128, by have : (i 0).val < 1024 := (i 0).isLt; omega⟩ ⟨0 + (i 0).val % 128, by omega⟩ (i 1)) := by
  have hi : (i 0).val < 1024 := (i 0).isLt
  rw [View.readAt_eq_ld, Memref.IsWhole.read_unread]
  pointwise [k0_pay15]
theorem ld_o1 (M : Memref sig .tc .vmem S8x256x64 .f32) (hM : M.IsWhole) (x : Vec Ideal S8x256x64 .f32) (inb) (i) :
    k0_pay15 (F := Ideal) (View.readAt (Elt Ideal) M.view (Rect.unit (s := S8x256x64) ![0, 128, 0] S8x128x64.size inb).toLoadRect (hM.unread x)) i
      = x (ix3 ⟨(i 0).val / 128, by have : (i 0).val < 1024 := (i 0).isLt; omega⟩ ⟨128 + (i 0).val % 128, by omega⟩ (i 1)) := by
  have hi : (i 0).val < 1024 := (i 0).isLt
  rw [View.readAt_eq_ld, Memref.IsWhole.read_unread]
  pointwise [k0_pay15]
theorem ld_lse0 (M : Memref sig .tc .vmem S8x256x1 .f32) (hM : M.IsWhole) (x : Vec Ideal S8x256x1 .f32) (inb) (i) :
    k0_pay16 (F := Ideal) (View.readAt (Elt Ideal) M.view (Rect.unit (s := S8x256x1) ![0, 0, 0] S8x128x1.size inb).toLoadRect (hM.unread x)) i
      = x (ix3 ⟨(i 0).val / 128, by have : (i 0).val < 1024 := (i 0).isLt; omega⟩ ⟨0 + (i 0).val % 128, by omega⟩ (i 1)) := by
  have hi : (i 0).val < 1024 := (i 0).isLt
  rw [View.readAt_eq_ld, Memref.IsWhole.read_unread]
  pointwise [k0_pay16]
  refine congrArg x ?_
  funext a; apply Fin.ext
  match a with
  | ⟨0, _⟩ => rfl
  | ⟨1, _⟩ => rfl
  | ⟨2, _⟩ => have h1 : (i 1).val < 1 := (i 1).isLt; show 0 = (i 1).val; omega
theorem ld_lse1 (M : Memref sig .tc .vmem S8x256x1 .f32) (hM : M.IsWhole) (x : Vec Ideal S8x256x1 .f32) (inb) (i) :
    k0_pay16 (F := Ideal) (View.readAt (Elt Ideal) M.view (Rect.unit (s := S8x256x1) ![0, 128, 0] S8x128x1.size inb).toLoadRect (hM.unread x)) i
      = x (ix3 ⟨(i 0).val / 128, by have : (i 0).val < 1024 := (i 0).isLt; omega⟩ ⟨128 + (i 0).val % 128, by omega⟩ (i 1)) := by
  have hi : (i 0).val < 1024 := (i 0).isLt
  rw [View.readAt_eq_ld, Memref.IsWhole.read_unread]
  pointwise [k0_pay16]
  refine congrArg x ?_
  funext a; apply Fin.ext
  match a with
  | ⟨0, _⟩ => rfl
  | ⟨1, _⟩ => rfl
  | ⟨2, _⟩ => have h1 : (i 1).val < 1 := (i 1).isLt; show 0 = (i 1).val; omega
theorem load_q0 (t : Fin cfg0.N) (inb) :
    k0_pay14 (F := Ideal) (View.readAt (Elt Ideal) (ms_0 t).view (Rect.unit (s := S8x256x64) ![0, 0, 0] S8x128x64.size inb).toLoadRect ((hs_0 t).unread (iblk m c 0 t)))
      = rows (n := 40) (by norm_num) (qkvA m c) (hd t) (2 * (t.val % 8)) := by
  funext i
  refine (ld_q0 (ms_0 t) (hs_0 t) (iblk m c 0 t) inb i).trans ((blk_0 m c t _).trans (congrArg (qkvA m c) ?_))
  have hi : (i 0).val < 1024 := (i 0).isLt
  funext a; apply Fin.ext
  match a with
  | ⟨0, _⟩ => rfl
  | ⟨1, _⟩ => show 256 * (t.val % 8) + (0 + (i 0).val % 128) = (128 * (2 * (t.val % 8)) + (i 0).val % 128) % 2048; omega
  | ⟨2, _⟩ => rfl
theorem load_q1 (t : Fin cfg0.N) (inb) :
    k0_pay14 (F := Ideal) (View.readAt (Elt Ideal) (ms_0 t).view (Rect.unit (s := S8x256x64) ![0, 128, 0] S8x128x64.size inb).toLoadRect ((hs_0 t).unread (iblk m c 0 t)))
      = rows (n := 40) (by norm_num) (qkvA m c) (hd t) (2 * (t.val % 8) + 1) := by
  funext i
  refine (ld_q1 (ms_0 t) (hs_0 t) (iblk m c 0 t) inb i).trans ((blk_0 m c t _).trans (congrArg (qkvA m c) ?_))
  have hi : (i 0).val < 1024 := (i 0).isLt
  funext a; apply Fin.ext
  match a with
  | ⟨0, _⟩ => rfl
  | ⟨1, _⟩ => show 256 * (t.val % 8) + (128 + (i 0).val % 128) = (128 * (2 * (t.val % 8) + 1) + (i 0).val % 128) % 2048; omega
  | ⟨2, _⟩ => rfl
theorem load_dy0 (t : Fin cfg0.N) (inb) :
    k0_pay18 (F := Ideal) (View.readAt (Elt Ideal) (ms_3 t).view (Rect.unit (s := S8x256x64) ![0, 0, 0] S8x128x64.size inb).toLoadRect ((hs_3 t).unread (iblk m c 3 t)))
      = rows (n := 32) (by norm_num) (dyA m c) (hd t) (2 * (t.val % 8)) := by
  funext i
  refine (ld_dy0 (ms_3 t) (hs_3 t) (iblk m c 3 t) inb i).trans ((blk_3 m c t _).trans (congrArg (dyA m c) ?_))
  have hi : (i 0).val < 1024 := (i 0).isLt
  funext a; apply Fin.ext
  match a with
  | ⟨0, _⟩ => rfl
  | ⟨1, _⟩ => show 256 * (t.val % 8) + (0 + (i 0).val % 128) = (128 * (2 * (t.val % 8)) + (i 0).val % 128) % 2048; omega
  | ⟨2, _⟩ => rfl
theorem load_dy1 (t : Fin cfg0.N) (inb) :
    k0_pay18 (F := Ideal) (View.readAt (Elt Ideal) (ms_3 t).view (Rect.unit (s := S8x256x64) ![0, 128, 0] S8x128x64.size inb).toLoadRect ((hs_3 t).unread (iblk m c 3 t)))
      = rows (n := 32) (by norm_num) (dyA m c) (hd t) (2 * (t.val % 8) + 1) := by
  funext i
  refine (ld_dy1 (ms_3 t) (hs_3 t) (iblk m c 3 t) inb i).trans ((blk_3 m c t _).trans (congrArg (dyA m c) ?_))
  have hi : (i 0).val < 1024 := (i 0).isLt
  funext a; apply Fin.ext
  match a with
  | ⟨0, _⟩ => rfl
  | ⟨1, _⟩ => show 256 * (t.val % 8) + (128 + (i 0).val % 128) = (128 * (2 * (t.val % 8) + 1) + (i 0).val % 128) % 2048; omega
  | ⟨2, _⟩ => rfl
theorem load_o0 (t : Fin cfg0.N) (inb) :
    k0_pay15 (F := Ideal) (View.readAt (Elt Ideal) (ms_5 t).view (Rect.unit (s := S8x256x64) ![0, 0, 0] S8x128x64.size inb).toLoadRect ((hs_5 t).unread (iblk m c 5 t)))
      = rows (n := 32) (by norm_num) (oA m c) (hd t) (2 * (t.val % 8)) := by
  funext i
  refine (ld_o0 (ms_5 t) (hs_5 t) (iblk m c 5 t) inb i).trans ((blk_5 m c t _).trans (congrArg (oA m c) ?_))
  have hi : (i 0).val < 1024 := (i 0).isLt
  funext a; apply Fin.ext
  match a with
  | ⟨0, _⟩ => rfl
  | ⟨1, _⟩ => show 256 * (t.val % 8) + (0 + (i 0).val % 128) = (128 * (2 * (t.val % 8)) + (i 0).val % 128) % 2048; omega
  | ⟨2, _⟩ => rfl
theorem load_o1 (t : Fin cfg0.N) (inb) :
    k0_pay15 (F := Ideal) (View.readAt (Elt Ideal) (ms_5 t).view (Rect.unit (s := S8x256x64) ![0, 128, 0] S8x128x64.size inb).toLoadRect ((hs_5 t).unread (iblk m c 5 t)))
      = rows (n := 32) (by norm_num) (oA m c) (hd t) (2 * (t.val % 8) + 1) := by
  funext i
  refine (ld_o1 (ms_5 t) (hs_5 t) (iblk m c 5 t) inb i).trans ((blk_5 m c t _).trans (congrArg (oA m c) ?_))
  have hi : (i 0).val < 1024 := (i 0).isLt
  funext a; apply Fin.ext
  match a with
  | ⟨0, _⟩ => rfl
  | ⟨1, _⟩ => show 256 * (t.val % 8) + (128 + (i 0).val % 128) = (128 * (2 * (t.val % 8) + 1) + (i 0).val % 128) % 2048; omega
  | ⟨2, _⟩ => rfl
theorem load_lse0 (t : Fin cfg0.N) (inb) :
    k0_pay16 (F := Ideal) (View.readAt (Elt Ideal) (ms_4 t).view (Rect.unit (s := S8x256x1) ![0, 0, 0] S8x128x1.size inb).toLoadRect ((hs_4 t).unread (iblk m c 4 t)))
      = rows (n := 32) (by norm_num) (lseA m c) (hd t) (2 * (t.val % 8)) := by
  funext i
  refine (ld_lse0 (ms_4 t) (hs_4 t) (iblk m c 4 t) inb i).trans ((blk_4 m c t _).trans (congrArg (lseA m c) ?_))
  have hi : (i 0).val < 1024 := (i 0).isLt
  funext a; apply Fin.ext
  match a with
  | ⟨0, _⟩ => rfl
  | ⟨1, _⟩ => show 256 * (t.val % 8) + (0 + (i 0).val % 128) = (128 * (2 * (t.val % 8)) + (i 0).val % 128) % 2048; omega
  | ⟨2, _⟩ => rfl
theorem load_lse1 (t : Fin cfg0.N) (inb) :
    k0_pay16 (F := Ideal) (View.readAt (Elt Ideal) (ms_4 t).view (Rect.unit (s := S8x256x1) ![0, 128, 0] S8x128x1.size inb).toLoadRect ((hs_4 t).unread (iblk m c 4 t)))
      = rows (n := 32) (by norm_num) (lseA m c) (hd t) (2 * (t.val % 8) + 1) := by
  funext i
  refine (ld_lse1 (ms_4 t) (hs_4 t) (iblk m c 4 t) inb i).trans ((blk_4 m c t _).trans (congrArg (lseA m c) ?_))
  have hi : (i 0).val < 1024 := (i 0).isLt
  funext a; apply Fin.ext
  match a with
  | ⟨0, _⟩ => rfl
  | ⟨1, _⟩ => show 256 * (t.val % 8) + (128 + (i 0).val % 128) = (128 * (2 * (t.val % 8) + 1) + (i 0).val % 128) % 2048; omega
  | ⟨2, _⟩ => rfl

theorem pay17_eq (v w : Vec Ideal S8x128x64 .f32) : k0_pay17 (F := Ideal) v w = rowdot (k0_pay15 (F := Ideal) w) (k0_pay18 (F := Ideal) v) := by
  funext i
  unfold rowdot
  pointwise [k0_pay17, k0_pay15, k0_pay18]

/-! ## The windows of keys and values, and the sinks -/

theorem ld_sink (M : Memref sig .tc .vmem S1x1024x1 .f32) (hM : M.IsWhole) (x : Vec Ideal S1x1024x1 .f32) (inb) (i) :
    k0_pay10 (F := Ideal) (View.readAt (Elt Ideal) M.view (Rect.unit (s := S1x1024x1) ![0, 0, 0] S1x1024x1.size inb).toLoadRect (hM.unread x)) i
      = x (ix3 (0 : Fin 1) (i 0) (i 1)) := by
  rw [View.readAt_eq_ld, Memref.IsWhole.read_unread]
  pointwise [k0_pay10]
  refine congrArg x ?_
  funext a; apply Fin.ext
  match a with
  | ⟨0, _⟩ => rfl
  | ⟨1, _⟩ => rfl
  | ⟨2, _⟩ => have h1 : (i 1).val < 1 := (i 1).isLt; show 0 = (i 1).val; omega
theorem load_sink (t : Fin cfg0.N) (inb) :
    k0_pay10 (F := Ideal) (View.readAt (Elt Ideal) (ms_6 t).view (Rect.unit (s := S1x1024x1) ![0, 0, 0] S1x1024x1.size inb).toLoadRect ((hs_6 t).unread (iblk m c 6 t)))
      = sinkRows (sinkA m c) (hd t) := by
  funext i
  refine (ld_sink (ms_6 t) (hs_6 t) (iblk m c 6 t) inb i).trans ((blk_6 m c t _).trans ?_)
  rfl

theorem ld_keys (M : Memref sig .tc .vmem S1x2048x64 .bf16) (hM : M.IsWhole) (x : Vec Ideal S1x2048x64 .bf16) (a b : ℕ) (inb inb') (ha : a + 128 ≤ 2048) (hb : b + 128 ≤ 2048) (i) :
    k0_pay19 (F := Ideal)
      (View.readAt (Elt Ideal) M.view (Rect.unit (s := S1x2048x64) ![0, a, 0] S1x128x64.size inb).toLoadRect (hM.unread x))
      (View.readAt (Elt Ideal) M.view (Rect.unit (s := S1x2048x64) ![0, b, 0] S1x128x64.size inb').toLoadRect (hM.unread x)) i
      = if h : (i 0).val < 128 then x (ix3 (0 : Fin 1) ⟨a + (i 0).val, by omega⟩ (i 1))
        else x (ix3 (0 : Fin 1) ⟨b + ((i 0).val - 128), by have : (i 0).val < 256 := (i 0).isLt; omega⟩ (i 1)) := by
  have hi : (i 0).val < 256 := (i 0).isLt
  rw [View.readAt_eq_ld, View.readAt_eq_ld, Memref.IsWhole.read_unread]
  pointwise [k0_pay19]
theorem pay20_eq (v w : Vec Ideal S1x128x64 .bf16) : k0_pay20 (F := Ideal) v w = k0_pay19 (F := Ideal) v w := rfl

theorem load_kk (t : Fin cfg0.N) (b : ℕ) (hb : b < 16) (off off' : Fin 3 → ℕ) (h : off = ![0, 128 * b - 128, 0]) (h' : off' = ![0, 128 * b, 0]) (inb inb') :
    k0_pay19 (F := Ideal)
      (View.readAt (Elt Ideal) (ms_1 t).view (Rect.unit (s := S1x2048x64) off S1x128x64.size inb).toLoadRect ((hs_1 t).unread (iblk m c 1 t)))
      (View.readAt (Elt Ideal) (ms_1 t).view (Rect.unit (s := S1x2048x64) off' S1x128x64.size inb').toLoadRect ((hs_1 t).unread (iblk m c 1 t)))
      = keys 32 (by norm_num) (qkvA m c) (hd t) b := by
  subst h h'
  funext i
  have hi : (i 0).val < 256 := (i 0).isLt
  rw [ld_keys (ms_1 t) (hs_1 t) (iblk m c 1 t) _ _ inb inb' (by omega) (by omega) i]
  unfold keys
  by_cases h0 : (i 0).val < 128
  · rw [dif_pos h0, if_pos h0]
    refine (blk_1 m c t _).trans (congrArg (qkvA m c) ?_)
    funext a; apply Fin.ext
    match a with
    | ⟨0, _⟩ => rfl
    | ⟨1, _⟩ => show 128 * b - 128 + (i 0).val = ((128 * b - 128) + (i 0).val) % 2048; omega
    | ⟨2, _⟩ => rfl
  · rw [dif_neg h0, if_neg h0]
    refine (blk_1 m c t _).trans (congrArg (qkvA m c) ?_)
    funext a; apply Fin.ext
    match a with
    | ⟨0, _⟩ => rfl
    | ⟨1, _⟩ => show 128 * b + ((i 0).val - 128) = (128 * b + ((i 0).val - 128)) % 2048; omega
    | ⟨2, _⟩ => rfl

theorem load_vv (t : Fin cfg0.N) (b : ℕ) (hb : b < 16) (off off' : Fin 3 → ℕ) (h : off = ![0, 128 * b - 128, 0]) (h' : off' = ![0, 128 * b, 0]) (inb inb') :
    k0_pay19 (F := Ideal)
      (View.readAt (Elt Ideal) (ms_2 t).view (Rect.unit (s := S1x2048x64) off S1x128x64.size inb).toLoadRect ((hs_2 t).unread (iblk m c 2 t)))
      (View.readAt (Elt Ideal) (ms_2 t).view (Rect.unit (s := S1x2048x64) off' S1x128x64.size inb').toLoadRect ((hs_2 t).unread (iblk m c 2 t)))
      = keys 36 (by norm_num) (qkvA m c) (hd t) b := by
  subst h h'
  funext i
  have hi : (i 0).val < 256 := (i 0).isLt
  rw [ld_keys (ms_2 t) (hs_2 t) (iblk m c 2 t) _ _ inb inb' (by omega) (by omega) i]
  unfold keys
  by_cases h0 : (i 0).val < 128
  · rw [dif_pos h0, if_pos h0]
    refine (blk_2 m c t _).trans (congrArg (qkvA m c) ?_)
    funext a; apply Fin.ext
    match a with
    | ⟨0, _⟩ => rfl
    | ⟨1, _⟩ => show 128 * b - 128 + (i 0).val = ((128 * b - 128) + (i 0).val) % 2048; omega
    | ⟨2, _⟩ => rfl
  · rw [dif_neg h0, if_neg h0]
    refine (blk_2 m c t _).trans (congrArg (qkvA m c) ?_)
    funext a; apply Fin.ext
    match a with
    | ⟨0, _⟩ => rfl
    | ⟨1, _⟩ => show 128 * b + ((i 0).val - 128) = (128 * b + ((i 0).val - 128)) % 2048; omega
    | ⟨2, _⟩ => rfl

end Cert.KernelIdeal.Gen

end
-- ==== Proof.Swa.Row.lean ====
/- One row of the attention's backward pass, over the extended reals: the form the kernel computes, from the row's
   log-sum and output, and the form of the derivative written plainly are equal where the arguments are finite. -/
module

public import Idealize.ShloMosaic.Lib.Pointwise

@[expose] public section

noncomputable section

namespace Cert.Swa

open Idealize.ShloMosaic

/-- A sum of reals, read as an extended real. -/
theorem coe_sum {ι : Type} (t : Finset ι) (f : ι → ℝ) : ((∑ i ∈ t, f i : ℝ) : EReal) = ∑ i ∈ t, (f i : EReal) := by
  classical
  refine Finset.induction_on t ?_ ?_
  · simp
  · intro a u ha ih
    rw [Finset.sum_insert ha, Finset.sum_insert ha, EReal.coe_add, ih]

/-- The weights of a row before they are normalised, from its masked scores and their maximum. -/
def wt (s : Fin 256 → EReal) (M : EReal) (j : Fin 256) : EReal := Ideal.exp (s j - M)
/-- The row's total, the sink's part last. -/
def tot (s : Fin 256 → EReal) (sink M : EReal) : EReal := (∑ j, wt s M j) + Ideal.exp (sink - M)
/-- The weighted sum of the values. -/
def num (s : Fin 256 → EReal) (M : EReal) (v : Fin 256 → Fin 64 → EReal) (d : Fin 64) : EReal := ∑ j, v j d * wt s M j
/-- The total's gradient. -/
def dtot (s : Fin 256 → EReal) (sink M : EReal) (v : Fin 256 → Fin 64 → EReal) (g : Fin 64 → EReal) : EReal :=
  -(∑ d, (g d * Ideal.div 1 (tot s sink M * tot s sink M)) * num s M v d)
/-- The weights' gradient through the weighted sum. -/
def dwt (s : Fin 256 → EReal) (sink M : EReal) (v : Fin 256 → Fin 64 → EReal) (g : Fin 64 → EReal) (j : Fin 256) : EReal :=
  ∑ d, Ideal.div (g d) (tot s sink M) * v j d
/-- The masked scores' gradient. -/
def dsc (s : Fin 256 → EReal) (sink M : EReal) (v : Fin 256 → Fin 64 → EReal) (g : Fin 64 → EReal) (j : Fin 256) : EReal :=
  (dwt s sink M v g j + dtot s sink M v g) * wt s M j

variable (s : Fin 256 → EReal) (hs : ∀ j, s j ≠ ⊤) (S M : ℝ) (v : Fin 256 → Fin 64 → ℝ) (g : Fin 64 → ℝ)

theorem exp_coe (r : ℝ) : Ideal.exp (r : EReal) = ((Real.exp r : ℝ) : EReal) := rfl
theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

include hs in
theorem wt_real : ∃ p : Fin 256 → ℝ, (∀ j, 0 ≤ p j) ∧ (∀ j, wt s (M : EReal) j = (p j : EReal))
    ∧ ∀ (l : ℝ) (_ : 0 < l) (j : Fin 256), Ideal.exp (s j - ((M : EReal) + ((Real.log l : ℝ) : EReal))) = ((p j / l : ℝ) : EReal) := by
  have key : ∀ j, ∃ p : ℝ, 0 ≤ p ∧ wt s (M : EReal) j = (p : EReal)
      ∧ ∀ (l : ℝ) (_ : 0 < l), Ideal.exp (s j - ((M : EReal) + ((Real.log l : ℝ) : EReal))) = ((p / l : ℝ) : EReal) := by
    intro j
    unfold wt
    induction hx : s j using EReal.rec with
    | top => exact absurd hx (hs j)
    | bot =>
      refine ⟨0, le_refl _, ?_, fun l hl => ?_⟩
      · rw [EReal.bot_sub]; rfl
      · rw [EReal.bot_sub, zero_div]; rfl
    | coe r =>
      refine ⟨Real.exp (r - M), (Real.exp_pos _).le, ?_, fun l hl => ?_⟩
      · rw [← EReal.coe_sub]; rfl
      · rw [← EReal.coe_add, ← EReal.coe_sub, exp_coe]
        refine congrArg _ ?_
        rw [show r - (M + Real.log l) = (r - M) - Real.log l by ring, Real.exp_sub, Real.exp_log hl]
  choose p h0 h1 h2 using key
  exact ⟨p, h0, h1, fun l hl j => h2 j l hl⟩

include hs in
/-- The row in reals. -/
theorem row_real : ∃ (p : Fin 256 → ℝ) (e l : ℝ), 0 < l ∧ l = (∑ j, p j) + e ∧ (∀ j, wt s (M : EReal) j = (p j : EReal))
    ∧ Ideal.exp ((S : EReal) - (M : EReal)) = (e : EReal) ∧ tot s (S : EReal) (M : EReal) = (l : EReal)
    ∧ (∀ j, Ideal.exp (s j - ((M : EReal) + Ideal.log (tot s (S : EReal) (M : EReal)))) = ((p j / l : ℝ) : EReal))
    ∧ Ideal.exp ((S : EReal) - ((M : EReal) + Ideal.log (tot s (S : EReal) (M : EReal)))) = ((e / l : ℝ) : EReal) := by
  obtain ⟨p, h0, h1, h2⟩ := wt_real s hs M
  have he : Ideal.exp ((S : EReal) - (M : EReal)) = ((Real.exp (S - M) : ℝ) : EReal) := by rw [← EReal.coe_sub]; rfl
  have hl : 0 < (∑ j, p j) + Real.exp (S - M) := add_pos_of_nonneg_of_pos (Finset.sum_nonneg fun j _ => h0 j) (Real.exp_pos _)
  have ht : tot s (S : EReal) (M : EReal) = (((∑ j, p j) + Real.exp (S - M) : ℝ) : EReal) := by
    unfold tot
    rw [he, EReal.coe_add, coe_sum]
    exact congrArg (· + _) (Finset.sum_congr rfl fun j _ => h1 j)
  have hg : Ideal.log (tot s (S : EReal) (M : EReal)) = ((Real.log ((∑ j, p j) + Real.exp (S - M)) : ℝ) : EReal) := by
    rw [ht]; show (if _ ≤ (0 : ℝ) then _ else _) = _; rw [if_neg (not_le.mpr hl)]
  refine ⟨p, Real.exp (S - M), _, hl, rfl, h1, he, ht, fun j => ?_, ?_⟩
  · rw [hg]; exact h2 _ hl j
  · rw [hg, ← EReal.coe_add, ← EReal.coe_sub, exp_coe]
    refine congrArg _ ?_
    rw [show S - (M + Real.log ((∑ j, p j) + Real.exp (S - M))) = (S - M) - Real.log ((∑ j, p j) + Real.exp (S - M)) by ring, Real.exp_sub, Real.exp_log hl]

include hs in
/-- The values' gradient: the row's weight times the cotangent. -/
theorem weight_cot (j : Fin 256) (d : Fin 64) :
    Ideal.exp (s j - ((M : EReal) + Ideal.log (tot s (S : EReal) (M : EReal)))) * (g d : EReal)
      = Ideal.div (g d : EReal) (tot s (S : EReal) (M : EReal)) * wt s (M : EReal) j := by
  obtain ⟨p, e, l, hl, hle, h1, he, ht, hp, hsk⟩ := row_real s hs S M
  rw [hp, ht, h1, div_real _ _ hl.ne', ← EReal.coe_mul, ← EReal.coe_mul]
  exact congrArg _ (by ring)

/-- The sums a row needs, in reals. -/
theorem real_sums (p : Fin 256 → ℝ) (l : ℝ) (hl : 0 < l) (h1 : ∀ j, wt s (M : EReal) j = (p j : EReal)) (ht : tot s (S : EReal) (M : EReal) = (l : EReal)) :
    (∀ d, num s (M : EReal) (fun j d => (v j d : EReal)) d = ((∑ j, v j d * p j : ℝ) : EReal))
    ∧ dtot s (S : EReal) (M : EReal) (fun j d => (v j d : EReal)) (fun d => (g d : EReal)) = ((-(∑ d, (g d * (1 / (l * l))) * ∑ j, v j d * p j) : ℝ) : EReal)
    ∧ (∀ j, dwt s (S : EReal) (M : EReal) (fun j d => (v j d : EReal)) (fun d => (g d : EReal)) j = ((∑ d, g d / l * v j d : ℝ) : EReal))
    ∧ (∑ d, Ideal.div (num s (M : EReal) (fun j d => (v j d : EReal)) d) (tot s (S : EReal) (M : EReal)) * (g d : EReal)) = ((∑ d, (∑ j, v j d * p j) / l * g d : ℝ) : EReal) := by
  have hn : ∀ d, num s (M : EReal) (fun j d => (v j d : EReal)) d = ((∑ j, v j d * p j : ℝ) : EReal) := by
    intro d
    unfold num
    rw [coe_sum]
    exact Finset.sum_congr rfl fun j _ => by rw [h1, EReal.coe_mul]
  refine ⟨hn, ?_, fun j => ?_, ?_⟩
  · unfold dtot
    rw [EReal.coe_neg, coe_sum]
    refine congrArg (- ·) (Finset.sum_congr rfl fun d _ => ?_)
    rw [hn, ht, ← EReal.coe_mul, show (1 : EReal) = ((1 : ℝ) : EReal) from rfl, div_real _ _ (mul_pos hl hl).ne', ← EReal.coe_mul, ← EReal.coe_mul]
  · unfold dwt
    rw [coe_sum]
    exact Finset.sum_congr rfl fun d _ => by rw [ht, div_real _ _ hl.ne', ← EReal.coe_mul]
  · rw [coe_sum]
    exact Finset.sum_congr rfl fun d _ => by rw [hn, ht, div_real _ _ hl.ne', ← EReal.coe_mul]

include hs in
/-- The scores' gradient. -/
theorem score_grad (j : Fin 256) :
    Ideal.exp (s j - ((M : EReal) + Ideal.log (tot s (S : EReal) (M : EReal))))
        * ((∑ d, (g d : EReal) * (v j d : EReal)) - ∑ d, Ideal.div (num s (M : EReal) (fun j d => (v j d : EReal)) d) (tot s (S : EReal) (M : EReal)) * (g d : EReal))
      = dsc s (S : EReal) (M : EReal) (fun j d => (v j d : EReal)) (fun d => (g d : EReal)) j := by
  obtain ⟨p, e, l, hl, hle, h1, he, ht, hp, hsk⟩ := row_real s hs S M
  obtain ⟨hn, hd, hw, ho⟩ := real_sums s S M v g p l hl h1 ht
  unfold dsc
  rw [ho, hd, hw, hp, h1, ← EReal.coe_add, ← EReal.coe_mul]
  have : (∑ d, (g d : EReal) * (v j d : EReal)) = ((∑ d, g d * v j d : ℝ) : EReal) := by
    rw [coe_sum]; exact Finset.sum_congr rfl fun d _ => by rw [EReal.coe_mul]
  rw [this, ← EReal.coe_sub, ← EReal.coe_mul]
  refine congrArg _ ?_
  have a1 : (∑ d, g d / l * v j d) = (∑ d, g d * v j d) / l := by
    rw [Finset.sum_div]; exact Finset.sum_congr rfl fun d _ => by ring
  have a2 : (∑ d, (g d * (1 / (l * l))) * ∑ j, v j d * p j) = (∑ d, (∑ j, v j d * p j) / l * g d) / l := by
    rw [Finset.sum_div]; exact Finset.sum_congr rfl fun d _ => by field_simp
  rw [a1, a2]
  ring

include hs in
/-- The sink's gradient. -/
theorem sink_grad :
    (0 - Ideal.exp ((S : EReal) - ((M : EReal) + Ideal.log (tot s (S : EReal) (M : EReal)))))
        * (∑ d, Ideal.div (num s (M : EReal) (fun j d => (v j d : EReal)) d) (tot s (S : EReal) (M : EReal)) * (g d : EReal))
      = dtot s (S : EReal) (M : EReal) (fun j d => (v j d : EReal)) (fun d => (g d : EReal)) * Ideal.exp ((S : EReal) - (M : EReal)) := by
  obtain ⟨p, e, l, hl, hle, h1, he, ht, hp, hsk⟩ := row_real s hs S M
  obtain ⟨hn, hd, hw, ho⟩ := real_sums s S M v g p l hl h1 ht
  rw [ho, hd, hsk, he, show (0 : EReal) = ((0 : ℝ) : EReal) from rfl, ← EReal.coe_sub, ← EReal.coe_mul, ← EReal.coe_mul]
  refine congrArg _ ?_
  have a2 : (∑ d, (g d * (1 / (l * l))) * ∑ j, v j d * p j) = (∑ d, (∑ j, v j d * p j) / l * g d) / l := by
    rw [Finset.sum_div]; exact Finset.sum_congr rfl fun d _ => by field_simp
  rw [a2]
  ring

include hs in
/-- Nothing flows through the row's maximum. -/
theorem max_grad :
    -(dtot s (S : EReal) (M : EReal) (fun j d => (v j d : EReal)) (fun d => (g d : EReal)) * Ideal.exp ((S : EReal) - (M : EReal)))
        + ∑ j, -(dsc s (S : EReal) (M : EReal) (fun j d => (v j d : EReal)) (fun d => (g d : EReal)) j) = 0 := by
  obtain ⟨p, e, l, hl, hle, h1, he, ht, hp, hsk⟩ := row_real s hs S M
  obtain ⟨hn, hd, hw, ho⟩ := real_sums s S M v g p l hl h1 ht
  have hj : ∀ j, -(dsc s (S : EReal) (M : EReal) (fun j d => (v j d : EReal)) (fun d => (g d : EReal)) j)
      = ((-(((∑ d, g d / l * v j d) + -(∑ d, (g d * (1 / (l * l))) * ∑ j, v j d * p j)) * p j) : ℝ) : EReal) := by
    intro j
    unfold dsc
    rw [hw, hd, h1, ← EReal.coe_add, ← EReal.coe_mul, ← EReal.coe_neg]
  rw [Finset.sum_congr rfl fun j _ => hj j, hd, he, ← coe_sum, ← EReal.coe_mul, ← EReal.coe_neg, ← EReal.coe_add]
  refine (congrArg ((↑) : ℝ → EReal) ?_ : _ = ((0 : ℝ) : EReal))
  have a1 : (∑ j, (∑ d, g d / l * v j d) * p j) = (∑ d, (g d * (1 / (l * l))) * ∑ j, v j d * p j) * l := by
    rw [Finset.sum_mul]
    have : ∀ j : Fin 256, (∑ d : Fin 64, g d / l * v j d) * p j = ∑ d, g d / l * v j d * p j := fun j => Finset.sum_mul _ _ _
    rw [Finset.sum_congr rfl fun j _ => this j, Finset.sum_comm]
    refine Finset.sum_congr rfl fun d _ => ?_
    rw [Finset.mul_sum, Finset.sum_mul]
    exact Finset.sum_congr rfl fun j _ => by field_simp
  generalize (∑ d, (g d * (1 / (l * l))) * ∑ j, v j d * p j) = D at a1 ⊢
  have a3 : (∑ j, -(((∑ d, g d / l * v j d) + -D) * p j)) = -(∑ j, (∑ d, g d / l * v j d) * p j) + D * ∑ j, p j := by
    rw [Finset.mul_sum, ← Finset.sum_neg_distrib, ← Finset.sum_add_distrib]
    exact Finset.sum_congr rfl fun j _ => by ring
  rw [a3, a1, hle]
  ring

/-- A zero cotangent divided among the columns of a maximum stays zero. -/
theorem zero_shared (w : Fin 256 → EReal) (hw : ∀ j, 0 ≤ w j) (j : Fin 256) : Ideal.div 0 (∑ k, w k) * w j = 0 := by
  by_cases h : (∑ k, w k) = 0
  · have := (Finset.sum_eq_zero_iff_of_nonneg (fun k _ => hw k)).mp h j (Finset.mem_univ j)
    rw [this, mul_zero]
  · unfold Ideal.div
    rw [if_neg h, zero_mul, zero_mul]

end Cert.Swa

end
-- ==== Proof.Swa.RefKv.lean ====
/- The reference's arrays of the attention, read at an index: the forward pass. -/
module

public import Idealize.ShloMosaic.Lib.ValueIdxRank6
public import Idealize.ShloMosaic.Lib.TwoAxisContraction
public import proofs.«01_k».proof.Proof.Gen.ReferenceIdeal.Read
public import proofs.«01_k».proof.Proof.Swa.Block
public import proofs.«01_k».proof.Proof.Swa.Row

@[expose] public section

set_option maxRecDepth 16384

noncomputable section

namespace Cert.Swa

open Idealize.ShloMosaic Cert.ReferenceIdeal Cert.ReferenceIdeal.Gen Cert.ReferenceIdeal.Read

variable (x0 : (⟨S2048x2560, .f32⟩ : BufTy).Contents (Elt Ideal)) (x1 : (⟨S32, .f32⟩ : BufTy).Contents (Elt Ideal))
  (x2 : (⟨S2048x2048, .f32⟩ : BufTy).Contents (Elt Ideal)) (h : Fin 4) (j : Fin 8) (b : Fin 16) (i : Fin 128) (y : Fin 256) (d : Fin 64)

/-- The queries, and the cotangents, of head `j` of group `h` in block `b`. -/
def qAt : EReal := x0 (ix2 (⟨128 * b.val + i.val, by omega⟩ : Fin 2048) (⟨64 * (8 * h.val + j.val) + d.val, by omega⟩ : Fin 2560))
def gAt : EReal := x2 (ix2 (⟨128 * b.val + i.val, by omega⟩ : Fin 2048) (⟨64 * (8 * h.val + j.val) + d.val, by omega⟩ : Fin 2048))
/-- The sink of a head. -/
def sinkAt : EReal := x1 (ix1 (⟨8 * h.val + j.val, by omega⟩ : Fin 32))
/-- The window's keys (`o` is 0) and values (`o` is 256), zero before the sequence's start. -/
def kAt (o : ℕ) (ho : o ≤ 256) : EReal := if hb : 128 ≤ 128 * b.val + y.val then
  x0 (ix2 (⟨128 * b.val + y.val - 128, by omega⟩ : Fin 2048) (⟨2048 + o + 64 * h.val + d.val, by omega⟩ : Fin 2560)) else 0

theorem r5 (g : Fin 32) (n : Fin 2048) : val_main_v5 (F := Ideal) x0 (ix4 (0 : Fin 1) g n d) = x0 (ix2 n (⟨64 * g.val + d.val, by omega⟩ : Fin 2560)) := by
  rw [val_main_v5_apply, val_main_v4_apply, val_main_v1_apply, val_main_v0_apply]
  refine congrArg x0 (funext fun a => Fin.ext ?_)
  match a with
  | ⟨0, _⟩ => dsimp; omega
  | ⟨1, _⟩ => dsimp; omega
theorem r10 (n : Fin 2048) : val_main_v10 (F := Ideal) x0 (ix5 (0 : Fin 1) h j n d) = x0 (ix2 n (⟨64 * (8 * h.val + j.val) + d.val, by omega⟩ : Fin 2560)) := by
  rw [val_main_v10_apply]
  refine Eq.trans (congrArg _ (funext fun a => Fin.ext ?_)) (r5 x0 d (⟨8 * h.val + j.val, by omega⟩ : Fin 32) n)
  match a with
  | ⟨0, _⟩ => rfl
  | ⟨1, _⟩ => dsimp; omega
  | ⟨2, _⟩ => dsimp; omega
  | ⟨3, _⟩ => dsimp; omega
theorem r13 : val_main_v13 (F := Ideal) x0 (ix6 (0 : Fin 1) h j b i d) = qAt x0 h j b i d := by
  unfold val_main_v13
  rw [shapeCast_apply _ _ _ (ix5 (0 : Fin 1) h j (⟨128 * b.val + i.val, by omega⟩ : Fin 2048) d)
    (by rw [Shape.rowMajor_val_five, Shape.rowMajor_val_six]; show ((((0 * 4 + h.val) * 8 + j.val) * 2048 + (128 * b.val + i.val)) * 64 + d.val) = (((((0 * 4 + h.val) * 8 + j.val) * 16 + b.val) * 128 + i.val) * 64 + d.val); omega)]
  exact r10 x0 h j d _

theorem kv_pad (o : ℕ) (ho : o ≤ 256) (w : FVec Ideal S1x4x2048x64 .f32) (hw : ∀ (n : Fin 2048), w (ix4 (0 : Fin 1) h n d)
    = x0 (ix2 n (⟨2048 + o + 64 * h.val + d.val, by omega⟩ : Fin 2560))) (z : FVec Ideal S1x4x128x64 .f32) (hz : ∀ k, z k = 0) (n : Fin 2176) :
    concatenate S1x4x2176x64 2 [⟨S1x4x128x64, z⟩, ⟨S1x4x2048x64, w⟩] concatenates_S1x4x128x64_S1x4x2048x64_S1x4x2176x64_d2 (ix4 (0 : Fin 1) h n d)
      = if hb : 128 ≤ n.val then x0 (ix2 (⟨n.val - 128, by omega⟩ : Fin 2048) (⟨2048 + o + 64 * h.val + d.val, by omega⟩ : Fin 2560)) else 0 := by
  by_cases hn : 128 ≤ n.val
  · rw [dif_pos hn, ← hw]
    pointwise
    rw [dif_neg (by omega)]
  · rw [dif_neg hn]
    pointwise
    rw [dif_pos (by omega), hz]

theorem r7 (n : Fin 2048) : val_main_v7 (F := Ideal) x0 (ix4 (0 : Fin 1) h n d) = x0 (ix2 n (⟨2048 + 0 + 64 * h.val + d.val, by omega⟩ : Fin 2560)) := by
  rw [val_main_v7_apply, val_main_v6_apply, val_main_v2_apply, val_main_v0_apply]
  refine congrArg x0 (funext fun a => Fin.ext ?_)
  match a with
  | ⟨0, _⟩ => dsimp; omega
  | ⟨1, _⟩ => dsimp; omega
theorem r9 (n : Fin 2048) : val_main_v9 (F := Ideal) x0 (ix4 (0 : Fin 1) h n d) = x0 (ix2 n (⟨2048 + 256 + 64 * h.val + d.val, by omega⟩ : Fin 2560)) := by
  rw [val_main_v9_apply, val_main_v8_apply, val_main_v3_apply, val_main_v0_apply]
  refine congrArg x0 (funext fun a => Fin.ext ?_)
  match a with
  | ⟨0, _⟩ => dsimp; omega
  | ⟨1, _⟩ => dsimp; omega

theorem kv_win (o : ℕ) (ho : o ≤ 256) (w : FVec Ideal S1x4x2176x64 .f32) (hw : ∀ n : Fin 2176, w (ix4 (0 : Fin 1) h n d)
      = if hb : 128 ≤ n.val then x0 (ix2 (⟨n.val - 128, by omega⟩ : Fin 2048) (⟨2048 + o + 64 * h.val + d.val, by omega⟩ : Fin 2560)) else 0) :
    concatenate S1x4x16x256x64 3 [⟨S1x4x16x128x64, extractStridedSlice S1x4x16x128x64 ![0, 0, 0, 0, 0] (shapeCast S1x4x17x128x64 w shapeCasts_S1x4x2176x64_S1x4x17x128x64) slices_S1x4x17x128x64_S1x4x16x128x64_0_0_0_0_0⟩,
      ⟨S1x4x16x128x64, extractStridedSlice S1x4x16x128x64 ![0, 0, 1, 0, 0] (shapeCast S1x4x17x128x64 w shapeCasts_S1x4x2176x64_S1x4x17x128x64) slices_S1x4x17x128x64_S1x4x16x128x64_0_0_1_0_0⟩] concatenates_S1x4x16x128x64_S1x4x16x128x64_S1x4x16x256x64_d3 (ix5 (0 : Fin 1) h b y d)
      = kAt x0 h b y d o ho := by
  have e : ∀ (m : Fin 17) (r : Fin 128), shapeCast S1x4x17x128x64 w shapeCasts_S1x4x2176x64_S1x4x17x128x64 (ix5 (0 : Fin 1) h m r d)
      = w (ix4 (0 : Fin 1) h (⟨128 * m.val + r.val, by omega⟩ : Fin 2176) d) := by
    intro m r
    exact shapeCast_apply _ _ _ _ (by rw [Shape.rowMajor_val_four, Shape.rowMajor_val_five]; show (((0 * 4 + h.val) * 2176 + (128 * m.val + r.val)) * 64 + d.val) = ((((0 * 4 + h.val) * 17 + m.val) * 128 + r.val) * 64 + d.val); omega)
  generalize shapeCast S1x4x17x128x64 w shapeCasts_S1x4x2176x64_S1x4x17x128x64 = u at e ⊢
  have e' : ∀ (m : Fin 17) (r : Fin 128), u (ix5 (0 : Fin 1) h m r d) = if hb : 128 ≤ 128 * m.val + r.val then x0 (ix2 (⟨128 * m.val + r.val - 128, by omega⟩ : Fin 2048) (⟨2048 + o + 64 * h.val + d.val, by omega⟩ : Fin 2560)) else 0 :=
    fun m r => (e m r).trans (hw _)
  unfold kAt
  by_cases hy : y.val < 128
  · have := e' (⟨b.val, by omega⟩ : Fin 17) (⟨y.val, hy⟩ : Fin 128)
    refine Eq.trans ?_ this
    pointwise
    rw [dif_pos hy]
  · have := e' (⟨b.val + 1, by omega⟩ : Fin 17) (⟨y.val - 128, by omega⟩ : Fin 128)
    have hv : 128 * (b.val + 1) + (y.val - 128) = 128 * b.val + y.val := by omega
    simp only [hv] at this
    refine Eq.trans ?_ this
    pointwise
    rw [dif_neg hy]
    refine congrArg u (funext fun a => Fin.ext ?_)
    match a with
    | ⟨0, _⟩ => rfl
    | ⟨1, _⟩ => rfl
    | ⟨2, _⟩ => dsimp; omega
    | ⟨3, _⟩ => rfl
    | ⟨4, _⟩ => rfl

theorem r24 : val_main_v24 (F := Ideal) x0 (ix5 (0 : Fin 1) h b y d) = kAt x0 h b y d 0 (by norm_num) :=
  kv_win x0 h b y d 0 (by norm_num) (val_main_v15 (F := Ideal) x0)
    (fun n => kv_pad x0 h d 0 (by norm_num) (val_main_v7 (F := Ideal) x0) (fun n => r7 x0 h d n) (val_main_v14 (F := Ideal)) (fun k => Ideal.ofBits_zero_f32) n)
theorem r27 : val_main_v27 (F := Ideal) x0 (ix5 (0 : Fin 1) h b y d) = kAt x0 h b y d 256 (by norm_num) :=
  kv_win x0 h b y d 256 (by norm_num) (val_main_v19 (F := Ideal) x0)
    (fun n => kv_pad x0 h d 256 (by norm_num) (val_main_v9 (F := Ideal) x0) (fun n => r9 x0 h d n) (val_main_v18 (F := Ideal)) (fun k => Ideal.ofBits_zero_f32) n)

end Cert.Swa

end
-- ==== Proof.Swa.RefMask.lean ====
/- The reference's mask of the attention, read at an index. -/
module

public import proofs.«01_k».proof.Proof.Swa.RefKv

@[expose] public section

set_option maxRecDepth 65536

noncomputable section

namespace Cert.Swa

open Idealize.ShloMosaic Cert.ReferenceIdeal Cert.ReferenceIdeal.Gen Cert.ReferenceIdeal.Read

theorem near_bit : ∀ (i : Fin 128) (y : Fin 256),
    IntOp.andi (IntOp.cmpi .sge (IntOp.subi (IntOp.addi (BitVec.ofNat 32 i.val) 128#32) (BitVec.ofNat 32 y.val)) 0#32)
      (IntOp.cmpi .sle (IntOp.subi (IntOp.addi (BitVec.ofNat 32 i.val) 128#32) (BitVec.ofNat 32 y.val)) 127#32)
      = BitVec.ofBool (decide (i.val < y.val ∧ y.val ≤ i.val + 128)) := by decide +kernel
theorem start_bit : ∀ (b : Fin 16) (y : Fin 256),
    IntOp.cmpi .sge (IntOp.addi (IntOp.subi (IntOp.muli (BitVec.ofNat 32 b.val) 128#32) 128#32) (BitVec.ofNat 32 y.val)) 0#32
      = BitVec.ofBool (decide (128 ≤ y.val ∨ b.val ≠ 0)) := by decide +kernel

theorem bits (P Q R : Prop) [Decidable P] [Decidable Q] [Decidable R] (h : R ↔ P ∧ Q) :
    IntOp.andi (BitVec.ofBool (decide P)) (BitVec.ofBool (decide Q)) = BitVec.ofBool (decide R) := by
  have hr : decide R = (decide P && decide Q) := by rw [Bool.eq_iff_iff]; simp [h]
  rw [hr]
  cases decide P <;> cases decide Q <;> rfl

theorem r61 (b : Fin 16) (i : Fin 128) (y : Fin 256) : val_main_v61 (F := Ideal) (ix3 b i y) = BitVec.ofBool (decide (seen b.val i.val y.val)) := by
  have h1 := near_bit i y
  have h2 := start_bit b y
  rw [val_main_v61_apply, val_main_v59_apply, val_main_v58_apply, val_main_v60_apply, val_main_v55_apply, val_main_v52_apply, val_main_v54_apply, val_main_v57_apply,
    val_main_v40_apply, val_main_v50_apply, val_main_v38_apply, val_main_v37_apply, val_main_v33_apply, val_main_v32_apply, val_main_v36_apply, val_main_c_apply,
    val_main_v39_apply, val_main_v35_apply, val_main_v34_apply, val_main_v48_apply]
  refine (congrArg₂ IntOp.andi h1 h2).trans ?_
  exact bits _ _ _ (by unfold seen; tauto)

end Cert.Swa

end
-- ==== Proof.Swa.RefScore.lean ====
/- The reference's arrays of the attention, read at an index: the scores and their weights. -/
module

public import proofs.«01_k».proof.Proof.Swa.RefKv
public import proofs.«01_k».proof.Proof.Swa.RefMask
public import proofs.«01_k».proof.Proof.Swa.Row

@[expose] public section

set_option maxRecDepth 16384

noncomputable section

namespace Cert.Swa

open Idealize.ShloMosaic Cert.ReferenceIdeal Cert.ReferenceIdeal.Gen Cert.ReferenceIdeal.Read

variable (x0 : (⟨S2048x2560, .f32⟩ : BufTy).Contents (Elt Ideal)) (x1 : (⟨S32, .f32⟩ : BufTy).Contents (Elt Ideal))
  (x2 : (⟨S2048x2048, .f32⟩ : BufTy).Contents (Elt Ideal)) (h : Fin 4) (j : Fin 8) (b : Fin 16) (i : Fin 128) (y : Fin 256) (d : Fin 64)

theorem r31 : val_main_v31 (F := Ideal) x0 (ix6 (0 : Fin 1) h j b i y) = (∑ k : Fin 64, kAt x0 h b y k 0 (by norm_num) * qAt x0 h j b i k) * scale := by
  rw [val_main_v31_apply, val_main_v29_apply, val_main_v28_apply]
  refine congrArg₂ (fun p q : EReal => p * q) (Finset.sum_congr rfl fun k _ => ?_) rfl
  exact congrArg₂ (fun p q : EReal => p * q) ((congrArg _ (eq_ix5 _)).trans (r24 x0 h b y k)) ((congrArg _ (eq_ix6 _)).trans (r13 x0 h j b i k))

theorem r11 : val_main_v11 (F := Ideal) x1 (ix2 h j) = sinkAt x1 h j := by
  unfold val_main_v11
  refine shapeCast_apply _ _ _ (ix1 (⟨8 * h.val + j.val, by omega⟩ : Fin 32)) ?_
  rw [Shape.rowMajor_val_one, Shape.rowMajor_val_two]
  show (8 * h.val + j.val) = h.val * 8 + j.val
  omega

/-- A row's masked scores. -/
def sAt (y : Fin 256) : EReal := if seen b.val i.val y.val then (∑ k : Fin 64, kAt x0 h b y k 0 (by norm_num) * qAt x0 h j b i k) * scale else ⊥

theorem r62 : val_main_v62_0 (F := Ideal) x0 (ix6 (0 : Fin 1) h j b i y) = sAt x0 h j b i y := by
  rw [val_main_v62_0_apply, val_main_v62_1_apply, r31]
  have e : val_main_v61 (F := Ideal) (idx_main_v62_1 (ix6 (0 : Fin 1) h j b i y)) = _ := (congrArg _ (eq_ix3 _)).trans (r61 b i y)
  rw [e]
  unfold sAt
  by_cases hs : seen b.val i.val y.val
  · rw [if_pos hs, decide_eq_true hs]; rfl
  · rw [if_neg hs, decide_eq_false hs]; rfl

/-- The row's reference exponent. -/
def mAt : EReal := val_main_v72 (F := Ideal) x0 x1 (ix5 (0 : Fin 1) h j b i)

theorem r94 : val_main_v94 (F := Ideal) x0 x1 (ix6 (0 : Fin 1) h j b i y) = wt (sAt x0 h j b i) (mAt x0 x1 h j b i) y := by
  rw [val_main_v94_apply, val_main_v93_apply, r62, val_main_v92_apply, val_main_v91_apply]
  exact congrArg (fun q : EReal => Ideal.exp (sAt x0 h j b i y - q)) (congrArg _ (eq_ix5 _))
theorem r71 : val_main_v71 (F := Ideal) x1 (ix5 (0 : Fin 1) h j b i) = sinkAt x1 h j := by
  rw [val_main_v71_apply, val_main_v70_apply, val_main_v69_apply]
  exact (congrArg _ (eq_ix2 _)).trans (r11 x1 h j)
theorem r99 : val_main_v99 (F := Ideal) x0 x1 (ix5 (0 : Fin 1) h j b i) = Ideal.exp (sinkAt x1 h j - mAt x0 x1 h j b i) := by
  rw [val_main_v99_apply, val_main_v98_apply, val_main_v97_apply, val_main_v96_apply, val_main_v69_apply]
  exact congrArg (fun q : EReal => Ideal.exp (q - mAt x0 x1 h j b i)) ((congrArg _ (eq_ix2 _)).trans (r11 x1 h j))
theorem r95 : val_main_v95 (F := Ideal) x0 x1 (ix5 (0 : Fin 1) h j b i) = ∑ y, wt (sAt x0 h j b i) (mAt x0 x1 h j b i) y := by
  rw [val_main_v95_apply]
  refine (congrArg (· + _) Ideal.ofBits_zero_f32).trans ((zero_add _).trans ?_)
  exact Finset.sum_congr rfl fun y _ => (congrArg _ (eq_ix6 _)).trans (r94 x0 x1 h j b i y)
theorem r100 : val_main_v100 (F := Ideal) x0 x1 (ix5 (0 : Fin 1) h j b i) = tot (sAt x0 h j b i) (sinkAt x1 h j) (mAt x0 x1 h j b i) := by
  rw [val_main_v100_apply, r95, r99]
  rfl
theorem r102 : val_main_v102 (F := Ideal) x0 x1 (ix6 (0 : Fin 1) h j b i d)
    = num (sAt x0 h j b i) (mAt x0 x1 h j b i) (fun y d => kAt x0 h b y d 256 (by norm_num)) d := by
  rw [val_main_v102_apply, val_main_v101_apply]
  refine Finset.sum_congr rfl fun y _ => ?_
  exact congrArg₂ (fun p q : EReal => p * q) ((congrArg _ (eq_ix5 _)).trans (r27 x0 h b y d)) ((congrArg _ (eq_ix6 _)).trans (r94 x0 x1 h j b i y))

/-- A row of the block. -/
def at_row (b : Fin 16) (i : Fin 128) : Fin 2048 := ⟨128 * b.val + i.val, by omega⟩

theorem r103 : val_main_v103 (F := Ideal) x0 x1 (ix5 (0 : Fin 1) h j (at_row b i) d)
    = num (sAt x0 h j b i) (mAt x0 x1 h j b i) (fun y d => kAt x0 h b y d 256 (by norm_num)) d := by
  unfold val_main_v103
  refine (shapeCast_apply _ _ _ (ix6 (0 : Fin 1) h j b i d) ?_).trans (r102 x0 x1 h j b i d)
  rw [Shape.rowMajor_val_five, Shape.rowMajor_val_six]
  show (((((0 * 4 + h.val) * 8 + j.val) * 16 + b.val) * 128 + i.val) * 64 + d.val) = ((((0 * 4 + h.val) * 8 + j.val) * 2048 + (128 * b.val + i.val)) * 64 + d.val)
  omega
theorem r104 : val_main_v104 (F := Ideal) x0 x1 (ix4 (0 : Fin 1) h j (at_row b i)) = mAt x0 x1 h j b i := by
  unfold val_main_v104
  refine shapeCast_apply _ _ _ (ix5 (0 : Fin 1) h j b i) ?_
  rw [Shape.rowMajor_val_five, Shape.rowMajor_val_four]
  show ((((0 * 4 + h.val) * 8 + j.val) * 16 + b.val) * 128 + i.val) = (((0 * 4 + h.val) * 8 + j.val) * 2048 + (128 * b.val + i.val))
  omega
theorem r105 : val_main_v105 (F := Ideal) x0 x1 (ix4 (0 : Fin 1) h j (at_row b i)) = tot (sAt x0 h j b i) (sinkAt x1 h j) (mAt x0 x1 h j b i) := by
  unfold val_main_v105
  refine (shapeCast_apply _ _ _ (ix5 (0 : Fin 1) h j b i) ?_).trans (r100 x0 x1 h j b i)
  rw [Shape.rowMajor_val_five, Shape.rowMajor_val_four]
  show ((((0 * 4 + h.val) * 8 + j.val) * 16 + b.val) * 128 + i.val) = (((0 * 4 + h.val) * 8 + j.val) * 2048 + (128 * b.val + i.val))
  omega

end Cert.Swa

end
-- ==== Proof.Swa.RefSums.lean ====
/- The reference's sums over two and three axes of the attention's backward pass, and its two products that add over
   a group's heads and a block's rows, read at an index. -/
module

public import proofs.«01_k».proof.Proof.Swa.RefScore
public import Idealize.ShloMosaic.Lib.TwoAxisContraction

@[expose] public section

set_option maxRecDepth 16384

noncomputable section

namespace Cert.Swa

open Idealize.ShloMosaic Cert.ReferenceIdeal Cert.ReferenceIdeal.Gen Cert.ReferenceIdeal.Read

theorem red_row (u : FVec Ideal S1x4x8x2048x1 .f32) (a : Fin 4) (b : Fin 8) (c : Fin 2048) :
    (Host.reduceAdd u (val_main_cst_22 (F := Ideal)) reducesTo_S1x4x8x2048x1_S4x8x2048_d0_4 h_S_ : FVec Ideal S4x8x2048 .f32) (ix3 a b c)
      = ∑ k0 : Fin 1, ∑ k1 : Fin 1, u (ix5 k0 a b c k1) := by
  refine (congrArg (fun z : EReal => z + ∑ i ∈ Finset.univ.filter (fun i => (reducesTo_S1x4x8x2048x1_S4x8x2048_d0_4).drop i = ix3 a b c), u i) (Ideal.ofBits_zero_f32)).trans ((zero_add _).trans ?_)
  refine (Finset.sum_filter_eq_sum_of_fiber _ (fun k : Fin 1 × Fin 1 => (ix5 k.1 a b c k.2 : S1x4x8x2048x1.Idx)) ?_ ?_ u).trans ?_
  · exact fun p q e => Prod.ext (congrFun e 0) (congrFun e 4)
  · intro i
    constructor
    · intro e
      refine ⟨(i 0, i 4), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => exact (congrArg Fin.val (congrFun e 2)).symm
      | ⟨4, _⟩ => rfl
    · rintro ⟨k, rfl⟩
      funext b
      apply Fin.ext
      match b with
      | ⟨0, _⟩ => rfl
      | ⟨1, _⟩ => rfl
      | ⟨2, _⟩ => rfl
  · simp only [Fintype.sum_prod_type]

theorem red_block (u : FVec Ideal S1x4x8x16x128 .f32) (a : Fin 1) (b : Fin 4) (c : Fin 8) :
    (Host.reduceAdd u (val_main_cst_23 (F := Ideal)) reducesTo_S1x4x8x16x128_S1x4x8_d3_4 h_S_ : FVec Ideal S1x4x8 .f32) (ix3 a b c)
      = ∑ k0 : Fin 16, ∑ k1 : Fin 128, u (ix5 a b c k0 k1) := by
  refine (congrArg (fun z : EReal => z + ∑ i ∈ Finset.univ.filter (fun i => (reducesTo_S1x4x8x16x128_S1x4x8_d3_4).drop i = ix3 a b c), u i) (Ideal.ofBits_zero_f32)).trans ((zero_add _).trans ?_)
  refine (Finset.sum_filter_eq_sum_of_fiber _ (fun k : Fin 16 × Fin 128 => (ix5 a b c k.1 k.2 : S1x4x8x16x128.Idx)) ?_ ?_ u).trans ?_
  · exact fun p q e => Prod.ext (congrFun e 3) (congrFun e 4)
  · intro i
    constructor
    · intro e
      refine ⟨(i 3, i 4), ?_⟩
      funext a; apply Fin.ext
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => rfl
    · rintro ⟨k, rfl⟩
      funext b
      apply Fin.ext
      match b with
      | ⟨0, _⟩ => rfl
      | ⟨1, _⟩ => rfl
      | ⟨2, _⟩ => rfl
  · simp only [Fintype.sum_prod_type]

theorem red_unit (u : FVec Ideal S1x4x8x1x1 .f32) (a : Fin 4) (b : Fin 8) :
    (Host.reduceAdd u (val_main_cst_24 (F := Ideal)) reducesTo_S1x4x8x1x1_S4x8_d0_3_4 h_S_ : FVec Ideal S4x8 .f32) (ix2 a b)
      = ∑ k0 : Fin 1, ∑ k1 : Fin 1, ∑ k2 : Fin 1, u (ix5 k0 a b k1 k2) := by
  refine (congrArg (fun z : EReal => z + ∑ i ∈ Finset.univ.filter (fun i => (reducesTo_S1x4x8x1x1_S4x8_d0_3_4).drop i = ix2 a b), u i) (Ideal.ofBits_zero_f32)).trans ((zero_add _).trans ?_)
  refine (Finset.sum_filter_eq_sum_of_fiber _ (fun k : Fin 1 × Fin 1 × Fin 1 => (ix5 k.1 a b k.2.1 k.2.2 : S1x4x8x1x1.Idx)) ?_ ?_ u).trans ?_
  · exact fun p q e => Prod.ext (congrFun e 0) (Prod.ext (congrFun e 3) (congrFun e 4))
  · intro i
    constructor
    · intro e
      refine ⟨(i 0, i 3, i 4), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => rfl
    · rintro ⟨k, rfl⟩
      funext b
      apply Fin.ext
      match b with
      | ⟨0, _⟩ => rfl
      | ⟨1, _⟩ => rfl
  · simp only [Fintype.sum_prod_type]

theorem red_max (u : FVec Ideal S1x4x8x16x128x1 .f32) (a : Fin 4) (b : Fin 8) (c : Fin 16) (d : Fin 128) :
    (Host.reduceAdd u (val_main_cst_26 (F := Ideal)) reducesTo_S1x4x8x16x128x1_S4x8x16x128_d0_5 h_S_ : FVec Ideal S4x8x16x128 .f32) (ix4 a b c d)
      = ∑ k0 : Fin 1, ∑ k1 : Fin 1, u (ix6 k0 a b c d k1) := by
  refine (congrArg (fun z : EReal => z + ∑ i ∈ Finset.univ.filter (fun i => (reducesTo_S1x4x8x16x128x1_S4x8x16x128_d0_5).drop i = ix4 a b c d), u i) (Ideal.ofBits_zero_f32)).trans ((zero_add _).trans ?_)
  refine (Finset.sum_filter_eq_sum_of_fiber _ (fun k : Fin 1 × Fin 1 => (ix6 k.1 a b c d k.2 : S1x4x8x16x128x1.Idx)) ?_ ?_ u).trans ?_
  · exact fun p q e => Prod.ext (congrFun e 0) (congrFun e 5)
  · intro i
    constructor
    · intro e
      refine ⟨(i 0, i 5), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => exact (congrArg Fin.val (congrFun e 2)).symm
      | ⟨4, _⟩ => exact (congrArg Fin.val (congrFun e 3)).symm
      | ⟨5, _⟩ => rfl
    · rintro ⟨k, rfl⟩
      funext b
      apply Fin.ext
      match b with
      | ⟨0, _⟩ => rfl
      | ⟨1, _⟩ => rfl
      | ⟨2, _⟩ => rfl
      | ⟨3, _⟩ => rfl
  · simp only [Fintype.sum_prod_type]

theorem red_last (u : FVec Ideal S4x8x1x1 .f32) (a : Fin 4) (b : Fin 8) :
    (Host.reduceAdd u (val_main_cst_29 (F := Ideal)) reducesTo_S4x8x1x1_S4x8_d2_3 h_S_ : FVec Ideal S4x8 .f32) (ix2 a b)
      = ∑ k0 : Fin 1, ∑ k1 : Fin 1, u (ix4 a b k0 k1) := by
  refine (congrArg (fun z : EReal => z + ∑ i ∈ Finset.univ.filter (fun i => (reducesTo_S4x8x1x1_S4x8_d2_3).drop i = ix2 a b), u i) (Ideal.ofBits_zero_f32)).trans ((zero_add _).trans ?_)
  refine (Finset.sum_filter_eq_sum_of_fiber _ (fun k : Fin 1 × Fin 1 => (ix4 a b k.1 k.2 : S4x8x1x1.Idx)) ?_ ?_ u).trans ?_
  · exact fun p q e => Prod.ext (congrFun e 2) (congrFun e 3)
  · intro i
    constructor
    · intro e
      refine ⟨(i 2, i 3), ?_⟩
      funext a; apply Fin.ext
      match a with
      | ⟨0, _⟩ => exact (congrArg Fin.val (congrFun e 0)).symm
      | ⟨1, _⟩ => exact (congrArg Fin.val (congrFun e 1)).symm
      | ⟨2, _⟩ => rfl
      | ⟨3, _⟩ => rfl
    · rintro ⟨k, rfl⟩
      funext b
      apply Fin.ext
      match b with
      | ⟨0, _⟩ => rfl
      | ⟨1, _⟩ => rfl
  · simp only [Fintype.sum_prod_type]

theorem dot_val (u : FVec Ideal S1x4x16x64x8x128 .f32) (w : FVec Ideal S1x4x8x16x128x256 .f32) (h : Fin 4) (b : Fin 16) (d : Fin 64) (y : Fin 256) :
    Host.dotGeneral dot_S1x4x16x64x8x128_S1x4x8x16x128x256_S1x4x16x64x256_45_24_3_5_012_013 none u w (ix5 (0 : Fin 1) h b d y) = ∑ j : Fin 8, ∑ i : Fin 128, u (ix6 0 h b d j i) * w (ix6 0 h j b i y) := by
  simp only [Host.dotGeneral]
  rw [Ideal.dotGeneral_apply, ValueIdx.sum_contr2 dot_S1x4x16x64x8x128_S1x4x8x16x128x256_S1x4x16x64x256_45_24_3_5_012_013 8 128 rfl rfl rfl]
  refine Finset.sum_congr rfl fun j _ => Finset.sum_congr rfl fun i _ => ?_
  have h0 := ValueIdx.contrEquiv2_symm_val0 dot_S1x4x16x64x8x128_S1x4x8x16x128x256_S1x4x16x64x256_45_24_3_5_012_013 8 128 rfl rfl rfl (j, i)
  have h1 := ValueIdx.contrEquiv2_symm_val1 dot_S1x4x16x64x8x128_S1x4x8x16x128x256_S1x4x16x64x256_45_24_3_5_012_013 8 128 rfl rfl rfl (j, i)
  refine congrArg₂ (fun p q : EReal => p * q) (congrArg u (funext fun a => Fin.ext ?_)) (congrArg w (funext fun a => Fin.ext ?_))
  · match a with
    | ⟨0, _⟩ => rfl
    | ⟨1, _⟩ => rfl
    | ⟨2, _⟩ => rfl
    | ⟨3, _⟩ => rfl
    | ⟨4, _⟩ => exact h0
    | ⟨5, _⟩ => exact h1
  · match a with
    | ⟨0, _⟩ => rfl
    | ⟨1, _⟩ => rfl
    | ⟨2, _⟩ => exact h0
    | ⟨3, _⟩ => rfl
    | ⟨4, _⟩ => exact h1
    | ⟨5, _⟩ => rfl

theorem dot_key (u : FVec Ideal S1x4x16x256x8x128 .f32) (w : FVec Ideal S1x4x8x16x128x64 .f32) (h : Fin 4) (b : Fin 16) (y : Fin 256) (d : Fin 64) :
    Host.dotGeneral dot_S1x4x16x256x8x128_S1x4x8x16x128x64_S1x4x16x256x64_45_24_3_5_012_013 none u w (ix5 (0 : Fin 1) h b y d) = ∑ j : Fin 8, ∑ i : Fin 128, u (ix6 0 h b y j i) * w (ix6 0 h j b i d) := by
  simp only [Host.dotGeneral]
  rw [Ideal.dotGeneral_apply, ValueIdx.sum_contr2 dot_S1x4x16x256x8x128_S1x4x8x16x128x64_S1x4x16x256x64_45_24_3_5_012_013 8 128 rfl rfl rfl]
  refine Finset.sum_congr rfl fun j _ => Finset.sum_congr rfl fun i _ => ?_
  have h0 := ValueIdx.contrEquiv2_symm_val0 dot_S1x4x16x256x8x128_S1x4x8x16x128x64_S1x4x16x256x64_45_24_3_5_012_013 8 128 rfl rfl rfl (j, i)
  have h1 := ValueIdx.contrEquiv2_symm_val1 dot_S1x4x16x256x8x128_S1x4x8x16x128x64_S1x4x16x256x64_45_24_3_5_012_013 8 128 rfl rfl rfl (j, i)
  refine congrArg₂ (fun p q : EReal => p * q) (congrArg u (funext fun a => Fin.ext ?_)) (congrArg w (funext fun a => Fin.ext ?_))
  · match a with
    | ⟨0, _⟩ => rfl
    | ⟨1, _⟩ => rfl
    | ⟨2, _⟩ => rfl
    | ⟨3, _⟩ => rfl
    | ⟨4, _⟩ => exact h0
    | ⟨5, _⟩ => exact h1
  · match a with
    | ⟨0, _⟩ => rfl
    | ⟨1, _⟩ => rfl
    | ⟨2, _⟩ => exact h0
    | ⟨3, _⟩ => rfl
    | ⟨4, _⟩ => exact h1
    | ⟨5, _⟩ => rfl

end Cert.Swa

end
-- ==== Proof.Swa.RefBack.lean ====
/- The reference's arrays of the attention's backward pass, read at an index: the cotangents of the row's total, of the
   weights and of the masked scores, in the form the derivative writes them. -/
module

public import proofs.«01_k».proof.Proof.Swa.RefSums

@[expose] public section

set_option maxRecDepth 16384

noncomputable section

namespace Cert.Swa

open Idealize.ShloMosaic Cert.ReferenceIdeal Cert.ReferenceIdeal.Gen Cert.ReferenceIdeal.Read

variable (x0 : (⟨S2048x2560, .f32⟩ : BufTy).Contents (Elt Ideal)) (x1 : (⟨S32, .f32⟩ : BufTy).Contents (Elt Ideal))
  (x2 : (⟨S2048x2048, .f32⟩ : BufTy).Contents (Elt Ideal)) (h : Fin 4) (j : Fin 8) (b : Fin 16) (i : Fin 128) (y : Fin 256) (d : Fin 64)

/-- The window's values. -/
def vAt (y : Fin 256) (d : Fin 64) : EReal := kAt x0 h b y d 256 (by norm_num)
/-- The row's total, its numerator, and the cotangents of the total, of a weight and of a masked score. -/
def totAt : EReal := tot (sAt x0 h j b i) (sinkAt x1 h j) (mAt x0 x1 h j b i)
def numAt (d : Fin 64) : EReal := num (sAt x0 h j b i) (mAt x0 x1 h j b i) (vAt x0 h b) d
def dtotAt : EReal := dtot (sAt x0 h j b i) (sinkAt x1 h j) (mAt x0 x1 h j b i) (vAt x0 h b) (gAt x2 h j b i)
def dwtAt (y : Fin 256) : EReal := dwt (sAt x0 h j b i) (sinkAt x1 h j) (mAt x0 x1 h j b i) (vAt x0 h b) (gAt x2 h j b i) y
def dscAt (y : Fin 256) : EReal := dsc (sAt x0 h j b i) (sinkAt x1 h j) (mAt x0 x1 h j b i) (vAt x0 h b) (gAt x2 h j b i) y

theorem r118 : val_main_v118 (F := Ideal) x2 (ix5 (0 : Fin 1) h j (at_row b i) d) = gAt x2 h j b i d := by
  rw [val_main_v118_apply]
  have e : ∀ g : Fin 32, ∀ n : Fin 2048, val_main_v117 (F := Ideal) x2 (ix4 (0 : Fin 1) g n d) = x2 (ix2 n (⟨64 * g.val + d.val, by omega⟩ : Fin 2048)) := by
    intro g n
    rw [val_main_v117_apply, val_main_v116_apply, val_main_v115_apply]
    refine congrArg x2 (funext fun a => Fin.ext ?_)
    match a with
    | ⟨0, _⟩ => dsimp; omega
    | ⟨1, _⟩ => dsimp; omega
  refine Eq.trans (congrArg _ (funext fun a => Fin.ext ?_)) (e (⟨8 * h.val + j.val, by omega⟩ : Fin 32) (at_row b i))
  match a with
  | ⟨0, _⟩ => rfl
  | ⟨1, _⟩ => dsimp; omega
  | ⟨2, _⟩ => dsimp [at_row]; omega
  | ⟨3, _⟩ => dsimp; omega

theorem r106 : val_main_v106 (F := Ideal) x0 x1 (ix5 (0 : Fin 1) h j (at_row b i) (0 : Fin 1)) = totAt x0 x1 h j b i := by
  rw [val_main_v106_apply]
  exact (congrArg _ (eq_ix4 _)).trans (r105 x0 x1 h j b i)
theorem r107 : val_main_v107 (F := Ideal) x0 x1 (ix5 (0 : Fin 1) h j (at_row b i) d) = totAt x0 x1 h j b i := by
  rw [val_main_v107_apply]
  exact (congrArg _ (eq_ix5 _)).trans (r106 x0 x1 h j b i)
theorem r108 : val_main_v108 (F := Ideal) x0 x1 (ix5 (0 : Fin 1) h j (at_row b i) d) = Ideal.div (numAt x0 x1 h j b i d) (totAt x0 x1 h j b i) := by
  rw [val_main_v108_apply, r103, r107]; rfl
theorem r111 : val_main_v111 (F := Ideal) x0 x1 (ix5 (0 : Fin 1) h j (at_row b i) (0 : Fin 1)) = Ideal.div 1 (totAt x0 x1 h j b i * totAt x0 x1 h j b i) := by
  rw [val_main_v111_apply, val_main_v109_apply, r106, val_main_v110_apply]
  exact congrArg (fun z : EReal => Ideal.div z (totAt x0 x1 h j b i * totAt x0 x1 h j b i)) Ideal.ofBits_one_f32
theorem r121 : val_main_v121 (F := Ideal) x0 x1 x2 (ix5 (0 : Fin 1) h j (at_row b i) d)
    = (gAt x2 h j b i d * Ideal.div 1 (totAt x0 x1 h j b i * totAt x0 x1 h j b i)) * numAt x0 x1 h j b i d := by
  rw [val_main_v121_apply, val_main_v120_apply, r118, r103, val_main_v119_apply]
  exact congrArg (fun z : EReal => (gAt x2 h j b i d * z) * numAt x0 x1 h j b i d) ((congrArg _ (eq_ix5 _)).trans (r111 x0 x1 h j b i))
theorem r122 : val_main_v122 (F := Ideal) x0 x1 x2 (ix4 (0 : Fin 1) h j (at_row b i))
    = ∑ d, (gAt x2 h j b i d * Ideal.div 1 (totAt x0 x1 h j b i * totAt x0 x1 h j b i)) * numAt x0 x1 h j b i d := by
  rw [val_main_v122_apply]
  refine (congrArg (· + _) Ideal.ofBits_zero_f32).trans ((zero_add _).trans ?_)
  exact Finset.sum_congr rfl fun d _ => (congrArg _ (eq_ix5 _)).trans (r121 x0 x1 x2 h j b i d)
theorem r124 : val_main_v124 (F := Ideal) x0 x1 x2 (ix5 (0 : Fin 1) h j (at_row b i) (0 : Fin 1)) = dtotAt x0 x1 x2 h j b i := by
  rw [val_main_v124_apply]
  refine congrArg (fun z : EReal => -z) (Eq.trans ?_ (r122 x0 x1 x2 h j b i))
  unfold val_main_v123
  refine shapeCast_apply _ _ _ _ ?_
  rw [Shape.rowMajor_val_five, Shape.rowMajor_val_four]
  show (((0 * 4 + h.val) * 8 + j.val) * 2048 + (128 * b.val + i.val)) = ((((0 * 4 + h.val) * 8 + j.val) * 2048 + (128 * b.val + i.val)) * 1 + 0)
  omega
theorem r129 : val_main_v129 (F := Ideal) x0 x1 x2 (ix5 (0 : Fin 1) h j b i) = dtotAt x0 x1 x2 h j b i := by
  unfold val_main_v129
  refine (shapeCast_apply _ _ _ (ix4 (0 : Fin 1) h j (at_row b i)) ?_).trans ?_
  · rw [Shape.rowMajor_val_five, Shape.rowMajor_val_four]
    show (((0 * 4 + h.val) * 8 + j.val) * 2048 + (128 * b.val + i.val)) = ((((0 * 4 + h.val) * 8 + j.val) * 16 + b.val) * 128 + i.val)
    omega
  · rw [val_main_v128_apply]
    refine (congrArg _ (eq_ix3 _)).trans ((red_row (val_main_v124 (F := Ideal) x0 x1 x2) h j (at_row b i)).trans ?_)
    rw [Fin.sum_univ_one, Fin.sum_univ_one]
    exact r124 x0 x1 x2 h j b i
theorem r126 : val_main_v126 (F := Ideal) x0 x1 x2 (ix5 (0 : Fin 1) h j (at_row b i) d) = Ideal.div (gAt x2 h j b i d) (totAt x0 x1 h j b i) := by
  rw [val_main_v126_apply, r118, val_main_v125_apply]
  exact congrArg (fun z : EReal => Ideal.div (gAt x2 h j b i d) z) ((congrArg _ (eq_ix5 _)).trans (r106 x0 x1 h j b i))
theorem r131 : val_main_v131 (F := Ideal) x0 x1 x2 (ix6 (0 : Fin 1) h b d j i) = Ideal.div (gAt x2 h j b i d) (totAt x0 x1 h j b i) := by
  rw [val_main_v131_apply]
  refine Eq.trans (congrArg _ (eq_ix6 _)) (Eq.trans ?_ (r126 x0 x1 x2 h j b i d))
  unfold val_main_v130
  refine shapeCast_apply _ _ _ _ ?_
  rw [Shape.rowMajor_val_five, Shape.rowMajor_val_six]
  show ((((0 * 4 + h.val) * 8 + j.val) * 2048 + (128 * b.val + i.val)) * 64 + d.val) = (((((0 * 4 + h.val) * 8 + j.val) * 16 + b.val) * 128 + i.val) * 64 + d.val)
  omega
theorem r133 : val_main_v133 (F := Ideal) x0 x1 x2 (ix6 (0 : Fin 1) h j b i y) = dwtAt x0 x1 x2 h j b i y := by
  rw [val_main_v133_apply, val_main_v132_apply]
  unfold dwtAt dwt
  refine Finset.sum_congr rfl fun d _ => ?_
  exact congrArg₂ (fun p q : EReal => p * q) ((congrArg _ (eq_ix6 _)).trans (r131 x0 x1 x2 h j b i d)) ((congrArg _ (eq_ix5 _)).trans (r27 x0 h b y d))
theorem r144 : val_main_v144 (F := Ideal) x0 x1 x2 (ix6 (0 : Fin 1) h j b i y) = dscAt x0 x1 x2 h j b i y := by
  rw [val_main_v144_apply, val_main_v143_apply, r133, r94, val_main_v142_apply]
  exact congrArg (fun z : EReal => (dwtAt x0 x1 x2 h j b i y + z) * wt (sAt x0 h j b i) (mAt x0 x1 h j b i) y) ((congrArg _ (eq_ix5 _)).trans (r129 x0 x1 x2 h j b i))
theorem r135 : val_main_v135 (F := Ideal) x0 x1 x2 (ix5 (0 : Fin 1) h b y d)
    = ∑ j : Fin 8, ∑ i : Fin 128, Ideal.div (gAt x2 h j b i d) (totAt x0 x1 h j b i) * wt (sAt x0 h j b i) (mAt x0 x1 h j b i) y := by
  rw [val_main_v135_apply]
  refine (congrArg _ (eq_ix5 _)).trans ((dot_val (val_main_v131 (F := Ideal) x0 x1 x2) (val_main_v94 (F := Ideal) x0 x1) h b d y).trans ?_)
  exact Finset.sum_congr rfl fun j _ => Finset.sum_congr rfl fun i _ =>
    congrArg₂ (fun p q : EReal => p * q) (r131 x0 x1 x2 h j b i d) (r94 x0 x1 h j b i y)
theorem r136 : val_main_v136 (F := Ideal) x0 x1 x2 (ix5 (0 : Fin 1) h j b i)
    = dtotAt x0 x1 x2 h j b i * Ideal.exp (sinkAt x1 h j - mAt x0 x1 h j b i) := by
  rw [val_main_v136_apply, r129, r99]; rfl
theorem r146 : val_main_v146 (F := Ideal) x0 x1 x2 (ix5 (0 : Fin 1) h j b i) = ∑ y, -(dscAt x0 x1 x2 h j b i y) := by
  rw [val_main_v146_apply]
  refine (congrArg (· + _) Ideal.ofBits_zero_f32).trans ((zero_add _).trans ?_)
  refine Finset.sum_congr rfl fun y _ => ?_
  rw [val_main_v145_apply]
  exact congrArg (fun z : EReal => -z) ((congrArg _ (eq_ix6 _)).trans (r144 x0 x1 x2 h j b i y))
theorem r149 : val_main_v149 (F := Ideal) x0 x1 x2 (ix5 (0 : Fin 1) h j b i) = ∑ y, -(dscAt x0 x1 x2 h j b i y) := by
  rw [val_main_v149_apply]
  refine (congrArg _ (eq_ix4 _)).trans ((red_max (val_main_v147 (F := Ideal) x0 x1 x2) h j b i).trans ?_)
  rw [Fin.sum_univ_one, Fin.sum_univ_one]
  refine Eq.trans ?_ (r146 x0 x1 x2 h j b i)
  unfold val_main_v147
  refine shapeCast_apply _ _ _ _ ?_
  rw [Shape.rowMajor_val_five, Shape.rowMajor_val_six]
  show ((((0 * 4 + h.val) * 8 + j.val) * 16 + b.val) * 128 + i.val) = (((((0 * 4 + h.val) * 8 + j.val) * 16 + b.val) * 128 + i.val) * 1 + 0)
  omega
theorem r150 : val_main_v150 (F := Ideal) x0 x1 x2 (ix5 (0 : Fin 1) h j b i)
    = -(dtotAt x0 x1 x2 h j b i * Ideal.exp (sinkAt x1 h j - mAt x0 x1 h j b i)) + ∑ y, -(dscAt x0 x1 x2 h j b i y) := by
  rw [val_main_v150_apply, val_main_v139_apply, r136, r149]; rfl
/-- The total's part of a sink's cotangent. -/
theorem r141 : val_main_v141 (F := Ideal) x0 x1 x2 (ix4 h j (0 : Fin 1) (0 : Fin 1))
    = ∑ b : Fin 16, ∑ i : Fin 128, dtotAt x0 x1 x2 h j b i * Ideal.exp (sinkAt x1 h j - mAt x0 x1 h j b i) := by
  rw [val_main_v141_apply]
  refine (congrArg _ (eq_ix2 _)).trans ((red_unit (val_main_v138 (F := Ideal) x0 x1 x2) h j).trans ?_)
  rw [Fin.sum_univ_one, Fin.sum_univ_one, Fin.sum_univ_one]
  unfold val_main_v138
  refine (shapeCast_apply _ _ _ (ix3 (0 : Fin 1) h j) ?_).trans ?_
  · rw [Shape.rowMajor_val_five, Shape.rowMajor_val_three]
    show ((0 * 4 + h.val) * 8 + j.val) = (((((0 * 4 + h.val) * 8 + j.val) * 1 + 0)) * 1 + 0)
    omega
  · refine (red_block (val_main_v136 (F := Ideal) x0 x1 x2) (0 : Fin 1) h j).trans ?_
    exact Finset.sum_congr rfl fun b _ => Finset.sum_congr rfl fun i _ => r136 x0 x1 x2 h j b i
/-- The maximum's part. -/
theorem r156 : val_main_v156 (F := Ideal) x0 x1 x2 (ix4 h j (0 : Fin 1) (0 : Fin 1))
    = ∑ b : Fin 16, ∑ i : Fin 128, val_main_v150 (F := Ideal) x0 x1 x2 (ix5 (0 : Fin 1) h j b i) * val_main_v90 (F := Ideal) x0 x1 (ix5 (0 : Fin 1) h j b i) := by
  rw [val_main_v156_apply]
  refine (congrArg _ (eq_ix2 _)).trans ((red_unit (val_main_v153 (F := Ideal) x0 x1 x2) h j).trans ?_)
  rw [Fin.sum_univ_one, Fin.sum_univ_one, Fin.sum_univ_one]
  unfold val_main_v153
  refine (shapeCast_apply _ _ _ (ix3 (0 : Fin 1) h j) ?_).trans ?_
  · rw [Shape.rowMajor_val_five, Shape.rowMajor_val_three]
    show ((0 * 4 + h.val) * 8 + j.val) = (((((0 * 4 + h.val) * 8 + j.val) * 1 + 0)) * 1 + 0)
    omega
  · refine (red_block (val_main_v151 (F := Ideal) x0 x1 x2) (0 : Fin 1) h j).trans ?_
    exact Finset.sum_congr rfl fun b _ => Finset.sum_congr rfl fun i _ => rfl
theorem r158 : val_main_v158 (F := Ideal) x0 x1 x2 (ix2 h j)
    = val_main_v141 (F := Ideal) x0 x1 x2 (ix4 h j (0 : Fin 1) (0 : Fin 1)) + val_main_v156 (F := Ideal) x0 x1 x2 (ix4 h j (0 : Fin 1) (0 : Fin 1)) := by
  refine (red_last (val_main_v157 (F := Ideal) x0 x1 x2) h j).trans ?_
  rw [Fin.sum_univ_one, Fin.sum_univ_one]
  rfl

end Cert.Swa

end
-- ==== Proof.Swa.RefReal.lean ====
/- The reference's gradients of the attention where the arguments are finite: the maximum's share vanishes, and the
   results are sums of the masked scores' cotangents. -/
module

public import proofs.«01_k».proof.Proof.Swa.RefBack

@[expose] public section

set_option maxRecDepth 16384

noncomputable section

namespace Cert.Swa

open Idealize.ShloMosaic Cert.ReferenceIdeal Cert.ReferenceIdeal.Gen Cert.ReferenceIdeal.Read

variable (x0 : (⟨S2048x2560, .f32⟩ : BufTy).Contents (Elt Ideal)) (x1 : (⟨S32, .f32⟩ : BufTy).Contents (Elt Ideal))
  (x2 : (⟨S2048x2048, .f32⟩ : BufTy).Contents (Elt Ideal)) (h : Fin 4) (j : Fin 8) (b : Fin 16) (i : Fin 128) (y : Fin 256) (d : Fin 64)
  (f0 : ∀ k, ∃ r : ℝ, x0 k = (r : EReal)) (f1 : ∀ k, ∃ r : ℝ, x1 k = (r : EReal)) (f2 : ∀ k, ∃ r : ℝ, x2 k = (r : EReal))

theorem scale_real : ∃ r : ℝ, scale = (r : EReal) := by
  refine ⟨1 / 8, ?_⟩
  unfold scale
  simp [Ideal.ofBits, Ideal.ieee, -EReal.coe_mul]; norm_num

include f0 in
theorem kAt_real (o : ℕ) (ho : o ≤ 256) : ∃ r : ℝ, kAt x0 h b y d o ho = (r : EReal) := by
  unfold kAt
  by_cases hb : 128 ≤ 128 * b.val + y.val
  · rw [dif_pos hb]; exact f0 _
  · rw [dif_neg hb]; exact ⟨0, rfl⟩

include f0 in
theorem sAt_lt_top : sAt x0 h j b i y < ⊤ := by
  unfold sAt
  by_cases hs : seen b.val i.val y.val
  · rw [if_pos hs]
    choose k hk using fun d => kAt_real x0 h b y d f0 0 (by norm_num)
    choose q hq using fun d => f0 (ix2 (⟨128 * b.val + i.val, by omega⟩ : Fin 2048) (⟨64 * (8 * h.val + j.val) + (d : Fin 64).val, by omega⟩ : Fin 2560))
    obtain ⟨c, hc⟩ := scale_real
    have e : (∑ d : Fin 64, kAt x0 h b y d 0 (by norm_num) * qAt x0 h j b i d) * scale = (((∑ d, k d * q d) * c : ℝ) : EReal) := by
      rw [EReal.coe_mul, coe_sum, hc]
      refine congrArg (· * (c : EReal)) (Finset.sum_congr rfl fun d _ => ?_)
      rw [hk d, EReal.coe_mul]
      exact congrArg _ (hq d)
    rw [e]
    exact EReal.coe_lt_top _
  · rw [if_neg hs]; exact bot_lt_top

theorem fold_lt_top {ι : Type} (x : ι → EReal) (hx : ∀ k, x k < ⊤) (l : List ι) : ∀ a : EReal, a < ⊤ → l.foldl (fun r k => max r (x k)) a < ⊤ := by
  induction l with
  | nil => exact fun a ha => ha
  | cons k l ih => exact fun a ha => ih _ (max_lt ha (hx k))

include f0 in
theorem r63 (k : S1x4x8x16x128.Idx) : val_main_v63 (F := Ideal) x0 k < ⊤ := by
  unfold val_main_v63
  rw [Host.reduce_eq_foldl]
  refine fold_lt_top (val_main_v62_0 (F := Ideal) x0) (fun p => ?_) _ _ ?_
  · have e : val_main_v62_0 (F := Ideal) x0 p = sAt x0 (p 1) (p 2) (p 3) (p 4) (p 5) := by
      refine Eq.trans (congrArg _ ?_) (r62 x0 (p 1) (p 2) (p 3) (p 4) (p 5))
      funext a; apply Fin.ext
      match a with
      | ⟨0, _⟩ => have := (p 0).isLt; show (p 0).val = 0; have e : (p 0).val < 1 := this; omega
      | ⟨1, _⟩ => rfl
      | ⟨2, _⟩ => rfl
      | ⟨3, _⟩ => rfl
      | ⟨4, _⟩ => rfl
      | ⟨5, _⟩ => rfl
    rw [e]
    exact sAt_lt_top x0 _ _ _ _ _ f0
  · have e : val_main_cst_11 (F := Ideal) (Shape.Idx.first h_S_) = (⊥ : EReal) := by
      show Ideal.ofBits .f32 0xFF800000#32 = ⊥
      simp [Ideal.ofBits, Ideal.ieee]
    rw [e]
    exact bot_lt_top

include f0 f1 in
theorem mAt_real : ∃ M : ℝ, mAt x0 x1 h j b i = (M : EReal) := by
  obtain ⟨s, hs⟩ := f1 (ix1 (⟨8 * h.val + j.val, by omega⟩ : Fin 32))
  have e : mAt x0 x1 h j b i = max (val_main_v63 (F := Ideal) x0 (ix5 (0 : Fin 1) h j b i)) (s : EReal) := by
    unfold mAt
    rw [val_main_v72_apply, r71]
    exact congrArg (max _) hs
  have h1 : mAt x0 x1 h j b i ≠ ⊤ := by
    rw [e]; exact (max_lt (r63 x0 f0 _) (EReal.coe_lt_top s)).ne
  have h2 : mAt x0 x1 h j b i ≠ ⊥ := by
    rw [e]; exact ((EReal.bot_lt_coe s).trans_le (le_max_right _ _)).ne'
  exact ⟨_, (EReal.coe_toReal h1 h2).symm⟩

/-- The row's log-sum. -/
def lseAt : EReal := mAt x0 x1 h j b i + Ideal.log (totAt x0 x1 h j b i)

include f0 f1 f2 in
/-- The row's facts, with its numbers real. -/
theorem row_facts :
    (∀ y d, Ideal.exp (sAt x0 h j b i y - lseAt x0 x1 h j b i) * gAt x2 h j b i d
        = Ideal.div (gAt x2 h j b i d) (totAt x0 x1 h j b i) * wt (sAt x0 h j b i) (mAt x0 x1 h j b i) y)
    ∧ (∀ y, Ideal.exp (sAt x0 h j b i y - lseAt x0 x1 h j b i)
        * ((∑ d, gAt x2 h j b i d * vAt x0 h b y d) - ∑ d, Ideal.div (numAt x0 x1 h j b i d) (totAt x0 x1 h j b i) * gAt x2 h j b i d)
        = dscAt x0 x1 x2 h j b i y)
    ∧ ((0 - Ideal.exp (sinkAt x1 h j - lseAt x0 x1 h j b i)) * (∑ d, Ideal.div (numAt x0 x1 h j b i d) (totAt x0 x1 h j b i) * gAt x2 h j b i d)
        = dtotAt x0 x1 x2 h j b i * Ideal.exp (sinkAt x1 h j - mAt x0 x1 h j b i))
    ∧ (-(dtotAt x0 x1 x2 h j b i * Ideal.exp (sinkAt x1 h j - mAt x0 x1 h j b i)) + ∑ y, -(dscAt x0 x1 x2 h j b i y) = 0) := by
  obtain ⟨M, hM⟩ := mAt_real x0 x1 h j b i f0 f1
  obtain ⟨s, hs⟩ : ∃ s : ℝ, sinkAt x1 h j = (s : EReal) := f1 _
  choose v hv using fun y d => kAt_real x0 h b y d f0 256 (by norm_num)
  choose g hg using fun d => f2 (ix2 (⟨128 * b.val + i.val, by omega⟩ : Fin 2048) (⟨64 * (8 * h.val + j.val) + (d : Fin 64).val, by omega⟩ : Fin 2048))
  have ev : vAt x0 h b = fun y d => (v y d : EReal) := funext fun y => funext fun d => hv y d
  have eg : gAt x2 h j b i = fun d => (g d : EReal) := funext fun d => hg d
  have ht : ∀ y, sAt x0 h j b i y ≠ ⊤ := fun y => (sAt_lt_top x0 h j b i y f0).ne
  unfold lseAt dscAt dtotAt numAt totAt
  rw [hM, hs, ev, eg]
  exact ⟨fun y d => weight_cot _ ht s M g y d, fun y => score_grad _ ht s M v g y, sink_grad _ ht s M v g, max_grad _ ht s M v g⟩

include f0 f1 f2 in
theorem r150_zero : val_main_v150 (F := Ideal) x0 x1 x2 (ix5 (0 : Fin 1) h j b i) = 0 := by
  rw [r150]
  exact (row_facts x0 x1 x2 h j b i f0 f1 f2).2.2.2

include f0 f1 f2 in
theorem r162 : val_main_v162 (F := Ideal) x0 x1 x2 (ix6 (0 : Fin 1) h j b i y) = dscAt x0 x1 x2 h j b i y := by
  rw [val_main_v162_apply, r144, val_main_v161_apply, val_main_v160_apply]
  have e : val_main_v159 (F := Ideal) x0 x1 x2 (idx_main_v160 (ix6 (0 : Fin 1) h j b i y))
      = Ideal.div 0 (∑ k : Fin 256, val_main_v67 (F := Ideal) x0 (ix6 (0 : Fin 1) h j b i k)) := by
    refine (congrArg (val_main_v159 (F := Ideal) x0 x1 x2) (eq_ix5 _ : _ = ix5 (0 : Fin 1) h j b i)).trans ?_
    rw [val_main_v159_apply, val_main_v154_apply, r150_zero x0 x1 x2 h j b i f0 f1 f2, val_main_v68_apply]
    refine congrArg₂ Ideal.div (zero_mul _) ?_
    refine (congrArg (· + _) Ideal.ofBits_zero_f32).trans ((zero_add _).trans ?_)
    exact Finset.sum_congr rfl fun k _ => congrArg _ (eq_ix6 _)
  rw [e]
  have z := zero_shared (fun k => val_main_v67 (F := Ideal) x0 (ix6 (0 : Fin 1) h j b i k)) (fun k => by
    show (0 : EReal) ≤ (((val_main_v66 (F := Ideal) x0 (ix6 (0 : Fin 1) h j b i k)).toNat : ℝ) : EReal)
    exact_mod_cast Nat.zero_le _) y
  exact (congrArg (dscAt x0 x1 x2 h j b i y + ·) z).trans (add_zero _)

theorem dsc_unseen (hs : ¬ seen b.val i.val y.val) : dscAt x0 x1 x2 h j b i y = 0 := by
  have e : sAt x0 h j b i y = ⊥ := if_neg hs
  unfold dscAt dsc wt
  rw [e, EReal.bot_sub]
  exact mul_zero _

include f0 f1 f2 in
theorem r165 : val_main_v165 (F := Ideal) x0 x1 x2 (ix6 (0 : Fin 1) h j b i y) = dscAt x0 x1 x2 h j b i y * scale := by
  rw [val_main_v165_apply, val_main_v163_apply, r162 x0 x1 x2 h j b i y f0 f1 f2, val_main_v62_1_apply, val_main_v164_apply]
  have e : val_main_v61 (F := Ideal) (idx_main_v62_1 (ix6 (0 : Fin 1) h j b i y)) = _ := (congrArg _ (eq_ix3 _)).trans (r61 b i y)
  rw [e]
  refine congrArg (fun z : EReal => z * scale) ?_
  by_cases hs : seen b.val i.val y.val
  · rw [decide_eq_true hs]; rfl
  · rw [decide_eq_false hs, dsc_unseen x0 x1 x2 h j b i y hs]
    exact Ideal.ofBits_zero_f32

include f0 f1 f2 in
theorem r168 : val_main_v168 (F := Ideal) x0 x1 x2 (ix6 (0 : Fin 1) h j b i d)
    = ∑ y, (dscAt x0 x1 x2 h j b i y * scale) * kAt x0 h b y d 0 (by norm_num) := by
  rw [val_main_v168_apply, val_main_v167_apply]
  refine Finset.sum_congr rfl fun y _ => ?_
  refine congrArg₂ (fun p q : EReal => p * q) ((congrArg _ (eq_ix6 _)).trans ?_) ((congrArg _ (eq_ix5 _)).trans (r24 x0 h b y d))
  rw [val_main_v166_apply]
  exact (congrArg _ (eq_ix6 _)).trans (r165 x0 x1 x2 h j b i y f0 f1 f2)
include f0 f1 f2 in
theorem r169 : val_main_v169 (F := Ideal) x0 x1 x2 (ix5 (0 : Fin 1) h b y d)
    = ∑ j : Fin 8, ∑ i : Fin 128, (dscAt x0 x1 x2 h j b i y * scale) * qAt x0 h j b i d := by
  refine (dot_key (val_main_v166 (F := Ideal) x0 x1 x2) (val_main_v13 (F := Ideal) x0) h b y d).trans ?_
  refine Finset.sum_congr rfl fun j _ => Finset.sum_congr rfl fun i _ => ?_
  refine congrArg₂ (fun p q : EReal => p * q) ?_ (r13 x0 h j b i d)
  rw [val_main_v166_apply]
  exact (congrArg _ (eq_ix6 _)).trans (r165 x0 x1 x2 h j b i y f0 f1 f2)
include f0 f1 f2 in
theorem r192 : val_main_v192 (F := Ideal) x0 x1 x2 (ix3 h j (0 : Fin 1))
    = ∑ b : Fin 16, ∑ i : Fin 128, (0 - Ideal.exp (sinkAt x1 h j - lseAt x0 x1 h j b i))
        * (∑ d, Ideal.div (numAt x0 x1 h j b i d) (totAt x0 x1 h j b i) * gAt x2 h j b i d) := by
  rw [val_main_v192_apply, val_main_v187_apply]
  have e : val_main_v158 (F := Ideal) x0 x1 x2 (ix2 h j) = _ := r158 x0 x1 x2 h j
  refine Eq.trans (congrArg _ ?_) (e.trans ?_)
  · funext a; apply Fin.ext
    match a with
    | ⟨0, _⟩ => dsimp; omega
    | ⟨1, _⟩ => dsimp; omega
  · rw [r141, r156]
    refine Eq.trans (congrArg (_ + ·) (Finset.sum_eq_zero fun b _ => Finset.sum_eq_zero fun i _ => ?_)) ((add_zero _).trans ?_)
    · rw [r150_zero x0 x1 x2 h j b i f0 f1 f2]; exact zero_mul _
    · exact Finset.sum_congr rfl fun b _ => Finset.sum_congr rfl fun i _ => (row_facts x0 x1 x2 h j b i f0 f1 f2).2.2.1.symm

end Cert.Swa

end
-- ==== Proof.Swa.RefOut.lean ====
/- The reference's results of the attention's backward pass, read at an index: the windows' overlap added. -/
module

public import proofs.«01_k».proof.Proof.Swa.RefReal
public import Idealize.ShloMosaic.Lib.KernelVsHost

@[expose] public section

set_option maxRecDepth 16384

noncomputable section

namespace Cert.Swa

open Idealize.ShloMosaic Cert.ReferenceIdeal Cert.ReferenceIdeal.Gen Cert.ReferenceIdeal.Read

variable (x0 : (⟨S2048x2560, .f32⟩ : BufTy).Contents (Elt Ideal)) (x1 : (⟨S32, .f32⟩ : BufTy).Contents (Elt Ideal))
  (x2 : (⟨S2048x2048, .f32⟩ : BufTy).Contents (Elt Ideal)) (h : Fin 4) (j : Fin 8) (b : Fin 16) (i : Fin 128) (y : Fin 256) (d : Fin 64)

/-- A block's own half of its window, and the half the next block sees of it. -/
def both (w : FVec Ideal S1x4x16x256x64 .f32) : EReal := w (ix5 (0 : Fin 1) h b (⟨128 + i.val, by omega⟩ : Fin 256) d)
  + (if hb : b.val + 1 < 16 then w (ix5 (0 : Fin 1) h (⟨b.val + 1, hb⟩ : Fin 16) (⟨i.val, by omega⟩ : Fin 256) d) else 0)

theorem overlap (w : FVec Ideal S1x4x16x256x64 .f32) (c e : FVec Ideal S_ .f32) (hc : ∀ k, c k = 0) (he : ∀ k, e k = 0) :
    shapeCast S4x2048x64 (extractStridedSlice S1x4x2048x64 ![0, 0, 128, 0] (shapeCast S1x4x2176x64
      (addf (pad S1x4x17x128x64 ![0, 0, 1, 0, 0] ![0, 0, 0, 0, 0] ![0, 0, 0, 0, 0] (extractStridedSlice S1x4x16x128x64 ![0, 0, 0, 128, 0] w slices_S1x4x16x256x64_S1x4x16x128x64_0_0_0_128_0) c pads_S1x4x16x128x64_S1x4x17x128x64_000_000_100_000_000 h_S_)
        (pad S1x4x17x128x64 ![0, 0, 0, 0, 0] ![0, 0, 1, 0, 0] ![0, 0, 0, 0, 0] (extractStridedSlice S1x4x16x128x64 ![0, 0, 0, 0, 0] w slices_S1x4x16x256x64_S1x4x16x128x64_0_0_0_0_0) e pads_S1x4x16x128x64_S1x4x17x128x64_000_000_010_000_000 h_S_) : FVec Ideal S1x4x17x128x64 .f32)
      shapeCasts_S1x4x17x128x64_S1x4x2176x64) slices_S1x4x2176x64_S1x4x2048x64_0_0_128_0) shapeCasts_S1x4x2048x64_S4x2048x64 (ix3 h (at_row b i) d) = both h b i d w := by
  have p1 : (pad S1x4x17x128x64 ![0, 0, 1, 0, 0] ![0, 0, 0, 0, 0] ![0, 0, 0, 0, 0] (extractStridedSlice S1x4x16x128x64 ![0, 0, 0, 128, 0] w slices_S1x4x16x256x64_S1x4x16x128x64_0_0_0_128_0) c pads_S1x4x16x128x64_S1x4x17x128x64_000_000_100_000_000 h_S_ : FVec Ideal S1x4x17x128x64 .f32)
      (ix5 (0 : Fin 1) h (⟨b.val + 1, by omega⟩ : Fin 17) i d) = w (ix5 (0 : Fin 1) h b (⟨128 + i.val, by omega⟩ : Fin 256) d) := by
    refine (pad_apply_of_inside _ _ _ _ _ _ _ _ (ix5 (0 : Fin 1) h b i d) fun a => ?_).trans ?_
    · match a with
      | ⟨0, _⟩ => rfl
      | ⟨1, _⟩ => show h.val = 0 + h.val * (0 + 1); omega
      | ⟨2, _⟩ => show b.val + 1 = 1 + b.val * (0 + 1); omega
      | ⟨3, _⟩ => show i.val = 0 + i.val * (0 + 1); omega
      | ⟨4, _⟩ => show d.val = 0 + d.val * (0 + 1); omega
    · pointwise
  have p2 : (pad S1x4x17x128x64 ![0, 0, 0, 0, 0] ![0, 0, 1, 0, 0] ![0, 0, 0, 0, 0] (extractStridedSlice S1x4x16x128x64 ![0, 0, 0, 0, 0] w slices_S1x4x16x256x64_S1x4x16x128x64_0_0_0_0_0) e pads_S1x4x16x128x64_S1x4x17x128x64_000_000_010_000_000 h_S_ : FVec Ideal S1x4x17x128x64 .f32)
      (ix5 (0 : Fin 1) h (⟨b.val + 1, by omega⟩ : Fin 17) i d) = if hb : b.val + 1 < 16 then w (ix5 (0 : Fin 1) h (⟨b.val + 1, hb⟩ : Fin 16) (⟨i.val, by omega⟩ : Fin 256) d) else 0 := by
    by_cases hb : b.val + 1 < 16
    · rw [dif_pos hb]
      refine (pad_apply_of_inside _ _ _ _ _ _ _ _ (ix5 (0 : Fin 1) h (⟨b.val + 1, hb⟩ : Fin 16) i d) fun a => ?_).trans ?_
      · match a with
        | ⟨0, _⟩ => rfl
        | ⟨1, _⟩ => show h.val = 0 + h.val * (0 + 1); omega
        | ⟨2, _⟩ => show b.val + 1 = 0 + (b.val + 1) * (0 + 1); omega
        | ⟨3, _⟩ => show i.val = 0 + i.val * (0 + 1); omega
        | ⟨4, _⟩ => show d.val = 0 + d.val * (0 + 1); omega
      · pointwise
    · rw [dif_neg hb]
      refine (pad_apply_of_not_inside _ _ _ _ _ _ _ _ (2 : Fin 5) ?_).trans (he _)
      show ¬(0 ≤ b.val + 1 ∧ (b.val + 1 - 0) % (0 + 1) = 0 ∧ (b.val + 1 - 0) / (0 + 1) < 16)
      omega
  unfold both
  rw [← p1, ← p2]
  generalize (pad S1x4x17x128x64 ![0, 0, 1, 0, 0] ![0, 0, 0, 0, 0] ![0, 0, 0, 0, 0] (extractStridedSlice S1x4x16x128x64 ![0, 0, 0, 128, 0] w slices_S1x4x16x256x64_S1x4x16x128x64_0_0_0_128_0) c pads_S1x4x16x128x64_S1x4x17x128x64_000_000_100_000_000 h_S_ : FVec Ideal S1x4x17x128x64 .f32) = u1
  generalize (pad S1x4x17x128x64 ![0, 0, 0, 0, 0] ![0, 0, 1, 0, 0] ![0, 0, 0, 0, 0] (extractStridedSlice S1x4x16x128x64 ![0, 0, 0, 0, 0] w slices_S1x4x16x256x64_S1x4x16x128x64_0_0_0_0_0) e pads_S1x4x16x128x64_S1x4x17x128x64_000_000_010_000_000 h_S_ : FVec Ideal S1x4x17x128x64 .f32) = u2
  refine (shapeCast_apply _ _ _ (ix4 (0 : Fin 1) h (at_row b i) d) ?_).trans ?_
  · rw [Shape.rowMajor_val_four, Shape.rowMajor_val_three]
    show (((0 * 4 + h.val) * 2048 + (128 * b.val + i.val)) * 64 + d.val) = ((h.val * 2048 + (128 * b.val + i.val)) * 64 + d.val)
    omega
  · refine (extractStridedSlice_apply _ _ _ _ (ix4 (0 : Fin 1) h (⟨128 + (128 * b.val + i.val), by omega⟩ : Fin 2176) d) fun a => ?_).trans ?_
    · match a with
      | ⟨0, _⟩ => rfl
      | ⟨1, _⟩ => show h.val = 0 + h.val; omega
      | ⟨2, _⟩ => rfl
      | ⟨3, _⟩ => show d.val = 0 + d.val; omega
    · refine (shapeCast_apply _ _ _ (ix5 (0 : Fin 1) h (⟨b.val + 1, by omega⟩ : Fin 17) i d) ?_).trans rfl
      rw [Shape.rowMajor_val_four, Shape.rowMajor_val_five]
      show ((((0 * 4 + h.val) * 17 + (b.val + 1)) * 128 + i.val) * 64 + d.val) = (((0 * 4 + h.val) * 2176 + (128 + (128 * b.val + i.val))) * 64 + d.val)
      omega

theorem r190 : val_main_v190 (F := Ideal) x0 x1 x2 (ix3 h (at_row b i) d) = both h b i d (val_main_v169 (F := Ideal) x0 x1 x2) :=
  overlap h b i d (val_main_v169 (F := Ideal) x0 x1 x2) _ _ (fun _ => Ideal.ofBits_zero_f32) (fun _ => Ideal.ofBits_zero_f32)
theorem r191 : val_main_v191 (F := Ideal) x0 x1 x2 (ix3 h (at_row b i) d) = both h b i d (val_main_v135 (F := Ideal) x0 x1 x2) :=
  overlap h b i d (val_main_v135 (F := Ideal) x0 x1 x2) _ _ (fun _ => Ideal.ofBits_zero_f32) (fun _ => Ideal.ofBits_zero_f32)

theorem r186 : val_main_v186 (F := Ideal) x0 x1 x2 (ix5 (0 : Fin 1) h j (at_row b i) d) = val_main_v168 (F := Ideal) x0 x1 x2 (ix6 (0 : Fin 1) h j b i d) := by
  unfold val_main_v186
  refine shapeCast_apply _ _ _ _ ?_
  rw [Shape.rowMajor_val_five, Shape.rowMajor_val_six]
  show (((((0 * 4 + h.val) * 8 + j.val) * 16 + b.val) * 128 + i.val) * 64 + d.val) = ((((0 * 4 + h.val) * 8 + j.val) * 2048 + (128 * b.val + i.val)) * 64 + d.val)
  omega
theorem r189 : val_main_v189 (F := Ideal) x0 x1 x2 (ix3 (⟨8 * h.val + j.val, by omega⟩ : Fin 32) (at_row b i) d)
    = val_main_v168 (F := Ideal) x0 x1 x2 (ix6 (0 : Fin 1) h j b i d) := by
  refine Eq.trans ?_ (r186 x0 x1 x2 h j b i d)
  unfold val_main_v189
  refine (shapeCast_apply _ _ _ (ix4 (0 : Fin 1) (⟨8 * h.val + j.val, by omega⟩ : Fin 32) (at_row b i) d) ?_).trans ?_
  · rw [Shape.rowMajor_val_four, Shape.rowMajor_val_three]
    show (((0 * 32 + (8 * h.val + j.val)) * 2048 + (128 * b.val + i.val)) * 64 + d.val) = (((8 * h.val + j.val) * 2048 + (128 * b.val + i.val)) * 64 + d.val)
    omega
  · unfold val_main_v188
    refine shapeCast_apply _ _ _ _ ?_
    rw [Shape.rowMajor_val_four, Shape.rowMajor_val_five]
    show ((((0 * 4 + h.val) * 8 + j.val) * 2048 + (128 * b.val + i.val)) * 64 + d.val) = (((0 * 32 + (8 * h.val + j.val)) * 2048 + (128 * b.val + i.val)) * 64 + d.val)
    omega

end Cert.Swa

end
-- ==== Proof.Swa.HostEq.lean ====
/- The arrays the host lines hand the attention's backward call: the arguments re-laid, and the forward pass's output
   and log-sums, which are the reference's own. -/
module

public import proofs.«01_k».proof.Proof.Swa.Load
public import proofs.«01_k».proof.Proof.Swa.RefOut

@[expose] public section

set_option maxRecDepth 65536

noncomputable section

namespace Cert.KernelIdeal.Gen

open Idealize.ShloMosaic Idealize.ShloMosaic.TcCoe Cert.Swa
open Cert.ReferenceIdeal.Read (val_main_v61 val_main_v31 val_main_v27 val_main_v11 val_main_cst_10 val_main_v62_0 val_main_v104 val_main_v105 val_main_v108)

variable (m : (ℓ : Loc nD τ sig) → Buf (Elt Ideal) ℓ) (c : Dev nD)
  (x0 : S2048x2560.Idx → EReal) (x1 : S32.Idx → EReal)

theorem seg0 (W : Valuation τ sig (Elt Ideal)) (h0 : W (Proc.devRef .tc main_arg0) = x0) :
    (StableHlo.after hostOps0 W (Proc.devRef .tc main_v67) = val_main_v61 (F := Ideal))
    ∧ (StableHlo.after hostOps0 W (Proc.devRef .tc main_v37) = val_main_v31 (F := Ideal) x0)
    ∧ (StableHlo.after hostOps0 W (Proc.devRef .tc main_v33) = val_main_v27 (F := Ideal) x0)
    ∧ (StableHlo.after hostOps0 W (Proc.devRef .tc main_cst_8) = val_main_cst_10 (F := Ideal)) := by
  refine ⟨?_, ?_, ?_, ?_⟩
  · after_results
    rfl
  · after_results
    rw [h0]
    rfl
  · after_results
    rw [h0]
    rfl
  · after_results
    rfl

theorem seg0_sink (W : Valuation τ sig (Elt Ideal)) (h1 : W (Proc.devRef .tc main_arg1) = x1) :
    StableHlo.after hostOps0 W (Proc.devRef .tc main_v19) = val_main_v11 (F := Ideal) x1 := by
  after_results
  rw [h1]
  rfl
theorem seg1 (W : Valuation τ sig (Elt Ideal)) (h1 : W (Proc.devRef .tc main_v67) = val_main_v61 (F := Ideal)) (h2 : W (Proc.devRef .tc main_v37) = val_main_v31 (F := Ideal) x0)
    (h3 : W (Proc.devRef .tc main_cst_8) = val_main_cst_10 (F := Ideal)) :
    StableHlo.after hostOps0_1 W (Proc.devRef .tc main_v68) = val_main_v62_0 (F := Ideal) x0 := by
  after_results
  rw [h1, h2, h3]
  rfl
theorem seg1_keep (W : Valuation τ sig (Elt Ideal)) :
    StableHlo.after hostOps0_1 W (Proc.devRef .tc main_v19) = W (Proc.devRef .tc main_v19)
    ∧ StableHlo.after hostOps0_1 W (Proc.devRef .tc main_v33) = W (Proc.devRef .tc main_v33) := by
  constructor
  · after_results
  · after_results
theorem seg2_lse (W : Valuation τ sig (Elt Ideal)) (h1 : W (Proc.devRef .tc main_v68) = val_main_v62_0 (F := Ideal) x0) (h2 : W (Proc.devRef .tc main_v19) = val_main_v11 (F := Ideal) x1) :
    StableHlo.after hostOps0_2 W (Proc.devRef .tc main_v95) = shapeCast S32x2048x1
      (addf (val_main_v104 (F := Ideal) x0 x1) (Host.log (val_main_v105 (F := Ideal) x0 x1)) : FVec Ideal S1x4x8x2048 .f32) shapeCasts_S1x4x8x2048_S32x2048x1 := by
  after_results
  rw [h1, h2]
  rfl
theorem seg2_o (W : Valuation τ sig (Elt Ideal)) (h1 : W (Proc.devRef .tc main_v68) = val_main_v62_0 (F := Ideal) x0) (h2 : W (Proc.devRef .tc main_v19) = val_main_v11 (F := Ideal) x1)
    (h3 : W (Proc.devRef .tc main_v33) = val_main_v27 (F := Ideal) x0) :
    StableHlo.after hostOps0_2 W (Proc.devRef .tc main_v96) = shapeCast S32x2048x64 (shapeCast S1x32x2048x64
      (val_main_v108 (F := Ideal) x0 x1) shapeCasts_S1x4x8x2048x64_S1x32x2048x64) shapeCasts_S1x32x2048x64_S32x2048x64 := by
  after_results
  rw [h1, h2, h3]
  rfl

theorem after_three (W : Valuation τ sig (Elt Ideal)) (b : DevRef τ sig) : StableHlo.after (List.flatten [hostOps0, hostOps0_1, hostOps0_2]) W b
    = StableHlo.after hostOps0_2 (StableHlo.after hostOps0_1 (StableHlo.after hostOps0 W)) b := rfl

theorem host_v95 : (V m c main_v95 : S32x2048x1.Idx → EReal) = shapeCast S32x2048x1
    (addf (val_main_v104 (F := Ideal) (m ((c : Thread nD τ).loc main_arg0)) (m ((c : Thread nD τ).loc main_arg1)))
      (Host.log (val_main_v105 (F := Ideal) (m ((c : Thread nD τ).loc main_arg0)) (m ((c : Thread nD τ).loc main_arg1)))) : FVec Ideal S1x4x8x2048 .f32) shapeCasts_S1x4x8x2048_S32x2048x1 := by
  refine (after_three _ _).trans ?_
  obtain ⟨e1, e2, e3, e4⟩ := seg0 (m ((c : Thread nD τ).loc main_arg0)) (fun b => m (c, b)) rfl
  have e5 := seg0_sink (m ((c : Thread nD τ).loc main_arg1)) (fun b => m (c, b)) rfl
  exact seg2_lse _ _ _ (seg1 _ _ e1 e2 e4) ((seg1_keep _).1.trans e5)
theorem host_v96 : (V m c main_v96 : S32x2048x64.Idx → EReal) = shapeCast S32x2048x64 (shapeCast S1x32x2048x64
    (val_main_v108 (F := Ideal) (m ((c : Thread nD τ).loc main_arg0)) (m ((c : Thread nD τ).loc main_arg1))) shapeCasts_S1x4x8x2048x64_S1x32x2048x64) shapeCasts_S1x32x2048x64_S32x2048x64 := by
  refine (after_three _ _).trans ?_
  obtain ⟨e1, e2, e3, e4⟩ := seg0 (m ((c : Thread nD τ).loc main_arg0)) (fun b => m (c, b)) rfl
  have e5 := seg0_sink (m ((c : Thread nD τ).loc main_arg1)) (fun b => m (c, b)) rfl
  exact seg2_o _ _ _ (seg1 _ _ e1 e2 e4) ((seg1_keep _).1.trans e5) ((seg1_keep _).2.trans e3)

theorem host_v3 : (V m c main_v3 : S40x2048x64.Idx → EReal) = shapeCast S40x2048x64 (transpose S40x1x2048x64 [2, 1, 0, 3]
    (shapeCast S2048x1x40x64 (m ((c : Thread nD τ).loc main_arg0) : S2048x2560.Idx → EReal) shapeCasts_S2048x2560_S2048x1x40x64) transposes_S2048x1x40x64_S40x1x2048x64_2_1_0_3) shapeCasts_S40x1x2048x64_S40x2048x64 := by
  show StableHlo.after _ _ _ = _
  after_results
  rfl

theorem host_v7 : (V m c main_v7 : S4x1024x1.Idx → EReal) = shapeCast S4x1024x1 (shapeCast S4x1024 (broadcastInDim S4x8x128 ![0, 1] bcast_S4x8_S4x8x128_0_1
    (shapeCast S4x8 (m ((c : Thread nD τ).loc main_arg1) : S32.Idx → EReal) shapeCasts_S32_S4x8)) shapeCasts_S4x8x128_S4x1024) shapeCasts_S4x1024_S4x1024x1 := by
  show StableHlo.after _ _ _ = _
  after_results
  rfl

theorem host_v99 : (V m c main_v99 : S32x2048x64.Idx → EReal) = shapeCast S32x2048x64 (transpose S32x1x2048x64 [2, 1, 0, 3]
    (shapeCast S2048x1x32x64 (m ((c : Thread nD τ).loc main_arg2) : S2048x2048.Idx → EReal) shapeCasts_S2048x2048_S2048x1x32x64) transposes_S2048x1x32x64_S32x1x2048x64_2_1_0_3) shapeCasts_S32x1x2048x64_S32x2048x64 := by
  show StableHlo.after _ _ _ = _
  after_results
  rfl

end Cert.KernelIdeal.Gen

end
-- ==== Proof.Swa.Host.lean ====
/- Entries of the arrays the attention's backward call is given. -/
module

public import proofs.«01_k».proof.Proof.Swa.HostEq

@[expose] public section

set_option maxRecDepth 16384

noncomputable section

namespace Cert.KernelIdeal.Gen

open Idealize.ShloMosaic Idealize.ShloMosaic.TcCoe Cert.Swa

section layout
variable (h : Fin 4) (j : Fin 8) (b : Fin 16) (i : Fin 128) (d : Fin 64)

theorem lay_qkv (x : S2048x2560.Idx → EReal) (g : Fin 40) (n : Fin 2048) : shapeCast S40x2048x64 (transpose S40x1x2048x64 [2, 1, 0, 3]
    (shapeCast S2048x1x40x64 x shapeCasts_S2048x2560_S2048x1x40x64) transposes_S2048x1x40x64_S40x1x2048x64_2_1_0_3) shapeCasts_S40x1x2048x64_S40x2048x64
    (ix3 g n d) = x (ix2 n (⟨64 * g.val + d.val, by omega⟩ : Fin 2560)) := by
  refine (shapeCast_apply _ _ _ (ix4 g (0 : Fin 1) n d) ?_).trans ?_
  · rw [Shape.rowMajor_val_four, Shape.rowMajor_val_three]
    show (((g.val * 1 + 0) * 2048 + n.val) * 64 + d.val) = ((g.val * 2048 + n.val) * 64 + d.val)
    omega
  · refine (transpose_apply [2, 1, 0, 3] _ _ _ (ix4 n (0 : Fin 1) g d) fun a => ?_).trans ?_
    · match a with
      | ⟨0, _⟩ => rfl
      | ⟨1, _⟩ => rfl
      | ⟨2, _⟩ => rfl
      | ⟨3, _⟩ => rfl
    · refine shapeCast_apply _ _ _ _ ?_
      rw [Shape.rowMajor_val_four, Shape.rowMajor_val_two]
      show (n.val * 2560 + (64 * g.val + d.val)) = (((n.val * 1 + 0) * 40 + g.val) * 64 + d.val)
      omega
theorem lay_dy (x : S2048x2048.Idx → EReal) (g : Fin 32) (n : Fin 2048) : shapeCast S32x2048x64 (transpose S32x1x2048x64 [2, 1, 0, 3]
    (shapeCast S2048x1x32x64 x shapeCasts_S2048x2048_S2048x1x32x64) transposes_S2048x1x32x64_S32x1x2048x64_2_1_0_3) shapeCasts_S32x1x2048x64_S32x2048x64
    (ix3 g n d) = x (ix2 n (⟨64 * g.val + d.val, by omega⟩ : Fin 2048)) := by
  refine (shapeCast_apply _ _ _ (ix4 g (0 : Fin 1) n d) ?_).trans ?_
  · rw [Shape.rowMajor_val_four, Shape.rowMajor_val_three]
    show (((g.val * 1 + 0) * 2048 + n.val) * 64 + d.val) = ((g.val * 2048 + n.val) * 64 + d.val)
    omega
  · refine (transpose_apply [2, 1, 0, 3] _ _ _ (ix4 n (0 : Fin 1) g d) fun a => ?_).trans ?_
    · match a with
      | ⟨0, _⟩ => rfl
      | ⟨1, _⟩ => rfl
      | ⟨2, _⟩ => rfl
      | ⟨3, _⟩ => rfl
    · refine shapeCast_apply _ _ _ _ ?_
      rw [Shape.rowMajor_val_four, Shape.rowMajor_val_two]
      show (n.val * 2048 + (64 * g.val + d.val)) = (((n.val * 1 + 0) * 32 + g.val) * 64 + d.val)
      omega
theorem lay_sink (x : S32.Idx → EReal) : shapeCast S4x1024x1 (shapeCast S4x1024 (broadcastInDim S4x8x128 ![0, 1] bcast_S4x8_S4x8x128_0_1
    (shapeCast S4x8 x shapeCasts_S32_S4x8)) shapeCasts_S4x8x128_S4x1024) shapeCasts_S4x1024_S4x1024x1
    (ix3 h (⟨128 * j.val + i.val, by omega⟩ : Fin 1024) (0 : Fin 1)) = x (ix1 (⟨8 * h.val + j.val, by omega⟩ : Fin 32)) := by
  refine (shapeCast_apply _ _ _ (ix2 h (⟨128 * j.val + i.val, by omega⟩ : Fin 1024)) ?_).trans ?_
  · rw [Shape.rowMajor_val_two, Shape.rowMajor_val_three]
    show (h.val * 1024 + (128 * j.val + i.val)) = ((h.val * 1024 + (128 * j.val + i.val)) * 1 + 0)
    omega
  · refine (shapeCast_apply _ _ _ (ix3 h j i) ?_).trans ?_
    · rw [Shape.rowMajor_val_two, Shape.rowMajor_val_three]
      show ((h.val * 8 + j.val) * 128 + i.val) = (h.val * 1024 + (128 * j.val + i.val))
      omega
    · refine (broadcastInDim_apply _ _ _ _ (ix2 h j) fun a => ?_).trans ?_
      · match a with
        | ⟨0, _⟩ => rfl
        | ⟨1, _⟩ => rfl
      · refine shapeCast_apply _ _ _ _ ?_
        rw [Shape.rowMajor_val_two, Shape.rowMajor_val_one]
        show (8 * h.val + j.val) = (h.val * 8 + j.val)
        omega
theorem lay_lse (u v : FVec Ideal S1x4x8x2048 .f32) (n : Fin 2048) : shapeCast S32x2048x1 (addf u (Host.log v) : FVec Ideal S1x4x8x2048 .f32) shapeCasts_S1x4x8x2048_S32x2048x1
    (ix3 (⟨8 * h.val + j.val, by omega⟩ : Fin 32) n (0 : Fin 1)) = (u (ix4 (0 : Fin 1) h j n) : EReal) + Ideal.log (v (ix4 (0 : Fin 1) h j n)) := by
  refine (shapeCast_apply _ _ _ (ix4 (0 : Fin 1) h j n) ?_).trans rfl
  rw [Shape.rowMajor_val_four, Shape.rowMajor_val_three]
  show (((0 * 4 + h.val) * 8 + j.val) * 2048 + n.val) = (((8 * h.val + j.val) * 2048 + n.val) * 1 + 0)
  omega
theorem lay_o (u : S1x4x8x2048x64.Idx → EReal) (n : Fin 2048) : shapeCast S32x2048x64 (shapeCast S1x32x2048x64
    u shapeCasts_S1x4x8x2048x64_S1x32x2048x64) shapeCasts_S1x32x2048x64_S32x2048x64
    (ix3 (⟨8 * h.val + j.val, by omega⟩ : Fin 32) n d) = u (ix5 (0 : Fin 1) h j n d) := by
  refine (shapeCast_apply _ _ _ (ix4 (0 : Fin 1) (⟨8 * h.val + j.val, by omega⟩ : Fin 32) n d) ?_).trans ?_
  · rw [Shape.rowMajor_val_four, Shape.rowMajor_val_three]
    show (((0 * 32 + (8 * h.val + j.val)) * 2048 + n.val) * 64 + d.val) = (((8 * h.val + j.val) * 2048 + n.val) * 64 + d.val)
    omega
  · refine shapeCast_apply _ _ _ (ix5 (0 : Fin 1) h j n d) ?_
    rw [Shape.rowMajor_val_four, Shape.rowMajor_val_five]
    show ((((0 * 4 + h.val) * 8 + j.val) * 2048 + n.val) * 64 + d.val) = (((0 * 32 + (8 * h.val + j.val)) * 2048 + n.val) * 64 + d.val)
    omega
end layout

/-! ## The arrays, from the arguments -/

variable (m : (ℓ : Loc nD τ sig) → Buf (Elt Ideal) ℓ) (c : Dev nD)

abbrev a0 : S2048x2560.Idx → EReal := m ((c : Thread nD τ).loc main_arg0)
abbrev a1 : S32.Idx → EReal := m ((c : Thread nD τ).loc main_arg1)
abbrev a2 : S2048x2048.Idx → EReal := m ((c : Thread nD τ).loc main_arg2)

theorem qkvA_at (g : Fin 40) (n : Fin 2048) (d : Fin 64) : qkvA m c (ix3 g n d) = a0 m c (ix2 n (⟨64 * g.val + d.val, by omega⟩ : Fin 2560)) :=
  (congrFun (host_v3 m c) _).trans (lay_qkv d (a0 m c) g n)
theorem dyA_at (g : Fin 32) (n : Fin 2048) (d : Fin 64) : dyA m c (ix3 g n d) = a2 m c (ix2 n (⟨64 * g.val + d.val, by omega⟩ : Fin 2048)) :=
  (congrFun (host_v99 m c) _).trans (lay_dy d (a2 m c) g n)

variable (h : Fin 4) (j : Fin 8) (b : Fin 16) (i : Fin 128) (d : Fin 64)
theorem sinkA_at : sinkA m c (ix3 h (⟨128 * j.val + i.val, by omega⟩ : Fin 1024) (0 : Fin 1)) = sinkAt (a1 m c) h j :=
  (congrFun (host_v7 m c) _).trans (lay_sink h j i (a1 m c))
theorem lseA_at : lseA m c (ix3 (⟨8 * h.val + j.val, by omega⟩ : Fin 32) (at_row b i) (0 : Fin 1)) = lseAt (a0 m c) (a1 m c) h j b i :=
  (congrFun (host_v95 m c) _).trans ((lay_lse h j _ _ (at_row b i)).trans
    (congrArg₂ (fun p q : EReal => p + Ideal.log q) (r104 (a0 m c) (a1 m c) h j b i) (r105 (a0 m c) (a1 m c) h j b i)))
theorem oA_at : oA m c (ix3 (⟨8 * h.val + j.val, by omega⟩ : Fin 32) (at_row b i) d)
    = Ideal.div (numAt (a0 m c) (a1 m c) h j b i d) (totAt (a0 m c) (a1 m c) h j b i) :=
  (congrFun (host_v96 m c) _).trans ((lay_o h j d _ (at_row b i)).trans (r108 (a0 m c) (a1 m c) h j b i d))

end Cert.KernelIdeal.Gen

end
-- ==== Proof.Swa.Step.lean ====
/- What a step of the attention's backward body computes: its two query blocks. -/
module

public import proofs.«01_k».proof.Proof.Swa.Load

@[expose] public section

set_option maxRecDepth 16384

noncomputable section

namespace Cert.KernelIdeal.Gen

open Idealize.ShloMosaic Idealize.ShloMosaic.TcCoe Cert.Swa

variable (m : (ℓ : Loc nD τ sig) → Buf (Elt Ideal) ℓ) (c : Dev nD)

/-! ## A block's values, from the arrays -/

section block
variable (h : Fin 4) (b : ℕ)
abbrev qB : Mm.Mat 1024 64 := rows (n := 40) (by norm_num) (qkvA m c) h b
abbrev dyB : Mm.Mat 1024 64 := rows (n := 32) (by norm_num) (dyA m c) h b
abbrev oB : Mm.Mat 1024 64 := rows (n := 32) (by norm_num) (oA m c) h b
abbrev lseB : Mm.Mat 1024 1 := rows (n := 32) (by norm_num) (lseA m c) h b
abbrev kB : Mm.Mat 256 64 := keys 32 (by norm_num) (qkvA m c) h b
abbrev vB : Mm.Mat 256 64 := keys 36 (by norm_num) (qkvA m c) h b
/-- The gradients a block gives: of its queries, of the keys and values it sees, of its rows' sinks. -/
def pB : Mm.Mat 1024 256 := prob b (qB m c h b) (kB m c h b) (lseB m c h b)
def dsB : Mm.Mat 1024 256 := dscore b (qB m c h b) (kB m c h b) (vB m c h b) (lseB m c h b) (rowdot (oB m c h b) (dyB m c h b)) (dyB m c h b)
def dqB : Mm.Mat 1024 64 := Mm.nn (dsB m c h b) (kB m c h b)
def dkB : Mm.Mat 256 64 := Mm.tn (dsB m c h b) (qB m c h b)
def dvB : Mm.Mat 256 64 := Mm.tn (pB m c h b) (dyB m c h b)
def dskB : Mm.Mat 1024 1 := dsinkRow (sinkRows (sinkA m c) h) (lseB m c h b) (rowdot (oB m c h b) (dyB m c h b))
end block

/-! ## The stages at a point -/

theorem flag0 : ∀ t : Fin cfg0.N, runA.sl.v56 (grid0.coords t) = bit (2 * (t.val % 8)) :=
  (by decide +kernel : ∀ t : Fin grid0.N, _)
theorem flag1 : ∀ t : Fin cfg0.N, runA.sl.v203 (grid0.coords t) = bit (2 * (t.val % 8) + 1) :=
  (by decide +kernel : ∀ t : Fin grid0.N, _)

variable (t : Fin cfg0.N)

theorem r1 : (runA.sl.r_1 c (ms_0 t) (hs_0 t) (iblk m c 0 t)) = qB m c (hd t) (2 * (t.val % 8)) := load_q0 m c t _
theorem r2 : (runA.sl.r_2 c (ms_4 t) (hs_4 t) (iblk m c 4 t)) = lseB m c (hd t) (2 * (t.val % 8)) := load_lse0 m c t _
theorem r4 : (runA.sl.r_4 c (ms_3 t) (hs_3 t) (iblk m c 3 t)) = dyB m c (hd t) (2 * (t.val % 8)) := load_dy0 m c t _
theorem r3 : (runA.sl.r_3 c (ms_3 t) (hs_3 t) (ms_5 t) (hs_5 t) (iblk m c 3 t) (iblk m c 5 t)) = rowdot (oB m c (hd t) (2 * (t.val % 8))) (dyB m c (hd t) (2 * (t.val % 8))) :=
  (pay17_eq _ _).trans (congrArg₂ rowdot (load_o0 m c t _) (load_dy0 m c t _))
theorem r6 : (runA.sl.r_6 c (grid0.coords t) (ms_1 t) (hs_1 t) (iblk m c 1 t)) = kB m c (hd t) (2 * (t.val % 8)) := load_kk m c t (2 * (t.val % 8)) (by omega) _ _ ((off1_0 t).trans (by congr 2; omega)) ((off2_0 t).trans (by congr 2; omega)) _ _
theorem r7 : (runA.sl.r_7 c (grid0.coords t) (ms_2 t) (hs_2 t) (iblk m c 2 t)) = vB m c (hd t) (2 * (t.val % 8)) := load_vv m c t (2 * (t.val % 8)) (by omega) _ _ ((off1_0 t).trans (by congr 2; omega)) ((off2_0 t).trans (by congr 2; omega)) _ _
theorem r13 : (runA.sl.r_13 c (ms_0 t) (hs_0 t) (iblk m c 0 t)) = qB m c (hd t) (2 * (t.val % 8) + 1) := load_q1 m c t _
theorem r14 : (runA.sl.r_14 c (ms_4 t) (hs_4 t) (iblk m c 4 t)) = lseB m c (hd t) (2 * (t.val % 8) + 1) := load_lse1 m c t _
theorem r16 : (runA.sl.r_16 c (ms_3 t) (hs_3 t) (iblk m c 3 t)) = dyB m c (hd t) (2 * (t.val % 8) + 1) := load_dy1 m c t _
theorem r15 : (runA.sl.r_15 c (ms_3 t) (hs_3 t) (ms_5 t) (hs_5 t) (iblk m c 3 t) (iblk m c 5 t)) = rowdot (oB m c (hd t) (2 * (t.val % 8) + 1)) (dyB m c (hd t) (2 * (t.val % 8) + 1)) :=
  (pay17_eq _ _).trans (congrArg₂ rowdot (load_o1 m c t _) (load_dy1 m c t _))
theorem r17 : (runA.sl.r_17 c (grid0.coords t) (ms_1 t) (hs_1 t) (iblk m c 1 t)) = kB m c (hd t) (2 * (t.val % 8) + 1) := load_kk m c t (2 * (t.val % 8) + 1) (by omega) _ _ ((off1_1 t).trans (by congr 2; omega)) ((off2_1 t).trans (by congr 2; omega)) _ _
theorem r19 : (runA.sl.r_19 c (grid0.coords t) (ms_2 t) (hs_2 t) (iblk m c 2 t)) = vB m c (hd t) (2 * (t.val % 8) + 1) := load_vv m c t (2 * (t.val % 8) + 1) (by omega) _ _ ((off1_1 t).trans (by congr 2; omega)) ((off2_1 t).trans (by congr 2; omega)) _ _
theorem rs : (runA.sl.r c (ms_6 t) (hs_6 t) (iblk m c 6 t)) = sinkRows (sinkA m c) (hd t) := load_sink m c t _

/-! ## What the stages give -/

theorem p28 : k0_pay28 (runA.sl.r_1 c (ms_0 t) (hs_0 t) (iblk m c 0 t)) (runA.sl.r_2 c (ms_4 t) (hs_4 t) (iblk m c 4 t)) (runA.sl.r_3 c (ms_3 t) (hs_3 t) (ms_5 t) (hs_5 t) (iblk m c 3 t) (iblk m c 5 t)) (runA.sl.r_4 c (ms_3 t) (hs_3 t) (iblk m c 3 t)) (runA.sl.r_7 c (grid0.coords t) (ms_2 t) (hs_2 t) (iblk m c 2 t)) (runA.sl.r_8 c (grid0.coords t) (ms_0 t) (hs_0 t) (ms_1 t) (hs_1 t) (iblk m c 0 t) (iblk m c 1 t)) (runA.sl.v56 (grid0.coords t)) 128#32 k0_pay22 k0_pay23 k0_pay24 = dkB m c (hd t) (2 * (t.val % 8)) := by
  rw [flag0]
  refine (pay28_eq (2 * (t.val % 8)) _ _ _ _ _ _ _).trans ?_
  unfold dkB dsB
  rw [← r1, ← r2, ← r3, ← r4, ← r6, ← r7]
  rfl
theorem p29 : k0_pay29 (runA.sl.r_2 c (ms_4 t) (hs_4 t) (iblk m c 4 t)) (runA.sl.r_4 c (ms_3 t) (hs_3 t) (iblk m c 3 t)) (runA.sl.r_8 c (grid0.coords t) (ms_0 t) (hs_0 t) (ms_1 t) (hs_1 t) (iblk m c 0 t) (iblk m c 1 t)) (runA.sl.v56 (grid0.coords t)) 128#32 k0_pay22 k0_pay23 k0_pay24 = dvB m c (hd t) (2 * (t.val % 8)) := by
  rw [flag0]
  refine (pay29_eq (2 * (t.val % 8)) _ (runA.sl.r_1 c (ms_0 t) (hs_0 t) (iblk m c 0 t)) _ _ _).trans ?_
  unfold dvB pB
  rw [← r1, ← r2, ← r4, ← r6]
  rfl
theorem p27 (y : S8x128x64.Idx) : k0_pay27 (runA.sl.r_2 c (ms_4 t) (hs_4 t) (iblk m c 4 t)) (runA.sl.r_3 c (ms_3 t) (hs_3 t) (ms_5 t) (hs_5 t) (iblk m c 3 t) (iblk m c 5 t)) (runA.sl.r_4 c (ms_3 t) (hs_3 t) (iblk m c 3 t)) (runA.sl.r_6 c (grid0.coords t) (ms_1 t) (hs_1 t) (iblk m c 1 t)) (runA.sl.r_7 c (grid0.coords t) (ms_2 t) (hs_2 t) (iblk m c 2 t)) (runA.sl.r_8 c (grid0.coords t) (ms_0 t) (hs_0 t) (ms_1 t) (hs_1 t) (iblk m c 0 t) (iblk m c 1 t)) (runA.sl.v56 (grid0.coords t)) 128#32 k0_pay22 k0_pay23 k0_pay24 y
    = dqB m c (hd t) (2 * (t.val % 8)) (ix2 ⟨(y 0).val * 128 + (y 1).val, by have : (y 0).val < 8 := (y 0).isLt; have : (y 1).val < 128 := (y 1).isLt; omega⟩ (y 2)) := by
  rw [flag0]
  refine (pay27_apply (2 * (t.val % 8)) _ _ (runA.sl.r_1 c (ms_0 t) (hs_0 t) (iblk m c 0 t)) _ _ _ _ y).trans ?_
  unfold dqB dsB
  rw [← r1, ← r2, ← r3, ← r4, ← r6, ← r7]
  rfl
theorem p28' : k0_pay28 (runA.sl.r_13 c (ms_0 t) (hs_0 t) (iblk m c 0 t)) (runA.sl.r_14 c (ms_4 t) (hs_4 t) (iblk m c 4 t)) (runA.sl.r_15 c (ms_3 t) (hs_3 t) (ms_5 t) (hs_5 t) (iblk m c 3 t) (iblk m c 5 t)) (runA.sl.r_16 c (ms_3 t) (hs_3 t) (iblk m c 3 t)) (runA.sl.r_19 c (grid0.coords t) (ms_2 t) (hs_2 t) (iblk m c 2 t)) (runA.sl.r_20 c (grid0.coords t) (ms_0 t) (hs_0 t) (ms_1 t) (hs_1 t) (iblk m c 0 t) (iblk m c 1 t)) (runA.sl.v203 (grid0.coords t)) 128#32 k0_pay22 k0_pay23 k0_pay24 = dkB m c (hd t) (2 * (t.val % 8) + 1) := by
  rw [flag1]
  refine (pay28_eq (2 * (t.val % 8) + 1) _ _ _ _ _ _ _).trans ?_
  unfold dkB dsB
  rw [← r13, ← r14, ← r15, ← r16, ← r17, ← r19]
  rfl
theorem p51 : k0_pay51 (runA.sl.r_14 c (ms_4 t) (hs_4 t) (iblk m c 4 t)) (runA.sl.r_16 c (ms_3 t) (hs_3 t) (iblk m c 3 t)) (runA.sl.r_20 c (grid0.coords t) (ms_0 t) (hs_0 t) (ms_1 t) (hs_1 t) (iblk m c 0 t) (iblk m c 1 t)) (runA.sl.v203 (grid0.coords t)) runA.sl.v221 k0_pay45 k0_pay46 = dvB m c (hd t) (2 * (t.val % 8) + 1) := by
  refine (pay51_eq _ _ _ _).trans ?_
  rw [flag1]
  refine (pay29_eq (2 * (t.val % 8) + 1) _ (runA.sl.r_13 c (ms_0 t) (hs_0 t) (iblk m c 0 t)) _ _ _).trans ?_
  unfold dvB pB
  rw [← r13, ← r14, ← r16, ← r17]
  rfl
theorem p49 (y : S8x128x64.Idx) : k0_pay49 (runA.sl.r_14 c (ms_4 t) (hs_4 t) (iblk m c 4 t)) (runA.sl.r_15 c (ms_3 t) (hs_3 t) (ms_5 t) (hs_5 t) (iblk m c 3 t) (iblk m c 5 t)) (runA.sl.r_16 c (ms_3 t) (hs_3 t) (iblk m c 3 t)) (runA.sl.r_17 c (grid0.coords t) (ms_1 t) (hs_1 t) (iblk m c 1 t)) (runA.sl.r_19 c (grid0.coords t) (ms_2 t) (hs_2 t) (iblk m c 2 t)) (runA.sl.r_20 c (grid0.coords t) (ms_0 t) (hs_0 t) (ms_1 t) (hs_1 t) (iblk m c 0 t) (iblk m c 1 t)) (runA.sl.v203 (grid0.coords t)) runA.sl.v221 k0_pay45 k0_pay46 y
    = dqB m c (hd t) (2 * (t.val % 8) + 1) (ix2 ⟨(y 0).val * 128 + (y 1).val, by have : (y 0).val < 8 := (y 0).isLt; have : (y 1).val < 128 := (y 1).isLt; omega⟩ (y 2)) := by
  refine (congrFun (pay49_eq _ _ _ _ _ _ _) y).trans ?_
  rw [flag1]
  refine (pay27_apply (2 * (t.val % 8) + 1) _ _ (runA.sl.r_13 c (ms_0 t) (hs_0 t) (iblk m c 0 t)) _ _ _ _ y).trans ?_
  unfold dqB dsB
  rw [← r13, ← r14, ← r15, ← r16, ← r17, ← r19]
  rfl

theorem a31 (v : Vec Ideal S1x128x64 .f32) (x : S1x128x64.Idx) : k0_pay31 (k0_pay30 (runA.sl.r_1 c (ms_0 t) (hs_0 t) (iblk m c 0 t)) (runA.sl.r_2 c (ms_4 t) (hs_4 t) (iblk m c 4 t)) (runA.sl.r_3 c (ms_3 t) (hs_3 t) (ms_5 t) (hs_5 t) (iblk m c 3 t) (iblk m c 5 t)) (runA.sl.r_4 c (ms_3 t) (hs_3 t) (iblk m c 3 t)) (runA.sl.r_7 c (grid0.coords t) (ms_2 t) (hs_2 t) (iblk m c 2 t)) (runA.sl.r_8 c (grid0.coords t) (ms_0 t) (hs_0 t) (ms_1 t) (hs_1 t) (iblk m c 0 t) (iblk m c 1 t)) (runA.sl.v56 (grid0.coords t)) 128#32 k0_pay22 k0_pay23 k0_pay24 v) x = (v x : EReal) + lower (dkB m c (hd t) (2 * (t.val % 8))) x :=
  (pay30_apply _ _ _ _ _ _ _ _ _ _ _ v x).trans (congrArg (fun D => (v x : EReal) + lower D x) (p28 m c t))
theorem a32 (v : Vec Ideal S1x128x64 .f32) (x : S1x128x64.Idx) : k0_pay32 (runA.sl.r_9 c (grid0.coords t) (ms_0 t) (hs_0 t) (ms_1 t) (hs_1 t) (ms_2 t) (hs_2 t) (ms_3 t) (hs_3 t) (ms_4 t) (hs_4 t) (ms_5 t) (hs_5 t) (iblk m c 0 t) (iblk m c 1 t) (iblk m c 2 t) (iblk m c 3 t) (iblk m c 4 t) (iblk m c 5 t)) v x = (v x : EReal) + upper (dkB m c (hd t) (2 * (t.val % 8))) x :=
  (pay32_apply _ v x).trans (congrArg (fun D => (v x : EReal) + upper D x) (p28 m c t))
theorem a33 (v : Vec Ideal S1x128x64 .f32) (x : S1x128x64.Idx) : k0_pay33 (runA.sl.r_10 c (grid0.coords t) (ms_0 t) (hs_0 t) (ms_1 t) (hs_1 t) (ms_3 t) (hs_3 t) (ms_4 t) (hs_4 t) (iblk m c 0 t) (iblk m c 1 t) (iblk m c 3 t) (iblk m c 4 t)) v x = (v x : EReal) + lower (dvB m c (hd t) (2 * (t.val % 8))) x :=
  (pay33_apply _ v x).trans (congrArg (fun D => (v x : EReal) + lower D x) (p29 m c t))
theorem a34 (v : Vec Ideal S1x128x64 .f32) (x : S1x128x64.Idx) : k0_pay34 (runA.sl.r_10 c (grid0.coords t) (ms_0 t) (hs_0 t) (ms_1 t) (hs_1 t) (ms_3 t) (hs_3 t) (ms_4 t) (hs_4 t) (iblk m c 0 t) (iblk m c 1 t) (iblk m c 3 t) (iblk m c 4 t)) v x = (v x : EReal) + upper (dvB m c (hd t) (2 * (t.val % 8))) x :=
  (pay34_apply _ v x).trans (congrArg (fun D => (v x : EReal) + upper D x) (p29 m c t))
theorem a52 (v : Vec Ideal S1x128x64 .f32) (x : S1x128x64.Idx) : k0_pay52 (runA.sl.r_13 c (ms_0 t) (hs_0 t) (iblk m c 0 t)) (runA.sl.r_14 c (ms_4 t) (hs_4 t) (iblk m c 4 t)) (runA.sl.r_15 c (ms_3 t) (hs_3 t) (ms_5 t) (hs_5 t) (iblk m c 3 t) (iblk m c 5 t)) (runA.sl.r_16 c (ms_3 t) (hs_3 t) (iblk m c 3 t)) (runA.sl.r_19 c (grid0.coords t) (ms_2 t) (hs_2 t) (iblk m c 2 t)) (runA.sl.r_20 c (grid0.coords t) (ms_0 t) (hs_0 t) (ms_1 t) (hs_1 t) (iblk m c 0 t) (iblk m c 1 t)) (runA.sl.v203 (grid0.coords t)) runA.sl.v221 k0_pay45 k0_pay46 v x = (v x : EReal) + lower (dkB m c (hd t) (2 * (t.val % 8) + 1)) x :=
  (congrFun (pay52_eq _ _ _ _ _ _ _ v) x).trans ((pay30_apply _ _ _ _ _ _ _ _ _ _ _ v x).trans (congrArg (fun D => (v x : EReal) + lower D x) (p28' m c t)))
theorem a54 (v : Vec Ideal S1x128x64 .f32) (x : S1x128x64.Idx) : k0_pay54 (k0_pay53 (runA.sl.r_13 c (ms_0 t) (hs_0 t) (iblk m c 0 t)) (runA.sl.r_14 c (ms_4 t) (hs_4 t) (iblk m c 4 t)) (runA.sl.r_15 c (ms_3 t) (hs_3 t) (ms_5 t) (hs_5 t) (iblk m c 3 t) (iblk m c 5 t)) (runA.sl.r_16 c (ms_3 t) (hs_3 t) (iblk m c 3 t)) (runA.sl.r_19 c (grid0.coords t) (ms_2 t) (hs_2 t) (iblk m c 2 t)) (runA.sl.r_20 c (grid0.coords t) (ms_0 t) (hs_0 t) (ms_1 t) (hs_1 t) (iblk m c 0 t) (iblk m c 1 t)) (runA.sl.v203 (grid0.coords t)) runA.sl.v221 k0_pay45 k0_pay46 v) x = (v x : EReal) + upper (dkB m c (hd t) (2 * (t.val % 8) + 1)) x :=
  (congrFun (pay53_eq _ _ _ _ _ _ _ v) x).trans ((pay32_apply _ v x).trans (congrArg (fun D => (v x : EReal) + upper D x) (p28' m c t)))
theorem a55 (v : Vec Ideal S1x128x64 .f32) (x : S1x128x64.Idx) : k0_pay55 (runA.sl.r_21 c (grid0.coords t) (ms_0 t) (hs_0 t) (ms_1 t) (hs_1 t) (ms_3 t) (hs_3 t) (ms_4 t) (hs_4 t) (iblk m c 0 t) (iblk m c 1 t) (iblk m c 3 t) (iblk m c 4 t)) v x = (v x : EReal) + lower (dvB m c (hd t) (2 * (t.val % 8) + 1)) x :=
  (pay33_apply _ v x).trans (congrArg (fun D => (v x : EReal) + lower D x) (p51 m c t))
theorem a56 (v : Vec Ideal S1x128x64 .f32) (x : S1x128x64.Idx) : k0_pay56 (runA.sl.r_21 c (grid0.coords t) (ms_0 t) (hs_0 t) (ms_1 t) (hs_1 t) (ms_3 t) (hs_3 t) (ms_4 t) (hs_4 t) (iblk m c 0 t) (iblk m c 1 t) (iblk m c 3 t) (iblk m c 4 t)) v x = (v x : EReal) + upper (dvB m c (hd t) (2 * (t.val % 8) + 1)) x :=
  (pay34_apply _ v x).trans (congrArg (fun D => (v x : EReal) + upper D x) (p51 m c t))
theorem a36 (v : Vec Ideal S1024x1 .f32) (x : S1024x1.Idx) : k0_pay36 (k0_pay35 (runA.sl.r c (ms_6 t) (hs_6 t) (iblk m c 6 t)) (runA.sl.r_2 c (ms_4 t) (hs_4 t) (iblk m c 4 t)) (runA.sl.r_3 c (ms_3 t) (hs_3 t) (ms_5 t) (hs_5 t) (iblk m c 3 t) (iblk m c 5 t)) v) x = (v x : EReal) + dskB m c (hd t) (2 * (t.val % 8)) x := by
  refine (pay35_apply _ _ _ v x).trans ?_
  unfold dskB
  rw [rs, r2, r3]
theorem a57 (v : Vec Ideal S1024x1 .f32) (x : S1024x1.Idx) : k0_pay57 (runA.sl.r c (ms_6 t) (hs_6 t) (iblk m c 6 t)) (runA.sl.r_14 c (ms_4 t) (hs_4 t) (iblk m c 4 t)) (runA.sl.r_15 c (ms_3 t) (hs_3 t) (ms_5 t) (hs_5 t) (iblk m c 3 t) (iblk m c 5 t)) v x = (v x : EReal) + dskB m c (hd t) (2 * (t.val % 8) + 1) x := by
  refine (pay57_apply _ _ _ v x).trans ?_
  unfold dskB
  rw [rs, r14, r15]

end Cert.KernelIdeal.Gen

end
-- ==== Proof.Swa.Accum.lean ====
/- The accumulators of the attention's backward body over the steps of a key head. -/
module

public import proofs.«01_k».proof.Proof.Swa.Step
public import Idealize.ShloMosaic.Lib.WritesUnit

@[expose] public section

set_option maxRecDepth 16384

noncomputable section

namespace Cert.KernelIdeal.Gen

open Idealize.ShloMosaic Idealize.ShloMosaic.TcCoe Cert.Swa

/-- Row `y` of a block's 256 key rows. -/
abbrev at0 (D : Mm.Mat 256 64) (y : S1x2048x64.Idx) : EReal := D (ix2 ⟨(y 1).val % 128, by omega⟩ (y 2))
abbrev at1 (D : Mm.Mat 256 64) (y : S1x2048x64.Idx) : EReal := D (ix2 ⟨128 + (y 1).val % 128, by omega⟩ (y 2))

/-- The place in its block of 128 rows. -/
abbrev place (y : S1x2048x64.Idx) : S1x128x64.Idx := ix3 (0 : Fin 1) ⟨(y 1).val % 128, by omega⟩ (y 2)

theorem place_at (y : S1x2048x64.Idx) (n : ℕ) (h : (y 1).val / 128 = n) : ∀ a, (y a).val = (![0, 128 * n, 0] : Fin 3 → ℕ) a + (place y a).val := by
  intro a
  match a with
  | ⟨0, _⟩ => have h0 : (y 0).val < 1 := (y 0).isLt; show (y 0).val = 0 + 0; omega
  | ⟨1, _⟩ => show (y 1).val = 128 * n + (y 1).val % 128; omega
  | ⟨2, _⟩ => show (y 2).val = 0 + (y 2).val; omega

/-- A piece of 128 rows at block `n`. -/
abbrev put (o : Fin 3 → ℕ) (inb : ∀ a, o a + S1x128x64.size a ≤ S1x2048x64.size a) (v : Vec Ideal S1x128x64 .f32) : View.Piece (Elt Ideal) S1x2048x64 .f32 :=
  ⟨Rect.unit (s := S1x2048x64) o S1x128x64.size inb, v⟩

section writes
variable (M : Memref sig .tc .vmem S1x2048x64 .f32)

theorem put_in (f) (o : Fin 3 → ℕ) (inb) (v) (L) (y : S1x2048x64.Idx) (n : ℕ) (ho : o = ![0, 128 * n, 0]) (h : (y 1).val / 128 = n) :
    M.view.read (Elt Ideal) (M.view.writes (Elt Ideal) f (put o inb v :: L)) y = v (place y) :=
  View.read_writes_cons_unit_of_mem (Val := Elt Ideal) M.view f inb v L y (place y) ho (place_at y n h)
theorem put_out (f) (o : Fin 3 → ℕ) (inb) (v) (L) (y : S1x2048x64.Idx) (n : ℕ) (ho : o = ![0, 128 * n, 0]) (h : (y 1).val / 128 ≠ n) :
    M.view.read (Elt Ideal) (M.view.writes (Elt Ideal) f (put o inb v :: L)) y = M.view.read (Elt Ideal) (M.view.writes (Elt Ideal) f L) y :=
  View.read_writes_cons_unit_of_not_mem (Val := Elt Ideal) M.view f inb v L y ho 1 (by
    show (y 1).val < 128 * n ∨ 128 * n + 128 ≤ (y 1).val
    omega)

theorem idx_at (o : Fin 3 → ℕ) (inb) (y : S1x2048x64.Idx) (n : ℕ) (ho : o = ![0, 128 * n, 0]) (h : (y 1).val / 128 = n) :
    (Rect.unit (s := S1x2048x64) o S1x128x64.size inb).toLoadRect.idx (place y) = y := by
  subst ho
  funext a; apply Fin.ext
  have := place_at y n h a
  match a with
  | ⟨0, _⟩ => rw [this]; show 0 + 1 * (place y 0).val = 0 + (place y 0).val; omega
  | ⟨1, _⟩ => rw [this]; show 128 * n + 1 * (place y 1).val = 128 * n + (place y 1).val; omega
  | ⟨2, _⟩ => rw [this]; show 0 + 1 * (place y 2).val = 0 + (place y 2).val; omega

theorem lower_at (D : Mm.Mat 256 64) (y : S1x2048x64.Idx) : lower D (place y) = at0 D y := rfl
theorem upper_at (D : Mm.Mat 256 64) (y : S1x2048x64.Idx) : upper D (place y) = at1 D y := rfl

/-- What a step leaves of an accumulator: the first step's from zero, -/
theorem stepFirst (f) (o1 o2 o3 o4 : Fin 3 → ℕ) (h1 : o1 = ![0, 128 * 0, 0]) (h2 : o2 = ![0, 128 * 0, 0]) (h3 : o3 = ![0, 128 * 0, 0]) (h4 : o4 = ![0, 128 * 1, 0])
    (i1 i2 i3 i4) (v1 v2 v3 v4 : Vec Ideal S1x128x64 .f32) (iz) (w : Vec Ideal S1x2048x64 .f32) (hw : ∀ z, w z = (0 : EReal)) (D D' : Mm.Mat 256 64)
    (e1 : ∀ z, v1 z = M.view.read (Elt Ideal) (M.view.writes (Elt Ideal) f [⟨Rect.unit (s := S1x2048x64) ![0, 0, 0] S1x2048x64.size iz, w⟩]) ((Rect.unit (s := S1x2048x64) o1 S1x128x64.size i1).toLoadRect.idx z) + lower D z)
    (e2 : ∀ z, v2 z = M.view.read (Elt Ideal) (M.view.writes (Elt Ideal) f [put o1 i1 v1, ⟨Rect.unit (s := S1x2048x64) ![0, 0, 0] S1x2048x64.size iz, w⟩]) ((Rect.unit (s := S1x2048x64) o2 S1x128x64.size i2).toLoadRect.idx z) + upper D z)
    (e3 : ∀ z, v3 z = M.view.read (Elt Ideal) (M.view.writes (Elt Ideal) f [put o2 i2 v2, put o1 i1 v1, ⟨Rect.unit (s := S1x2048x64) ![0, 0, 0] S1x2048x64.size iz, w⟩]) ((Rect.unit (s := S1x2048x64) o3 S1x128x64.size i3).toLoadRect.idx z) + lower D' z)
    (e4 : ∀ z, v4 z = M.view.read (Elt Ideal) (M.view.writes (Elt Ideal) f [put o3 i3 v3, put o2 i2 v2, put o1 i1 v1, ⟨Rect.unit (s := S1x2048x64) ![0, 0, 0] S1x2048x64.size iz, w⟩]) ((Rect.unit (s := S1x2048x64) o4 S1x128x64.size i4).toLoadRect.idx z) + upper D' z)
    (y : S1x2048x64.Idx) :
    M.view.read (Elt Ideal) (M.view.writes (Elt Ideal) f [put o4 i4 v4, put o3 i3 v3, put o2 i2 v2, put o1 i1 v1, ⟨Rect.unit (s := S1x2048x64) ![0, 0, 0] S1x2048x64.size iz, w⟩]) y
      = if (y 1).val / 128 = 0 then ((0 + at0 D y) + at1 D y) + at0 D' y else if (y 1).val / 128 = 1 then 0 + at1 D' y else 0 := by
  have hz : M.view.read (Elt Ideal) (M.view.writes (Elt Ideal) f [⟨Rect.unit (s := S1x2048x64) ![0, 0, 0] S1x2048x64.size iz, w⟩]) y = (0 : EReal) :=
    (View.read_writes_cons_unit_of_mem (Val := Elt Ideal) M.view f iz w [] y y rfl (fun a => by
      match a with
      | ⟨0, _⟩ => exact (Nat.zero_add _).symm
      | ⟨1, _⟩ => exact (Nat.zero_add _).symm
      | ⟨2, _⟩ => exact (Nat.zero_add _).symm)).trans (hw y)
  by_cases hb : (y 1).val / 128 = 0
  · rw [if_pos hb, put_out M f o4 i4 _ _ y 1 h4 (by omega), put_in M f o3 i3 _ _ y 0 h3 hb, e3, idx_at o3 i3 y 0 h3 hb, put_in M f o2 i2 _ _ y 0 h2 hb, e2,
      idx_at o2 i2 y 0 h2 hb, put_in M f o1 i1 _ _ y 0 h1 hb, e1, idx_at o1 i1 y 0 h1 hb, hz, lower_at, upper_at, lower_at]
  · rw [if_neg hb]
    by_cases hb1 : (y 1).val / 128 = 1
    · rw [if_pos hb1, put_in M f o4 i4 _ _ y 1 h4 hb1, e4, idx_at o4 i4 y 1 h4 hb1, put_out M f o3 i3 _ _ y 0 h3 hb, put_out M f o2 i2 _ _ y 0 h2 hb,
        put_out M f o1 i1 _ _ y 0 h1 hb, hz, upper_at]
    · rw [if_neg hb1, put_out M f o4 i4 _ _ y 1 h4 hb1, put_out M f o3 i3 _ _ y 0 h3 hb, put_out M f o2 i2 _ _ y 0 h2 hb,
        put_out M f o1 i1 _ _ y 0 h1 hb, hz]

/-- and a later step's from what the step before left. -/
theorem stepLater (hM : M.IsWhole) (g) (x : Vec Ideal S1x2048x64 .f32) (n : ℕ) (o1 o2 o3 o4 : Fin 3 → ℕ) (h1 : o1 = ![0, 128 * (n + 1), 0]) (h2 : o2 = ![0, 128 * (n + 2), 0]) (h3 : o3 = ![0, 128 * (n + 2), 0]) (h4 : o4 = ![0, 128 * (n + 3), 0])
    (i1 i2 i3 i4) (v1 v2 v3 v4 : Vec Ideal S1x128x64 .f32) (D D' : Mm.Mat 256 64)
    (e1 : ∀ z, v1 z = M.view.readAt (Elt Ideal) (Rect.unit (s := S1x2048x64) o1 S1x128x64.size i1).toLoadRect (hM.unread x) z + lower D z)
    (e2 : ∀ z, v2 z = M.view.readAt (Elt Ideal) (Rect.unit (s := S1x2048x64) o2 S1x128x64.size i2).toLoadRect (hM.unread x) z + upper D z)
    (e3 : ∀ z, v3 z = M.view.read (Elt Ideal) (M.view.writes (Elt Ideal) g [put o2 i2 v2, put o1 i1 v1]) ((Rect.unit (s := S1x2048x64) o3 S1x128x64.size i3).toLoadRect.idx z) + lower D' z)
    (e4 : ∀ z, v4 z = M.view.readAt (Elt Ideal) (Rect.unit (s := S1x2048x64) o4 S1x128x64.size i4).toLoadRect (hM.unread x) z + upper D' z)
    (y : S1x2048x64.Idx) :
    M.view.read (Elt Ideal) (M.view.writes (Elt Ideal) (hM.unread x) [put o4 i4 v4, put o3 i3 v3, put o2 i2 v2, put o1 i1 v1]) y
      = if (y 1).val / 128 = n + 1 then x y + at0 D y else if (y 1).val / 128 = n + 2 then (x y + at1 D y) + at0 D' y
        else if (y 1).val / 128 = n + 3 then x y + at1 D' y else x y := by
  have ld : ∀ (o : Fin 3 → ℕ) (inb) (k : ℕ), o = ![0, 128 * k, 0] → (y 1).val / 128 = k →
      M.view.readAt (Elt Ideal) (Rect.unit (s := S1x2048x64) o S1x128x64.size inb).toLoadRect (hM.unread x) (place y) = x y := by
    intro o inb k ho hk
    rw [View.readAt_eq_ld, Memref.IsWhole.read_unread]
    exact congrArg x (idx_at o inb y k ho hk)
  by_cases hb1 : (y 1).val / 128 = n + 1
  · rw [if_pos hb1, put_out M _ o4 i4 _ _ y _ h4 (by omega), put_out M _ o3 i3 _ _ y _ h3 (by omega), put_out M _ o2 i2 _ _ y _ h2 (by omega),
      put_in M _ o1 i1 _ _ y _ h1 hb1, e1, ld o1 i1 _ h1 hb1, lower_at]
  rw [if_neg hb1]
  by_cases hb2 : (y 1).val / 128 = n + 2
  · rw [if_pos hb2, put_out M _ o4 i4 _ _ y _ h4 (by omega), put_in M _ o3 i3 _ _ y _ h3 hb2, e3, idx_at o3 i3 y _ h3 hb2, put_in M g o2 i2 _ _ y _ h2 hb2, e2,
      ld o2 i2 _ h2 hb2, lower_at, upper_at]
  rw [if_neg hb2]
  by_cases hb3 : (y 1).val / 128 = n + 3
  · rw [if_pos hb3, put_in M _ o4 i4 _ _ y _ h4 hb3, e4, ld o4 i4 _ h4 hb3, upper_at]
  rw [if_neg hb3, put_out M _ o4 i4 _ _ y _ h4 hb3, put_out M _ o3 i3 _ _ y _ h3 hb2, put_out M _ o2 i2 _ _ y _ h2 hb2, put_out M _ o1 i1 _ _ y _ h1 hb1]
  exact congrFun (hM.read_unread x) y

end writes

/-! ## The accumulator after a step -/

/-- Blocks up to the step's first have their own part and the next block's; the step's second has its own. -/
def accum (D : ℕ → Mm.Mat 256 64) (u : ℕ) : Vec Ideal S1x2048x64 .f32 := fun y =>
  if (y 1).val / 128 ≤ 2 * u then at1 (D ((y 1).val / 128)) y + at0 (D ((y 1).val / 128 + 1)) y
  else if (y 1).val / 128 = 2 * u + 1 then at1 (D ((y 1).val / 128)) y else (0 : EReal)

theorem accum_first (D : ℕ → Mm.Mat 256 64) (h0 : ∀ y, at0 (D 0) y = 0) (y : S1x2048x64.Idx) :
    (if (y 1).val / 128 = 0 then ((0 + at0 (D 0) y) + at1 (D 0) y) + at0 (D 1) y else if (y 1).val / 128 = 1 then 0 + at1 (D 1) y else (0 : EReal)) = accum D 0 y := by
  unfold accum
  by_cases hb : (y 1).val / 128 = 0
  · rw [if_pos hb, if_pos (by omega), hb, h0, add_zero, zero_add]
  rw [if_neg hb, if_neg (show ¬ (y 1).val / 128 ≤ 2 * 0 by omega)]
  by_cases hb1 : (y 1).val / 128 = 1
  · rw [if_pos hb1, if_pos (by omega), hb1, zero_add]
  · rw [if_neg hb1, if_neg (by omega)]

theorem accum_later (D : ℕ → Mm.Mat 256 64) (u : ℕ) (y : S1x2048x64.Idx) :
    (if (y 1).val / 128 = 2 * u + 1 then (accum D u y : EReal) + at0 (D (2 * (u + 1))) y else if (y 1).val / 128 = 2 * u + 2 then ((accum D u y : EReal) + at1 (D (2 * (u + 1))) y) + at0 (D (2 * (u + 1) + 1)) y
      else if (y 1).val / 128 = 2 * u + 3 then (accum D u y : EReal) + at1 (D (2 * (u + 1) + 1)) y else accum D u y) = accum D (u + 1) y := by
  unfold accum
  by_cases hb1 : (y 1).val / 128 = 2 * u + 1
  · rw [if_pos hb1, if_neg (by omega), if_pos hb1, if_pos (by omega), hb1]; rfl
  rw [if_neg hb1]
  by_cases hb2 : (y 1).val / 128 = 2 * u + 2
  · rw [if_pos hb2, if_neg (by omega), if_neg (by omega), if_pos (by omega), zero_add, hb2]; rfl
  rw [if_neg hb2]
  by_cases hb3 : (y 1).val / 128 = 2 * u + 3
  · rw [if_pos hb3, if_neg (by omega), if_neg (by omega), if_neg (by omega), if_pos (by omega), zero_add, hb3]; rfl
  rw [if_neg hb3]
  by_cases hb : (y 1).val / 128 ≤ 2 * u
  · rw [if_pos hb, if_pos (by omega)]
  · rw [if_neg hb, if_neg (by omega), if_neg (by omega), if_neg (by omega)]

/-- The first block sees no key before its own. -/
theorem unseen (m : (ℓ : Loc nD τ sig) → Buf (Elt Ideal) ℓ) (c : Dev nD) (h : Fin 4) (i : Fin 1024) (j : Fin 256) (hj : j.val < 128) : pB m c h 0 (ix2 i j) = 0 := by
  unfold pB prob
  rw [if_neg (by rintro ⟨-, -, h | h⟩; · exact absurd h (by show ¬ 128 ≤ j.val; omega)
                 · exact h rfl)]
  simp only [EReal.bot_sub]
  rfl
theorem dk_first (m : (ℓ : Loc nD τ sig) → Buf (Elt Ideal) ℓ) (c : Dev nD) (h : Fin 4) (y) : at0 (dkB m c h 0) y = 0 := by
  unfold at0 dkB Mm.tn
  refine Finset.sum_eq_zero fun k _ => ?_
  have hp : prob 0 (qB m c h 0) (kB m c h 0) (lseB m c h 0) (ix2 k ⟨(y 1).val % 128, by omega⟩) = 0 := unseen m c h k _ (Nat.mod_lt _ (by norm_num))
  have hd : dsB m c h 0 (ix2 k ⟨(y 1).val % 128, by omega⟩) = 0 := by
    unfold dsB dscore
    rw [hp, zero_mul, zero_mul]
  exact (congrArg (fun p : EReal => p * qB m c h 0 (ix2 k (y 2))) hd).trans (zero_mul _)
theorem dv_first (m : (ℓ : Loc nD τ sig) → Buf (Elt Ideal) ℓ) (c : Dev nD) (h : Fin 4) (y) : at0 (dvB m c h 0) y = 0 := by
  unfold at0 dvB Mm.tn
  refine Finset.sum_eq_zero fun k _ => ?_
  have hp : pB m c h 0 (ix2 k ⟨(y 1).val % 128, by omega⟩) = 0 := unseen m c h k _ (Nat.mod_lt _ (by norm_num))
  exact (congrArg (fun p : EReal => p * dyB m c h 0 (ix2 k (y 2))) hp).trans (zero_mul _)

end Cert.KernelIdeal.Gen

end
-- ==== Proof.Swa.Match.lean ====
/- A block's gradients as the kernel forms them, from matrices that hold the reference's queries, keys, values,
   cotangents, outputs and log-sums: they are the reference's sums. -/
module

public import proofs.«01_k».proof.Proof.Swa.RefOut
public import proofs.«01_k».proof.Proof.Swa.Accum

@[expose] public section

set_option maxRecDepth 16384

noncomputable section

namespace Cert.Swa

open Idealize.ShloMosaic Cert.ReferenceIdeal Cert.ReferenceIdeal.Gen Cert.ReferenceIdeal.Read Mm

/-- Query row `i` of the group's head `j`, among the 1024 rows of a block. -/
abbrev row8 (j : Fin 8) (i : Fin 128) : Fin 1024 := ⟨128 * j.val + i.val, by omega⟩

theorem sum_rows (f : Fin 1024 → EReal) : ∑ k, f k = ∑ j : Fin 8, ∑ i : Fin 128, f (row8 j i) := by
  rw [← (finProdFinEquiv : Fin 8 × Fin 128 ≃ Fin (8 * 128)).sum_comp, Fintype.sum_prod_type]
  refine Finset.sum_congr rfl fun j _ => Finset.sum_congr rfl fun i _ => congrArg f (Fin.ext ?_)
  show i.val + 128 * j.val = 128 * j.val + i.val
  omega

variable (x0 : (⟨S2048x2560, .f32⟩ : BufTy).Contents (Elt Ideal)) (x1 : (⟨S32, .f32⟩ : BufTy).Contents (Elt Ideal))
  (x2 : (⟨S2048x2048, .f32⟩ : BufTy).Contents (Elt Ideal)) (h : Fin 4) (b : Fin 16) (j : Fin 8) (i : Fin 128) (y : Fin 256) (d : Fin 64)
  (q dy o : Mat 1024 64) (lse sk : Mat 1024 1) (kk vv : Mat 256 64)
  (hq : ∀ j i d, q (ix2 (row8 j i) d) = qAt x0 h j b i d)
  (hdy : ∀ j i d, dy (ix2 (row8 j i) d) = gAt x2 h j b i d)
  (ho : ∀ j i d, o (ix2 (row8 j i) d) = Ideal.div (numAt x0 x1 h j b i d) (totAt x0 x1 h j b i))
  (hl : ∀ j i, lse (ix2 (row8 j i) (0 : Fin 1)) = lseAt x0 x1 h j b i)
  (hs : ∀ j i, sk (ix2 (row8 j i) (0 : Fin 1)) = sinkAt x1 h j)
  (hk : ∀ y d, 128 ≤ 128 * b.val + y.val → kk (ix2 y d) = kAt x0 h b y d 0 (Nat.zero_le 256))
  (hv : ∀ y d, 128 ≤ 128 * b.val + y.val → vv (ix2 y d) = vAt x0 h b y d)
  (f0 : ∀ k, ∃ r : ℝ, x0 k = (r : EReal)) (f1 : ∀ k, ∃ r : ℝ, x1 k = (r : EReal)) (f2 : ∀ k, ∃ r : ℝ, x2 k = (r : EReal))

theorem seen_in (hs : seen b.val i.val y.val) : 128 ≤ 128 * b.val + y.val := by
  obtain ⟨-, -, h3⟩ := hs
  omega

include hq hl hk in
theorem prob_at : prob b.val q kk lse (ix2 (row8 j i) y) = Ideal.exp (sAt x0 h j b i y - lseAt x0 x1 h j b i) := by
  show Ideal.exp ((if seen b.val ((128 * j.val + i.val) % 128) y.val then (∑ k : Fin 64, q (ix2 (row8 j i) k) * kk (ix2 y k)) * scale else ⊥)
    - lse (ix2 (row8 j i) (0 : Fin 1))) = _
  rw [hl, show (128 * j.val + i.val) % 128 = i.val by omega]
  refine congrArg (fun p : EReal => Ideal.exp (p - lseAt x0 x1 h j b i)) ?_
  unfold sAt
  by_cases hs : seen b.val i.val y.val
  · rw [if_pos hs, if_pos hs]
    refine congrArg (fun p : EReal => p * scale) (Finset.sum_congr rfl fun k _ => ?_)
    rw [hq, hk y k (seen_in b i y hs), mul_comm]
  · rw [if_neg hs, if_neg hs]

include hdy ho in
theorem rowdot_at : rowdot o dy (ix2 (row8 j i) (0 : Fin 1)) = ∑ d, Ideal.div (numAt x0 x1 h j b i d) (totAt x0 x1 h j b i) * gAt x2 h j b i d := by
  show (∑ k : Fin 64, o (ix2 (row8 j i) k) * dy (ix2 (row8 j i) k)) = _
  exact Finset.sum_congr rfl fun k _ => congrArg₂ (fun p q : EReal => p * q) (ho j i k) (hdy j i k)

include hq hdy ho hl hk hv f0 f1 f2 in
theorem dscore_at : dscore b.val q kk vv lse (rowdot o dy) dy (ix2 (row8 j i) y) = dscAt x0 x1 x2 h j b i y * scale := by
  show prob b.val q kk lse (ix2 (row8 j i) y) * ((∑ k : Fin 64, dy (ix2 (row8 j i) k) * vv (ix2 y k)) - rowdot o dy (ix2 (row8 j i) (0 : Fin 1))) * scale = _
  refine congrArg (fun p : EReal => p * scale) ?_
  rw [prob_at x0 x1 h b j i y q lse kk hq hl hk, rowdot_at x0 x1 x2 h b j i dy o hdy ho]
  by_cases hs : seen b.val i.val y.val
  · refine Eq.trans ?_ ((row_facts x0 x1 x2 h j b i f0 f1 f2).2.1 y)
    refine congrArg (fun p : EReal => Ideal.exp (sAt x0 h j b i y - lseAt x0 x1 h j b i)
      * (p - ∑ d, Ideal.div (numAt x0 x1 h j b i d) (totAt x0 x1 h j b i) * gAt x2 h j b i d)) (Finset.sum_congr rfl fun k _ => ?_)
    rw [hdy, hv y k (seen_in b i y hs)]
  · have e : sAt x0 h j b i y = ⊥ := if_neg hs
    rw [dsc_unseen x0 x1 x2 h j b i y hs, e, EReal.bot_sub, Ideal.exp_bot, zero_mul]

include hq hdy ho hl hk hv f0 f1 f2 in
theorem dq_at : nn (dscore b.val q kk vv lse (rowdot o dy) dy) kk (ix2 (row8 j i) d) = val_main_v168 (F := Ideal) x0 x1 x2 (ix6 (0 : Fin 1) h j b i d) := by
  rw [r168 x0 x1 x2 h j b i d f0 f1 f2]
  show (∑ y : Fin 256, dscore b.val q kk vv lse (rowdot o dy) dy (ix2 (row8 j i) y) * kk (ix2 y d)) = _
  refine Finset.sum_congr rfl fun y _ => ?_
  rw [dscore_at x0 x1 x2 h b j i y q dy o lse kk vv hq hdy ho hl hk hv f0 f1 f2]
  by_cases hs : seen b.val i.val y.val
  · rw [hk y d (seen_in b i y hs)]
  · rw [dsc_unseen x0 x1 x2 h j b i y hs, zero_mul, zero_mul, zero_mul]

include hq hdy ho hl hk hv f0 f1 f2 in
theorem dk_at : tn (dscore b.val q kk vv lse (rowdot o dy) dy) q (ix2 y d) = val_main_v169 (F := Ideal) x0 x1 x2 (ix5 (0 : Fin 1) h b y d) := by
  rw [r169 x0 x1 x2 h b y d f0 f1 f2]
  show (∑ k : Fin 1024, dscore b.val q kk vv lse (rowdot o dy) dy (ix2 k y) * q (ix2 k d)) = _
  rw [sum_rows]
  refine Finset.sum_congr rfl fun j _ => Finset.sum_congr rfl fun i _ => ?_
  rw [dscore_at x0 x1 x2 h b j i y q dy o lse kk vv hq hdy ho hl hk hv f0 f1 f2, hq]

include hq hdy hl hk f0 f1 f2 in
theorem dv_at : tn (prob b.val q kk lse) dy (ix2 y d) = val_main_v135 (F := Ideal) x0 x1 x2 (ix5 (0 : Fin 1) h b y d) := by
  rw [r135 x0 x1 x2 h b y d]
  show (∑ k : Fin 1024, prob b.val q kk lse (ix2 k y) * dy (ix2 k d)) = _
  rw [sum_rows]
  refine Finset.sum_congr rfl fun j _ => Finset.sum_congr rfl fun i _ => ?_
  rw [prob_at x0 x1 h b j i y q lse kk hq hl hk, hdy]
  exact (row_facts x0 x1 x2 h j b i f0 f1 f2).1 y d

include hdy ho hl hs in
theorem dsink_at : dsinkRow sk lse (rowdot o dy) (ix2 (row8 j i) (0 : Fin 1)) = (0 - Ideal.exp (sinkAt x1 h j - lseAt x0 x1 h j b i))
    * (∑ d, Ideal.div (numAt x0 x1 h j b i d) (totAt x0 x1 h j b i) * gAt x2 h j b i d) := by
  show (0 - Ideal.exp (sk (ix2 (row8 j i) (0 : Fin 1)) - lse (ix2 (row8 j i) (0 : Fin 1)))) * rowdot o dy (ix2 (row8 j i) (0 : Fin 1)) = _
  rw [hs, hl, rowdot_at x0 x1 x2 h b j i dy o hdy ho]

/-- The rows a window's two halves share between neighbouring blocks. -/
theorem accum_both (D : ℕ → Mat 256 64) (w : FVec Ideal S1x4x16x256x64 .f32) (hD : ∀ (b : Fin 16) y d, D b.val (ix2 y d) = w (ix5 (0 : Fin 1) h b y d)) :
    Cert.KernelIdeal.Gen.accum D 7 (ix3 (0 : Fin 1) (at_row b i) d) = both h b i d w := by
  unfold Cert.KernelIdeal.Gen.accum both
  have e1 : ((at_row b i : Fin 2048).val) / 128 = b.val := by show (128 * b.val + i.val) / 128 = b.val; omega
  have e2 : ((at_row b i : Fin 2048).val) % 128 = i.val := by show (128 * b.val + i.val) % 128 = i.val; omega
  have a1 : ∀ n : ℕ, D n (ix2 (⟨128 + (at_row b i : Fin 2048).val % 128, by omega⟩ : Fin 256) d) = D n (ix2 (⟨128 + i.val, by omega⟩ : Fin 256) d) :=
    fun n => congrArg (fun y : Fin 256 => D n (ix2 y d)) (Fin.ext (congrArg (128 + ·) e2))
  have a0 : ∀ n : ℕ, D n (ix2 (⟨(at_row b i : Fin 2048).val % 128, by omega⟩ : Fin 256) d) = D n (ix2 (⟨i.val, by omega⟩ : Fin 256) d) :=
    fun n => congrArg (fun y : Fin 256 => D n (ix2 y d)) (Fin.ext e2)
  show (if (at_row b i : Fin 2048).val / 128 ≤ 2 * 7 then
      D ((at_row b i : Fin 2048).val / 128) (ix2 (⟨128 + (at_row b i : Fin 2048).val % 128, by omega⟩ : Fin 256) d)
        + D ((at_row b i : Fin 2048).val / 128 + 1) (ix2 (⟨(at_row b i : Fin 2048).val % 128, by omega⟩ : Fin 256) d)
    else if (at_row b i : Fin 2048).val / 128 = 2 * 7 + 1 then
      D ((at_row b i : Fin 2048).val / 128) (ix2 (⟨128 + (at_row b i : Fin 2048).val % 128, by omega⟩ : Fin 256) d) else 0) = _
  rw [a1, a0, e1]
  by_cases hb : b.val + 1 < 16
  · rw [if_pos (by omega), dif_pos hb, hD]
    exact congrArg (fun p : EReal => w (ix5 (0 : Fin 1) h b (⟨128 + i.val, by omega⟩ : Fin 256) d) + p) (hD ⟨b.val + 1, hb⟩ _ _)
  · rw [if_neg (by omega), if_pos (by omega), dif_neg hb, hD, add_zero]

end Cert.Swa

end
-- ==== Proof.Swa.State.lean ====
/- The outputs' buffers after each step of the attention's backward body. -/
module

public import proofs.«01_k».proof.Proof.Swa.Accum

@[expose] public section

set_option maxRecDepth 16384

noncomputable section

namespace Cert.KernelIdeal.Gen

open Idealize.ShloMosaic Idealize.ShloMosaic.TcCoe Cert.Swa

variable (m : (ℓ : Loc nD τ sig) → Buf (Elt Ideal) ℓ) (c : Dev nD)

theorem pay11_zero (z) : k0_pay11 (F := Ideal) z = (0 : EReal) := by
  pointwise [k0_pay11]
theorem pay12_zero (z) : k0_pay12 (F := Ideal) z = (0 : EReal) := by
  pointwise [k0_pay12]
theorem pay13_zero (z) : k0_pay13 (F := Ideal) z = (0 : EReal) := by
  pointwise [k0_pay13]

theorem dk_A (t : Fin cfg0.N) (h0 : t.val % 8 = 0) (y) : (leftA m c t h0).dk y = accum (dkB m c (hd t)) 0 y := by
  refine (stepFirst (ms_8 t) _ _ _ _ _ ((off1_0 t).trans (by rw [h0])) ((off2_0 t).trans (by rw [h0])) ((off1_1 t).trans (by rw [h0])) ((off2_1 t).trans (by rw [h0]))
    _ _ _ _ _ _ _ _ _ _ pay11_zero _ _ (fun z => a31 m c t _ z) (fun z => a32 m c t _ z) (fun z => a52 m c t _ z) (fun z => a54 m c t _ z) y).trans ?_
  rw [h0]
  exact accum_first (dkB m c (hd t)) (dk_first m c (hd t)) y
theorem dv_A (t : Fin cfg0.N) (h0 : t.val % 8 = 0) (y) : (leftA m c t h0).dv y = accum (dvB m c (hd t)) 0 y := by
  refine (stepFirst (ms_9 t) _ _ _ _ _ ((off1_0 t).trans (by rw [h0])) ((off2_0 t).trans (by rw [h0])) ((off1_1 t).trans (by rw [h0])) ((off2_1 t).trans (by rw [h0]))
    _ _ _ _ _ _ _ _ _ _ pay12_zero _ _ (fun z => a33 m c t _ z) (fun z => a34 m c t _ z) (fun z => a55 m c t _ z) (fun z => a56 m c t _ z) y).trans ?_
  rw [h0]
  exact accum_first (dvB m c (hd t)) (dv_first m c (hd t)) y

theorem offs (t : Fin cfg0.N) (h0 : t.val % 8 ≠ 0) : t.val % 8 = (t.val % 8 - 1) + 1 := by omega

theorem dk_B (t : Fin cfg0.N) (h0 : t.val % 8 ≠ 0) (h7 : t.val % 8 ≠ 7) (p : Left Ideal) (hp : ∀ y, p.dk y = accum (dkB m c (hd t)) (t.val % 8 - 1) y) (y) :
    (leftB m c t h0 h7 p).dk y = accum (dkB m c (hd t)) (t.val % 8) y := by
  refine (stepLater (ms_8 t) (hs_8 t) _ p.dk (2 * (t.val % 8 - 1)) _ _ _ _ ((off1_0 t).trans (by congr 2; omega)) ((off2_0 t).trans (by congr 2; omega)) ((off1_1 t).trans (by congr 2; omega)) ((off2_1 t).trans (by congr 2; omega))
    _ _ _ _ _ _ _ _ _ _ (fun z => a31 m c t _ z) (fun z => a32 m c t _ z) (fun z => a52 m c t _ z) (fun z => a54 m c t _ z) y).trans ?_
  rw [hp y]
  obtain ⟨u, hu⟩ : ∃ u, t.val % 8 = u + 1 := ⟨_, offs t h0⟩
  rw [hu]
  exact accum_later (dkB m c (hd t)) u y
theorem dv_B (t : Fin cfg0.N) (h0 : t.val % 8 ≠ 0) (h7 : t.val % 8 ≠ 7) (p : Left Ideal) (hp : ∀ y, p.dv y = accum (dvB m c (hd t)) (t.val % 8 - 1) y) (y) :
    (leftB m c t h0 h7 p).dv y = accum (dvB m c (hd t)) (t.val % 8) y := by
  refine (stepLater (ms_9 t) (hs_9 t) _ p.dv (2 * (t.val % 8 - 1)) _ _ _ _ ((off1_0 t).trans (by congr 2; omega)) ((off2_0 t).trans (by congr 2; omega)) ((off1_1 t).trans (by congr 2; omega)) ((off2_1 t).trans (by congr 2; omega))
    _ _ _ _ _ _ _ _ _ _ (fun z => a33 m c t _ z) (fun z => a34 m c t _ z) (fun z => a55 m c t _ z) (fun z => a56 m c t _ z) y).trans ?_
  rw [hp y]
  obtain ⟨u, hu⟩ : ∃ u, t.val % 8 = u + 1 := ⟨_, offs t h0⟩
  rw [hu]
  exact accum_later (dvB m c (hd t)) u y
theorem dk_C (t : Fin cfg0.N) (h0 : t.val % 8 ≠ 0) (h7 : t.val % 8 = 7) (p : Left Ideal) (hp : ∀ y, p.dk y = accum (dkB m c (hd t)) (t.val % 8 - 1) y) (y) :
    (leftC m c t h0 h7 p).dk y = accum (dkB m c (hd t)) (t.val % 8) y := by
  refine (stepLater (ms_8 t) (hs_8 t) _ p.dk (2 * (t.val % 8 - 1)) _ _ _ _ ((off1_0 t).trans (by congr 2; omega)) ((off2_0 t).trans (by congr 2; omega)) ((off1_1 t).trans (by congr 2; omega)) ((off2_1 t).trans (by congr 2; omega))
    _ _ _ _ _ _ _ _ _ _ (fun z => a31 m c t _ z) (fun z => a32 m c t _ z) (fun z => a52 m c t _ z) (fun z => a54 m c t _ z) y).trans ?_
  rw [hp y]
  obtain ⟨u, hu⟩ : ∃ u, t.val % 8 = u + 1 := ⟨_, offs t h0⟩
  rw [hu]
  exact accum_later (dkB m c (hd t)) u y
theorem dv_C (t : Fin cfg0.N) (h0 : t.val % 8 ≠ 0) (h7 : t.val % 8 = 7) (p : Left Ideal) (hp : ∀ y, p.dv y = accum (dvB m c (hd t)) (t.val % 8 - 1) y) (y) :
    (leftC m c t h0 h7 p).dv y = accum (dvB m c (hd t)) (t.val % 8) y := by
  refine (stepLater (ms_9 t) (hs_9 t) _ p.dv (2 * (t.val % 8 - 1)) _ _ _ _ ((off1_0 t).trans (by congr 2; omega)) ((off2_0 t).trans (by congr 2; omega)) ((off1_1 t).trans (by congr 2; omega)) ((off2_1 t).trans (by congr 2; omega))
    _ _ _ _ _ _ _ _ _ _ (fun z => a33 m c t _ z) (fun z => a34 m c t _ z) (fun z => a55 m c t _ z) (fun z => a56 m c t _ z) y).trans ?_
  rw [hp y]
  obtain ⟨u, hu⟩ : ∃ u, t.val % 8 = u + 1 := ⟨_, offs t h0⟩
  rw [hu]
  exact accum_later (dvB m c (hd t)) u y

/-! ## The queries' gradient: each step its two blocks -/

theorem two (M : Memref sig .tc .vmem S8x256x64 .f32) (f) (i1 i2) (v1 v2 : Vec Ideal S8x128x64 .f32) (y : S8x256x64.Idx) :
    M.view.read (Elt Ideal) (M.view.writes (Elt Ideal) f [⟨Rect.unit (s := S8x256x64) ![0, 128, 0] S8x128x64.size i2, v2⟩, ⟨Rect.unit (s := S8x256x64) ![0, 0, 0] S8x128x64.size i1, v1⟩]) y
      = if h : (y 1).val < 128 then v1 (ix3 (y 0) ⟨(y 1).val, h⟩ (y 2)) else v2 (ix3 (y 0) ⟨(y 1).val - 128, by have : (y 1).val < 256 := (y 1).isLt; omega⟩ (y 2)) := by
  have hy : (y 1).val < 256 := (y 1).isLt
  by_cases h : (y 1).val < 128
  · rw [dif_pos h]
    refine (View.read_writes_cons_unit_of_not_mem (Val := Elt Ideal) M.view f i2 v2 _ y rfl 1 (.inl h)).trans ?_
    refine View.read_writes_cons_unit_of_mem (Val := Elt Ideal) M.view f i1 v1 _ y _ rfl (fun a => ?_)
    match a with
    | ⟨0, _⟩ => exact (Nat.zero_add _).symm
    | ⟨1, _⟩ => exact (Nat.zero_add _).symm
    | ⟨2, _⟩ => exact (Nat.zero_add _).symm
  · rw [dif_neg h]
    refine View.read_writes_cons_unit_of_mem (Val := Elt Ideal) M.view f i2 v2 _ y _ rfl (fun a => ?_)
    match a with
    | ⟨0, _⟩ => exact (Nat.zero_add _).symm
    | ⟨1, _⟩ => show (y 1).val = 128 + ((y 1).val - 128); omega
    | ⟨2, _⟩ => exact (Nat.zero_add _).symm

/-- A step's rows of the queries' gradient. -/
def dqAt (D : ℕ → Mm.Mat 1024 64) (u : ℕ) : Vec Ideal S8x256x64 .f32 := fun y =>
  D (2 * u + (y 1).val / 128) (ix2 ⟨(y 0).val * 128 + (y 1).val % 128, by have : (y 0).val < 8 := (y 0).isLt; omega⟩ (y 2))

theorem dq_step (t : Fin cfg0.N) (v1 v2 : Vec Ideal S8x128x64 .f32) (D : ℕ → Mm.Mat 1024 64)
    (e1 : ∀ y, v1 y = D (2 * (t.val % 8)) (ix2 ⟨(y 0).val * 128 + (y 1).val, by have : (y 0).val < 8 := (y 0).isLt; have : (y 1).val < 128 := (y 1).isLt; omega⟩ (y 2)))
    (e2 : ∀ y, v2 y = D (2 * (t.val % 8) + 1) (ix2 ⟨(y 0).val * 128 + (y 1).val, by have : (y 0).val < 8 := (y 0).isLt; have : (y 1).val < 128 := (y 1).isLt; omega⟩ (y 2)))
    (y : S8x256x64.Idx) :
    (if h : (y 1).val < 128 then v1 (ix3 (y 0) ⟨(y 1).val, h⟩ (y 2)) else v2 (ix3 (y 0) ⟨(y 1).val - 128, by have : (y 1).val < 256 := (y 1).isLt; omega⟩ (y 2)))
      = dqAt D (t.val % 8) y := by
  have hy : (y 1).val < 256 := (y 1).isLt
  unfold dqAt
  by_cases h : (y 1).val < 128
  · rw [dif_pos h, e1, show 2 * (t.val % 8) + (y 1).val / 128 = 2 * (t.val % 8) by omega]
    refine congrArg (D _) (congrArg (fun k => ix2 k (y 2)) (Fin.ext ?_))
    show (y 0).val * 128 + (y 1).val = (y 0).val * 128 + (y 1).val % 128
    omega
  · rw [dif_neg h, e2, show 2 * (t.val % 8) + (y 1).val / 128 = 2 * (t.val % 8) + 1 by omega]
    refine congrArg (D _) (congrArg (fun k => ix2 k (y 2)) (Fin.ext ?_))
    show (y 0).val * 128 + ((y 1).val - 128) = (y 0).val * 128 + (y 1).val % 128
    omega

theorem dq_A (t : Fin cfg0.N) (h0 : t.val % 8 = 0) (y) : (leftA m c t h0).dq y = dqAt (dqB m c (hd t)) (t.val % 8) y :=
  (two (ms_7 t) _ _ _ _ _ y).trans (dq_step t _ _ (dqB m c (hd t)) (p27 m c t) (p49 m c t) y)
theorem dq_B (t : Fin cfg0.N) (h0 : t.val % 8 ≠ 0) (h7 : t.val % 8 ≠ 7) (p : Left Ideal) (y) : (leftB m c t h0 h7 p).dq y = dqAt (dqB m c (hd t)) (t.val % 8) y :=
  (two (ms_7 t) _ _ _ _ _ y).trans (dq_step t _ _ (dqB m c (hd t)) (p27 m c t) (p49 m c t) y)
theorem dq_C (t : Fin cfg0.N) (h0 : t.val % 8 ≠ 0) (h7 : t.val % 8 = 7) (p : Left Ideal) (y) : (leftC m c t h0 h7 p).dq y = dqAt (dqB m c (hd t)) (t.val % 8) y :=
  (two (ms_7 t) _ _ _ _ _ y).trans (dq_step t _ _ (dqB m c (hd t)) (p27 m c t) (p49 m c t) y)

/-! ## The sink rows -/

theorem fill (M : Memref sig .tc .vmem S1024x1 .f32) (f) (inb) (w : Vec Ideal S1024x1 .f32) (L) (y : S1024x1.Idx) :
    M.view.read (Elt Ideal) (M.view.writes (Elt Ideal) f (⟨Rect.unit (s := S1024x1) ![0, 0] S1024x1.size inb, w⟩ :: L)) y = w y :=
  View.read_writes_cons_unit_of_mem (Val := Elt Ideal) M.view f inb w L y y rfl (fun a => by
    match a with
    | ⟨0, _⟩ => exact (Nat.zero_add _).symm
    | ⟨1, _⟩ => exact (Nat.zero_add _).symm)
theorem idx_sc (inb) (y : S1024x1.Idx) : (Rect.unit (s := S1024x1) ![0, 0] S1024x1.size inb).toLoadRect.idx y = y := by
  funext a; apply Fin.ext
  match a with
  | ⟨0, _⟩ => show 0 + 1 * (y 0).val = (y 0).val; omega
  | ⟨1, _⟩ => show 0 + 1 * (y 1).val = (y 1).val; omega

theorem scFirst (M : Memref sig .tc .vmem S1024x1 .f32) (f) (i0 i1 i2 i3 i4) (w v1 v2 : Vec Ideal S1024x1 .f32) (D D' : Mm.Mat 1024 1) (hw : ∀ z, w z = (0 : EReal))
    (e1 : ∀ z, v1 z = M.view.read (Elt Ideal) (M.view.writes (Elt Ideal) f [⟨Rect.unit (s := S1024x1) ![0, 0] S1024x1.size i0, w⟩]) ((Rect.unit (s := S1024x1) ![0, 0] S1024x1.size i3).toLoadRect.idx z) + D z)
    (e2 : ∀ z, v2 z = M.view.read (Elt Ideal) (M.view.writes (Elt Ideal) f [⟨Rect.unit (s := S1024x1) ![0, 0] S1024x1.size i1, v1⟩, ⟨Rect.unit (s := S1024x1) ![0, 0] S1024x1.size i0, w⟩]) ((Rect.unit (s := S1024x1) ![0, 0] S1024x1.size i4).toLoadRect.idx z) + D' z) (y) :
    M.view.read (Elt Ideal) (M.view.writes (Elt Ideal) f [⟨Rect.unit (s := S1024x1) ![0, 0] S1024x1.size i2, v2⟩, ⟨Rect.unit (s := S1024x1) ![0, 0] S1024x1.size i1, v1⟩, ⟨Rect.unit (s := S1024x1) ![0, 0] S1024x1.size i0, w⟩]) y
      = (0 + D y) + D' y := by
  rw [fill, e2, idx_sc, fill, e1, idx_sc, fill, hw]
theorem scLater (M : Memref sig .tc .vmem S1024x1 .f32) (hM : M.IsWhole) (f) (i1 i2 i3 i4) (x v1 v2 : Vec Ideal S1024x1 .f32) (D D' : Mm.Mat 1024 1)
    (e1 : ∀ z, v1 z = M.view.readAt (Elt Ideal) (Rect.unit (s := S1024x1) ![0, 0] S1024x1.size i3).toLoadRect (hM.unread x) z + D z)
    (e2 : ∀ z, v2 z = M.view.read (Elt Ideal) (M.view.writes (Elt Ideal) f [⟨Rect.unit (s := S1024x1) ![0, 0] S1024x1.size i1, v1⟩]) ((Rect.unit (s := S1024x1) ![0, 0] S1024x1.size i4).toLoadRect.idx z) + D' z) (y) :
    M.view.read (Elt Ideal) (M.view.writes (Elt Ideal) f [⟨Rect.unit (s := S1024x1) ![0, 0] S1024x1.size i2, v2⟩, ⟨Rect.unit (s := S1024x1) ![0, 0] S1024x1.size i1, v1⟩]) y
      = (x y + D y) + D' y := by
  rw [fill, e2, idx_sc, fill, e1, View.readAt_eq_ld, Memref.IsWhole.read_unread]
  exact congrArg (fun z => x z + D y + D' y) (idx_sc i3 y)

/-! The runs over any buffer in the carried accumulator's place. -/

abbrev runA_on (M : Memref sig .tc .vmem S1024x1 .f32) (hM : M.IsWhole) (t : Fin cfg0.N) (h0 : t.val % 8 = 0) :=
  runA c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) M hM
    ((atStart_iff t).mpr h0) (fun h => absurd ((atEnd_iff t).mp h) (by omega))
    ((off1_0 t).trans (by rw [h0])) ((off2_0 t).trans (by rw [h0])) ((off1_1 t).trans (by rw [h0])) ((off2_1 t).trans (by rw [h0]))
    (iblk m c 0 t) (iblk m c 1 t) (iblk m c 2 t) (iblk m c 3 t) (iblk m c 4 t) (iblk m c 5 t) (iblk m c 6 t)
abbrev runB_on (M : Memref sig .tc .vmem S1024x1 .f32) (hM : M.IsWhole) (t : Fin cfg0.N) (h0 : t.val % 8 ≠ 0) (h7 : t.val % 8 ≠ 7) (x10 x11 : Vec Ideal S1x2048x64 .f32) (x13 : Vec Ideal S1024x1 .f32) :=
  runB c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) M hM
    (fun h => h0 ((atStart_iff t).mp h)) (fun h => h7 ((atEnd_iff t).mp h)) (t.val % 8 - 1)
    ((off1_0 t).trans (shift10 h0)) ((off2_0 t).trans (shift20 h0)) ((off1_1 t).trans (shift20 h0)) ((off2_1 t).trans (shift21 h0))
    (iblk m c 0 t) (iblk m c 1 t) (iblk m c 2 t) (iblk m c 3 t) (iblk m c 4 t) (iblk m c 5 t) (iblk m c 6 t) x10 x11 x13
abbrev runC_on (M : Memref sig .tc .vmem S1024x1 .f32) (hM : M.IsWhole) (t : Fin cfg0.N) (h0 : t.val % 8 ≠ 0) (h7 : t.val % 8 = 7) (x10 x11 : Vec Ideal S1x2048x64 .f32) (x13 : Vec Ideal S1024x1 .f32) :=
  runC c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) M hM
    (fun h => h0 ((atStart_iff t).mp h)) ((atEnd_iff t).mpr h7) (t.val % 8 - 1)
    ((off1_0 t).trans (shift10 h0)) ((off2_0 t).trans (shift20 h0)) ((off1_1 t).trans (shift20 h0)) ((off2_1 t).trans (shift21 h0))
    (iblk m c 0 t) (iblk m c 1 t) (iblk m c 2 t) (iblk m c 3 t) (iblk m c 4 t) (iblk m c 5 t) (iblk m c 6 t) x10 x11 x13

section any
variable (M : Memref sig .tc .vmem S1024x1 .f32) (hM : M.IsWhole)
theorem sc_A_on (t : Fin cfg0.N) (h0 : t.val % 8 = 0) (y) : filled M (runA_on m c M hM t h0).2.2.2.1 y = (0 + dskB m c (hd t) (2 * (t.val % 8)) y) + dskB m c (hd t) (2 * (t.val % 8) + 1) y :=
  (scFirst M _ _ _ _ _ _ _ _ _ _ _ pay13_zero (fun z => a36 m c t _ z) (fun z => a57 m c t _ z) y).trans rfl
theorem sc_B_on (t : Fin cfg0.N) (h0 : t.val % 8 ≠ 0) (h7 : t.val % 8 ≠ 7) (x10 x11 x13) (y) :
    filled M (runB_on m c M hM t h0 h7 x10 x11 x13).2.2.2.1 y = (x13 y + dskB m c (hd t) (2 * (t.val % 8)) y) + dskB m c (hd t) (2 * (t.val % 8) + 1) y :=
  (scLater M hM _ _ _ _ _ _ _ _ _ _ (fun z => a36 m c t _ z) (fun z => a57 m c t _ z) y).trans rfl
theorem sc_C_on (t : Fin cfg0.N) (h0 : t.val % 8 ≠ 0) (h7 : t.val % 8 = 7) (x10 x11 x13) (y) :
    filled M (runC_on m c M hM t h0 h7 x10 x11 x13).2.2.2.2.1 y = (x13 y + dskB m c (hd t) (2 * (t.val % 8)) y) + dskB m c (hd t) (2 * (t.val % 8) + 1) y :=
  (scLater M hM _ _ _ _ _ _ _ _ _ _ (fun z => a36 m c t _ z) (fun z => a57 m c t _ z) y).trans rfl
end any

theorem leftA_sc (t : Fin cfg0.N) (h0 : t.val % 8 = 0) : (leftA m c t h0).sc = filled scM (runA_at m c t h0).2.2.2.1 := by rw [leftA]
theorem leftB_sc (t : Fin cfg0.N) (h0 : t.val % 8 ≠ 0) (h7 : t.val % 8 ≠ 7) (p : Left Ideal) : (leftB m c t h0 h7 p).sc = filled scM (runB_at m c t h0 h7 p.dk p.dv p.sc).2.2.2.1 := by rw [leftB]
theorem leftC_sc (t : Fin cfg0.N) (h0 : t.val % 8 ≠ 0) (h7 : t.val % 8 = 7) (p : Left Ideal) : (leftC m c t h0 h7 p).sc = filled scM (runC_at m c t h0 h7 p.dk p.dv p.sc).2.2.2.2.1 := by rw [leftC]
theorem leftC_ds (t : Fin cfg0.N) (h0 : t.val % 8 ≠ 0) (h7 : t.val % 8 = 7) (p : Left Ideal) : (leftC m c t h0 h7 p).ds = filled (ms_10 t) (runC_on m c scM (Memref.isWhole_whole _) t h0 h7 p.dk p.dv p.sc).2.2.2.1 := by unfold leftC; rfl

theorem sc_A (t : Fin cfg0.N) (h0 : t.val % 8 = 0) (y) : (leftA m c t h0).sc y = (0 + dskB m c (hd t) (2 * (t.val % 8)) y) + dskB m c (hd t) (2 * (t.val % 8) + 1) y :=
  (congrFun (leftA_sc m c t h0) y).trans (sc_A_on m c scM (Memref.isWhole_whole _) t h0 y)
theorem sc_B (t : Fin cfg0.N) (h0 : t.val % 8 ≠ 0) (h7 : t.val % 8 ≠ 7) (p : Left Ideal) (y) :
    (leftB m c t h0 h7 p).sc y = (p.sc y + dskB m c (hd t) (2 * (t.val % 8)) y) + dskB m c (hd t) (2 * (t.val % 8) + 1) y :=
  (congrFun (leftB_sc m c t h0 h7 p) y).trans (sc_B_on m c scM (Memref.isWhole_whole _) t h0 h7 p.dk p.dv p.sc y)
theorem sc_C (t : Fin cfg0.N) (h0 : t.val % 8 ≠ 0) (h7 : t.val % 8 = 7) (p : Left Ideal) (y) :
    (leftC m c t h0 h7 p).sc y = (p.sc y + dskB m c (hd t) (2 * (t.val % 8)) y) + dskB m c (hd t) (2 * (t.val % 8) + 1) y :=
  (congrFun (leftC_sc m c t h0 h7 p) y).trans (sc_C_on m c scM (Memref.isWhole_whole _) t h0 h7 p.dk p.dv p.sc y)

/-! ## The sinks' gradient, at a key head's last step -/

theorem eight (M : Memref sig .tc .vmem S1x8x1 .f32) (f) (i0 i1 i2 i3 i4 i5 i6 i7) (w0 w1 w2 w3 w4 w5 w6 w7 : Vec Ideal S1x1x1 .f32) (G : Fin 8 → EReal)
    (e0 : ∀ z, w0 z = G 0) (e1 : ∀ z, w1 z = G 1) (e2 : ∀ z, w2 z = G 2) (e3 : ∀ z, w3 z = G 3) (e4 : ∀ z, w4 z = G 4) (e5 : ∀ z, w5 z = G 5) (e6 : ∀ z, w6 z = G 6) (e7 : ∀ z, w7 z = G 7) (y : S1x8x1.Idx) :
    M.view.read (Elt Ideal) (M.view.writes (Elt Ideal) f [⟨Rect.unit (s := S1x8x1) ![0, 7, 0] S1x1x1.size i7, w7⟩, ⟨Rect.unit (s := S1x8x1) ![0, 6, 0] S1x1x1.size i6, w6⟩, ⟨Rect.unit (s := S1x8x1) ![0, 5, 0] S1x1x1.size i5, w5⟩, ⟨Rect.unit (s := S1x8x1) ![0, 4, 0] S1x1x1.size i4, w4⟩, ⟨Rect.unit (s := S1x8x1) ![0, 3, 0] S1x1x1.size i3, w3⟩, ⟨Rect.unit (s := S1x8x1) ![0, 2, 0] S1x1x1.size i2, w2⟩, ⟨Rect.unit (s := S1x8x1) ![0, 1, 0] S1x1x1.size i1, w1⟩, ⟨Rect.unit (s := S1x8x1) ![0, 0, 0] S1x1x1.size i0, w0⟩]) y = G (y 1) := by
  have hy : (y 1).val < 8 := (y 1).isLt
  have h0 : (y 0).val < 1 := (y 0).isLt
  have h2 : (y 2).val < 1 := (y 2).isLt
  have hin : ∀ (n : ℕ) (inb) (w : Vec Ideal S1x1x1 .f32) (L), (y 1).val = n → M.view.read (Elt Ideal) (M.view.writes (Elt Ideal) f (⟨Rect.unit (s := S1x8x1) ![0, n, 0] S1x1x1.size inb, w⟩ :: L)) y = w (ix3 (0 : Fin 1) (0 : Fin 1) (0 : Fin 1)) := fun n inb w L hn =>
    View.read_writes_cons_unit_of_mem (Val := Elt Ideal) M.view f inb w L y _ rfl (fun a => by
      match a with
      | ⟨0, _⟩ => show (y 0).val = 0 + 0; omega
      | ⟨1, _⟩ => show (y 1).val = n + 0; omega
      | ⟨2, _⟩ => show (y 2).val = 0 + 0; omega)
  have hout : ∀ (n : ℕ) (inb) (w : Vec Ideal S1x1x1 .f32) (L), (y 1).val ≠ n → M.view.read (Elt Ideal) (M.view.writes (Elt Ideal) f (⟨Rect.unit (s := S1x8x1) ![0, n, 0] S1x1x1.size inb, w⟩ :: L)) y = M.view.read (Elt Ideal) (M.view.writes (Elt Ideal) f L) y := fun n inb w L hn =>
    View.read_writes_cons_unit_of_not_mem (Val := Elt Ideal) M.view f inb w L y rfl 1 (by
      show (y 1).val < n ∨ n + 1 ≤ (y 1).val
      omega)
  rcases (by omega : (y 1).val = 0 ∨ (y 1).val = 1 ∨ (y 1).val = 2 ∨ (y 1).val = 3 ∨ (y 1).val = 4 ∨ (y 1).val = 5 ∨ (y 1).val = 6 ∨ (y 1).val = 7) with h | h | h | h | h | h | h | h
  · rw [hout 7 _ _ _ (by omega), hout 6 _ _ _ (by omega), hout 5 _ _ _ (by omega), hout 4 _ _ _ (by omega), hout 3 _ _ _ (by omega), hout 2 _ _ _ (by omega), hout 1 _ _ _ (by omega), hin 0 _ _ _ h, e0]; exact congrArg G (Fin.ext h.symm)
  · rw [hout 7 _ _ _ (by omega), hout 6 _ _ _ (by omega), hout 5 _ _ _ (by omega), hout 4 _ _ _ (by omega), hout 3 _ _ _ (by omega), hout 2 _ _ _ (by omega), hin 1 _ _ _ h, e1]; exact congrArg G (Fin.ext h.symm)
  · rw [hout 7 _ _ _ (by omega), hout 6 _ _ _ (by omega), hout 5 _ _ _ (by omega), hout 4 _ _ _ (by omega), hout 3 _ _ _ (by omega), hin 2 _ _ _ h, e2]; exact congrArg G (Fin.ext h.symm)
  · rw [hout 7 _ _ _ (by omega), hout 6 _ _ _ (by omega), hout 5 _ _ _ (by omega), hout 4 _ _ _ (by omega), hin 3 _ _ _ h, e3]; exact congrArg G (Fin.ext h.symm)
  · rw [hout 7 _ _ _ (by omega), hout 6 _ _ _ (by omega), hout 5 _ _ _ (by omega), hin 4 _ _ _ h, e4]; exact congrArg G (Fin.ext h.symm)
  · rw [hout 7 _ _ _ (by omega), hout 6 _ _ _ (by omega), hin 5 _ _ _ h, e5]; exact congrArg G (Fin.ext h.symm)
  · rw [hout 7 _ _ _ (by omega), hin 6 _ _ _ h, e6]; exact congrArg G (Fin.ext h.symm)
  · rw [hin 7 _ _ _ h, e7]; exact congrArg G (Fin.ext h.symm)

theorem pay5_apply (v : Vec Ideal S128x1 .f32) (x) : k0_pay5 (F := Ideal) v x = ∑ r : Fin 128, v (ix2 r (0 : Fin 1)) := by
  pointwise [k0_pay5]

theorem ld_sc (M : Memref sig .tc .vmem S1024x1 .f32) (n : ℕ) (inb) (f : _) (r : Fin 128) (hn : n + 128 ≤ 1024) :
    M.view.read (Elt Ideal) f ((Rect.unit (s := S1024x1) ![n, 0] S128x1.size inb).toLoadRect.idx (ix2 r (0 : Fin 1))) = M.view.read (Elt Ideal) f (ix2 ⟨n + r.val, by omega⟩ (0 : Fin 1)) := by
  refine congrArg (M.view.read (Elt Ideal) f) ?_
  funext a; apply Fin.ext
  match a with
  | ⟨0, _⟩ => show n + 1 * r.val = n + r.val; omega
  | ⟨1, _⟩ => rfl

theorem ds_C_on (M : Memref sig .tc .vmem S1024x1 .f32) (hM : M.IsWhole) (t : Fin cfg0.N) (h0 : t.val % 8 ≠ 0) (h7 : t.val % 8 = 7) (x10 x11 x13) (y : S1x8x1.Idx) :
    filled (ms_10 t) (runC_on m c M hM t h0 h7 x10 x11 x13).2.2.2.1 y = ∑ r : Fin 128, filled M (runC_on m c M hM t h0 h7 x10 x11 x13).2.2.2.2.1 (ix2 ⟨128 * (y 1).val + r.val, by have : (y 1).val < 8 := (y 1).isLt; omega⟩ (0 : Fin 1)) :=
  (eight (ms_10 t) _ _ _ _ _ _ _ _ _ _ _ _ _ _ _ _ _ (fun g => ∑ r : Fin 128, filled M (runC_on m c M hM t h0 h7 x10 x11 x13).2.2.2.2.1 (ix2 ⟨128 * g.val + r.val, by omega⟩ (0 : Fin 1)))
    (fun z => (pay5_apply _ z).trans (Finset.sum_congr rfl fun r _ => ld_sc M 0 _ _ r (by norm_num)))
    (fun z => (pay5_apply _ z).trans (Finset.sum_congr rfl fun r _ => ld_sc M 128 _ _ r (by norm_num)))
    (fun z => (pay5_apply _ z).trans (Finset.sum_congr rfl fun r _ => ld_sc M 256 _ _ r (by norm_num)))
    (fun z => (pay5_apply _ z).trans (Finset.sum_congr rfl fun r _ => ld_sc M 384 _ _ r (by norm_num)))
    (fun z => (pay5_apply _ z).trans (Finset.sum_congr rfl fun r _ => ld_sc M 512 _ _ r (by norm_num)))
    (fun z => (pay5_apply _ z).trans (Finset.sum_congr rfl fun r _ => ld_sc M 640 _ _ r (by norm_num)))
    (fun z => (pay5_apply _ z).trans (Finset.sum_congr rfl fun r _ => ld_sc M 768 _ _ r (by norm_num)))
    (fun z => (pay5_apply _ z).trans (Finset.sum_congr rfl fun r _ => ld_sc M 896 _ _ r (by norm_num)))
    y).trans rfl
theorem ds_C (t : Fin cfg0.N) (h0 : t.val % 8 ≠ 0) (h7 : t.val % 8 = 7) (p : Left Ideal) (y : S1x8x1.Idx) :
    (leftC m c t h0 h7 p).ds y = ∑ r : Fin 128, (leftC m c t h0 h7 p).sc (ix2 ⟨128 * (y 1).val + r.val, by have : (y 1).val < 8 := (y 1).isLt; omega⟩ (0 : Fin 1)) :=
  (congrFun (leftC_ds m c t h0 h7 p) y).trans ((ds_C_on m c scM (Memref.isWhole_whole _) t h0 h7 p.dk p.dv p.sc y).trans
    (Finset.sum_congr rfl fun r _ => (congrFun (leftC_sc m c t h0 h7 p) _).symm))

end Cert.KernelIdeal.Gen

end
-- ==== Proof.Swa.Arrays.lean ====
/- The arrays the attention's backward region leaves. -/
module

public import proofs.«01_k».proof.Proof.Swa.State

@[expose] public section

set_option maxRecDepth 16384

noncomputable section

namespace Cert.KernelIdeal.Gen

open Idealize.ShloMosaic Idealize.ShloMosaic.TcCoe Cert.Swa
open Idealize.ShloMosaic.Pipeline (Dat Cfg Window)

variable (m : (ℓ : Loc nD τ sig) → Buf (Elt Ideal) ℓ) (c : Dev nD)

/-! ## The buffers after any step -/

theorem hd_pred (t : Fin cfg0.N) (h0 : t.val % 8 ≠ 0) : hd (⟨t.val - 1, pred_lt t⟩ : Fin cfg0.N) = hd t :=
  Fin.ext (show (t.val - 1) / 8 = t.val / 8 by omega)

theorem dk_state : ∀ (n : ℕ) (hn : n < cfg0.N) (y), (leftAt m c n hn).dk y = accum (dkB m c (hd (⟨n, hn⟩ : Fin cfg0.N))) (n % 8) y := by
  intro n
  induction n with
  | zero => intro hn y; exact (dk_A m c (⟨0, hn⟩ : Fin cfg0.N) rfl y)
  | succ n ih =>
    intro hn y
    by_cases h0 : (n + 1) % 8 = 0
    · rw [leftAt_A m c (⟨n + 1, hn⟩ : Fin cfg0.N) h0, dk_A m c (⟨n + 1, hn⟩ : Fin cfg0.N) h0 y, h0]
    have hp : ∀ y, (leftAt m c n (Nat.lt_of_succ_lt hn)).dk y = accum (dkB m c (hd (⟨n + 1, hn⟩ : Fin cfg0.N))) ((n + 1) % 8 - 1) y := by
      intro y
      rw [ih (Nat.lt_of_succ_lt hn) y, show (n + 1) % 8 - 1 = n % 8 by omega]
      exact congrArg (fun h => accum (dkB m c h) (n % 8) y) (hd_pred (⟨n + 1, hn⟩ : Fin cfg0.N) h0)
    by_cases h7 : (n + 1) % 8 = 7
    · rw [leftAt_C m c (⟨n + 1, hn⟩ : Fin cfg0.N) h0 h7]
      exact dk_C m c (⟨n + 1, hn⟩ : Fin cfg0.N) h0 h7 _ hp y
    · rw [leftAt_B m c (⟨n + 1, hn⟩ : Fin cfg0.N) h0 h7]
      exact dk_B m c (⟨n + 1, hn⟩ : Fin cfg0.N) h0 h7 _ hp y
theorem dv_state : ∀ (n : ℕ) (hn : n < cfg0.N) (y), (leftAt m c n hn).dv y = accum (dvB m c (hd (⟨n, hn⟩ : Fin cfg0.N))) (n % 8) y := by
  intro n
  induction n with
  | zero => intro hn y; exact (dv_A m c (⟨0, hn⟩ : Fin cfg0.N) rfl y)
  | succ n ih =>
    intro hn y
    by_cases h0 : (n + 1) % 8 = 0
    · rw [leftAt_A m c (⟨n + 1, hn⟩ : Fin cfg0.N) h0, dv_A m c (⟨n + 1, hn⟩ : Fin cfg0.N) h0 y, h0]
    have hp : ∀ y, (leftAt m c n (Nat.lt_of_succ_lt hn)).dv y = accum (dvB m c (hd (⟨n + 1, hn⟩ : Fin cfg0.N))) ((n + 1) % 8 - 1) y := by
      intro y
      rw [ih (Nat.lt_of_succ_lt hn) y, show (n + 1) % 8 - 1 = n % 8 by omega]
      exact congrArg (fun h => accum (dvB m c h) (n % 8) y) (hd_pred (⟨n + 1, hn⟩ : Fin cfg0.N) h0)
    by_cases h7 : (n + 1) % 8 = 7
    · rw [leftAt_C m c (⟨n + 1, hn⟩ : Fin cfg0.N) h0 h7]
      exact dv_C m c (⟨n + 1, hn⟩ : Fin cfg0.N) h0 h7 _ hp y
    · rw [leftAt_B m c (⟨n + 1, hn⟩ : Fin cfg0.N) h0 h7]
      exact dv_B m c (⟨n + 1, hn⟩ : Fin cfg0.N) h0 h7 _ hp y
theorem sum_two (f : ℕ → EReal) (u : ℕ) : (∑ b ∈ Finset.range (2 * u), f b + f (2 * u)) + f (2 * u + 1) = ∑ b ∈ Finset.range (2 * u + 2), f b := by
  rw [Finset.sum_range_succ, Finset.sum_range_succ]
theorem sc_state : ∀ (n : ℕ) (hn : n < cfg0.N) (y), (leftAt m c n hn).sc y = ∑ b ∈ Finset.range (2 * (n % 8) + 2), dskB m c (hd (⟨n, hn⟩ : Fin cfg0.N)) b y := by
  intro n
  induction n with
  | zero =>
    intro hn y
    refine (sc_A m c (⟨0, hn⟩ : Fin cfg0.N) rfl y).trans (Eq.trans ?_ (sum_two _ _))
    rfl
  | succ n ih =>
    intro hn y
    by_cases h0 : (n + 1) % 8 = 0
    · rw [leftAt_A m c (⟨n + 1, hn⟩ : Fin cfg0.N) h0, sc_A m c (⟨n + 1, hn⟩ : Fin cfg0.N) h0 y, h0]
      refine Eq.trans ?_ (sum_two (fun b => dskB m c (hd (⟨n + 1, hn⟩ : Fin cfg0.N)) b y) 0)
      show _ = (∑ b ∈ Finset.range 0, _ + _) + _
      rw [Finset.sum_range_zero]
    have hp : (leftAt m c n (Nat.lt_of_succ_lt hn)).sc y = ∑ b ∈ Finset.range (2 * ((n + 1) % 8)), dskB m c (hd (⟨n + 1, hn⟩ : Fin cfg0.N)) b y := by
      rw [ih (Nat.lt_of_succ_lt hn) y, show 2 * ((n + 1) % 8) = 2 * (n % 8) + 2 by omega]
      exact congrArg (fun h => ∑ b ∈ Finset.range (2 * (n % 8) + 2), dskB m c h b y) (hd_pred (⟨n + 1, hn⟩ : Fin cfg0.N) h0)
    by_cases h7 : (n + 1) % 8 = 7
    · rw [leftAt_C m c (⟨n + 1, hn⟩ : Fin cfg0.N) h0 h7]
      refine (sc_C m c (⟨n + 1, hn⟩ : Fin cfg0.N) h0 h7 _ y).trans ?_
      rw [← sum_two, ← hp]
      rfl
    · rw [leftAt_B m c (⟨n + 1, hn⟩ : Fin cfg0.N) h0 h7]
      refine (sc_B m c (⟨n + 1, hn⟩ : Fin cfg0.N) h0 h7 _ y).trans ?_
      rw [← sum_two, ← hp]
      rfl
theorem dq_state (t : Fin cfg0.N) (y) : (leftAt m c t.val t.isLt).dq y = dqAt (dqB m c (hd t)) (t.val % 8) y := by
  by_cases h0 : t.val % 8 = 0
  · rw [leftAt_A m c t h0, dq_A]
  by_cases h7 : t.val % 8 = 7
  · rw [leftAt_C m c t h0 h7, dq_C]
  · rw [leftAt_B m c t h0 h7, dq_B]
theorem ds_state (t : Fin cfg0.N) (h7 : t.val % 8 = 7) (y : S1x8x1.Idx) : (leftAt m c t.val t.isLt).ds y
    = ∑ r : Fin 128, ∑ b ∈ Finset.range 16, dskB m c (hd t) b (ix2 ⟨128 * (y 1).val + r.val, by have : (y 1).val < 8 := (y 1).isLt; omega⟩ (0 : Fin 1)) := by
  rw [leftAt_C m c t (by omega) h7, ds_C, ← leftAt_C m c t (by omega) h7]
  refine Finset.sum_congr rfl fun r _ => ?_
  rw [sc_state, h7]

/-! ## The result arrays -/

/-- The gradients of the queries, keys, values and sinks, from the arrays the kernel is called with. -/
def dqF : S32x2048x64.Idx → EReal := fun i =>
  dqB m c ⟨(i 0).val / 8, by have : (i 0).val < 32 := (i 0).isLt; omega⟩ ((i 1).val / 128) (ix2 ⟨(i 0).val % 8 * 128 + (i 1).val % 128, by omega⟩ (i 2))
def dkF : S4x2048x64.Idx → EReal := fun i => accum (dkB m c (i 0)) 7 (ix3 (0 : Fin 1) (i 1) (i 2))
def dvF : S4x2048x64.Idx → EReal := fun i => accum (dvB m c (i 0)) 7 (ix3 (0 : Fin 1) (i 1) (i 2))
def dsF : S4x8x1.Idx → EReal := fun i =>
  ∑ r : Fin 128, ∑ b ∈ Finset.range 16, dskB m c (i 0) b (ix2 ⟨128 * (i 1).val + r.val, by have : (i 1).val < 8 := (i 1).isLt; omega⟩ (0 : Fin 1))

theorem dqF_at (h : Fin 4) (u : ℕ) (y : S8x256x64.Idx) (i : S32x2048x64.Idx) (z0 : (i 0).val = 8 * h.val + (y 0).val) (z1 : (i 1).val = 256 * u + (y 1).val)
    (z2 : i 2 = y 2) : dqAt (dqB m c h) u y = dqF m c i := by
  have hy0 : (y 0).val < 8 := (y 0).isLt
  have hy1 : (y 1).val < 256 := (y 1).isLt
  have hi0 : (i 0).val < 32 := (i 0).isLt
  unfold dqAt dqF
  have a1 : (⟨(i 0).val / 8, by omega⟩ : Fin 4) = h := Fin.ext (by show (i 0).val / 8 = h.val; omega)
  have a2 : (i 1).val / 128 = 2 * u + (y 1).val / 128 := by omega
  rw [a1, a2, z2]
  refine congrArg (dqB m c h _) (congrArg (fun k => ix2 k (y 2)) (Fin.ext ?_))
  show (y 0).val * 128 + (y 1).val % 128 = (i 0).val % 8 * 128 + (i 1).val % 128
  omega
theorem dsF_at (h : Fin 4) (y : S1x8x1.Idx) (i : S4x8x1.Idx) (z0 : i 0 = h) (z1 : i 1 = y 1) :
    (∑ r : Fin 128, ∑ b ∈ Finset.range 16, dskB m c h b (ix2 ⟨128 * (y 1).val + r.val, by have : (y 1).val < 8 := (y 1).isLt; omega⟩ (0 : Fin 1))) = dsF m c i := by
  subst z0
  have z : (y 1).val = (i 1).val := congrArg Fin.val z1.symm
  unfold dsF
  refine Finset.sum_congr rfl fun r _ => Finset.sum_congr rfl fun b _ => congrArg (dskB m c (i 0) b) (congrArg (fun k => ix2 k (0 : Fin 1)) (Fin.ext ?_))
  show 128 * (y 1).val + r.val = 128 * (i 1).val + r.val
  omega

theorem arr_dq : (dats m 0 c).arrAt 7 cfg0.N = dqF m c := by
  refine (dats m 0 c).arrAt_eq_of_cover 7 _ (fun t _ => ?_) (fun i => ?_)
  · show (cfg0.win 7).cut (grid0.coords t) ((dats m 0 c).after 7 t) = _
    rw [after_7]
    obtain ⟨e0, e1, e2⟩ := at_7 t
    funext y
    show (leftAt m c t.val t.isLt).dq y = dqF m c (((cfg0.win 7).blk t).view.emb y)
    rw [dq_state]
    have hy0 : (y 0).val < 8 := (y 0).isLt
    have hy1 : (y 1).val < 256 := (y 1).isLt
    have z0 : ((((cfg0.win 7).blk t).view.emb y) 0).val = 8 * (t.val / 8) + (y 0).val := by
      show win0_7.index t (0 : Fin 3) * 8 + 1 * (y 0).val = 8 * (t.val / 8) + (y 0).val; omega
    have z1 : ((((cfg0.win 7).blk t).view.emb y) 1).val = 256 * (t.val % 8) + (y 1).val := by
      show win0_7.index t (1 : Fin 3) * 256 + 1 * (y 1).val = 256 * (t.val % 8) + (y 1).val; omega
    have z2 : (((cfg0.win 7).blk t).view.emb y) 2 = y 2 := Fin.ext (by
      show win0_7.index t (2 : Fin 3) * 64 + 1 * (y 2).val = (y 2).val; omega)
    exact dqF_at m c (hd t) (t.val % 8) y _ z0 z1 z2
  · have hi0 : (i 0).val < 32 := (i 0).isLt
    have hi1 : (i 1).val < 2048 := (i 1).isLt
    have hi2 : (i 2).val < 64 := (i 2).isLt
    let t : Fin cfg0.N := ⟨8 * ((i 0).val / 8) + (i 1).val / 256, lt_of_lt_of_eq (by omega) (show 32 = cfg0.N from N_0.symm)⟩
    obtain ⟨e0, e1, e2⟩ := at_7 t
    have ht : t.val = 8 * ((i 0).val / 8) + (i 1).val / 256 := rfl
    refine ⟨t, flush0_7 t, ?_⟩
    show i ∈ ((View.whole main_v100_0).slice (win0_7.rect t)).set
    rw [View.set_slice_whole, Rect.mem_set_unit]
    intro a
    match a with
    | ⟨0, _⟩ => show win0_7.index t (0 : Fin 3) * 8 ≤ (i 0).val ∧ (i 0).val < win0_7.index t (0 : Fin 3) * 8 + 8; omega
    | ⟨1, _⟩ => show win0_7.index t (1 : Fin 3) * 256 ≤ (i 1).val ∧ (i 1).val < win0_7.index t (1 : Fin 3) * 256 + 256; omega
    | ⟨2, _⟩ => show win0_7.index t (2 : Fin 3) * 64 ≤ (i 2).val ∧ (i 2).val < win0_7.index t (2 : Fin 3) * 64 + 64; omega

theorem arr_dk : (dats m 0 c).arrAt 8 cfg0.N = dkF m c := by
  refine (dats m 0 c).arrAt_eq_of_cover 8 _ (fun t hf => ?_) (fun i => ?_)
  · have h7 : t.val % 8 = 7 := (flush0_8 t).mp hf
    show (cfg0.win 8).cut (grid0.coords t) ((dats m 0 c).after 8 t) = _
    rw [after_8]
    obtain ⟨e0, e1, e2⟩ := at_8 t
    funext y
    show (leftAt m c t.val t.isLt).dk y = dkF m c (((cfg0.win 8).blk t).view.emb y)
    have hy0 : (y 0).val < 1 := (y 0).isLt
    have z0 : (((cfg0.win 8).blk t).view.emb y) 0 = hd t := Fin.ext (by
      show win0_8.index t (0 : Fin 3) * 1 + 1 * (y 0).val = t.val / 8; omega)
    have z1 : (((cfg0.win 8).blk t).view.emb y) 1 = y 1 := Fin.ext (by
      show win0_8.index t (1 : Fin 3) * 2048 + 1 * (y 1).val = (y 1).val; omega)
    have z2 : (((cfg0.win 8).blk t).view.emb y) 2 = y 2 := Fin.ext (by
      show win0_8.index t (2 : Fin 3) * 64 + 1 * (y 2).val = (y 2).val; omega)
    unfold dkF
    rw [dk_state, h7, z0, z1, z2]
    refine congrArg (accum (dkB m c (hd t)) 7) ?_
    funext a
    match a with
    | ⟨0, _⟩ => exact Fin.ext (show (y 0).val = 0 by omega)
    | ⟨1, _⟩ => rfl
    | ⟨2, _⟩ => rfl
  · have hi0 : (i 0).val < 4 := (i 0).isLt
    have hi1 : (i 1).val < 2048 := (i 1).isLt
    have hi2 : (i 2).val < 64 := (i 2).isLt
    let t : Fin cfg0.N := ⟨8 * (i 0).val + 7, lt_of_lt_of_eq (by omega) (show 32 = cfg0.N from N_0.symm)⟩
    obtain ⟨e0, e1, e2⟩ := at_8 t
    have ht : t.val = 8 * (i 0).val + 7 := rfl
    refine ⟨t, (flush0_8 t).mpr (by omega), ?_⟩
    show i ∈ ((View.whole main_v100_1).slice (win0_8.rect t)).set
    rw [View.set_slice_whole, Rect.mem_set_unit]
    intro a
    match a with
    | ⟨0, _⟩ => show win0_8.index t (0 : Fin 3) * 1 ≤ (i 0).val ∧ (i 0).val < win0_8.index t (0 : Fin 3) * 1 + 1; omega
    | ⟨1, _⟩ => show win0_8.index t (1 : Fin 3) * 2048 ≤ (i 1).val ∧ (i 1).val < win0_8.index t (1 : Fin 3) * 2048 + 2048; omega
    | ⟨2, _⟩ => show win0_8.index t (2 : Fin 3) * 64 ≤ (i 2).val ∧ (i 2).val < win0_8.index t (2 : Fin 3) * 64 + 64; omega

theorem arr_dv : (dats m 0 c).arrAt 9 cfg0.N = dvF m c := by
  refine (dats m 0 c).arrAt_eq_of_cover 9 _ (fun t hf => ?_) (fun i => ?_)
  · have h7 : t.val % 8 = 7 := (flush0_9 t).mp hf
    show (cfg0.win 9).cut (grid0.coords t) ((dats m 0 c).after 9 t) = _
    rw [after_9]
    obtain ⟨e0, e1, e2⟩ := at_9 t
    funext y
    show (leftAt m c t.val t.isLt).dv y = dvF m c (((cfg0.win 9).blk t).view.emb y)
    have hy0 : (y 0).val < 1 := (y 0).isLt
    have z0 : (((cfg0.win 9).blk t).view.emb y) 0 = hd t := Fin.ext (by
      show win0_9.index t (0 : Fin 3) * 1 + 1 * (y 0).val = t.val / 8; omega)
    have z1 : (((cfg0.win 9).blk t).view.emb y) 1 = y 1 := Fin.ext (by
      show win0_9.index t (1 : Fin 3) * 2048 + 1 * (y 1).val = (y 1).val; omega)
    have z2 : (((cfg0.win 9).blk t).view.emb y) 2 = y 2 := Fin.ext (by
      show win0_9.index t (2 : Fin 3) * 64 + 1 * (y 2).val = (y 2).val; omega)
    unfold dvF
    rw [dv_state, h7, z0, z1, z2]
    refine congrArg (accum (dvB m c (hd t)) 7) ?_
    funext a
    match a with
    | ⟨0, _⟩ => exact Fin.ext (show (y 0).val = 0 by omega)
    | ⟨1, _⟩ => rfl
    | ⟨2, _⟩ => rfl
  · have hi0 : (i 0).val < 4 := (i 0).isLt
    have hi1 : (i 1).val < 2048 := (i 1).isLt
    have hi2 : (i 2).val < 64 := (i 2).isLt
    let t : Fin cfg0.N := ⟨8 * (i 0).val + 7, lt_of_lt_of_eq (by omega) (show 32 = cfg0.N from N_0.symm)⟩
    obtain ⟨e0, e1, e2⟩ := at_9 t
    have ht : t.val = 8 * (i 0).val + 7 := rfl
    refine ⟨t, (flush0_9 t).mpr (by omega), ?_⟩
    show i ∈ ((View.whole main_v100_2).slice (win0_9.rect t)).set
    rw [View.set_slice_whole, Rect.mem_set_unit]
    intro a
    match a with
    | ⟨0, _⟩ => show win0_9.index t (0 : Fin 3) * 1 ≤ (i 0).val ∧ (i 0).val < win0_9.index t (0 : Fin 3) * 1 + 1; omega
    | ⟨1, _⟩ => show win0_9.index t (1 : Fin 3) * 2048 ≤ (i 1).val ∧ (i 1).val < win0_9.index t (1 : Fin 3) * 2048 + 2048; omega
    | ⟨2, _⟩ => show win0_9.index t (2 : Fin 3) * 64 ≤ (i 2).val ∧ (i 2).val < win0_9.index t (2 : Fin 3) * 64 + 64; omega

theorem arr_ds : (dats m 0 c).arrAt 10 cfg0.N = dsF m c := by
  refine (dats m 0 c).arrAt_eq_of_cover 10 _ (fun t hf => ?_) (fun i => ?_)
  · have h7 : t.val % 8 = 7 := (flush0_10 t).mp hf
    show (cfg0.win 10).cut (grid0.coords t) ((dats m 0 c).after 10 t) = _
    rw [after_10]
    obtain ⟨e0, e1, e2⟩ := at_10 t
    funext y
    show (leftAt m c t.val t.isLt).ds y = dsF m c (((cfg0.win 10).blk t).view.emb y)
    have hy0 : (y 0).val < 1 := (y 0).isLt
    have z0 : (((cfg0.win 10).blk t).view.emb y) 0 = hd t := Fin.ext (by
      show win0_10.index t (0 : Fin 3) * 1 + 1 * (y 0).val = t.val / 8; omega)
    have z1 : (((cfg0.win 10).blk t).view.emb y) 1 = y 1 := Fin.ext (by
      show win0_10.index t (1 : Fin 3) * 8 + 1 * (y 1).val = (y 1).val; omega)
    have z2 : (((cfg0.win 10).blk t).view.emb y) 2 = y 2 := Fin.ext (by
      show win0_10.index t (2 : Fin 3) * 1 + 1 * (y 2).val = (y 2).val; omega)
    exact (ds_state m c t h7 y).trans (dsF_at m c (hd t) y _ z0 z1)
  · have hi0 : (i 0).val < 4 := (i 0).isLt
    have hi1 : (i 1).val < 8 := (i 1).isLt
    have hi2 : (i 2).val < 1 := (i 2).isLt
    let t : Fin cfg0.N := ⟨8 * (i 0).val + 7, lt_of_lt_of_eq (by omega) (show 32 = cfg0.N from N_0.symm)⟩
    obtain ⟨e0, e1, e2⟩ := at_10 t
    have ht : t.val = 8 * (i 0).val + 7 := rfl
    refine ⟨t, (flush0_10 t).mpr (by omega), ?_⟩
    show i ∈ ((View.whole main_v100_3).slice (win0_10.rect t)).set
    rw [View.set_slice_whole, Rect.mem_set_unit]
    intro a
    match a with
    | ⟨0, _⟩ => show win0_10.index t (0 : Fin 3) * 1 ≤ (i 0).val ∧ (i 0).val < win0_10.index t (0 : Fin 3) * 1 + 1; omega
    | ⟨1, _⟩ => show win0_10.index t (1 : Fin 3) * 8 ≤ (i 1).val ∧ (i 1).val < win0_10.index t (1 : Fin 3) * 8 + 8; omega
    | ⟨2, _⟩ => show win0_10.index t (2 : Fin 3) * 1 ≤ (i 2).val ∧ (i 2).val < win0_10.index t (2 : Fin 3) * 1 + 1; omega

end Cert.KernelIdeal.Gen

end
-- ==== Proof.Swa.Grads.lean ====
/- The attention's gradients, from finite arguments: the four arrays the kernel leaves are the reference's. -/
module

public import proofs.«01_k».proof.Proof.Swa.Host
public import proofs.«01_k».proof.Proof.Swa.Match
public import proofs.«01_k».proof.Proof.Swa.Arrays

@[expose] public section

set_option maxRecDepth 16384

noncomputable section

namespace Cert.Swa

open Idealize.ShloMosaic

theorem rows_at {n d : ℕ} (hn : 32 ≤ n) (A : (⟨3, ![n, 2048, d]⟩ : Shape).Idx → EReal) (h : Fin 4) (b : Fin 16) (j : Fin 8) (i : Fin 128) (k : Fin d) :
    rows hn A h b.val (ix2 (row8 j i) k) = A (ix3 (⟨8 * h.val + j.val, by omega⟩ : Fin n) (at_row b i) k) := by
  refine congrArg₂ (fun p q => A (ix3 p q k)) (Fin.ext ?_) (Fin.ext ?_)
  · show 8 * h.val + (128 * j.val + i.val) / 128 = 8 * h.val + j.val
    omega
  · show (128 * b.val + (128 * j.val + i.val) % 128) % 2048 = 128 * b.val + i.val
    omega
theorem keys_at (o : ℕ) (ho : o + 4 ≤ 40) (A : (⟨3, ![40, 2048, 64]⟩ : Shape).Idx → EReal) (h : Fin 4) (b : Fin 16) (y : Fin 256) (k : Fin 64)
    (hy : 128 ≤ 128 * b.val + y.val) :
    keys o ho A h b.val (ix2 y k) = A (ix3 (⟨o + h.val, by omega⟩ : Fin 40) (⟨128 * b.val + y.val - 128, by omega⟩ : Fin 2048) k) := by
  unfold keys
  by_cases h1 : y.val < 128
  · refine (if_pos h1).trans (congrArg (fun q => A (ix3 _ q k)) (Fin.ext ?_))
    show ((128 * b.val - 128) + y.val) % 2048 = 128 * b.val + y.val - 128
    omega
  · refine (if_neg h1).trans (congrArg (fun q => A (ix3 _ q k)) (Fin.ext ?_))
    show (128 * b.val + (y.val - 128)) % 2048 = 128 * b.val + y.val - 128
    omega

end Cert.Swa

namespace Cert.KernelIdeal.Gen

open Idealize.ShloMosaic Idealize.ShloMosaic.TcCoe Cert.Swa

variable (m : (ℓ : Loc nD τ sig) → Buf (Elt Ideal) ℓ) (c : Dev nD)

section block
variable (h : Fin 4) (b : Fin 16) (j : Fin 8) (i : Fin 128) (y : Fin 256) (d : Fin 64)
theorem qB_at : qB m c h b.val (ix2 (row8 j i) d) = qAt (a0 m c) h j b i d := (rows_at _ _ h b j i d).trans (qkvA_at m c _ _ d)
theorem dyB_at : dyB m c h b.val (ix2 (row8 j i) d) = gAt (a2 m c) h j b i d := (rows_at _ _ h b j i d).trans (dyA_at m c _ _ d)
theorem oB_at : oB m c h b.val (ix2 (row8 j i) d) = Ideal.div (numAt (a0 m c) (a1 m c) h j b i d) (totAt (a0 m c) (a1 m c) h j b i) :=
  (rows_at _ _ h b j i d).trans (oA_at m c h j b i d)
theorem lseB_at : lseB m c h b.val (ix2 (row8 j i) (0 : Fin 1)) = lseAt (a0 m c) (a1 m c) h j b i :=
  (rows_at _ _ h b j i (0 : Fin 1)).trans (lseA_at m c h j b i)
theorem skB_at : sinkRows (sinkA m c) h (ix2 (row8 j i) (0 : Fin 1)) = sinkAt (a1 m c) h j := sinkA_at m c h j i
theorem kB_at (hy : 128 ≤ 128 * b.val + y.val) : kB m c h b.val (ix2 y d) = kAt (a0 m c) h b y d 0 (by norm_num) := by
  refine (keys_at _ _ _ h b y d hy).trans ((qkvA_at m c _ _ d).trans ?_)
  unfold kAt
  rw [dif_pos hy]
  refine congrArg (fun q : Fin 2560 => a0 m c (ix2 _ q)) (Fin.ext ?_)
  show 64 * (32 + h.val) + d.val = 2048 + 0 + 64 * h.val + d.val
  omega
theorem vB_at (hy : 128 ≤ 128 * b.val + y.val) : vB m c h b.val (ix2 y d) = vAt (a0 m c) h b y d := by
  refine (keys_at _ _ _ h b y d hy).trans ((qkvA_at m c _ _ d).trans ?_)
  unfold vAt kAt
  rw [dif_pos hy]
  refine congrArg (fun q : Fin 2560 => a0 m c (ix2 _ q)) (Fin.ext ?_)
  show 64 * (36 + h.val) + d.val = 2048 + 256 + 64 * h.val + d.val
  omega

variable (f0 : ∀ k, ∃ r : ℝ, a0 m c k = (r : EReal)) (f1 : ∀ k, ∃ r : ℝ, a1 m c k = (r : EReal)) (f2 : ∀ k, ∃ r : ℝ, a2 m c k = (r : EReal))
include f0 f1 f2

theorem dqB_at : dqB m c h b.val (ix2 (row8 j i) d) = Cert.ReferenceIdeal.Read.val_main_v168 (F := Ideal) (a0 m c) (a1 m c) (a2 m c) (ix6 (0 : Fin 1) h j b i d) :=
  dq_at (a0 m c) (a1 m c) (a2 m c) h b j i d (qB m c h b.val) (dyB m c h b.val) (oB m c h b.val) (lseB m c h b.val) (kB m c h b.val) (vB m c h b.val)
    (fun j i d => qB_at m c h b j i d) (fun j i d => dyB_at m c h b j i d) (fun j i d => oB_at m c h b j i d) (fun j i => lseB_at m c h b j i)
    (fun y d hy => kB_at m c h b y d hy) (fun y d hy => vB_at m c h b y d hy) f0 f1 f2
theorem dkB_at : dkB m c h b.val (ix2 y d) = Cert.ReferenceIdeal.Read.val_main_v169 (F := Ideal) (a0 m c) (a1 m c) (a2 m c) (ix5 (0 : Fin 1) h b y d) :=
  dk_at (a0 m c) (a1 m c) (a2 m c) h b y d (qB m c h b.val) (dyB m c h b.val) (oB m c h b.val) (lseB m c h b.val) (kB m c h b.val) (vB m c h b.val)
    (fun j i d => qB_at m c h b j i d) (fun j i d => dyB_at m c h b j i d) (fun j i d => oB_at m c h b j i d) (fun j i => lseB_at m c h b j i)
    (fun y d hy => kB_at m c h b y d hy) (fun y d hy => vB_at m c h b y d hy) f0 f1 f2
theorem dvB_at : dvB m c h b.val (ix2 y d) = Cert.ReferenceIdeal.Read.val_main_v135 (F := Ideal) (a0 m c) (a1 m c) (a2 m c) (ix5 (0 : Fin 1) h b y d) :=
  dv_at (a0 m c) (a1 m c) (a2 m c) h b y d (qB m c h b.val) (dyB m c h b.val) (lseB m c h b.val) (kB m c h b.val)
    (fun j i d => qB_at m c h b j i d) (fun j i d => dyB_at m c h b j i d) (fun j i => lseB_at m c h b j i)
    (fun y d hy => kB_at m c h b y d hy) f0 f1 f2
omit f0 f1 f2 in
theorem dskB_at : dskB m c h b.val (ix2 (row8 j i) (0 : Fin 1)) = (0 - Ideal.exp (sinkAt (a1 m c) h j - lseAt (a0 m c) (a1 m c) h j b i))
    * (∑ d, Ideal.div (numAt (a0 m c) (a1 m c) h j b i d) (totAt (a0 m c) (a1 m c) h j b i) * gAt (a2 m c) h j b i d) :=
  dsink_at (a0 m c) (a1 m c) (a2 m c) h b j i (dyB m c h b.val) (oB m c h b.val) (lseB m c h b.val) (sinkRows (sinkA m c) h)
    (fun j i d => dyB_at m c h b j i d) (fun j i d => oB_at m c h b j i d) (fun j i => lseB_at m c h b j i) (fun j i => skB_at m c h j i)
end block

variable (f0 : ∀ k, ∃ r : ℝ, a0 m c k = (r : EReal)) (f1 : ∀ k, ∃ r : ℝ, a1 m c k = (r : EReal)) (f2 : ∀ k, ∃ r : ℝ, a2 m c k = (r : EReal))
include f0 f1 f2

theorem dqF_ref : dqF m c = Cert.ReferenceIdeal.Read.val_main_v189 (F := Ideal) (a0 m c) (a1 m c) (a2 m c) := by
  funext z
  have z0 : (z 0).val < 32 := (z 0).isLt
  have z1 : (z 1).val < 2048 := (z 1).isLt
  have e : z = ix3 (⟨8 * (⟨(z 0).val / 8, by omega⟩ : Fin 4).val + (⟨(z 0).val % 8, by omega⟩ : Fin 8).val, by omega⟩ : Fin 32)
      (at_row ⟨(z 1).val / 128, by omega⟩ ⟨(z 1).val % 128, by omega⟩) (z 2) := by
    refine (eq_ix3 z).trans (congrArg₂ (fun p q => ix3 p q (z 2)) (Fin.ext ?_) (Fin.ext ?_))
    · show (z 0).val = 8 * ((z 0).val / 8) + (z 0).val % 8
      omega
    · show (z 1).val = 128 * ((z 1).val / 128) + (z 1).val % 128
      omega
  refine Eq.trans ?_ ((dqB_at m c _ _ _ _ _ f0 f1 f2).trans
    ((r189 (a0 m c) (a1 m c) (a2 m c) ⟨(z 0).val / 8, by omega⟩ ⟨(z 0).val % 8, by omega⟩ ⟨(z 1).val / 128, by omega⟩ ⟨(z 1).val % 128, by omega⟩ (z 2)).symm.trans
      (congrArg _ e.symm)))
  exact congrArg (fun r : Fin 1024 => dqB m c ⟨(z 0).val / 8, by omega⟩ ((z 1).val / 128) (ix2 r (z 2)))
    (Fin.ext (show (z 0).val % 8 * 128 + (z 1).val % 128 = 128 * ((z 0).val % 8) + (z 1).val % 128 by omega))

omit f0 f1 f2 in
theorem split_row (z : S4x2048x64.Idx) : z = ix3 (z 0) (at_row ⟨(z 1).val / 128, by have : (z 1).val < 2048 := (z 1).isLt; omega⟩ ⟨(z 1).val % 128, by omega⟩) (z 2) := by
  refine (eq_ix3 z).trans (congrArg (fun q => ix3 (z 0) q (z 2)) (Fin.ext ?_))
  show (z 1).val = 128 * ((z 1).val / 128) + (z 1).val % 128
  omega
theorem dkF_ref : dkF m c = Cert.ReferenceIdeal.Read.val_main_v190 (F := Ideal) (a0 m c) (a1 m c) (a2 m c) := by
  funext z
  refine (congrArg (dkF m c) (split_row z)).trans (Eq.trans ?_
    ((r190 (a0 m c) (a1 m c) (a2 m c) (z 0) ⟨(z 1).val / 128, by have : (z 1).val < 2048 := (z 1).isLt; omega⟩ ⟨(z 1).val % 128, by omega⟩ (z 2)).symm.trans (congrArg _ (split_row z).symm)))
  exact accum_both _ _ _ _ _ _ (fun b y d => dkB_at m c _ b y d f0 f1 f2)
theorem dvF_ref : dvF m c = Cert.ReferenceIdeal.Read.val_main_v191 (F := Ideal) (a0 m c) (a1 m c) (a2 m c) := by
  funext z
  refine (congrArg (dvF m c) (split_row z)).trans (Eq.trans ?_
    ((r191 (a0 m c) (a1 m c) (a2 m c) (z 0) ⟨(z 1).val / 128, by have : (z 1).val < 2048 := (z 1).isLt; omega⟩ ⟨(z 1).val % 128, by omega⟩ (z 2)).symm.trans (congrArg _ (split_row z).symm)))
  exact accum_both _ _ _ _ _ _ (fun b y d => dvB_at m c _ b y d f0 f1 f2)
theorem dsF_ref : dsF m c = Cert.ReferenceIdeal.Read.val_main_v192 (F := Ideal) (a0 m c) (a1 m c) (a2 m c) := by
  funext z
  have e : z = ix3 (z 0) (z 1) (0 : Fin 1) := by
    refine (eq_ix3 z).trans (congrArg (fun q => ix3 (z 0) (z 1) q) (Fin.ext ?_))
    have z2 : (z 2).val < 1 := (z 2).isLt
    show (z 2).val = 0
    omega
  rw [e]
  refine Eq.trans ?_ (r192 (a0 m c) (a1 m c) (a2 m c) (z 0) (z 1) f0 f1 f2).symm
  show (∑ r : Fin 128, ∑ b ∈ Finset.range 16, dskB m c (z 0) b (ix2 (row8 (z 1) r) (0 : Fin 1))) = _
  rw [Finset.sum_comm, Finset.sum_range]
  exact Finset.sum_congr rfl fun b _ => Finset.sum_congr rfl fun i _ => dskB_at m c (z 0) b (z 1) i

end Cert.KernelIdeal.Gen

end
-- ==== Proof.Swa.Claims.lean ====
/- The claim about the attention's backward call: from finite arguments the kernel leaves the reference's gradients. -/
module

public import proofs.«01_k».proof.Defs
public import proofs.«01_k».proof.Proof.Swa.Grads
public import proofs.«01_k».proof.Proof.Swa.Body
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.ShloMosaic.TcCoe Idealize.SL.Sem

/-- The precondition's broadcasts. -/
theorem finite_facts : Cert.Pre_finite.Facts where
  bcast_S_S2048x2560 := by decide
  bcast_S_S32 := by decide
  bcast_S_S2048x2048 := by decide

instance : Cert.Pre_finite.Facts := finite_facts

/-- A number whose size is below infinity is real. -/
theorem real_of_below (x : EReal) (h : BitVec.ofBool (decide (max x (-x) < Ideal.ofBits .f32 0x7F800000#32)) = 1#1) : ∃ r : ℝ, x = (r : EReal) := by
  have e : Ideal.ofBits .f32 0x7F800000#32 = ⊤ := by simp [Ideal.ofBits, Ideal.ieee]
  have hl : max x (-x) < ⊤ := by
    by_contra hc
    rw [e, decide_eq_false hc] at h
    exact absurd h (by decide)
  induction x using EReal.rec with
  | bot => exact absurd hl (by simp)
  | top => exact absurd hl (by simp)
  | coe r => exact ⟨r, rfl⟩

theorem finite_real (m : (ℓ : Loc Cert.KernelIdeal.nD Cert.KernelIdeal.τ Cert.KernelIdeal.sig) → Buf (Elt Ideal) ℓ) (hp : Cert.Pre_KernelIdeal_finite m) (c : Dev Cert.KernelIdeal.nD) :
    (∀ k, ∃ r : ℝ, Cert.KernelIdeal.Gen.a0 m c k = (r : EReal)) ∧ (∀ k, ∃ r : ℝ, Cert.KernelIdeal.Gen.a1 m c k = (r : EReal))
      ∧ (∀ k, ∃ r : ℝ, Cert.KernelIdeal.Gen.a2 m c k = (r : EReal)) := by
  obtain ⟨p0, p1, p2⟩ := hp c
  exact ⟨fun k => real_of_below _ (congrFun p0 k), fun k => real_of_below _ (congrFun p1 k), fun k => real_of_below _ (congrFun p2 k)⟩

end Cert.Proof

namespace Cert.KernelIdeal.Gen

open Idealize.ShloMosaic Idealize.ShloMosaic.TcCoe Idealize.SL.Sem

section run
variable (m : (ℓ : Loc nD τ sig) → Buf (Elt Ideal) ℓ) (ρ : Dev nD → PrngReg)
  (r : PUnit × MemSt nD τ sig (Elt Ideal)) (h : Pipeline.FramePost cfgs (dats m) 0 (V m) r) (c : Dev nD)
include h
theorem out_dq : r.2.mem ((c : Thread nD τ).loc main_v100_0) = dqF m c := by
  have e : r.2.mem ((c : Thread nD τ).loc main_v100_0) = (dats m 0 c).arrAt 7 cfg0.N := (h c).1 7
  exact e.trans (arr_dq m c)
theorem out_dk : r.2.mem ((c : Thread nD τ).loc main_v100_1) = dkF m c := by
  have e : r.2.mem ((c : Thread nD τ).loc main_v100_1) = (dats m 0 c).arrAt 8 cfg0.N := (h c).1 8
  exact e.trans (arr_dk m c)
theorem out_dv : r.2.mem ((c : Thread nD τ).loc main_v100_2) = dvF m c := by
  have e : r.2.mem ((c : Thread nD τ).loc main_v100_2) = (dats m 0 c).arrAt 9 cfg0.N := (h c).1 9
  exact e.trans (arr_dv m c)
theorem out_ds : r.2.mem ((c : Thread nD τ).loc main_v100_3) = dsF m c := by
  have e : r.2.mem ((c : Thread nD τ).loc main_v100_3) = (dats m 0 c).arrAt 10 cfg0.N := (h c).1 10
  exact e.trans (arr_ds m c)
theorem kept0 : r.2.mem ((c : Thread nD τ).loc main_arg0) = m ((c : Thread nD τ).loc main_arg0) :=
  ((h c).2 main_arg0 (Pipeline.mem_restRefs_of main_arg0 (by decide) (by decide))).trans (V_main_arg0 m c)
theorem kept1 : r.2.mem ((c : Thread nD τ).loc main_arg1) = m ((c : Thread nD τ).loc main_arg1) :=
  ((h c).2 main_arg1 (Pipeline.mem_restRefs_of main_arg1 (by decide) (by decide))).trans (V_main_arg1 m c)
theorem kept2 : r.2.mem ((c : Thread nD τ).loc main_arg2) = m ((c : Thread nD τ).loc main_arg2) :=
  ((h c).2 main_arg2 (Pipeline.mem_restRefs_of main_arg2 (by decide) (by decide))).trans (V_main_arg2 m c)
end run

theorem swa_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v100_0) = dqF m c
      ∧ r.2.mem ((c.tc : Thread nD τ).loc main_v100_1) = dkF m c
      ∧ r.2.mem ((c.tc : Thread nD τ).loc main_v100_2) = dvF m c
      ∧ r.2.mem ((c.tc : Thread nD τ).loc main_v100_3) = dsF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨out_dq m r h c, out_dk m r h c, out_dv m r h c, out_ds m r h c, kept0 m r h c, kept1 m r h c, kept2 m r h c⟩)
    (run_main m ρ)

end Cert.KernelIdeal.Gen

namespace Cert.Proof

open Idealize.ShloMosaic Idealize.ShloMosaic.TcCoe Idealize.SL.Sem

theorem algebraic1 : Cert.algebraic_KernelIdeal_ReferenceIdeal_pre_finite := by
  intro m ρ m' ρ' hp harg
  refine ⟨fun c => Cert.KernelIdeal.Gen.dqF m c, fun c => Cert.KernelIdeal.Gen.dkF m c, fun c => Cert.KernelIdeal.Gen.dvF m c, fun c => Cert.KernelIdeal.Gen.dsF m c,
    Cert.KernelIdeal.Gen.swa_run m ρ, (θ_run Cert.ReferenceIdeal.defs _ _).mono (fun r h c => ?_) (Cert.ReferenceIdeal.Value.run (F := Ideal) m' ρ')⟩
  obtain ⟨e0, e1, e2⟩ := harg c
  obtain ⟨f0, f1, f2⟩ := finite_real m hp c
  obtain ⟨h0, h1, h2, h3, h4⟩ := h c
  refine ⟨h0.trans ?_, h1.trans ?_, h2.trans ?_, h3.trans ?_, h4⟩
  · rw [Cert.ReferenceIdeal.Read.val_main_v189_eq]
    show Cert.ReferenceIdeal.Read.val_main_v189 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    rw [e0, e1, e2]
    exact (Cert.KernelIdeal.Gen.dqF_ref m c f0 f1 f2).symm
  · rw [Cert.ReferenceIdeal.Read.val_main_v190_eq]
    show Cert.ReferenceIdeal.Read.val_main_v190 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    rw [e0, e1, e2]
    exact (Cert.KernelIdeal.Gen.dkF_ref m c f0 f1 f2).symm
  · rw [Cert.ReferenceIdeal.Read.val_main_v191_eq]
    show Cert.ReferenceIdeal.Read.val_main_v191 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    rw [e0, e1, e2]
    exact (Cert.KernelIdeal.Gen.dvF_ref m c f0 f1 f2).symm
  · rw [Cert.ReferenceIdeal.Read.val_main_v192_eq]
    show Cert.ReferenceIdeal.Read.val_main_v192 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
    rw [e0, e1, e2]
    exact (Cert.KernelIdeal.Gen.dsF_ref m c f0 f1 f2).symm

end Cert.Proof

end
-- ==== Proof.Proj.P5.lean ====
/- What the product with an accumulator carried over 8 steps leaves (the gradient reaching the even layers' first product's input), at the
   extended reals: each block of the result is the sum of its 8 partial products. -/
module

public import proofs.«01_k».proof.Proof.Gen.Kernel5Ideal.Value
public import Idealize.ShloMosaic.Lib.Pointwise
public import proofs.«01_k».proof.Proof.Mm

@[expose] public section

set_option maxRecDepth 16384

noncomputable section

namespace Cert.Kernel5Ideal.Gen

open Idealize.ShloMosaic Idealize.ShloMosaic.TcCoe Idealize.SL.Sem Idealize.ShloMosaic.StableHlo
open Cert.Kernel5Ideal.Value

/-! ## What each case leaves -/

section Cases

variable (c : Dev nD) (i : grid0.Coords) (arg3 : Memref sig .tc .vmem S1024x896 .bf16) (harg3 : arg3.IsWhole) (arg4 : Memref sig .tc .vmem S1x1x1024x896 .bf16) (harg4 : arg4.IsWhole) (arg5 : Memref sig .tc .vmem S1024x1024 .f32) (harg5 : arg5.IsWhole) (arg6 : Memref sig .tc .vmem S1024x1024 .f32) (harg6 : arg6.IsWhole)

/-- The accumulator after a first step. -/
theorem sout0_A_0_eq (hc0 : cond0_0 i) (hc1 : ¬cond0_1 i) (hc2 : ¬cond0_2 i) (x0 : Vec Ideal S1024x896 .bf16) (x1 : Vec Ideal S1x1x1024x896 .bf16) :
    sout0_A_0 (F := Ideal) c i arg3 harg3 arg4 harg4 arg5 harg5 arg6 harg6 hc0 hc1 hc2 x0 x1 = k0_pay1 x1 x0 := by
  unfold sout0_A_0
  rw [View.read_writes_junk_eq_canon]
  unfold kernelRun0_A
  dsimp only
  rw [View.canon_unit_zero (by funext a; fin_cases a <;> rfl)]
  simp only [View.readAt_eq_ld, harg4.read_unread, harg3.read_unread]
  repeat rw [View.ld_unit_zero (by funext a; fin_cases a <;> rfl)]

/-- The accumulator after a further step. -/
theorem sout0_B_0_eq (hc0 : ¬cond0_0 i) (hc1 : cond0_1 i) (hc2 : ¬cond0_2 i) (x0 : Vec Ideal S1024x896 .bf16) (x1 : Vec Ideal S1x1x1024x896 .bf16) (xs0 : Vec Ideal S1024x1024 .f32) :
    sout0_B_0 (F := Ideal) c i arg3 harg3 arg4 harg4 arg5 harg5 arg6 harg6 hc0 hc1 hc2 x0 x1 xs0 = k0_pay2 xs0 x1 x0 := by
  unfold sout0_B_0
  rw [View.read_writes_junk_eq_canon]
  unfold kernelRun0_B
  dsimp only
  rw [View.canon_unit_zero (by funext a; fin_cases a <;> rfl)]
  simp only [View.readAt_eq_ld, harg6.read_unread, harg4.read_unread, harg3.read_unread]
  repeat rw [View.ld_unit_zero (by funext a; fin_cases a <;> rfl)]

/-- The output block after a last step. -/
theorem out0_C_2_eq (hc0 : ¬cond0_0 i) (hc1 : cond0_1 i) (hc2 : cond0_2 i) (x0 : Vec Ideal S1024x896 .bf16) (x1 : Vec Ideal S1x1x1024x896 .bf16) (xs0 : Vec Ideal S1024x1024 .f32) :
    out0_C_2 (F := Ideal) c i arg3 harg3 arg4 harg4 arg5 harg5 arg6 harg6 hc0 hc1 hc2 x0 x1 xs0 = k0_pay2 xs0 x1 x0 := by
  unfold out0_C_2
  rw [View.read_writes_junk_eq_canon]
  unfold kernelRun0_C
  dsimp only
  rw [View.canon_unit_zero (by funext a; fin_cases a <;> rfl)]
  unfold kernelRun0_C.sl.v9 kernelRun0_C.sl.HS0_1
  rw [View.readCov_cons_toLoadRect]
  simp only [View.readAt_eq_ld, harg6.read_unread, harg4.read_unread, harg3.read_unread]
  repeat rw [View.ld_unit_zero (by funext a; fin_cases a <;> rfl)]

end Cases

/-! ## The partial products -/

/-- One step's partial product at an entry of the block. -/
def part (a : Vec Ideal S1024x896 .bf16) (b : Vec Ideal S1x1x1024x896 .bf16) (y : S1024x1024.Idx) : EReal :=
  ∑ k : Fin 896, a (ix2 (y 0) k) * b (ix4 (0 : Fin 1) (0 : Fin 1) (y 1) k)

theorem pay1_apply (a : Vec Ideal S1024x896 .bf16) (b : Vec Ideal S1x1x1024x896 .bf16) (y : S1024x1024.Idx) :
    k0_pay1 b a y = part a b y := by
  unfold part
  pointwise [k0_pay1]

theorem pay2_apply (s : Vec Ideal S1024x1024 .f32) (a : Vec Ideal S1024x896 .bf16) (b : Vec Ideal S1x1x1024x896 .bf16)
    (y : S1024x1024.Idx) : k0_pay2 s b a y = s y + part a b y := by
  unfold part
  pointwise [k0_pay2]

variable (m : (ℓ : Loc nD τ sig) → Buf (Elt Ideal) ℓ) (ρ : Dev nD → PrngReg)

/-- Point `n`'s partial product. -/
def partAt (c : Dev nD) (n : ℕ) (y : S1024x1024.Idx) : EReal :=
  if h : n < cfg0.N then part (iblk m c 0 ⟨n, h⟩) (iblk m c 1 ⟨n, h⟩) y else 0

/-- The accumulator after point `t`, before a block's last step: the partial products so far. -/
theorem acc_apply (c : Dev nD) (t : Fin cfg0.N) (ht : t.val % 8 < 7) (y : S1024x1024.Idx) :
    (outsAt0 m c t.val t.isLt).2 y = ∑ s ∈ Finset.range (t.val % 8 + 1), partAt m c (8 * (t.val / 8) + s) y := by
  rw [soutsAt0_0_eq]
  refine (Pipeline.accAt_add_apply (β := EReal) _ _ (fun _ => 0) (partAt m c) (8 * (t.val / 8)) 6
    (fun h i => ?_) (fun n h acc i hb he => ?_) (t.val % 8) (by omega) _ y).trans (zero_add _)
  · unfold scAt0_0 partAt
    rw [dif_pos (by omega), dif_neg (by omega), dif_neg (by omega), dif_pos h, sout0_A_0_eq, pay1_apply]
    exact (zero_add _).symm
  · unfold scAt0_0 partAt
    rw [dif_neg (by omega), dif_pos (by omega), dif_neg (by omega), dif_pos h, sout0_B_0_eq, pay2_apply]

/-- Where the windows stand at a point. -/
theorem at0 : ∀ t : Fin cfg0.N, win0_0.index t (0 : Fin 2) = t.val / 16
    ∧ win0_0.index t (1 : Fin 2) = t.val % 8
    ∧ win0_1.index t (0 : Fin 4) = t.val % 8
    ∧ win0_1.index t (1 : Fin 4) = 0
    ∧ win0_1.index t (2 : Fin 4) = t.val / 8 % 2
    ∧ win0_1.index t (3 : Fin 4) = 0
    ∧ win0_2.index t (0 : Fin 2) = t.val / 16
    ∧ win0_2.index t (1 : Fin 2) = t.val / 8 % 2 :=
  (by decide +kernel : ∀ t : Fin grid0.N, _)

/-- The 8 partial products of the block flushed at `t` add up to the whole product's entries. -/
theorem parts_sum (c : Dev nD) (t : Fin cfg0.N) (y : S1024x1024.Idx) :
    ∑ s ∈ Finset.range 8, partAt m c (8 * (t.val / 8) + s) y
      = Mm.nt (V m c main_v0) (Mm.ofCols (rfl : 7168 = 8 * 896) (V m c main_v3)) (((cfg0.win 2).blk t).view.emb y) := by
  have hN : cfg0.N = 32 := N_0
  let i : S2048x2048.Idx := ((cfg0.win 2).blk t).view.emb y
  let A : Mm.Mat 2048 7168 := V m c main_v0
  let f : ℕ → EReal := fun K => if h : K < 7168 then A (ix2 (i 0) ⟨K, h⟩)
    * Mm.ofCols (rfl : 7168 = 8 * 896) (V m c main_v3) (ix2 (i 1) (⟨K, h⟩ : Fin 7168)) else 0
  have hf : Mm.nt (V m c main_v0) (Mm.ofCols (rfl : 7168 = 8 * 896) (V m c main_v3)) i = ∑ K : Fin (8 * 896), f K.val := by
    unfold Mm.nt
    refine Finset.sum_congr rfl fun K _ => ?_
    have hK : K.val < 7168 := K.isLt
    exact (show f K.val = _ from dif_pos hK).symm
  show _ = Mm.nt (V m c main_v0) (Mm.ofCols (rfl : 7168 = 8 * 896) (V m c main_v3)) i
  rw [hf, ← Mm.sum_blocks 8 896 f]
  refine Finset.sum_congr rfl fun s hs => ?_
  have hs' : s < 8 := Finset.mem_range.mp hs
  have htN := t.isLt
  have hn : 8 * (t.val / 8) + s < cfg0.N := by omega
  unfold partAt
  rw [dif_pos hn]
  unfold part
  obtain ⟨e0, e1, e2, e3, e4, e5, e6, e7⟩ := at0 ⟨8 * (t.val / 8) + s, hn⟩
  obtain ⟨g0, g1, g2, g3, g4, g5, g6, g7⟩ := at0 t
  dsimp only at e0 e1 e2 e3 e4 e5 e6 e7
  refine Finset.sum_congr rfl fun k _ => ?_
  have hk : k.val < 896 := k.isLt
  have hK : s * 896 + k.val < 7168 := by omega
  have hy0 : (y 0).val < 1024 := (y 0).isLt
  have hy1 : (y 1).val < 1024 := (y 1).isLt
  refine Eq.trans ?_ (dif_pos (c := s * 896 + k.val < 7168) hK).symm
  unfold Mm.ofCols
  refine congrArg₂ (· * ·) (congrArg (V m c main_v0) ?_) (congrArg (V m c main_v3) ?_)
  · funext a; apply Fin.ext
    match a with
    | ⟨0, _⟩ => show win0_0.index ⟨8 * (t.val / 8) + s, hn⟩ (0 : Fin 2) * 1024 + 1 * (y 0).val = (win0_2.index t (0 : Fin 2) * 1024 + 1 * (y 0).val); omega
    | ⟨1, _⟩ => show win0_0.index ⟨8 * (t.val / 8) + s, hn⟩ (1 : Fin 2) * 896 + 1 * k.val = (s * 896 + k.val); omega
  · funext a; apply Fin.ext
    match a with
    | ⟨0, _⟩ => show win0_1.index ⟨8 * (t.val / 8) + s, hn⟩ (0 : Fin 4) * 1 + 1 * 0 = (s * 896 + k.val) / 896; omega
    | ⟨1, _⟩ => show win0_1.index ⟨8 * (t.val / 8) + s, hn⟩ (1 : Fin 4) * 1 + 1 * 0 = 0; omega
    | ⟨2, _⟩ => show win0_1.index ⟨8 * (t.val / 8) + s, hn⟩ (2 : Fin 4) * 1024 + 1 * (y 1).val = (win0_2.index t (1 : Fin 2) * 1024 + 1 * (y 1).val); omega
    | ⟨3, _⟩ => show win0_1.index ⟨8 * (t.val / 8) + s, hn⟩ (3 : Fin 4) * 896 + 1 * k.val = (s * 896 + k.val) % 896; omega

/-- What the program leaves in its result array. -/
theorem arr (c : Dev nD) : (dats m 0 c).arrAt 2 cfg0.N = Mm.nt (V m c main_v0) (Mm.ofCols (rfl : 7168 = 8 * 896) (V m c main_v3)) := by
  have hN : cfg0.N = 32 := N_0
  refine (dats m 0 c).arrAt_eq_of_cover 2 _ (fun t hf => ?_) (fun i => ?_)
  · have htm : t.val % 8 = 7 := (flush0_2 t).mp hf
    have htN := t.isLt
    rw [flushed2_C m c t (by omega) (by omega) (by omega), out0_C_2_eq]
    funext y
    obtain ⟨e0, e1, e2, e3, e4, e5, e6, e7⟩ := at0 t
    have hacc := acc_apply m c (⟨t.val - 1, Nat.lt_of_le_of_lt (Nat.sub_le _ _) t.isLt⟩ : Fin cfg0.N)
      (show (t.val - 1) % 8 < 7 by omega) y
    have hq : (t.val - 1) / 8 = t.val / 8 := by omega
    have hr : (t.val - 1) % 8 = 6 := by omega
    have hsum : (outsAt0 m c (t.val - 1) (Nat.lt_of_le_of_lt (Nat.sub_le _ _) t.isLt)).2 y
        + part (iblk m c 0 t) (iblk m c 1 t) y
        = Mm.nt (V m c main_v0) (Mm.ofCols (rfl : 7168 = 8 * 896) (V m c main_v3)) (((cfg0.win 2).blk t).view.emb y) := by
      refine Eq.trans ?_ (parts_sum m c t y)
      rw [Finset.sum_range_succ]
      refine congrArg₂ (· + ·) (hacc.trans ?_) ?_
      · show ∑ s ∈ Finset.range ((t.val - 1) % 8 + 1), partAt m c (8 * ((t.val - 1) / 8) + s) y = _
        rw [hq, hr]
      · unfold partAt
        have e : 8 * (t.val / 8) + 7 = t.val := by omega
        rw [dif_pos (lt_of_eq_of_lt e t.isLt)]
        exact congrArg (fun t' : Fin cfg0.N => part (iblk m c 0 t') (iblk m c 1 t') y) (Fin.ext e.symm)
    show k0_pay2 _ (iblk m c 1 t) (iblk m c 0 t) y = Mm.nt (V m c main_v0) (Mm.ofCols (rfl : 7168 = 8 * 896) (V m c main_v3)) (((cfg0.win 2).blk t).view.emb y)
    rw [pay2_apply]
    exact hsum
  · have hi0 : (i 0).val < 2048 := (i 0).isLt
    have hi1 : (i 1).val < 2048 := (i 1).isLt
    let t : Fin cfg0.N := ⟨8 * (2 * ((i 0).val / 1024) + (i 1).val / 1024) + 7, lt_of_lt_of_eq (by omega) (show 32 = cfg0.N from N_0.symm)⟩
    obtain ⟨e0, e1, e2, e3, e4, e5, e6, e7⟩ := at0 t
    have ht : t.val = 8 * (2 * ((i 0).val / 1024) + (i 1).val / 1024) + 7 := rfl
    refine ⟨t, (flush0_2 t).mpr (by omega), ?_⟩
    show i ∈ ((View.whole main_v4).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The host lines -/

/-- The host's lines that cut a weight into column shards. -/
def colShards (x : FVec Ideal S2048x7168 .f32) : Vec Ideal S8x1x2048x896 .bf16 :=
  truncf (F := Ideal) .bf16 (transpose S8x1x2048x896 [1, 2, 0, 3]
    (shapeCast S2048x8x1x896 x shapeCasts_S2048x7168_S2048x8x1x896)
    transposes_S2048x8x1x896_S8x1x2048x896_1_2_0_3) bitsLt_bf16_f32

theorem ofCols_shards (x : FVec Ideal S2048x7168 .f32) : Mm.ofCols (rfl : 7168 = 8 * 896) (colShards x) = x := by
  funext i
  have h1 : (i 1).val < 7168 := (i 1).isLt
  unfold Mm.ofCols
  pointwise [colShards]

theorem host_v0 (c : Dev nD) : V m c main_v0 = m ((c : Thread nD τ).loc main_arg2) := by
  show StableHlo.after hostOps0 _ _ = _
  after_results
  rfl

theorem host_w (c : Dev nD) : Mm.ofCols (rfl : 7168 = 8 * 896) (V m c main_v3) = m ((c : Thread nD τ).loc main_arg1) := by
  refine Eq.trans (congrArg (Mm.ofCols (rfl : 7168 = 8 * 896)) ?_) (ofCols_shards (m ((c : Thread nD τ).loc main_arg1)))
  show StableHlo.after hostOps0 _ _ = _
  after_results
  rfl

/-- The result at the end of the run: the product with the transposed weight. -/
theorem result (c : Dev nD) : (dats m 0 c).arrAt 2 cfg0.N
    = Mm.nt (m ((c : Thread nD τ).loc main_arg2)) (m ((c : Thread nD τ).loc main_arg1)) := by
  rw [arr]
  exact congrArg₂ Mm.nt (host_v0 m c) (host_w m c)

end Cert.Kernel5Ideal.Gen

end
-- ==== Proof.Proj.P6.lean ====
/- What one of the projections' products leaves, at the extended reals: each block of the result is its own whole sum.
   The product is the gradient of the even layers' first weight, cut into column shards. -/
module

public import proofs.«01_k».proof.Proof.Gen.Kernel6Ideal.Value
public import Idealize.ShloMosaic.Lib.Pointwise
public import proofs.«01_k».proof.Proof.Mm

@[expose] public section

set_option maxRecDepth 16384

noncomputable section

namespace Cert.Kernel6Ideal.Gen

open Idealize.ShloMosaic Idealize.ShloMosaic.TcCoe Idealize.SL.Sem Idealize.ShloMosaic.StableHlo
open Cert.Kernel6Ideal.Value

/-- The block the body stores, from the blocks it loads. -/
theorem pay1_apply (x0 : Vec Ideal S2048x1024 .bf16) (x1 : Vec Ideal S2048x896 .bf16) (y : S1x1024x896.Idx) :
    k0_pay1 x1 x0 y = (∑ k : Fin 2048, x0 (ix2 k (y 1)) * x1 (ix2 k (y 2))) := by
  pointwise [k0_pay1]

theorem block_apply (x0 : Vec Ideal S2048x1024 .bf16) (x1 : Vec Ideal S2048x896 .bf16) (y : S1x1024x896.Idx) :
    out0_2 (F := Ideal) x0 x1 y = (∑ k : Fin 2048, x0 (ix2 k (y 1)) * x1 (ix2 k (y 2))) := by
  unfold out0_2
  rw [View.canon_unit_zero (by funext a; fin_cases a <;> rfl)]
  repeat rw [View.ld_unit_zero (by funext a; fin_cases a <;> rfl)]
  exact pay1_apply x0 x1 y

variable (m : (ℓ : Loc nD τ sig) → Buf (Elt Ideal) ℓ) (ρ : Dev nD → PrngReg)

/-- Where the windows stand at a point. -/
theorem at0 : ∀ t : Fin cfg0.N, win0_0.index t (0 : Fin 2) = 0
    ∧ win0_0.index t (1 : Fin 2) = t.val / 8
    ∧ win0_1.index t (0 : Fin 2) = 0
    ∧ win0_1.index t (1 : Fin 2) = t.val % 8
    ∧ win0_2.index t (0 : Fin 3) = t.val % 8
    ∧ win0_2.index t (1 : Fin 3) = t.val / 8
    ∧ win0_2.index t (2 : Fin 3) = 0 :=
  (by decide +kernel : ∀ t : Fin grid0.N, _)

/-- What the program leaves in its result array. -/
theorem arr (c : Dev nD) : (dats m 0 c).arrAt 2 cfg0.N = fun i => Mm.toCols (rfl : 7168 = 8 * 896) (Mm.tn (V m c main_v0) (V m c main_v1)) i := by
  have hN : cfg0.N = 16 := N_0
  refine (dats m 0 c).arrAt_eq_of_cover 2 _ (fun t _ => ?_) (fun i => ?_)
  · rw [flushed2]
    funext y
    obtain ⟨e0, e1, e2, e3, e4, e5, e6⟩ := at0 t
    have htN := t.isLt
    have hy0 : (y 0).val < 1 := (y 0).isLt
    have hy1 : (y 1).val < 1024 := (y 1).isLt
    have hy2 : (y 2).val < 896 := (y 2).isLt
    show out0_2 (iblk m c 0 t) (iblk m c 1 t) y = Mm.toCols (rfl : 7168 = 8 * 896) (Mm.tn (V m c main_v0) (V m c main_v1)) (((cfg0.win 2).blk t).view.emb y)
    rw [block_apply]
    unfold Mm.toCols Mm.tn
    refine Finset.sum_congr rfl fun k _ => ?_
    have hk : k.val < 2048 := k.isLt
    refine congrArg₂ (· * ·) (congrArg (V m c main_v0) ?_) (congrArg (V m c main_v1) ?_)
    · funext a; apply Fin.ext
      match a with
      | ⟨0, _⟩ => show win0_0.index t (0 : Fin 2) * 2048 + 1 * (k.val) = k.val; omega
      | ⟨1, _⟩ => show win0_0.index t (1 : Fin 2) * 1024 + 1 * ((y 1).val) = (win0_2.index t (1 : Fin 3) * 1024 + 1 * (y 1).val); omega
    · funext a; apply Fin.ext
      match a with
      | ⟨0, _⟩ => show win0_1.index t (0 : Fin 2) * 2048 + 1 * (k.val) = k.val; omega
      | ⟨1, _⟩ => show win0_1.index t (1 : Fin 2) * 896 + 1 * ((y 2).val) = (win0_2.index t (0 : Fin 3) * 1 + 1 * (y 0).val) * 896 + (win0_2.index t (2 : Fin 3) * 896 + 1 * (y 2).val); omega
  · have hi0 : (i 0).val < 8 := (i 0).isLt
    have hi1 : (i 1).val < 2048 := (i 1).isLt
    have hi2 : (i 2).val < 896 := (i 2).isLt
    let t : Fin cfg0.N := ⟨8 * ((i 1).val / 1024) + (i 0).val / 1, lt_of_lt_of_eq (by omega) (show 16 = cfg0.N from N_0.symm)⟩
    obtain ⟨e0, e1, e2, e3, e4, e5, e6⟩ := at0 t
    have ht : t.val = 8 * ((i 1).val / 1024) + (i 0).val / 1 := rfl
    refine ⟨t, flush0_2 t, ?_⟩
    show i ∈ ((View.whole main_v2).slice (win0_2.rect t)).set
    rw [View.set_slice_whole, Rect.mem_set_unit]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1024 ≤ (i 1).val ∧ (i 1).val < win0_2.index t (1 : Fin 3) * 1024 + 1024; omega
    | ⟨2, _⟩ => show win0_2.index t (2 : Fin 3) * 896 ≤ (i 2).val ∧ (i 2).val < win0_2.index t (2 : Fin 3) * 896 + 896; omega

/-! ## The host lines -/

theorem host_v0 (c : Dev nD) : V m c main_v0 = m ((c : Thread nD τ).loc main_arg0) := by
  show StableHlo.after hostOps0 _ _ = _
  after_results
  rfl

theorem host_w (c : Dev nD) : V m c main_v1 = m ((c : Thread nD τ).loc main_arg2) := by
  show StableHlo.after hostOps0 _ _ = _
  after_results
  rfl

/-- The result at the end of the run. -/
theorem result (c : Dev nD) : (dats m 0 c).arrAt 2 cfg0.N = fun i => Mm.toCols (rfl : 7168 = 8 * 896) (Mm.tn (m ((c : Thread nD τ).loc main_arg0)) (m ((c : Thread nD τ).loc main_arg2))) i := by
  rw [arr]
  have e := congrArg₂ Mm.tn (host_v0 m c) (host_w m c)
  funext i
  exact congrFun (congrArg (Mm.toCols (rfl : 7168 = 8 * 896)) e) i

end Cert.Kernel6Ideal.Gen

end
-- ==== Proof.Proj.P7.lean ====
/- What one of the projections' products leaves, at the extended reals: each block of the result is its own whole sum.
   The product is the even layers' first product. -/
module

public import proofs.«01_k».proof.Proof.Gen.Kernel7Ideal.Value
public import Idealize.ShloMosaic.Lib.Pointwise
public import proofs.«01_k».proof.Proof.Mm

@[expose] public section

set_option maxRecDepth 16384

noncomputable section

namespace Cert.Kernel7Ideal.Gen

open Idealize.ShloMosaic Idealize.ShloMosaic.TcCoe Idealize.SL.Sem Idealize.ShloMosaic.StableHlo
open Cert.Kernel7Ideal.Value

/-- The block the body stores, from the blocks it loads. -/
theorem pay1_apply (x0 : Vec Ideal S1024x2048 .bf16) (x1 : Vec Ideal S1x1x2048x896 .bf16) (y : S1024x896.Idx) :
    k0_pay1 x1 x0 y = (∑ k : Fin 2048, x0 (ix2 (y 0) k) * x1 (ix4 (0 : Fin 1) (0 : Fin 1) k (y 1))) := by
  pointwise [k0_pay1]

theorem block_apply (x0 : Vec Ideal S1024x2048 .bf16) (x1 : Vec Ideal S1x1x2048x896 .bf16) (y : S1024x896.Idx) :
    out0_2 (F := Ideal) x0 x1 y = (∑ k : Fin 2048, x0 (ix2 (y 0) k) * x1 (ix4 (0 : Fin 1) (0 : Fin 1) k (y 1))) := by
  unfold out0_2
  rw [View.canon_unit_zero (by funext a; fin_cases a <;> rfl)]
  repeat rw [View.ld_unit_zero (by funext a; fin_cases a <;> rfl)]
  exact pay1_apply x0 x1 y

variable (m : (ℓ : Loc nD τ sig) → Buf (Elt Ideal) ℓ) (ρ : Dev nD → PrngReg)

/-- Where the windows stand at a point. -/
theorem at0 : ∀ t : Fin cfg0.N, win0_0.index t (0 : Fin 2) = t.val / 8
    ∧ win0_0.index t (1 : Fin 2) = 0
    ∧ win0_1.index t (0 : Fin 4) = t.val % 8
    ∧ win0_1.index t (1 : Fin 4) = 0
    ∧ win0_1.index t (2 : Fin 4) = 0
    ∧ win0_1.index t (3 : Fin 4) = 0
    ∧ win0_2.index t (0 : Fin 2) = t.val / 8
    ∧ win0_2.index t (1 : Fin 2) = t.val % 8 :=
  (by decide +kernel : ∀ t : Fin grid0.N, _)

/-- What the program leaves in its result array. -/
theorem arr (c : Dev nD) : (dats m 0 c).arrAt 2 cfg0.N = fun i => Mm.nn (V m c main_v0) (Mm.ofCols (rfl : 7168 = 8 * 896) (V m c main_v3)) i := by
  have hN : cfg0.N = 16 := N_0
  refine (dats m 0 c).arrAt_eq_of_cover 2 _ (fun t _ => ?_) (fun i => ?_)
  · rw [flushed2]
    funext y
    obtain ⟨e0, e1, e2, e3, e4, e5, e6, e7⟩ := at0 t
    have htN := t.isLt
    have hy0 : (y 0).val < 1024 := (y 0).isLt
    have hy1 : (y 1).val < 896 := (y 1).isLt
    show out0_2 (iblk m c 0 t) (iblk m c 1 t) y = Mm.nn (V m c main_v0) (Mm.ofCols (rfl : 7168 = 8 * 896) (V m c main_v3)) (((cfg0.win 2).blk t).view.emb y)
    rw [block_apply]
    unfold Mm.nn Mm.ofCols
    refine Finset.sum_congr rfl fun k _ => ?_
    have hk : k.val < 2048 := k.isLt
    refine congrArg₂ (· * ·) (congrArg (V m c main_v0) ?_) (congrArg (V m c main_v3) ?_)
    · funext a; apply Fin.ext
      match a with
      | ⟨0, _⟩ => show win0_0.index t (0 : Fin 2) * 1024 + 1 * ((y 0).val) = (win0_2.index t (0 : Fin 2) * 1024 + 1 * (y 0).val); omega
      | ⟨1, _⟩ => show win0_0.index t (1 : Fin 2) * 2048 + 1 * (k.val) = k.val; omega
    · funext a; apply Fin.ext
      match a with
      | ⟨0, _⟩ => show win0_1.index t (0 : Fin 4) * 1 + 1 * (0) = (win0_2.index t (1 : Fin 2) * 896 + 1 * (y 1).val) / 896; omega
      | ⟨1, _⟩ => show win0_1.index t (1 : Fin 4) * 1 + 1 * (0) = 0; omega
      | ⟨2, _⟩ => show win0_1.index t (2 : Fin 4) * 2048 + 1 * (k.val) = k.val; omega
      | ⟨3, _⟩ => show win0_1.index t (3 : Fin 4) * 896 + 1 * ((y 1).val) = (win0_2.index t (1 : Fin 2) * 896 + 1 * (y 1).val) % 896; omega
  · have hi0 : (i 0).val < 2048 := (i 0).isLt
    have hi1 : (i 1).val < 7168 := (i 1).isLt
    let t : Fin cfg0.N := ⟨8 * ((i 0).val / 1024) + (i 1).val / 896, lt_of_lt_of_eq (by omega) (show 16 = cfg0.N from N_0.symm)⟩
    obtain ⟨e0, e1, e2, e3, e4, e5, e6, e7⟩ := at0 t
    have ht : t.val = 8 * ((i 0).val / 1024) + (i 1).val / 896 := rfl
    refine ⟨t, flush0_2 t, ?_⟩
    show i ∈ ((View.whole main_v4).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 896 ≤ (i 1).val ∧ (i 1).val < win0_2.index t (1 : Fin 2) * 896 + 896; omega

/-! ## The host lines -/

theorem host_v0 (c : Dev nD) : V m c main_v0 = m ((c : Thread nD τ).loc main_arg0) := by
  show StableHlo.after hostOps0 _ _ = _
  after_results
  rfl

/-- The host's lines that cut a weight into column shards. -/
def shards (x : FVec Ideal S2048x7168 .f32) : Vec Ideal S8x1x2048x896 .bf16 :=
  truncf (F := Ideal) .bf16 (transpose S8x1x2048x896 [1, 2, 0, 3]
    (shapeCast S2048x8x1x896 x shapeCasts_S2048x7168_S2048x8x1x896)
    transposes_S2048x8x1x896_S8x1x2048x896_1_2_0_3) bitsLt_bf16_f32

theorem whole_shards (x : FVec Ideal S2048x7168 .f32) : Mm.ofCols (rfl : 7168 = 8 * 896) (shards x) = x := by
  funext i
  have h1 : (i 1).val < 7168 := (i 1).isLt
  unfold Mm.ofCols
  pointwise [shards]

theorem host_w (c : Dev nD) : Mm.ofCols (rfl : 7168 = 8 * 896) (V m c main_v3) = m ((c : Thread nD τ).loc main_arg1) := by
  refine Eq.trans (congrArg (Mm.ofCols (rfl : 7168 = 8 * 896)) ?_) (whole_shards (m ((c : Thread nD τ).loc main_arg1)))
  show StableHlo.after hostOps0 _ _ = _
  after_results
  rfl

/-- The result at the end of the run. -/
theorem result (c : Dev nD) : (dats m 0 c).arrAt 2 cfg0.N = fun i => Mm.nn (m ((c : Thread nD τ).loc main_arg0)) (m ((c : Thread nD τ).loc main_arg1)) i := by
  rw [arr]
  have e := congrArg₂ Mm.nn (host_v0 m c) (host_w m c)
  funext i
  exact congrFun e i

end Cert.Kernel7Ideal.Gen

end
-- ==== Proof.Proj.P8.lean ====
/- What one of the projections' products leaves, at the extended reals: each block of the result is its own whole sum.
   The product is the gradient of the output weight. -/
module

public import proofs.«01_k».proof.Proof.Gen.Kernel8Ideal.Value
public import Idealize.ShloMosaic.Lib.Pointwise
public import proofs.«01_k».proof.Proof.Mm

@[expose] public section

set_option maxRecDepth 16384

noncomputable section

namespace Cert.Kernel8Ideal.Gen

open Idealize.ShloMosaic Idealize.ShloMosaic.TcCoe Idealize.SL.Sem Idealize.ShloMosaic.StableHlo
open Cert.Kernel8Ideal.Value

/-- The block the body stores, from the blocks it loads. -/
theorem pay1_apply (x0 : Vec Ideal S2048x1024 .bf16) (x1 : Vec Ideal S2048x1024 .bf16) (y : S1024x1024.Idx) :
    k0_pay1 x1 x0 y = (∑ k : Fin 2048, x0 (ix2 k (y 0)) * x1 (ix2 k (y 1))) := by
  pointwise [k0_pay1]

theorem block_apply (x0 : Vec Ideal S2048x1024 .bf16) (x1 : Vec Ideal S2048x1024 .bf16) (y : S1024x1024.Idx) :
    out0_2 (F := Ideal) x0 x1 y = (∑ k : Fin 2048, x0 (ix2 k (y 0)) * x1 (ix2 k (y 1))) := by
  unfold out0_2
  rw [View.canon_unit_zero (by funext a; fin_cases a <;> rfl)]
  repeat rw [View.ld_unit_zero (by funext a; fin_cases a <;> rfl)]
  exact pay1_apply x0 x1 y

variable (m : (ℓ : Loc nD τ sig) → Buf (Elt Ideal) ℓ) (ρ : Dev nD → PrngReg)

/-- Where the windows stand at a point. -/
theorem at0 : ∀ t : Fin cfg0.N, win0_0.index t (0 : Fin 2) = 0
    ∧ win0_0.index t (1 : Fin 2) = t.val / 2
    ∧ win0_1.index t (0 : Fin 2) = 0
    ∧ win0_1.index t (1 : Fin 2) = t.val % 2
    ∧ win0_2.index t (0 : Fin 2) = t.val / 2
    ∧ win0_2.index t (1 : Fin 2) = t.val % 2 :=
  (by decide +kernel : ∀ t : Fin grid0.N, _)

/-- What the program leaves in its result array. -/
theorem arr (c : Dev nD) : (dats m 0 c).arrAt 2 cfg0.N = fun i => Mm.tn (V m c main_v0) (V m c main_v1) i := by
  have hN : cfg0.N = 4 := N_0
  refine (dats m 0 c).arrAt_eq_of_cover 2 _ (fun t _ => ?_) (fun i => ?_)
  · rw [flushed2]
    funext y
    obtain ⟨e0, e1, e2, e3, e4, e5⟩ := at0 t
    have htN := t.isLt
    have hy0 : (y 0).val < 1024 := (y 0).isLt
    have hy1 : (y 1).val < 1024 := (y 1).isLt
    show out0_2 (iblk m c 0 t) (iblk m c 1 t) y = Mm.tn (V m c main_v0) (V m c main_v1) (((cfg0.win 2).blk t).view.emb y)
    rw [block_apply]
    unfold Mm.tn
    refine Finset.sum_congr rfl fun k _ => ?_
    have hk : k.val < 2048 := k.isLt
    refine congrArg₂ (· * ·) (congrArg (V m c main_v0) ?_) (congrArg (V m c main_v1) ?_)
    · funext a; apply Fin.ext
      match a with
      | ⟨0, _⟩ => show win0_0.index t (0 : Fin 2) * 2048 + 1 * (k.val) = k.val; omega
      | ⟨1, _⟩ => show win0_0.index t (1 : Fin 2) * 1024 + 1 * ((y 0).val) = (win0_2.index t (0 : Fin 2) * 1024 + 1 * (y 0).val); omega
    · funext a; apply Fin.ext
      match a with
      | ⟨0, _⟩ => show win0_1.index t (0 : Fin 2) * 2048 + 1 * (k.val) = k.val; omega
      | ⟨1, _⟩ => show win0_1.index t (1 : Fin 2) * 1024 + 1 * ((y 1).val) = (win0_2.index t (1 : Fin 2) * 1024 + 1 * (y 1).val); omega
  · have hi0 : (i 0).val < 2048 := (i 0).isLt
    have hi1 : (i 1).val < 2048 := (i 1).isLt
    let t : Fin cfg0.N := ⟨2 * ((i 0).val / 1024) + (i 1).val / 1024, lt_of_lt_of_eq (by omega) (show 4 = cfg0.N from N_0.symm)⟩
    obtain ⟨e0, e1, e2, e3, e4, e5⟩ := at0 t
    have ht : t.val = 2 * ((i 0).val / 1024) + (i 1).val / 1024 := rfl
    refine ⟨t, flush0_2 t, ?_⟩
    show i ∈ ((View.whole main_v2).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The host lines -/

theorem host_v0 (c : Dev nD) : V m c main_v0 = m ((c : Thread nD τ).loc main_arg0) := by
  show StableHlo.after hostOps0 _ _ = _
  after_results
  rfl

theorem host_w (c : Dev nD) : V m c main_v1 = m ((c : Thread nD τ).loc main_arg2) := by
  show StableHlo.after hostOps0 _ _ = _
  after_results
  rfl

/-- The result at the end of the run. -/
theorem result (c : Dev nD) : (dats m 0 c).arrAt 2 cfg0.N = fun i => Mm.tn (m ((c : Thread nD τ).loc main_arg0)) (m ((c : Thread nD τ).loc main_arg2)) i := by
  rw [arr]
  have e := congrArg₂ Mm.tn (host_v0 m c) (host_w m c)
  funext i
  exact congrFun e i

end Cert.Kernel8Ideal.Gen

end
-- ==== Proof.Proj.P9.lean ====
/- What one of the projections' products leaves, at the extended reals: each block of the result is its own whole sum.
   The product is the gradient reaching the output product's input. -/
module

public import proofs.«01_k».proof.Proof.Gen.Kernel9Ideal.Value
public import Idealize.ShloMosaic.Lib.Pointwise
public import proofs.«01_k».proof.Proof.Mm

@[expose] public section

set_option maxRecDepth 16384

noncomputable section

namespace Cert.Kernel9Ideal.Gen

open Idealize.ShloMosaic Idealize.ShloMosaic.TcCoe Idealize.SL.Sem Idealize.ShloMosaic.StableHlo
open Cert.Kernel9Ideal.Value

/-- The block the body stores, from the blocks it loads. -/
theorem pay1_apply (x0 : Vec Ideal S1024x2048 .bf16) (x1 : Vec Ideal S4x1x256x2048 .bf16) (y : S1024x1024.Idx) :
    k0_pay1 x1 x0 y = (∑ k : Fin 2048, x0 (ix2 (y 0) k) * x1 (ix4 (⟨(y 1).val / 256, by have h : (y 1).val < 1024 := (y 1).isLt; omega⟩ : Fin 4) (0 : Fin 1) (⟨(y 1).val % 256, Nat.mod_lt _ (by decide)⟩ : Fin 256) k)) := by
  pointwise [k0_pay1]

theorem block_apply (x0 : Vec Ideal S1024x2048 .bf16) (x1 : Vec Ideal S4x1x256x2048 .bf16) (y : S1024x1024.Idx) :
    out0_2 (F := Ideal) x0 x1 y = (∑ k : Fin 2048, x0 (ix2 (y 0) k) * x1 (ix4 (⟨(y 1).val / 256, by have h : (y 1).val < 1024 := (y 1).isLt; omega⟩ : Fin 4) (0 : Fin 1) (⟨(y 1).val % 256, Nat.mod_lt _ (by decide)⟩ : Fin 256) k)) := by
  unfold out0_2
  rw [View.canon_unit_zero (by funext a; fin_cases a <;> rfl)]
  repeat rw [View.ld_unit_zero (by funext a; fin_cases a <;> rfl)]
  exact pay1_apply x0 x1 y

variable (m : (ℓ : Loc nD τ sig) → Buf (Elt Ideal) ℓ) (ρ : Dev nD → PrngReg)

/-- Where the windows stand at a point. -/
theorem at0 : ∀ t : Fin cfg0.N, win0_0.index t (0 : Fin 2) = t.val / 2
    ∧ win0_0.index t (1 : Fin 2) = 0
    ∧ win0_1.index t (0 : Fin 4) = t.val % 2
    ∧ win0_1.index t (1 : Fin 4) = 0
    ∧ win0_1.index t (2 : Fin 4) = 0
    ∧ win0_1.index t (3 : Fin 4) = 0
    ∧ win0_2.index t (0 : Fin 2) = t.val / 2
    ∧ win0_2.index t (1 : Fin 2) = t.val % 2 :=
  (by decide +kernel : ∀ t : Fin grid0.N, _)

/-- What the program leaves in its result array. -/
theorem arr (c : Dev nD) : (dats m 0 c).arrAt 2 cfg0.N = fun i => Mm.nt (V m c main_v0) (Mm.ofRows (rfl : 2048 = 8 * 256) (V m c main_v2)) i := by
  have hN : cfg0.N = 4 := N_0
  refine (dats m 0 c).arrAt_eq_of_cover 2 _ (fun t _ => ?_) (fun i => ?_)
  · rw [flushed2]
    funext y
    obtain ⟨e0, e1, e2, e3, e4, e5, e6, e7⟩ := at0 t
    have htN := t.isLt
    have hy0 : (y 0).val < 1024 := (y 0).isLt
    have hy1 : (y 1).val < 1024 := (y 1).isLt
    show out0_2 (iblk m c 0 t) (iblk m c 1 t) y = Mm.nt (V m c main_v0) (Mm.ofRows (rfl : 2048 = 8 * 256) (V m c main_v2)) (((cfg0.win 2).blk t).view.emb y)
    rw [block_apply]
    unfold Mm.nt Mm.ofRows
    refine Finset.sum_congr rfl fun k _ => ?_
    have hk : k.val < 2048 := k.isLt
    refine congrArg₂ (· * ·) (congrArg (V m c main_v0) ?_) (congrArg (V m c main_v2) ?_)
    · funext a; apply Fin.ext
      match a with
      | ⟨0, _⟩ => show win0_0.index t (0 : Fin 2) * 1024 + 1 * ((y 0).val) = (win0_2.index t (0 : Fin 2) * 1024 + 1 * (y 0).val); omega
      | ⟨1, _⟩ => show win0_0.index t (1 : Fin 2) * 2048 + 1 * (k.val) = k.val; omega
    · funext a; apply Fin.ext
      match a with
      | ⟨0, _⟩ => show win0_1.index t (0 : Fin 4) * 4 + 1 * ((y 1).val / 256) = (win0_2.index t (1 : Fin 2) * 1024 + 1 * (y 1).val) / 256; omega
      | ⟨1, _⟩ => show win0_1.index t (1 : Fin 4) * 1 + 1 * (0) = 0; omega
      | ⟨2, _⟩ => show win0_1.index t (2 : Fin 4) * 256 + 1 * ((y 1).val % 256) = (win0_2.index t (1 : Fin 2) * 1024 + 1 * (y 1).val) % 256; omega
      | ⟨3, _⟩ => show win0_1.index t (3 : Fin 4) * 2048 + 1 * (k.val) = k.val; omega
  · have hi0 : (i 0).val < 2048 := (i 0).isLt
    have hi1 : (i 1).val < 2048 := (i 1).isLt
    let t : Fin cfg0.N := ⟨2 * ((i 0).val / 1024) + (i 1).val / 1024, lt_of_lt_of_eq (by omega) (show 4 = cfg0.N from N_0.symm)⟩
    obtain ⟨e0, e1, e2, e3, e4, e5, e6, e7⟩ := at0 t
    have ht : t.val = 2 * ((i 0).val / 1024) + (i 1).val / 1024 := rfl
    refine ⟨t, flush0_2 t, ?_⟩
    show i ∈ ((View.whole main_v3).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The host lines -/

theorem host_v0 (c : Dev nD) : V m c main_v0 = m ((c : Thread nD τ).loc main_arg2) := by
  show StableHlo.after hostOps0 _ _ = _
  after_results
  rfl

/-- The host's lines that cut a weight into row shards. -/
def shards (x : FVec Ideal S2048x2048 .f32) : Vec Ideal S8x1x256x2048 .bf16 :=
  truncf (F := Ideal) .bf16 (shapeCast S8x1x256x2048 x shapeCasts_S2048x2048_S8x1x256x2048) bitsLt_bf16_f32

theorem whole_shards (x : FVec Ideal S2048x2048 .f32) : Mm.ofRows (rfl : 2048 = 8 * 256) (shards x) = x := by
  funext i
  have h0 : (i 0).val < 2048 := (i 0).isLt
  unfold Mm.ofRows
  pointwise [shards]

theorem host_w (c : Dev nD) : Mm.ofRows (rfl : 2048 = 8 * 256) (V m c main_v2) = m ((c : Thread nD τ).loc main_arg1) := by
  refine Eq.trans (congrArg (Mm.ofRows (rfl : 2048 = 8 * 256)) ?_) (whole_shards (m ((c : Thread nD τ).loc main_arg1)))
  show StableHlo.after hostOps0 _ _ = _
  after_results
  rfl

/-- The result at the end of the run. -/
theorem result (c : Dev nD) : (dats m 0 c).arrAt 2 cfg0.N = fun i => Mm.nt (m ((c : Thread nD τ).loc main_arg2)) (m ((c : Thread nD τ).loc main_arg1)) i := by
  rw [arr]
  have e := congrArg₂ Mm.nt (host_v0 m c) (host_w m c)
  funext i
  exact congrFun e i

end Cert.Kernel9Ideal.Gen

end
-- ==== Proof.Proj.P10.lean ====
/- What one of the projections' products leaves, at the extended reals: each block of the result is its own whole sum.
   The product is the even layers' output product and the residual. -/
module

public import proofs.«01_k».proof.Proof.Gen.Kernel10Ideal.Value
public import Idealize.ShloMosaic.Lib.Pointwise
public import proofs.«01_k».proof.Proof.Mm

@[expose] public section

set_option maxRecDepth 16384

noncomputable section

namespace Cert.Kernel10Ideal.Gen

open Idealize.ShloMosaic Idealize.ShloMosaic.TcCoe Idealize.SL.Sem Idealize.ShloMosaic.StableHlo
open Cert.Kernel10Ideal.Value

/-- The block the body stores, from the blocks it loads. -/
theorem pay1_apply (x0 : Vec Ideal S1024x2048 .bf16) (x1 : Vec Ideal S8x1x256x1024 .bf16) (x2 : Vec Ideal S1024x1024 .f32) (y : S1024x1024.Idx) :
    k0_pay1 x1 x0 x2 y = (∑ k : Fin 2048, x0 (ix2 (y 0) k) * x1 (ix4 (⟨k.val / 256, by have h : k.val < 2048 := k.isLt; omega⟩ : Fin 8) (0 : Fin 1) (⟨k.val % 256, Nat.mod_lt _ (by decide)⟩ : Fin 256) (y 1))) + x2 y := by
  pointwise [k0_pay1]

theorem block_apply (x0 : Vec Ideal S1024x2048 .bf16) (x1 : Vec Ideal S8x1x256x1024 .bf16) (x2 : Vec Ideal S1024x1024 .f32) (y : S1024x1024.Idx) :
    out0_3 (F := Ideal) x0 x1 x2 y = (∑ k : Fin 2048, x0 (ix2 (y 0) k) * x1 (ix4 (⟨k.val / 256, by have h : k.val < 2048 := k.isLt; omega⟩ : Fin 8) (0 : Fin 1) (⟨k.val % 256, Nat.mod_lt _ (by decide)⟩ : Fin 256) (y 1))) + x2 y := by
  unfold out0_3
  rw [View.canon_unit_zero (by funext a; fin_cases a <;> rfl)]
  repeat rw [View.ld_unit_zero (by funext a; fin_cases a <;> rfl)]
  exact pay1_apply x0 x1 x2 y

variable (m : (ℓ : Loc nD τ sig) → Buf (Elt Ideal) ℓ) (ρ : Dev nD → PrngReg)

/-- Where the windows stand at a point. -/
theorem at0 : ∀ t : Fin cfg0.N, win0_0.index t (0 : Fin 2) = t.val / 2
    ∧ win0_0.index t (1 : Fin 2) = 0
    ∧ win0_1.index t (0 : Fin 4) = 0
    ∧ win0_1.index t (1 : Fin 4) = 0
    ∧ win0_1.index t (2 : Fin 4) = 0
    ∧ win0_1.index t (3 : Fin 4) = t.val % 2
    ∧ win0_2.index t (0 : Fin 2) = t.val / 2
    ∧ win0_2.index t (1 : Fin 2) = t.val % 2
    ∧ win0_3.index t (0 : Fin 2) = t.val / 2
    ∧ win0_3.index t (1 : Fin 2) = t.val % 2 :=
  (by decide +kernel : ∀ t : Fin grid0.N, _)

/-- What the program leaves in its result array. -/
theorem arr (c : Dev nD) : (dats m 0 c).arrAt 3 cfg0.N = fun i => Mm.nn (V m c main_v0) (Mm.ofRows (rfl : 2048 = 8 * 256) (V m c main_v2)) i + V m c main_arg0 i := by
  have hN : cfg0.N = 4 := N_0
  refine (dats m 0 c).arrAt_eq_of_cover 3 _ (fun t _ => ?_) (fun i => ?_)
  · rw [flushed3]
    funext y
    obtain ⟨e0, e1, e2, e3, e4, e5, e6, e7, e8, e9⟩ := at0 t
    have htN := t.isLt
    have hy0 : (y 0).val < 1024 := (y 0).isLt
    have hy1 : (y 1).val < 1024 := (y 1).isLt
    show out0_3 (iblk m c 0 t) (iblk m c 1 t) (iblk m c 2 t) y = Mm.nn (V m c main_v0) (Mm.ofRows (rfl : 2048 = 8 * 256) (V m c main_v2)) (((cfg0.win 3).blk t).view.emb y) + V m c main_arg0 (((cfg0.win 3).blk t).view.emb y)
    rw [block_apply]
    refine congrArg₂ (· + ·) ?_ (congrArg (V m c main_arg0) ?_)
    · unfold Mm.nn Mm.ofRows
      refine Finset.sum_congr rfl fun k _ => ?_
      have hk : k.val < 2048 := k.isLt
      refine congrArg₂ (· * ·) (congrArg (V m c main_v0) ?_) (congrArg (V m c main_v2) ?_)
      · funext a; apply Fin.ext
        match a with
        | ⟨0, _⟩ => show win0_0.index t (0 : Fin 2) * 1024 + 1 * ((y 0).val) = (win0_3.index t (0 : Fin 2) * 1024 + 1 * (y 0).val); omega
        | ⟨1, _⟩ => show win0_0.index t (1 : Fin 2) * 2048 + 1 * (k.val) = k.val; omega
      · funext a; apply Fin.ext
        match a with
        | ⟨0, _⟩ => show win0_1.index t (0 : Fin 4) * 8 + 1 * (k.val / 256) = k.val / 256; omega
        | ⟨1, _⟩ => show win0_1.index t (1 : Fin 4) * 1 + 1 * (0) = 0; omega
        | ⟨2, _⟩ => show win0_1.index t (2 : Fin 4) * 256 + 1 * (k.val % 256) = k.val % 256; omega
        | ⟨3, _⟩ => show win0_1.index t (3 : Fin 4) * 1024 + 1 * ((y 1).val) = (win0_3.index t (1 : Fin 2) * 1024 + 1 * (y 1).val); omega
    · funext a; apply Fin.ext
      match a with
      | ⟨0, _⟩ => show win0_2.index t (0 : Fin 2) * 1024 + 1 * ((y 0).val) = (win0_3.index t (0 : Fin 2) * 1024 + 1 * (y 0).val); omega
      | ⟨1, _⟩ => show win0_2.index t (1 : Fin 2) * 1024 + 1 * ((y 1).val) = (win0_3.index t (1 : Fin 2) * 1024 + 1 * (y 1).val); omega
  · have hi0 : (i 0).val < 2048 := (i 0).isLt
    have hi1 : (i 1).val < 2048 := (i 1).isLt
    let t : Fin cfg0.N := ⟨2 * ((i 0).val / 1024) + (i 1).val / 1024, lt_of_lt_of_eq (by omega) (show 4 = cfg0.N from N_0.symm)⟩
    obtain ⟨e0, e1, e2, e3, e4, e5, e6, e7, e8, e9⟩ := at0 t
    have ht : t.val = 2 * ((i 0).val / 1024) + (i 1).val / 1024 := rfl
    refine ⟨t, flush0_3 t, ?_⟩
    show i ∈ ((View.whole main_v3).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

/-! ## The host lines -/

theorem host_v0 (c : Dev nD) : V m c main_v0 = m ((c : Thread nD τ).loc main_arg1) := by
  show StableHlo.after hostOps0 _ _ = _
  after_results
  rfl

/-- The host's lines that cut a weight into row shards. -/
def shards (x : FVec Ideal S2048x2048 .f32) : Vec Ideal S8x1x256x2048 .bf16 :=
  truncf (F := Ideal) .bf16 (shapeCast S8x1x256x2048 x shapeCasts_S2048x2048_S8x1x256x2048) bitsLt_bf16_f32

theorem whole_shards (x : FVec Ideal S2048x2048 .f32) : Mm.ofRows (rfl : 2048 = 8 * 256) (shards x) = x := by
  funext i
  have h0 : (i 0).val < 2048 := (i 0).isLt
  unfold Mm.ofRows
  pointwise [shards]

theorem host_w (c : Dev nD) : Mm.ofRows (rfl : 2048 = 8 * 256) (V m c main_v2) = m ((c : Thread nD τ).loc main_arg2) := by
  refine Eq.trans (congrArg (Mm.ofRows (rfl : 2048 = 8 * 256)) ?_) (whole_shards (m ((c : Thread nD τ).loc main_arg2)))
  show StableHlo.after hostOps0 _ _ = _
  after_results
  rfl

/-- The result at the end of the run. -/
theorem result (c : Dev nD) : (dats m 0 c).arrAt 3 cfg0.N = fun i => Mm.nn (m ((c : Thread nD τ).loc main_arg1)) (m ((c : Thread nD τ).loc main_arg2)) i + (m ((c : Thread nD τ).loc main_arg0) i : EReal) := by
  rw [arr]
  have e := congrArg₂ Mm.nn (host_v0 m c) (host_w m c)
  funext i
  exact congrArg₂ (fun (a b : EReal) => a + b) (congrFun e i) (congrFun (V_main_arg0 m c) i)

end Cert.Kernel10Ideal.Gen

end
-- ==== Proof.Proj.Even.lean ====
/- The claims about the products of the even layers' projections. -/
module

public import proofs.«01_k».proof.Defs
public import proofs.«01_k».proof.Proof.Proj.P5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Proj.P6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Proj.P7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.Proj.P8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.Proj.P9
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.Proj.P10
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read

@[expose] public section

set_option maxRecDepth 16384

noncomputable section

namespace Cert.Proof

open Idealize.ShloMosaic Idealize.ShloMosaic.TcCoe Idealize.SL.Sem

/-! ## The gradient reaching the even layers' first product's input -/

theorem frame_r5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem ref5_eq (x1 : Mm.Mat 2048 7168) (x2 : Mm.Mat 2048 7168) :
    Cert.Reference5Ideal.Read.val_main_v1 (F := Ideal) x1 x2 = Mm.nt x2 x1 := by
  funext i
  rw [Cert.Reference5Ideal.Read.val_main_v1_apply]
  unfold Mm.nt
  refine Finset.sum_congr rfl fun k _ => congrArg₂ (· * ·) (congrArg x2 ?_) (congrArg x1 ?_) <;>
    · funext a; match a with | ⟨0, _⟩ => rfl | ⟨1, _⟩ => rfl

theorem algebraic5 : Cert.algebraic_Kernel5Ideal_Reference5Ideal := by
  intro m ρ m' ρ' _ harg
  refine ⟨fun c => (Cert.Kernel5Ideal.Gen.dats m 0 c).arrAt 2 Cert.Kernel5Ideal.cfg0.N,
    Cert.Kernel5Ideal.Value.run_blocks (F := Ideal) m ρ,
    (θ_run Cert.Reference5Ideal.defs _ _).mono (fun r h c => ?_) (Cert.Reference5Ideal.Value.run (F := Ideal) m' ρ')⟩
  obtain ⟨e0, e1, e2⟩ := harg c
  obtain ⟨h0, h1⟩ := h c
  refine ⟨(h0.trans ?_).trans (Cert.Kernel5Ideal.Gen.result m c).symm, h1⟩
  rw [Cert.Reference5Ideal.Read.val_main_v1_eq, e1, e2]
  exact ref5_eq _ _

/-! ## The gradient of the even layers' first weight -/

theorem frame_r6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem ref6_eq (x0 : Mm.Mat 2048 2048) (x2 : Mm.Mat 2048 7168) :
    Cert.Reference6Ideal.Read.val_main_v5 (F := Ideal) x0 x2 = Mm.toCols (rfl : 7168 = 8 * 896) (Mm.tn x0 x2) := by
  funext i
  rw [Cert.Reference6Ideal.Read.val_main_v5_apply]
  refine Eq.trans (b := Cert.Reference6Ideal.Read.val_main_v4 (F := Ideal) x0 x2 i) rfl ?_
  rw [Cert.Reference6Ideal.Read.val_main_v4_apply, Cert.Reference6Ideal.Read.val_main_v3_apply, Cert.Reference6Ideal.Read.val_main_v2_apply, Cert.Reference6Ideal.Read.val_main_v1_apply]
  unfold Mm.toCols Mm.tn
  have h0 : (i 0).val < 8 := (i 0).isLt
  have h1 : (i 1).val < 2048 := (i 1).isLt
  have h2 : (i 2).val < 896 := (i 2).isLt
  refine Finset.sum_congr rfl fun k _ => (mul_comm _ _).trans (congrArg₂ (· * ·) (congrArg x0 ?_) (congrArg x2 ?_))
  · funext a; apply Fin.ext
    match a with
    | ⟨0, _⟩ => rfl
    | ⟨1, _⟩ => show (((i 1).val * 8 + (i 0).val) * 896 + (i 2).val) / 7168 = (i 1).val; omega
  · funext a; apply Fin.ext
    match a with
    | ⟨0, _⟩ => rfl
    | ⟨1, _⟩ => show (((i 1).val * 8 + (i 0).val) * 896 + (i 2).val) % 7168 = (i 0).val * 896 + (i 2).val; omega

theorem algebraic6 : Cert.algebraic_Kernel6Ideal_Reference6Ideal := by
  intro m ρ m' ρ' _ harg
  refine ⟨fun c => (Cert.Kernel6Ideal.Gen.dats m 0 c).arrAt 2 Cert.Kernel6Ideal.cfg0.N,
    Cert.Kernel6Ideal.Value.run_blocks (F := Ideal) m ρ,
    (θ_run Cert.Reference6Ideal.defs _ _).mono (fun r h c => ?_) (Cert.Reference6Ideal.Value.run (F := Ideal) m' ρ')⟩
  obtain ⟨e0, e1, e2⟩ := harg c
  obtain ⟨h0, h1⟩ := h c
  refine ⟨(h0.trans ?_).trans (Cert.Kernel6Ideal.Gen.result m c).symm, h1⟩
  rw [Cert.Reference6Ideal.Read.val_main_v5_eq, e0, e2]
  exact ref6_eq _ _

/-! ## The even layers' first product -/

theorem frame_r7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem ref7_eq (x0 : Mm.Mat 2048 2048) (x1 : Mm.Mat 2048 7168) :
    Cert.Reference7Ideal.Read.val_main_v0 (F := Ideal) x0 x1 = Mm.nn x0 x1 := by
  funext i
  rw [Cert.Reference7Ideal.Read.val_main_v0_apply]
  unfold Mm.nn
  refine Finset.sum_congr rfl fun k _ => congrArg₂ (· * ·) (congrArg x0 ?_) (congrArg x1 ?_) <;>
    · funext a; match a with | ⟨0, _⟩ => rfl | ⟨1, _⟩ => rfl

theorem algebraic7 : Cert.algebraic_Kernel7Ideal_Reference7Ideal := by
  intro m ρ m' ρ' _ harg
  refine ⟨fun c => (Cert.Kernel7Ideal.Gen.dats m 0 c).arrAt 2 Cert.Kernel7Ideal.cfg0.N,
    Cert.Kernel7Ideal.Value.run_blocks (F := Ideal) m ρ,
    (θ_run Cert.Reference7Ideal.defs _ _).mono (fun r h c => ?_) (Cert.Reference7Ideal.Value.run (F := Ideal) m' ρ')⟩
  obtain ⟨e0, e1⟩ := harg c
  obtain ⟨h0, h1⟩ := h c
  refine ⟨(h0.trans ?_).trans (Cert.Kernel7Ideal.Gen.result m c).symm, h1⟩
  rw [Cert.Reference7Ideal.Read.val_main_v0_eq, e0, e1]
  exact ref7_eq _ _

/-! ## The gradient of the output weight -/

theorem frame_r8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem ref8_eq (x0 : Mm.Mat 2048 2048) (x2 : Mm.Mat 2048 2048) :
    Cert.Reference8Ideal.Read.val_main_v3 (F := Ideal) x0 x2 = Mm.tn x0 x2 := by
  funext i
  rw [Cert.Reference8Ideal.Read.val_main_v3_apply]
  refine Eq.trans (b := Cert.Reference8Ideal.Read.val_main_v2 (F := Ideal) x0 x2 i) rfl ?_
  rw [Cert.Reference8Ideal.Read.val_main_v2_apply, Cert.Reference8Ideal.Read.val_main_v1_apply]
  unfold Mm.tn
  refine Finset.sum_congr rfl fun k _ => (mul_comm _ _).trans (congrArg₂ (· * ·) (congrArg x0 ?_) (congrArg x2 ?_)) <;>
    · funext a; match a with | ⟨0, _⟩ => rfl | ⟨1, _⟩ => rfl

theorem algebraic8 : Cert.algebraic_Kernel8Ideal_Reference8Ideal := by
  intro m ρ m' ρ' _ harg
  refine ⟨fun c => (Cert.Kernel8Ideal.Gen.dats m 0 c).arrAt 2 Cert.Kernel8Ideal.cfg0.N,
    Cert.Kernel8Ideal.Value.run_blocks (F := Ideal) m ρ,
    (θ_run Cert.Reference8Ideal.defs _ _).mono (fun r h c => ?_) (Cert.Reference8Ideal.Value.run (F := Ideal) m' ρ')⟩
  obtain ⟨e0, e1, e2⟩ := harg c
  obtain ⟨h0, h1⟩ := h c
  refine ⟨(h0.trans ?_).trans (Cert.Kernel8Ideal.Gen.result m c).symm, h1⟩
  rw [Cert.Reference8Ideal.Read.val_main_v3_eq, e0, e2]
  exact ref8_eq _ _

/-! ## The gradient reaching the output product's input -/

theorem frame_r9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem ref9_eq (x1 : Mm.Mat 2048 2048) (x2 : Mm.Mat 2048 2048) :
    Cert.Reference9Ideal.Read.val_main_v1 (F := Ideal) x1 x2 = Mm.nt x2 x1 := by
  funext i
  rw [Cert.Reference9Ideal.Read.val_main_v1_apply]
  unfold Mm.nt
  refine Finset.sum_congr rfl fun k _ => congrArg₂ (· * ·) (congrArg x2 ?_) (congrArg x1 ?_) <;>
    · funext a; match a with | ⟨0, _⟩ => rfl | ⟨1, _⟩ => rfl

theorem algebraic9 : Cert.algebraic_Kernel9Ideal_Reference9Ideal := by
  intro m ρ m' ρ' _ harg
  refine ⟨fun c => (Cert.Kernel9Ideal.Gen.dats m 0 c).arrAt 2 Cert.Kernel9Ideal.cfg0.N,
    Cert.Kernel9Ideal.Value.run_blocks (F := Ideal) m ρ,
    (θ_run Cert.Reference9Ideal.defs _ _).mono (fun r h c => ?_) (Cert.Reference9Ideal.Value.run (F := Ideal) m' ρ')⟩
  obtain ⟨e0, e1, e2⟩ := harg c
  obtain ⟨h0, h1⟩ := h c
  refine ⟨(h0.trans ?_).trans (Cert.Kernel9Ideal.Gen.result m c).symm, h1⟩
  rw [Cert.Reference9Ideal.Read.val_main_v1_eq, e1, e2]
  exact ref9_eq _ _

/-! ## The even layers' output product -/

theorem frame_r10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem ref10_eq (x0 : Mm.Mat 2048 2048) (x1 : Mm.Mat 2048 2048) (x2 : Mm.Mat 2048 2048) :
    Cert.Reference10Ideal.Read.val_main_v1 (F := Ideal) x0 x1 x2 = fun i => Mm.nn x1 x2 i + x0 i := by
  funext i
  rw [Cert.Reference10Ideal.Read.val_main_v1_apply, Cert.Reference10Ideal.Read.val_main_v0_apply]
  refine (add_comm _ _).trans (congrArg (· + x0 i) ?_)
  unfold Mm.nn
  refine Finset.sum_congr rfl fun k _ => congrArg₂ (· * ·) (congrArg x1 ?_) (congrArg x2 ?_) <;>
    · funext a; match a with | ⟨0, _⟩ => rfl | ⟨1, _⟩ => rfl

theorem algebraic10 : Cert.algebraic_Kernel10Ideal_Reference10Ideal := by
  intro m ρ m' ρ' _ harg
  refine ⟨fun c => (Cert.Kernel10Ideal.Gen.dats m 0 c).arrAt 3 Cert.Kernel10Ideal.cfg0.N,
    Cert.Kernel10Ideal.Value.run_blocks (F := Ideal) m ρ,
    (θ_run Cert.Reference10Ideal.defs _ _).mono (fun r h c => ?_) (Cert.Reference10Ideal.Value.run (F := Ideal) m' ρ')⟩
  obtain ⟨e0, e1, e2⟩ := harg c
  obtain ⟨h0, h1⟩ := h c
  refine ⟨(h0.trans ?_).trans (Cert.Kernel10Ideal.Gen.result m c).symm, h1⟩
  rw [Cert.Reference10Ideal.Read.val_main_v1_eq, e0, e1, e2]
  exact ref10_eq _ _ _

end Cert.Proof

end
-- ==== Proof.Proj.P11.lean ====
/- What one of the projections' products leaves, at the extended reals: each block of the result is its own whole sum.
   The product is the odd layers' output product, its bias and the residual. -/
module

public import proofs.«01_k».proof.Proof.Gen.Kernel11Ideal.Value
public import Idealize.ShloMosaic.Lib.Pointwise
public import proofs.«01_k».proof.Proof.Mm

@[expose] public section

set_option maxRecDepth 16384

noncomputable section

namespace Cert.Kernel11Ideal.Gen

open Idealize.ShloMosaic Idealize.ShloMosaic.TcCoe Idealize.SL.Sem Idealize.ShloMosaic.StableHlo
open Cert.Kernel11Ideal.Value

/-- The block the body stores, from the blocks it loads. -/
theorem pay1_apply (x0 : Vec Ideal S1024x2048 .bf16) (x1 : Vec Ideal S8x1x256x1024 .bf16) (x2 : Vec Ideal S1x1024 .f32) (x3 : Vec Ideal S1024x1024 .f32) (y : S1024x1024.Idx) :
    k0_pay1 x1 x0 x2 x3 y = (∑ k : Fin 2048, x0 (ix2 (y 0) k) * x1 (ix4 (⟨k.val / 256, by have h : k.val < 2048 := k.isLt; omega⟩ : Fin 8) (0 : Fin 1) (⟨k.val % 256, Nat.mod_lt _ (by decide)⟩ : Fin 256) (y 1))) + x2 (ix2 (0 : Fin 1) (y 1)) + x3 y := by
  pointwise [k0_pay1]

theorem block_apply (x0 : Vec Ideal S1024x2048 .bf16) (x1 : Vec Ideal S8x1x256x1024 .bf16) (x2 : Vec Ideal S1x1024 .f32) (x3 : Vec Ideal S1024x1024 .f32) (y : S1024x1024.Idx) :
    out0_4 (F := Ideal) x0 x1 x2 x3 y = (∑ k : Fin 2048, x0 (ix2 (y 0) k) * x1 (ix4 (⟨k.val / 256, by have h : k.val < 2048 := k.isLt; omega⟩ : Fin 8) (0 : Fin 1) (⟨k.val % 256, Nat.mod_lt _ (by decide)⟩ : Fin 256) (y 1))) + x2 (ix2 (0 : Fin 1) (y 1)) + x3 y := by
  unfold out0_4
  rw [View.canon_unit_zero (by funext a; fin_cases a <;> rfl)]
  repeat rw [View.ld_unit_zero (by funext a; fin_cases a <;> rfl)]
  exact pay1_apply x0 x1 x2 x3 y

variable (m : (ℓ : Loc nD τ sig) → Buf (Elt Ideal) ℓ) (ρ : Dev nD → PrngReg)

/-- Where the windows stand at a point. -/
theorem at0 : ∀ t : Fin cfg0.N, win0_0.index t (0 : Fin 2) = t.val / 2
    ∧ win0_0.index t (1 : Fin 2) = 0
    ∧ win0_1.index t (0 : Fin 4) = 0
    ∧ win0_1.index t (1 : Fin 4) = 0
    ∧ win0_1.index t (2 : Fin 4) = 0
    ∧ win0_1.index t (3 : Fin 4) = t.val % 2
    ∧ win0_2.index t (0 : Fin 2) = 0
    ∧ win0_2.index t (1 : Fin 2) = t.val % 2
    ∧ win0_3.index t (0 : Fin 2) = t.val / 2
    ∧ win0_3.index t (1 : Fin 2) = t.val % 2
    ∧ win0_4.index t (0 : Fin 2) = t.val / 2
    ∧ win0_4.index t (1 : Fin 2) = t.val % 2 :=
  (by decide +kernel : ∀ t : Fin grid0.N, _)

/-- What the program leaves in its result array. -/
theorem arr (c : Dev nD) : (dats m 0 c).arrAt 4 cfg0.N = fun i => Mm.nn (V m c main_v0) (Mm.ofRows (rfl : 2048 = 8 * 256) (V m c main_v2)) i + V m c main_v3 (ix2 (0 : Fin 1) (i 1)) + V m c main_arg0 i := by
  have hN : cfg0.N = 4 := N_0
  refine (dats m 0 c).arrAt_eq_of_cover 4 _ (fun t _ => ?_) (fun i => ?_)
  · rw [flushed4]
    funext y
    obtain ⟨e0, e1, e2, e3, e4, e5, e6, e7, e8, e9, e10, e11⟩ := at0 t
    have htN := t.isLt
    have hy0 : (y 0).val < 1024 := (y 0).isLt
    have hy1 : (y 1).val < 1024 := (y 1).isLt
    show out0_4 (iblk m c 0 t) (iblk m c 1 t) (iblk m c 2 t) (iblk m c 3 t) y = Mm.nn (V m c main_v0) (Mm.ofRows (rfl : 2048 = 8 * 256) (V m c main_v2)) (((cfg0.win 4).blk t).view.emb y) + V m c main_v3 (ix2 (0 : Fin 1) ((((cfg0.win 4).blk t).view.emb y) 1)) + V m c main_arg0 (((cfg0.win 4).blk t).view.emb y)
    rw [block_apply]
    refine congrArg₂ (· + ·) (congrArg₂ (· + ·) ?_ (congrArg (V m c main_v3) ?_)) (congrArg (V m c main_arg0) ?_)
    · unfold Mm.nn Mm.ofRows
      refine Finset.sum_congr rfl fun k _ => ?_
      have hk : k.val < 2048 := k.isLt
      refine congrArg₂ (· * ·) (congrArg (V m c main_v0) ?_) (congrArg (V m c main_v2) ?_)
      · funext a; apply Fin.ext
        match a with
        | ⟨0, _⟩ => show win0_0.index t (0 : Fin 2) * 1024 + 1 * ((y 0).val) = (win0_4.index t (0 : Fin 2) * 1024 + 1 * (y 0).val); omega
        | ⟨1, _⟩ => show win0_0.index t (1 : Fin 2) * 2048 + 1 * (k.val) = k.val; omega
      · funext a; apply Fin.ext
        match a with
        | ⟨0, _⟩ => show win0_1.index t (0 : Fin 4) * 8 + 1 * (k.val / 256) = k.val / 256; omega
        | ⟨1, _⟩ => show win0_1.index t (1 : Fin 4) * 1 + 1 * (0) = 0; omega
        | ⟨2, _⟩ => show win0_1.index t (2 : Fin 4) * 256 + 1 * (k.val % 256) = k.val % 256; omega
        | ⟨3, _⟩ => show win0_1.index t (3 : Fin 4) * 1024 + 1 * ((y 1).val) = (win0_4.index t (1 : Fin 2) * 1024 + 1 * (y 1).val); omega
    · funext a; apply Fin.ext
      match a with
      | ⟨0, _⟩ => show win0_2.index t (0 : Fin 2) * 1 + 1 * (0) = 0; omega
      | ⟨1, _⟩ => show win0_2.index t (1 : Fin 2) * 1024 + 1 * ((y 1).val) = (win0_4.index t (1 : Fin 2) * 1024 + 1 * (y 1).val); omega
    · funext a; apply Fin.ext
      match a with
      | ⟨0, _⟩ => show win0_3.index t (0 : Fin 2) * 1024 + 1 * ((y 0).val) = (win0_4.index t (0 : Fin 2) * 1024 + 1 * (y 0).val); omega
      | ⟨1, _⟩ => show win0_3.index t (1 : Fin 2) * 1024 + 1 * ((y 1).val) = (win0_4.index t (1 : Fin 2) * 1024 + 1 * (y 1).val); omega
  · have hi0 : (i 0).val < 2048 := (i 0).isLt
    have hi1 : (i 1).val < 2048 := (i 1).isLt
    let t : Fin cfg0.N := ⟨2 * ((i 0).val / 1024) + (i 1).val / 1024, lt_of_lt_of_eq (by omega) (show 4 = cfg0.N from N_0.symm)⟩
    obtain ⟨e0, e1, e2, e3, e4, e5, e6, e7, e8, e9, e10, e11⟩ := at0 t
    have ht : t.val = 2 * ((i 0).val / 1024) + (i 1).val / 1024 := rfl
    refine ⟨t, flush0_4 t, ?_⟩
    show i ∈ ((View.whole main_v4).slice (win0_4.rect t)).set
    rw [View.set_slice_whole, Rect.mem_set_unit]
    intro a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 1024 ≤ (i 1).val ∧ (i 1).val < win0_4.index t (1 : Fin 2) * 1024 + 1024; omega

/-! ## The host lines -/

theorem host_v0 (c : Dev nD) : V m c main_v0 = m ((c : Thread nD τ).loc main_arg1) := by
  show StableHlo.after hostOps0 _ _ = _
  after_results
  rfl

/-- The host's lines that cut a weight into row shards. -/
def shards (x : FVec Ideal S2048x2048 .f32) : Vec Ideal S8x1x256x2048 .bf16 :=
  truncf (F := Ideal) .bf16 (shapeCast S8x1x256x2048 x shapeCasts_S2048x2048_S8x1x256x2048) bitsLt_bf16_f32

theorem whole_shards (x : FVec Ideal S2048x2048 .f32) : Mm.ofRows (rfl : 2048 = 8 * 256) (shards x) = x := by
  funext i
  have h0 : (i 0).val < 2048 := (i 0).isLt
  unfold Mm.ofRows
  pointwise [shards]

theorem host_w (c : Dev nD) : Mm.ofRows (rfl : 2048 = 8 * 256) (V m c main_v2) = m ((c : Thread nD τ).loc main_arg2) := by
  refine Eq.trans (congrArg (Mm.ofRows (rfl : 2048 = 8 * 256)) ?_) (whole_shards (m ((c : Thread nD τ).loc main_arg2)))
  show StableHlo.after hostOps0 _ _ = _
  after_results
  rfl

/-- The bias as a row. -/
def biasRow (x : FVec Ideal S2048 .f32) : Vec Ideal S1x2048 .f32 := shapeCast S1x2048 x shapeCasts_S2048_S1x2048

theorem biasRow_apply (x : FVec Ideal S2048 .f32) (j : Fin 2048) : biasRow x (ix2 (0 : Fin 1) j) = x (ix1 j) := by
  pointwise [biasRow]

theorem host_b (c : Dev nD) : V m c main_v3 = biasRow (m ((c : Thread nD τ).loc main_arg3)) := by
  show StableHlo.after hostOps0 _ _ = _
  after_results
  rfl

/-- The result at the end of the run. -/
theorem result (c : Dev nD) : (dats m 0 c).arrAt 4 cfg0.N = fun i => Mm.nn (m ((c : Thread nD τ).loc main_arg1)) (m ((c : Thread nD τ).loc main_arg2)) i + (m ((c : Thread nD τ).loc main_arg3) (ix1 (i 1)) : EReal) + (m ((c : Thread nD τ).loc main_arg0) i : EReal) := by
  rw [arr]
  have e := congrArg₂ Mm.nn (host_v0 m c) (host_w m c)
  funext i
  exact congrArg₂ (fun (a b : EReal) => a + b) (congrArg₂ (fun (a b : EReal) => a + b) (congrFun e i) ((congrFun (host_b m c) _).trans (biasRow_apply _ _))) (congrFun (V_main_arg0 m c) i)

end Cert.Kernel11Ideal.Gen

end
-- ==== Proof.Proj.P12.lean ====
/- What one of the projections' products leaves, at the extended reals: each block of the result is its own whole sum.
   The product is the odd layers' first product and its bias. -/
module

public import proofs.«01_k».proof.Proof.Gen.Kernel12Ideal.Value
public import Idealize.ShloMosaic.Lib.Pointwise
public import proofs.«01_k».proof.Proof.Mm

@[expose] public section

set_option maxRecDepth 16384

noncomputable section

namespace Cert.Kernel12Ideal.Gen

open Idealize.ShloMosaic Idealize.ShloMosaic.TcCoe Idealize.SL.Sem Idealize.ShloMosaic.StableHlo
open Cert.Kernel12Ideal.Value

/-- The block the body stores, from the blocks it loads. -/
theorem pay1_apply (x0 : Vec Ideal S1024x2048 .bf16) (x1 : Vec Ideal S2048x512 .bf16) (x2 : Vec Ideal S1x512 .f32) (y : S1024x512.Idx) :
    k0_pay1 x1 x0 x2 y = (∑ k : Fin 2048, x0 (ix2 (y 0) k) * x1 (ix2 k (y 1))) + x2 (ix2 (0 : Fin 1) (y 1)) := by
  pointwise [k0_pay1]

theorem block_apply (x0 : Vec Ideal S1024x2048 .bf16) (x1 : Vec Ideal S2048x512 .bf16) (x2 : Vec Ideal S1x512 .f32) (y : S1024x512.Idx) :
    out0_3 (F := Ideal) x0 x1 x2 y = (∑ k : Fin 2048, x0 (ix2 (y 0) k) * x1 (ix2 k (y 1))) + x2 (ix2 (0 : Fin 1) (y 1)) := by
  unfold out0_3
  rw [View.canon_unit_zero (by funext a; fin_cases a <;> rfl)]
  repeat rw [View.ld_unit_zero (by funext a; fin_cases a <;> rfl)]
  exact pay1_apply x0 x1 x2 y

variable (m : (ℓ : Loc nD τ sig) → Buf (Elt Ideal) ℓ) (ρ : Dev nD → PrngReg)

/-- Where the windows stand at a point. -/
theorem at0 : ∀ t : Fin cfg0.N, win0_0.index t (0 : Fin 2) = t.val / 5
    ∧ win0_0.index t (1 : Fin 2) = 0
    ∧ win0_1.index t (0 : Fin 2) = 0
    ∧ win0_1.index t (1 : Fin 2) = t.val % 5
    ∧ win0_2.index t (0 : Fin 2) = 0
    ∧ win0_2.index t (1 : Fin 2) = t.val % 5
    ∧ win0_3.index t (0 : Fin 2) = t.val / 5
    ∧ win0_3.index t (1 : Fin 2) = t.val % 5 :=
  (by decide +kernel : ∀ t : Fin grid0.N, _)

/-- What the program leaves in its result array. -/
theorem arr (c : Dev nD) : (dats m 0 c).arrAt 3 cfg0.N = fun i => Mm.nn (V m c main_v0) (V m c main_v6) i + V m c main_v7 (ix2 (0 : Fin 1) (i 1)) := by
  have hN : cfg0.N = 10 := N_0
  refine (dats m 0 c).arrAt_eq_of_cover 3 _ (fun t _ => ?_) (fun i => ?_)
  · rw [flushed3]
    funext y
    obtain ⟨e0, e1, e2, e3, e4, e5, e6, e7⟩ := at0 t
    have htN := t.isLt
    have hy0 : (y 0).val < 1024 := (y 0).isLt
    have hy1 : (y 1).val < 512 := (y 1).isLt
    show out0_3 (iblk m c 0 t) (iblk m c 1 t) (iblk m c 2 t) y = Mm.nn (V m c main_v0) (V m c main_v6) (((cfg0.win 3).blk t).view.emb y) + V m c main_v7 (ix2 (0 : Fin 1) ((((cfg0.win 3).blk t).view.emb y) 1))
    rw [block_apply]
    refine congrArg₂ (· + ·) ?_ (congrArg (V m c main_v7) ?_)
    · unfold Mm.nn
      refine Finset.sum_congr rfl fun k _ => ?_
      have hk : k.val < 2048 := k.isLt
      refine congrArg₂ (· * ·) (congrArg (V m c main_v0) ?_) (congrArg (V m c main_v6) ?_)
      · funext a; apply Fin.ext
        match a with
        | ⟨0, _⟩ => show win0_0.index t (0 : Fin 2) * 1024 + 1 * ((y 0).val) = (win0_3.index t (0 : Fin 2) * 1024 + 1 * (y 0).val); omega
        | ⟨1, _⟩ => show win0_0.index t (1 : Fin 2) * 2048 + 1 * (k.val) = k.val; omega
      · funext a; apply Fin.ext
        match a with
        | ⟨0, _⟩ => show win0_1.index t (0 : Fin 2) * 2048 + 1 * (k.val) = k.val; omega
        | ⟨1, _⟩ => show win0_1.index t (1 : Fin 2) * 512 + 1 * ((y 1).val) = (win0_3.index t (1 : Fin 2) * 512 + 1 * (y 1).val); omega
    · funext a; apply Fin.ext
      match a with
      | ⟨0, _⟩ => show win0_2.index t (0 : Fin 2) * 1 + 1 * (0) = 0; omega
      | ⟨1, _⟩ => show win0_2.index t (1 : Fin 2) * 512 + 1 * ((y 1).val) = (win0_3.index t (1 : Fin 2) * 512 + 1 * (y 1).val); omega
  · have hi0 : (i 0).val < 2048 := (i 0).isLt
    have hi1 : (i 1).val < 2560 := (i 1).isLt
    let t : Fin cfg0.N := ⟨5 * ((i 0).val / 1024) + (i 1).val / 512, lt_of_lt_of_eq (by omega) (show 10 = cfg0.N from N_0.symm)⟩
    obtain ⟨e0, e1, e2, e3, e4, e5, e6, e7⟩ := at0 t
    have ht : t.val = 5 * ((i 0).val / 1024) + (i 1).val / 512 := rfl
    refine ⟨t, flush0_3 t, ?_⟩
    show i ∈ ((View.whole main_v8).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 512 ≤ (i 1).val ∧ (i 1).val < win0_3.index t (1 : Fin 2) * 512 + 512; omega

/-! ## The host lines -/

theorem host_v0 (c : Dev nD) : V m c main_v0 = m ((c : Thread nD τ).loc main_arg0) := by
  show StableHlo.after hostOps0 _ _ = _
  after_results
  rfl

/-- The host's lines that cut a weight into column shards and put it together again. -/
def shards (x : FVec Ideal S2048x2560 .f32) : Vec Ideal S2048x2560 .bf16 :=
  shapeCast S2048x2560 (transpose S2048x8x320 [1, 0, 2] (shapeCast S8x2048x320 (truncf (F := Ideal) .bf16
    (transpose S8x1x2048x320 [1, 2, 0, 3] (shapeCast S2048x8x1x320 x shapeCasts_S2048x2560_S2048x8x1x320)
      transposes_S2048x8x1x320_S8x1x2048x320_1_2_0_3) bitsLt_bf16_f32) shapeCasts_S8x1x2048x320_S8x2048x320)
    transposes_S8x2048x320_S2048x8x320_1_0_2) shapeCasts_S2048x8x320_S2048x2560

theorem whole_shards (x : FVec Ideal S2048x2560 .f32) : (shards x) = x := by
  funext i
  have h0 : (i 0).val < 2048 := (i 0).isLt
  have h1 : (i 1).val < 2560 := (i 1).isLt
  pointwise [shards]

theorem host_w (c : Dev nD) : (V m c main_v6) = m ((c : Thread nD τ).loc main_arg1) := by
  refine Eq.trans (b := shards (m ((c : Thread nD τ).loc main_arg1))) ?_ (whole_shards (m ((c : Thread nD τ).loc main_arg1)))
  show StableHlo.after hostOps0 _ _ = _
  after_results
  rfl

/-- The bias as a row. -/
def biasRow (x : FVec Ideal S2560 .f32) : Vec Ideal S1x2560 .f32 := shapeCast S1x2560 x shapeCasts_S2560_S1x2560

theorem biasRow_apply (x : FVec Ideal S2560 .f32) (j : Fin 2560) : biasRow x (ix2 (0 : Fin 1) j) = x (ix1 j) := by
  pointwise [biasRow]

theorem host_b (c : Dev nD) : V m c main_v7 = biasRow (m ((c : Thread nD τ).loc main_arg2)) := by
  show StableHlo.after hostOps0 _ _ = _
  after_results
  rfl

/-- The result at the end of the run. -/
theorem result (c : Dev nD) : (dats m 0 c).arrAt 3 cfg0.N = fun i => Mm.nn (m ((c : Thread nD τ).loc main_arg0)) (m ((c : Thread nD τ).loc main_arg1)) i + (m ((c : Thread nD τ).loc main_arg2) (ix1 (i 1)) : EReal) := by
  rw [arr]
  have e := congrArg₂ Mm.nn (host_v0 m c) (host_w m c)
  funext i
  exact congrArg₂ (fun (a b : EReal) => a + b) (congrFun e i) ((congrFun (host_b m c) _).trans (biasRow_apply _ _))

end Cert.Kernel12Ideal.Gen

end
-- ==== Proof.Proj.P13.lean ====
/- What one of the projections' products leaves, at the extended reals: each block of the result is its own whole sum.
   The product is the gradient of the odd layers' first weight. -/
module

public import proofs.«01_k».proof.Proof.Gen.Kernel13Ideal.Value
public import Idealize.ShloMosaic.Lib.Pointwise
public import proofs.«01_k».proof.Proof.Mm

@[expose] public section

set_option maxRecDepth 16384

noncomputable section

namespace Cert.Kernel13Ideal.Gen

open Idealize.ShloMosaic Idealize.ShloMosaic.TcCoe Idealize.SL.Sem Idealize.ShloMosaic.StableHlo
open Cert.Kernel13Ideal.Value

/-- The block the body stores, from the blocks it loads. -/
theorem pay1_apply (x0 : Vec Ideal S2048x1024 .bf16) (x1 : Vec Ideal S2048x512 .bf16) (y : S1024x512.Idx) :
    k0_pay1 x1 x0 y = (∑ k : Fin 2048, x0 (ix2 k (y 0)) * x1 (ix2 k (y 1))) := by
  pointwise [k0_pay1]

theorem block_apply (x0 : Vec Ideal S2048x1024 .bf16) (x1 : Vec Ideal S2048x512 .bf16) (y : S1024x512.Idx) :
    out0_2 (F := Ideal) x0 x1 y = (∑ k : Fin 2048, x0 (ix2 k (y 0)) * x1 (ix2 k (y 1))) := by
  unfold out0_2
  rw [View.canon_unit_zero (by funext a; fin_cases a <;> rfl)]
  repeat rw [View.ld_unit_zero (by funext a; fin_cases a <;> rfl)]
  exact pay1_apply x0 x1 y

variable (m : (ℓ : Loc nD τ sig) → Buf (Elt Ideal) ℓ) (ρ : Dev nD → PrngReg)

/-- Where the windows stand at a point. -/
theorem at0 : ∀ t : Fin cfg0.N, win0_0.index t (0 : Fin 2) = 0
    ∧ win0_0.index t (1 : Fin 2) = t.val / 5
    ∧ win0_1.index t (0 : Fin 2) = 0
    ∧ win0_1.index t (1 : Fin 2) = t.val % 5
    ∧ win0_2.index t (0 : Fin 2) = t.val / 5
    ∧ win0_2.index t (1 : Fin 2) = t.val % 5 :=
  (by decide +kernel : ∀ t : Fin grid0.N, _)

/-- What the program leaves in its result array. -/
theorem arr (c : Dev nD) : (dats m 0 c).arrAt 2 cfg0.N = fun i => Mm.tn (V m c main_v0) (V m c main_v1) i := by
  have hN : cfg0.N = 10 := N_0
  refine (dats m 0 c).arrAt_eq_of_cover 2 _ (fun t _ => ?_) (fun i => ?_)
  · rw [flushed2]
    funext y
    obtain ⟨e0, e1, e2, e3, e4, e5⟩ := at0 t
    have htN := t.isLt
    have hy0 : (y 0).val < 1024 := (y 0).isLt
    have hy1 : (y 1).val < 512 := (y 1).isLt
    show out0_2 (iblk m c 0 t) (iblk m c 1 t) y = Mm.tn (V m c main_v0) (V m c main_v1) (((cfg0.win 2).blk t).view.emb y)
    rw [block_apply]
    unfold Mm.tn
    refine Finset.sum_congr rfl fun k _ => ?_
    have hk : k.val < 2048 := k.isLt
    refine congrArg₂ (· * ·) (congrArg (V m c main_v0) ?_) (congrArg (V m c main_v1) ?_)
    · funext a; apply Fin.ext
      match a with
      | ⟨0, _⟩ => show win0_0.index t (0 : Fin 2) * 2048 + 1 * (k.val) = k.val; omega
      | ⟨1, _⟩ => show win0_0.index t (1 : Fin 2) * 1024 + 1 * ((y 0).val) = (win0_2.index t (0 : Fin 2) * 1024 + 1 * (y 0).val); omega
    · funext a; apply Fin.ext
      match a with
      | ⟨0, _⟩ => show win0_1.index t (0 : Fin 2) * 2048 + 1 * (k.val) = k.val; omega
      | ⟨1, _⟩ => show win0_1.index t (1 : Fin 2) * 512 + 1 * ((y 1).val) = (win0_2.index t (1 : Fin 2) * 512 + 1 * (y 1).val); omega
  · have hi0 : (i 0).val < 2048 := (i 0).isLt
    have hi1 : (i 1).val < 2560 := (i 1).isLt
    let t : Fin cfg0.N := ⟨5 * ((i 0).val / 1024) + (i 1).val / 512, lt_of_lt_of_eq (by omega) (show 10 = cfg0.N from N_0.symm)⟩
    obtain ⟨e0, e1, e2, e3, e4, e5⟩ := at0 t
    have ht : t.val = 5 * ((i 0).val / 1024) + (i 1).val / 512 := rfl
    refine ⟨t, flush0_2 t, ?_⟩
    show i ∈ ((View.whole main_v2).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 512 ≤ (i 1).val ∧ (i 1).val < win0_2.index t (1 : Fin 2) * 512 + 512; omega

/-! ## The host lines -/

theorem host_v0 (c : Dev nD) : V m c main_v0 = m ((c : Thread nD τ).loc main_arg0) := by
  show StableHlo.after hostOps0 _ _ = _
  after_results
  rfl

theorem host_w (c : Dev nD) : V m c main_v1 = m ((c : Thread nD τ).loc main_arg2) := by
  show StableHlo.after hostOps0 _ _ = _
  after_results
  rfl

/-- The result at the end of the run. -/
theorem result (c : Dev nD) : (dats m 0 c).arrAt 2 cfg0.N = fun i => Mm.tn (m ((c : Thread nD τ).loc main_arg0)) (m ((c : Thread nD τ).loc main_arg2)) i := by
  rw [arr]
  have e := congrArg₂ Mm.tn (host_v0 m c) (host_w m c)
  funext i
  exact congrFun e i

end Cert.Kernel13Ideal.Gen

end
-- ==== Proof.Proj.P14.lean ====
/- What one of the projections' products leaves, at the extended reals: each block of the result is its own whole sum.
   The product is the gradient reaching the odd layers' first product's input. -/
module

public import proofs.«01_k».proof.Proof.Gen.Kernel14Ideal.Value
public import Idealize.ShloMosaic.Lib.Pointwise
public import proofs.«01_k».proof.Proof.Mm

@[expose] public section

set_option maxRecDepth 16384

noncomputable section

namespace Cert.Kernel14Ideal.Gen

open Idealize.ShloMosaic Idealize.ShloMosaic.TcCoe Idealize.SL.Sem Idealize.ShloMosaic.StableHlo
open Cert.Kernel14Ideal.Value

/-- The block the body stores, from the blocks it loads. -/
theorem pay1_apply (x0 : Vec Ideal S1024x2560 .bf16) (x1 : Vec Ideal S1024x2560 .bf16) (y : S1024x1024.Idx) :
    k0_pay1 x1 x0 y = (∑ k : Fin 2560, x0 (ix2 (y 0) k) * x1 (ix2 (y 1) k)) := by
  pointwise [k0_pay1]

theorem block_apply (x0 : Vec Ideal S1024x2560 .bf16) (x1 : Vec Ideal S1024x2560 .bf16) (y : S1024x1024.Idx) :
    out0_2 (F := Ideal) x0 x1 y = (∑ k : Fin 2560, x0 (ix2 (y 0) k) * x1 (ix2 (y 1) k)) := by
  unfold out0_2
  rw [View.canon_unit_zero (by funext a; fin_cases a <;> rfl)]
  repeat rw [View.ld_unit_zero (by funext a; fin_cases a <;> rfl)]
  exact pay1_apply x0 x1 y

variable (m : (ℓ : Loc nD τ sig) → Buf (Elt Ideal) ℓ) (ρ : Dev nD → PrngReg)

/-- Where the windows stand at a point. -/
theorem at0 : ∀ t : Fin cfg0.N, win0_0.index t (0 : Fin 2) = t.val / 2
    ∧ win0_0.index t (1 : Fin 2) = 0
    ∧ win0_1.index t (0 : Fin 2) = t.val % 2
    ∧ win0_1.index t (1 : Fin 2) = 0
    ∧ win0_2.index t (0 : Fin 2) = t.val / 2
    ∧ win0_2.index t (1 : Fin 2) = t.val % 2 :=
  (by decide +kernel : ∀ t : Fin grid0.N, _)

/-- What the program leaves in its result array. -/
theorem arr (c : Dev nD) : (dats m 0 c).arrAt 2 cfg0.N = fun i => Mm.nt (V m c main_v0) (V m c main_v6) i := by
  have hN : cfg0.N = 4 := N_0
  refine (dats m 0 c).arrAt_eq_of_cover 2 _ (fun t _ => ?_) (fun i => ?_)
  · rw [flushed2]
    funext y
    obtain ⟨e0, e1, e2, e3, e4, e5⟩ := at0 t
    have htN := t.isLt
    have hy0 : (y 0).val < 1024 := (y 0).isLt
    have hy1 : (y 1).val < 1024 := (y 1).isLt
    show out0_2 (iblk m c 0 t) (iblk m c 1 t) y = Mm.nt (V m c main_v0) (V m c main_v6) (((cfg0.win 2).blk t).view.emb y)
    rw [block_apply]
    unfold Mm.nt
    refine Finset.sum_congr rfl fun k _ => ?_
    have hk : k.val < 2560 := k.isLt
    refine congrArg₂ (· * ·) (congrArg (V m c main_v0) ?_) (congrArg (V m c main_v6) ?_)
    · funext a; apply Fin.ext
      match a with
      | ⟨0, _⟩ => show win0_0.index t (0 : Fin 2) * 1024 + 1 * ((y 0).val) = (win0_2.index t (0 : Fin 2) * 1024 + 1 * (y 0).val); omega
      | ⟨1, _⟩ => show win0_0.index t (1 : Fin 2) * 2560 + 1 * (k.val) = k.val; omega
    · funext a; apply Fin.ext
      match a with
      | ⟨0, _⟩ => show win0_1.index t (0 : Fin 2) * 1024 + 1 * ((y 1).val) = (win0_2.index t (1 : Fin 2) * 1024 + 1 * (y 1).val); omega
      | ⟨1, _⟩ => show win0_1.index t (1 : Fin 2) * 2560 + 1 * (k.val) = k.val; omega
  · have hi0 : (i 0).val < 2048 := (i 0).isLt
    have hi1 : (i 1).val < 2048 := (i 1).isLt
    let t : Fin cfg0.N := ⟨2 * ((i 0).val / 1024) + (i 1).val / 1024, lt_of_lt_of_eq (by omega) (show 4 = cfg0.N from N_0.symm)⟩
    obtain ⟨e0, e1, e2, e3, e4, e5⟩ := at0 t
    have ht : t.val = 2 * ((i 0).val / 1024) + (i 1).val / 1024 := rfl
    refine ⟨t, flush0_2 t, ?_⟩
    show i ∈ ((View.whole main_v7).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The host lines -/

theorem host_v0 (c : Dev nD) : V m c main_v0 = m ((c : Thread nD τ).loc main_arg2) := by
  show StableHlo.after hostOps0 _ _ = _
  after_results
  rfl

/-- The host's lines that cut a weight into column shards and put it together again. -/
def shards (x : FVec Ideal S2048x2560 .f32) : Vec Ideal S2048x2560 .bf16 :=
  shapeCast S2048x2560 (transpose S2048x8x320 [1, 0, 2] (shapeCast S8x2048x320 (truncf (F := Ideal) .bf16
    (transpose S8x1x2048x320 [1, 2, 0, 3] (shapeCast S2048x8x1x320 x shapeCasts_S2048x2560_S2048x8x1x320)
      transposes_S2048x8x1x320_S8x1x2048x320_1_2_0_3) bitsLt_bf16_f32) shapeCasts_S8x1x2048x320_S8x2048x320)
    transposes_S8x2048x320_S2048x8x320_1_0_2) shapeCasts_S2048x8x320_S2048x2560

theorem whole_shards (x : FVec Ideal S2048x2560 .f32) : (shards x) = x := by
  funext i
  have h0 : (i 0).val < 2048 := (i 0).isLt
  have h1 : (i 1).val < 2560 := (i 1).isLt
  pointwise [shards]

theorem host_w (c : Dev nD) : (V m c main_v6) = m ((c : Thread nD τ).loc main_arg1) := by
  refine Eq.trans (b := shards (m ((c : Thread nD τ).loc main_arg1))) ?_ (whole_shards (m ((c : Thread nD τ).loc main_arg1)))
  show StableHlo.after hostOps0 _ _ = _
  after_results
  rfl

/-- The result at the end of the run. -/
theorem result (c : Dev nD) : (dats m 0 c).arrAt 2 cfg0.N = fun i => Mm.nt (m ((c : Thread nD τ).loc main_arg2)) (m ((c : Thread nD τ).loc main_arg1)) i := by
  rw [arr]
  have e := congrArg₂ Mm.nt (host_v0 m c) (host_w m c)
  funext i
  exact congrFun e i

end Cert.Kernel14Ideal.Gen

end
-- ==== Proof.Proj.Odd.lean ====
/- The claims about the products of the odd layers' projections. -/
module

public import proofs.«01_k».proof.Defs
public import proofs.«01_k».proof.Proof.Proj.P11
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import proofs.«01_k».proof.Proof.Proj.P12
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import proofs.«01_k».proof.Proof.Proj.P13
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import proofs.«01_k».proof.Proof.Proj.P14
public import proofs.«01_k».proof.Proof.Gen.Kernel14Ideal
public import proofs.«01_k».proof.Proof.Gen.Reference14Ideal
public import proofs.«01_k».proof.Proof.Gen.Reference14Ideal.Run
public import proofs.«01_k».proof.Proof.Gen.Reference14Ideal.Read

@[expose] public section

set_option maxRecDepth 16384

noncomputable section

namespace Cert.Proof

open Idealize.ShloMosaic Idealize.ShloMosaic.TcCoe Idealize.SL.Sem

/-! ## The odd layers' output product -/

theorem frame_r11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

theorem ref11_eq (x0 : Mm.Mat 2048 2048) (x1 : Mm.Mat 2048 2048) (x2 : Mm.Mat 2048 2048) (x3 : (⟨1, ![2048]⟩ : Shape).Idx → EReal) :
    Cert.Reference11Ideal.Read.val_main_v4 (F := Ideal) x0 x1 x2 x3 = fun i => Mm.nn x1 x2 i + x3 (ix1 (i 1)) + x0 i := by
  funext i
  rw [Cert.Reference11Ideal.Read.val_main_v4_apply, Cert.Reference11Ideal.Read.val_main_v3_apply, Cert.Reference11Ideal.Read.val_main_v2_apply, Cert.Reference11Ideal.Read.val_main_v1_apply, Cert.Reference11Ideal.Read.val_main_v0_apply]
  refine (add_comm _ _).trans (congrArg (· + x0 i) (congrArg₂ (· + ·) ?_ (congrArg x3 ?_)))
  · unfold Mm.nn
    refine Finset.sum_congr rfl fun k _ => congrArg₂ (· * ·) (congrArg x1 ?_) (congrArg x2 ?_) <;>
      · funext a; match a with | ⟨0, _⟩ => rfl | ⟨1, _⟩ => rfl
  · funext a; match a with | ⟨0, _⟩ => rfl

theorem algebraic11 : Cert.algebraic_Kernel11Ideal_Reference11Ideal := by
  intro m ρ m' ρ' _ harg
  refine ⟨fun c => (Cert.Kernel11Ideal.Gen.dats m 0 c).arrAt 4 Cert.Kernel11Ideal.cfg0.N,
    Cert.Kernel11Ideal.Value.run_blocks (F := Ideal) m ρ,
    (θ_run Cert.Reference11Ideal.defs _ _).mono (fun r h c => ?_) (Cert.Reference11Ideal.Value.run (F := Ideal) m' ρ')⟩
  obtain ⟨e0, e1, e2, e3⟩ := harg c
  obtain ⟨h0, h1⟩ := h c
  refine ⟨(h0.trans ?_).trans (Cert.Kernel11Ideal.Gen.result m c).symm, h1⟩
  rw [Cert.Reference11Ideal.Read.val_main_v4_eq, e0, e1, e2, e3]
  exact ref11_eq _ _ _ _

/-! ## The odd layers' first product -/

theorem frame_r12 : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

theorem ref12_eq (x0 : Mm.Mat 2048 2048) (x1 : Mm.Mat 2048 2560) (x2 : (⟨1, ![2560]⟩ : Shape).Idx → EReal) :
    Cert.Reference12Ideal.Read.val_main_v3 (F := Ideal) x0 x1 x2 = fun i => Mm.nn x0 x1 i + x2 (ix1 (i 1)) := by
  funext i
  rw [Cert.Reference12Ideal.Read.val_main_v3_apply, Cert.Reference12Ideal.Read.val_main_v2_apply, Cert.Reference12Ideal.Read.val_main_v1_apply, Cert.Reference12Ideal.Read.val_main_v0_apply]
  refine congrArg₂ (fun (a b : EReal) => a + b) ?_ (congrArg x2 ?_)
  · unfold Mm.nn
    refine Finset.sum_congr rfl fun k _ => congrArg₂ (· * ·) (congrArg x0 ?_) (congrArg x1 ?_) <;>
      · funext a; match a with | ⟨0, _⟩ => rfl | ⟨1, _⟩ => rfl
  · funext a; match a with | ⟨0, _⟩ => rfl

theorem algebraic12 : Cert.algebraic_Kernel12Ideal_Reference12Ideal := by
  intro m ρ m' ρ' _ harg
  refine ⟨fun c => (Cert.Kernel12Ideal.Gen.dats m 0 c).arrAt 3 Cert.Kernel12Ideal.cfg0.N,
    Cert.Kernel12Ideal.Value.run_blocks (F := Ideal) m ρ,
    (θ_run Cert.Reference12Ideal.defs _ _).mono (fun r h c => ?_) (Cert.Reference12Ideal.Value.run (F := Ideal) m' ρ')⟩
  obtain ⟨e0, e1, e2⟩ := harg c
  obtain ⟨h0, h1⟩ := h c
  refine ⟨(h0.trans ?_).trans (Cert.Kernel12Ideal.Gen.result m c).symm, h1⟩
  rw [Cert.Reference12Ideal.Read.val_main_v3_eq, e0, e1, e2]
  exact ref12_eq _ _ _

/-! ## The gradient of the odd layers' first weight -/

theorem frame_r13 : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

theorem ref13_eq (x0 : Mm.Mat 2048 2048) (x2 : Mm.Mat 2048 2560) :
    Cert.Reference13Ideal.Read.val_main_v3 (F := Ideal) x0 x2 = Mm.tn x0 x2 := by
  funext i
  rw [Cert.Reference13Ideal.Read.val_main_v3_apply]
  refine Eq.trans (b := Cert.Reference13Ideal.Read.val_main_v2 (F := Ideal) x0 x2 i) rfl ?_
  rw [Cert.Reference13Ideal.Read.val_main_v2_apply, Cert.Reference13Ideal.Read.val_main_v1_apply]
  unfold Mm.tn
  refine Finset.sum_congr rfl fun k _ => (mul_comm _ _).trans (congrArg₂ (· * ·) (congrArg x0 ?_) (congrArg x2 ?_)) <;>
    · funext a; match a with | ⟨0, _⟩ => rfl | ⟨1, _⟩ => rfl

theorem algebraic13 : Cert.algebraic_Kernel13Ideal_Reference13Ideal := by
  intro m ρ m' ρ' _ harg
  refine ⟨fun c => (Cert.Kernel13Ideal.Gen.dats m 0 c).arrAt 2 Cert.Kernel13Ideal.cfg0.N,
    Cert.Kernel13Ideal.Value.run_blocks (F := Ideal) m ρ,
    (θ_run Cert.Reference13Ideal.defs _ _).mono (fun r h c => ?_) (Cert.Reference13Ideal.Value.run (F := Ideal) m' ρ')⟩
  obtain ⟨e0, e1, e2⟩ := harg c
  obtain ⟨h0, h1⟩ := h c
  refine ⟨(h0.trans ?_).trans (Cert.Kernel13Ideal.Gen.result m c).symm, h1⟩
  rw [Cert.Reference13Ideal.Read.val_main_v3_eq, e0, e2]
  exact ref13_eq _ _

/-! ## The gradient reaching the odd layers' first product's input -/

theorem frame_r14 : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

theorem ref14_eq (x1 : Mm.Mat 2048 2560) (x2 : Mm.Mat 2048 2560) :
    Cert.Reference14Ideal.Read.val_main_v1 (F := Ideal) x1 x2 = Mm.nt x2 x1 := by
  funext i
  rw [Cert.Reference14Ideal.Read.val_main_v1_apply]
  unfold Mm.nt
  refine Finset.sum_congr rfl fun k _ => congrArg₂ (· * ·) (congrArg x2 ?_) (congrArg x1 ?_) <;>
    · funext a; match a with | ⟨0, _⟩ => rfl | ⟨1, _⟩ => rfl

theorem algebraic14 : Cert.algebraic_Kernel14Ideal_Reference14Ideal := by
  intro m ρ m' ρ' _ harg
  refine ⟨fun c => (Cert.Kernel14Ideal.Gen.dats m 0 c).arrAt 2 Cert.Kernel14Ideal.cfg0.N,
    Cert.Kernel14Ideal.Value.run_blocks (F := Ideal) m ρ,
    (θ_run Cert.Reference14Ideal.defs _ _).mono (fun r h c => ?_) (Cert.Reference14Ideal.Value.run (F := Ideal) m' ρ')⟩
  obtain ⟨e0, e1, e2⟩ := harg c
  obtain ⟨h0, h1⟩ := h c
  refine ⟨(h0.trans ?_).trans (Cert.Kernel14Ideal.Gen.result m c).symm, h1⟩
  rw [Cert.Reference14Ideal.Read.val_main_v1_eq, e1, e2]
  exact ref14_eq _ _

end Cert.Proof

end
-- ==== Proof.Fwd.Same.lean ====
/- The forward reference's arrays are those the backward reference forms on its way. -/
module

public import proofs.«01_k».proof.Proof.Swa.Host
public import proofs.«01_k».proof.Proof.Gen.Reference15Ideal.Read
public import Idealize.ShloMosaic.Lib.KernelVsHost

@[expose] public section

set_option maxRecDepth 65536

noncomputable section

namespace Cert.Fwd

open Idealize.ShloMosaic Cert.Swa Cert.Reference15Ideal Cert.Reference15Ideal.Gen

variable (x0 : (⟨S2048x2560, .f32⟩ : BufTy).Contents (Elt Ideal)) (x1 : (⟨S32, .f32⟩ : BufTy).Contents (Elt Ideal))

theorem w25 : Cert.Reference15Ideal.Read.val_main_v25 (F := Ideal) x0 = Cert.ReferenceIdeal.Read.val_main_v27 (F := Ideal) x0 := rfl
theorem w29 : Cert.Reference15Ideal.Read.val_main_v29 (F := Ideal) x0 = Cert.ReferenceIdeal.Read.val_main_v31 (F := Ideal) x0 := rfl
theorem w59 : Cert.Reference15Ideal.Read.val_main_v59 (F := Ideal) = Cert.ReferenceIdeal.Read.val_main_v61 (F := Ideal) := rfl
theorem w60 : Cert.Reference15Ideal.Read.val_main_v60 (F := Ideal) x0 = Cert.ReferenceIdeal.Read.val_main_v62_0 (F := Ideal) x0 := by
  unfold Cert.Reference15Ideal.Read.val_main_v60 Cert.ReferenceIdeal.Read.val_main_v62_0
  rw [w29]
  rfl
theorem w61 : Cert.Reference15Ideal.Read.val_main_v61 (F := Ideal) x0 = Cert.ReferenceIdeal.Read.val_main_v63 (F := Ideal) x0 := by
  unfold Cert.Reference15Ideal.Read.val_main_v61 Cert.ReferenceIdeal.Read.val_main_v63
  rw [w60]
  rfl
theorem w65 : Cert.Reference15Ideal.Read.val_main_v65 (F := Ideal) x0 x1 = Cert.ReferenceIdeal.Read.val_main_v72 (F := Ideal) x0 x1 := by
  unfold Cert.Reference15Ideal.Read.val_main_v65 Cert.ReferenceIdeal.Read.val_main_v72
  rw [w61]
  rfl
theorem w69 : Cert.Reference15Ideal.Read.val_main_v69 (F := Ideal) x0 x1 = Cert.ReferenceIdeal.Read.val_main_v94 (F := Ideal) x0 x1 := by
  unfold Cert.Reference15Ideal.Read.val_main_v69 Cert.Reference15Ideal.Read.val_main_v68 Cert.Reference15Ideal.Read.val_main_v67 Cert.Reference15Ideal.Read.val_main_v66
    Cert.ReferenceIdeal.Read.val_main_v94
  rw [w60, w65]
  rfl
theorem w75 : Cert.Reference15Ideal.Read.val_main_v75 (F := Ideal) x0 x1 = Cert.ReferenceIdeal.Read.val_main_v100 (F := Ideal) x0 x1 := by
  unfold Cert.Reference15Ideal.Read.val_main_v75 Cert.Reference15Ideal.Read.val_main_v70 Cert.Reference15Ideal.Read.val_main_v74 Cert.Reference15Ideal.Read.val_main_v73
  rw [w69, w65]
  rfl
theorem w78 : Cert.Reference15Ideal.Read.val_main_v78 (F := Ideal) x0 x1 = Cert.ReferenceIdeal.Read.val_main_v103 (F := Ideal) x0 x1 := by
  unfold Cert.Reference15Ideal.Read.val_main_v78 Cert.Reference15Ideal.Read.val_main_v77 Cert.Reference15Ideal.Read.val_main_v76
  rw [w69, w25]
  rfl
theorem w79 : Cert.Reference15Ideal.Read.val_main_v79 (F := Ideal) x0 x1 = Cert.ReferenceIdeal.Read.val_main_v104 (F := Ideal) x0 x1 := by
  unfold Cert.Reference15Ideal.Read.val_main_v79
  rw [w65]
  rfl
theorem w80 : Cert.Reference15Ideal.Read.val_main_v80 (F := Ideal) x0 x1 = Cert.ReferenceIdeal.Read.val_main_v105 (F := Ideal) x0 x1 := by
  unfold Cert.Reference15Ideal.Read.val_main_v80
  rw [w75]
  rfl
theorem w83 : Cert.Reference15Ideal.Read.val_main_v83 (F := Ideal) x0 x1 = Cert.ReferenceIdeal.Read.val_main_v108 (F := Ideal) x0 x1 := by
  unfold Cert.Reference15Ideal.Read.val_main_v83 Cert.Reference15Ideal.Read.val_main_v82 Cert.Reference15Ideal.Read.val_main_v81
  rw [w78, w80]
  rfl

variable (h : Fin 4) (j : Fin 8) (b : Fin 16) (i : Fin 128) (d : Fin 64)

/-- The forward pass's output. -/
theorem out_at : Cert.Reference15Ideal.Read.val_main_v88 (F := Ideal) x0 x1 (ix3 (⟨8 * h.val + j.val, by omega⟩ : Fin 32) (at_row b i) d)
    = Ideal.div (numAt x0 x1 h j b i d) (totAt x0 x1 h j b i) := by
  unfold Cert.Reference15Ideal.Read.val_main_v88 Cert.Reference15Ideal.Read.val_main_v84
  rw [w83]
  exact (Cert.KernelIdeal.Gen.lay_o h j d _ (at_row b i)).trans (r108 x0 x1 h j b i d)

/-- The rows' log-sums. -/
theorem lse_at : Cert.Reference15Ideal.Read.val_main_v87 (F := Ideal) x0 x1 (ix3 (⟨8 * h.val + j.val, by omega⟩ : Fin 32) (at_row b i) (0 : Fin 1))
    = lseAt x0 x1 h j b i := by
  unfold Cert.Reference15Ideal.Read.val_main_v87 Cert.Reference15Ideal.Read.val_main_v86 Cert.Reference15Ideal.Read.val_main_v85
  rw [w79, w80]
  exact (Cert.KernelIdeal.Gen.lay_lse h j _ _ (at_row b i)).trans
    (congrArg₂ (fun p q : EReal => p + Ideal.log q) (r104 x0 x1 h j b i) (r105 x0 x1 h j b i))

/-- The maximum along the last axis, as a fold over it. -/
theorem fold_last (X : FVec Ideal Cert.ReferenceIdeal.S1x4x8x16x128x256 .f32) (hr : Cert.ReferenceIdeal.S1x4x8x16x128x256.Reduces [5] Cert.ReferenceIdeal.S1x4x8x16x128) :
    Host.reduce FloatOps.maximumf X (constant (F := Ideal) Cert.ReferenceIdeal.S_ .f32 0xFF800000#32)
      Cert.ReferenceIdeal.Gen.reducesTo_S1x4x8x16x128x256_S1x4x8x16x128_d5 Cert.ReferenceIdeal.Gen.h_S_ (ix5 (0 : Fin 1) h j b i)
      = (Finset.univ : Finset (Fin 256)).fold max (Ideal.ofBits .f32 0xFF800000#32) fun y => X (ix6 (0 : Fin 1) h j b i y) := by
  rw [hostReduce_maximumf_eq_multiReduction X (0xFF800000#32 : BitVec (FTy.bits .f32)) _ _ hr (.inl rfl) rfl]
  refine (Ideal.multiReduction_maximumf_single X _ hr _ _ _).trans ?_
  refine congrArg (fun f => (Finset.univ : Finset (Fin 256)).fold max (Ideal.ofBits .f32 0xFF800000#32) f) (funext fun y => ?_)
  refine congrArg X ?_
  funext a; apply Fin.ext
  match a with
  | ⟨0, _⟩ => rfl
  | ⟨1, _⟩ => rfl
  | ⟨2, _⟩ => rfl
  | ⟨3, _⟩ => rfl
  | ⟨4, _⟩ => rfl
  | ⟨5, _⟩ => rfl

/-- A row's maximum, over its masked scores and its sink. -/
theorem max_at : mAt x0 x1 h j b i = max ((Finset.univ : Finset (Fin 256)).fold max ⊥ (sAt x0 h j b i)) (sinkAt x1 h j) := by
  unfold mAt
  rw [Cert.ReferenceIdeal.Read.val_main_v72_apply, r71]
  refine congrArg (max · (sinkAt x1 h j)) ?_
  have eb : Ideal.ofBits FTy.f32 0xFF800000#32 = ⊥ := by simp [Ideal.ofBits, Ideal.ieee]
  refine (fold_last h j b i (Cert.ReferenceIdeal.Read.val_main_v62_0 (F := Ideal) x0) (by decide)).trans ?_
  rw [eb]
  exact congrArg (fun f => (Finset.univ : Finset (Fin 256)).fold max ⊥ f) (funext fun y => r62 x0 h j b i y)

variable (f0 : ∀ (n : Fin 2048) (k : Fin 2560), k.val < 2304 → ∃ r : ℝ, x0 (ix2 n k) = (r : EReal)) (f1 : ∀ k, x1 k ≠ ⊤)

include f0 in
/-- Where the queries and the keys are finite, a score that is seen is real. -/
theorem score_real (y : Fin 256) (hs : seen b.val i.val y.val) : ∃ r : ℝ, sAt x0 h j b i y = (r : EReal) := by
  have hk : ∀ d : Fin 64, ∃ r : ℝ, kAt x0 h b y d 0 (by norm_num) = (r : EReal) := by
    intro d
    unfold kAt
    by_cases hb : 128 ≤ 128 * b.val + y.val
    · rw [dif_pos hb]; exact f0 _ _ (show 2048 + 0 + 64 * h.val + d.val < 2304 by omega)
    · rw [dif_neg hb]; exact ⟨0, rfl⟩
  choose k hk using hk
  have hq : ∀ d : Fin 64, ∃ r : ℝ, qAt x0 h j b i d = (r : EReal) := fun d =>
    f0 _ _ (show 64 * (8 * h.val + j.val) + d.val < 2304 by omega)
  choose q hq using hq
  obtain ⟨c, hc⟩ := scale_real
  refine ⟨(∑ d, k d * q d) * c, ?_⟩
  unfold sAt
  rw [if_pos hs, EReal.coe_mul, coe_sum, hc]
  refine congrArg (· * (c : EReal)) (Finset.sum_congr rfl fun d _ => ?_)
  rw [hk d, hq d, EReal.coe_mul]

include f0 in
theorem score_ne_top (y : Fin 256) : sAt x0 h j b i y ≠ ⊤ := by
  by_cases hs : seen b.val i.val y.val
  · obtain ⟨r, hr⟩ := score_real x0 h j b i f0 y hs
    rw [hr]; exact EReal.coe_ne_top r
  · unfold sAt
    rw [if_neg hs]; exact bot_ne_top

theorem exp_nonneg (x : EReal) : 0 ≤ Ideal.exp x := by
  induction x using EReal.rec with
  | bot => exact le_refl _
  | top => exact le_top
  | coe r => exact EReal.coe_nonneg.mpr (Real.exp_pos r).le

include f0 f1 in
/-- Where the queries and the keys are finite and no sink is +∞, a row's total is no zero: a row sees its own key. -/
theorem tot_ne : totAt x0 x1 h j b i ≠ 0 := by
  have hown : seen b.val i.val (⟨i.val + 128, by omega⟩ : Fin 256).val := by
    refine ⟨?_, ?_, .inl ?_⟩ <;> dsimp only <;> omega
  obtain ⟨r, hr⟩ := score_real x0 h j b i f0 _ hown
  have hlt : mAt x0 x1 h j b i ≠ ⊤ := by
    rw [max_at]
    exact (max_lt ((Finset.fold_max_lt _).mpr ⟨bot_lt_top, fun y _ => lt_top_iff_ne_top.mpr (score_ne_top x0 h j b i f0 y)⟩)
      (lt_top_iff_ne_top.mpr (f1 _))).ne
  have hle : (r : EReal) ≤ mAt x0 x1 h j b i := by
    rw [max_at]
    exact le_max_of_le_left ((Finset.le_fold_max _).mpr (.inr ⟨_, Finset.mem_univ _, hr.ge⟩))
  have hbot : mAt x0 x1 h j b i ≠ ⊥ := ((EReal.bot_lt_coe r).trans_le hle).ne'
  obtain ⟨M, hM⟩ : ∃ M : ℝ, mAt x0 x1 h j b i = (M : EReal) := ⟨_, (EReal.coe_toReal hlt hbot).symm⟩
  have hw : 0 < wt (sAt x0 h j b i) (mAt x0 x1 h j b i) (⟨i.val + 128, by omega⟩ : Fin 256) := by
    unfold wt
    rw [hr, hM, ← EReal.coe_sub]
    exact EReal.coe_pos.mpr (Real.exp_pos _)
  have hsum : 0 < ∑ y, wt (sAt x0 h j b i) (mAt x0 x1 h j b i) y :=
    hw.trans_le (Finset.single_le_sum (f := fun y => wt (sAt x0 h j b i) (mAt x0 x1 h j b i) y) (fun y _ => exp_nonneg _) (Finset.mem_univ _))
  exact (hsum.trans_le (le_add_of_nonneg_right (exp_nonneg _))).ne'

end Cert.Fwd

end
-- ==== Proof.Fwd.Block.lean ====
/- The attention's forward body over one block of 128 queries of the eight heads of a group, over the extended reals. -/
module

public import proofs.«01_k».proof.Proof.Swa.Block
public import proofs.«01_k».proof.Proof.Gen.Kernel15Ideal.Skeleton

@[expose] public section

set_option maxRecDepth 16384

noncomputable section

namespace Cert.Fwd

open Idealize.ShloMosaic Cert.Mm Cert.Swa

/-- A block's masked scores. -/
def score (b : ℕ) (q : Mat 1024 64) (kk : Mat 256 64) : Mat 1024 256 := fun i =>
  if seen b ((i 0).val % 128) (i 1).val then nt q kk i * scale else ⊥
/-- The rows' maxima, over scores and sink. -/
def rmax (s : Mat 1024 256) (sk : Mat 1024 1) : Mat 1024 1 := fun i =>
  max ((Finset.univ : Finset (Fin 256)).fold max ⊥ fun y => s (ix2 (i 0) y)) (sk i)
/-- The rows' weights before they are normalised. -/
def weight (s : Mat 1024 256) (sk : Mat 1024 1) : Mat 1024 256 := fun i => Ideal.exp (s i - rmax s sk (ix2 (i 0) (0 : Fin 1)))
/-- The rows' totals. -/
def total (s : Mat 1024 256) (sk : Mat 1024 1) : Mat 1024 1 := fun i =>
  (∑ y : Fin 256, weight s sk (ix2 (i 0) y)) + Ideal.exp (sk i - rmax s sk i)
/-- The rows' outputs, as the kernel normalises them. -/
def outRow (s : Mat 1024 256) (sk : Mat 1024 1) (vv : Mat 256 64) : Mat 1024 64 := fun i =>
  nn (weight s sk) vv i * Ideal.div 1 (total s sk (ix2 (i 0) (0 : Fin 1)))
/-- The rows' log-sums. -/
def lseRow (s : Mat 1024 256) (sk : Mat 1024 1) : Mat 1024 1 := fun i => rmax s sk i + Ideal.log (total s sk i)

end Cert.Fwd

namespace Cert.Kernel15Ideal.Gen

open Idealize.ShloMosaic Idealize.ShloMosaic.TcCoe Cert.Swa Cert.Fwd
open Cert.KernelIdeal.Gen (row_in_head mask_bit bit)

/-- The column numbers, as the program passes them. -/
abbrev cols : IVec S1024x256 32 := iota Kind.tc S1024x256 32 [1] iota_S1024x256_d1_w32

theorem pay20_apply (i : S1024x256.Idx) : k0_pay20 i = BitVec.ofNat 32 ((i 0).val % 128) := by
  have h := row_in_head (i 0)
  pointwise [k0_pay20]
  exact h

theorem pay19_apply (q : Mm.Mat 1024 64) (a b : Vec Ideal S1x128x64 .bf16) (i) :
    k0_pay19 (F := Ideal) q (k0_pay17 (F := Ideal) a) b i = Mm.nt q (k0_pay18 (F := Ideal) a b) i * scale := by
  unfold Mm.nt scale
  pointwise [k0_pay19, k0_pay17, k0_pay18]

theorem pay1_eq (n : ℕ) (q : Mm.Mat 1024 64) (a b : Vec Ideal S1x128x64 .bf16) :
    k0_pay1 (F := Ideal) (k0_pay19 (F := Ideal) q (k0_pay17 (F := Ideal) a) b) (bit n) k0_pay20 cols = score n q (k0_pay18 (F := Ideal) a b) := by
  funext i
  have hr := pay20_apply i
  have hm := mask_bit (decide (n ≠ 0)) ⟨(i 0).val % 128, Nat.mod_lt _ (by norm_num)⟩ (i 1)
  have hb : Ideal.ofBits FTy.f32 4286578688#32 = ⊥ := by simp [Ideal.ofBits, Ideal.ieee]
  have h45 := pay19_apply q a b i
  unfold score
  pointwise [k0_pay1]
  rw [hr, hm, hb, h45]
  by_cases hs : seen n ((i 0).val % 128) (i 1).val
  · rw [if_pos hs]
    have : decide ((i 0).val % 128 < (i 1).val ∧ (i 1).val ≤ (i 0).val % 128 + 128 ∧ (128 ≤ (i 1).val ∨ decide (n ≠ 0) = true)) = true := by
      rw [decide_eq_true_iff, decide_eq_true_iff]; exact hs
    rw [this]; rfl
  · rw [if_neg hs]
    have : decide ((i 0).val % 128 < (i 1).val ∧ (i 1).val ≤ (i 0).val % 128 + 128 ∧ (128 ≤ (i 1).val ∨ decide (n ≠ 0) = true)) = false := by
      rw [decide_eq_false_iff_not, decide_eq_true_iff]; exact hs
    rw [this]; rfl

section stages
variable (sk : Mm.Mat 1024 1) (x : Mm.Mat 1024 256) (f : BitVec 1) (r w : IVec S1024x256 32) (vv : Mm.Mat 256 64)

theorem pay2_eq : k0_pay2 (F := Ideal) sk x f r w = rmax (k0_pay1 (F := Ideal) x f r w) sk := by
  funext i
  have hb : Ideal.ofBits FTy.f32 4286578688#32 = ⊥ := by simp [Ideal.ofBits, Ideal.ieee]
  unfold rmax
  rw [← hb]
  pointwise [k0_pay2]
theorem pay3_eq : k0_pay3 (F := Ideal) sk x f r w = weight (k0_pay1 (F := Ideal) x f r w) sk := by
  funext i
  unfold weight
  rw [← pay2_eq]
  pointwise [k0_pay3]
theorem pay4_eq : k0_pay4 (F := Ideal) sk x f r w = total (k0_pay1 (F := Ideal) x f r w) sk := by
  funext i
  unfold total
  rw [← pay3_eq, ← pay2_eq]
  pointwise [k0_pay4]
theorem pay5_apply (y : S8x128x64.Idx) : k0_pay5 (F := Ideal) sk vv x f r w y = outRow (k0_pay1 (F := Ideal) x f r w) sk vv
    (ix2 ⟨(y 0).val * 128 + (y 1).val, by have : (y 0).val < 8 := (y 0).isLt; have : (y 1).val < 128 := (y 1).isLt; omega⟩ (y 2)) := by
  unfold outRow Mm.nn
  rw [← pay3_eq, ← pay4_eq]
  pointwise [k0_pay5]
theorem pay6_apply (y : S8x128x1.Idx) : k0_pay6 (F := Ideal) sk x f r w y = lseRow (k0_pay1 (F := Ideal) x f r w) sk
    (ix2 ⟨(y 0).val * 128 + (y 1).val, by have : (y 0).val < 8 := (y 0).isLt; have : (y 1).val < 128 := (y 1).isLt; omega⟩ (0 : Fin 1)) := by
  unfold lseRow
  rw [← pay4_eq, ← pay2_eq]
  pointwise [k0_pay6]
end stages

/-! ## The first block of a step is computed as the second -/

/-- Whether a block has one before it, as the program finds it from its number. -/
def flag (u v : BitVec 32) : BitVec 1 :=
  Scalar.cmpi .ne (Scalar.select (Scalar.andi (Scalar.xori (Scalar.cmpi .slt v 0#32) (Scalar.cmpi .slt u 0#32)) (Scalar.cmpi .ne v 0#32)) (Scalar.addi v u) v) 0#32

section first
variable (sk : Mm.Mat 1024 1) (x : Mm.Mat 1024 256) (u v : BitVec 32) (vv : Mm.Mat 256 64) (q : Vec Ideal S8x128x64 .bf16) (a b : Vec Ideal S1x128x64 .bf16)
theorem pay9_eq : k0_pay9 (F := Ideal) q a b = k0_pay19 (F := Ideal) (k0_pay16 (F := Ideal) q) (k0_pay17 (F := Ideal) a) b := rfl
theorem pay8_eq : k0_pay8 (F := Ideal) a b = k0_pay18 (F := Ideal) a b := rfl
theorem pay10_eq : k0_pay10 (F := Ideal) x u v = k0_pay1 (F := Ideal) x (flag u v) k0_pay20 cols := rfl
theorem pay14_eq : k0_pay14 (F := Ideal) sk vv (k0_pay10 (F := Ideal) x u v) (k0_pay11 (F := Ideal) sk x u v)
    = k0_pay5 (F := Ideal) sk vv x (flag u v) k0_pay20 cols := rfl
theorem pay15_eq : k0_pay15 (F := Ideal) sk (k0_pay10 (F := Ideal) x u v) (k0_pay11 (F := Ideal) sk x u v)
    = k0_pay6 (F := Ideal) sk x (flag u v) k0_pay20 cols := rfl
end first

end Cert.Kernel15Ideal.Gen

end
-- ==== Proof.Fwd.Match.lean ====
/- A block's outputs and log-sums as the kernel forms them, from matrices that hold the reference's queries, keys,
   values and sinks: they are the reference's. -/
module

public import proofs.«01_k».proof.Proof.Swa.Match
public import proofs.«01_k».proof.Proof.Fwd.Same
public import proofs.«01_k».proof.Proof.Fwd.Block

@[expose] public section

set_option maxRecDepth 16384

noncomputable section

namespace Cert.Fwd

open Idealize.ShloMosaic Cert.ReferenceIdeal Cert.ReferenceIdeal.Gen Cert.ReferenceIdeal.Read Cert.Swa Cert.Mm

variable (x0 : (⟨S2048x2560, .f32⟩ : BufTy).Contents (Elt Ideal)) (x1 : (⟨S32, .f32⟩ : BufTy).Contents (Elt Ideal))
  (h : Fin 4) (b : Fin 16) (j : Fin 8) (i : Fin 128) (y : Fin 256) (d : Fin 64)
  (q : Mat 1024 64) (sk : Mat 1024 1) (kk vv : Mat 256 64)
  (hq : ∀ j i d, q (ix2 (row8 j i) d) = qAt x0 h j b i d)
  (hs : ∀ j i, sk (ix2 (row8 j i) (0 : Fin 1)) = sinkAt x1 h j)
  (hk : ∀ y d, 128 ≤ 128 * b.val + y.val → kk (ix2 y d) = kAt x0 h b y d 0 (Nat.zero_le 256))
  (hv : ∀ y d, 128 ≤ 128 * b.val + y.val → vv (ix2 y d) = vAt x0 h b y d)
  (f0 : ∀ (n : Fin 2048) (k : Fin 2560), k.val < 2304 → ∃ r : ℝ, x0 (ix2 n k) = (r : EReal)) (f1 : ∀ k, x1 k ≠ ⊤)

include hq hk in
theorem score_at : score b.val q kk (ix2 (row8 j i) y) = sAt x0 h j b i y := by
  show (if seen b.val ((128 * j.val + i.val) % 128) y.val then (∑ k : Fin 64, q (ix2 (row8 j i) k) * kk (ix2 y k)) * scale else ⊥) = _
  rw [show (128 * j.val + i.val) % 128 = i.val by omega]
  unfold sAt
  by_cases hs : seen b.val i.val y.val
  · rw [if_pos hs, if_pos hs]
    refine congrArg (fun p : EReal => p * scale) (Finset.sum_congr rfl fun k _ => ?_)
    rw [hq, hk y k (seen_in b i y hs), mul_comm]
  · rw [if_neg hs, if_neg hs]

include hq hs hk in
theorem rmax_at : rmax (score b.val q kk) sk (ix2 (row8 j i) (0 : Fin 1)) = mAt x0 x1 h j b i := by
  rw [max_at]
  exact congrArg₂ max (congrArg (fun f => (Finset.univ : Finset (Fin 256)).fold max ⊥ f) (funext fun y => score_at x0 h b j i y q kk hq hk)) (hs j i)

include hq hs hk in
theorem weight_at : weight (score b.val q kk) sk (ix2 (row8 j i) y) = wt (sAt x0 h j b i) (mAt x0 x1 h j b i) y :=
  congrArg₂ (fun p q : EReal => Ideal.exp (p - q)) (score_at x0 h b j i y q kk hq hk) (rmax_at x0 x1 h b j i q sk kk hq hs hk)

include hq hs hk in
theorem total_at : total (score b.val q kk) sk (ix2 (row8 j i) (0 : Fin 1)) = totAt x0 x1 h j b i :=
  congrArg₂ (fun p q : EReal => p + q) (Finset.sum_congr rfl fun y _ => weight_at x0 x1 h b j i y q sk kk hq hs hk)
    (congrArg₂ (fun p q : EReal => Ideal.exp (p - q)) (hs j i) (rmax_at x0 x1 h b j i q sk kk hq hs hk))

include hq hs hk in
theorem lse_row : lseRow (score b.val q kk) sk (ix2 (row8 j i) (0 : Fin 1)) = lseAt x0 x1 h j b i :=
  congrArg₂ (fun p q : EReal => p + Ideal.log q) (rmax_at x0 x1 h b j i q sk kk hq hs hk) (total_at x0 x1 h b j i q sk kk hq hs hk)

include hq hs hk hv f0 f1 in
theorem out_row : outRow (score b.val q kk) sk vv (ix2 (row8 j i) d) = Ideal.div (numAt x0 x1 h j b i d) (totAt x0 x1 h j b i) := by
  show (∑ y : Fin 256, weight (score b.val q kk) sk (ix2 (row8 j i) y) * vv (ix2 y d)) * Ideal.div 1 (total (score b.val q kk) sk (ix2 (row8 j i) (0 : Fin 1))) = _
  rw [total_at x0 x1 h b j i q sk kk hq hs hk]
  have ht := tot_ne x0 x1 h j b i f0 f1
  have hn : (∑ y : Fin 256, weight (score b.val q kk) sk (ix2 (row8 j i) y) * vv (ix2 y d)) = numAt x0 x1 h j b i d := by
    show _ = ∑ y : Fin 256, vAt x0 h b y d * wt (sAt x0 h j b i) (mAt x0 x1 h j b i) y
    refine Finset.sum_congr rfl fun y _ => ?_
    rw [weight_at x0 x1 h b j i y q sk kk hq hs hk]
    by_cases hy : seen b.val i.val y.val
    · rw [hv y d (seen_in b i y hy), mul_comm]
    · have e : wt (sAt x0 h j b i) (mAt x0 x1 h j b i) y = 0 := by
        unfold wt sAt
        rw [if_neg hy, EReal.bot_sub, Ideal.exp_bot]
      rw [e, zero_mul, mul_zero]
  rw [hn]
  unfold Ideal.div
  rw [if_neg ht, if_neg ht, one_mul]

end Cert.Fwd

end
-- ==== Proof.Fwd.Load.lean ====
/- The blocks the attention's forward body loads, as rows of the arrays. -/
module

public import proofs.«01_k».proof.Proof.Swa.Load
public import proofs.«01_k».proof.Proof.Fwd.Block
public import proofs.«01_k».proof.Proof.Gen.Kernel15Ideal.Frame

@[expose] public section

set_option maxRecDepth 16384

noncomputable section

namespace Cert.Kernel15Ideal.Gen

open Idealize.ShloMosaic Idealize.ShloMosaic.TcCoe Cert.Swa Cert.Fwd
open Cert.KernelIdeal.Gen (bit)

variable (m : (ℓ : Loc nD τ sig) → Buf (Elt Ideal) ℓ) (c : Dev nD)

theorem tlt (t : Fin cfg0.N) : t.val < 32 := lt_of_lt_of_eq t.isLt (show cfg0.N = 32 from N_0)

/-- The key head of a point, and its first query block. -/
def hd (t : Fin cfg0.N) : Fin 4 := ⟨t.val / 8, by have := tlt t; omega⟩

/-! ## Where the windows stand at a point -/

theorem at_0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem at_1 : ∀ t : Fin cfg0.N, win0_1.index t (0 : Fin 3) = 32 + t.val / 8 ∧ win0_1.index t (1 : Fin 3) = 0 ∧ win0_1.index t (2 : Fin 3) = 0 :=
  (by decide +kernel : ∀ t : Fin grid0.N, _)
theorem at_2 : ∀ t : Fin cfg0.N, win0_2.index t (0 : Fin 3) = 36 + t.val / 8 ∧ win0_2.index t (1 : Fin 3) = 0 ∧ win0_2.index t (2 : Fin 3) = 0 :=
  (by decide +kernel : ∀ t : Fin grid0.N, _)
theorem at_3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem at_4 : ∀ t : Fin cfg0.N, win0_4.index t (0 : Fin 3) = t.val / 8 ∧ win0_4.index t (1 : Fin 3) = t.val % 8 ∧ win0_4.index t (2 : Fin 3) = 0 :=
  (by decide +kernel : ∀ t : Fin grid0.N, _)
theorem at_5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)
theorem off1_0 : ∀ t : Fin cfg0.N, k0_off1 (grid0.coords t) 0#32 = ![0, 256 * (t.val % 8) - 128, 0] :=
  (by decide +kernel : ∀ t : Fin grid0.N, k0_off1 (grid0.coords t) 0#32 = ![0, 256 * (t.val % 8) - 128, 0])
theorem off1_1 : ∀ t : Fin cfg0.N, k0_off1 (grid0.coords t) 1#32 = ![0, 256 * (t.val % 8), 0] :=
  (by decide +kernel : ∀ t : Fin grid0.N, k0_off1 (grid0.coords t) 1#32 = ![0, 256 * (t.val % 8), 0])
theorem off2_0 : ∀ t : Fin cfg0.N, k0_off2 (grid0.coords t) 0#32 = ![0, 256 * (t.val % 8), 0] :=
  (by decide +kernel : ∀ t : Fin grid0.N, k0_off2 (grid0.coords t) 0#32 = ![0, 256 * (t.val % 8), 0])
theorem off2_1 : ∀ t : Fin cfg0.N, k0_off2 (grid0.coords t) 1#32 = ![0, 256 * (t.val % 8) + 128, 0] :=
  (by decide +kernel : ∀ t : Fin grid0.N, k0_off2 (grid0.coords t) 1#32 = ![0, 256 * (t.val % 8) + 128, 0])

/-! ## The arrays the kernel is called with -/

def qkvA : S40x2048x64.Idx → EReal := V m c main_v3
def sinkA : S4x1024x1.Idx → EReal := V m c main_v7

/-! ## A window's block, at an index -/

theorem blkW_0 (W : (b : Ref sig .tc) → Buf (Elt Ideal) ((c : Thread nD τ).loc b)) (t : Fin cfg0.N) (x : S8x256x64.Idx) :
    ((cfg0.win 0).blk t).view.read (Elt Ideal) (W (Pipeline.arrRef spec0 0)) x = W main_v3 (ix3 ⟨8 * (t.val / 8) + (x 0).val, by have := tlt t; have : (x 0).val < 8 := (x 0).isLt; omega⟩ ⟨256 * (t.val % 8) + (x 1).val, by have := tlt t; have : (x 1).val < 256 := (x 1).isLt; omega⟩ (x 2)) := by
  obtain ⟨e0, e1, e2⟩ := at_0 t
  have hx : (x 0).val < 8 := (x 0).isLt
  refine congrArg (W main_v3) ?_
  funext a; apply Fin.ext
  match a with
  | ⟨0, _⟩ => show win0_0.index t (0 : Fin 3) * 8 + 1 * (x 0).val = 8 * (t.val / 8) + (x 0).val; omega
  | ⟨1, _⟩ => show win0_0.index t (1 : Fin 3) * 256 + 1 * (x 1).val = 256 * (t.val % 8) + (x 1).val; omega
  | ⟨2, _⟩ => show win0_0.index t (2 : Fin 3) * 64 + 1 * (x 2).val = (x 2).val; omega
theorem blk_0 (t : Fin cfg0.N) (x : S8x256x64.Idx) : iblk m c 0 t x = qkvA m c (ix3 ⟨8 * (t.val / 8) + (x 0).val, by have := tlt t; have : (x 0).val < 8 := (x 0).isLt; omega⟩ ⟨256 * (t.val % 8) + (x 1).val, by have := tlt t; have : (x 1).val < 256 := (x 1).isLt; omega⟩ (x 2)) :=
  blkW_0 c (V m c) t x
theorem blkW_1 (W : (b : Ref sig .tc) → Buf (Elt Ideal) ((c : Thread nD τ).loc b)) (t : Fin cfg0.N) (x : S1x2048x64.Idx) :
    ((cfg0.win 1).blk t).view.read (Elt Ideal) (W (Pipeline.arrRef spec0 1)) x = W main_v3 (ix3 ⟨32 + t.val / 8, by have := tlt t; have : (x 0).val < 1 := (x 0).isLt; omega⟩ (x 1) (x 2)) := by
  obtain ⟨e0, e1, e2⟩ := at_1 t
  have hx : (x 0).val < 1 := (x 0).isLt
  refine congrArg (W main_v3) ?_
  funext a; apply Fin.ext
  match a with
  | ⟨0, _⟩ => show win0_1.index t (0 : Fin 3) * 1 + 1 * (x 0).val = 32 + t.val / 8; omega
  | ⟨1, _⟩ => show win0_1.index t (1 : Fin 3) * 2048 + 1 * (x 1).val = (x 1).val; omega
  | ⟨2, _⟩ => show win0_1.index t (2 : Fin 3) * 64 + 1 * (x 2).val = (x 2).val; omega
theorem blk_1 (t : Fin cfg0.N) (x : S1x2048x64.Idx) : iblk m c 1 t x = qkvA m c (ix3 ⟨32 + t.val / 8, by have := tlt t; have : (x 0).val < 1 := (x 0).isLt; omega⟩ (x 1) (x 2)) :=
  blkW_1 c (V m c) t x
theorem blkW_2 (W : (b : Ref sig .tc) → Buf (Elt Ideal) ((c : Thread nD τ).loc b)) (t : Fin cfg0.N) (x : S1x2048x64.Idx) :
    ((cfg0.win 2).blk t).view.read (Elt Ideal) (W (Pipeline.arrRef spec0 2)) x = W main_v3 (ix3 ⟨36 + t.val / 8, by have := tlt t; have : (x 0).val < 1 := (x 0).isLt; omega⟩ (x 1) (x 2)) := by
  obtain ⟨e0, e1, e2⟩ := at_2 t
  have hx : (x 0).val < 1 := (x 0).isLt
  refine congrArg (W main_v3) ?_
  funext a; apply Fin.ext
  match a with
  | ⟨0, _⟩ => show win0_2.index t (0 : Fin 3) * 1 + 1 * (x 0).val = 36 + t.val / 8; omega
  | ⟨1, _⟩ => show win0_2.index t (1 : Fin 3) * 2048 + 1 * (x 1).val = (x 1).val; omega
  | ⟨2, _⟩ => show win0_2.index t (2 : Fin 3) * 64 + 1 * (x 2).val = (x 2).val; omega
theorem blk_2 (t : Fin cfg0.N) (x : S1x2048x64.Idx) : iblk m c 2 t x = qkvA m c (ix3 ⟨36 + t.val / 8, by have := tlt t; have : (x 0).val < 1 := (x 0).isLt; omega⟩ (x 1) (x 2)) :=
  blkW_2 c (V m c) t x
theorem blkW_3 (W : (b : Ref sig .tc) → Buf (Elt Ideal) ((c : Thread nD τ).loc b)) (t : Fin cfg0.N) (x : S1x1024x1.Idx) :
    ((cfg0.win 3).blk t).view.read (Elt Ideal) (W (Pipeline.arrRef spec0 3)) x = W main_v7 (ix3 ⟨t.val / 8, by have := tlt t; have : (x 0).val < 1 := (x 0).isLt; omega⟩ (x 1) (x 2)) := by
  obtain ⟨e0, e1, e2⟩ := at_3 t
  have hx : (x 0).val < 1 := (x 0).isLt
  refine congrArg (W main_v7) ?_
  funext a; apply Fin.ext
  match a with
  | ⟨0, _⟩ => show win0_3.index t (0 : Fin 3) * 1 + 1 * (x 0).val = t.val / 8; omega
  | ⟨1, _⟩ => show win0_3.index t (1 : Fin 3) * 1024 + 1 * (x 1).val = (x 1).val; omega
  | ⟨2, _⟩ => show win0_3.index t (2 : Fin 3) * 1 + 1 * (x 2).val = (x 2).val; omega
theorem blk_3 (t : Fin cfg0.N) (x : S1x1024x1.Idx) : iblk m c 3 t x = sinkA m c (ix3 ⟨t.val / 8, by have := tlt t; have : (x 0).val < 1 := (x 0).isLt; omega⟩ (x 1) (x 2)) :=
  blkW_3 c (V m c) t x

/-! ## What the body makes of a block it loads -/

theorem ld_q0 (M : Memref sig .tc .vmem S8x256x64 .bf16) (hM : M.IsWhole) (x : Vec Ideal S8x256x64 .bf16) (inb) (i) :
    k0_pay16 (F := Ideal) (View.readAt (Elt Ideal) M.view (Rect.unit (s := S8x256x64) ![0, 0, 0] S8x128x64.size inb).toLoadRect (hM.unread x)) i
      = x (ix3 ⟨(i 0).val / 128, by have : (i 0).val < 1024 := (i 0).isLt; omega⟩ ⟨0 + (i 0).val % 128, by omega⟩ (i 1)) := by
  have hi : (i 0).val < 1024 := (i 0).isLt
  rw [View.readAt_eq_ld, Memref.IsWhole.read_unread]
  pointwise [k0_pay16]
theorem ld_q1 (M : Memref sig .tc .vmem S8x256x64 .bf16) (hM : M.IsWhole) (x : Vec Ideal S8x256x64 .bf16) (inb) (i) :
    k0_pay16 (F := Ideal) (View.readAt (Elt Ideal) M.view (Rect.unit (s := S8x256x64) ![0, 128, 0] S8x128x64.size inb).toLoadRect (hM.unread x)) i
      = x (ix3 ⟨(i 0).val / 128, by have : (i 0).val < 1024 := (i 0).isLt; omega⟩ ⟨128 + (i 0).val % 128, by omega⟩ (i 1)) := by
  have hi : (i 0).val < 1024 := (i 0).isLt
  rw [View.readAt_eq_ld, Memref.IsWhole.read_unread]
  pointwise [k0_pay16]
theorem load_q0 (t : Fin cfg0.N) (inb) :
    k0_pay16 (F := Ideal) (View.readAt (Elt Ideal) (ms0_0 t).view (Rect.unit (s := S8x256x64) ![0, 0, 0] S8x128x64.size inb).toLoadRect ((hs0_0 t).unread (iblk m c 0 t)))
      = rows (n := 40) (by norm_num) (qkvA m c) (hd t) (2 * (t.val % 8)) := by
  funext i
  refine (ld_q0 (ms0_0 t) (hs0_0 t) (iblk m c 0 t) inb i).trans ((blk_0 m c t _).trans (congrArg (qkvA m c) ?_))
  have hi : (i 0).val < 1024 := (i 0).isLt
  funext a; apply Fin.ext
  match a with
  | ⟨0, _⟩ => rfl
  | ⟨1, _⟩ => show 256 * (t.val % 8) + (0 + (i 0).val % 128) = (128 * (2 * (t.val % 8)) + (i 0).val % 128) % 2048; omega
  | ⟨2, _⟩ => rfl
theorem load_q1 (t : Fin cfg0.N) (inb) :
    k0_pay16 (F := Ideal) (View.readAt (Elt Ideal) (ms0_0 t).view (Rect.unit (s := S8x256x64) ![0, 128, 0] S8x128x64.size inb).toLoadRect ((hs0_0 t).unread (iblk m c 0 t)))
      = rows (n := 40) (by norm_num) (qkvA m c) (hd t) (2 * (t.val % 8) + 1) := by
  funext i
  refine (ld_q1 (ms0_0 t) (hs0_0 t) (iblk m c 0 t) inb i).trans ((blk_0 m c t _).trans (congrArg (qkvA m c) ?_))
  have hi : (i 0).val < 1024 := (i 0).isLt
  funext a; apply Fin.ext
  match a with
  | ⟨0, _⟩ => rfl
  | ⟨1, _⟩ => show 256 * (t.val % 8) + (128 + (i 0).val % 128) = (128 * (2 * (t.val % 8) + 1) + (i 0).val % 128) % 2048; omega
  | ⟨2, _⟩ => rfl
theorem ld_sink (M : Memref sig .tc .vmem S1x1024x1 .f32) (hM : M.IsWhole) (x : Vec Ideal S1x1024x1 .f32) (inb) (i) :
    k0_pay7 (F := Ideal) (View.readAt (Elt Ideal) M.view (Rect.unit (s := S1x1024x1) ![0, 0, 0] S1x1024x1.size inb).toLoadRect (hM.unread x)) i
      = x (ix3 (0 : Fin 1) (i 0) (i 1)) := by
  rw [View.readAt_eq_ld, Memref.IsWhole.read_unread]
  pointwise [k0_pay7]
  refine congrArg x ?_
  funext a; apply Fin.ext
  match a with
  | ⟨0, _⟩ => rfl
  | ⟨1, _⟩ => rfl
  | ⟨2, _⟩ => have h1 : (i 1).val < 1 := (i 1).isLt; show 0 = (i 1).val; omega
theorem load_sink (t : Fin cfg0.N) (inb) :
    k0_pay7 (F := Ideal) (View.readAt (Elt Ideal) (ms0_3 t).view (Rect.unit (s := S1x1024x1) ![0, 0, 0] S1x1024x1.size inb).toLoadRect ((hs0_3 t).unread (iblk m c 3 t)))
      = sinkRows (sinkA m c) (hd t) := by
  funext i
  refine (ld_sink (ms0_3 t) (hs0_3 t) (iblk m c 3 t) inb i).trans ((blk_3 m c t _).trans ?_)
  rfl
theorem ld_keys (M : Memref sig .tc .vmem S1x2048x64 .bf16) (hM : M.IsWhole) (x : Vec Ideal S1x2048x64 .bf16) (a b : ℕ) (inb inb') (ha : a + 128 ≤ 2048) (hb : b + 128 ≤ 2048) (i) :
    k0_pay18 (F := Ideal)
      (View.readAt (Elt Ideal) M.view (Rect.unit (s := S1x2048x64) ![0, a, 0] S1x128x64.size inb).toLoadRect (hM.unread x))
      (View.readAt (Elt Ideal) M.view (Rect.unit (s := S1x2048x64) ![0, b, 0] S1x128x64.size inb').toLoadRect (hM.unread x)) i
      = if h : (i 0).val < 128 then x (ix3 (0 : Fin 1) ⟨a + (i 0).val, by omega⟩ (i 1))
        else x (ix3 (0 : Fin 1) ⟨b + ((i 0).val - 128), by have : (i 0).val < 256 := (i 0).isLt; omega⟩ (i 1)) := by
  have hi : (i 0).val < 256 := (i 0).isLt
  rw [View.readAt_eq_ld, View.readAt_eq_ld, Memref.IsWhole.read_unread]
  pointwise [k0_pay18]
theorem load_kk (t : Fin cfg0.N) (b : ℕ) (hb : b < 16) (off off' : Fin 3 → ℕ) (h : off = ![0, 128 * b - 128, 0]) (h' : off' = ![0, 128 * b, 0]) (inb inb') :
    k0_pay18 (F := Ideal)
      (View.readAt (Elt Ideal) (ms0_1 t).view (Rect.unit (s := S1x2048x64) off S1x128x64.size inb).toLoadRect ((hs0_1 t).unread (iblk m c 1 t)))
      (View.readAt (Elt Ideal) (ms0_1 t).view (Rect.unit (s := S1x2048x64) off' S1x128x64.size inb').toLoadRect ((hs0_1 t).unread (iblk m c 1 t)))
      = keys 32 (by norm_num) (qkvA m c) (hd t) b := by
  subst h h'
  funext i
  have hi : (i 0).val < 256 := (i 0).isLt
  rw [ld_keys (ms0_1 t) (hs0_1 t) (iblk m c 1 t) _ _ inb inb' (by omega) (by omega) i]
  unfold keys
  by_cases h0 : (i 0).val < 128
  · rw [dif_pos h0, if_pos h0]
    refine (blk_1 m c t _).trans (congrArg (qkvA m c) ?_)
    funext a; apply Fin.ext
    match a with
    | ⟨0, _⟩ => rfl
    | ⟨1, _⟩ => show 128 * b - 128 + (i 0).val = ((128 * b - 128) + (i 0).val) % 2048; omega
    | ⟨2, _⟩ => rfl
  · rw [dif_neg h0, if_neg h0]
    refine (blk_1 m c t _).trans (congrArg (qkvA m c) ?_)
    funext a; apply Fin.ext
    match a with
    | ⟨0, _⟩ => rfl
    | ⟨1, _⟩ => show 128 * b + ((i 0).val - 128) = (128 * b + ((i 0).val - 128)) % 2048; omega
    | ⟨2, _⟩ => rfl
theorem load_vv (t : Fin cfg0.N) (b : ℕ) (hb : b < 16) (off off' : Fin 3 → ℕ) (h : off = ![0, 128 * b - 128, 0]) (h' : off' = ![0, 128 * b, 0]) (inb inb') :
    k0_pay18 (F := Ideal)
      (View.readAt (Elt Ideal) (ms0_2 t).view (Rect.unit (s := S1x2048x64) off S1x128x64.size inb).toLoadRect ((hs0_2 t).unread (iblk m c 2 t)))
      (View.readAt (Elt Ideal) (ms0_2 t).view (Rect.unit (s := S1x2048x64) off' S1x128x64.size inb').toLoadRect ((hs0_2 t).unread (iblk m c 2 t)))
      = keys 36 (by norm_num) (qkvA m c) (hd t) b := by
  subst h h'
  funext i
  have hi : (i 0).val < 256 := (i 0).isLt
  rw [ld_keys (ms0_2 t) (hs0_2 t) (iblk m c 2 t) _ _ inb inb' (by omega) (by omega) i]
  unfold keys
  by_cases h0 : (i 0).val < 128
  · rw [dif_pos h0, if_pos h0]
    refine (blk_2 m c t _).trans (congrArg (qkvA m c) ?_)
    funext a; apply Fin.ext
    match a with
    | ⟨0, _⟩ => rfl
    | ⟨1, _⟩ => show 128 * b - 128 + (i 0).val = ((128 * b - 128) + (i 0).val) % 2048; omega
    | ⟨2, _⟩ => rfl
  · rw [dif_neg h0, if_neg h0]
    refine (blk_2 m c t _).trans (congrArg (qkvA m c) ?_)
    funext a; apply Fin.ext
    match a with
    | ⟨0, _⟩ => rfl
    | ⟨1, _⟩ => show 128 * b + ((i 0).val - 128) = (128 * b + ((i 0).val - 128)) % 2048; omega
    | ⟨2, _⟩ => rfl

end Cert.Kernel15Ideal.Gen

end
-- ==== Proof.Fwd.Arrays.lean ====
/- The arrays the attention's forward region leaves. -/
module

public import proofs.«01_k».proof.Proof.Fwd.Load
public import Idealize.ShloMosaic.Lib.WritesUnit

@[expose] public section

set_option maxRecDepth 16384

noncomputable section

namespace Cert.Kernel15Ideal.Gen

open Idealize.ShloMosaic Idealize.ShloMosaic.TcCoe Cert.Swa Cert.Fwd
open Idealize.ShloMosaic.Pipeline (Dat Cfg Window)
open Cert.KernelIdeal.Gen (bit)

variable (m : (ℓ : Loc nD τ sig) → Buf (Elt Ideal) ℓ) (c : Dev nD)

/-! ## A block's values, from the arrays -/

section block
variable (h : Fin 4) (b : ℕ)
abbrev qB : Mm.Mat 1024 64 := rows (n := 40) (by norm_num) (qkvA m c) h b
abbrev kB : Mm.Mat 256 64 := keys 32 (by norm_num) (qkvA m c) h b
abbrev vB : Mm.Mat 256 64 := keys 36 (by norm_num) (qkvA m c) h b
/-- A block's outputs and log-sums. -/
def oB : Mm.Mat 1024 64 := outRow (score b (qB m c h b) (kB m c h b)) (sinkRows (sinkA m c) h) (vB m c h b)
def lB : Mm.Mat 1024 1 := lseRow (score b (qB m c h b) (kB m c h b)) (sinkRows (sinkA m c) h)
end block

/-! ## The stages at a point -/

theorem flag0 : ∀ t : Fin cfg0.N, flag (16#32) (kernelRun0_A.sl.v32 (grid0.coords t)) = bit (2 * (t.val % 8)) :=
  (by decide +kernel : ∀ t : Fin grid0.N, _)
theorem flag1 : ∀ t : Fin cfg0.N, kernelRun0_A.sl.v135 (grid0.coords t) = bit (2 * (t.val % 8) + 1) :=
  (by decide +kernel : ∀ t : Fin grid0.N, _)

section stage
variable (t : Fin cfg0.N)

/-- The values the body's stages hold: the sinks, each block's scaled products and values, and the first block's masked scores and maxima. -/
abbrev sR : Mm.Mat 1024 1 := kernelRun0_A.sl.r c (ms0_3 t) (hs0_3 t) (iblk m c 3 t)
abbrev vR0 : Mm.Mat 256 64 := kernelRun0_A.sl.r_1 c (grid0.coords t) (ms0_2 t) (hs0_2 t) (iblk m c 2 t)
abbrev vR1 : Mm.Mat 256 64 := kernelRun0_A.sl.r_8 c (grid0.coords t) (ms0_2 t) (hs0_2 t) (iblk m c 2 t)
abbrev xR0 : Mm.Mat 1024 256 := kernelRun0_A.sl.r_2 (F := Ideal) c (grid0.coords t) (ms0_0 t) (hs0_0 t) (ms0_1 t) (hs0_1 t) (iblk m c 0 t) (iblk m c 1 t)
abbrev xR1 : Mm.Mat 1024 256 := kernelRun0_A.sl.r_9 (F := Ideal) c (grid0.coords t) (ms0_0 t) (hs0_0 t) (ms0_1 t) (hs0_1 t) (iblk m c 0 t) (iblk m c 1 t)
abbrev wR0 : Mm.Mat 1024 256 := kernelRun0_A.sl.r_3 (F := Ideal) c (grid0.coords t) (ms0_0 t) (hs0_0 t) (ms0_1 t) (hs0_1 t) (iblk m c 0 t) (iblk m c 1 t)
abbrev uR0 : Mm.Mat 1024 1 := kernelRun0_A.sl.r_4 (F := Ideal) c (grid0.coords t) (ms0_0 t) (hs0_0 t) (ms0_1 t) (hs0_1 t) (ms0_3 t) (hs0_3 t) (iblk m c 0 t) (iblk m c 1 t) (iblk m c 3 t)

theorem rs : sR m c t = sinkRows (sinkA m c) (hd t) := load_sink m c t _
theorem rv0 : vR0 m c t = vB m c (hd t) (2 * (t.val % 8)) :=
  load_vv m c t (2 * (t.val % 8)) (by omega) _ _ ((off1_0 t).trans (by congr 2; omega)) ((off2_0 t).trans (by congr 2; omega)) _ _
theorem rv1 : vR1 m c t = vB m c (hd t) (2 * (t.val % 8) + 1) :=
  load_vv m c t (2 * (t.val % 8) + 1) (by omega) _ _ ((off1_1 t).trans (by congr 2; omega)) ((off2_1 t).trans (by congr 2; omega)) _ _
theorem rx0 : k0_pay1 (F := Ideal) (xR0 m c t) (flag (16#32) (kernelRun0_A.sl.v32 (grid0.coords t))) k0_pay20 cols
    = score (2 * (t.val % 8)) (qB m c (hd t) (2 * (t.val % 8))) (kB m c (hd t) (2 * (t.val % 8))) := by
  rw [flag0]
  show k0_pay1 (F := Ideal) (k0_pay19 (F := Ideal) (k0_pay16 (F := Ideal)
      (View.readAt (Elt Ideal) (ms0_0 t).view (Rect.unit (s := S8x256x64) ![0, 0, 0] S8x128x64.size inb_S8x256x64_S8x128x64_0_0_0).toLoadRect ((hs0_0 t).unread (iblk m c 0 t))))
    (k0_pay17 (F := Ideal) (View.readAt (Elt Ideal) (ms0_1 t).view (Rect.unit (s := S1x2048x64) (k0_off1 (grid0.coords t) 0#32) S1x128x64.size (k0_off1_inb (grid0.coords t) 0)).toLoadRect ((hs0_1 t).unread (iblk m c 1 t))))
    (View.readAt (Elt Ideal) (ms0_1 t).view (Rect.unit (s := S1x2048x64) (k0_off2 (grid0.coords t) 0#32) S1x128x64.size (k0_off2_inb (grid0.coords t) 0)).toLoadRect ((hs0_1 t).unread (iblk m c 1 t)))) (bit (2 * (t.val % 8))) k0_pay20 cols = _
  refine (pay1_eq (2 * (t.val % 8)) _ _ _).trans (congrArg₂ (score (2 * (t.val % 8))) (load_q0 m c t _)
    (load_kk m c t (2 * (t.val % 8)) (by omega) _ _ ((off1_0 t).trans (by congr 2; omega)) ((off2_0 t).trans (by congr 2; omega)) _ _))
theorem rx1 : k0_pay1 (F := Ideal) (xR1 m c t) (kernelRun0_A.sl.v135 (grid0.coords t)) k0_pay20 kernelRun0_A.sl.v153
    = score (2 * (t.val % 8) + 1) (qB m c (hd t) (2 * (t.val % 8) + 1)) (kB m c (hd t) (2 * (t.val % 8) + 1)) := by
  rw [flag1]
  show k0_pay1 (F := Ideal) (k0_pay19 (F := Ideal) (k0_pay16 (F := Ideal)
      (View.readAt (Elt Ideal) (ms0_0 t).view (Rect.unit (s := S8x256x64) ![0, 128, 0] S8x128x64.size inb_S8x256x64_S8x128x64_0_128_0).toLoadRect ((hs0_0 t).unread (iblk m c 0 t))))
    (k0_pay17 (F := Ideal) (View.readAt (Elt Ideal) (ms0_1 t).view (Rect.unit (s := S1x2048x64) (k0_off1 (grid0.coords t) 1#32) S1x128x64.size (k0_off1_inb (grid0.coords t) 1)).toLoadRect ((hs0_1 t).unread (iblk m c 1 t))))
    (View.readAt (Elt Ideal) (ms0_1 t).view (Rect.unit (s := S1x2048x64) (k0_off2 (grid0.coords t) 1#32) S1x128x64.size (k0_off2_inb (grid0.coords t) 1)).toLoadRect ((hs0_1 t).unread (iblk m c 1 t)))) (bit (2 * (t.val % 8) + 1)) k0_pay20 cols = _
  refine (pay1_eq (2 * (t.val % 8) + 1) _ _ _).trans (congrArg₂ (score (2 * (t.val % 8) + 1)) (load_q1 m c t _)
    (load_kk m c t (2 * (t.val % 8) + 1) (by omega) _ _ ((off1_1 t).trans (by congr 2; omega)) ((off2_1 t).trans (by congr 2; omega)) _ _))
end stage

/-! ## Result 0 -/

theorem twoout (M : View sig .tc .vmem S8x256x64 .f32) (f) (i1 i2) (v1 v2 : Vec Ideal S8x128x64 .f32) (y : S8x256x64.Idx) :
    M.read (Elt Ideal) (M.writes (Elt Ideal) f [⟨Rect.unit (s := S8x256x64) ![0, 128, 0] S8x128x64.size i2, v2⟩, ⟨Rect.unit (s := S8x256x64) ![0, 0, 0] S8x128x64.size i1, v1⟩]) y
      = if h : (y 1).val < 128 then v1 (ix3 (y 0) ⟨(y 1).val, h⟩ (y 2)) else v2 (ix3 (y 0) ⟨(y 1).val - 128, by have : (y 1).val < 256 := (y 1).isLt; omega⟩ (y 2)) := by
  have hy : (y 1).val < 256 := (y 1).isLt
  by_cases h : (y 1).val < 128
  · rw [dif_pos h]
    refine (View.read_writes_cons_unit_of_not_mem (Val := Elt Ideal) M f i2 v2 _ y rfl 1 (.inl h)).trans ?_
    refine View.read_writes_cons_unit_of_mem (Val := Elt Ideal) M f i1 v1 _ y _ rfl (fun a => ?_)
    match a with
    | ⟨0, _⟩ => exact (Nat.zero_add _).symm
    | ⟨1, _⟩ => exact (Nat.zero_add _).symm
    | ⟨2, _⟩ => exact (Nat.zero_add _).symm
  · rw [dif_neg h]
    refine View.read_writes_cons_unit_of_mem (Val := Elt Ideal) M f i2 v2 _ y _ rfl (fun a => ?_)
    match a with
    | ⟨0, _⟩ => exact (Nat.zero_add _).symm
    | ⟨1, _⟩ => show (y 1).val = 128 + ((y 1).val - 128); omega
    | ⟨2, _⟩ => exact (Nat.zero_add _).symm

theorem out0 (t : Fin cfg0.N) (y : S8x128x64.Idx) : k0_pay14 (F := Ideal) (sR m c t) (vR0 m c t) (wR0 m c t) (uR0 m c t) y
    = oB m c (hd t) (2 * (t.val % 8)) (ix2 ⟨(y 0).val * 128 + (y 1).val, by have : (y 0).val < 8 := (y 0).isLt; have : (y 1).val < 128 := (y 1).isLt; omega⟩ (y 2)) := by
  refine (congrFun (pay14_eq (sR m c t) (xR0 m c t) (16#32) (kernelRun0_A.sl.v32 (grid0.coords t)) (vR0 m c t)) y).trans ((pay5_apply _ _ _ _ _ _ y).trans ?_)
  rw [rx0, rs, rv0]
  rfl
theorem out1 (t : Fin cfg0.N) (y : S8x128x64.Idx) : k0_pay5 (F := Ideal) (sR m c t) (vR1 m c t) (xR1 m c t) (kernelRun0_A.sl.v135 (grid0.coords t)) k0_pay20 kernelRun0_A.sl.v153 y
    = oB m c (hd t) (2 * (t.val % 8) + 1) (ix2 ⟨(y 0).val * 128 + (y 1).val, by have : (y 0).val < 8 := (y 0).isLt; have : (y 1).val < 128 := (y 1).isLt; omega⟩ (y 2)) := by
  refine (pay5_apply _ _ _ _ _ _ y).trans ?_
  rw [rx1, rs, rv1]
  rfl

/-- The array this result ends as. -/
def oF : S32x2048x64.Idx → EReal := fun i =>
  oB m c ⟨(i 0).val / 8, by have : (i 0).val < 32 := (i 0).isLt; omega⟩ ((i 1).val / 128) (ix2 ⟨(i 0).val % 8 * 128 + (i 1).val % 128, by omega⟩ (i 2))

/-- A step's rows of it. -/
theorem out_step (t : Fin cfg0.N) (y : S8x256x64.Idx) : out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) y
    = oB m c (hd t) (2 * (t.val % 8) + (y 1).val / 128) (ix2 ⟨(y 0).val * 128 + (y 1).val % 128, by have : (y 0).val < 8 := (y 0).isLt; omega⟩ (y 2)) := by
  have hy : (y 1).val < 256 := (y 1).isLt
  refine (twoout VO0_4 _ _ _ (k0_pay14 (F := Ideal) (sR m c t) (vR0 m c t) (wR0 m c t) (uR0 m c t)) (k0_pay5 (F := Ideal) (sR m c t) (vR1 m c t) (xR1 m c t) (kernelRun0_A.sl.v135 (grid0.coords t)) k0_pay20 kernelRun0_A.sl.v153) y).trans ?_
  by_cases h : (y 1).val < 128
  · rw [dif_pos h, out0, show 2 * (t.val % 8) + (y 1).val / 128 = 2 * (t.val % 8) by omega]
    refine congrArg (oB m c (hd t) _) (congrArg (fun k => ix2 k (y 2)) (Fin.ext ?_))
    show (y 0).val * 128 + (y 1).val = (y 0).val * 128 + (y 1).val % 128
    omega
  · rw [dif_neg h, out1, show 2 * (t.val % 8) + (y 1).val / 128 = 2 * (t.val % 8) + 1 by omega]
    refine congrArg (oB m c (hd t) _) (congrArg (fun k => ix2 k (y 2)) (Fin.ext ?_))
    show (y 0).val * 128 + ((y 1).val - 128) = (y 0).val * 128 + (y 1).val % 128
    omega
theorem oF_at (h : Fin 4) (u : ℕ) (y : S8x256x64.Idx) (i : S32x2048x64.Idx) (z0 : (i 0).val = 8 * h.val + (y 0).val) (z1 : (i 1).val = 256 * u + (y 1).val)
    (z2 : i 2 = y 2) : oB m c h (2 * u + (y 1).val / 128) (ix2 ⟨(y 0).val * 128 + (y 1).val % 128, by have : (y 0).val < 8 := (y 0).isLt; omega⟩ (y 2)) = oF m c i := by
  have hy0 : (y 0).val < 8 := (y 0).isLt
  have hy1 : (y 1).val < 256 := (y 1).isLt
  have hi0 : (i 0).val < 32 := (i 0).isLt
  unfold oF
  have a1 : (⟨(i 0).val / 8, by omega⟩ : Fin 4) = h := Fin.ext (by show (i 0).val / 8 = h.val; omega)
  have a2 : (i 1).val / 128 = 2 * u + (y 1).val / 128 := by omega
  rw [a1, a2, z2]
  refine congrArg (oB m c h _) (congrArg (fun k => ix2 k (y 2)) (Fin.ext ?_))
  show (y 0).val * 128 + (y 1).val % 128 = (i 0).val % 8 * 128 + (i 1).val % 128
  omega

theorem out_after (t : Fin cfg0.N) : (outsAt0 m c t).1 = (fun y : S8x256x64.Idx => oB m c (hd t) (2 * (t.val % 8) + (y 1).val / 128)
    (ix2 ⟨(y 0).val * 128 + (y 1).val % 128, by have : (y 0).val < 8 := (y 0).isLt; omega⟩ (y 2))) := by
  funext y
  rw [outsAt0]
  exact out_step m c t y

theorem arr_out : (dats m 0 c).arrAt 4 cfg0.N = oF m c := by
  refine (dats m 0 c).arrAt_eq_of_cover 4 _ (fun t _ => ?_) (fun i => ?_)
  · show (cfg0.win 4).cut (grid0.coords t) ((dats m 0 c).after 4 t) = _
    rw [after0_4, out_after]
    obtain ⟨e0, e1, e2⟩ := at_4 t
    funext y
    show oB m c (hd t) (2 * (t.val % 8) + (y 1).val / 128) (ix2 ⟨(y 0).val * 128 + (y 1).val % 128, _⟩ (y 2)) = oF m c (((cfg0.win 4).blk t).view.emb y)
    have hy0 : (y 0).val < 8 := (y 0).isLt
    have hy1 : (y 1).val < 256 := (y 1).isLt
    have z0 : ((((cfg0.win 4).blk t).view.emb y) 0).val = 8 * (t.val / 8) + (y 0).val := by
      show win0_4.index t (0 : Fin 3) * 8 + 1 * (y 0).val = 8 * (t.val / 8) + (y 0).val; omega
    have z1 : ((((cfg0.win 4).blk t).view.emb y) 1).val = 256 * (t.val % 8) + (y 1).val := by
      show win0_4.index t (1 : Fin 3) * 256 + 1 * (y 1).val = 256 * (t.val % 8) + (y 1).val; omega
    have z2 : (((cfg0.win 4).blk t).view.emb y) 2 = y 2 := Fin.ext (by
      show win0_4.index t (2 : Fin 3) * 64 + 1 * (y 2).val = (y 2).val; omega)
    exact oF_at m c (hd t) (t.val % 8) y _ z0 z1 z2
  · have hi0 : (i 0).val < 32 := (i 0).isLt
    have hi1 : (i 1).val < 2048 := (i 1).isLt
    have hi2 : (i 2).val < 64 := (i 2).isLt
    let t : Fin cfg0.N := ⟨8 * ((i 0).val / 8) + (i 1).val / 256, lt_of_lt_of_eq (by omega) (show 32 = cfg0.N from N_0.symm)⟩
    obtain ⟨e0, e1, e2⟩ := at_4 t
    have ht : t.val = 8 * ((i 0).val / 8) + (i 1).val / 256 := rfl
    refine ⟨t, flush0_4 t, ?_⟩
    show i ∈ ((View.whole main_v8_0).slice (win0_4.rect t)).set
    rw [View.set_slice_whole, Rect.mem_set_unit]
    intro a
    match a with
    | ⟨0, _⟩ => show win0_4.index t (0 : Fin 3) * 8 ≤ (i 0).val ∧ (i 0).val < win0_4.index t (0 : Fin 3) * 8 + 8; omega
    | ⟨1, _⟩ => show win0_4.index t (1 : Fin 3) * 256 ≤ (i 1).val ∧ (i 1).val < win0_4.index t (1 : Fin 3) * 256 + 256; omega
    | ⟨2, _⟩ => show win0_4.index t (2 : Fin 3) * 64 ≤ (i 2).val ∧ (i 2).val < win0_4.index t (2 : Fin 3) * 64 + 64; omega

/-! ## Result 1 -/

theorem twolse (M : View sig .tc .vmem S8x256x1 .f32) (f) (i1 i2) (v1 v2 : Vec Ideal S8x128x1 .f32) (y : S8x256x1.Idx) :
    M.read (Elt Ideal) (M.writes (Elt Ideal) f [⟨Rect.unit (s := S8x256x1) ![0, 128, 0] S8x128x1.size i2, v2⟩, ⟨Rect.unit (s := S8x256x1) ![0, 0, 0] S8x128x1.size i1, v1⟩]) y
      = if h : (y 1).val < 128 then v1 (ix3 (y 0) ⟨(y 1).val, h⟩ (y 2)) else v2 (ix3 (y 0) ⟨(y 1).val - 128, by have : (y 1).val < 256 := (y 1).isLt; omega⟩ (y 2)) := by
  have hy : (y 1).val < 256 := (y 1).isLt
  by_cases h : (y 1).val < 128
  · rw [dif_pos h]
    refine (View.read_writes_cons_unit_of_not_mem (Val := Elt Ideal) M f i2 v2 _ y rfl 1 (.inl h)).trans ?_
    refine View.read_writes_cons_unit_of_mem (Val := Elt Ideal) M f i1 v1 _ y _ rfl (fun a => ?_)
    match a with
    | ⟨0, _⟩ => exact (Nat.zero_add _).symm
    | ⟨1, _⟩ => exact (Nat.zero_add _).symm
    | ⟨2, _⟩ => exact (Nat.zero_add _).symm
  · rw [dif_neg h]
    refine View.read_writes_cons_unit_of_mem (Val := Elt Ideal) M f i2 v2 _ y _ rfl (fun a => ?_)
    match a with
    | ⟨0, _⟩ => exact (Nat.zero_add _).symm
    | ⟨1, _⟩ => show (y 1).val = 128 + ((y 1).val - 128); omega
    | ⟨2, _⟩ => exact (Nat.zero_add _).symm

theorem lse0 (t : Fin cfg0.N) (y : S8x128x1.Idx) : k0_pay15 (F := Ideal) (sR m c t) (wR0 m c t) (uR0 m c t) y
    = lB m c (hd t) (2 * (t.val % 8)) (ix2 ⟨(y 0).val * 128 + (y 1).val, by have : (y 0).val < 8 := (y 0).isLt; have : (y 1).val < 128 := (y 1).isLt; omega⟩ (0 : Fin 1)) := by
  refine (congrFun (pay15_eq (sR m c t) (xR0 m c t) (16#32) (kernelRun0_A.sl.v32 (grid0.coords t))) y).trans ((pay6_apply _ _ _ _ _ y).trans ?_)
  rw [rx0, rs]
  rfl
theorem lse1 (t : Fin cfg0.N) (y : S8x128x1.Idx) : k0_pay6 (F := Ideal) (sR m c t) (xR1 m c t) (kernelRun0_A.sl.v135 (grid0.coords t)) k0_pay20 kernelRun0_A.sl.v153 y
    = lB m c (hd t) (2 * (t.val % 8) + 1) (ix2 ⟨(y 0).val * 128 + (y 1).val, by have : (y 0).val < 8 := (y 0).isLt; have : (y 1).val < 128 := (y 1).isLt; omega⟩ (0 : Fin 1)) := by
  refine (pay6_apply _ _ _ _ _ y).trans ?_
  rw [rx1, rs]
  rfl

/-- The array this result ends as. -/
def lF : S32x2048x1.Idx → EReal := fun i =>
  lB m c ⟨(i 0).val / 8, by have : (i 0).val < 32 := (i 0).isLt; omega⟩ ((i 1).val / 128) (ix2 ⟨(i 0).val % 8 * 128 + (i 1).val % 128, by omega⟩ (0 : Fin 1))

/-- A step's rows of it. -/
theorem lse_step (t : Fin cfg0.N) (y : S8x256x1.Idx) : out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) y
    = lB m c (hd t) (2 * (t.val % 8) + (y 1).val / 128) (ix2 ⟨(y 0).val * 128 + (y 1).val % 128, by have : (y 0).val < 8 := (y 0).isLt; omega⟩ (0 : Fin 1)) := by
  have hy : (y 1).val < 256 := (y 1).isLt
  refine (twolse VO0_5 _ _ _ (k0_pay15 (F := Ideal) (sR m c t) (wR0 m c t) (uR0 m c t)) (k0_pay6 (F := Ideal) (sR m c t) (xR1 m c t) (kernelRun0_A.sl.v135 (grid0.coords t)) k0_pay20 kernelRun0_A.sl.v153) y).trans ?_
  by_cases h : (y 1).val < 128
  · rw [dif_pos h, lse0, show 2 * (t.val % 8) + (y 1).val / 128 = 2 * (t.val % 8) by omega]
    refine congrArg (lB m c (hd t) _) (congrArg (fun k => ix2 k (0 : Fin 1)) (Fin.ext ?_))
    show (y 0).val * 128 + (y 1).val = (y 0).val * 128 + (y 1).val % 128
    omega
  · rw [dif_neg h, lse1, show 2 * (t.val % 8) + (y 1).val / 128 = 2 * (t.val % 8) + 1 by omega]
    refine congrArg (lB m c (hd t) _) (congrArg (fun k => ix2 k (0 : Fin 1)) (Fin.ext ?_))
    show (y 0).val * 128 + ((y 1).val - 128) = (y 0).val * 128 + (y 1).val % 128
    omega
theorem lF_at (h : Fin 4) (u : ℕ) (y : S8x256x1.Idx) (i : S32x2048x1.Idx) (z0 : (i 0).val = 8 * h.val + (y 0).val) (z1 : (i 1).val = 256 * u + (y 1).val)
    (z2 : i 2 = y 2) : lB m c h (2 * u + (y 1).val / 128) (ix2 ⟨(y 0).val * 128 + (y 1).val % 128, by have : (y 0).val < 8 := (y 0).isLt; omega⟩ (0 : Fin 1)) = lF m c i := by
  have hy0 : (y 0).val < 8 := (y 0).isLt
  have hy1 : (y 1).val < 256 := (y 1).isLt
  have hi0 : (i 0).val < 32 := (i 0).isLt
  unfold lF
  have a1 : (⟨(i 0).val / 8, by omega⟩ : Fin 4) = h := Fin.ext (by show (i 0).val / 8 = h.val; omega)
  have a2 : (i 1).val / 128 = 2 * u + (y 1).val / 128 := by omega
  rw [a1, a2]
  refine congrArg (lB m c h _) (congrArg (fun k => ix2 k (0 : Fin 1)) (Fin.ext ?_))
  show (y 0).val * 128 + (y 1).val % 128 = (i 0).val % 8 * 128 + (i 1).val % 128
  omega

theorem lse_after (t : Fin cfg0.N) : (outsAt0 m c t).2 = (fun y : S8x256x1.Idx => lB m c (hd t) (2 * (t.val % 8) + (y 1).val / 128)
    (ix2 ⟨(y 0).val * 128 + (y 1).val % 128, by have : (y 0).val < 8 := (y 0).isLt; omega⟩ (0 : Fin 1))) := by
  funext y
  rw [outsAt0]
  exact lse_step m c t y

theorem arr_lse : (dats m 0 c).arrAt 5 cfg0.N = lF m c := by
  refine (dats m 0 c).arrAt_eq_of_cover 5 _ (fun t _ => ?_) (fun i => ?_)
  · show (cfg0.win 5).cut (grid0.coords t) ((dats m 0 c).after 5 t) = _
    rw [after0_5, lse_after]
    obtain ⟨e0, e1, e2⟩ := at_5 t
    funext y
    show lB m c (hd t) (2 * (t.val % 8) + (y 1).val / 128) (ix2 ⟨(y 0).val * 128 + (y 1).val % 128, _⟩ (0 : Fin 1)) = lF m c (((cfg0.win 5).blk t).view.emb y)
    have hy0 : (y 0).val < 8 := (y 0).isLt
    have hy1 : (y 1).val < 256 := (y 1).isLt
    have z0 : ((((cfg0.win 5).blk t).view.emb y) 0).val = 8 * (t.val / 8) + (y 0).val := by
      show win0_5.index t (0 : Fin 3) * 8 + 1 * (y 0).val = 8 * (t.val / 8) + (y 0).val; omega
    have z1 : ((((cfg0.win 5).blk t).view.emb y) 1).val = 256 * (t.val % 8) + (y 1).val := by
      show win0_5.index t (1 : Fin 3) * 256 + 1 * (y 1).val = 256 * (t.val % 8) + (y 1).val; omega
    have z2 : (((cfg0.win 5).blk t).view.emb y) 2 = y 2 := Fin.ext (by
      show win0_5.index t (2 : Fin 3) * 1 + 1 * (y 2).val = (y 2).val; omega)
    exact lF_at m c (hd t) (t.val % 8) y _ z0 z1 z2
  · have hi0 : (i 0).val < 32 := (i 0).isLt
    have hi1 : (i 1).val < 2048 := (i 1).isLt
    have hi2 : (i 2).val < 1 := (i 2).isLt
    let t : Fin cfg0.N := ⟨8 * ((i 0).val / 8) + (i 1).val / 256, lt_of_lt_of_eq (by omega) (show 32 = cfg0.N from N_0.symm)⟩
    obtain ⟨e0, e1, e2⟩ := at_5 t
    have ht : t.val = 8 * ((i 0).val / 8) + (i 1).val / 256 := rfl
    refine ⟨t, flush0_5 t, ?_⟩
    show i ∈ ((View.whole main_v8_1).slice (win0_5.rect t)).set
    rw [View.set_slice_whole, Rect.mem_set_unit]
    intro a
    match a with
    | ⟨0, _⟩ => show win0_5.index t (0 : Fin 3) * 8 ≤ (i 0).val ∧ (i 0).val < win0_5.index t (0 : Fin 3) * 8 + 8; omega
    | ⟨1, _⟩ => show win0_5.index t (1 : Fin 3) * 256 ≤ (i 1).val ∧ (i 1).val < win0_5.index t (1 : Fin 3) * 256 + 256; omega
    | ⟨2, _⟩ => show win0_5.index t (2 : Fin 3) * 1 ≤ (i 2).val ∧ (i 2).val < win0_5.index t (2 : Fin 3) * 1 + 1; omega

end Cert.Kernel15Ideal.Gen

end
-- ==== Proof.Fwd.Claims.lean ====
/- The claim about the attention's forward call: from finite arguments the kernel leaves the reference's output and log-sums. -/
module

public import proofs.«01_k».proof.Defs
public import proofs.«01_k».proof.Proof.Swa.Grads
public import proofs.«01_k».proof.Proof.Swa.Claims
public import proofs.«01_k».proof.Proof.Fwd.Match
public import proofs.«01_k».proof.Proof.Fwd.Arrays
public import proofs.«01_k».proof.Proof.Gen.Kernel15Ideal.Value
public import proofs.«01_k».proof.Proof.Gen.Reference15Ideal.Run
public import proofs.«01_k».proof.Proof.Gen.Reference15Ideal.Read

@[expose] public section

set_option maxRecDepth 65536

noncomputable section

namespace Cert.Kernel15Ideal.Gen

open Idealize.ShloMosaic Idealize.ShloMosaic.TcCoe Cert.Swa Cert.Fwd

variable (m : (ℓ : Loc nD τ sig) → Buf (Elt Ideal) ℓ) (c : Dev nD)

/-! ## The arrays the call is given, from the arguments -/

abbrev a0 : S2048x2560.Idx → EReal := m ((c : Thread nD τ).loc main_arg0)
abbrev a1 : S32.Idx → EReal := m ((c : Thread nD τ).loc main_arg1)

theorem host_v3 : (V m c main_v3 : S40x2048x64.Idx → EReal) = shapeCast S40x2048x64 (transpose S40x1x2048x64 [2, 1, 0, 3]
    (shapeCast S2048x1x40x64 (m ((c : Thread nD τ).loc main_arg0) : S2048x2560.Idx → EReal) shapeCasts_S2048x2560_S2048x1x40x64) transposes_S2048x1x40x64_S40x1x2048x64_2_1_0_3) shapeCasts_S40x1x2048x64_S40x2048x64 := by
  show StableHlo.after _ _ _ = _
  after_results
  rfl
theorem host_v7 : (V m c main_v7 : S4x1024x1.Idx → EReal) = shapeCast S4x1024x1 (shapeCast S4x1024 (broadcastInDim S4x8x128 ![0, 1] bcast_S4x8_S4x8x128_0_1
    (shapeCast S4x8 (m ((c : Thread nD τ).loc main_arg1) : S32.Idx → EReal) shapeCasts_S32_S4x8)) shapeCasts_S4x8x128_S4x1024) shapeCasts_S4x1024_S4x1024x1 := by
  show StableHlo.after _ _ _ = _
  after_results
  rfl
theorem qkvA_at (g : Fin 40) (n : Fin 2048) (d : Fin 64) : qkvA m c (ix3 g n d) = a0 m c (ix2 n (⟨64 * g.val + d.val, by omega⟩ : Fin 2560)) :=
  (congrFun (host_v3 m c) _).trans (Cert.KernelIdeal.Gen.lay_qkv d (a0 m c) g n)

section block
variable (h : Fin 4) (b : Fin 16) (j : Fin 8) (i : Fin 128) (y : Fin 256) (d : Fin 64)
theorem skB_at : sinkRows (sinkA m c) h (ix2 (row8 j i) (0 : Fin 1)) = sinkAt (a1 m c) h j :=
  (congrFun (host_v7 m c) _).trans (Cert.KernelIdeal.Gen.lay_sink h j i (a1 m c))
theorem qB_at : qB m c h b.val (ix2 (row8 j i) d) = qAt (a0 m c) h j b i d := (rows_at _ _ h b j i d).trans (qkvA_at m c _ _ d)
theorem kB_at (hy : 128 ≤ 128 * b.val + y.val) : kB m c h b.val (ix2 y d) = kAt (a0 m c) h b y d 0 (by norm_num) := by
  refine (keys_at _ _ _ h b y d hy).trans ((qkvA_at m c _ _ d).trans ?_)
  unfold kAt
  rw [dif_pos hy]
  refine congrArg (fun q : Fin 2560 => a0 m c (ix2 _ q)) (Fin.ext ?_)
  show 64 * (32 + h.val) + d.val = 2048 + 0 + 64 * h.val + d.val
  omega
theorem vB_at (hy : 128 ≤ 128 * b.val + y.val) : vB m c h b.val (ix2 y d) = vAt (a0 m c) h b y d := by
  refine (keys_at _ _ _ h b y d hy).trans ((qkvA_at m c _ _ d).trans ?_)
  unfold vAt kAt
  rw [dif_pos hy]
  refine congrArg (fun q : Fin 2560 => a0 m c (ix2 _ q)) (Fin.ext ?_)
  show 64 * (36 + h.val) + d.val = 2048 + 256 + 64 * h.val + d.val
  omega

theorem lB_at : lB m c h b.val (ix2 (row8 j i) (0 : Fin 1)) = lseAt (a0 m c) (a1 m c) h j b i :=
  lse_row (a0 m c) (a1 m c) h b j i (qB m c h b.val) (sinkRows (sinkA m c) h) (kB m c h b.val)
    (fun j i d => qB_at m c h b j i d) (fun j i => skB_at m c h j i) (fun y d hy => kB_at m c h b y d hy)

variable (f0 : ∀ (n : Fin 2048) (k : Fin 2560), k.val < 2304 → ∃ r : ℝ, a0 m c (ix2 n k) = (r : EReal)) (f1 : ∀ k, a1 m c k ≠ ⊤)
include f0 f1 in
theorem oB_at : oB m c h b.val (ix2 (row8 j i) d) = Ideal.div (numAt (a0 m c) (a1 m c) h j b i d) (totAt (a0 m c) (a1 m c) h j b i) :=
  out_row (a0 m c) (a1 m c) h b j i d (qB m c h b.val) (sinkRows (sinkA m c) h) (kB m c h b.val) (vB m c h b.val)
    (fun j i d => qB_at m c h b j i d) (fun j i => skB_at m c h j i) (fun y d hy => kB_at m c h b y d hy) (fun y d hy => vB_at m c h b y d hy) f0 f1
end block

/-! ## The result arrays are the reference's -/

variable (f0 : ∀ (n : Fin 2048) (k : Fin 2560), k.val < 2304 → ∃ r : ℝ, a0 m c (ix2 n k) = (r : EReal)) (f1 : ∀ k, a1 m c k ≠ ⊤)
include f0 f1 in
theorem oF_ref : oF m c = Cert.Reference15Ideal.Read.val_main_v88 (F := Ideal) (a0 m c) (a1 m c) := by
  funext z
  have z0 : (z 0).val < 32 := (z 0).isLt
  have z1 : (z 1).val < 2048 := (z 1).isLt
  have e : z = ix3 (⟨8 * (⟨(z 0).val / 8, by omega⟩ : Fin 4).val + (⟨(z 0).val % 8, by omega⟩ : Fin 8).val, by omega⟩ : Fin 32)
      (at_row ⟨(z 1).val / 128, by omega⟩ ⟨(z 1).val % 128, by omega⟩) (z 2) := by
    refine (eq_ix3 z).trans (congrArg₂ (fun p q => ix3 p q (z 2)) (Fin.ext ?_) (Fin.ext ?_))
    · show (z 0).val = 8 * ((z 0).val / 8) + (z 0).val % 8
      omega
    · show (z 1).val = 128 * ((z 1).val / 128) + (z 1).val % 128
      omega
  refine Eq.trans ?_ ((oB_at m c _ _ _ _ _ f0 f1).trans
    ((out_at (a0 m c) (a1 m c) ⟨(z 0).val / 8, by omega⟩ ⟨(z 0).val % 8, by omega⟩ ⟨(z 1).val / 128, by omega⟩ ⟨(z 1).val % 128, by omega⟩ (z 2)).symm.trans
      (congrArg _ e.symm)))
  exact congrArg (fun r : Fin 1024 => oB m c ⟨(z 0).val / 8, by omega⟩ ((z 1).val / 128) (ix2 r (z 2)))
    (Fin.ext (show (z 0).val % 8 * 128 + (z 1).val % 128 = 128 * ((z 0).val % 8) + (z 1).val % 128 by omega))

theorem lF_ref : lF m c = Cert.Reference15Ideal.Read.val_main_v87 (F := Ideal) (a0 m c) (a1 m c) := by
  funext z
  have z0 : (z 0).val < 32 := (z 0).isLt
  have z1 : (z 1).val < 2048 := (z 1).isLt
  have z2 : (z 2).val < 1 := (z 2).isLt
  have e : z = ix3 (⟨8 * (⟨(z 0).val / 8, by omega⟩ : Fin 4).val + (⟨(z 0).val % 8, by omega⟩ : Fin 8).val, by omega⟩ : Fin 32)
      (at_row ⟨(z 1).val / 128, by omega⟩ ⟨(z 1).val % 128, by omega⟩) (0 : Fin 1) := by
    funext a; apply Fin.ext
    match a with
    | ⟨0, _⟩ => show (z 0).val = 8 * ((z 0).val / 8) + (z 0).val % 8; omega
    | ⟨1, _⟩ => show (z 1).val = 128 * ((z 1).val / 128) + (z 1).val % 128; omega
    | ⟨2, _⟩ => show (z 2).val = 0; omega
  refine Eq.trans ?_ ((lB_at m c _ _ _ _).trans
    ((lse_at (a0 m c) (a1 m c) ⟨(z 0).val / 8, by omega⟩ ⟨(z 0).val % 8, by omega⟩ ⟨(z 1).val / 128, by omega⟩ ⟨(z 1).val % 128, by omega⟩).symm.trans
      (congrArg _ e.symm)))
  exact congrArg (fun r : Fin 1024 => lB m c ⟨(z 0).val / 8, by omega⟩ ((z 1).val / 128) (ix2 r (0 : Fin 1)))
    (Fin.ext (show (z 0).val % 8 * 128 + (z 1).val % 128 = 128 * ((z 0).val % 8) + (z 1).val % 128 by omega))

end Cert.Kernel15Ideal.Gen

namespace Cert.Proof

open Idealize.ShloMosaic Idealize.ShloMosaic.TcCoe Idealize.SL.Sem

/-- The precondition's shape relations. -/
theorem finite15_facts : Cert.Pre_finite15.Facts where
  slices_S2048x2560_S2048x2304_0_0 := by decide
  bcast_S_S2048x2304 := by decide
  bcast_S_S32 := by decide

instance : Cert.Pre_finite15.Facts := finite15_facts

theorem ne_top_of_below (x : EReal) (h : BitVec.ofBool (decide (x < Ideal.ofBits .f32 0x7F800000#32)) = 1#1) : x ≠ ⊤ := by
  rintro rfl
  rw [decide_eq_false not_top_lt] at h
  exact absurd h (by decide)

/-- The queries and the keys are real, and no sink is +∞. -/
theorem finite15_real (m : (ℓ : Loc Cert.Kernel15Ideal.nD Cert.Kernel15Ideal.τ Cert.Kernel15Ideal.sig) → Buf (Elt Ideal) ℓ) (hp : Cert.Pre_Kernel15Ideal_finite15 m) (c : Dev Cert.Kernel15Ideal.nD) :
    (∀ (n : Fin 2048) (k : Fin 2560), k.val < 2304 → ∃ r : ℝ, Cert.Kernel15Ideal.Gen.a0 m c (ix2 n k) = (r : EReal)) ∧ (∀ k, Cert.Kernel15Ideal.Gen.a1 m c k ≠ ⊤) := by
  obtain ⟨p0, p1⟩ := hp c
  refine ⟨fun n k hk => ?_, fun k => ne_top_of_below _ (congrFun p1 k)⟩
  obtain ⟨r, hr⟩ := real_of_below _ (congrFun p0 (ix2 n (⟨k.val, hk⟩ : Fin 2304)))
  refine ⟨r, Eq.trans (congrArg (Cert.Kernel15Ideal.Gen.a0 m c) ?_) hr⟩
  funext a; apply Fin.ext
  match a with
  | ⟨0, _⟩ => simp
  | ⟨1, _⟩ => simp

theorem frame_r15 : Cert.quiescent_Reference15Ideal :=
  fun m ρ _ => (θ_run Cert.Reference15Ideal.defs _ _).mono (fun r h => ⟨fun c => (h c).2.2, Idealize.ShloMosaic.sem_eq_zero_of_no_sems (by decide) r.2⟩)
    (Cert.Reference15Ideal.Value.run (F := Ideal) m ρ)

theorem algebraic15 : Cert.algebraic_Kernel15Ideal_Reference15Ideal_pre_finite15 := by
  intro m ρ m' ρ' hp harg
  refine ⟨fun c => Cert.Kernel15Ideal.Gen.oF m c, fun c => Cert.Kernel15Ideal.Gen.lF m c,
    (θ_run Cert.Kernel15Ideal.defs _ _).mono (fun r h c => ?_) (Cert.Kernel15Ideal.Value.run_blocks (F := Ideal) m ρ),
    (θ_run Cert.Reference15Ideal.defs _ _).mono (fun r h c => ?_) (Cert.Reference15Ideal.Value.run (F := Ideal) m' ρ')⟩
  · obtain ⟨h0, h1, h2⟩ := h c
    exact ⟨h0.trans (Cert.Kernel15Ideal.Gen.arr_out m c), h1.trans (Cert.Kernel15Ideal.Gen.arr_lse m c), h2⟩
  · obtain ⟨e0, e1⟩ := harg c
    obtain ⟨f0, f1⟩ := finite15_real m hp c
    obtain ⟨h0, h1, h2⟩ := h c
    refine ⟨h0.trans ?_, h1.trans ?_, h2⟩
    · rw [Cert.Reference15Ideal.Read.val_main_v88_eq]
      show Cert.Reference15Ideal.Read.val_main_v88 (F := Ideal) (m' ((c.tc : Thread Cert.Reference15Ideal.nD Cert.Reference15Ideal.τ).loc Cert.Reference15Ideal.main_arg0))
        (m' ((c.tc : Thread Cert.Reference15Ideal.nD Cert.Reference15Ideal.τ).loc Cert.Reference15Ideal.main_arg1)) = _
      rw [e0, e1]
      exact (Cert.Kernel15Ideal.Gen.oF_ref m c f0 f1).symm
    · rw [Cert.Reference15Ideal.Read.val_main_v87_eq]
      show Cert.Reference15Ideal.Read.val_main_v87 (F := Ideal) (m' ((c.tc : Thread Cert.Reference15Ideal.nD Cert.Reference15Ideal.τ).loc Cert.Reference15Ideal.main_arg0))
        (m' ((c.tc : Thread Cert.Reference15Ideal.nD Cert.Reference15Ideal.τ).loc Cert.Reference15Ideal.main_arg1)) = _
      rw [e0, e1]
      exact (Cert.Kernel15Ideal.Gen.lF_ref m c).symm

end Cert.Proof

end
-- ==== Proof.Norm.Case.lean ====
/- What one step of the norm's gradient leaves in each of its four outputs, over the blocks it reads. -/
module

public import proofs.«01_k».proof.Proof.Gen.Kernel16Ideal.Value
public import Idealize.ShloMosaic.Lib.Pointwise

@[expose] public section

set_option maxRecDepth 16384

noncomputable section

namespace Cert.Kernel16Ideal.Gen

open Idealize.ShloMosaic Idealize.ShloMosaic.TcCoe Idealize.SL.Sem Idealize.ShloMosaic.StableHlo
open Cert.Kernel16Ideal.Value

section Cases

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S1x2048 .f32) (harg8 : arg8.IsWhole)

/-- The gradient's block, after a first step. -/
theorem out0_A_4_eq (hc0 : cond0_0 i) (x0 x1 x2 : Vec Ideal S256x2048 .f32) (x3 : Vec Ideal S1x2048 .f32) :
    out0_A_4 (F := Ideal) c i arg1 harg1 arg2 harg2 arg3 harg3 arg4 harg4 arg5 harg5 arg6 harg6 arg7 harg7 arg8 harg8 hc0 x0 x1 x2 x3 = k0_pay4 x0 x1 x2 x3 := by
  unfold out0_A_4
  rw [View.read_writes_junk_eq_canon]
  unfold kernelRun0_A
  dsimp only
  rw [View.canon_unit_zero (by funext a; fin_cases a <;> rfl)]
  simp only [View.readAt_eq_ld, harg1.read_unread, harg2.read_unread, harg3.read_unread, harg4.read_unread]
  repeat rw [View.ld_unit_zero (by funext a; fin_cases a <;> rfl)]

/-- The gradient's block in the narrower format, after a first step. -/
theorem out0_A_5_eq (hc0 : cond0_0 i) (x0 x1 x2 : Vec Ideal S256x2048 .f32) (x3 : Vec Ideal S1x2048 .f32) :
    out0_A_5 (F := Ideal) c i arg1 harg1 arg2 harg2 arg3 harg3 arg4 harg4 arg5 harg5 arg6 harg6 arg7 harg7 arg8 harg8 hc0 x0 x1 x2 x3 = k0_pay5 x0 x1 x2 x3 := by
  unfold out0_A_5
  rw [View.read_writes_junk_eq_canon]
  unfold kernelRun0_A
  dsimp only
  rw [View.canon_unit_zero (by funext a; fin_cases a <;> rfl)]
  simp only [View.readAt_eq_ld, harg1.read_unread, harg2.read_unread, harg3.read_unread, harg4.read_unread]
  repeat rw [View.ld_unit_zero (by funext a; fin_cases a <;> rfl)]

/-- The weight's gradient so far, after a first step. -/
theorem out0_A_6_eq (hc0 : cond0_0 i) (x0 x1 x2 : Vec Ideal S256x2048 .f32) (x3 : Vec Ideal S1x2048 .f32) :
    out0_A_6 (F := Ideal) c i arg1 harg1 arg2 harg2 arg3 harg3 arg4 harg4 arg5 harg5 arg6 harg6 arg7 harg7 arg8 harg8 hc0 x0 x1 x2 x3 = k0_pay1 x0 x1 (k0_pay3 x0) (k0_pay6 (F := Ideal)) := by
  unfold out0_A_6
  rw [View.read_writes_junk_eq_canon]
  unfold kernelRun0_A
  dsimp only
  rw [View.canon_cons_unit_zero (by funext a; fin_cases a <;> rfl)]
  unfold kernelRun0_A.sl.r kernelRun0_A.sl.r_1 kernelRun0_A.sl.r_2 kernelRun0_A.sl.v36 kernelRun0_A.sl.H6_1
  rw [View.readCov_cons_toLoadRect]
  simp only [View.readAt_eq_ld, harg1.read_unread, harg2.read_unread]
  repeat rw [View.ld_unit_zero (by funext a; fin_cases a <;> rfl)]

/-- The column sums so far, after a first step. -/
theorem out0_A_7_eq (hc0 : cond0_0 i) (x0 x1 x2 : Vec Ideal S256x2048 .f32) (x3 : Vec Ideal S1x2048 .f32) :
    out0_A_7 (F := Ideal) c i arg1 harg1 arg2 harg2 arg3 harg3 arg4 harg4 arg5 harg5 arg6 harg6 arg7 harg7 arg8 harg8 hc0 x0 x1 x2 x3 = k0_pay2 (k0_pay4 x0 x1 x2 x3) (k0_pay7 (F := Ideal)) := by
  unfold out0_A_7
  rw [View.read_writes_junk_eq_canon]
  unfold kernelRun0_A
  dsimp only
  rw [View.canon_cons_unit_zero (by funext a; fin_cases a <;> rfl)]
  unfold kernelRun0_A.sl.r_3 kernelRun0_A.sl.v45 kernelRun0_A.sl.H7_1
  rw [View.readCov_cons_toLoadRect]
  simp only [View.readAt_eq_ld, harg1.read_unread, harg2.read_unread, harg3.read_unread, harg4.read_unread]
  repeat rw [View.ld_unit_zero (by funext a; fin_cases a <;> rfl)]

/-- The gradient's block, after a further step. -/
theorem out0_B_4_eq (hc0 : ¬cond0_0 i) (x0 x1 x2 : Vec Ideal S256x2048 .f32) (x3 : Vec Ideal S1x2048 .f32) (xo6 xo7 : Vec Ideal S1x2048 .f32) :
    out0_B_4 (F := Ideal) c i arg1 harg1 arg2 harg2 arg3 harg3 arg4 harg4 arg5 harg5 arg6 harg6 arg7 harg7 arg8 harg8 hc0 x0 x1 x2 x3 xo6 xo7 = k0_pay4 x0 x1 x2 x3 := by
  unfold out0_B_4
  rw [View.read_writes_junk_eq_canon]
  unfold kernelRun0_B
  dsimp only
  rw [View.canon_unit_zero (by funext a; fin_cases a <;> rfl)]
  simp only [View.readAt_eq_ld, harg1.read_unread, harg2.read_unread, harg3.read_unread, harg4.read_unread]
  repeat rw [View.ld_unit_zero (by funext a; fin_cases a <;> rfl)]

/-- The gradient's block in the narrower format, after a further step. -/
theorem out0_B_5_eq (hc0 : ¬cond0_0 i) (x0 x1 x2 : Vec Ideal S256x2048 .f32) (x3 : Vec Ideal S1x2048 .f32) (xo6 xo7 : Vec Ideal S1x2048 .f32) :
    out0_B_5 (F := Ideal) c i arg1 harg1 arg2 harg2 arg3 harg3 arg4 harg4 arg5 harg5 arg6 harg6 arg7 harg7 arg8 harg8 hc0 x0 x1 x2 x3 xo6 xo7 = k0_pay5 x0 x1 x2 x3 := by
  unfold out0_B_5
  rw [View.read_writes_junk_eq_canon]
  unfold kernelRun0_B
  dsimp only
  rw [View.canon_unit_zero (by funext a; fin_cases a <;> rfl)]
  simp only [View.readAt_eq_ld, harg1.read_unread, harg2.read_unread, harg3.read_unread, harg4.read_unread]
  repeat rw [View.ld_unit_zero (by funext a; fin_cases a <;> rfl)]

/-- The weight's gradient so far, after a further step. -/
theorem out0_B_6_eq (hc0 : ¬cond0_0 i) (x0 x1 x2 : Vec Ideal S256x2048 .f32) (x3 : Vec Ideal S1x2048 .f32) (xo6 xo7 : Vec Ideal S1x2048 .f32) :
    out0_B_6 (F := Ideal) c i arg1 harg1 arg2 harg2 arg3 harg3 arg4 harg4 arg5 harg5 arg6 harg6 arg7 harg7 arg8 harg8 hc0 x0 x1 x2 x3 xo6 xo7 = k0_pay1 x0 x1 (k0_pay3 x0) xo6 := by
  unfold out0_B_6
  rw [View.read_writes_junk_eq_canon]
  unfold kernelRun0_B
  dsimp only
  rw [View.canon_unit_zero (by funext a; fin_cases a <;> rfl)]
  unfold kernelRun0_B.sl.r kernelRun0_B.sl.r_1 kernelRun0_B.sl.r_2
  simp only [View.readAt_eq_ld, harg1.read_unread, harg2.read_unread, harg7.read_unread]
  repeat rw [View.ld_unit_zero (by funext a; fin_cases a <;> rfl)]

/-- The column sums so far, after a further step. -/
theorem out0_B_7_eq (hc0 : ¬cond0_0 i) (x0 x1 x2 : Vec Ideal S256x2048 .f32) (x3 : Vec Ideal S1x2048 .f32) (xo6 xo7 : Vec Ideal S1x2048 .f32) :
    out0_B_7 (F := Ideal) c i arg1 harg1 arg2 harg2 arg3 harg3 arg4 harg4 arg5 harg5 arg6 harg6 arg7 harg7 arg8 harg8 hc0 x0 x1 x2 x3 xo6 xo7 = k0_pay2 (k0_pay4 x0 x1 x2 x3) xo7 := by
  unfold out0_B_7
  rw [View.read_writes_junk_eq_canon]
  unfold kernelRun0_B
  dsimp only
  rw [View.canon_unit_zero (by funext a; fin_cases a <;> rfl)]
  unfold kernelRun0_B.sl.r_3
  simp only [View.readAt_eq_ld, harg1.read_unread, harg2.read_unread, harg3.read_unread, harg4.read_unread, harg8.read_unread]
  repeat rw [View.ld_unit_zero (by funext a; fin_cases a <;> rfl)]

end Cases

end Cert.Kernel16Ideal.Gen

end
-- ==== Proof.Norm.Row.lean ====
/- The arithmetic of one row of the norm and of its gradient, at the extended reals. -/
module

public import Idealize.ShloMosaic.Lib.Pointwise
public import proofs.«01_k».proof.Proof.Mm

@[expose] public section

set_option maxRecDepth 16384

noncomputable section

namespace Cert.Norm

open Idealize.ShloMosaic

/-- The width, as the programs' own constant. -/
def width : EReal := Ideal.ofBits .f32 0x45000000#32
/-- What is added to the mean square, as the programs' own constant. -/
def eps : EReal := Ideal.ofBits .f32 0x3727C5AC#32

/-- A row's mean square, with the small constant added. -/
def ms {M : ℕ} (x : Mm.Mat M 2048) (a : Fin M) : EReal := Ideal.div (∑ k : Fin 2048, x (ix2 a k) * x (ix2 a k)) width + eps
/-- A row's scale. -/
def rs {M : ℕ} (x : Mm.Mat M 2048) (a : Fin M) : EReal := Ideal.rsqrt (ms x a)

/-- The norm. -/
def fwd {M : ℕ} (x : Mm.Mat M 2048) (g : Fin 2048 → EReal) : Mm.Mat M 2048 := fun i => x i * rs x (i 0) * g (i 1)

/-- The row's sum of the input times the scaled gradient. -/
def dots {M : ℕ} (x dh : Mm.Mat M 2048) (g : Fin 2048 → EReal) (a : Fin M) : EReal :=
  ∑ k : Fin 2048, x (ix2 a k) * (g k * dh (ix2 a k))

/-- The gradient reaching the norm's input, the residual's gradient added. -/
def dx {M : ℕ} (x dh res : Mm.Mat M 2048) (g : Fin 2048 → EReal) : Mm.Mat M 2048 := fun i =>
  (res i + rs x (i 0) * (g (i 1) * dh i)) - x i * (rs x (i 0) * rs x (i 0) * rs x (i 0)) * Ideal.div (dots x dh g (i 0)) width

/-- One row's part of the gradient of the norm's weight. -/
def dgAt {M : ℕ} (x dh : Mm.Mat M 2048) (a : Fin M) (b : Fin 2048) : EReal := dh (ix2 a b) * x (ix2 a b) * rs x a

theorem width_eq : width = ((2048 : ℝ) : EReal) := by
  unfold width
  simp [Ideal.ofBits, Ideal.ieee]
  rw [← EReal.coe_mul]
  norm_num

theorem eps_pos : 0 < eps := by
  unfold eps
  simp [Ideal.ofBits, Ideal.ieee]
  rw [← EReal.coe_mul]
  exact EReal.coe_pos.mpr (by norm_num)

theorem half_eq : Ideal.ofBits .f32 0xBF000000#32 = ((-(1 / 2) : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem div_width (x : EReal) : Ideal.div x width = x * ((2048⁻¹ : ℝ) : EReal) := by
  rw [width_eq]
  unfold Ideal.div
  rw [if_neg (by norm_num), EReal.coe_inv]

theorem sq_nonneg (x : EReal) : 0 ≤ x * x := by
  induction x using EReal.rec with
  | bot => simp
  | top => simp
  | coe r => rw [← EReal.coe_mul]; exact_mod_cast mul_self_nonneg r

theorem ms_pos {M : ℕ} (x : Mm.Mat M 2048) (a : Fin M) : 0 < ms x a := by
  unfold ms
  rw [div_width]
  exact lt_of_lt_of_le eps_pos (le_add_of_nonneg_left (mul_nonneg (Finset.sum_nonneg fun k _ => sq_nonneg _) (by norm_num)))

/-- The derivative of the scale, up to its factor: the scale over the mean square is the scale's cube. -/
theorem cube (v : EReal) (hv : 0 < v) : Ideal.div (Ideal.rsqrt v) v = Ideal.rsqrt v * Ideal.rsqrt v * Ideal.rsqrt v := by
  unfold Ideal.div
  rw [if_neg hv.ne']
  induction v using EReal.rec with
  | bot => exact absurd hv (by simp)
  | top =>
    show (0 : EReal) * _ = 0 * 0 * 0
    simp
  | coe r =>
    have hr : 0 < r := by exact_mod_cast hv
    have e : Ideal.rsqrt (r : EReal) = (((Real.sqrt r)⁻¹ : ℝ) : EReal) := by
      show (if r < 0 then (⊥ : EReal) else if r = 0 then ⊤ else _) = _
      rw [if_neg (not_lt.mpr hr.le), if_neg hr.ne']
    rw [e, ← EReal.coe_inv, ← EReal.coe_mul, ← EReal.coe_mul, ← EReal.coe_mul]
    refine congrArg _ ?_
    refine Eq.trans ?_ (congrArg (· * (Real.sqrt r)⁻¹) (mul_inv (Real.sqrt r) (Real.sqrt r)))
    rw [Real.mul_self_sqrt hr.le]
    exact mul_comm _ _

/-- The reference's form of the gradient is the kernel's. -/
theorem dx_forms (v res x gd S : EReal) (hv : 0 < v) :
    res + (gd * Ideal.rsqrt v + Ideal.div (S * (Ideal.ofBits .f32 0xBF000000#32 * Ideal.div (Ideal.rsqrt v) v)) width
        * (Ideal.ofBits .f32 0x40000000#32 * x))
      = (res + Ideal.rsqrt v * gd) - x * (Ideal.rsqrt v * Ideal.rsqrt v * Ideal.rsqrt v) * Ideal.div S width := by
  rw [cube v hv, div_width, div_width, half_eq, two_eq, sub_eq_add_neg, add_assoc, mul_comm gd]
  generalize Ideal.rsqrt v * Ideal.rsqrt v * Ideal.rsqrt v = q
  generalize ((2048⁻¹ : ℝ) : EReal) = c
  refine congrArg (fun z => res + (Ideal.rsqrt v * gd + z)) ?_
  have e : S * (((-(1 / 2) : ℝ) : EReal) * q) * c * (((2 : ℝ) : EReal) * x)
      = (((-(1 / 2) : ℝ) : EReal) * ((2 : ℝ) : EReal)) * (x * q * (S * c)) := by ac_rfl
  rw [e, ← EReal.coe_mul, show (-(1 / 2) : ℝ) * 2 = -1 by norm_num, EReal.coe_neg, EReal.coe_one, EReal.neg_mul, one_mul]

/-! ## The same row in two arrays -/

theorem rs_congr {M N : ℕ} (x : Mm.Mat M 2048) (X : Mm.Mat N 2048) (a : Fin M) (A : Fin N) (hx : ∀ k, x (ix2 a k) = X (ix2 A k)) :
    rs x a = rs X A := by
  unfold rs ms
  exact congrArg (fun z => Ideal.rsqrt (Ideal.div z _ + _)) (Finset.sum_congr rfl fun k _ => congrArg₂ (· * ·) (hx k) (hx k))

theorem dgAt_congr {M N : ℕ} (x dh : Mm.Mat M 2048) (X DH : Mm.Mat N 2048) (a : Fin M) (A : Fin N) (hx : ∀ k, x (ix2 a k) = X (ix2 A k))
    (hd : ∀ k, dh (ix2 a k) = DH (ix2 A k)) (b : Fin 2048) : dgAt x dh a b = dgAt X DH A b := by
  unfold dgAt
  rw [rs_congr x X a A hx, hx, hd]

theorem dx_congr {M N : ℕ} (x dh res : Mm.Mat M 2048) (g : Fin 2048 → EReal) (X DH RES : Mm.Mat N 2048) (G : Fin 2048 → EReal)
    (a : Fin M) (A : Fin N) (hx : ∀ k, x (ix2 a k) = X (ix2 A k)) (hd : ∀ k, dh (ix2 a k) = DH (ix2 A k))
    (hr : ∀ k, res (ix2 a k) = RES (ix2 A k)) (hg : ∀ k, g k = G k) (b : Fin 2048) :
    dx x dh res g (ix2 a b) = dx X DH RES G (ix2 A b) := by
  have hs : dots x dh g a = dots X DH G A := by
    unfold dots
    exact Finset.sum_congr rfl fun k _ => by rw [hx, hd, hg]
  show (res (ix2 a b) + rs x a * (g b * dh (ix2 a b))) - x (ix2 a b) * (rs x a * rs x a * rs x a) * Ideal.div (dots x dh g a) width
    = (RES (ix2 A b) + rs X A * (G b * DH (ix2 A b))) - X (ix2 A b) * (rs X A * rs X A * rs X A) * Ideal.div (dots X DH G A) width
  rw [hs, rs_congr x X a A hx, hx, hd, hr, hg]

/-- An index of a matrix is the pair of its coordinates. -/
theorem eta {M N : ℕ} (y : (⟨2, ![M, N]⟩ : Shape).Idx) : y = ix2 (y 0) (y 1) := by
  funext d
  match d with
  | ⟨0, _⟩ => rfl
  | ⟨1, _⟩ => rfl

end Cert.Norm

end
-- ==== Proof.Norm.Bwd.lean ====
/- What the norm's gradient leaves, at the extended reals: the gradient reaching the input, in two formats, is computed
   block by block; the weight's gradient and the column sums add up over the blocks. -/
module

public import proofs.«01_k».proof.Proof.Norm.Case
public import proofs.«01_k».proof.Proof.Norm.Row

@[expose] public section

set_option maxRecDepth 16384

noncomputable section

namespace Cert.Kernel16Ideal.Gen

open Idealize.ShloMosaic Idealize.ShloMosaic.TcCoe Idealize.SL.Sem Idealize.ShloMosaic.StableHlo
open Cert.Kernel16Ideal.Value

/-! ## The values a step stores -/

/-- A vector of 2048 from its single row. -/
abbrev row (g : Mm.Mat 1 2048) : Fin 2048 → EReal := fun b => g (ix2 (0 : Fin 1) b)

theorem pay3_apply (x0 : Vec Ideal S256x2048 .f32) (y : S256x1.Idx) : k0_pay3 x0 y = Norm.rs (M := 256) x0 (y 0) := by
  unfold Norm.rs Norm.ms Norm.width Norm.eps
  pointwise [k0_pay3]

theorem pay4_apply (x0 x1 x2 : Vec Ideal S256x2048 .f32) (x3 : Vec Ideal S1x2048 .f32) (y : S256x2048.Idx) :
    k0_pay4 x0 x1 x2 x3 y = Norm.dx (M := 256) x0 x1 x2 (row x3) y := by
  have h : ∀ r : Vec Ideal S256x1 .f32, r = k0_pay3 x0 → k0_pay4 x0 x1 x2 x3 y
      = (x2 y + r (ix2 (y 0) (0 : Fin 1)) * (x3 (ix2 (0 : Fin 1) (y 1)) * x1 y))
        - x0 y * (r (ix2 (y 0) (0 : Fin 1)) * r (ix2 (y 0) (0 : Fin 1)) * r (ix2 (y 0) (0 : Fin 1)))
          * Ideal.div (∑ k : Fin 2048, x0 (ix2 (y 0) k) * (x3 (ix2 (0 : Fin 1) k) * x1 (ix2 (y 0) k))) (Ideal.ofBits .f32 0x45000000#32) := by
    intro r hr
    unfold k0_pay4
    rw [← hr]
    pointwise []
  rw [h _ rfl, pay3_apply]
  rfl

theorem pay5_eq (x0 x1 x2 : Vec Ideal S256x2048 .f32) (x3 : Vec Ideal S1x2048 .f32) (y : S256x2048.Idx) :
    k0_pay5 x0 x1 x2 x3 y = k0_pay4 x0 x1 x2 x3 y := rfl

theorem pay1_apply (x0 x1 : Vec Ideal S256x2048 .f32) (r : Vec Ideal S256x1 .f32) (s : Vec Ideal S1x2048 .f32) (y : S1x2048.Idx) :
    k0_pay1 x0 x1 r s y = s y + ∑ a : Fin 256, x1 (ix2 a (y 1)) * x0 (ix2 a (y 1)) * r (ix2 a (0 : Fin 1)) := by
  pointwise [k0_pay1]

theorem pay2_apply (d : Vec Ideal S256x2048 .f32) (s : Vec Ideal S1x2048 .f32) (y : S1x2048.Idx) :
    k0_pay2 d s y = s y + ∑ a : Fin 256, d (ix2 a (y 1)) := by
  pointwise [k0_pay2]

theorem pay6_apply (y : S1x2048.Idx) : k0_pay6 (F := Ideal) y = 0 := by
  unfold k0_pay6
  exact Ideal.ofBits_zero_f32

theorem pay7_apply (y : S1x2048.Idx) : k0_pay7 (F := Ideal) y = 0 := by
  unfold k0_pay7
  exact Ideal.ofBits_zero_f32

variable (m : (ℓ : Loc nD τ sig) → Buf (Elt Ideal) ℓ) (ρ : Dev nD → PrngReg)

/-! ## What each point leaves -/

theorem outs4 (c : Dev nD) (t : Fin cfg0.N) :
    (outsAt0 m c t.val t.isLt).1 = k0_pay4 (iblk m c 0 t) (iblk m c 1 t) (iblk m c 2 t) (iblk m c 3 t) := by
  by_cases h : t.val % 8 = 0
  · simp only [outsAt0_A m c t h, out0_A_4_eq]
  · simp only [outsAt0_B m c t h, out0_B_4_eq]

theorem outs5 (c : Dev nD) (t : Fin cfg0.N) :
    (outsAt0 m c t.val t.isLt).2.1 = k0_pay5 (iblk m c 0 t) (iblk m c 1 t) (iblk m c 2 t) (iblk m c 3 t) := by
  by_cases h : t.val % 8 = 0
  · simp only [outsAt0_A m c t h, out0_A_5_eq]
  · simp only [outsAt0_B m c t h, out0_B_5_eq]

/-- Point `n`'s part of the weight's gradient. -/
def dgPart (c : Dev nD) (n : ℕ) (b : Fin 2048) : EReal :=
  if h : n < cfg0.N then ∑ a : Fin 256, Norm.dgAt (M := 256) (iblk m c 0 ⟨n, h⟩) (iblk m c 1 ⟨n, h⟩) a b else 0

/-- Point `n`'s part of the column sums. -/
def colPart (c : Dev nD) (n : ℕ) (b : Fin 2048) : EReal :=
  if h : n < cfg0.N then ∑ a : Fin 256, Norm.dx (M := 256) (iblk m c 0 ⟨n, h⟩) (iblk m c 1 ⟨n, h⟩) (iblk m c 2 ⟨n, h⟩) (row (iblk m c 3 ⟨n, h⟩)) (ix2 a b) else 0

theorem dg_step (c : Dev nD) (n : ℕ) (h : n < cfg0.N) (s : Vec Ideal S1x2048 .f32) (y : S1x2048.Idx) :
    k0_pay1 (iblk m c 0 ⟨n, h⟩) (iblk m c 1 ⟨n, h⟩) (k0_pay3 (iblk m c 0 ⟨n, h⟩)) s y = s y + dgPart m c n (y 1) := by
  rw [pay1_apply]
  unfold dgPart
  rw [dif_pos h]
  refine congrArg (fun z : EReal => s y + z) (Finset.sum_congr rfl fun a _ => ?_)
  rw [pay3_apply]
  rfl

theorem col_step (c : Dev nD) (n : ℕ) (h : n < cfg0.N) (s : Vec Ideal S1x2048 .f32) (y : S1x2048.Idx) :
    k0_pay2 (k0_pay4 (iblk m c 0 ⟨n, h⟩) (iblk m c 1 ⟨n, h⟩) (iblk m c 2 ⟨n, h⟩) (iblk m c 3 ⟨n, h⟩)) s y = s y + colPart m c n (y 1) := by
  rw [pay2_apply]
  unfold colPart
  rw [dif_pos h]
  exact congrArg (fun z : EReal => s y + z) (Finset.sum_congr rfl fun a _ => pay4_apply _ _ _ _ _)

theorem outs6 (c : Dev nD) : ∀ (n : ℕ) (h : n < cfg0.N) (y : S1x2048.Idx),
    (outsAt0 m c n h).2.2.1 y = ∑ s ∈ Finset.range (n + 1), dgPart m c s (y 1) := by
  have hN : cfg0.N = 8 := N_0
  intro n
  induction n with
  | zero =>
    intro h y
    refine (congrFun (congrArg (fun z => z.2.2.1) (outsAt0_A m c ⟨0, h⟩ rfl)) y).trans ?_
    simp only [out0_A_6_eq]
    rw [dg_step m c 0 h, pay6_apply, zero_add, Finset.sum_range_one]
  | succ n ih =>
    intro h y
    have hB : ¬ (n + 1) % 8 = 0 := by omega
    refine (congrFun (congrArg (fun z => z.2.2.1) (outsAt0_B m c ⟨n + 1, h⟩ hB)) y).trans ?_
    simp only [out0_B_6_eq]
    rw [dg_step m c (n + 1) h, Finset.sum_range_succ]
    exact congrArg (· + dgPart m c (n + 1) (y 1)) (ih _ y)

theorem outs7 (c : Dev nD) : ∀ (n : ℕ) (h : n < cfg0.N) (y : S1x2048.Idx),
    (outsAt0 m c n h).2.2.2 y = ∑ s ∈ Finset.range (n + 1), colPart m c s (y 1) := by
  have hN : cfg0.N = 8 := N_0
  intro n
  induction n with
  | zero =>
    intro h y
    refine (congrFun (congrArg (fun z => z.2.2.2) (outsAt0_A m c ⟨0, h⟩ rfl)) y).trans ?_
    simp only [out0_A_7_eq]
    rw [col_step m c 0 h, pay7_apply, zero_add, Finset.sum_range_one]
  | succ n ih =>
    intro h y
    have hB : ¬ (n + 1) % 8 = 0 := by omega
    refine (congrFun (congrArg (fun z => z.2.2.2) (outsAt0_B m c ⟨n + 1, h⟩ hB)) y).trans ?_
    simp only [out0_B_7_eq]
    rw [col_step m c (n + 1) h, Finset.sum_range_succ]
    exact congrArg (· + colPart m c (n + 1) (y 1)) (ih _ y)

end Cert.Kernel16Ideal.Gen

end
-- ==== Proof.Norm.Arr.lean ====
/- The four arrays the norm's gradient ends with, as functions of its arguments. -/
module

public import proofs.«01_k».proof.Proof.Norm.Bwd

@[expose] public section

set_option maxRecDepth 16384

noncomputable section

namespace Cert.Kernel16Ideal.Gen

open Idealize.ShloMosaic Idealize.ShloMosaic.TcCoe Idealize.SL.Sem Idealize.ShloMosaic.StableHlo
open Cert.Kernel16Ideal.Value

variable (m : (ℓ : Loc nD τ sig) → Buf (Elt Ideal) ℓ) (ρ : Dev nD → PrngReg)

/-- Where the windows stand at a point. -/
theorem at0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem at1 : ∀ t : Fin cfg0.N, win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The blocks read -/

abbrev aX (c : Dev nD) : Mm.Mat 2048 2048 := V m c main_arg0
abbrev aD (c : Dev nD) : Mm.Mat 2048 2048 := V m c main_arg2
abbrev aR (c : Dev nD) : Mm.Mat 2048 2048 := V m c main_arg3
abbrev aG (c : Dev nD) : Fin 2048 → EReal := row (V m c main_v0)

theorem blk_x (c : Dev nD) (t : Fin cfg0.N) (a : Fin 256) (A : Fin 2048) (hA : A.val = 256 * t.val + a.val) (b : Fin 2048) :
    iblk m c 0 t (ix2 a b) = aX m c (ix2 A b) := by
  obtain ⟨e0, e1, -⟩ := at0 t
  refine congrArg (V m c main_arg0) ?_
  funext d; apply Fin.ext
  match d with
  | ⟨0, _⟩ => show win0_0.index t (0 : Fin 2) * 256 + 1 * a.val = A.val; omega
  | ⟨1, _⟩ => show win0_0.index t (1 : Fin 2) * 2048 + 1 * b.val = b.val; omega

theorem blk_d (c : Dev nD) (t : Fin cfg0.N) (a : Fin 256) (A : Fin 2048) (hA : A.val = 256 * t.val + a.val) (b : Fin 2048) :
    iblk m c 1 t (ix2 a b) = aD m c (ix2 A b) := by
  obtain ⟨-, -, e0, e1, -⟩ := at0 t
  refine congrArg (V m c main_arg2) ?_
  funext d; apply Fin.ext
  match d with
  | ⟨0, _⟩ => show win0_1.index t (0 : Fin 2) * 256 + 1 * a.val = A.val; omega
  | ⟨1, _⟩ => show win0_1.index t (1 : Fin 2) * 2048 + 1 * b.val = b.val; omega

theorem blk_r (c : Dev nD) (t : Fin cfg0.N) (a : Fin 256) (A : Fin 2048) (hA : A.val = 256 * t.val + a.val) (b : Fin 2048) :
    iblk m c 2 t (ix2 a b) = aR m c (ix2 A b) := by
  obtain ⟨-, -, -, -, e0, e1, -⟩ := at0 t
  refine congrArg (V m c main_arg3) ?_
  funext d; apply Fin.ext
  match d with
  | ⟨0, _⟩ => show win0_2.index t (0 : Fin 2) * 256 + 1 * a.val = A.val; omega
  | ⟨1, _⟩ => show win0_2.index t (1 : Fin 2) * 2048 + 1 * b.val = b.val; omega

theorem blk_g (c : Dev nD) (t : Fin cfg0.N) (b : Fin 2048) : row (iblk m c 3 t) b = aG m c b := by
  obtain ⟨-, -, -, -, -, -, e0, e1, -⟩ := at0 t
  refine congrArg (V m c main_v0) ?_
  funext d; apply Fin.ext
  match d with
  | ⟨0, _⟩ => show win0_3.index t (0 : Fin 2) * 1 + 1 * 0 = 0; omega
  | ⟨1, _⟩ => show win0_3.index t (1 : Fin 2) * 2048 + 1 * b.val = b.val; omega

/-- A point's block of the gradient is the whole gradient's rows. -/
theorem dx_at (c : Dev nD) (t : Fin cfg0.N) (a : Fin 256) (A : Fin 2048) (hA : A.val = 256 * t.val + a.val) (b : Fin 2048) :
    Norm.dx (M := 256) (iblk m c 0 t) (iblk m c 1 t) (iblk m c 2 t) (row (iblk m c 3 t)) (ix2 a b)
      = Norm.dx (aX m c) (aD m c) (aR m c) (aG m c) (ix2 A b) :=
  Norm.dx_congr (M := 256) (N := 2048) _ _ _ _ _ _ _ _ a A (blk_x m c t a A hA) (blk_d m c t a A hA) (blk_r m c t a A hA) (blk_g m c t) b

/-! ## The gradient reaching the input -/

theorem pay4_at (c : Dev nD) (t : Fin cfg0.N) (y : S256x2048.Idx) (A : Fin 2048) (hA : A.val = 256 * t.val + (y 0).val) :
    k0_pay4 (iblk m c 0 t) (iblk m c 1 t) (iblk m c 2 t) (iblk m c 3 t) y = Norm.dx (aX m c) (aD m c) (aR m c) (aG m c) (ix2 A (y 1)) := by
  rw [pay4_apply]
  exact (congrArg _ (Norm.eta (M := 256) (N := 2048) y)).trans (dx_at m c t (y 0) A hA (y 1))

theorem arr4 (c : Dev nD) : (dats m 0 c).arrAt 4 cfg0.N = Norm.dx (aX m c) (aD m c) (aR m c) (aG m c) := by
  have hN : cfg0.N = 8 := N_0
  refine (dats m 0 c).arrAt_eq_of_cover 4 _ (fun t _ => ?_) (fun i => ?_)
  · rw [flushed4, outs4]
    funext y
    obtain ⟨-, -, -, -, -, -, -, -, e0, e1, -⟩ := at0 t
    have htN := t.isLt
    have hy0 : (y 0).val < 256 := (y 0).isLt
    have hA : 256 * t.val + (y 0).val < 2048 := by omega
    show k0_pay4 (iblk m c 0 t) (iblk m c 1 t) (iblk m c 2 t) (iblk m c 3 t) y
      = Norm.dx (aX m c) (aD m c) (aR m c) (aG m c) (((cfg0.win 4).blk t).view.emb y)
    refine (pay4_at m c t y ⟨_, hA⟩ rfl).trans (congrArg _ ?_)
    funext d; apply Fin.ext
    match d with
    | ⟨0, _⟩ => show 256 * t.val + (y 0).val = win0_4.index t (0 : Fin 2) * 256 + 1 * (y 0).val; omega
    | ⟨1, _⟩ => show (y 1).val = win0_4.index t (1 : Fin 2) * 2048 + 1 * (y 1).val; omega
  · have hi0 : (i 0).val < 2048 := (i 0).isLt
    have hi1 : (i 1).val < 2048 := (i 1).isLt
    let t : Fin cfg0.N := ⟨(i 0).val / 256, lt_of_lt_of_eq (by omega) (show 8 = cfg0.N from N_0.symm)⟩
    obtain ⟨-, -, -, -, -, -, -, -, e0, e1, -⟩ := at0 t
    have ht : t.val = (i 0).val / 256 := rfl
    refine ⟨t, flush0_4 t, ?_⟩
    show i ∈ ((View.whole main_v1_0).slice (win0_4.rect t)).set
    rw [View.set_slice_whole, Rect.mem_set_unit]
    intro a
    match a with
    | ⟨0, _⟩ => show win0_4.index t (0 : Fin 2) * 256 ≤ (i 0).val ∧ (i 0).val < win0_4.index t (0 : Fin 2) * 256 + 256; omega
    | ⟨1, _⟩ => show win0_4.index t (1 : Fin 2) * 2048 ≤ (i 1).val ∧ (i 1).val < win0_4.index t (1 : Fin 2) * 2048 + 2048; omega

theorem arr5 (c : Dev nD) : (dats m 0 c).arrAt 5 cfg0.N = Norm.dx (aX m c) (aD m c) (aR m c) (aG m c) := by
  have hN : cfg0.N = 8 := N_0
  refine (dats m 0 c).arrAt_eq_of_cover 5 _ (fun t _ => ?_) (fun i => ?_)
  · rw [flushed5, outs5]
    funext y
    obtain ⟨-, -, -, -, -, -, -, -, -, -, e0, e1⟩ := at0 t
    have htN := t.isLt
    have hy0 : (y 0).val < 256 := (y 0).isLt
    have hA : 256 * t.val + (y 0).val < 2048 := by omega
    show k0_pay5 (iblk m c 0 t) (iblk m c 1 t) (iblk m c 2 t) (iblk m c 3 t) y
      = Norm.dx (aX m c) (aD m c) (aR m c) (aG m c) (((cfg0.win 5).blk t).view.emb y)
    refine (pay5_eq _ _ _ _ y).trans ((pay4_at m c t y ⟨_, hA⟩ rfl).trans (congrArg _ ?_))
    funext d; apply Fin.ext
    match d with
    | ⟨0, _⟩ => show 256 * t.val + (y 0).val = win0_5.index t (0 : Fin 2) * 256 + 1 * (y 0).val; omega
    | ⟨1, _⟩ => show (y 1).val = win0_5.index t (1 : Fin 2) * 2048 + 1 * (y 1).val; omega
  · have hi0 : (i 0).val < 2048 := (i 0).isLt
    have hi1 : (i 1).val < 2048 := (i 1).isLt
    let t : Fin cfg0.N := ⟨(i 0).val / 256, lt_of_lt_of_eq (by omega) (show 8 = cfg0.N from N_0.symm)⟩
    obtain ⟨-, -, -, -, -, -, -, -, -, -, e0, e1⟩ := at0 t
    have ht : t.val = (i 0).val / 256 := rfl
    refine ⟨t, flush0_5 t, ?_⟩
    show i ∈ ((View.whole main_v1_1).slice (win0_5.rect t)).set
    rw [View.set_slice_whole, Rect.mem_set_unit]
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 2048 ≤ (i 1).val ∧ (i 1).val < win0_5.index t (1 : Fin 2) * 2048 + 2048; omega

/-! ## The sums over all rows -/

/-- A sum over 2048 rows, taken in 8 blocks of 256. -/
theorem rows_sum (P : ℕ → EReal) (f : Fin 2048 → EReal)
    (h : ∀ s (hs : s < 8), P s = ∑ a : Fin 256, f ⟨256 * s + a.val, by have := a.isLt; omega⟩) :
    ∑ s ∈ Finset.range 8, P s = ∑ A, f A := by
  let F : ℕ → EReal := fun n => if hn : n < 2048 then f ⟨n, hn⟩ else 0
  have hF : ∑ A, f A = ∑ k : Fin (8 * 256), F k.val :=
    Finset.sum_congr rfl fun A _ => (show F A.val = f A from dif_pos A.isLt).symm
  rw [hF, ← Mm.sum_blocks 8 256 F]
  refine Finset.sum_congr rfl fun s hs => ?_
  have hs' : s < 8 := Finset.mem_range.mp hs
  rw [h s hs']
  refine Finset.sum_congr rfl fun a _ => ?_
  have ha := a.isLt
  refine Eq.trans ?_ (dif_pos (c := s * 256 + a.val < 2048) (by omega)).symm
  exact congrArg f (Fin.ext (by show 256 * s + a.val = s * 256 + a.val; omega))

theorem dg_sum (c : Dev nD) (b : Fin 2048) :
    ∑ s ∈ Finset.range 8, dgPart m c s b = ∑ A : Fin 2048, Norm.dgAt (aX m c) (aD m c) A b := by
  have hN : cfg0.N = 8 := N_0
  refine rows_sum (fun s => dgPart m c s b) _ fun s hs => ?_
  show dgPart m c s b = _
  unfold dgPart
  rw [dif_pos (by omega)]
  exact Finset.sum_congr rfl fun a _ => Norm.dgAt_congr (M := 256) (N := 2048) _ _ _ _ a _ (blk_x m c _ a _ rfl) (blk_d m c _ a _ rfl) b

theorem col_sum (c : Dev nD) (b : Fin 2048) :
    ∑ s ∈ Finset.range 8, colPart m c s b = ∑ A : Fin 2048, Norm.dx (aX m c) (aD m c) (aR m c) (aG m c) (ix2 A b) := by
  have hN : cfg0.N = 8 := N_0
  refine rows_sum (fun s => colPart m c s b) (fun A => Norm.dx (aX m c) (aD m c) (aR m c) (aG m c) (ix2 A b)) fun s hs => ?_
  show colPart m c s b = _
  unfold colPart
  rw [dif_pos (by omega)]
  exact Finset.sum_congr rfl fun a _ => dx_at m c _ a _ rfl b

theorem arr6 (c : Dev nD) : (dats m 0 c).arrAt 6 cfg0.N = fun i => ∑ A : Fin 2048, Norm.dgAt (aX m c) (aD m c) A (i 1) := by
  have hN : cfg0.N = 8 := N_0
  refine (dats m 0 c).arrAt_eq_of_cover 6 _ (fun t hf => ?_) (fun i => ?_)
  · have ht : t.val = 7 := by have := (flush0_6 t).mp hf; have := t.isLt; omega
    rw [flushed6]
    funext y
    obtain ⟨e0, e1, -⟩ := at1 t
    show (outsAt0 m c t.val t.isLt).2.2.1 y = ∑ A : Fin 2048, Norm.dgAt (aX m c) (aD m c) A ((((cfg0.win 6).blk t).view.emb y) 1)
    rw [outs6, ht]
    refine (dg_sum m c (y 1)).trans (congrArg (fun b => ∑ A : Fin 2048, Norm.dgAt (aX m c) (aD m c) A b) (Fin.ext ?_))
    show (y 1).val = win0_6.index t (1 : Fin 2) * 2048 + 1 * (y 1).val
    omega
  · have hi0 : (i 0).val < 1 := (i 0).isLt
    have hi1 : (i 1).val < 2048 := (i 1).isLt
    let t : Fin cfg0.N := ⟨7, lt_of_lt_of_eq (by omega) (show 8 = cfg0.N from N_0.symm)⟩
    obtain ⟨e0, e1, -⟩ := at1 t
    have ht : t.val = 7 := rfl
    refine ⟨t, (flush0_6 t).mpr (by omega), ?_⟩
    show i ∈ ((View.whole main_v1_2).slice (win0_6.rect t)).set
    rw [View.set_slice_whole, Rect.mem_set_unit]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 2048 ≤ (i 1).val ∧ (i 1).val < win0_6.index t (1 : Fin 2) * 2048 + 2048; omega

theorem arr7 (c : Dev nD) : (dats m 0 c).arrAt 7 cfg0.N
    = fun i => ∑ A : Fin 2048, Norm.dx (aX m c) (aD m c) (aR m c) (aG m c) (ix2 A (i 1)) := by
  have hN : cfg0.N = 8 := N_0
  refine (dats m 0 c).arrAt_eq_of_cover 7 _ (fun t hf => ?_) (fun i => ?_)
  · have ht : t.val = 7 := by have := (flush0_7 t).mp hf; have := t.isLt; omega
    rw [flushed7]
    funext y
    obtain ⟨-, -, e0, e1⟩ := at1 t
    show (outsAt0 m c t.val t.isLt).2.2.2 y
      = ∑ A : Fin 2048, Norm.dx (aX m c) (aD m c) (aR m c) (aG m c) (ix2 A ((((cfg0.win 7).blk t).view.emb y) 1))
    rw [outs7, ht]
    refine (col_sum m c (y 1)).trans (congrArg (fun b => ∑ A : Fin 2048, Norm.dx (aX m c) (aD m c) (aR m c) (aG m c) (ix2 A b)) (Fin.ext ?_))
    show (y 1).val = win0_7.index t (1 : Fin 2) * 2048 + 1 * (y 1).val
    omega
  · have hi0 : (i 0).val < 1 := (i 0).isLt
    have hi1 : (i 1).val < 2048 := (i 1).isLt
    let t : Fin cfg0.N := ⟨7, lt_of_lt_of_eq (by omega) (show 8 = cfg0.N from N_0.symm)⟩
    obtain ⟨-, -, e0, e1⟩ := at1 t
    have ht : t.val = 7 := rfl
    refine ⟨t, (flush0_7 t).mpr (by omega), ?_⟩
    show i ∈ ((View.whole main_v1_3).slice (win0_7.rect t)).set
    rw [View.set_slice_whole, Rect.mem_set_unit]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 2048 ≤ (i 1).val ∧ (i 1).val < win0_7.index t (1 : Fin 2) * 2048 + 2048; omega

/-! ## The host lines -/

theorem host_x (c : Dev nD) : aX m c = m ((c : Thread nD τ).loc main_arg0) := by
  show StableHlo.after hostOps0 _ _ = _
  after_results

theorem host_d (c : Dev nD) : aD m c = m ((c : Thread nD τ).loc main_arg2) := by
  show StableHlo.after hostOps0 _ _ = _
  after_results

theorem host_r (c : Dev nD) : aR m c = m ((c : Thread nD τ).loc main_arg3) := by
  show StableHlo.after hostOps0 _ _ = _
  after_results

theorem row_apply (g : Vec Ideal S2048 .f32) (b : Fin 2048) :
    (shapeCast S1x2048 g shapeCasts_S2048_S1x2048 : Vec Ideal S1x2048 .f32) (ix2 (0 : Fin 1) b) = g (ix1 b) := by
  pointwise []

theorem host_g (c : Dev nD) : aG m c = fun b => m ((c : Thread nD τ).loc main_arg1) (ix1 b) := by
  funext b
  refine Eq.trans (congrFun ?_ (ix2 (0 : Fin 1) b)) (row_apply (m ((c : Thread nD τ).loc main_arg1)) b)
  show StableHlo.after hostOps0 _ _ = _
  after_results
  rfl

end Cert.Kernel16Ideal.Gen

end
-- ==== Proof.Norm.Fwd.lean ====
/- What the norm leaves, at the extended reals: each block of the result is the norm of its own rows. -/
module

public import proofs.«01_k».proof.Proof.Gen.Kernel17Ideal.Value
public import Idealize.ShloMosaic.Lib.Pointwise
public import proofs.«01_k».proof.Proof.Norm.Row

@[expose] public section

set_option maxRecDepth 16384

noncomputable section

namespace Cert.Kernel17Ideal.Gen

open Idealize.ShloMosaic Idealize.ShloMosaic.TcCoe Idealize.SL.Sem Idealize.ShloMosaic.StableHlo
open Cert.Kernel17Ideal.Value

/-- The block the body stores, from the blocks it loads. -/
theorem pay1_apply (x0 : Vec Ideal S256x2048 .f32) (x1 : Vec Ideal S1x2048 .f32) (y : S256x2048.Idx) :
    k0_pay1 x0 x1 y = Norm.fwd (M := 256) x0 (fun b => x1 (ix2 (0 : Fin 1) b)) y := by
  unfold Norm.fwd Norm.rs Norm.ms Norm.width Norm.eps
  pointwise [k0_pay1]

theorem block_apply (x0 : Vec Ideal S256x2048 .f32) (x1 : Vec Ideal S1x2048 .f32) (y : S256x2048.Idx) :
    out0_2 (F := Ideal) x0 x1 y = Norm.fwd (M := 256) x0 (fun b => x1 (ix2 (0 : Fin 1) b)) y := by
  unfold out0_2
  rw [View.canon_unit_zero (by funext a; fin_cases a <;> rfl)]
  repeat rw [View.ld_unit_zero (by funext a; fin_cases a <;> rfl)]
  exact pay1_apply x0 x1 y

variable (m : (ℓ : Loc nD τ sig) → Buf (Elt Ideal) ℓ) (ρ : Dev nD → PrngReg)

/-- Where the windows stand at a point. -/
theorem at0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The input's block at a point. -/
theorem blk_x (c : Dev nD) (t : Fin cfg0.N) (a : Fin 256) (b : Fin 2048) (A : Fin 2048) (hA : A.val = 256 * t.val + a.val) :
    iblk m c 0 t (ix2 a b) = V m c main_arg0 (ix2 A b) := by
  obtain ⟨e0, e1, e2, e3, e4, e5⟩ := at0 t
  refine congrArg (V m c main_arg0) ?_
  funext d; apply Fin.ext
  match d with
  | ⟨0, _⟩ => show win0_0.index t (0 : Fin 2) * 256 + 1 * a.val = A.val; omega
  | ⟨1, _⟩ => show win0_0.index t (1 : Fin 2) * 2048 + 1 * b.val = b.val; omega

theorem blk_g (c : Dev nD) (t : Fin cfg0.N) (b : Fin 2048) :
    iblk m c 1 t (ix2 (0 : Fin 1) b) = V m c main_v0 (ix2 (0 : Fin 1) b) := by
  obtain ⟨e0, e1, e2, e3, e4, e5⟩ := at0 t
  refine congrArg (V m c main_v0) ?_
  funext d; apply Fin.ext
  match d with
  | ⟨0, _⟩ => show win0_1.index t (0 : Fin 2) * 1 + 1 * 0 = 0; omega
  | ⟨1, _⟩ => show win0_1.index t (1 : Fin 2) * 2048 + 1 * b.val = b.val; omega

/-- What the program leaves in its result array. -/
theorem arr (c : Dev nD) : (dats m 0 c).arrAt 2 cfg0.N
    = Norm.fwd (M := 2048) (V m c main_arg0) (fun b => V m c main_v0 (ix2 (0 : Fin 1) b)) := by
  have hN : cfg0.N = 8 := N_0
  refine (dats m 0 c).arrAt_eq_of_cover 2 _ (fun t _ => ?_) (fun i => ?_)
  · rw [flushed2]
    funext y
    obtain ⟨e0, e1, e2, e3, e4, e5⟩ := at0 t
    have htN := t.isLt
    have hy0 : (y 0).val < 256 := (y 0).isLt
    have hy1 : (y 1).val < 2048 := (y 1).isLt
    let A : Fin 2048 := ⟨256 * t.val + (y 0).val, by omega⟩
    have he : ((cfg0.win 2).blk t).view.emb y = ix2 A (y 1) := by
      funext d; apply Fin.ext
      match d with
      | ⟨0, _⟩ => show win0_2.index t (0 : Fin 2) * 256 + 1 * (y 0).val = 256 * t.val + (y 0).val; omega
      | ⟨1, _⟩ => show win0_2.index t (1 : Fin 2) * 2048 + 1 * (y 1).val = (y 1).val; omega
    have hy : y = ix2 (y 0) (y 1) := by
      funext d
      match d with
      | ⟨0, _⟩ => rfl
      | ⟨1, _⟩ => rfl
    show out0_2 (iblk m c 0 t) (iblk m c 1 t) y
      = Norm.fwd (M := 2048) (V m c main_arg0) (fun b => V m c main_v0 (ix2 (0 : Fin 1) b)) (((cfg0.win 2).blk t).view.emb y)
    rw [block_apply, he]
    have hx : ∀ b, iblk m c 0 t (ix2 (y 0) b) = V m c main_arg0 (ix2 A b) := fun b => blk_x m c t (y 0) b A rfl
    have hr : Norm.rs (M := 256) (iblk m c 0 t) (y 0) = Norm.rs (M := 2048) (V m c main_arg0) A := by
      unfold Norm.rs Norm.ms
      exact congrArg (fun z => Ideal.rsqrt (Ideal.div z _ + _)) (Finset.sum_congr rfl fun k _ => congrArg₂ (· * ·) (hx k) (hx k))
    refine congrArg₂ (fun a b : EReal => a * b) (congrArg₂ (fun a b : EReal => a * b) ?_ hr) (blk_g m c t (y 1))
    exact (congrArg (iblk m c 0 t) hy).trans (hx (y 1))
  · have hi0 : (i 0).val < 2048 := (i 0).isLt
    have hi1 : (i 1).val < 2048 := (i 1).isLt
    let t : Fin cfg0.N := ⟨(i 0).val / 256, lt_of_lt_of_eq (by omega) (show 8 = cfg0.N from N_0.symm)⟩
    obtain ⟨e0, e1, e2, e3, e4, e5⟩ := at0 t
    have ht : t.val = (i 0).val / 256 := rfl
    refine ⟨t, flush0_2 t, ?_⟩
    show i ∈ ((View.whole main_v1).slice (win0_2.rect t)).set
    rw [View.set_slice_whole, Rect.mem_set_unit]
    intro a
    match a with
    | ⟨0, _⟩ => show win0_2.index t (0 : Fin 2) * 256 ≤ (i 0).val ∧ (i 0).val < win0_2.index t (0 : Fin 2) * 256 + 256; omega
    | ⟨1, _⟩ => show win0_2.index t (1 : Fin 2) * 2048 ≤ (i 1).val ∧ (i 1).val < win0_2.index t (1 : Fin 2) * 2048 + 2048; omega

/-! ## The host lines -/

theorem host_x (c : Dev nD) : V m c main_arg0 = m ((c : Thread nD τ).loc main_arg0) := by
  show StableHlo.after hostOps0 _ _ = _
  after_results

theorem row_apply (g : Vec Ideal S2048 .f32) (b : Fin 2048) :
    (shapeCast S1x2048 g shapeCasts_S2048_S1x2048 : Vec Ideal S1x2048 .f32) (ix2 (0 : Fin 1) b) = g (ix1 b) := by
  pointwise []

theorem host_g (c : Dev nD) (b : Fin 2048) : V m c main_v0 (ix2 (0 : Fin 1) b) = m ((c : Thread nD τ).loc main_arg1) (ix1 b) := by
  refine Eq.trans (congrFun ?_ (ix2 (0 : Fin 1) b)) (row_apply (m ((c : Thread nD τ).loc main_arg1)) b)
  show StableHlo.after hostOps0 _ _ = _
  after_results
  rfl

/-- The result at the end of the run. -/
theorem result (c : Dev nD) : (dats m 0 c).arrAt 2 cfg0.N
    = Norm.fwd (M := 2048) (m ((c : Thread nD τ).loc main_arg0)) (fun b => m ((c : Thread nD τ).loc main_arg1) (ix1 b)) := by
  rw [arr]
  exact congrArg₂ (Norm.fwd (M := 2048)) (host_x m c) (funext fun b => host_g m c b)

end Cert.Kernel17Ideal.Gen

end
-- ==== Proof.Norm.Claims.lean ====
/- The claims about the norm and its gradient. -/
module

public import proofs.«01_k».proof.Defs
public import proofs.«01_k».proof.Proof.Norm.Arr
public import proofs.«01_k».proof.Proof.Norm.Fwd
public import proofs.«01_k».proof.Proof.Gen.Kernel16Ideal
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17Ideal
public import proofs.«01_k».proof.Proof.Gen.Reference17Ideal
public import proofs.«01_k».proof.Proof.Gen.Reference17Ideal.Run
public import proofs.«01_k».proof.Proof.Gen.Reference17Ideal.Read

@[expose] public section

set_option maxRecDepth 16384

noncomputable section

/-! ## The norm -/

namespace Cert.Reference17Ideal.Read

open Idealize.ShloMosaic

variable (x0 : Mm.Mat 2048 2048) (x1 : (⟨1, ![2048]⟩ : Shape).Idx → EReal)

theorem ms_at (a : Fin 2048) : val_main_v6 (F := Ideal) x0 (ix2 a (0 : Fin 1)) = Norm.ms x0 a := by
  rw [val_main_v6_apply, val_main_v5_apply, val_main_v4_apply, val_main_v3_apply, val_main_v2_apply, val_main_v1_apply]
  refine congrArg (fun z : EReal => Ideal.div z Norm.width + Norm.eps) ?_
  refine (congrArg (· + _) Ideal.ofBits_zero_f32).trans ((zero_add _).trans (Finset.sum_congr rfl fun k _ => ?_))
  rw [val_main_v0_apply]
  refine congrArg (fun j => x0 j * x0 j) ?_
  funext d
  match d with
  | ⟨0, _⟩ => rfl
  | ⟨1, _⟩ => rfl

theorem out_eq : val_main_v13 (F := Ideal) x0 x1 = Norm.fwd x0 (fun b => x1 (ix1 b)) := by
  funext i
  refine Eq.trans (b := val_main_v12 (F := Ideal) x0 x1 i) rfl ?_
  rw [val_main_v12_apply, val_main_v11_apply, val_main_v10_apply, val_main_v9_apply, val_main_v8_apply, val_main_v7_apply]
  refine congrArg₂ (fun a b : EReal => a * b) (congrArg (fun z : EReal => x0 i * Ideal.rsqrt z) ?_) (congrArg x1 ?_)
  · refine Eq.trans (congrArg _ ?_) (ms_at x0 (i 0))
    funext d
    match d with
    | ⟨0, _⟩ => rfl
    | ⟨1, _⟩ => rfl
  · funext d
    match d with
    | ⟨0, _⟩ => rfl

end Cert.Reference17Ideal.Read

/-! ## The norm's gradient -/

namespace Cert.Reference16Ideal.Read

open Idealize.ShloMosaic

variable (x0 : Mm.Mat 2048 2048) (x1 : (⟨1, ![2048]⟩ : Shape).Idx → EReal) (x2 x3 : Mm.Mat 2048 2048)

/-- The weight by its position. -/
abbrev gv : Fin 2048 → EReal := fun b => x1 (ix1 b)

theorem ms_at (a : Fin 2048) : val_main_v8 (F := Ideal) x0 (ix2 a (0 : Fin 1)) = Norm.ms x0 a := by
  rw [val_main_v8_apply, val_main_v7_apply, val_main_v6_apply, val_main_v5_apply, val_main_v4_apply, val_main_v3_apply]
  refine congrArg (fun z : EReal => Ideal.div z Norm.width + Norm.eps) ?_
  refine (congrArg (· + _) Ideal.ofBits_zero_f32).trans ((zero_add _).trans (Finset.sum_congr rfl fun k _ => ?_))
  rw [val_main_v0_apply]
  refine congrArg (fun j => x0 j * x0 j) ?_
  funext d
  match d with
  | ⟨0, _⟩ => rfl
  | ⟨1, _⟩ => rfl

theorem rs_at (a : Fin 2048) : val_main_v9 (F := Ideal) x0 (ix2 a (0 : Fin 1)) = Norm.rs x0 a := by
  rw [val_main_v9_apply]
  exact congrArg Ideal.rsqrt (ms_at x0 a)

/-- The scaled gradient. -/
theorem gd_at (a b : Fin 2048) : val_main_v22 (F := Ideal) x1 x2 (ix2 a b) = gv x1 b * x2 (ix2 a b) := by
  rw [val_main_v22_apply, val_main_v21_apply, val_main_v15_apply]
  refine Eq.trans (congrArg (fun z : EReal => x2 (ix2 a b) * z) (congrArg x1 ?_)) (mul_comm _ _)
  funext d
  match d with
  | ⟨0, _⟩ => rfl

/-- The row's sum. -/
theorem dots_at (a : Fin 2048) : val_main_v26 (F := Ideal) x0 x1 x2 (ix2 a (0 : Fin 1)) = Norm.dots x0 x2 (gv x1) a := by
  rw [val_main_v26_apply, val_main_v25_apply]
  refine (congrArg (· + _) Ideal.ofBits_zero_f32).trans ((zero_add _).trans (Finset.sum_congr rfl fun k _ => ?_))
  rw [val_main_v24_apply]
  have e : idx_main_v25 (idx_main_v26 (ix2 a (0 : Fin 1))) k = ix2 a k := by
    funext d
    match d with
    | ⟨0, _⟩ => exact Fin.ext (by show a.val * 1 + 0 = a.val; omega)
    | ⟨1, _⟩ => rfl
  rw [e]
  exact congrArg (fun z : EReal => x0 (ix2 a k) * z) (gd_at x1 x2 a k)

/-- The mean square's gradient, before it is spread over the row. -/
theorem spread_at (a : Fin 2048) : val_main_v32 (F := Ideal) x0 x1 x2 (ix1 a)
    = Ideal.div (Norm.dots x0 x2 (gv x1) a * (Ideal.ofBits .f32 0xBF000000#32 * Ideal.div (Norm.rs x0 a) (Norm.ms x0 a))) Norm.width := by
  rw [val_main_v32_apply]
  refine (congrArg (· + _) Ideal.ofBits_zero_f32).trans ((zero_add _).trans ?_)
  rw [Fin.sum_univ_one]
  have e : idx_main_v32 (ix1 a) (0 : Fin 1) = ix2 a (0 : Fin 1) := by
    funext d
    match d with
    | ⟨0, _⟩ => rfl
    | ⟨1, _⟩ => rfl
  rw [e, val_main_v31_apply, val_main_v30_apply, val_main_v29_apply, val_main_v12_apply, val_main_v11_apply, val_main_v10_apply, dots_at, rs_at, ms_at]
  rfl

theorem dx_at (a b : Fin 2048) : val_main_v36 (F := Ideal) x0 x1 x2 x3 (ix2 a b) = Norm.dx x0 x2 x3 (gv x1) (ix2 a b) := by
  rw [val_main_v36_apply, val_main_v35_apply, val_main_v34_apply, val_main_v33_apply, val_main_v28_apply, val_main_v27_apply, val_main_v2_apply,
    val_main_v1_apply, gd_at]
  have e33 : idx_main_v33 (ix2 a b) = ix1 a := by
    funext d
    match d with
    | ⟨0, _⟩ => rfl
  have e27 : idx_main_v27 (ix2 a b) = ix2 a (0 : Fin 1) := by
    funext d
    match d with
    | ⟨0, _⟩ => rfl
    | ⟨1, _⟩ => rfl
  rw [e33, e27, spread_at, rs_at]
  exact Norm.dx_forms (Norm.ms x0 a) (x3 (ix2 a b)) (x0 (ix2 a b)) (gv x1 b * x2 (ix2 a b)) (Norm.dots x0 x2 (gv x1) a) (Norm.ms_pos x0 a)

theorem dx_eq : val_main_v36 (F := Ideal) x0 x1 x2 x3 = Norm.dx x0 x2 x3 (gv x1) := by
  funext i
  rw [Norm.eta (M := 2048) (N := 2048) i]
  exact dx_at x0 x1 x2 x3 (i 0) (i 1)

theorem dxb_eq : val_main_v37 (F := Ideal) x0 x1 x2 x3 = Norm.dx x0 x2 x3 (gv x1) := dx_eq x0 x1 x2 x3

theorem dg_at (b : Fin 2048) : val_main_v19 (F := Ideal) x0 x2 (ix1 b) = ∑ A : Fin 2048, Norm.dgAt x0 x2 A b := by
  rw [val_main_v19_apply]
  refine (congrArg (· + _) Ideal.ofBits_zero_f32).trans ((zero_add _).trans (Finset.sum_congr rfl fun k _ => ?_))
  have e : idx_main_v19 (ix1 b) k = ix2 k b := by
    funext d
    match d with
    | ⟨0, _⟩ => rfl
    | ⟨1, _⟩ => rfl
  have e13 : idx_main_v13 (ix2 k b) = ix2 k (0 : Fin 1) := by
    funext d
    match d with
    | ⟨0, _⟩ => rfl
    | ⟨1, _⟩ => rfl
  rw [e, val_main_v18_apply, val_main_v14_apply, val_main_v13_apply, e13, rs_at]
  show x0 (ix2 k b) * Norm.rs x0 k * x2 (ix2 k b) = x2 (ix2 k b) * x0 (ix2 k b) * Norm.rs x0 k
  ac_rfl

theorem dg_eq : val_main_v38 (F := Ideal) x0 x2 = fun i => ∑ A : Fin 2048, Norm.dgAt x0 x2 A (i 1) := by
  funext i
  rw [val_main_v38_apply, val_main_v23_apply]
  refine (congrArg (· + _) Ideal.ofBits_zero_f32).trans ((zero_add _).trans ?_)
  rw [Fin.sum_univ_one, val_main_v20_apply]
  refine Eq.trans (congrArg _ ?_) (dg_at x0 x2 (i 1))
  funext d
  match d with
  | ⟨0, _⟩ => exact Fin.ext (by show 0 * 2048 + (i 1).val = (i 1).val; omega)

theorem col_eq : val_main_v40 (F := Ideal) x0 x1 x2 x3 = fun i => ∑ A : Fin 2048, Norm.dx x0 x2 x3 (gv x1) (ix2 A (i 1)) := by
  funext i
  rw [val_main_v40_apply, val_main_v39_apply]
  refine (congrArg (· + _) Ideal.ofBits_zero_f32).trans ((zero_add _).trans (Finset.sum_congr rfl fun k _ => ?_))
  rw [dx_eq]
  refine congrArg _ ?_
  funext d
  match d with
  | ⟨0, _⟩ => rfl
  | ⟨1, _⟩ => rfl

end Cert.Reference16Ideal.Read

namespace Cert.Proof

open Idealize.ShloMosaic Idealize.ShloMosaic.TcCoe Idealize.SL.Sem

theorem frame_r16 : Cert.quiescent_Reference16Ideal := fun m ρ _ =>
  (θ_run Cert.Reference16Ideal.defs _ _).mono (fun r h => ⟨fun c => (h c).2.2.2.2, Idealize.ShloMosaic.sem_eq_zero_of_no_sems (by decide) r.2⟩)
    (Cert.Reference16Ideal.Value.run (F := Ideal) m ρ)

theorem frame_r17 : Cert.quiescent_Reference17Ideal := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)

theorem algebraic17 : Cert.algebraic_Kernel17Ideal_Reference17Ideal := by
  intro m ρ m' ρ' _ harg
  refine ⟨fun c => (Cert.Kernel17Ideal.Gen.dats m 0 c).arrAt 2 Cert.Kernel17Ideal.cfg0.N,
    Cert.Kernel17Ideal.Value.run_blocks (F := Ideal) m ρ,
    (θ_run Cert.Reference17Ideal.defs _ _).mono (fun r h c => ?_) (Cert.Reference17Ideal.Value.run (F := Ideal) m' ρ')⟩
  obtain ⟨e0, e1⟩ := harg c
  obtain ⟨h0, h1⟩ := h c
  refine ⟨(h0.trans ?_).trans (Cert.Kernel17Ideal.Gen.result m c).symm, h1⟩
  rw [Cert.Reference17Ideal.Read.val_main_v13_eq, e0, e1]
  exact Cert.Reference17Ideal.Read.out_eq _ _

theorem algebraic16 : Cert.algebraic_Kernel16Ideal_Reference16Ideal := by
  intro m ρ m' ρ' _ harg
  refine ⟨fun c => (Cert.Kernel16Ideal.Gen.dats m 0 c).arrAt 4 Cert.Kernel16Ideal.cfg0.N,
    fun c => (Cert.Kernel16Ideal.Gen.dats m 0 c).arrAt 5 Cert.Kernel16Ideal.cfg0.N,
    fun c => (Cert.Kernel16Ideal.Gen.dats m 0 c).arrAt 6 Cert.Kernel16Ideal.cfg0.N,
    fun c => (Cert.Kernel16Ideal.Gen.dats m 0 c).arrAt 7 Cert.Kernel16Ideal.cfg0.N,
    Cert.Kernel16Ideal.Value.run_blocks (F := Ideal) m ρ,
    (θ_run Cert.Reference16Ideal.defs _ _).mono (fun r h c => ?_) (Cert.Reference16Ideal.Value.run (F := Ideal) m' ρ')⟩
  obtain ⟨e0, e1, e2, e3⟩ := harg c
  obtain ⟨h0, h1, h2, h3, h4⟩ := h c
  refine ⟨h0.trans ?_, h1.trans ?_, h2.trans ?_, h3.trans ?_, h4⟩
  · refine Eq.trans ?_ (Cert.Kernel16Ideal.Gen.arr4 m c).symm
    rw [Cert.Kernel16Ideal.Gen.host_x, Cert.Kernel16Ideal.Gen.host_d, Cert.Kernel16Ideal.Gen.host_r, Cert.Kernel16Ideal.Gen.host_g,
      Cert.Reference16Ideal.Read.val_main_v36_eq, e0, e1, e2, e3]
    exact Cert.Reference16Ideal.Read.dx_eq _ _ _ _
  · refine Eq.trans ?_ (Cert.Kernel16Ideal.Gen.arr5 m c).symm
    rw [Cert.Kernel16Ideal.Gen.host_x, Cert.Kernel16Ideal.Gen.host_d, Cert.Kernel16Ideal.Gen.host_r, Cert.Kernel16Ideal.Gen.host_g,
      Cert.Reference16Ideal.Read.val_main_v37_eq, e0, e1, e2, e3]
    exact Cert.Reference16Ideal.Read.dxb_eq _ _ _ _
  · refine Eq.trans ?_ (Cert.Kernel16Ideal.Gen.arr6 m c).symm
    rw [Cert.Kernel16Ideal.Gen.host_x, Cert.Kernel16Ideal.Gen.host_d, Cert.Reference16Ideal.Read.val_main_v38_eq, e0, e2]
    exact Cert.Reference16Ideal.Read.dg_eq _ _
  · refine Eq.trans ?_ (Cert.Kernel16Ideal.Gen.arr7 m c).symm
    rw [Cert.Kernel16Ideal.Gen.host_x, Cert.Kernel16Ideal.Gen.host_d, Cert.Kernel16Ideal.Gen.host_r, Cert.Kernel16Ideal.Gen.host_g,
      Cert.Reference16Ideal.Read.val_main_v40_eq, e0, e1, e2, e3]
    exact Cert.Reference16Ideal.Read.col_eq _ _ _ _

end Cert.Proof

end
-- ==== Proof.Loss.Case.lean ====
/- What one step of the loss leaves in each of its four outputs, over the blocks it reads. -/
module

public import proofs.«01_k».proof.Proof.Gen.Kernel18Ideal.Value
public import Idealize.ShloMosaic.Lib.Pointwise

@[expose] public section

set_option maxRecDepth 16384

noncomputable section

namespace Cert.Kernel18Ideal.Gen

open Idealize.ShloMosaic Idealize.ShloMosaic.TcCoe Idealize.SL.Sem Idealize.ShloMosaic.StableHlo
open Cert.Kernel18Ideal.Value

section Cases

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S1x128 .f32) (harg7 : arg7.IsWhole)

/-- The gradient's block, after a first step. -/
theorem out0_A_3_eq (hc0 : cond0_0 i) (x0 x1 : Vec Ideal S256x2048 .f32) (x2 : Vec Ideal S1x2048 .f32) :
    out0_A_3 (F := Ideal) c i arg1 harg1 arg2 harg2 arg3 harg3 arg4 harg4 arg5 harg5 arg6 harg6 arg7 harg7 hc0 x0 x1 x2 = k0_pay9 x0 x1 x2 := by
  unfold out0_A_3
  rw [View.read_writes_junk_eq_canon]
  unfold kernelRun0_A
  dsimp only
  rw [View.canon_unit_zero (by funext a; fin_cases a <;> rfl)]
  simp only [View.readAt_eq_ld, harg1.read_unread, harg2.read_unread, harg3.read_unread]
  repeat rw [View.ld_unit_zero (by funext a; fin_cases a <;> rfl)]

/-- The gradient's block in the narrower format, after a first step. -/
theorem out0_A_4_eq (hc0 : cond0_0 i) (x0 x1 : Vec Ideal S256x2048 .f32) (x2 : Vec Ideal S1x2048 .f32) :
    out0_A_4 (F := Ideal) c i arg1 harg1 arg2 harg2 arg3 harg3 arg4 harg4 arg5 harg5 arg6 harg6 arg7 harg7 hc0 x0 x1 x2 = k0_pay10 x0 x1 x2 := by
  unfold out0_A_4
  rw [View.read_writes_junk_eq_canon]
  unfold kernelRun0_A
  dsimp only
  rw [View.canon_unit_zero (by funext a; fin_cases a <;> rfl)]
  simp only [View.readAt_eq_ld, harg1.read_unread, harg2.read_unread, harg3.read_unread]
  repeat rw [View.ld_unit_zero (by funext a; fin_cases a <;> rfl)]

/-- The weight's gradient so far, after a first step. -/
theorem out0_A_5_eq (hc0 : cond0_0 i) (x0 x1 : Vec Ideal S256x2048 .f32) (x2 : Vec Ideal S1x2048 .f32) :
    out0_A_5 (F := Ideal) c i arg1 harg1 arg2 harg2 arg3 harg3 arg4 harg4 arg5 harg5 arg6 harg6 arg7 harg7 hc0 x0 x1 x2 = k0_pay3 x0 (k0_pay6 x0) (k0_pay8 x0 x1 x2) (k0_pay1 (F := Ideal)) := by
  unfold out0_A_5
  rw [View.read_writes_junk_eq_canon]
  unfold kernelRun0_A
  dsimp only
  rw [View.canon_cons_unit_zero (by funext a; fin_cases a <;> rfl)]
  unfold kernelRun0_A.sl.r kernelRun0_A.sl.r_1 kernelRun0_A.sl.r_3 kernelRun0_A.sl.v41 kernelRun0_A.sl.H5_1
  rw [View.readCov_cons_toLoadRect]
  simp only [View.readAt_eq_ld, harg1.read_unread, harg2.read_unread, harg3.read_unread]
  repeat rw [View.ld_unit_zero (by funext a; fin_cases a <;> rfl)]

/-- The loss so far, after a first step. -/
theorem out0_A_6_eq (hc0 : cond0_0 i) (x0 x1 : Vec Ideal S256x2048 .f32) (x2 : Vec Ideal S1x2048 .f32) :
    out0_A_6 (F := Ideal) c i arg1 harg1 arg2 harg2 arg3 harg3 arg4 harg4 arg5 harg5 arg6 harg6 arg7 harg7 hc0 x0 x1 x2 = k0_pay4 (k0_pay7 x0 x1 x2) (k0_pay2 (F := Ideal)) := by
  unfold out0_A_6
  rw [View.read_writes_junk_eq_canon]
  unfold kernelRun0_A
  dsimp only
  rw [View.canon_cons_unit_zero (by funext a; fin_cases a <;> rfl)]
  unfold kernelRun0_A.sl.r_2 kernelRun0_A.sl.v59 kernelRun0_A.sl.H6_1
  rw [View.readCov_cons_toLoadRect]
  simp only [View.readAt_eq_ld, harg1.read_unread, harg2.read_unread, harg3.read_unread]
  repeat rw [View.ld_unit_zero (by funext a; fin_cases a <;> rfl)]

/-- The gradient's block, after a further step. -/
theorem out0_B_3_eq (hc0 : ¬cond0_0 i) (x0 x1 : Vec Ideal S256x2048 .f32) (x2 : Vec Ideal S1x2048 .f32) (xo5 : Vec Ideal S1x2048 .f32) (xo6 : Vec Ideal S1x128 .f32) :
    out0_B_3 (F := Ideal) c i arg1 harg1 arg2 harg2 arg3 harg3 arg4 harg4 arg5 harg5 arg6 harg6 arg7 harg7 hc0 x0 x1 x2 xo5 xo6 = k0_pay9 x0 x1 x2 := by
  unfold out0_B_3
  rw [View.read_writes_junk_eq_canon]
  unfold kernelRun0_B
  dsimp only
  rw [View.canon_unit_zero (by funext a; fin_cases a <;> rfl)]
  simp only [View.readAt_eq_ld, harg1.read_unread, harg2.read_unread, harg3.read_unread]
  repeat rw [View.ld_unit_zero (by funext a; fin_cases a <;> rfl)]

/-- The gradient's block in the narrower format, after a further step. -/
theorem out0_B_4_eq (hc0 : ¬cond0_0 i) (x0 x1 : Vec Ideal S256x2048 .f32) (x2 : Vec Ideal S1x2048 .f32) (xo5 : Vec Ideal S1x2048 .f32) (xo6 : Vec Ideal S1x128 .f32) :
    out0_B_4 (F := Ideal) c i arg1 harg1 arg2 harg2 arg3 harg3 arg4 harg4 arg5 harg5 arg6 harg6 arg7 harg7 hc0 x0 x1 x2 xo5 xo6 = k0_pay10 x0 x1 x2 := by
  unfold out0_B_4
  rw [View.read_writes_junk_eq_canon]
  unfold kernelRun0_B
  dsimp only
  rw [View.canon_unit_zero (by funext a; fin_cases a <;> rfl)]
  simp only [View.readAt_eq_ld, harg1.read_unread, harg2.read_unread, harg3.read_unread]
  repeat rw [View.ld_unit_zero (by funext a; fin_cases a <;> rfl)]

/-- The weight's gradient so far, after a further step. -/
theorem out0_B_5_eq (hc0 : ¬cond0_0 i) (x0 x1 : Vec Ideal S256x2048 .f32) (x2 : Vec Ideal S1x2048 .f32) (xo5 : Vec Ideal S1x2048 .f32) (xo6 : Vec Ideal S1x128 .f32) :
    out0_B_5 (F := Ideal) c i arg1 harg1 arg2 harg2 arg3 harg3 arg4 harg4 arg5 harg5 arg6 harg6 arg7 harg7 hc0 x0 x1 x2 xo5 xo6 = k0_pay3 x0 (k0_pay6 x0) (k0_pay8 x0 x1 x2) xo5 := by
  unfold out0_B_5
  rw [View.read_writes_junk_eq_canon]
  unfold kernelRun0_B
  dsimp only
  rw [View.canon_unit_zero (by funext a; fin_cases a <;> rfl)]
  unfold kernelRun0_B.sl.r kernelRun0_B.sl.r_1 kernelRun0_B.sl.r_3
  simp only [View.readAt_eq_ld, harg1.read_unread, harg2.read_unread, harg3.read_unread, harg6.read_unread]
  repeat rw [View.ld_unit_zero (by funext a; fin_cases a <;> rfl)]

/-- The loss so far, after a further step. -/
theorem out0_B_6_eq (hc0 : ¬cond0_0 i) (x0 x1 : Vec Ideal S256x2048 .f32) (x2 : Vec Ideal S1x2048 .f32) (xo5 : Vec Ideal S1x2048 .f32) (xo6 : Vec Ideal S1x128 .f32) :
    out0_B_6 (F := Ideal) c i arg1 harg1 arg2 harg2 arg3 harg3 arg4 harg4 arg5 harg5 arg6 harg6 arg7 harg7 hc0 x0 x1 x2 xo5 xo6 = k0_pay4 (k0_pay7 x0 x1 x2) xo6 := by
  unfold out0_B_6
  rw [View.read_writes_junk_eq_canon]
  unfold kernelRun0_B
  dsimp only
  rw [View.canon_unit_zero (by funext a; fin_cases a <;> rfl)]
  unfold kernelRun0_B.sl.r_2
  simp only [View.readAt_eq_ld, harg1.read_unread, harg2.read_unread, harg3.read_unread, harg7.read_unread]
  repeat rw [View.ld_unit_zero (by funext a; fin_cases a <;> rfl)]

end Cases

end Cert.Kernel18Ideal.Gen

end
-- ==== Proof.Loss.Row.lean ====
/- The arithmetic of one row of the loss and of its gradient, at the extended reals. -/
module

public import proofs.«01_k».proof.Proof.Norm.Row

@[expose] public section

set_option maxRecDepth 16384

noncomputable section

namespace Cert.Loss

open Idealize.ShloMosaic

/-- One part in the width, as the kernel's own constant. -/
def part : EReal := Ideal.ofBits .f32 0x3A000000#32
/-- One half, as the programs' own constant. -/
def half : EReal := Ideal.ofBits .f32 0x3F000000#32

/-- How far the norm is from its target. -/
def err {M : ℕ} (x t : Mm.Mat M 2048) (g : Fin 2048 → EReal) : Mm.Mat M 2048 := fun i => Norm.fwd x g i - t i
/-- The gradient reaching the norm's output. -/
def dy {M : ℕ} (x t : Mm.Mat M 2048) (g : Fin 2048 → EReal) : Mm.Mat M 2048 := fun i => err x t g i * part
/-- The gradient reaching the norm's input. -/
def dx {M : ℕ} (x t : Mm.Mat M 2048) (g : Fin 2048 → EReal) : Mm.Mat M 2048 := fun i =>
  Norm.rs x (i 0) * (g (i 1) * dy x t g i)
    - x i * (Norm.rs x (i 0) * Norm.rs x (i 0) * Norm.rs x (i 0)) * Ideal.div (Norm.dots x (dy x t g) g (i 0)) Norm.width
/-- A row's mean squared distance from its target. -/
def sq {M : ℕ} (x t : Mm.Mat M 2048) (g : Fin 2048 → EReal) (a : Fin M) : EReal :=
  Ideal.div (∑ k : Fin 2048, err x t g (ix2 a k) * err x t g (ix2 a k)) Norm.width

theorem part_eq : part = ((2048⁻¹ : ℝ) : EReal) := by
  unfold part
  simp [Ideal.ofBits, Ideal.ieee]
  rw [← EReal.coe_mul]
  norm_num

theorem half_eq : half = ((2⁻¹ : ℝ) : EReal) := by
  unfold half
  simp [Ideal.ofBits, Ideal.ieee]
  rw [← EReal.coe_mul]
  norm_num

theorem one_eq : Ideal.ofBits .f32 0x3F800000#32 = ((1 : ℝ) : EReal) := by
  simp [Ideal.ofBits, Ideal.ieee]
  rw [← EReal.coe_mul]
  norm_num

/-- The reference's form of the gradient reaching the norm's output is the kernel's. -/
theorem dy_forms (e : EReal) :
    Ideal.div (half * Ideal.ofBits .f32 0x3F800000#32) Norm.width * (Ideal.ofBits .f32 0x40000000#32 * e) = e * part := by
  rw [Norm.div_width, half_eq, one_eq, part_eq, Norm.two_eq, ← mul_assoc, ← EReal.coe_mul, ← EReal.coe_mul, ← EReal.coe_mul, mul_comm]
  norm_num

theorem sq_nonneg {M : ℕ} (x t : Mm.Mat M 2048) (g : Fin 2048 → EReal) (a : Fin M) : 0 ≤ sq x t g a := by
  unfold sq
  rw [Norm.div_width]
  exact mul_nonneg (Finset.sum_nonneg fun k _ => Norm.sq_nonneg _) (by norm_num)

/-- One half of a sum of numbers that are not negative. -/
theorem half_sum {ι : Type} (s : Finset ι) (f : ι → EReal) (h : ∀ i ∈ s, 0 ≤ f i) : ∑ i ∈ s, half * f i = half * ∑ i ∈ s, f i := by
  classical
  induction s using Finset.induction_on with
  | empty => simp
  | insert a s ha ih =>
    rw [Finset.sum_insert ha, Finset.sum_insert ha, ih fun i hi => h i (Finset.mem_insert_of_mem hi)]
    refine (EReal.left_distrib_of_nonneg (h a (Finset.mem_insert_self a s)) ?_).symm
    exact Finset.sum_nonneg fun i hi => h i (Finset.mem_insert_of_mem hi)

/-! ## The same row in two arrays -/

section
variable {M N : ℕ} (x t : Mm.Mat M 2048) (g : Fin 2048 → EReal) (X T : Mm.Mat N 2048) (G : Fin 2048 → EReal) (a : Fin M) (A : Fin N)
  (hx : ∀ k, x (ix2 a k) = X (ix2 A k)) (ht : ∀ k, t (ix2 a k) = T (ix2 A k)) (hg : ∀ k, g k = G k)
include hx ht hg

theorem err_congr (b : Fin 2048) : err x t g (ix2 a b) = err X T G (ix2 A b) := by
  show x (ix2 a b) * Norm.rs x a * g b - t (ix2 a b) = X (ix2 A b) * Norm.rs X A * G b - T (ix2 A b)
  rw [Norm.rs_congr x X a A hx, hx, ht, hg]

theorem dy_congr (b : Fin 2048) : dy x t g (ix2 a b) = dy X T G (ix2 A b) :=
  congrArg (fun z : EReal => z * part) (err_congr x t g X T G a A hx ht hg b)

theorem sq_congr : sq x t g a = sq X T G A := by
  unfold sq
  exact congrArg (fun z : EReal => Ideal.div z Norm.width)
    (Finset.sum_congr rfl fun k _ => congrArg (fun z : EReal => z * z) (err_congr x t g X T G a A hx ht hg k))

theorem dx_congr (b : Fin 2048) : dx x t g (ix2 a b) = dx X T G (ix2 A b) := by
  have hd := dy_congr x t g X T G a A hx ht hg
  have hs : Norm.dots x (dy x t g) g a = Norm.dots X (dy X T G) G A := by
    unfold Norm.dots
    exact Finset.sum_congr rfl fun k _ => by rw [hx, hd, hg]
  show Norm.rs x a * (g b * dy x t g (ix2 a b)) - x (ix2 a b) * (Norm.rs x a * Norm.rs x a * Norm.rs x a) * Ideal.div (Norm.dots x (dy x t g) g a) Norm.width
    = Norm.rs X A * (G b * dy X T G (ix2 A b)) - X (ix2 A b) * (Norm.rs X A * Norm.rs X A * Norm.rs X A) * Ideal.div (Norm.dots X (dy X T G) G A) Norm.width
  rw [hs, Norm.rs_congr x X a A hx, hx, hd, hg]

end

end Cert.Loss

end
-- ==== Proof.Loss.Bwd.lean ====
/- What the loss leaves, at the extended reals: the gradient reaching the input, in two formats, is computed block by
   block; the weight's gradient and the loss add up over the blocks. -/
module

public import proofs.«01_k».proof.Proof.Loss.Case
public import proofs.«01_k».proof.Proof.Loss.Row

@[expose] public section

set_option maxRecDepth 16384

noncomputable section

namespace Cert.Kernel18Ideal.Gen

open Idealize.ShloMosaic Idealize.ShloMosaic.TcCoe Idealize.SL.Sem Idealize.ShloMosaic.StableHlo
open Cert.Kernel18Ideal.Value

/-! ## The values a step stores -/

/-- A vector of 2048 from its single row. -/
abbrev row (g : Mm.Mat 1 2048) : Fin 2048 → EReal := fun b => g (ix2 (0 : Fin 1) b)

theorem pay6_apply (x0 : Vec Ideal S256x2048 .f32) (y : S256x1.Idx) : k0_pay6 x0 y = Norm.rs (M := 256) x0 (y 0) := by
  unfold Norm.rs Norm.ms Norm.width Norm.eps
  pointwise [k0_pay6]

theorem pay7_apply (x0 x1 : Vec Ideal S256x2048 .f32) (x2 : Vec Ideal S1x2048 .f32) (y : S256x2048.Idx) :
    k0_pay7 x0 x1 x2 y = Loss.err (M := 256) x0 x1 (row x2) y := by
  have h : ∀ r : Vec Ideal S256x1 .f32, r = k0_pay6 x0 → k0_pay7 x0 x1 x2 y
      = x0 y * r (ix2 (y 0) (0 : Fin 1)) * x2 (ix2 (0 : Fin 1) (y 1)) - x1 y := by
    intro r hr
    unfold k0_pay7
    rw [← hr]
    pointwise [k0_pay5]
  rw [h _ rfl, pay6_apply]
  rfl

theorem pay8_apply (x0 x1 : Vec Ideal S256x2048 .f32) (x2 : Vec Ideal S1x2048 .f32) (y : S256x2048.Idx) :
    k0_pay8 x0 x1 x2 y = Loss.dy (M := 256) x0 x1 (row x2) y :=
  congrArg (fun z : EReal => z * Loss.part) (pay7_apply x0 x1 x2 y)

theorem pay9_apply (x0 x1 : Vec Ideal S256x2048 .f32) (x2 : Vec Ideal S1x2048 .f32) (y : S256x2048.Idx) :
    k0_pay9 x0 x1 x2 y = Loss.dx (M := 256) x0 x1 (row x2) y := by
  have h : ∀ (r : Vec Ideal S256x1 .f32) (d : Vec Ideal S256x2048 .f32), r = k0_pay6 x0 → d = k0_pay8 x0 x1 x2 → k0_pay9 x0 x1 x2 y
      = r (ix2 (y 0) (0 : Fin 1)) * (x2 (ix2 (0 : Fin 1) (y 1)) * d y)
        - x0 y * (r (ix2 (y 0) (0 : Fin 1)) * r (ix2 (y 0) (0 : Fin 1)) * r (ix2 (y 0) (0 : Fin 1)))
          * Ideal.div (∑ k : Fin 2048, x0 (ix2 (y 0) k) * (x2 (ix2 (0 : Fin 1) k) * d (ix2 (y 0) k))) (Ideal.ofBits .f32 0x45000000#32) := by
    intro r d hr hd
    unfold k0_pay9
    rw [← hr, ← hd]
    pointwise [k0_pay5]
  rw [h _ _ rfl (funext fun y => (pay8_apply x0 x1 x2 y).symm), pay6_apply]
  rfl

theorem pay10_eq (x0 x1 : Vec Ideal S256x2048 .f32) (x2 : Vec Ideal S1x2048 .f32) (y : S256x2048.Idx) :
    k0_pay10 x0 x1 x2 y = k0_pay9 x0 x1 x2 y := rfl

theorem pay3_apply (x0 : Vec Ideal S256x2048 .f32) (r : Vec Ideal S256x1 .f32) (d : Vec Ideal S256x2048 .f32) (s : Vec Ideal S1x2048 .f32) (y : S1x2048.Idx) :
    k0_pay3 x0 r d s y = s y + ∑ a : Fin 256, d (ix2 a (y 1)) * x0 (ix2 a (y 1)) * r (ix2 a (0 : Fin 1)) := by
  pointwise [k0_pay3]

theorem pay4_apply (e : Vec Ideal S256x2048 .f32) (s : Vec Ideal S1x128 .f32) (y : S1x128.Idx) :
    k0_pay4 e s y = s y + Loss.half * ∑ a : Fin 256, Ideal.div (∑ k : Fin 2048, e (ix2 a k) * e (ix2 a k)) Norm.width := by
  unfold Loss.half Norm.width
  pointwise [k0_pay4]

theorem pay1_apply (y : S1x2048.Idx) : k0_pay1 (F := Ideal) y = 0 := by
  unfold k0_pay1
  exact Ideal.ofBits_zero_f32

theorem pay2_apply (y : S1x128.Idx) : k0_pay2 (F := Ideal) y = 0 := by
  unfold k0_pay2
  exact Ideal.ofBits_zero_f32

variable (m : (ℓ : Loc nD τ sig) → Buf (Elt Ideal) ℓ) (ρ : Dev nD → PrngReg)

/-! ## What each point leaves -/

theorem outs3 (c : Dev nD) (t : Fin cfg0.N) :
    (outsAt0 m c t.val t.isLt).1 = k0_pay9 (iblk m c 0 t) (iblk m c 1 t) (iblk m c 2 t) := by
  by_cases h : t.val % 8 = 0
  · simp only [outsAt0_A m c t h, out0_A_3_eq]
  · simp only [outsAt0_B m c t h, out0_B_3_eq]

theorem outs4 (c : Dev nD) (t : Fin cfg0.N) :
    (outsAt0 m c t.val t.isLt).2.1 = k0_pay10 (iblk m c 0 t) (iblk m c 1 t) (iblk m c 2 t) := by
  by_cases h : t.val % 8 = 0
  · simp only [outsAt0_A m c t h, out0_A_4_eq]
  · simp only [outsAt0_B m c t h, out0_B_4_eq]

/-- Point `n`'s part of the weight's gradient. -/
def dgPart (c : Dev nD) (n : ℕ) (b : Fin 2048) : EReal :=
  if h : n < cfg0.N then ∑ a : Fin 256, Norm.dgAt (M := 256) (iblk m c 0 ⟨n, h⟩)
    (Loss.dy (M := 256) (iblk m c 0 ⟨n, h⟩) (iblk m c 1 ⟨n, h⟩) (row (iblk m c 2 ⟨n, h⟩))) a b else 0

/-- Point `n`'s sum of its rows' mean squared distances. -/
def sqPart (c : Dev nD) (n : ℕ) : EReal :=
  if h : n < cfg0.N then ∑ a : Fin 256, Loss.sq (M := 256) (iblk m c 0 ⟨n, h⟩) (iblk m c 1 ⟨n, h⟩) (row (iblk m c 2 ⟨n, h⟩)) a else 0

theorem dg_step (c : Dev nD) (n : ℕ) (h : n < cfg0.N) (s : Vec Ideal S1x2048 .f32) (y : S1x2048.Idx) :
    k0_pay3 (iblk m c 0 ⟨n, h⟩) (k0_pay6 (iblk m c 0 ⟨n, h⟩)) (k0_pay8 (iblk m c 0 ⟨n, h⟩) (iblk m c 1 ⟨n, h⟩) (iblk m c 2 ⟨n, h⟩)) s y
      = s y + dgPart m c n (y 1) := by
  rw [pay3_apply]
  unfold dgPart
  rw [dif_pos h]
  refine congrArg (fun z : EReal => s y + z) (Finset.sum_congr rfl fun a _ => ?_)
  rw [pay6_apply, pay8_apply]
  rfl

theorem sq_step (c : Dev nD) (n : ℕ) (h : n < cfg0.N) (s : Vec Ideal S1x128 .f32) (y : S1x128.Idx) :
    k0_pay4 (k0_pay7 (iblk m c 0 ⟨n, h⟩) (iblk m c 1 ⟨n, h⟩) (iblk m c 2 ⟨n, h⟩)) s y = s y + Loss.half * sqPart m c n := by
  rw [pay4_apply]
  unfold sqPart
  rw [dif_pos h]
  refine congrArg (fun z : EReal => s y + Loss.half * z) (Finset.sum_congr rfl fun a _ => ?_)
  exact congrArg (fun z : EReal => Ideal.div z Norm.width)
    (Finset.sum_congr rfl fun k _ => congrArg (fun z : EReal => z * z) (pay7_apply _ _ _ _))

theorem outs5 (c : Dev nD) : ∀ (n : ℕ) (h : n < cfg0.N) (y : S1x2048.Idx),
    (outsAt0 m c n h).2.2.1 y = ∑ s ∈ Finset.range (n + 1), dgPart m c s (y 1) := by
  have hN : cfg0.N = 8 := N_0
  intro n
  induction n with
  | zero =>
    intro h y
    refine (congrFun (congrArg (fun z => z.2.2.1) (outsAt0_A m c ⟨0, h⟩ rfl)) y).trans ?_
    simp only [out0_A_5_eq]
    rw [dg_step m c 0 h, pay1_apply, zero_add, Finset.sum_range_one]
  | succ n ih =>
    intro h y
    have hB : ¬ (n + 1) % 8 = 0 := by omega
    refine (congrFun (congrArg (fun z => z.2.2.1) (outsAt0_B m c ⟨n + 1, h⟩ hB)) y).trans ?_
    simp only [out0_B_5_eq]
    rw [dg_step m c (n + 1) h, Finset.sum_range_succ]
    exact congrArg (· + dgPart m c (n + 1) (y 1)) (ih _ y)

theorem outs6 (c : Dev nD) : ∀ (n : ℕ) (h : n < cfg0.N) (y : S1x128.Idx),
    (outsAt0 m c n h).2.2.2 y = ∑ s ∈ Finset.range (n + 1), Loss.half * sqPart m c s := by
  have hN : cfg0.N = 8 := N_0
  intro n
  induction n with
  | zero =>
    intro h y
    refine (congrFun (congrArg (fun z => z.2.2.2) (outsAt0_A m c ⟨0, h⟩ rfl)) y).trans ?_
    simp only [out0_A_6_eq]
    rw [sq_step m c 0 h, pay2_apply, zero_add, Finset.sum_range_one]
  | succ n ih =>
    intro h y
    have hB : ¬ (n + 1) % 8 = 0 := by omega
    refine (congrFun (congrArg (fun z => z.2.2.2) (outsAt0_B m c ⟨n + 1, h⟩ hB)) y).trans ?_
    simp only [out0_B_6_eq]
    rw [sq_step m c (n + 1) h, Finset.sum_range_succ]
    exact congrArg (· + Loss.half * sqPart m c (n + 1)) (ih _ y)

end Cert.Kernel18Ideal.Gen

end
-- ==== Proof.Loss.Arr.lean ====
/- The four arrays the loss ends with, as functions of its arguments. -/
module

public import proofs.«01_k».proof.Proof.Loss.Bwd
public import proofs.«01_k».proof.Proof.Norm.Arr

@[expose] public section

set_option maxRecDepth 16384

noncomputable section

namespace Cert.Kernel18Ideal.Gen

open Idealize.ShloMosaic Idealize.ShloMosaic.TcCoe Idealize.SL.Sem Idealize.ShloMosaic.StableHlo
open Cert.Kernel18Ideal.Value

variable (m : (ℓ : Loc nD τ sig) → Buf (Elt Ideal) ℓ) (ρ : Dev nD → PrngReg)

/-- Where the windows stand at a point. -/
theorem at0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem at1 : ∀ t : Fin cfg0.N, win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The blocks read -/

abbrev aX (c : Dev nD) : Mm.Mat 2048 2048 := V m c main_arg0
abbrev aT (c : Dev nD) : Mm.Mat 2048 2048 := V m c main_arg2
abbrev aG (c : Dev nD) : Fin 2048 → EReal := row (V m c main_v0)

theorem blk_x (c : Dev nD) (t : Fin cfg0.N) (a : Fin 256) (A : Fin 2048) (hA : A.val = 256 * t.val + a.val) (b : Fin 2048) :
    iblk m c 0 t (ix2 a b) = aX m c (ix2 A b) := by
  obtain ⟨e0, e1, -⟩ := at0 t
  refine congrArg (V m c main_arg0) ?_
  funext d; apply Fin.ext
  match d with
  | ⟨0, _⟩ => show win0_0.index t (0 : Fin 2) * 256 + 1 * a.val = A.val; omega
  | ⟨1, _⟩ => show win0_0.index t (1 : Fin 2) * 2048 + 1 * b.val = b.val; omega

theorem blk_t (c : Dev nD) (t : Fin cfg0.N) (a : Fin 256) (A : Fin 2048) (hA : A.val = 256 * t.val + a.val) (b : Fin 2048) :
    iblk m c 1 t (ix2 a b) = aT m c (ix2 A b) := by
  obtain ⟨-, -, e0, e1, -⟩ := at0 t
  refine congrArg (V m c main_arg2) ?_
  funext d; apply Fin.ext
  match d with
  | ⟨0, _⟩ => show win0_1.index t (0 : Fin 2) * 256 + 1 * a.val = A.val; omega
  | ⟨1, _⟩ => show win0_1.index t (1 : Fin 2) * 2048 + 1 * b.val = b.val; omega

theorem blk_g (c : Dev nD) (t : Fin cfg0.N) (b : Fin 2048) : row (iblk m c 2 t) b = aG m c b := by
  obtain ⟨-, -, -, -, e0, e1, -⟩ := at0 t
  refine congrArg (V m c main_v0) ?_
  funext d; apply Fin.ext
  match d with
  | ⟨0, _⟩ => show win0_2.index t (0 : Fin 2) * 1 + 1 * 0 = 0; omega
  | ⟨1, _⟩ => show win0_2.index t (1 : Fin 2) * 2048 + 1 * b.val = b.val; omega

/-! ## The gradient reaching the input -/

theorem pay9_at (c : Dev nD) (t : Fin cfg0.N) (y : S256x2048.Idx) (A : Fin 2048) (hA : A.val = 256 * t.val + (y 0).val) :
    k0_pay9 (iblk m c 0 t) (iblk m c 1 t) (iblk m c 2 t) y = Loss.dx (aX m c) (aT m c) (aG m c) (ix2 A (y 1)) := by
  rw [pay9_apply]
  refine (congrArg _ (Norm.eta (M := 256) (N := 2048) y)).trans ?_
  exact Loss.dx_congr (M := 256) (N := 2048) _ _ _ _ _ _ (y 0) A (blk_x m c t (y 0) A hA) (blk_t m c t (y 0) A hA) (blk_g m c t) (y 1)

theorem arr3 (c : Dev nD) : (dats m 0 c).arrAt 3 cfg0.N = Loss.dx (aX m c) (aT m c) (aG m c) := by
  have hN : cfg0.N = 8 := N_0
  refine (dats m 0 c).arrAt_eq_of_cover 3 _ (fun t _ => ?_) (fun i => ?_)
  · rw [flushed3, outs3]
    funext y
    obtain ⟨-, -, -, -, -, -, e0, e1, -⟩ := at0 t
    have htN := t.isLt
    have hy0 : (y 0).val < 256 := (y 0).isLt
    have hA : 256 * t.val + (y 0).val < 2048 := by omega
    show k0_pay9 (iblk m c 0 t) (iblk m c 1 t) (iblk m c 2 t) y
      = Loss.dx (aX m c) (aT m c) (aG m c) (((cfg0.win 3).blk t).view.emb y)
    refine (pay9_at m c t y ⟨_, hA⟩ rfl).trans (congrArg _ ?_)
    funext d; apply Fin.ext
    match d with
    | ⟨0, _⟩ => show 256 * t.val + (y 0).val = win0_3.index t (0 : Fin 2) * 256 + 1 * (y 0).val; omega
    | ⟨1, _⟩ => show (y 1).val = win0_3.index t (1 : Fin 2) * 2048 + 1 * (y 1).val; omega
  · have hi0 : (i 0).val < 2048 := (i 0).isLt
    have hi1 : (i 1).val < 2048 := (i 1).isLt
    let t : Fin cfg0.N := ⟨(i 0).val / 256, lt_of_lt_of_eq (by omega) (show 8 = cfg0.N from N_0.symm)⟩
    obtain ⟨-, -, -, -, -, -, e0, e1, -⟩ := at0 t
    have ht : t.val = (i 0).val / 256 := rfl
    refine ⟨t, flush0_3 t, ?_⟩
    show i ∈ ((View.whole main_v1_0).slice (win0_3.rect t)).set
    rw [View.set_slice_whole, Rect.mem_set_unit]
    intro a
    match a with
    | ⟨0, _⟩ => show win0_3.index t (0 : Fin 2) * 256 ≤ (i 0).val ∧ (i 0).val < win0_3.index t (0 : Fin 2) * 256 + 256; omega
    | ⟨1, _⟩ => show win0_3.index t (1 : Fin 2) * 2048 ≤ (i 1).val ∧ (i 1).val < win0_3.index t (1 : Fin 2) * 2048 + 2048; omega

theorem arr4 (c : Dev nD) : (dats m 0 c).arrAt 4 cfg0.N = Loss.dx (aX m c) (aT m c) (aG m c) := by
  have hN : cfg0.N = 8 := N_0
  refine (dats m 0 c).arrAt_eq_of_cover 4 _ (fun t _ => ?_) (fun i => ?_)
  · rw [flushed4, outs4]
    funext y
    obtain ⟨-, -, -, -, -, -, -, -, e0, e1⟩ := at0 t
    have htN := t.isLt
    have hy0 : (y 0).val < 256 := (y 0).isLt
    have hA : 256 * t.val + (y 0).val < 2048 := by omega
    show k0_pay10 (iblk m c 0 t) (iblk m c 1 t) (iblk m c 2 t) y
      = Loss.dx (aX m c) (aT m c) (aG m c) (((cfg0.win 4).blk t).view.emb y)
    refine (pay10_eq _ _ _ y).trans ((pay9_at m c t y ⟨_, hA⟩ rfl).trans (congrArg _ ?_))
    funext d; apply Fin.ext
    match d with
    | ⟨0, _⟩ => show 256 * t.val + (y 0).val = win0_4.index t (0 : Fin 2) * 256 + 1 * (y 0).val; omega
    | ⟨1, _⟩ => show (y 1).val = win0_4.index t (1 : Fin 2) * 2048 + 1 * (y 1).val; omega
  · have hi0 : (i 0).val < 2048 := (i 0).isLt
    have hi1 : (i 1).val < 2048 := (i 1).isLt
    let t : Fin cfg0.N := ⟨(i 0).val / 256, lt_of_lt_of_eq (by omega) (show 8 = cfg0.N from N_0.symm)⟩
    obtain ⟨-, -, -, -, -, -, -, -, e0, e1⟩ := at0 t
    have ht : t.val = (i 0).val / 256 := rfl
    refine ⟨t, flush0_4 t, ?_⟩
    show i ∈ ((View.whole main_v1_1).slice (win0_4.rect t)).set
    rw [View.set_slice_whole, Rect.mem_set_unit]
    intro a
    match a with
    | ⟨0, _⟩ => show win0_4.index t (0 : Fin 2) * 256 ≤ (i 0).val ∧ (i 0).val < win0_4.index t (0 : Fin 2) * 256 + 256; omega
    | ⟨1, _⟩ => show win0_4.index t (1 : Fin 2) * 2048 ≤ (i 1).val ∧ (i 1).val < win0_4.index t (1 : Fin 2) * 2048 + 2048; omega

/-! ## The sums over all rows -/

theorem dg_sum (c : Dev nD) (b : Fin 2048) :
    ∑ s ∈ Finset.range 8, dgPart m c s b = ∑ A : Fin 2048, Norm.dgAt (aX m c) (Loss.dy (aX m c) (aT m c) (aG m c)) A b := by
  have hN : cfg0.N = 8 := N_0
  refine Cert.Kernel16Ideal.Gen.rows_sum (fun s => dgPart m c s b) _ fun s hs => ?_
  show dgPart m c s b = _
  unfold dgPart
  rw [dif_pos (by omega)]
  exact Finset.sum_congr rfl fun a _ => Norm.dgAt_congr (M := 256) (N := 2048) _ _ _ _ a _ (blk_x m c _ a _ rfl)
    (Loss.dy_congr (M := 256) (N := 2048) _ _ _ _ _ _ a _ (blk_x m c _ a _ rfl) (blk_t m c _ a _ rfl) (blk_g m c _)) b

theorem sqPart_nonneg (c : Dev nD) (n : ℕ) : 0 ≤ sqPart m c n := by
  unfold sqPart
  split
  · exact Finset.sum_nonneg fun a _ => Loss.sq_nonneg _ _ _ _
  · exact le_refl _

theorem sq_sum (c : Dev nD) :
    ∑ s ∈ Finset.range 8, Loss.half * sqPart m c s = Loss.half * ∑ A : Fin 2048, Loss.sq (aX m c) (aT m c) (aG m c) A := by
  have hN : cfg0.N = 8 := N_0
  rw [Loss.half_sum _ _ fun s _ => sqPart_nonneg m c s]
  refine congrArg (fun z : EReal => Loss.half * z) (Cert.Kernel16Ideal.Gen.rows_sum (fun s => sqPart m c s) _ fun s hs => ?_)
  show sqPart m c s = _
  unfold sqPart
  rw [dif_pos (by omega)]
  exact Finset.sum_congr rfl fun a _ => Loss.sq_congr (M := 256) (N := 2048) _ _ _ _ _ _ a _ (blk_x m c _ a _ rfl) (blk_t m c _ a _ rfl) (blk_g m c _)

theorem arr5 (c : Dev nD) : (dats m 0 c).arrAt 5 cfg0.N = fun i => ∑ A : Fin 2048, Norm.dgAt (aX m c) (Loss.dy (aX m c) (aT m c) (aG m c)) A (i 1) := by
  have hN : cfg0.N = 8 := N_0
  refine (dats m 0 c).arrAt_eq_of_cover 5 _ (fun t hf => ?_) (fun i => ?_)
  · have ht : t.val = 7 := by have := (flush0_5 t).mp hf; have := t.isLt; omega
    rw [flushed5]
    funext y
    obtain ⟨e0, e1, -⟩ := at1 t
    show (outsAt0 m c t.val t.isLt).2.2.1 y = ∑ A : Fin 2048, Norm.dgAt (aX m c) (Loss.dy (aX m c) (aT m c) (aG m c)) A ((((cfg0.win 5).blk t).view.emb y) 1)
    rw [outs5, ht]
    refine (dg_sum m c (y 1)).trans (congrArg (fun b => ∑ A : Fin 2048, Norm.dgAt (aX m c) (Loss.dy (aX m c) (aT m c) (aG m c)) A b) (Fin.ext ?_))
    show (y 1).val = win0_5.index t (1 : Fin 2) * 2048 + 1 * (y 1).val
    omega
  · have hi0 : (i 0).val < 1 := (i 0).isLt
    have hi1 : (i 1).val < 2048 := (i 1).isLt
    let t : Fin cfg0.N := ⟨7, lt_of_lt_of_eq (by omega) (show 8 = cfg0.N from N_0.symm)⟩
    obtain ⟨e0, e1, -⟩ := at1 t
    have ht : t.val = 7 := rfl
    refine ⟨t, (flush0_5 t).mpr (by omega), ?_⟩
    show i ∈ ((View.whole main_v1_2).slice (win0_5.rect t)).set
    rw [View.set_slice_whole, Rect.mem_set_unit]
    intro a
    match a with
    | ⟨0, _⟩ => show win0_5.index t (0 : Fin 2) * 1 ≤ (i 0).val ∧ (i 0).val < win0_5.index t (0 : Fin 2) * 1 + 1; omega
    | ⟨1, _⟩ => show win0_5.index t (1 : Fin 2) * 2048 ≤ (i 1).val ∧ (i 1).val < win0_5.index t (1 : Fin 2) * 2048 + 2048; omega

theorem arr6 (c : Dev nD) : (dats m 0 c).arrAt 6 cfg0.N = fun _ => Loss.half * ∑ A : Fin 2048, Loss.sq (aX m c) (aT m c) (aG m c) A := by
  have hN : cfg0.N = 8 := N_0
  refine (dats m 0 c).arrAt_eq_of_cover 6 _ (fun t hf => ?_) (fun i => ?_)
  · have ht : t.val = 7 := by have := (flush0_6 t).mp hf; have := t.isLt; omega
    rw [flushed6]
    funext y
    show (outsAt0 m c t.val t.isLt).2.2.2 y = Loss.half * ∑ A : Fin 2048, Loss.sq (aX m c) (aT m c) (aG m c) A
    rw [outs6, ht]
    exact sq_sum m c
  · have hi0 : (i 0).val < 1 := (i 0).isLt
    have hi1 : (i 1).val < 128 := (i 1).isLt
    let t : Fin cfg0.N := ⟨7, lt_of_lt_of_eq (by omega) (show 8 = cfg0.N from N_0.symm)⟩
    obtain ⟨-, -, e0, e1⟩ := at1 t
    have ht : t.val = 7 := rfl
    refine ⟨t, (flush0_6 t).mpr (by omega), ?_⟩
    show i ∈ ((View.whole main_v1_3).slice (win0_6.rect t)).set
    rw [View.set_slice_whole, Rect.mem_set_unit]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 128 ≤ (i 1).val ∧ (i 1).val < win0_6.index t (1 : Fin 2) * 128 + 128; omega

/-! ## The host lines -/

theorem host_x (c : Dev nD) : aX m c = m ((c : Thread nD τ).loc main_arg0) := by
  show StableHlo.after hostOps0 _ _ = _
  after_results

theorem host_t (c : Dev nD) : aT m c = m ((c : Thread nD τ).loc main_arg2) := by
  show StableHlo.after hostOps0 _ _ = _
  after_results

theorem row_apply (g : Vec Ideal S2048 .f32) (b : Fin 2048) :
    (shapeCast S1x2048 g shapeCasts_S2048_S1x2048 : Vec Ideal S1x2048 .f32) (ix2 (0 : Fin 1) b) = g (ix1 b) := by
  pointwise []

theorem host_g (c : Dev nD) : aG m c = fun b => m ((c : Thread nD τ).loc main_arg1) (ix1 b) := by
  funext b
  refine Eq.trans (congrFun ?_ (ix2 (0 : Fin 1) b)) (row_apply (m ((c : Thread nD τ).loc main_arg1)) b)
  show StableHlo.after hostOps0 _ _ = _
  after_results
  rfl

end Cert.Kernel18Ideal.Gen

end
-- ==== Proof.Loss.Claims.lean ====
/- The claims about the loss head. -/
module

public import proofs.«01_k».proof.Defs
public import proofs.«01_k».proof.Proof.Loss.Arr
public import proofs.«01_k».proof.Proof.Gen.Kernel18Ideal
public import proofs.«01_k».proof.Proof.Gen.Reference18Ideal
public import proofs.«01_k».proof.Proof.Gen.Reference18Ideal.Run
public import proofs.«01_k».proof.Proof.Gen.Reference18Ideal.Read

@[expose] public section

set_option maxRecDepth 16384

noncomputable section

namespace Cert.Reference18Ideal.Read

open Idealize.ShloMosaic

variable (x0 : Mm.Mat 2048 2048) (x1 : (⟨1, ![2048]⟩ : Shape).Idx → EReal) (x2 : Mm.Mat 2048 2048)

/-- The weight by its position. -/
abbrev gv : Fin 2048 → EReal := fun b => x1 (ix1 b)

theorem ms_at (a : Fin 2048) : val_main_v8 (F := Ideal) x0 (ix2 a (0 : Fin 1)) = Norm.ms x0 a := by
  rw [val_main_v8_apply, val_main_v7_apply, val_main_v6_apply, val_main_v5_apply, val_main_v4_apply, val_main_v3_apply]
  refine congrArg (fun z : EReal => Ideal.div z Norm.width + Norm.eps) ?_
  refine (congrArg (· + _) Ideal.ofBits_zero_f32).trans ((zero_add _).trans (Finset.sum_congr rfl fun k _ => ?_))
  rw [val_main_v0_apply]
  refine congrArg (fun j => x0 j * x0 j) ?_
  funext d
  match d with
  | ⟨0, _⟩ => rfl
  | ⟨1, _⟩ => rfl

theorem rs_at (a : Fin 2048) : val_main_v9 (F := Ideal) x0 (ix2 a (0 : Fin 1)) = Norm.rs x0 a := by
  rw [val_main_v9_apply]
  exact congrArg Ideal.rsqrt (ms_at x0 a)

theorem scaled_at (a b : Fin 2048) : val_main_v14 (F := Ideal) x0 (ix2 a b) = x0 (ix2 a b) * Norm.rs x0 a := by
  have e : idx_main_v13 (ix2 a b) = ix2 a (0 : Fin 1) := by
    funext d
    match d with
    | ⟨0, _⟩ => rfl
    | ⟨1, _⟩ => rfl
  rw [val_main_v14_apply, val_main_v13_apply, e, rs_at]
  rfl

/-- How far the norm is from its target. -/
theorem err_at (a b : Fin 2048) : val_main_v18 (F := Ideal) x0 x1 x2 (ix2 a b) = Loss.err x0 x2 (gv x1) (ix2 a b) := by
  rw [val_main_v18_apply, val_main_v17_apply, scaled_at, val_main_v16_apply, val_main_v15_apply]
  refine congrArg (fun z : EReal => x0 (ix2 a b) * Norm.rs x0 a * z - x2 (ix2 a b)) (congrArg x1 ?_)
  funext d
  match d with
  | ⟨0, _⟩ => rfl

/-- The gradient reaching the norm's output. -/
theorem dy_at (a b : Fin 2048) : val_main_v32 (F := Ideal) x0 x1 x2 (ix2 a b) = Loss.dy x0 x2 (gv x1) (ix2 a b) := by
  rw [val_main_v32_apply, val_main_v31_apply, val_main_v30_apply, val_main_v29_apply, val_main_v28_apply, val_main_v27_apply, val_main_v21_apply,
    val_main_v20_apply, err_at]
  exact Loss.dy_forms _

/-- The scaled gradient. -/
theorem gd_at (a b : Fin 2048) : val_main_v37 (F := Ideal) x0 x1 x2 (ix2 a b) = gv x1 b * Loss.dy x0 x2 (gv x1) (ix2 a b) := by
  rw [val_main_v37_apply, val_main_v36_apply, val_main_v15_apply, dy_at]
  refine Eq.trans (congrArg (fun z : EReal => Loss.dy x0 x2 (gv x1) (ix2 a b) * z) (congrArg x1 ?_)) (mul_comm _ _)
  funext d
  match d with
  | ⟨0, _⟩ => rfl

/-- The row's sum. -/
theorem dots_at (a : Fin 2048) : val_main_v41 (F := Ideal) x0 x1 x2 (ix2 a (0 : Fin 1)) = Norm.dots x0 (Loss.dy x0 x2 (gv x1)) (gv x1) a := by
  rw [val_main_v41_apply, val_main_v40_apply]
  refine (congrArg (· + _) Ideal.ofBits_zero_f32).trans ((zero_add _).trans (Finset.sum_congr rfl fun k _ => ?_))
  rw [val_main_v39_apply]
  have e : idx_main_v40 (idx_main_v41 (ix2 a (0 : Fin 1))) k = ix2 a k := by
    funext d
    match d with
    | ⟨0, _⟩ => exact Fin.ext (by show a.val * 1 + 0 = a.val; omega)
    | ⟨1, _⟩ => rfl
  rw [e]
  exact congrArg (fun z : EReal => x0 (ix2 a k) * z) (gd_at x0 x1 x2 a k)

/-- The mean square's gradient, before it is spread over the row. -/
theorem spread_at (a : Fin 2048) : val_main_v47 (F := Ideal) x0 x1 x2 (ix1 a)
    = Ideal.div (Norm.dots x0 (Loss.dy x0 x2 (gv x1)) (gv x1) a * (Ideal.ofBits .f32 0xBF000000#32 * Ideal.div (Norm.rs x0 a) (Norm.ms x0 a))) Norm.width := by
  rw [val_main_v47_apply]
  refine (congrArg (· + _) Ideal.ofBits_zero_f32).trans ((zero_add _).trans ?_)
  rw [Fin.sum_univ_one]
  have e : idx_main_v47 (ix1 a) (0 : Fin 1) = ix2 a (0 : Fin 1) := by
    funext d
    match d with
    | ⟨0, _⟩ => rfl
    | ⟨1, _⟩ => rfl
  rw [e, val_main_v46_apply, val_main_v45_apply, val_main_v44_apply, val_main_v12_apply, val_main_v11_apply, val_main_v10_apply, dots_at, rs_at, ms_at]
  rfl

theorem dx_at (a b : Fin 2048) : val_main_v50 (F := Ideal) x0 x1 x2 (ix2 a b) = Loss.dx x0 x2 (gv x1) (ix2 a b) := by
  rw [val_main_v50_apply, val_main_v49_apply, val_main_v48_apply, val_main_v43_apply, val_main_v42_apply, val_main_v2_apply,
    val_main_v1_apply, gd_at]
  have e48 : idx_main_v48 (ix2 a b) = ix1 a := by
    funext d
    match d with
    | ⟨0, _⟩ => rfl
  have e42 : idx_main_v42 (ix2 a b) = ix2 a (0 : Fin 1) := by
    funext d
    match d with
    | ⟨0, _⟩ => rfl
    | ⟨1, _⟩ => rfl
  rw [e48, e42, spread_at, rs_at]
  have h := Norm.dx_forms (Norm.ms x0 a) 0 (x0 (ix2 a b)) (gv x1 b * Loss.dy x0 x2 (gv x1) (ix2 a b))
    (Norm.dots x0 (Loss.dy x0 x2 (gv x1)) (gv x1) a) (Norm.ms_pos x0 a)
  rw [zero_add, zero_add] at h
  exact h

theorem dx_eq : val_main_v50 (F := Ideal) x0 x1 x2 = Loss.dx x0 x2 (gv x1) := by
  funext i
  rw [Norm.eta (M := 2048) (N := 2048) i]
  exact dx_at x0 x1 x2 (i 0) (i 1)

theorem dxb_eq : val_main_v51 (F := Ideal) x0 x1 x2 = Loss.dx x0 x2 (gv x1) := dx_eq x0 x1 x2

theorem dg_at (b : Fin 2048) : val_main_v34 (F := Ideal) x0 x1 x2 (ix1 b) = ∑ A : Fin 2048, Norm.dgAt x0 (Loss.dy x0 x2 (gv x1)) A b := by
  rw [val_main_v34_apply]
  refine (congrArg (· + _) Ideal.ofBits_zero_f32).trans ((zero_add _).trans (Finset.sum_congr rfl fun k _ => ?_))
  have e : idx_main_v34 (ix1 b) k = ix2 k b := by
    funext d
    match d with
    | ⟨0, _⟩ => rfl
    | ⟨1, _⟩ => rfl
  rw [e, val_main_v33_apply, scaled_at, dy_at]
  show x0 (ix2 k b) * Norm.rs x0 k * Loss.dy x0 x2 (gv x1) (ix2 k b) = Loss.dy x0 x2 (gv x1) (ix2 k b) * x0 (ix2 k b) * Norm.rs x0 k
  ac_rfl

theorem dg_eq : val_main_v52 (F := Ideal) x0 x1 x2 = fun i => ∑ A : Fin 2048, Norm.dgAt x0 (Loss.dy x0 x2 (gv x1)) A (i 1) := by
  funext i
  rw [val_main_v52_apply, val_main_v38_apply]
  refine (congrArg (· + _) Ideal.ofBits_zero_f32).trans ((zero_add _).trans ?_)
  rw [Fin.sum_univ_one, val_main_v35_apply]
  refine Eq.trans (congrArg _ ?_) (dg_at x0 x1 x2 (i 1))
  funext d
  match d with
  | ⟨0, _⟩ => exact Fin.ext (by show 0 * 2048 + (i 1).val = (i 1).val; omega)

/-- A row's mean squared distance. -/
theorem sq_at (a : Fin 2048) : val_main_v24 (F := Ideal) x0 x1 x2 (ix1 a) = Loss.sq x0 x2 (gv x1) a := by
  rw [val_main_v24_apply, val_main_v23_apply, val_main_v22_apply]
  refine congrArg (fun z : EReal => Ideal.div z Norm.width) ?_
  refine (congrArg (· + _) Ideal.ofBits_zero_f32).trans ((zero_add _).trans (Finset.sum_congr rfl fun k _ => ?_))
  have e : idx_main_v22 (ix1 a) k = ix2 a k := by
    funext d
    match d with
    | ⟨0, _⟩ => rfl
    | ⟨1, _⟩ => rfl
  rw [e, val_main_v19_apply, err_at]
  rfl

theorem loss_eq : val_main_v53 (F := Ideal) x0 x1 x2 = fun _ => Loss.half * ∑ A : Fin 2048, Loss.sq x0 x2 (gv x1) A := by
  funext i
  rw [val_main_v53_apply, val_main_v26_apply, val_main_v25_apply]
  refine congrArg (fun z : EReal => Loss.half * z) ?_
  refine (congrArg (· + _) Ideal.ofBits_zero_f32).trans ((zero_add _).trans ?_)
  exact (sum_idx1 (n0 := 2048) _).trans (Finset.sum_congr rfl fun k _ => sq_at x0 x1 x2 k)

end Cert.Reference18Ideal.Read

namespace Cert.Proof

open Idealize.ShloMosaic Idealize.ShloMosaic.TcCoe Idealize.SL.Sem

theorem frame_r18 : Cert.quiescent_Reference18Ideal := fun m ρ _ =>
  (θ_run Cert.Reference18Ideal.defs _ _).mono (fun r h => ⟨fun c => (h c).2.2.2.2, Idealize.ShloMosaic.sem_eq_zero_of_no_sems (by decide) r.2⟩)
    (Cert.Reference18Ideal.Value.run (F := Ideal) m ρ)

theorem algebraic18 : Cert.algebraic_Kernel18Ideal_Reference18Ideal := by
  intro m ρ m' ρ' _ harg
  refine ⟨fun c => (Cert.Kernel18Ideal.Gen.dats m 0 c).arrAt 3 Cert.Kernel18Ideal.cfg0.N,
    fun c => (Cert.Kernel18Ideal.Gen.dats m 0 c).arrAt 4 Cert.Kernel18Ideal.cfg0.N,
    fun c => (Cert.Kernel18Ideal.Gen.dats m 0 c).arrAt 5 Cert.Kernel18Ideal.cfg0.N,
    fun c => (Cert.Kernel18Ideal.Gen.dats m 0 c).arrAt 6 Cert.Kernel18Ideal.cfg0.N,
    Cert.Kernel18Ideal.Value.run_blocks (F := Ideal) m ρ,
    (θ_run Cert.Reference18Ideal.defs _ _).mono (fun r h c => ?_) (Cert.Reference18Ideal.Value.run (F := Ideal) m' ρ')⟩
  obtain ⟨e0, e1, e2⟩ := harg c
  obtain ⟨h0, h1, h2, h3, h4⟩ := h c
  refine ⟨h0.trans ?_, h1.trans ?_, h2.trans ?_, h3.trans ?_, h4⟩
  · refine Eq.trans ?_ (Cert.Kernel18Ideal.Gen.arr3 m c).symm
    rw [Cert.Kernel18Ideal.Gen.host_x, Cert.Kernel18Ideal.Gen.host_t, Cert.Kernel18Ideal.Gen.host_g,
      Cert.Reference18Ideal.Read.val_main_v50_eq, e0, e1, e2]
    exact Cert.Reference18Ideal.Read.dx_eq _ _ _
  · refine Eq.trans ?_ (Cert.Kernel18Ideal.Gen.arr4 m c).symm
    rw [Cert.Kernel18Ideal.Gen.host_x, Cert.Kernel18Ideal.Gen.host_t, Cert.Kernel18Ideal.Gen.host_g,
      Cert.Reference18Ideal.Read.val_main_v51_eq, e0, e1, e2]
    exact Cert.Reference18Ideal.Read.dxb_eq _ _ _
  · refine Eq.trans ?_ (Cert.Kernel18Ideal.Gen.arr5 m c).symm
    rw [Cert.Kernel18Ideal.Gen.host_x, Cert.Kernel18Ideal.Gen.host_t, Cert.Kernel18Ideal.Gen.host_g,
      Cert.Reference18Ideal.Read.val_main_v52_eq, e0, e1, e2]
    exact Cert.Reference18Ideal.Read.dg_eq _ _ _
  · refine Eq.trans ?_ (Cert.Kernel18Ideal.Gen.arr6 m c).symm
    rw [Cert.Kernel18Ideal.Gen.host_x, Cert.Kernel18Ideal.Gen.host_t, Cert.Kernel18Ideal.Gen.host_g,
      Cert.Reference18Ideal.Read.val_main_v53_eq, e0, e1, e2]
    exact Cert.Reference18Ideal.Read.loss_eq _ _ _

end Cert.Proof

end
-- ==== Proof.Step.Claims.lean ====
/- The claims about the row products of the even layers' attention's backward pass and about the optimiser's step on the
   small weights. -/
module

public import proofs.«01_k».proof.Defs
public import Idealize.ShloMosaic.Lib.Pointwise
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read

@[expose] public section

set_option maxRecDepth 16384

noncomputable section

/-! ## The row products -/

namespace Cert.Kernel19Ideal.Gen

open Idealize.ShloMosaic Idealize.ShloMosaic.TcCoe Idealize.SL.Sem Idealize.ShloMosaic.StableHlo
open Cert.Kernel19Ideal.Value

/-- Each head's rows' products of two arrays. -/
def rowDots (o d : (⟨3, ![8, 2048, 128]⟩ : Shape).Idx → EReal) : (⟨3, ![8, 2048, 1]⟩ : Shape).Idx → EReal :=
  fun i => ∑ k : Fin 128, o (ix3 (i 0) (i 1) k) * d (ix3 (i 0) (i 1) k)

theorem pay1_apply (x0 x1 : Vec Ideal S1x2048x128 .f32) (y : S1x2048x1.Idx) :
    k0_pay1 x0 x1 y = ∑ k : Fin 128, x0 (ix3 (0 : Fin 1) (y 1) k) * x1 (ix3 (0 : Fin 1) (y 1) k) := by
  pointwise [k0_pay1]

theorem block_apply (x0 x1 : Vec Ideal S1x2048x128 .f32) (y : S1x2048x1.Idx) :
    out0_2 (F := Ideal) x0 x1 y = ∑ k : Fin 128, x0 (ix3 (0 : Fin 1) (y 1) k) * x1 (ix3 (0 : Fin 1) (y 1) k) := by
  unfold out0_2
  rw [View.canon_unit_zero (by funext a; fin_cases a <;> rfl)]
  repeat rw [View.ld_unit_zero (by funext a; fin_cases a <;> rfl)]
  exact pay1_apply x0 x1 y

variable (m : (ℓ : Loc nD τ sig) → Buf (Elt Ideal) ℓ)

/-- Where the windows stand at a point. -/
theorem at0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem blk_o (c : Dev nD) (t : Fin cfg0.N) (A : Fin 8) (hA : A.val = t.val) (a : Fin 2048) (k : Fin 128) :
    iblk m c 0 t (ix3 (0 : Fin 1) a k) = V m c main_arg0 (ix3 A a k) := by
  obtain ⟨e0, e1, e2, -⟩ := at0 t
  refine congrArg (V m c main_arg0) ?_
  funext d; apply Fin.ext
  match d with
  | ⟨0, _⟩ => show win0_0.index t (0 : Fin 3) * 1 + 1 * 0 = A.val; omega
  | ⟨1, _⟩ => show win0_0.index t (1 : Fin 3) * 2048 + 1 * a.val = a.val; omega
  | ⟨2, _⟩ => show win0_0.index t (2 : Fin 3) * 128 + 1 * k.val = k.val; omega

theorem blk_d (c : Dev nD) (t : Fin cfg0.N) (A : Fin 8) (hA : A.val = t.val) (a : Fin 2048) (k : Fin 128) :
    iblk m c 1 t (ix3 (0 : Fin 1) a k) = V m c main_arg1 (ix3 A a k) := by
  obtain ⟨-, -, -, e0, e1, e2, -⟩ := at0 t
  refine congrArg (V m c main_arg1) ?_
  funext d; apply Fin.ext
  match d with
  | ⟨0, _⟩ => show win0_1.index t (0 : Fin 3) * 1 + 1 * 0 = A.val; omega
  | ⟨1, _⟩ => show win0_1.index t (1 : Fin 3) * 2048 + 1 * a.val = a.val; omega
  | ⟨2, _⟩ => show win0_1.index t (2 : Fin 3) * 128 + 1 * k.val = k.val; omega

theorem arr (c : Dev nD) : (dats m 0 c).arrAt 2 cfg0.N = rowDots (V m c main_arg0) (V m c main_arg1) := by
  have hN : cfg0.N = 8 := N_0
  refine (dats m 0 c).arrAt_eq_of_cover 2 _ (fun t _ => ?_) (fun i => ?_)
  · rw [flushed2]
    funext y
    obtain ⟨-, -, -, -, -, -, e0, e1, e2⟩ := at0 t
    have htN := t.isLt
    have hy0 : (y 0).val < 1 := (y 0).isLt
    have hy2 : (y 2).val < 1 := (y 2).isLt
    let A : Fin 8 := ⟨t.val, by omega⟩
    have he : ((cfg0.win 2).blk t).view.emb y = ix3 A (y 1) (0 : Fin 1) := by
      funext d; apply Fin.ext
      match d with
      | ⟨0, _⟩ => show win0_2.index t (0 : Fin 3) * 1 + 1 * (y 0).val = t.val; omega
      | ⟨1, _⟩ => show win0_2.index t (1 : Fin 3) * 2048 + 1 * (y 1).val = (y 1).val; omega
      | ⟨2, _⟩ => show win0_2.index t (2 : Fin 3) * 1 + 1 * (y 2).val = 0; omega
    show out0_2 (iblk m c 0 t) (iblk m c 1 t) y = rowDots (V m c main_arg0) (V m c main_arg1) (((cfg0.win 2).blk t).view.emb y)
    rw [block_apply, he]
    exact Finset.sum_congr rfl fun k _ => congrArg₂ (fun a b : EReal => a * b) (blk_o m c t A rfl (y 1) k) (blk_d m c t A rfl (y 1) k)
  · have hi0 : (i 0).val < 8 := (i 0).isLt
    have hi1 : (i 1).val < 2048 := (i 1).isLt
    have hi2 : (i 2).val < 1 := (i 2).isLt
    let t : Fin cfg0.N := ⟨(i 0).val, lt_of_lt_of_eq hi0 (show 8 = cfg0.N from N_0.symm)⟩
    obtain ⟨-, -, -, -, -, -, e0, e1, e2⟩ := at0 t
    have ht : t.val = (i 0).val := rfl
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 2048 ≤ (i 1).val ∧ (i 1).val < win0_2.index t (1 : Fin 3) * 2048 + 2048; omega
    | ⟨2, _⟩ => show win0_2.index t (2 : Fin 3) * 1 ≤ (i 2).val ∧ (i 2).val < win0_2.index t (2 : Fin 3) * 1 + 1; omega

end Cert.Kernel19Ideal.Gen

namespace Cert.Reference19Ideal.Read

open Idealize.ShloMosaic

theorem dots_eq (x0 x1 : (⟨3, ![8, 2048, 128]⟩ : Shape).Idx → EReal) :
    val_main_v2 (F := Ideal) x0 x1 = Cert.Kernel19Ideal.Gen.rowDots x0 x1 := by
  funext i
  rw [val_main_v2_apply, val_main_v1_apply]
  refine (congrArg (· + _) Ideal.ofBits_zero_f32).trans ((zero_add _).trans (Finset.sum_congr rfl fun k _ => ?_))
  rw [val_main_v0_apply]
  refine congrArg (fun j => x0 j * x1 j) ?_
  funext d
  match d with
  | ⟨0, _⟩ => rfl
  | ⟨1, _⟩ => rfl
  | ⟨2, _⟩ => rfl

end Cert.Reference19Ideal.Read

namespace Cert.Proof

open Idealize.ShloMosaic Idealize.ShloMosaic.TcCoe Idealize.SL.Sem

theorem frame_r19 : Cert.quiescent_Reference19Ideal := fun m ρ _ =>
  (θ_run Cert.Reference19Ideal.defs _ _).mono (fun r h => ⟨fun c => (h c).2, Idealize.ShloMosaic.sem_eq_zero_of_no_sems (by decide) r.2⟩)
    (Cert.Reference19Ideal.Value.run (F := Ideal) m ρ)

theorem algebraic19 : Cert.algebraic_Kernel19Ideal_Reference19Ideal := by
  intro m ρ m' ρ' _ harg
  refine ⟨fun c => (Cert.Kernel19Ideal.Gen.dats m 0 c).arrAt 2 Cert.Kernel19Ideal.cfg0.N,
    Cert.Kernel19Ideal.Value.run_blocks (F := Ideal) m ρ,
    (θ_run Cert.Reference19Ideal.defs _ _).mono (fun r h c => ?_) (Cert.Reference19Ideal.Value.run (F := Ideal) m' ρ')⟩
  obtain ⟨e0, e1⟩ := harg c
  obtain ⟨h0, h1⟩ := h c
  refine ⟨(h0.trans ?_).trans (Cert.Kernel19Ideal.Gen.arr m c).symm, h1⟩
  rw [Cert.Reference19Ideal.Read.val_main_v2_eq, e0, e1, Cert.Kernel19Ideal.Gen.V_main_arg0, Cert.Kernel19Ideal.Gen.V_main_arg1]
  exact Cert.Reference19Ideal.Read.dots_eq _ _

/-! ## The optimiser's step on the small weights -/

theorem frame_r20 : Cert.quiescent_Reference20Ideal := fun m ρ _ =>
  (θ_run Cert.Reference20Ideal.defs _ _).mono (fun r h => ⟨fun c => (h c).2.2.2, Idealize.ShloMosaic.sem_eq_zero_of_no_sems (by decide) r.2⟩)
    (Cert.Reference20Ideal.Value.run (F := Ideal) m ρ)

theorem delta_eq (x0 x1 x2 x3 : Vec Ideal Cert.Kernel20Ideal.S176x128 .f32) :
    Cert.Reference20Ideal.Read.val_main_v23 (F := Ideal) x0 x1 x2 x3 = Cert.Kernel20Ideal.Value.G4 x0 x1 x2 x3 := by
  funext i
  rfl

theorem m_eq (x1 x2 : Vec Ideal Cert.Kernel20Ideal.S176x128 .f32) :
    Cert.Reference20Ideal.Read.val_main_v4 (F := Ideal) x1 x2 = Cert.Kernel20Ideal.Value.G5 x1 x2 := by
  funext i
  rfl

theorem v_eq (x1 x3 : Vec Ideal Cert.Kernel20Ideal.S176x128 .f32) :
    Cert.Reference20Ideal.Read.val_main_v10 (F := Ideal) x1 x3 = Cert.Kernel20Ideal.Value.G6 x1 x3 := by
  funext i
  rfl

theorem algebraic20 : Cert.algebraic_Kernel20Ideal_Reference20Ideal := by
  intro m ρ m' ρ' _ harg
  refine ⟨_, _, _, Cert.Kernel20Ideal.Value.run (F := Ideal) m ρ,
    (θ_run Cert.Reference20Ideal.defs _ _).mono (fun r h c => ?_) (Cert.Reference20Ideal.Value.run (F := Ideal) m' ρ')⟩
  obtain ⟨e0, e1, e2, e3⟩ := harg c
  obtain ⟨h0, h1, h2, h3⟩ := h c
  refine ⟨h0.trans ?_, h1.trans ?_, h2.trans ?_, h3⟩
  · rw [Cert.Reference20Ideal.Read.val_main_v23_eq, e0, e1, e2, e3]
    exact delta_eq _ _ _ _
  · rw [Cert.Reference20Ideal.Read.val_main_v4_eq, e1, e2]
    exact m_eq _ _
  · rw [Cert.Reference20Ideal.Read.val_main_v10_eq, e1, e3]
    exact v_eq _ _

end Cert.Proof

end
-- ==== Proof.Merge.Arr.lean ====
/- The merge of the even layers' attention's three branches: what each block holds, and the two arrays put together. -/
module

public import proofs.«01_k».proof.Defs
public import Idealize.ShloMosaic.Lib.Pointwise
public import proofs.«01_k».proof.Proof.Gen.Kernel21Ideal
public import proofs.«01_k».proof.Proof.Gen.Kernel21Ideal.Value

@[expose] public section

set_option maxRecDepth 16384

noncomputable section

namespace Cert.Merge

open Idealize.ShloMosaic

/-- The largest of three. -/
def top (a b c : EReal) : EReal := max (max a b) c

/-- Three numbers weighed by the exponentials of three others' distances from their largest. -/
def mix (a b c x y z : EReal) : EReal :=
  Ideal.exp (a - top a b c) * x + Ideal.exp (b - top a b c) * y + Ideal.exp (c - top a b c) * z

/-- The merged output, from the three branches' sums, maxima and totals. -/
def merged (n0 n1 n2 : (⟨3, ![8, 2048, 128]⟩ : Shape).Idx → EReal) (m0 m1 m2 l0 l1 l2 : (⟨3, ![8, 2048, 1]⟩ : Shape).Idx → EReal) :
    (⟨3, ![8, 2048, 128]⟩ : Shape).Idx → EReal := fun i =>
  let r : (⟨3, ![8, 2048, 1]⟩ : Shape).Idx := ix3 (i 0) (i 1) (0 : Fin 1)
  Ideal.div (mix (m0 r) (m1 r) (m2 r) (n0 (ix3 (i 0) (i 1) (i 2))) (n1 (ix3 (i 0) (i 1) (i 2))) (n2 (ix3 (i 0) (i 1) (i 2))))
    (mix (m0 r) (m1 r) (m2 r) (l0 r) (l1 r) (l2 r))

/-- The merged rows' log-sums. -/
def logs (m0 m1 m2 l0 l1 l2 : (⟨3, ![8, 2048, 1]⟩ : Shape).Idx → EReal) : (⟨3, ![8, 2048, 1]⟩ : Shape).Idx → EReal := fun i =>
  let r : (⟨3, ![8, 2048, 1]⟩ : Shape).Idx := ix3 (i 0) (i 1) (0 : Fin 1)
  top (m0 r) (m1 r) (m2 r) + Ideal.log (mix (m0 r) (m1 r) (m2 r) (l0 r) (l1 r) (l2 r))

theorem div_congr {a b c d : EReal} (h : a = b) (k : c = d) : Ideal.div a c = Ideal.div b d := by rw [h, k]

theorem mix_zero (a b c x y z : EReal) :
    Ideal.ofBits .f32 0x00000000#32 + Ideal.exp (a - top a b c) * x + Ideal.exp (b - top a b c) * y + Ideal.exp (c - top a b c) * z = mix a b c x y z := by
  rw [Ideal.ofBits_zero_f32, zero_add]
  rfl

end Cert.Merge

namespace Cert.Kernel21Ideal.Gen

open Idealize.ShloMosaic Idealize.ShloMosaic.TcCoe Idealize.SL.Sem Idealize.ShloMosaic.StableHlo
open Cert.Kernel21Ideal.Value Cert.Merge

theorem out9_apply (x0 x1 x2 : Vec Ideal S1x2048x128 .f32) (x3 x4 x5 x6 x7 x8 : Vec Ideal S1x2048x1 .f32) (a : Fin 2048) (k : Fin 128) :
    out0_9 (F := Ideal) x0 x1 x2 x3 x4 x5 x6 x7 x8 (ix3 (0 : Fin 1) a k)
      = Ideal.div (mix (x3 (ix3 (0 : Fin 1) a (0 : Fin 1))) (x4 (ix3 (0 : Fin 1) a (0 : Fin 1))) (x5 (ix3 (0 : Fin 1) a (0 : Fin 1)))
            (x0 (ix3 (0 : Fin 1) a k)) (x1 (ix3 (0 : Fin 1) a k)) (x2 (ix3 (0 : Fin 1) a k)))
          (mix (x3 (ix3 (0 : Fin 1) a (0 : Fin 1))) (x4 (ix3 (0 : Fin 1) a (0 : Fin 1))) (x5 (ix3 (0 : Fin 1) a (0 : Fin 1)))
            (x6 (ix3 (0 : Fin 1) a (0 : Fin 1))) (x7 (ix3 (0 : Fin 1) a (0 : Fin 1))) (x8 (ix3 (0 : Fin 1) a (0 : Fin 1)))) := by
  have er : ix9_0 (ix3 (0 : Fin 1) a k) = ix3 (0 : Fin 1) a (0 : Fin 1) := by
    funext d; match d with
    | ⟨0, _⟩ => rfl
    | ⟨1, _⟩ => rfl
    | ⟨2, _⟩ => rfl
  have ec : ix9_4 (ix3 (0 : Fin 1) a k) = ix3 (0 : Fin 1) a k := by
    funext d; match d with
    | ⟨0, _⟩ => rfl
    | ⟨1, _⟩ => rfl
    | ⟨2, _⟩ => rfl
  unfold out0_9 k0_pay10 k0_pay11 k0_pay12
  repeat rw [View.ld_unit_zero (by funext a; fin_cases a <;> rfl)]
  refine (canon9_eq x3 x4 x5 x0 x1 x2 x6 x7 x8 _).trans ?_
  rw [← er, ← ec]
  exact div_congr (mix_zero _ _ _ _ _ _) (mix_zero _ _ _ _ _ _)

theorem out10_apply (x0 x1 x2 : Vec Ideal S1x2048x128 .f32) (x3 x4 x5 x6 x7 x8 : Vec Ideal S1x2048x1 .f32) (a : Fin 2048) :
    out0_10 (F := Ideal) x0 x1 x2 x3 x4 x5 x6 x7 x8 (ix3 (0 : Fin 1) a (0 : Fin 1))
      = top (x3 (ix3 (0 : Fin 1) a (0 : Fin 1))) (x4 (ix3 (0 : Fin 1) a (0 : Fin 1))) (x5 (ix3 (0 : Fin 1) a (0 : Fin 1)))
        + Ideal.log (mix (x3 (ix3 (0 : Fin 1) a (0 : Fin 1))) (x4 (ix3 (0 : Fin 1) a (0 : Fin 1))) (x5 (ix3 (0 : Fin 1) a (0 : Fin 1)))
            (x6 (ix3 (0 : Fin 1) a (0 : Fin 1))) (x7 (ix3 (0 : Fin 1) a (0 : Fin 1))) (x8 (ix3 (0 : Fin 1) a (0 : Fin 1)))) := by
  have er : ix10_0 (ix3 (0 : Fin 1) a (0 : Fin 1)) = ix3 (0 : Fin 1) a (0 : Fin 1) := by
    funext d; match d with
    | ⟨0, _⟩ => rfl
    | ⟨1, _⟩ => rfl
    | ⟨2, _⟩ => rfl
  unfold out0_10 k0_pay10 k0_pay11 k0_pay12
  repeat rw [View.ld_unit_zero (by funext a; fin_cases a <;> rfl)]
  refine (canon10_eq x3 x4 x5 x6 x7 x8 _).trans ?_
  refine Eq.trans ?_ (congrArg (fun r : S1x2048x1.Idx => top (x3 r) (x4 r) (x5 r) + Ideal.log (mix (x3 r) (x4 r) (x5 r) (x6 r) (x7 r) (x8 r))) er)
  exact congrArg (fun z : EReal => top (x3 (ix10_0 (ix3 (0 : Fin 1) a (0 : Fin 1)))) (x4 (ix10_0 (ix3 (0 : Fin 1) a (0 : Fin 1)))) (x5 (ix10_0 (ix3 (0 : Fin 1) a (0 : Fin 1)))) + Ideal.log z) (mix_zero _ _ _ _ _ _)

variable (m : (ℓ : Loc nD τ sig) → Buf (Elt Ideal) ℓ)

/-- Where a grid point's blocks lie: all eleven windows move alike. -/
theorem place : ∀ t : Fin cfg0.N, win0_0.index t (0 : Fin 3) = t.val ∧ win0_0.index t (1 : Fin 3) = 0 ∧ win0_0.index t (2 : Fin 3) = 0 :=
  (by decide +kernel : ∀ t : Fin grid0.N, _)

/-- An entry of a wide block, as an entry of its array. -/
theorem emb_big (t : Fin cfg0.N) (A : Fin 8) (hA : A.val = t.val) (a : Fin 2048) (k : Fin 128) :
    ((cfg0.win 0).blk t).view.emb (ix3 (0 : Fin 1) a k) = ix3 A a k := by
  obtain ⟨e0, e1, e2⟩ := place t
  funext d; apply Fin.ext
  match d with
  | ⟨0, _⟩ => show win0_0.index t (0 : Fin 3) * 1 + 1 * 0 = A.val; omega
  | ⟨1, _⟩ => show win0_0.index t (1 : Fin 3) * 2048 + 1 * a.val = a.val; omega
  | ⟨2, _⟩ => show win0_0.index t (2 : Fin 3) * 128 + 1 * k.val = k.val; omega

/-- An entry of a narrow block, as an entry of its array. -/
theorem emb_col (t : Fin cfg0.N) (A : Fin 8) (hA : A.val = t.val) (a : Fin 2048) (k : Fin 1) :
    ((cfg0.win 3).blk t).view.emb (ix3 (0 : Fin 1) a k) = ix3 A a k := by
  obtain ⟨e0, e1, e2⟩ := place t
  funext d; apply Fin.ext
  match d with
  | ⟨0, _⟩ => show win0_0.index t (0 : Fin 3) * 1 + 1 * 0 = A.val; omega
  | ⟨1, _⟩ => show win0_0.index t (1 : Fin 3) * 2048 + 1 * a.val = a.val; omega
  | ⟨2, _⟩ => show win0_0.index t (2 : Fin 3) * 1 + 1 * k.val = k.val; omega

/-- The three wide blocks a grid point reads. -/
theorem bigs (c : Dev nD) (t : Fin cfg0.N) (A : Fin 8) (hA : A.val = t.val) (a : Fin 2048) (k : Fin 128) :
    iblk m c 0 t (ix3 (0 : Fin 1) a k) = V m c main_arg0 (ix3 A a k) ∧
    iblk m c 1 t (ix3 (0 : Fin 1) a k) = V m c main_arg1 (ix3 A a k) ∧
    iblk m c 2 t (ix3 (0 : Fin 1) a k) = V m c main_arg2 (ix3 A a k) :=
  have e := emb_big t A hA a k
  ⟨congrArg (V m c main_arg0) e, congrArg (V m c main_arg1) e, congrArg (V m c main_arg2) e⟩

/-- The six narrow blocks a grid point reads. -/
theorem cols (c : Dev nD) (t : Fin cfg0.N) (A : Fin 8) (hA : A.val = t.val) (a : Fin 2048) (k : Fin 1) :
    iblk m c 3 t (ix3 (0 : Fin 1) a k) = V m c main_arg3 (ix3 A a k) ∧
    iblk m c 4 t (ix3 (0 : Fin 1) a k) = V m c main_arg4 (ix3 A a k) ∧
    iblk m c 5 t (ix3 (0 : Fin 1) a k) = V m c main_arg5 (ix3 A a k) ∧
    iblk m c 6 t (ix3 (0 : Fin 1) a k) = V m c main_arg6 (ix3 A a k) ∧
    iblk m c 7 t (ix3 (0 : Fin 1) a k) = V m c main_arg7 (ix3 A a k) ∧
    iblk m c 8 t (ix3 (0 : Fin 1) a k) = V m c main_arg8 (ix3 A a k) :=
  have e := emb_col t A hA a k
  ⟨congrArg (V m c main_arg3) e, congrArg (V m c main_arg4) e, congrArg (V m c main_arg5) e, congrArg (V m c main_arg6) e, congrArg (V m c main_arg7) e, congrArg (V m c main_arg8) e⟩

theorem block9 (c : Dev nD) (t : Fin cfg0.N) (A : Fin 8) (hA : A.val = t.val) (a : Fin 2048) (k : Fin 128) :
    out0_9 (F := Ideal) (iblk m c 0 t) (iblk m c 1 t) (iblk m c 2 t) (iblk m c 3 t) (iblk m c 4 t) (iblk m c 5 t) (iblk m c 6 t) (iblk m c 7 t) (iblk m c 8 t) (ix3 (0 : Fin 1) a k) = merged (V m c main_arg0) (V m c main_arg1) (V m c main_arg2) (V m c main_arg3) (V m c main_arg4) (V m c main_arg5) (V m c main_arg6) (V m c main_arg7) (V m c main_arg8) (ix3 A a k) := by
  refine (out9_apply _ _ _ _ _ _ _ _ _ a k).trans ?_
  obtain ⟨e0, e1, e2⟩ := bigs m c t A hA a k
  obtain ⟨e3, e4, e5, e6, e7, e8⟩ := cols m c t A hA a 0
  rw [e0, e1, e2, e3, e4, e5, e6, e7, e8]
  rfl

theorem arr9 (c : Dev nD) : (dats m 0 c).arrAt 9 cfg0.N = merged (V m c main_arg0) (V m c main_arg1) (V m c main_arg2) (V m c main_arg3) (V m c main_arg4) (V m c main_arg5) (V m c main_arg6) (V m c main_arg7) (V m c main_arg8) := by
  have hN : cfg0.N = 8 := N_0
  refine (dats m 0 c).arrAt_eq_of_cover 9 _ (fun t _ => ?_) (fun i => ?_)
  · rw [flushed9]
    funext y
    have hy0 : (y 0).val < 1 := (y 0).isLt
    let A : Fin 8 := ⟨t.val, lt_of_lt_of_eq t.isLt hN⟩
    have hy : y = ix3 (0 : Fin 1) (y 1) (y 2) := by
      funext d; match d with
      | ⟨0, _⟩ => exact Fin.ext (show (y 0).val = 0 by omega)
      | ⟨1, _⟩ => rfl
      | ⟨2, _⟩ => rfl
    obtain ⟨a, ha⟩ : ∃ a : Fin 2048, a = y 1 := ⟨_, rfl⟩
    obtain ⟨k, hk⟩ : ∃ k : Fin 128, k = y 2 := ⟨_, rfl⟩
    rw [← ha, ← hk] at hy
    have he : ((cfg0.win 9).blk t).view.emb (ix3 (0 : Fin 1) a k) = ix3 A a k := emb_big t A rfl a k
    exact (congrArg (out0_9 (F := Ideal) (iblk m c 0 t) (iblk m c 1 t) (iblk m c 2 t) (iblk m c 3 t) (iblk m c 4 t) (iblk m c 5 t) (iblk m c 6 t) (iblk m c 7 t) (iblk m c 8 t)) hy).trans ((block9 m c t A rfl a k).trans
      (congrArg (merged (V m c main_arg0) (V m c main_arg1) (V m c main_arg2) (V m c main_arg3) (V m c main_arg4) (V m c main_arg5) (V m c main_arg6) (V m c main_arg7) (V m c main_arg8)) ((congrArg ((cfg0.win 9).blk t).view.emb hy).trans he)).symm)
  · have hi0 : (i 0).val < 8 := (i 0).isLt
    have hi1 : (i 1).val < 2048 := (i 1).isLt
    have hi2 : (i 2).val < 128 := (i 2).isLt
    let t : Fin cfg0.N := ⟨(i 0).val, lt_of_lt_of_eq hi0 (show 8 = cfg0.N from N_0.symm)⟩
    obtain ⟨e0, e1, e2⟩ := place t
    have ht : t.val = (i 0).val := rfl
    refine ⟨t, flush0_9 t, ?_⟩
    show i ∈ ((View.whole main_v0_0).slice (win0_9.rect t)).set
    rw [View.set_slice_whole, Rect.mem_set_unit]
    intro a
    match a with
    | ⟨0, _⟩ => show win0_0.index t (0 : Fin 3) * 1 ≤ (i 0).val ∧ (i 0).val < win0_0.index t (0 : Fin 3) * 1 + 1; omega
    | ⟨1, _⟩ => show win0_0.index t (1 : Fin 3) * 2048 ≤ (i 1).val ∧ (i 1).val < win0_0.index t (1 : Fin 3) * 2048 + 2048; omega
    | ⟨2, _⟩ => show win0_0.index t (2 : Fin 3) * 128 ≤ (i 2).val ∧ (i 2).val < win0_0.index t (2 : Fin 3) * 128 + 128; omega

theorem block10 (c : Dev nD) (t : Fin cfg0.N) (A : Fin 8) (hA : A.val = t.val) (a : Fin 2048) :
    out0_10 (F := Ideal) (iblk m c 0 t) (iblk m c 1 t) (iblk m c 2 t) (iblk m c 3 t) (iblk m c 4 t) (iblk m c 5 t) (iblk m c 6 t) (iblk m c 7 t) (iblk m c 8 t) (ix3 (0 : Fin 1) a (0 : Fin 1)) = logs (V m c main_arg3) (V m c main_arg4) (V m c main_arg5) (V m c main_arg6) (V m c main_arg7) (V m c main_arg8) (ix3 A a (0 : Fin 1)) := by
  refine (out10_apply _ _ _ _ _ _ _ _ _ a).trans ?_
  obtain ⟨e3, e4, e5, e6, e7, e8⟩ := cols m c t A hA a 0
  rw [e3, e4, e5, e6, e7, e8]
  rfl

theorem arr10 (c : Dev nD) : (dats m 0 c).arrAt 10 cfg0.N = logs (V m c main_arg3) (V m c main_arg4) (V m c main_arg5) (V m c main_arg6) (V m c main_arg7) (V m c main_arg8) := by
  have hN : cfg0.N = 8 := N_0
  refine (dats m 0 c).arrAt_eq_of_cover 10 _ (fun t _ => ?_) (fun i => ?_)
  · rw [flushed10]
    funext y
    have hy0 : (y 0).val < 1 := (y 0).isLt
    let A : Fin 8 := ⟨t.val, lt_of_lt_of_eq t.isLt hN⟩
    have hy2 : (y 2).val < 1 := (y 2).isLt
    have hy : y = ix3 (0 : Fin 1) (y 1) (0 : Fin 1) := by
      funext d; match d with
      | ⟨0, _⟩ => exact Fin.ext (show (y 0).val = 0 by omega)
      | ⟨1, _⟩ => rfl
      | ⟨2, _⟩ => exact Fin.ext (show (y 2).val = 0 by omega)
    obtain ⟨a, ha⟩ : ∃ a : Fin 2048, a = y 1 := ⟨_, rfl⟩
    rw [← ha] at hy
    have he : ((cfg0.win 10).blk t).view.emb (ix3 (0 : Fin 1) a (0 : Fin 1)) = ix3 A a (0 : Fin 1) := emb_col t A rfl a 0
    exact (congrArg (out0_10 (F := Ideal) (iblk m c 0 t) (iblk m c 1 t) (iblk m c 2 t) (iblk m c 3 t) (iblk m c 4 t) (iblk m c 5 t) (iblk m c 6 t) (iblk m c 7 t) (iblk m c 8 t)) hy).trans ((block10 m c t A rfl a).trans
      (congrArg (logs (V m c main_arg3) (V m c main_arg4) (V m c main_arg5) (V m c main_arg6) (V m c main_arg7) (V m c main_arg8)) ((congrArg ((cfg0.win 10).blk t).view.emb hy).trans he)).symm)
  · have hi0 : (i 0).val < 8 := (i 0).isLt
    have hi1 : (i 1).val < 2048 := (i 1).isLt
    have hi2 : (i 2).val < 1 := (i 2).isLt
    let t : Fin cfg0.N := ⟨(i 0).val, lt_of_lt_of_eq hi0 (show 8 = cfg0.N from N_0.symm)⟩
    obtain ⟨e0, e1, e2⟩ := place t
    have ht : t.val = (i 0).val := rfl
    refine ⟨t, flush0_10 t, ?_⟩
    show i ∈ ((View.whole main_v0_1).slice (win0_10.rect t)).set
    rw [View.set_slice_whole, Rect.mem_set_unit]
    intro a
    match a with
    | ⟨0, _⟩ => show win0_0.index t (0 : Fin 3) * 1 ≤ (i 0).val ∧ (i 0).val < win0_0.index t (0 : Fin 3) * 1 + 1; omega
    | ⟨1, _⟩ => show win0_0.index t (1 : Fin 3) * 2048 ≤ (i 1).val ∧ (i 1).val < win0_0.index t (1 : Fin 3) * 2048 + 2048; omega
    | ⟨2, _⟩ => show win0_0.index t (2 : Fin 3) * 1 ≤ (i 2).val ∧ (i 2).val < win0_0.index t (2 : Fin 3) * 1 + 1; omega

end Cert.Kernel21Ideal.Gen

end
-- ==== Proof.Merge.Claims.lean ====
/- The merge of the three branches: the reference's two arrays, and the claims. -/
module

public import proofs.«01_k».proof.Defs
public import Idealize.ShloMosaic.Lib.KernelVsHost
public import Idealize.ShloMosaic.Lib.Pipeline.ValueKit.Tiles
public import proofs.«01_k».proof.Proof.Merge.Arr
public import proofs.«01_k».proof.Proof.Gen.Reference21Ideal
public import proofs.«01_k».proof.Proof.Gen.Reference21Ideal.Run
public import proofs.«01_k».proof.Proof.Gen.Reference21Ideal.Read

@[expose] public section

set_option maxRecDepth 16384

noncomputable section

namespace Cert.Reference21Ideal.Read

open Idealize.ShloMosaic Cert.Merge

theorem at_col (i : S1x8x2048x1.Idx) (a : Fin 8) (b : Fin 2048) (h1 : (i 1).val = a.val) (h2 : (i 2).val = b.val) :
    i = ix4 (0 : Fin 1) a b (0 : Fin 1) := by
  have h0 : (i 0).val < 1 := (i 0).isLt
  have h3 : (i 3).val < 1 := (i 3).isLt
  funext d; apply Fin.ext
  match d with
  | ⟨0, _⟩ => show (i 0).val = 0; omega
  | ⟨1, _⟩ => exact h1
  | ⟨2, _⟩ => exact h2
  | ⟨3, _⟩ => show (i 3).val = 0; omega

theorem at_big (i : S1x8x2048x128.Idx) (a : Fin 8) (b : Fin 2048) (c : Fin 128) (h1 : (i 1).val = a.val) (h2 : (i 2).val = b.val)
    (h3 : (i 3).val = c.val) : i = ix4 (0 : Fin 1) a b c := by
  have h0 : (i 0).val < 1 := (i 0).isLt
  funext d; apply Fin.ext
  match d with
  | ⟨0, _⟩ => show (i 0).val = 0; omega
  | ⟨1, _⟩ => exact h1
  | ⟨2, _⟩ => exact h2
  | ⟨3, _⟩ => exact h3

/-- Three arrays stacked, read in the stack. -/
theorem cat_col (p0 p1 p2 : S1x8x2048x1.Idx → EReal) (h : Shape.Concatenates [S1x8x2048x1, S1x8x2048x1, S1x8x2048x1] S3x8x2048x1 0) (k : Fin 3) (a : Fin 8) (b : Fin 2048) :
    concatenate S3x8x2048x1 0 [⟨S1x8x2048x1, p0⟩, ⟨S1x8x2048x1, p1⟩, ⟨S1x8x2048x1, p2⟩] h (ix4 k a b (0 : Fin 1))
      = (![p0, p1, p2] k) (ix4 (0 : Fin 1) a b (0 : Fin 1)) := by
  refine concatenate_unit_eq (t := S3x8x2048x1) 0 [⟨S1x8x2048x1, p0⟩, ⟨S1x8x2048x1, p1⟩, ⟨S1x8x2048x1, p2⟩] h _ _ rfl ⟨?_, ?_, ?_, trivial⟩
  all_goals
    intro e hr i h0 hb
    have e' : i = ix4 (0 : Fin 1) a b (0 : Fin 1) := at_col i a b (hb 1 (by decide)) (hb 2 (by decide))
    rw [e']
  · have ek : k = 0 := Fin.ext e
    rw [ek]; rfl
  · have ek : k = 1 := Fin.ext e
    rw [ek]; rfl
  · have ek : k = 2 := Fin.ext e
    rw [ek]; rfl

/-- Three arrays stacked, read in the stack. -/
theorem cat_big (p0 p1 p2 : S1x8x2048x128.Idx → EReal) (h : Shape.Concatenates [S1x8x2048x128, S1x8x2048x128, S1x8x2048x128] S3x8x2048x128 0) (k : Fin 3) (a : Fin 8) (b : Fin 2048) (c : Fin 128) :
    concatenate S3x8x2048x128 0 [⟨S1x8x2048x128, p0⟩, ⟨S1x8x2048x128, p1⟩, ⟨S1x8x2048x128, p2⟩] h (ix4 k a b c)
      = (![p0, p1, p2] k) (ix4 (0 : Fin 1) a b c) := by
  refine concatenate_unit_eq (t := S3x8x2048x128) 0 [⟨S1x8x2048x128, p0⟩, ⟨S1x8x2048x128, p1⟩, ⟨S1x8x2048x128, p2⟩] h _ _ rfl ⟨?_, ?_, ?_, trivial⟩
  all_goals
    intro e hr i h0 hb
    have e' : i = ix4 (0 : Fin 1) a b c := at_big i a b c (hb 1 (by decide)) (hb 2 (by decide)) (hb 3 (by decide))
    rw [e']
  · have ek : k = 0 := Fin.ext e
    rw [ek]; rfl
  · have ek : k = 1 := Fin.ext e
    rw [ek]; rfl
  · have ek : k = 2 := Fin.ext e
    rw [ek]; rfl

/-- The maximum along the first axis of three. -/
theorem fold_first (X : FVec Ideal S3x8x2048x1 .f32) (hr : S3x8x2048x1.Reduces [0] S8x2048x1) (a : Fin 8) (b : Fin 2048) :
    Host.reduce FloatOps.maximumf X (constant (F := Ideal) S_ .f32 0xFF800000#32)
      Gen.reducesTo_S3x8x2048x1_S8x2048x1_d0 Gen.h_S_ (ix3 a b (0 : Fin 1))
      = top (X (ix4 (0 : Fin 3) a b (0 : Fin 1))) (X (ix4 (1 : Fin 3) a b (0 : Fin 1))) (X (ix4 (2 : Fin 3) a b (0 : Fin 1))) := by
  rw [hostReduce_maximumf_eq_multiReduction X (0xFF800000#32 : BitVec (FTy.bits .f32)) _ _ hr (.inl rfl) rfl]
  refine (Ideal.multiReduction_maximumf_single X _ hr _ _ _).trans ?_
  have eb : Ideal.ofBits FTy.f32 0xFF800000#32 = ⊥ := by simp [Ideal.ofBits, Ideal.ieee]
  have ef : ∀ f : Fin 3 → EReal, (Finset.univ : Finset (Fin 3)).fold max ⊥ f = top (f 0) (f 1) (f 2) := by
    intro f
    have e : (Finset.univ : Finset (Fin 3)) = insert 0 (insert 1 {2}) := by decide
    rw [e, Finset.fold_insert (by decide), Finset.fold_insert (by decide), Finset.fold_singleton, max_bot_right]
    exact (max_assoc _ _ _).symm
  refine Eq.trans (congrArg (fun f => (Finset.univ : Finset (Fin 3)).fold max (Ideal.ofBits .f32 0xFF800000#32) f)
    (a₂ := fun k : Fin 3 => X (ix4 k a b (0 : Fin 1))) (funext fun k => ?_)) ?_
  · refine congrArg X ?_
    funext d; apply Fin.ext
    match d with
    | ⟨0, _⟩ => rfl
    | ⟨1, _⟩ => rfl
    | ⟨2, _⟩ => rfl
    | ⟨3, _⟩ => rfl
  · rw [eb]; exact ef _

variable (x0 x1 x2 : S8x2048x128.Idx → EReal) (x3 x4 x5 x6 x7 x8 : S8x2048x1.Idx → EReal)

theorem col_idx (a : Fin 8) (b : Fin 2048) : idx_main_v0 (ix4 (0 : Fin 1) a b (0 : Fin 1)) = ix3 a b (0 : Fin 1) := by
  funext d; match d with
  | ⟨0, _⟩ => rfl
  | ⟨1, _⟩ => rfl
  | ⟨2, _⟩ => rfl

theorem big_idx (a : Fin 8) (b : Fin 2048) (c : Fin 128) : idx_main_v9 (ix4 (0 : Fin 1) a b c) = ix3 a b c := by
  funext d; match d with
  | ⟨0, _⟩ => rfl
  | ⟨1, _⟩ => rfl
  | ⟨2, _⟩ => rfl

theorem r3 (k : Fin 3) (a : Fin 8) (b : Fin 2048) :
    val_main_v3 (F := Ideal) x3 x4 x5 (ix4 k a b (0 : Fin 1)) = (![x3, x4, x5] k) (ix3 a b (0 : Fin 1)) := by
  unfold val_main_v3
  refine (cat_col _ _ _ _ k a b).trans ?_
  match k with
  | ⟨0, _⟩ => exact (val_main_v0_apply (F := Ideal) x3 (ix4 (0 : Fin 1) a b (0 : Fin 1))).trans (congrArg x3 (col_idx a b))
  | ⟨1, _⟩ => exact (val_main_v1_apply (F := Ideal) x4 (ix4 (0 : Fin 1) a b (0 : Fin 1))).trans (congrArg x4 (col_idx a b))
  | ⟨2, _⟩ => exact (val_main_v2_apply (F := Ideal) x5 (ix4 (0 : Fin 1) a b (0 : Fin 1))).trans (congrArg x5 (col_idx a b))

theorem r19 (k : Fin 3) (a : Fin 8) (b : Fin 2048) :
    val_main_v19 (F := Ideal) x6 x7 x8 (ix4 k a b (0 : Fin 1)) = (![x6, x7, x8] k) (ix3 a b (0 : Fin 1)) := by
  unfold val_main_v19
  refine (cat_col _ _ _ _ k a b).trans ?_
  match k with
  | ⟨0, _⟩ => exact (val_main_v16_apply (F := Ideal) x6 (ix4 (0 : Fin 1) a b (0 : Fin 1))).trans (congrArg x6 (col_idx a b))
  | ⟨1, _⟩ => exact (val_main_v17_apply (F := Ideal) x7 (ix4 (0 : Fin 1) a b (0 : Fin 1))).trans (congrArg x7 (col_idx a b))
  | ⟨2, _⟩ => exact (val_main_v18_apply (F := Ideal) x8 (ix4 (0 : Fin 1) a b (0 : Fin 1))).trans (congrArg x8 (col_idx a b))

theorem r12 (k : Fin 3) (a : Fin 8) (b : Fin 2048) (c : Fin 128) :
    val_main_v12 (F := Ideal) x0 x1 x2 (ix4 k a b c) = (![x0, x1, x2] k) (ix3 a b c) := by
  unfold val_main_v12
  refine (cat_big _ _ _ _ k a b c).trans ?_
  match k with
  | ⟨0, _⟩ => exact (val_main_v9_apply (F := Ideal) x0 (ix4 (0 : Fin 1) a b c)).trans (congrArg x0 (big_idx a b c))
  | ⟨1, _⟩ => exact (val_main_v10_apply (F := Ideal) x1 (ix4 (0 : Fin 1) a b c)).trans (congrArg x1 (big_idx a b c))
  | ⟨2, _⟩ => exact (val_main_v11_apply (F := Ideal) x2 (ix4 (0 : Fin 1) a b c)).trans (congrArg x2 (big_idx a b c))

/-- The largest of the three branches' maxima. -/
theorem r4 (a : Fin 8) (b : Fin 2048) : val_main_v4 (F := Ideal) x3 x4 x5 (ix3 a b (0 : Fin 1))
    = top (x3 (ix3 a b (0 : Fin 1))) (x4 (ix3 a b (0 : Fin 1))) (x5 (ix3 a b (0 : Fin 1))) := by
  refine (fold_first (val_main_v3 (F := Ideal) x3 x4 x5) (by decide) a b).trans ?_
  rw [r3, r3, r3]
  rfl

/-- A branch's weight. -/
theorem r8 (k : Fin 3) (a : Fin 8) (b : Fin 2048) : val_main_v8 (F := Ideal) x3 x4 x5 (ix4 k a b (0 : Fin 1))
    = Ideal.exp ((![x3, x4, x5] k) (ix3 a b (0 : Fin 1)) - top (x3 (ix3 a b (0 : Fin 1))) (x4 (ix3 a b (0 : Fin 1))) (x5 (ix3 a b (0 : Fin 1)))) := by
  rw [val_main_v8_apply, val_main_v7_apply, val_main_v6_apply, val_main_v5_apply, r3]
  refine congrArg (fun z : EReal => Ideal.exp ((![x3, x4, x5] k) (ix3 a b (0 : Fin 1)) - z)) (Eq.trans (congrArg _ ?_) (r4 x3 x4 x5 a b))
  funext d; match d with
  | ⟨0, _⟩ => rfl
  | ⟨1, _⟩ => rfl
  | ⟨2, _⟩ => rfl

theorem r21 (a : Fin 8) (b : Fin 2048) : val_main_v21 (F := Ideal) x3 x4 x5 x6 x7 x8 (ix3 a b (0 : Fin 1))
    = mix (x3 (ix3 a b (0 : Fin 1))) (x4 (ix3 a b (0 : Fin 1))) (x5 (ix3 a b (0 : Fin 1)))
        (x6 (ix3 a b (0 : Fin 1))) (x7 (ix3 a b (0 : Fin 1))) (x8 (ix3 a b (0 : Fin 1))) := by
  rw [val_main_v21_apply]
  refine (congrArg (· + _) Ideal.ofBits_zero_f32).trans ((zero_add _).trans ?_)
  have e : ∀ k : Fin 3, val_main_v20 (F := Ideal) x3 x4 x5 x6 x7 x8 (idx_main_v21 (ix3 a b (0 : Fin 1)) k)
      = Ideal.exp ((![x3, x4, x5] k) (ix3 a b (0 : Fin 1)) - top (x3 (ix3 a b (0 : Fin 1))) (x4 (ix3 a b (0 : Fin 1))) (x5 (ix3 a b (0 : Fin 1))))
        * (![x6, x7, x8] k) (ix3 a b (0 : Fin 1)) := by
    intro k
    have ei : idx_main_v21 (ix3 a b (0 : Fin 1)) k = ix4 k a b (0 : Fin 1) := by
      funext d; match d with
      | ⟨0, _⟩ => rfl
      | ⟨1, _⟩ => rfl
      | ⟨2, _⟩ => rfl
      | ⟨3, _⟩ => rfl
    rw [ei, val_main_v20_apply, r8, r19]
    rfl
  rw [Finset.sum_congr rfl fun k _ => e k, Fin.sum_univ_three]
  rfl

theorem r15 (a : Fin 8) (b : Fin 2048) (c : Fin 128) : val_main_v15 (F := Ideal) x0 x1 x2 x3 x4 x5 (ix3 a b c)
    = mix (x3 (ix3 a b (0 : Fin 1))) (x4 (ix3 a b (0 : Fin 1))) (x5 (ix3 a b (0 : Fin 1)))
        (x0 (ix3 a b c)) (x1 (ix3 a b c)) (x2 (ix3 a b c)) := by
  rw [val_main_v15_apply]
  refine (congrArg (· + _) Ideal.ofBits_zero_f32).trans ((zero_add _).trans ?_)
  have e : ∀ k : Fin 3, val_main_v14 (F := Ideal) x0 x1 x2 x3 x4 x5 (idx_main_v15 (ix3 a b c) k)
      = Ideal.exp ((![x3, x4, x5] k) (ix3 a b (0 : Fin 1)) - top (x3 (ix3 a b (0 : Fin 1))) (x4 (ix3 a b (0 : Fin 1))) (x5 (ix3 a b (0 : Fin 1))))
        * (![x0, x1, x2] k) (ix3 a b c) := by
    intro k
    have ei : idx_main_v15 (ix3 a b c) k = ix4 k a b c := by
      funext d; match d with
      | ⟨0, _⟩ => rfl
      | ⟨1, _⟩ => rfl
      | ⟨2, _⟩ => rfl
      | ⟨3, _⟩ => rfl
    have ej : idx_main_v13 (ix4 k a b c) = ix4 k a b (0 : Fin 1) := by
      funext d; match d with
      | ⟨0, _⟩ => rfl
      | ⟨1, _⟩ => rfl
      | ⟨2, _⟩ => rfl
      | ⟨3, _⟩ => rfl
    rw [ei, val_main_v14_apply, val_main_v13_apply, ej, r8, r12]
    rfl
  rw [Finset.sum_congr rfl fun k _ => e k, Fin.sum_univ_three]
  rfl

theorem merged_eq : val_main_v23 (F := Ideal) x0 x1 x2 x3 x4 x5 x6 x7 x8 = merged x0 x1 x2 x3 x4 x5 x6 x7 x8 := by
  funext i
  have hi : i = ix3 (i 0) (i 1) (i 2) := by
    funext d; match d with
    | ⟨0, _⟩ => rfl
    | ⟨1, _⟩ => rfl
    | ⟨2, _⟩ => rfl
  rw [val_main_v23_apply, val_main_v22_apply]
  refine div_congr ((congrArg _ hi).trans (r15 x0 x1 x2 x3 x4 x5 (i 0) (i 1) (i 2))) (Eq.trans (congrArg _ ?_) (r21 x3 x4 x5 x6 x7 x8 (i 0) (i 1)))
  funext d; match d with
  | ⟨0, _⟩ => rfl
  | ⟨1, _⟩ => rfl
  | ⟨2, _⟩ => rfl

theorem logs_eq : val_main_v25 (F := Ideal) x3 x4 x5 x6 x7 x8 = logs x3 x4 x5 x6 x7 x8 := by
  funext i
  have h2 : (i 2).val < 1 := (i 2).isLt
  have hi : i = ix3 (i 0) (i 1) (0 : Fin 1) := by
    funext d; match d with
    | ⟨0, _⟩ => rfl
    | ⟨1, _⟩ => rfl
    | ⟨2, _⟩ => exact Fin.ext (show (i 2).val = 0 by omega)
  rw [val_main_v25_apply, val_main_v24_apply]
  exact congrArg₂ (fun p q : EReal => p + Ideal.log q) ((congrArg _ hi).trans (r4 x3 x4 x5 (i 0) (i 1)))
    ((congrArg _ hi).trans (r21 x3 x4 x5 x6 x7 x8 (i 0) (i 1)))

end Cert.Reference21Ideal.Read

namespace Cert.Proof

open Idealize.ShloMosaic Idealize.ShloMosaic.TcCoe Idealize.SL.Sem

theorem frame_r21 : Cert.quiescent_Reference21Ideal := fun m ρ _ =>
  (θ_run Cert.Reference21Ideal.defs _ _).mono (fun r h => ⟨fun c => (h c).2.2, Idealize.ShloMosaic.sem_eq_zero_of_no_sems (by decide) r.2⟩)
    (Cert.Reference21Ideal.Value.run (F := Ideal) m ρ)

theorem algebraic21 : Cert.algebraic_Kernel21Ideal_Reference21Ideal := by
  intro m ρ m' ρ' _ harg
  refine ⟨fun c => (Cert.Kernel21Ideal.Gen.dats m 0 c).arrAt 9 Cert.Kernel21Ideal.cfg0.N,
    fun c => (Cert.Kernel21Ideal.Gen.dats m 0 c).arrAt 10 Cert.Kernel21Ideal.cfg0.N,
    Cert.Kernel21Ideal.Value.run_blocks (F := Ideal) m ρ,
    (θ_run Cert.Reference21Ideal.defs _ _).mono (fun r h c => ?_) (Cert.Reference21Ideal.Value.run (F := Ideal) m' ρ')⟩
  obtain ⟨e0, e1, e2, e3, e4, e5, e6, e7, e8⟩ := harg c
  obtain ⟨h0, h1, h2⟩ := h c
  refine ⟨(h0.trans ?_).trans (Cert.Kernel21Ideal.Gen.arr9 m c).symm, (h1.trans ?_).trans (Cert.Kernel21Ideal.Gen.arr10 m c).symm, h2⟩
  · rw [Cert.Reference21Ideal.Read.val_main_v23_eq, e0, e1, e2, e3, e4, e5, e6, e7, e8]
    exact Cert.Reference21Ideal.Read.merged_eq _ _ _ _ _ _ _ _ _
  · rw [Cert.Reference21Ideal.Read.val_main_v25_eq, e3, e4, e5, e6, e7, e8]
    exact Cert.Reference21Ideal.Read.logs_eq _ _ _ _ _ _

end Cert.Proof

end
-- ==== Proof.lean ====
/- The claims about twenty-one programs of one training step: the odd layers' attention and its gradients, the MLP's products,
   the products of the projections, the layers' norms, the loss head, the merge and the row products of the even layers'
   attention and the optimiser's step on the small weights, each with its frames and the equality with its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel3Ideal.Value
public import proofs.«01_k».proof.Proof.Gen.Kernel4Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Reference10Ideal.Run
public import proofs.«01_k».proof.Proof.Gen.Reference10Ideal.Read
public import proofs.«01_k».proof.Proof.Gen.Reference11Ideal.Run
public import proofs.«01_k».proof.Proof.Gen.Reference11Ideal.Read
public import proofs.«01_k».proof.Proof.Gen.Reference12Ideal.Run
public import proofs.«01_k».proof.Proof.Gen.Reference12Ideal.Read
public import proofs.«01_k».proof.Proof.Gen.Reference13Ideal.Run
public import proofs.«01_k».proof.Proof.Gen.Reference13Ideal.Read
public import proofs.«01_k».proof.Proof.Gen.Reference14Ideal.Run
public import proofs.«01_k».proof.Proof.Gen.Reference14Ideal.Read
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Kernel12Ideal.Value
public import proofs.«01_k».proof.Proof.Gen.Kernel13Ideal.Value
public import proofs.«01_k».proof.Proof.Gen.Kernel14Ideal.Value
public import proofs.«01_k».proof.Proof.Swa.Body
public import proofs.«01_k».proof.Proof.Mlp.Claims
public import proofs.«01_k».proof.Proof.Swa.Same
public import proofs.«01_k».proof.Proof.Swa.Claims
public import proofs.«01_k».proof.Proof.Proj.Even
public import proofs.«01_k».proof.Proof.Proj.Odd
public import proofs.«01_k».proof.Proof.Fwd.Claims
public import proofs.«01_k».proof.Proof.Norm.Claims
public import proofs.«01_k».proof.Proof.Loss.Claims
public import proofs.«01_k».proof.Proof.Step.Claims
public import proofs.«01_k».proof.Proof.Merge.Claims
public import Idealize.ShloMosaic.Adequacy
public import Idealize.ShloMosaic.Init
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read

@[expose] public section

noncomputable section

namespace Cert.Proof

open Idealize.ShloMosaic Idealize.SL.Sem Cert.Kernel

theorem frame_kernel_ideal : Cert.quiescent_KernelIdeal := fun m ρ _ => Cert.KernelIdeal.Gen.swa_frame m ρ

theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem claim : Cert.Claim := ⟨Cert.Kernel.Gen.facts,
  Cert.KernelIdeal.Gen.facts, Cert.ReferenceIdeal.Gen.facts,
  Cert.Kernel2.Gen.facts,
  Cert.Kernel2Ideal.Gen.facts, Cert.Reference2Ideal.Gen.facts,
  Cert.Kernel3.Gen.facts,
  Cert.Kernel3Ideal.Gen.facts, Cert.Reference3Ideal.Gen.facts,
  Cert.Kernel4.Gen.facts,
  Cert.Kernel4Ideal.Gen.facts, Cert.Reference4Ideal.Gen.facts,
  Cert.Kernel5.Gen.facts,
  Cert.Kernel5Ideal.Gen.facts, Cert.Reference5Ideal.Gen.facts,
  Cert.Kernel6.Gen.facts,
  Cert.Kernel6Ideal.Gen.facts, Cert.Reference6Ideal.Gen.facts,
  Cert.Kernel7.Gen.facts,
  Cert.Kernel7Ideal.Gen.facts, Cert.Reference7Ideal.Gen.facts,
  Cert.Kernel8.Gen.facts,
  Cert.Kernel8Ideal.Gen.facts, Cert.Reference8Ideal.Gen.facts,
  Cert.Kernel9.Gen.facts,
  Cert.Kernel9Ideal.Gen.facts, Cert.Reference9Ideal.Gen.facts,
  Cert.Kernel10.Gen.facts,
  Cert.Kernel10Ideal.Gen.facts, Cert.Reference10Ideal.Gen.facts,
  Cert.Kernel11.Gen.facts,
  Cert.Kernel11Ideal.Gen.facts, Cert.Reference11Ideal.Gen.facts,
  Cert.Kernel12.Gen.facts,
  Cert.Kernel12Ideal.Gen.facts, Cert.Reference12Ideal.Gen.facts,
  Cert.Kernel13.Gen.facts,
  Cert.Kernel13Ideal.Gen.facts, Cert.Reference13Ideal.Gen.facts,
  Cert.Kernel14.Gen.facts,
  Cert.Kernel14Ideal.Gen.facts, Cert.Reference14Ideal.Gen.facts,
  Cert.Kernel15.Gen.facts,
  Cert.Kernel15Ideal.Gen.facts, Cert.Reference15Ideal.Gen.facts,
  Cert.Kernel16.Gen.facts,
  Cert.Kernel16Ideal.Gen.facts, Cert.Reference16Ideal.Gen.facts,
  Cert.Kernel17.Gen.facts,
  Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts, finite_facts, finite15_facts,
  frame_kernel, frame_kernel_ideal, fun m ρ _ => frame_kernel_ideal m ρ trivial, frame_reference, fun m ρ _ => frame_reference m ρ trivial,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, frame_r9,
  fun m ρ _ => Cert.Kernel10.Gen.frame m ρ, fun m ρ _ => Cert.Kernel10Ideal.Gen.frame m ρ, frame_r10,
  fun m ρ _ => Cert.Kernel11.Gen.frame m ρ, fun m ρ _ => Cert.Kernel11Ideal.Gen.frame m ρ, frame_r11,
  fun m ρ _ => Cert.Kernel12.Gen.frame m ρ, fun m ρ _ => Cert.Kernel12Ideal.Gen.frame m ρ, frame_r12,
  fun m ρ _ => Cert.Kernel13.Gen.frame m ρ, fun m ρ _ => Cert.Kernel13Ideal.Gen.frame m ρ, frame_r13,
  fun m ρ _ => Cert.Kernel14.Gen.frame m ρ, fun m ρ _ => Cert.Kernel14Ideal.Gen.frame m ρ, frame_r14,
  fun m ρ _ => Cert.Kernel15.Gen.frame m ρ, fun m ρ _ => Cert.Kernel15Ideal.Gen.frame m ρ, fun m ρ _ => Cert.Kernel15Ideal.Gen.frame m ρ,
  frame_r15, fun m ρ _ => frame_r15 m ρ trivial,
  fun m ρ _ => Cert.Kernel16.Gen.frame m ρ, fun m ρ _ => Cert.Kernel16Ideal.Gen.frame m ρ, frame_r16,
  fun m ρ _ => Cert.Kernel17.Gen.frame m ρ, fun m ρ _ => Cert.Kernel17Ideal.Gen.frame m ρ, frame_r17,
  fun m ρ _ => Cert.Kernel18.Gen.frame m ρ, fun m ρ _ => Cert.Kernel18Ideal.Gen.frame m ρ, frame_r18,
  fun m ρ _ => Cert.Kernel19.Gen.frame m ρ, fun m ρ _ => Cert.Kernel19Ideal.Gen.frame m ρ, frame_r19,
  fun m ρ _ => Cert.Kernel20.Gen.frame m ρ, fun m ρ _ => Cert.Kernel20Ideal.Gen.frame m ρ, frame_r20,
  fun m ρ _ => Cert.Kernel21.Gen.frame m ρ, fun m ρ _ => Cert.Kernel21Ideal.Gen.frame m ρ, frame_r21,
  trivial, algebraic1, trivial, algebraic2, trivial, algebraic3, trivial, algebraic4, trivial, algebraic5, trivial, algebraic6, trivial, algebraic7,
  trivial, algebraic8, trivial, algebraic9, trivial, algebraic10, trivial, algebraic11, trivial, algebraic12, trivial, algebraic13, trivial, algebraic14, trivial, algebraic15, trivial, algebraic16, trivial, algebraic17, trivial, algebraic18,
  trivial, algebraic19, trivial, algebraic20,
  trivial, algebraic21⟩

end Cert.Proof

end
